-- ==== Defs.lean ====
def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_finite_attn [hPre_finite_attn : Cert.Pre_finite_attn.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_attn [hPre_finite_attn : Cert.Pre_finite_attn.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1))) = (fun _ => 1#1)

def Pre_PleKernel (m : (ℓ : Loc Cert.PleKernel.nD Cert.PleKernel.τ Cert.PleKernel.sig) → Buf (Elt Bits) ℓ) : Prop :=
  True

def Pre_PleKernelIdeal (m : (ℓ : Loc Cert.PleKernelIdeal.nD Cert.PleKernelIdeal.τ Cert.PleKernelIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_TailKernel (m : (ℓ : Loc Cert.TailKernel.nD Cert.TailKernel.τ Cert.TailKernel.sig) → Buf (Elt Bits) ℓ) : Prop :=
  True

def Pre_TailKernelIdeal (m : (ℓ : Loc Cert.TailKernelIdeal.nD Cert.TailKernelIdeal.τ Cert.TailKernelIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_InDwKernel (m : (ℓ : Loc Cert.InDwKernel.nD Cert.InDwKernel.τ Cert.InDwKernel.sig) → Buf (Elt Bits) ℓ) : Prop :=
  True

def Pre_InDwKernelIdeal (m : (ℓ : Loc Cert.InDwKernelIdeal.nD Cert.InDwKernelIdeal.τ Cert.InDwKernelIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_AdamwKernel (m : (ℓ : Loc Cert.AdamwKernel.nD Cert.AdamwKernel.τ Cert.AdamwKernel.sig) → Buf (Elt Bits) ℓ) : Prop :=
  True

def Pre_AdamwKernelIdeal (m : (ℓ : Loc Cert.AdamwKernelIdeal.nD Cert.AdamwKernelIdeal.τ Cert.AdamwKernelIdeal.sig) → Buf (Elt Ideal) ℓ) : Prop :=
  True

def Pre_AdamwReferenceIdeal (m : (ℓ : Loc Cert.AdamwReferenceIdeal.nD Cert.AdamwReferenceIdeal.τ Cert.AdamwReferenceIdeal.sig) → Buf (Elt Ideal) ℓ) : Prop :=
  True

def Pre_TapsKernel (m : (ℓ : Loc Cert.TapsKernel.nD Cert.TapsKernel.τ Cert.TapsKernel.sig) → Buf (Elt Bits) ℓ) : Prop :=
  True

def Pre_TapsKernelIdeal (m : (ℓ : Loc Cert.TapsKernelIdeal.nD Cert.TapsKernelIdeal.τ Cert.TapsKernelIdeal.sig) → Buf (Elt Ideal) ℓ) : Prop :=
  True

def Pre_TapsReferenceIdeal (m : (ℓ : Loc Cert.TapsReferenceIdeal.nD Cert.TapsReferenceIdeal.τ Cert.TapsReferenceIdeal.sig) → Buf (Elt Ideal) ℓ) : Prop :=
  True

def Pre_RmsInKernel (m : (ℓ : Loc Cert.RmsInKernel.nD Cert.RmsInKernel.τ Cert.RmsInKernel.sig) → Buf (Elt Bits) ℓ) : Prop :=
  True

def Pre_RmsInKernelIdeal (m : (ℓ : Loc Cert.RmsInKernelIdeal.nD Cert.RmsInKernelIdeal.τ Cert.RmsInKernelIdeal.sig) → Buf (Elt Ideal) ℓ) : Prop :=
  True

def Pre_RmsInReferenceIdeal (m : (ℓ : Loc Cert.RmsInReferenceIdeal.nD Cert.RmsInReferenceIdeal.τ Cert.RmsInReferenceIdeal.sig) → Buf (Elt Ideal) ℓ) : Prop :=
  True

def Pre_MidKernel (m : (ℓ : Loc Cert.MidKernel.nD Cert.MidKernel.τ Cert.MidKernel.sig) → Buf (Elt Bits) ℓ) : Prop :=
  True

def Pre_MidKernelIdeal (m : (ℓ : Loc Cert.MidKernelIdeal.nD Cert.MidKernelIdeal.τ Cert.MidKernelIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def Pre_AdamwOutKernel (m : (ℓ : Loc Cert.AdamwOutKernel.nD Cert.AdamwOutKernel.τ Cert.AdamwOutKernel.sig) → Buf (Elt Bits) ℓ) : Prop :=
  True

def Pre_AdamwOutKernelIdeal (m : (ℓ : Loc Cert.AdamwOutKernelIdeal.nD Cert.AdamwOutKernelIdeal.τ Cert.AdamwOutKernelIdeal.sig) → Buf (Elt Ideal) ℓ) : Prop :=
  True

def Pre_AdamwOutReferenceIdeal (m : (ℓ : Loc Cert.AdamwOutReferenceIdeal.nD Cert.AdamwOutReferenceIdeal.τ Cert.AdamwOutReferenceIdeal.sig) → Buf (Elt Ideal) ℓ) : Prop :=
  True

def Pre_AdamwPleKernel (m : (ℓ : Loc Cert.AdamwPleKernel.nD Cert.AdamwPleKernel.τ Cert.AdamwPleKernel.sig) → Buf (Elt Bits) ℓ) : Prop :=
  True

def Pre_AdamwPleKernelIdeal (m : (ℓ : Loc Cert.AdamwPleKernelIdeal.nD Cert.AdamwPleKernelIdeal.τ Cert.AdamwPleKernelIdeal.sig) → Buf (Elt Ideal) ℓ) : Prop :=
  True

def Pre_AdamwPleReferenceIdeal (m : (ℓ : Loc Cert.AdamwPleReferenceIdeal.nD Cert.AdamwPleReferenceIdeal.τ Cert.AdamwPleReferenceIdeal.sig) → Buf (Elt Ideal) ℓ) : Prop :=
  True

def Pre_AdamwPwKernel (m : (ℓ : Loc Cert.AdamwPwKernel.nD Cert.AdamwPwKernel.τ Cert.AdamwPwKernel.sig) → Buf (Elt Bits) ℓ) : Prop :=
  True

def Pre_AdamwPwKernelIdeal (m : (ℓ : Loc Cert.AdamwPwKernelIdeal.nD Cert.AdamwPwKernelIdeal.τ Cert.AdamwPwKernelIdeal.sig) → Buf (Elt Ideal) ℓ) : Prop :=
  True

def Pre_AdamwPwReferenceIdeal (m : (ℓ : Loc Cert.AdamwPwReferenceIdeal.nD Cert.AdamwPwReferenceIdeal.τ Cert.AdamwPwReferenceIdeal.sig) → Buf (Elt Ideal) ℓ) : Prop :=
  True

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1)
      ∧ r.2.mem ((c.tc : Thread Cert.DxKernel.nD Cert.DxKernel.τ).loc Cert.DxKernel.main_arg2) = m ((c.tc : Thread Cert.DxKernel.nD Cert.DxKernel.τ).loc Cert.DxKernel.main_arg2)
      ∧ r.2.mem ((c.tc : Thread Cert.DxKernel.nD Cert.DxKernel.τ).loc Cert.DxKernel.main_arg3) = m ((c.tc : Thread Cert.DxKernel.nD Cert.DxKernel.τ).loc Cert.DxKernel.main_arg3)
      ∧ r.2.mem ((c.tc : Thread Cert.DxKernel.nD Cert.DxKernel.τ).loc Cert.DxKernel.main_arg4) = m ((c.tc : Thread Cert.DxKernel.nD Cert.DxKernel.τ).loc Cert.DxKernel.main_arg4))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
      ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1))
      ∧ r.2.sem = fun _ => 0)

def quiescent_AttnKernelIdeal_pre_finite_attn [hAttnKernelIdeal : Cert.AttnKernelIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_finite_attn m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1))
      ∧ r.2.sem = fun _ => 0)

def quiescent_AttnReferenceIdeal_pre_finite_attn [hAttnReferenceIdeal : Cert.AttnReferenceIdeal.Facts] [hPre_finite_attn : Cert.Pre_finite_attn.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_attn m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1))
      ∧ r.2.sem = fun _ => 0)

def quiescent_PleKernel [hPleKernel : Cert.PleKernel.Facts] : Prop :=
  ∀ (m : (ℓ : Loc Cert.PleKernel.nD Cert.PleKernel.τ Cert.PleKernel.sig) → Buf (Elt Bits) ℓ) (g : Dev Cert.PleKernel.nD → PrngReg), Pre_PleKernel m →
    θ_run (Cert.PleKernel.defs (F := Bits)) (onTc (τ := Cert.PleKernel.τ) (Cert.PleKernel.main (F := Bits))) ⟨m, fun _ => 0, g⟩ (fun r => (∀ c : Dev Cert.PleKernel.nD,
      r.2.mem ((c.tc : Thread Cert.PleKernel.nD Cert.PleKernel.τ).loc Cert.PleKernel.main_arg0) = m ((c.tc : Thread Cert.PleKernel.nD Cert.PleKernel.τ).loc Cert.PleKernel.main_arg0)
      ∧ r.2.mem ((c.tc : Thread Cert.PleKernel.nD Cert.PleKernel.τ).loc Cert.PleKernel.main_arg1) = m ((c.tc : Thread Cert.PleKernel.nD Cert.PleKernel.τ).loc Cert.PleKernel.main_arg1)
      ∧ r.2.mem ((c.tc : Thread Cert.PleKernel.nD Cert.PleKernel.τ).loc Cert.PleKernel.main_arg2) = m ((c.tc : Thread Cert.PleKernel.nD Cert.PleKernel.τ).loc Cert.PleKernel.main_arg2)
      ∧ r.2.mem ((c.tc : Thread Cert.PleKernel.nD Cert.PleKernel.τ).loc Cert.PleKernel.main_arg3) = m ((c.tc : Thread Cert.PleKernel.nD Cert.PleKernel.τ).loc Cert.PleKernel.main_arg3)
      ∧ r.2.mem ((c.tc : Thread Cert.PleKernel.nD Cert.PleKernel.τ).loc Cert.PleKernel.main_arg4) = m ((c.tc : Thread Cert.PleKernel.nD Cert.PleKernel.τ).loc Cert.PleKernel.main_arg4)
      ∧ r.2.mem ((c.tc : Thread Cert.PleKernel.nD Cert.PleKernel.τ).loc Cert.PleKernel.main_arg5) = m ((c.tc : Thread Cert.PleKernel.nD Cert.PleKernel.τ).loc Cert.PleKernel.main_arg5)
      ∧ r.2.mem ((c.tc : Thread Cert.PleKernel.nD Cert.PleKernel.τ).loc Cert.PleKernel.main_arg6) = m ((c.tc : Thread Cert.PleKernel.nD Cert.PleKernel.τ).loc Cert.PleKernel.main_arg6)
      ∧ r.2.mem ((c.tc : Thread Cert.PleKernel.nD Cert.PleKernel.τ).loc Cert.PleKernel.main_arg7) = m ((c.tc : Thread Cert.PleKernel.nD Cert.PleKernel.τ).loc Cert.PleKernel.main_arg7)
      ∧ r.2.mem ((c.tc : Thread Cert.PleKernel.nD Cert.PleKernel.τ).loc Cert.PleKernel.main_arg8) = m ((c.tc : Thread Cert.PleKernel.nD Cert.PleKernel.τ).loc Cert.PleKernel.main_arg8))
      ∧ r.2.sem = fun _ => 0)

def quiescent_PleKernelIdeal [hPleKernelIdeal : Cert.PleKernelIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg), Pre_PleKernelIdeal m →
    θ_run (Cert.PleKernelIdeal.defs (F := Ideal)) (onTc (τ := Cert.PleKernelIdeal.τ) (Cert.PleKernelIdeal.main (F := Ideal))) ⟨m, fun _ => 0, g⟩ (fun r => (∀ c : Dev Cert.PleKernelIdeal.nD,
      r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
      ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
      ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
      ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
      ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
      ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5)
      ∧ r.2.mem ((c.tc : Thread Cert.PleKernelIdeal.nD Cert.PleKernelIdeal.τ).loc Cert.PleKernelIdeal.main_arg6) = m ((c.tc : Thread Cert.PleKernelIdeal.nD Cert.PleKernelIdeal.τ).loc Cert.PleKernelIdeal.main_arg6)
      ∧ r.2.mem ((c.tc : Thread Cert.PleKernelIdeal.nD Cert.PleKernelIdeal.τ).loc Cert.PleKernelIdeal.main_arg7) = m ((c.tc : Thread Cert.PleKernelIdeal.nD Cert.PleKernelIdeal.τ).loc Cert.PleKernelIdeal.main_arg7)
      ∧ r.2.mem ((c.tc : Thread Cert.PleKernelIdeal.nD Cert.PleKernelIdeal.τ).loc Cert.PleKernelIdeal.main_arg8) = m ((c.tc : Thread Cert.PleKernelIdeal.nD Cert.PleKernelIdeal.τ).loc Cert.PleKernelIdeal.main_arg8))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5)
      ∧ r.2.mem ((c.tc : Thread Cert.PleReferenceIdeal.nD Cert.PleReferenceIdeal.τ).loc Cert.PleReferenceIdeal.main_arg6) = m ((c.tc : Thread Cert.PleReferenceIdeal.nD Cert.PleReferenceIdeal.τ).loc Cert.PleReferenceIdeal.main_arg6)
      ∧ r.2.mem ((c.tc : Thread Cert.PleReferenceIdeal.nD Cert.PleReferenceIdeal.τ).loc Cert.PleReferenceIdeal.main_arg7) = m ((c.tc : Thread Cert.PleReferenceIdeal.nD Cert.PleReferenceIdeal.τ).loc Cert.PleReferenceIdeal.main_arg7)
      ∧ r.2.mem ((c.tc : Thread Cert.PleReferenceIdeal.nD Cert.PleReferenceIdeal.τ).loc Cert.PleReferenceIdeal.main_arg8) = m ((c.tc : Thread Cert.PleReferenceIdeal.nD Cert.PleReferenceIdeal.τ).loc Cert.PleReferenceIdeal.main_arg8))
      ∧ r.2.sem = fun _ => 0)

def quiescent_TailKernel [hTailKernel : Cert.TailKernel.Facts] : Prop :=
  ∀ (m : (ℓ : Loc Cert.TailKernel.nD Cert.TailKernel.τ Cert.TailKernel.sig) → Buf (Elt Bits) ℓ) (g : Dev Cert.TailKernel.nD → PrngReg), Pre_TailKernel m →
    θ_run (Cert.TailKernel.defs (F := Bits)) (onTc (τ := Cert.TailKernel.τ) (Cert.TailKernel.main (F := Bits))) ⟨m, fun _ => 0, g⟩ (fun r => (∀ c : Dev Cert.TailKernel.nD,
      r.2.mem ((c.tc : Thread Cert.TailKernel.nD Cert.TailKernel.τ).loc Cert.TailKernel.main_arg0) = m ((c.tc : Thread Cert.TailKernel.nD Cert.TailKernel.τ).loc Cert.TailKernel.main_arg0)
      ∧ r.2.mem ((c.tc : Thread Cert.TailKernel.nD Cert.TailKernel.τ).loc Cert.TailKernel.main_arg1) = m ((c.tc : Thread Cert.TailKernel.nD Cert.TailKernel.τ).loc Cert.TailKernel.main_arg1)
      ∧ r.2.mem ((c.tc : Thread Cert.TailKernel.nD Cert.TailKernel.τ).loc Cert.TailKernel.main_arg2) = m ((c.tc : Thread Cert.TailKernel.nD Cert.TailKernel.τ).loc Cert.TailKernel.main_arg2)
      ∧ r.2.mem ((c.tc : Thread Cert.TailKernel.nD Cert.TailKernel.τ).loc Cert.TailKernel.main_arg3) = m ((c.tc : Thread Cert.TailKernel.nD Cert.TailKernel.τ).loc Cert.TailKernel.main_arg3)
      ∧ r.2.mem ((c.tc : Thread Cert.TailKernel.nD Cert.TailKernel.τ).loc Cert.TailKernel.main_arg4) = m ((c.tc : Thread Cert.TailKernel.nD Cert.TailKernel.τ).loc Cert.TailKernel.main_arg4)
      ∧ r.2.mem ((c.tc : Thread Cert.TailKernel.nD Cert.TailKernel.τ).loc Cert.TailKernel.main_arg5) = m ((c.tc : Thread Cert.TailKernel.nD Cert.TailKernel.τ).loc Cert.TailKernel.main_arg5)
      ∧ r.2.mem ((c.tc : Thread Cert.TailKernel.nD Cert.TailKernel.τ).loc Cert.TailKernel.main_arg6) = m ((c.tc : Thread Cert.TailKernel.nD Cert.TailKernel.τ).loc Cert.TailKernel.main_arg6)
      ∧ r.2.mem ((c.tc : Thread Cert.TailKernel.nD Cert.TailKernel.τ).loc Cert.TailKernel.main_arg7) = m ((c.tc : Thread Cert.TailKernel.nD Cert.TailKernel.τ).loc Cert.TailKernel.main_arg7)
      ∧ r.2.mem ((c.tc : Thread Cert.TailKernel.nD Cert.TailKernel.τ).loc Cert.TailKernel.main_arg8) = m ((c.tc : Thread Cert.TailKernel.nD Cert.TailKernel.τ).loc Cert.TailKernel.main_arg8)
      ∧ r.2.mem ((c.tc : Thread Cert.TailKernel.nD Cert.TailKernel.τ).loc Cert.TailKernel.main_arg9) = m ((c.tc : Thread Cert.TailKernel.nD Cert.TailKernel.τ).loc Cert.TailKernel.main_arg9)
      ∧ r.2.mem ((c.tc : Thread Cert.TailKernel.nD Cert.TailKernel.τ).loc Cert.TailKernel.main_arg10) = m ((c.tc : Thread Cert.TailKernel.nD Cert.TailKernel.τ).loc Cert.TailKernel.main_arg10)
      ∧ r.2.mem ((c.tc : Thread Cert.TailKernel.nD Cert.TailKernel.τ).loc Cert.TailKernel.main_arg11) = m ((c.tc : Thread Cert.TailKernel.nD Cert.TailKernel.τ).loc Cert.TailKernel.main_arg11)
      ∧ r.2.mem ((c.tc : Thread Cert.TailKernel.nD Cert.TailKernel.τ).loc Cert.TailKernel.main_arg12) = m ((c.tc : Thread Cert.TailKernel.nD Cert.TailKernel.τ).loc Cert.TailKernel.main_arg12)
      ∧ r.2.mem ((c.tc : Thread Cert.TailKernel.nD Cert.TailKernel.τ).loc Cert.TailKernel.main_arg13) = m ((c.tc : Thread Cert.TailKernel.nD Cert.TailKernel.τ).loc Cert.TailKernel.main_arg13)
      ∧ r.2.mem ((c.tc : Thread Cert.TailKernel.nD Cert.TailKernel.τ).loc Cert.TailKernel.main_arg14) = m ((c.tc : Thread Cert.TailKernel.nD Cert.TailKernel.τ).loc Cert.TailKernel.main_arg14))
      ∧ r.2.sem = fun _ => 0)

def quiescent_TailKernelIdeal [hTailKernelIdeal : Cert.TailKernelIdeal.Facts] : Prop :=
  ∀ (m : (ℓ : Loc Cert.TailKernelIdeal.nD Cert.TailKernelIdeal.τ Cert.TailKernelIdeal.sig) → Buf (Elt Ideal) ℓ) (g : Dev Cert.TailKernelIdeal.nD → PrngReg), Pre_TailKernelIdeal m →
    θ_run (Cert.TailKernelIdeal.defs (F := Ideal)) (onTc (τ := Cert.TailKernelIdeal.τ) (Cert.TailKernelIdeal.main (F := Ideal))) ⟨m, fun _ => 0, g⟩ (fun r => (∀ c : Dev Cert.TailKernelIdeal.nD,
      r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
      ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
      ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
      ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
      ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
      ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
      ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
      ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
      ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8)
      ∧ r.2.mem ((c.tc : Thread Cert.TailKernelIdeal.nD Cert.TailKernelIdeal.τ).loc Cert.TailKernelIdeal.main_arg9) = m ((c.tc : Thread Cert.TailKernelIdeal.nD Cert.TailKernelIdeal.τ).loc Cert.TailKernelIdeal.main_arg9)
      ∧ r.2.mem ((c.tc : Thread Cert.TailKernelIdeal.nD Cert.TailKernelIdeal.τ).loc Cert.TailKernelIdeal.main_arg10) = m ((c.tc : Thread Cert.TailKernelIdeal.nD Cert.TailKernelIdeal.τ).loc Cert.TailKernelIdeal.main_arg10)
      ∧ r.2.mem ((c.tc : Thread Cert.TailKernelIdeal.nD Cert.TailKernelIdeal.τ).loc Cert.TailKernelIdeal.main_arg11) = m ((c.tc : Thread Cert.TailKernelIdeal.nD Cert.TailKernelIdeal.τ).loc Cert.TailKernelIdeal.main_arg11)
      ∧ r.2.mem ((c.tc : Thread Cert.TailKernelIdeal.nD Cert.TailKernelIdeal.τ).loc Cert.TailKernelIdeal.main_arg12) = m ((c.tc : Thread Cert.TailKernelIdeal.nD Cert.TailKernelIdeal.τ).loc Cert.TailKernelIdeal.main_arg12)
      ∧ r.2.mem ((c.tc : Thread Cert.TailKernelIdeal.nD Cert.TailKernelIdeal.τ).loc Cert.TailKernelIdeal.main_arg13) = m ((c.tc : Thread Cert.TailKernelIdeal.nD Cert.TailKernelIdeal.τ).loc Cert.TailKernelIdeal.main_arg13)
      ∧ r.2.mem ((c.tc : Thread Cert.TailKernelIdeal.nD Cert.TailKernelIdeal.τ).loc Cert.TailKernelIdeal.main_arg14) = m ((c.tc : Thread Cert.TailKernelIdeal.nD Cert.TailKernelIdeal.τ).loc Cert.TailKernelIdeal.main_arg14))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12)
      ∧ r.2.mem ((c.tc : Thread Cert.TailReferenceIdeal.nD Cert.TailReferenceIdeal.τ).loc Cert.TailReferenceIdeal.main_arg13) = m ((c.tc : Thread Cert.TailReferenceIdeal.nD Cert.TailReferenceIdeal.τ).loc Cert.TailReferenceIdeal.main_arg13)
      ∧ r.2.mem ((c.tc : Thread Cert.TailReferenceIdeal.nD Cert.TailReferenceIdeal.τ).loc Cert.TailReferenceIdeal.main_arg14) = m ((c.tc : Thread Cert.TailReferenceIdeal.nD Cert.TailReferenceIdeal.τ).loc Cert.TailReferenceIdeal.main_arg14))
      ∧ r.2.sem = fun _ => 0)

def quiescent_InDwKernel [hInDwKernel : Cert.InDwKernel.Facts] : Prop :=
  ∀ (m : (ℓ : Loc Cert.InDwKernel.nD Cert.InDwKernel.τ Cert.InDwKernel.sig) → Buf (Elt Bits) ℓ) (g : Dev Cert.InDwKernel.nD → PrngReg), Pre_InDwKernel m →
    θ_run (Cert.InDwKernel.defs (F := Bits)) (onTc (τ := Cert.InDwKernel.τ) (Cert.InDwKernel.main (F := Bits))) ⟨m, fun _ => 0, g⟩ (fun r => (∀ c : Dev Cert.InDwKernel.nD,
      r.2.mem ((c.tc : Thread Cert.InDwKernel.nD Cert.InDwKernel.τ).loc Cert.InDwKernel.main_arg0) = m ((c.tc : Thread Cert.InDwKernel.nD Cert.InDwKernel.τ).loc Cert.InDwKernel.main_arg0)
      ∧ r.2.mem ((c.tc : Thread Cert.InDwKernel.nD Cert.InDwKernel.τ).loc Cert.InDwKernel.main_arg1) = m ((c.tc : Thread Cert.InDwKernel.nD Cert.InDwKernel.τ).loc Cert.InDwKernel.main_arg1)
      ∧ r.2.mem ((c.tc : Thread Cert.InDwKernel.nD Cert.InDwKernel.τ).loc Cert.InDwKernel.main_arg2) = m ((c.tc : Thread Cert.InDwKernel.nD Cert.InDwKernel.τ).loc Cert.InDwKernel.main_arg2))
      ∧ r.2.sem = fun _ => 0)

def quiescent_InDwKernelIdeal [hInDwKernelIdeal : Cert.InDwKernelIdeal.Facts] : Prop :=
  ∀ (m : (ℓ : Loc Cert.InDwKernelIdeal.nD Cert.InDwKernelIdeal.τ Cert.InDwKernelIdeal.sig) → Buf (Elt Ideal) ℓ) (g : Dev Cert.InDwKernelIdeal.nD → PrngReg), Pre_InDwKernelIdeal m →
    θ_run (Cert.InDwKernelIdeal.defs (F := Ideal)) (onTc (τ := Cert.InDwKernelIdeal.τ) (Cert.InDwKernelIdeal.main (F := Ideal))) ⟨m, fun _ => 0, g⟩ (fun r => (∀ c : Dev Cert.InDwKernelIdeal.nD,
      r.2.mem ((c.tc : Thread Cert.InDwKernelIdeal.nD Cert.InDwKernelIdeal.τ).loc Cert.InDwKernelIdeal.main_arg0) = m ((c.tc : Thread Cert.InDwKernelIdeal.nD Cert.InDwKernelIdeal.τ).loc Cert.InDwKernelIdeal.main_arg0)
      ∧ r.2.mem ((c.tc : Thread Cert.InDwKernelIdeal.nD Cert.InDwKernelIdeal.τ).loc Cert.InDwKernelIdeal.main_arg1) = m ((c.tc : Thread Cert.InDwKernelIdeal.nD Cert.InDwKernelIdeal.τ).loc Cert.InDwKernelIdeal.main_arg1)
      ∧ r.2.mem ((c.tc : Thread Cert.InDwKernelIdeal.nD Cert.InDwKernelIdeal.τ).loc Cert.InDwKernelIdeal.main_arg2) = m ((c.tc : Thread Cert.InDwKernelIdeal.nD Cert.InDwKernelIdeal.τ).loc Cert.InDwKernelIdeal.main_arg2))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1)
      ∧ r.2.mem ((c.tc : Thread Cert.InDwReferenceIdeal.nD Cert.InDwReferenceIdeal.τ).loc Cert.InDwReferenceIdeal.main_arg2) = m ((c.tc : Thread Cert.InDwReferenceIdeal.nD Cert.InDwReferenceIdeal.τ).loc Cert.InDwReferenceIdeal.main_arg2))
      ∧ r.2.sem = fun _ => 0)

def quiescent_AdamwKernel [hAdamwKernel : Cert.AdamwKernel.Facts] : Prop :=
  ∀ (m : (ℓ : Loc Cert.AdamwKernel.nD Cert.AdamwKernel.τ Cert.AdamwKernel.sig) → Buf (Elt Bits) ℓ) (g : Dev Cert.AdamwKernel.nD → PrngReg), Pre_AdamwKernel m →
    θ_run (Cert.AdamwKernel.defs (F := Bits)) (onTc (τ := Cert.AdamwKernel.τ) (Cert.AdamwKernel.main (F := Bits))) ⟨m, fun _ => 0, g⟩ (fun r => (∀ c : Dev Cert.AdamwKernel.nD,
      r.2.mem ((c.tc : Thread Cert.AdamwKernel.nD Cert.AdamwKernel.τ).loc Cert.AdamwKernel.main_arg0) = m ((c.tc : Thread Cert.AdamwKernel.nD Cert.AdamwKernel.τ).loc Cert.AdamwKernel.main_arg0)
      ∧ r.2.mem ((c.tc : Thread Cert.AdamwKernel.nD Cert.AdamwKernel.τ).loc Cert.AdamwKernel.main_arg1) = m ((c.tc : Thread Cert.AdamwKernel.nD Cert.AdamwKernel.τ).loc Cert.AdamwKernel.main_arg1)
      ∧ r.2.mem ((c.tc : Thread Cert.AdamwKernel.nD Cert.AdamwKernel.τ).loc Cert.AdamwKernel.main_arg2) = m ((c.tc : Thread Cert.AdamwKernel.nD Cert.AdamwKernel.τ).loc Cert.AdamwKernel.main_arg2)
      ∧ r.2.mem ((c.tc : Thread Cert.AdamwKernel.nD Cert.AdamwKernel.τ).loc Cert.AdamwKernel.main_arg3) = m ((c.tc : Thread Cert.AdamwKernel.nD Cert.AdamwKernel.τ).loc Cert.AdamwKernel.main_arg3))
      ∧ r.2.sem = fun _ => 0)

def quiescent_AdamwKernelIdeal [hAdamwKernelIdeal : Cert.AdamwKernelIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg), Pre_AdamwKernelIdeal m →
    θ_run (Cert.AdamwKernelIdeal.defs (F := Ideal)) (onTc (τ := Cert.AdamwKernelIdeal.τ) (Cert.AdamwKernelIdeal.main (F := Ideal))) ⟨m, fun _ => 0, g⟩ (fun r => (∀ c : Dev Cert.AdamwKernelIdeal.nD,
      r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
      ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
      ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
      ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3))
      ∧ r.2.sem = fun _ => 0)

def quiescent_AdamwReferenceIdeal [hAdamwReferenceIdeal : Cert.AdamwReferenceIdeal.Facts] : Prop :=
  ∀ (m : (ℓ : Loc Cert.AdamwReferenceIdeal.nD Cert.AdamwReferenceIdeal.τ Cert.AdamwReferenceIdeal.sig) → Buf (Elt Ideal) ℓ) (g : Dev Cert.AdamwReferenceIdeal.nD → PrngReg), Pre_AdamwReferenceIdeal m →
    θ_run (Cert.AdamwReferenceIdeal.defs (F := Ideal)) (onTc (τ := Cert.AdamwReferenceIdeal.τ) (Cert.AdamwReferenceIdeal.main (F := Ideal))) ⟨m, fun _ => 0, g⟩ (fun r => (∀ c : Dev Cert.AdamwReferenceIdeal.nD,
      r.2.mem ((c.tc : Thread Cert.AdamwReferenceIdeal.nD Cert.AdamwReferenceIdeal.τ).loc Cert.AdamwReferenceIdeal.main_arg0) = m ((c.tc : Thread Cert.AdamwReferenceIdeal.nD Cert.AdamwReferenceIdeal.τ).loc Cert.AdamwReferenceIdeal.main_arg0)
      ∧ r.2.mem ((c.tc : Thread Cert.AdamwReferenceIdeal.nD Cert.AdamwReferenceIdeal.τ).loc Cert.AdamwReferenceIdeal.main_arg1) = m ((c.tc : Thread Cert.AdamwReferenceIdeal.nD Cert.AdamwReferenceIdeal.τ).loc Cert.AdamwReferenceIdeal.main_arg1)
      ∧ r.2.mem ((c.tc : Thread Cert.AdamwReferenceIdeal.nD Cert.AdamwReferenceIdeal.τ).loc Cert.AdamwReferenceIdeal.main_arg2) = m ((c.tc : Thread Cert.AdamwReferenceIdeal.nD Cert.AdamwReferenceIdeal.τ).loc Cert.AdamwReferenceIdeal.main_arg2)
      ∧ r.2.mem ((c.tc : Thread Cert.AdamwReferenceIdeal.nD Cert.AdamwReferenceIdeal.τ).loc Cert.AdamwReferenceIdeal.main_arg3) = m ((c.tc : Thread Cert.AdamwReferenceIdeal.nD Cert.AdamwReferenceIdeal.τ).loc Cert.AdamwReferenceIdeal.main_arg3))
      ∧ r.2.sem = fun _ => 0)

def quiescent_TapsKernel [hTapsKernel : Cert.TapsKernel.Facts] : Prop :=
  ∀ (m : (ℓ : Loc Cert.TapsKernel.nD Cert.TapsKernel.τ Cert.TapsKernel.sig) → Buf (Elt Bits) ℓ) (g : Dev Cert.TapsKernel.nD → PrngReg), Pre_TapsKernel m →
    θ_run (Cert.TapsKernel.defs (F := Bits)) (onTc (τ := Cert.TapsKernel.τ) (Cert.TapsKernel.main (F := Bits))) ⟨m, fun _ => 0, g⟩ (fun r => (∀ c : Dev Cert.TapsKernel.nD,
      r.2.mem ((c.tc : Thread Cert.TapsKernel.nD Cert.TapsKernel.τ).loc Cert.TapsKernel.main_arg0) = m ((c.tc : Thread Cert.TapsKernel.nD Cert.TapsKernel.τ).loc Cert.TapsKernel.main_arg0)
      ∧ r.2.mem ((c.tc : Thread Cert.TapsKernel.nD Cert.TapsKernel.τ).loc Cert.TapsKernel.main_arg1) = m ((c.tc : Thread Cert.TapsKernel.nD Cert.TapsKernel.τ).loc Cert.TapsKernel.main_arg1)
      ∧ r.2.mem ((c.tc : Thread Cert.TapsKernel.nD Cert.TapsKernel.τ).loc Cert.TapsKernel.main_arg2) = m ((c.tc : Thread Cert.TapsKernel.nD Cert.TapsKernel.τ).loc Cert.TapsKernel.main_arg2)
      ∧ r.2.mem ((c.tc : Thread Cert.TapsKernel.nD Cert.TapsKernel.τ).loc Cert.TapsKernel.main_arg3) = m ((c.tc : Thread Cert.TapsKernel.nD Cert.TapsKernel.τ).loc Cert.TapsKernel.main_arg3))
      ∧ r.2.sem = fun _ => 0)

def quiescent_TapsKernelIdeal [hTapsKernelIdeal : Cert.TapsKernelIdeal.Facts] : Prop :=
  ∀ (m : (ℓ : Loc Cert.TapsKernelIdeal.nD Cert.TapsKernelIdeal.τ Cert.TapsKernelIdeal.sig) → Buf (Elt Ideal) ℓ) (g : Dev Cert.TapsKernelIdeal.nD → PrngReg), Pre_TapsKernelIdeal m →
    θ_run (Cert.TapsKernelIdeal.defs (F := Ideal)) (onTc (τ := Cert.TapsKernelIdeal.τ) (Cert.TapsKernelIdeal.main (F := Ideal))) ⟨m, fun _ => 0, g⟩ (fun r => (∀ c : Dev Cert.TapsKernelIdeal.nD,
      r.2.mem ((c.tc : Thread Cert.TapsKernelIdeal.nD Cert.TapsKernelIdeal.τ).loc Cert.TapsKernelIdeal.main_arg0) = m ((c.tc : Thread Cert.TapsKernelIdeal.nD Cert.TapsKernelIdeal.τ).loc Cert.TapsKernelIdeal.main_arg0)
      ∧ r.2.mem ((c.tc : Thread Cert.TapsKernelIdeal.nD Cert.TapsKernelIdeal.τ).loc Cert.TapsKernelIdeal.main_arg1) = m ((c.tc : Thread Cert.TapsKernelIdeal.nD Cert.TapsKernelIdeal.τ).loc Cert.TapsKernelIdeal.main_arg1)
      ∧ r.2.mem ((c.tc : Thread Cert.TapsKernelIdeal.nD Cert.TapsKernelIdeal.τ).loc Cert.TapsKernelIdeal.main_arg2) = m ((c.tc : Thread Cert.TapsKernelIdeal.nD Cert.TapsKernelIdeal.τ).loc Cert.TapsKernelIdeal.main_arg2)
      ∧ r.2.mem ((c.tc : Thread Cert.TapsKernelIdeal.nD Cert.TapsKernelIdeal.τ).loc Cert.TapsKernelIdeal.main_arg3) = m ((c.tc : Thread Cert.TapsKernelIdeal.nD Cert.TapsKernelIdeal.τ).loc Cert.TapsKernelIdeal.main_arg3))
      ∧ r.2.sem = fun _ => 0)

def quiescent_TapsReferenceIdeal [hTapsReferenceIdeal : Cert.TapsReferenceIdeal.Facts] : Prop :=
  ∀ (m : (ℓ : Loc Cert.TapsReferenceIdeal.nD Cert.TapsReferenceIdeal.τ Cert.TapsReferenceIdeal.sig) → Buf (Elt Ideal) ℓ) (g : Dev Cert.TapsReferenceIdeal.nD → PrngReg), Pre_TapsReferenceIdeal m →
    θ_run (Cert.TapsReferenceIdeal.defs (F := Ideal)) (onTc (τ := Cert.TapsReferenceIdeal.τ) (Cert.TapsReferenceIdeal.main (F := Ideal))) ⟨m, fun _ => 0, g⟩ (fun r => (∀ c : Dev Cert.TapsReferenceIdeal.nD,
      r.2.mem ((c.tc : Thread Cert.TapsReferenceIdeal.nD Cert.TapsReferenceIdeal.τ).loc Cert.TapsReferenceIdeal.main_arg0) = m ((c.tc : Thread Cert.TapsReferenceIdeal.nD Cert.TapsReferenceIdeal.τ).loc Cert.TapsReferenceIdeal.main_arg0)
      ∧ r.2.mem ((c.tc : Thread Cert.TapsReferenceIdeal.nD Cert.TapsReferenceIdeal.τ).loc Cert.TapsReferenceIdeal.main_arg1) = m ((c.tc : Thread Cert.TapsReferenceIdeal.nD Cert.TapsReferenceIdeal.τ).loc Cert.TapsReferenceIdeal.main_arg1)
      ∧ r.2.mem ((c.tc : Thread Cert.TapsReferenceIdeal.nD Cert.TapsReferenceIdeal.τ).loc Cert.TapsReferenceIdeal.main_arg2) = m ((c.tc : Thread Cert.TapsReferenceIdeal.nD Cert.TapsReferenceIdeal.τ).loc Cert.TapsReferenceIdeal.main_arg2)
      ∧ r.2.mem ((c.tc : Thread Cert.TapsReferenceIdeal.nD Cert.TapsReferenceIdeal.τ).loc Cert.TapsReferenceIdeal.main_arg3) = m ((c.tc : Thread Cert.TapsReferenceIdeal.nD Cert.TapsReferenceIdeal.τ).loc Cert.TapsReferenceIdeal.main_arg3))
      ∧ r.2.sem = fun _ => 0)

def quiescent_RmsInKernel [hRmsInKernel : Cert.RmsInKernel.Facts] : Prop :=
  ∀ (m : (ℓ : Loc Cert.RmsInKernel.nD Cert.RmsInKernel.τ Cert.RmsInKernel.sig) → Buf (Elt Bits) ℓ) (g : Dev Cert.RmsInKernel.nD → PrngReg), Pre_RmsInKernel m →
    θ_run (Cert.RmsInKernel.defs (F := Bits)) (onTc (τ := Cert.RmsInKernel.τ) (Cert.RmsInKernel.main (F := Bits))) ⟨m, fun _ => 0, g⟩ (fun r => (∀ c : Dev Cert.RmsInKernel.nD,
      r.2.mem ((c.tc : Thread Cert.RmsInKernel.nD Cert.RmsInKernel.τ).loc Cert.RmsInKernel.main_arg0) = m ((c.tc : Thread Cert.RmsInKernel.nD Cert.RmsInKernel.τ).loc Cert.RmsInKernel.main_arg0)
      ∧ r.2.mem ((c.tc : Thread Cert.RmsInKernel.nD Cert.RmsInKernel.τ).loc Cert.RmsInKernel.main_arg1) = m ((c.tc : Thread Cert.RmsInKernel.nD Cert.RmsInKernel.τ).loc Cert.RmsInKernel.main_arg1)
      ∧ r.2.mem ((c.tc : Thread Cert.RmsInKernel.nD Cert.RmsInKernel.τ).loc Cert.RmsInKernel.main_arg2) = m ((c.tc : Thread Cert.RmsInKernel.nD Cert.RmsInKernel.τ).loc Cert.RmsInKernel.main_arg2))
      ∧ r.2.sem = fun _ => 0)

def quiescent_RmsInKernelIdeal [hRmsInKernelIdeal : Cert.RmsInKernelIdeal.Facts] : Prop :=
  ∀ (m : (ℓ : Loc Cert.RmsInKernelIdeal.nD Cert.RmsInKernelIdeal.τ Cert.RmsInKernelIdeal.sig) → Buf (Elt Ideal) ℓ) (g : Dev Cert.RmsInKernelIdeal.nD → PrngReg), Pre_RmsInKernelIdeal m →
    θ_run (Cert.RmsInKernelIdeal.defs (F := Ideal)) (onTc (τ := Cert.RmsInKernelIdeal.τ) (Cert.RmsInKernelIdeal.main (F := Ideal))) ⟨m, fun _ => 0, g⟩ (fun r => (∀ c : Dev Cert.RmsInKernelIdeal.nD,
      r.2.mem ((c.tc : Thread Cert.RmsInKernelIdeal.nD Cert.RmsInKernelIdeal.τ).loc Cert.RmsInKernelIdeal.main_arg0) = m ((c.tc : Thread Cert.RmsInKernelIdeal.nD Cert.RmsInKernelIdeal.τ).loc Cert.RmsInKernelIdeal.main_arg0)
      ∧ r.2.mem ((c.tc : Thread Cert.RmsInKernelIdeal.nD Cert.RmsInKernelIdeal.τ).loc Cert.RmsInKernelIdeal.main_arg1) = m ((c.tc : Thread Cert.RmsInKernelIdeal.nD Cert.RmsInKernelIdeal.τ).loc Cert.RmsInKernelIdeal.main_arg1)
      ∧ r.2.mem ((c.tc : Thread Cert.RmsInKernelIdeal.nD Cert.RmsInKernelIdeal.τ).loc Cert.RmsInKernelIdeal.main_arg2) = m ((c.tc : Thread Cert.RmsInKernelIdeal.nD Cert.RmsInKernelIdeal.τ).loc Cert.RmsInKernelIdeal.main_arg2))
      ∧ r.2.sem = fun _ => 0)

def quiescent_RmsInReferenceIdeal [hRmsInReferenceIdeal : Cert.RmsInReferenceIdeal.Facts] : Prop :=
  ∀ (m : (ℓ : Loc Cert.RmsInReferenceIdeal.nD Cert.RmsInReferenceIdeal.τ Cert.RmsInReferenceIdeal.sig) → Buf (Elt Ideal) ℓ) (g : Dev Cert.RmsInReferenceIdeal.nD → PrngReg), Pre_RmsInReferenceIdeal m →
    θ_run (Cert.RmsInReferenceIdeal.defs (F := Ideal)) (onTc (τ := Cert.RmsInReferenceIdeal.τ) (Cert.RmsInReferenceIdeal.main (F := Ideal))) ⟨m, fun _ => 0, g⟩ (fun r => (∀ c : Dev Cert.RmsInReferenceIdeal.nD,
      r.2.mem ((c.tc : Thread Cert.RmsInReferenceIdeal.nD Cert.RmsInReferenceIdeal.τ).loc Cert.RmsInReferenceIdeal.main_arg0) = m ((c.tc : Thread Cert.RmsInReferenceIdeal.nD Cert.RmsInReferenceIdeal.τ).loc Cert.RmsInReferenceIdeal.main_arg0)
      ∧ r.2.mem ((c.tc : Thread Cert.RmsInReferenceIdeal.nD Cert.RmsInReferenceIdeal.τ).loc Cert.RmsInReferenceIdeal.main_arg1) = m ((c.tc : Thread Cert.RmsInReferenceIdeal.nD Cert.RmsInReferenceIdeal.τ).loc Cert.RmsInReferenceIdeal.main_arg1)
      ∧ r.2.mem ((c.tc : Thread Cert.RmsInReferenceIdeal.nD Cert.RmsInReferenceIdeal.τ).loc Cert.RmsInReferenceIdeal.main_arg2) = m ((c.tc : Thread Cert.RmsInReferenceIdeal.nD Cert.RmsInReferenceIdeal.τ).loc Cert.RmsInReferenceIdeal.main_arg2))
      ∧ r.2.sem = fun _ => 0)

def quiescent_MidKernel [hMidKernel : Cert.MidKernel.Facts] : Prop :=
  ∀ (m : (ℓ : Loc Cert.MidKernel.nD Cert.MidKernel.τ Cert.MidKernel.sig) → Buf (Elt Bits) ℓ) (g : Dev Cert.MidKernel.nD → PrngReg), Pre_MidKernel m →
    θ_run (Cert.MidKernel.defs (F := Bits)) (onTc (τ := Cert.MidKernel.τ) (Cert.MidKernel.main (F := Bits))) ⟨m, fun _ => 0, g⟩ (fun r => (∀ c : Dev Cert.MidKernel.nD,
      r.2.mem ((c.tc : Thread Cert.MidKernel.nD Cert.MidKernel.τ).loc Cert.MidKernel.main_arg0) = m ((c.tc : Thread Cert.MidKernel.nD Cert.MidKernel.τ).loc Cert.MidKernel.main_arg0)
      ∧ r.2.mem ((c.tc : Thread Cert.MidKernel.nD Cert.MidKernel.τ).loc Cert.MidKernel.main_arg1) = m ((c.tc : Thread Cert.MidKernel.nD Cert.MidKernel.τ).loc Cert.MidKernel.main_arg1)
      ∧ r.2.mem ((c.tc : Thread Cert.MidKernel.nD Cert.MidKernel.τ).loc Cert.MidKernel.main_arg2) = m ((c.tc : Thread Cert.MidKernel.nD Cert.MidKernel.τ).loc Cert.MidKernel.main_arg2)
      ∧ r.2.mem ((c.tc : Thread Cert.MidKernel.nD Cert.MidKernel.τ).loc Cert.MidKernel.main_arg3) = m ((c.tc : Thread Cert.MidKernel.nD Cert.MidKernel.τ).loc Cert.MidKernel.main_arg3)
      ∧ r.2.mem ((c.tc : Thread Cert.MidKernel.nD Cert.MidKernel.τ).loc Cert.MidKernel.main_arg4) = m ((c.tc : Thread Cert.MidKernel.nD Cert.MidKernel.τ).loc Cert.MidKernel.main_arg4)
      ∧ r.2.mem ((c.tc : Thread Cert.MidKernel.nD Cert.MidKernel.τ).loc Cert.MidKernel.main_arg5) = m ((c.tc : Thread Cert.MidKernel.nD Cert.MidKernel.τ).loc Cert.MidKernel.main_arg5)
      ∧ r.2.mem ((c.tc : Thread Cert.MidKernel.nD Cert.MidKernel.τ).loc Cert.MidKernel.main_arg6) = m ((c.tc : Thread Cert.MidKernel.nD Cert.MidKernel.τ).loc Cert.MidKernel.main_arg6)
      ∧ r.2.mem ((c.tc : Thread Cert.MidKernel.nD Cert.MidKernel.τ).loc Cert.MidKernel.main_arg7) = m ((c.tc : Thread Cert.MidKernel.nD Cert.MidKernel.τ).loc Cert.MidKernel.main_arg7)
      ∧ r.2.mem ((c.tc : Thread Cert.MidKernel.nD Cert.MidKernel.τ).loc Cert.MidKernel.main_arg8) = m ((c.tc : Thread Cert.MidKernel.nD Cert.MidKernel.τ).loc Cert.MidKernel.main_arg8)
      ∧ r.2.mem ((c.tc : Thread Cert.MidKernel.nD Cert.MidKernel.τ).loc Cert.MidKernel.main_arg9) = m ((c.tc : Thread Cert.MidKernel.nD Cert.MidKernel.τ).loc Cert.MidKernel.main_arg9)
      ∧ r.2.mem ((c.tc : Thread Cert.MidKernel.nD Cert.MidKernel.τ).loc Cert.MidKernel.main_arg10) = m ((c.tc : Thread Cert.MidKernel.nD Cert.MidKernel.τ).loc Cert.MidKernel.main_arg10)
      ∧ r.2.mem ((c.tc : Thread Cert.MidKernel.nD Cert.MidKernel.τ).loc Cert.MidKernel.main_arg11) = m ((c.tc : Thread Cert.MidKernel.nD Cert.MidKernel.τ).loc Cert.MidKernel.main_arg11)
      ∧ r.2.mem ((c.tc : Thread Cert.MidKernel.nD Cert.MidKernel.τ).loc Cert.MidKernel.main_arg12) = m ((c.tc : Thread Cert.MidKernel.nD Cert.MidKernel.τ).loc Cert.MidKernel.main_arg12))
      ∧ r.2.sem = fun _ => 0)

def quiescent_MidKernelIdeal [hMidKernelIdeal : Cert.MidKernelIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg), Pre_MidKernelIdeal m →
    θ_run (Cert.MidKernelIdeal.defs (F := Ideal)) (onTc (τ := Cert.MidKernelIdeal.τ) (Cert.MidKernelIdeal.main (F := Ideal))) ⟨m, fun _ => 0, g⟩ (fun r => (∀ c : Dev Cert.MidKernelIdeal.nD,
      r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
      ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
      ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
      ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
      ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
      ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5)
      ∧ r.2.mem ((c.tc : Thread Cert.MidKernelIdeal.nD Cert.MidKernelIdeal.τ).loc Cert.MidKernelIdeal.main_arg6) = m ((c.tc : Thread Cert.MidKernelIdeal.nD Cert.MidKernelIdeal.τ).loc Cert.MidKernelIdeal.main_arg6)
      ∧ r.2.mem ((c.tc : Thread Cert.MidKernelIdeal.nD Cert.MidKernelIdeal.τ).loc Cert.MidKernelIdeal.main_arg7) = m ((c.tc : Thread Cert.MidKernelIdeal.nD Cert.MidKernelIdeal.τ).loc Cert.MidKernelIdeal.main_arg7)
      ∧ r.2.mem ((c.tc : Thread Cert.MidKernelIdeal.nD Cert.MidKernelIdeal.τ).loc Cert.MidKernelIdeal.main_arg8) = m ((c.tc : Thread Cert.MidKernelIdeal.nD Cert.MidKernelIdeal.τ).loc Cert.MidKernelIdeal.main_arg8)
      ∧ r.2.mem ((c.tc : Thread Cert.MidKernelIdeal.nD Cert.MidKernelIdeal.τ).loc Cert.MidKernelIdeal.main_arg9) = m ((c.tc : Thread Cert.MidKernelIdeal.nD Cert.MidKernelIdeal.τ).loc Cert.MidKernelIdeal.main_arg9)
      ∧ r.2.mem ((c.tc : Thread Cert.MidKernelIdeal.nD Cert.MidKernelIdeal.τ).loc Cert.MidKernelIdeal.main_arg10) = m ((c.tc : Thread Cert.MidKernelIdeal.nD Cert.MidKernelIdeal.τ).loc Cert.MidKernelIdeal.main_arg10)
      ∧ r.2.mem ((c.tc : Thread Cert.MidKernelIdeal.nD Cert.MidKernelIdeal.τ).loc Cert.MidKernelIdeal.main_arg11) = m ((c.tc : Thread Cert.MidKernelIdeal.nD Cert.MidKernelIdeal.τ).loc Cert.MidKernelIdeal.main_arg11)
      ∧ r.2.mem ((c.tc : Thread Cert.MidKernelIdeal.nD Cert.MidKernelIdeal.τ).loc Cert.MidKernelIdeal.main_arg12) = m ((c.tc : Thread Cert.MidKernelIdeal.nD Cert.MidKernelIdeal.τ).loc Cert.MidKernelIdeal.main_arg12))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8)
      ∧ r.2.mem ((c.tc : Thread Cert.MidReferenceIdeal.nD Cert.MidReferenceIdeal.τ).loc Cert.MidReferenceIdeal.main_arg9) = m ((c.tc : Thread Cert.MidReferenceIdeal.nD Cert.MidReferenceIdeal.τ).loc Cert.MidReferenceIdeal.main_arg9)
      ∧ r.2.mem ((c.tc : Thread Cert.MidReferenceIdeal.nD Cert.MidReferenceIdeal.τ).loc Cert.MidReferenceIdeal.main_arg10) = m ((c.tc : Thread Cert.MidReferenceIdeal.nD Cert.MidReferenceIdeal.τ).loc Cert.MidReferenceIdeal.main_arg10)
      ∧ r.2.mem ((c.tc : Thread Cert.MidReferenceIdeal.nD Cert.MidReferenceIdeal.τ).loc Cert.MidReferenceIdeal.main_arg11) = m ((c.tc : Thread Cert.MidReferenceIdeal.nD Cert.MidReferenceIdeal.τ).loc Cert.MidReferenceIdeal.main_arg11)
      ∧ r.2.mem ((c.tc : Thread Cert.MidReferenceIdeal.nD Cert.MidReferenceIdeal.τ).loc Cert.MidReferenceIdeal.main_arg12) = m ((c.tc : Thread Cert.MidReferenceIdeal.nD Cert.MidReferenceIdeal.τ).loc Cert.MidReferenceIdeal.main_arg12))
      ∧ r.2.sem = fun _ => 0)

def quiescent_AdamwOutKernel [hAdamwOutKernel : Cert.AdamwOutKernel.Facts] : Prop :=
  ∀ (m : (ℓ : Loc Cert.AdamwOutKernel.nD Cert.AdamwOutKernel.τ Cert.AdamwOutKernel.sig) → Buf (Elt Bits) ℓ) (g : Dev Cert.AdamwOutKernel.nD → PrngReg), Pre_AdamwOutKernel m →
    θ_run (Cert.AdamwOutKernel.defs (F := Bits)) (onTc (τ := Cert.AdamwOutKernel.τ) (Cert.AdamwOutKernel.main (F := Bits))) ⟨m, fun _ => 0, g⟩ (fun r => (∀ c : Dev Cert.AdamwOutKernel.nD,
      r.2.mem ((c.tc : Thread Cert.AdamwOutKernel.nD Cert.AdamwOutKernel.τ).loc Cert.AdamwOutKernel.main_arg0) = m ((c.tc : Thread Cert.AdamwOutKernel.nD Cert.AdamwOutKernel.τ).loc Cert.AdamwOutKernel.main_arg0)
      ∧ r.2.mem ((c.tc : Thread Cert.AdamwOutKernel.nD Cert.AdamwOutKernel.τ).loc Cert.AdamwOutKernel.main_arg1) = m ((c.tc : Thread Cert.AdamwOutKernel.nD Cert.AdamwOutKernel.τ).loc Cert.AdamwOutKernel.main_arg1)
      ∧ r.2.mem ((c.tc : Thread Cert.AdamwOutKernel.nD Cert.AdamwOutKernel.τ).loc Cert.AdamwOutKernel.main_arg2) = m ((c.tc : Thread Cert.AdamwOutKernel.nD Cert.AdamwOutKernel.τ).loc Cert.AdamwOutKernel.main_arg2)
      ∧ r.2.mem ((c.tc : Thread Cert.AdamwOutKernel.nD Cert.AdamwOutKernel.τ).loc Cert.AdamwOutKernel.main_arg3) = m ((c.tc : Thread Cert.AdamwOutKernel.nD Cert.AdamwOutKernel.τ).loc Cert.AdamwOutKernel.main_arg3))
      ∧ r.2.sem = fun _ => 0)

def quiescent_AdamwOutKernelIdeal [hAdamwOutKernelIdeal : Cert.AdamwOutKernelIdeal.Facts] : Prop :=
  ∀ (m : (ℓ : Loc Cert.AdamwOutKernelIdeal.nD Cert.AdamwOutKernelIdeal.τ Cert.AdamwOutKernelIdeal.sig) → Buf (Elt Ideal) ℓ) (g : Dev Cert.AdamwOutKernelIdeal.nD → PrngReg), Pre_AdamwOutKernelIdeal m →
    θ_run (Cert.AdamwOutKernelIdeal.defs (F := Ideal)) (onTc (τ := Cert.AdamwOutKernelIdeal.τ) (Cert.AdamwOutKernelIdeal.main (F := Ideal))) ⟨m, fun _ => 0, g⟩ (fun r => (∀ c : Dev Cert.AdamwOutKernelIdeal.nD,
      r.2.mem ((c.tc : Thread Cert.AdamwOutKernelIdeal.nD Cert.AdamwOutKernelIdeal.τ).loc Cert.AdamwOutKernelIdeal.main_arg0) = m ((c.tc : Thread Cert.AdamwOutKernelIdeal.nD Cert.AdamwOutKernelIdeal.τ).loc Cert.AdamwOutKernelIdeal.main_arg0)
      ∧ r.2.mem ((c.tc : Thread Cert.AdamwOutKernelIdeal.nD Cert.AdamwOutKernelIdeal.τ).loc Cert.AdamwOutKernelIdeal.main_arg1) = m ((c.tc : Thread Cert.AdamwOutKernelIdeal.nD Cert.AdamwOutKernelIdeal.τ).loc Cert.AdamwOutKernelIdeal.main_arg1)
      ∧ r.2.mem ((c.tc : Thread Cert.AdamwOutKernelIdeal.nD Cert.AdamwOutKernelIdeal.τ).loc Cert.AdamwOutKernelIdeal.main_arg2) = m ((c.tc : Thread Cert.AdamwOutKernelIdeal.nD Cert.AdamwOutKernelIdeal.τ).loc Cert.AdamwOutKernelIdeal.main_arg2)
      ∧ r.2.mem ((c.tc : Thread Cert.AdamwOutKernelIdeal.nD Cert.AdamwOutKernelIdeal.τ).loc Cert.AdamwOutKernelIdeal.main_arg3) = m ((c.tc : Thread Cert.AdamwOutKernelIdeal.nD Cert.AdamwOutKernelIdeal.τ).loc Cert.AdamwOutKernelIdeal.main_arg3))
      ∧ r.2.sem = fun _ => 0)

def quiescent_AdamwOutReferenceIdeal [hAdamwOutReferenceIdeal : Cert.AdamwOutReferenceIdeal.Facts] : Prop :=
  ∀ (m : (ℓ : Loc Cert.AdamwOutReferenceIdeal.nD Cert.AdamwOutReferenceIdeal.τ Cert.AdamwOutReferenceIdeal.sig) → Buf (Elt Ideal) ℓ) (g : Dev Cert.AdamwOutReferenceIdeal.nD → PrngReg), Pre_AdamwOutReferenceIdeal m →
    θ_run (Cert.AdamwOutReferenceIdeal.defs (F := Ideal)) (onTc (τ := Cert.AdamwOutReferenceIdeal.τ) (Cert.AdamwOutReferenceIdeal.main (F := Ideal))) ⟨m, fun _ => 0, g⟩ (fun r => (∀ c : Dev Cert.AdamwOutReferenceIdeal.nD,
      r.2.mem ((c.tc : Thread Cert.AdamwOutReferenceIdeal.nD Cert.AdamwOutReferenceIdeal.τ).loc Cert.AdamwOutReferenceIdeal.main_arg0) = m ((c.tc : Thread Cert.AdamwOutReferenceIdeal.nD Cert.AdamwOutReferenceIdeal.τ).loc Cert.AdamwOutReferenceIdeal.main_arg0)
      ∧ r.2.mem ((c.tc : Thread Cert.AdamwOutReferenceIdeal.nD Cert.AdamwOutReferenceIdeal.τ).loc Cert.AdamwOutReferenceIdeal.main_arg1) = m ((c.tc : Thread Cert.AdamwOutReferenceIdeal.nD Cert.AdamwOutReferenceIdeal.τ).loc Cert.AdamwOutReferenceIdeal.main_arg1)
      ∧ r.2.mem ((c.tc : Thread Cert.AdamwOutReferenceIdeal.nD Cert.AdamwOutReferenceIdeal.τ).loc Cert.AdamwOutReferenceIdeal.main_arg2) = m ((c.tc : Thread Cert.AdamwOutReferenceIdeal.nD Cert.AdamwOutReferenceIdeal.τ).loc Cert.AdamwOutReferenceIdeal.main_arg2)
      ∧ r.2.mem ((c.tc : Thread Cert.AdamwOutReferenceIdeal.nD Cert.AdamwOutReferenceIdeal.τ).loc Cert.AdamwOutReferenceIdeal.main_arg3) = m ((c.tc : Thread Cert.AdamwOutReferenceIdeal.nD Cert.AdamwOutReferenceIdeal.τ).loc Cert.AdamwOutReferenceIdeal.main_arg3))
      ∧ r.2.sem = fun _ => 0)

def quiescent_AdamwPleKernel [hAdamwPleKernel : Cert.AdamwPleKernel.Facts] : Prop :=
  ∀ (m : (ℓ : Loc Cert.AdamwPleKernel.nD Cert.AdamwPleKernel.τ Cert.AdamwPleKernel.sig) → Buf (Elt Bits) ℓ) (g : Dev Cert.AdamwPleKernel.nD → PrngReg), Pre_AdamwPleKernel m →
    θ_run (Cert.AdamwPleKernel.defs (F := Bits)) (onTc (τ := Cert.AdamwPleKernel.τ) (Cert.AdamwPleKernel.main (F := Bits))) ⟨m, fun _ => 0, g⟩ (fun r => (∀ c : Dev Cert.AdamwPleKernel.nD,
      r.2.mem ((c.tc : Thread Cert.AdamwPleKernel.nD Cert.AdamwPleKernel.τ).loc Cert.AdamwPleKernel.main_arg0) = m ((c.tc : Thread Cert.AdamwPleKernel.nD Cert.AdamwPleKernel.τ).loc Cert.AdamwPleKernel.main_arg0)
      ∧ r.2.mem ((c.tc : Thread Cert.AdamwPleKernel.nD Cert.AdamwPleKernel.τ).loc Cert.AdamwPleKernel.main_arg1) = m ((c.tc : Thread Cert.AdamwPleKernel.nD Cert.AdamwPleKernel.τ).loc Cert.AdamwPleKernel.main_arg1)
      ∧ r.2.mem ((c.tc : Thread Cert.AdamwPleKernel.nD Cert.AdamwPleKernel.τ).loc Cert.AdamwPleKernel.main_arg2) = m ((c.tc : Thread Cert.AdamwPleKernel.nD Cert.AdamwPleKernel.τ).loc Cert.AdamwPleKernel.main_arg2)
      ∧ r.2.mem ((c.tc : Thread Cert.AdamwPleKernel.nD Cert.AdamwPleKernel.τ).loc Cert.AdamwPleKernel.main_arg3) = m ((c.tc : Thread Cert.AdamwPleKernel.nD Cert.AdamwPleKernel.τ).loc Cert.AdamwPleKernel.main_arg3))
      ∧ r.2.sem = fun _ => 0)

def quiescent_AdamwPleKernelIdeal [hAdamwPleKernelIdeal : Cert.AdamwPleKernelIdeal.Facts] : Prop :=
  ∀ (m : (ℓ : Loc Cert.AdamwPleKernelIdeal.nD Cert.AdamwPleKernelIdeal.τ Cert.AdamwPleKernelIdeal.sig) → Buf (Elt Ideal) ℓ) (g : Dev Cert.AdamwPleKernelIdeal.nD → PrngReg), Pre_AdamwPleKernelIdeal m →
    θ_run (Cert.AdamwPleKernelIdeal.defs (F := Ideal)) (onTc (τ := Cert.AdamwPleKernelIdeal.τ) (Cert.AdamwPleKernelIdeal.main (F := Ideal))) ⟨m, fun _ => 0, g⟩ (fun r => (∀ c : Dev Cert.AdamwPleKernelIdeal.nD,
      r.2.mem ((c.tc : Thread Cert.AdamwPleKernelIdeal.nD Cert.AdamwPleKernelIdeal.τ).loc Cert.AdamwPleKernelIdeal.main_arg0) = m ((c.tc : Thread Cert.AdamwPleKernelIdeal.nD Cert.AdamwPleKernelIdeal.τ).loc Cert.AdamwPleKernelIdeal.main_arg0)
      ∧ r.2.mem ((c.tc : Thread Cert.AdamwPleKernelIdeal.nD Cert.AdamwPleKernelIdeal.τ).loc Cert.AdamwPleKernelIdeal.main_arg1) = m ((c.tc : Thread Cert.AdamwPleKernelIdeal.nD Cert.AdamwPleKernelIdeal.τ).loc Cert.AdamwPleKernelIdeal.main_arg1)
      ∧ r.2.mem ((c.tc : Thread Cert.AdamwPleKernelIdeal.nD Cert.AdamwPleKernelIdeal.τ).loc Cert.AdamwPleKernelIdeal.main_arg2) = m ((c.tc : Thread Cert.AdamwPleKernelIdeal.nD Cert.AdamwPleKernelIdeal.τ).loc Cert.AdamwPleKernelIdeal.main_arg2)
      ∧ r.2.mem ((c.tc : Thread Cert.AdamwPleKernelIdeal.nD Cert.AdamwPleKernelIdeal.τ).loc Cert.AdamwPleKernelIdeal.main_arg3) = m ((c.tc : Thread Cert.AdamwPleKernelIdeal.nD Cert.AdamwPleKernelIdeal.τ).loc Cert.AdamwPleKernelIdeal.main_arg3))
      ∧ r.2.sem = fun _ => 0)

def quiescent_AdamwPleReferenceIdeal [hAdamwPleReferenceIdeal : Cert.AdamwPleReferenceIdeal.Facts] : Prop :=
  ∀ (m : (ℓ : Loc Cert.AdamwPleReferenceIdeal.nD Cert.AdamwPleReferenceIdeal.τ Cert.AdamwPleReferenceIdeal.sig) → Buf (Elt Ideal) ℓ) (g : Dev Cert.AdamwPleReferenceIdeal.nD → PrngReg), Pre_AdamwPleReferenceIdeal m →
    θ_run (Cert.AdamwPleReferenceIdeal.defs (F := Ideal)) (onTc (τ := Cert.AdamwPleReferenceIdeal.τ) (Cert.AdamwPleReferenceIdeal.main (F := Ideal))) ⟨m, fun _ => 0, g⟩ (fun r => (∀ c : Dev Cert.AdamwPleReferenceIdeal.nD,
      r.2.mem ((c.tc : Thread Cert.AdamwPleReferenceIdeal.nD Cert.AdamwPleReferenceIdeal.τ).loc Cert.AdamwPleReferenceIdeal.main_arg0) = m ((c.tc : Thread Cert.AdamwPleReferenceIdeal.nD Cert.AdamwPleReferenceIdeal.τ).loc Cert.AdamwPleReferenceIdeal.main_arg0)
      ∧ r.2.mem ((c.tc : Thread Cert.AdamwPleReferenceIdeal.nD Cert.AdamwPleReferenceIdeal.τ).loc Cert.AdamwPleReferenceIdeal.main_arg1) = m ((c.tc : Thread Cert.AdamwPleReferenceIdeal.nD Cert.AdamwPleReferenceIdeal.τ).loc Cert.AdamwPleReferenceIdeal.main_arg1)
      ∧ r.2.mem ((c.tc : Thread Cert.AdamwPleReferenceIdeal.nD Cert.AdamwPleReferenceIdeal.τ).loc Cert.AdamwPleReferenceIdeal.main_arg2) = m ((c.tc : Thread Cert.AdamwPleReferenceIdeal.nD Cert.AdamwPleReferenceIdeal.τ).loc Cert.AdamwPleReferenceIdeal.main_arg2)
      ∧ r.2.mem ((c.tc : Thread Cert.AdamwPleReferenceIdeal.nD Cert.AdamwPleReferenceIdeal.τ).loc Cert.AdamwPleReferenceIdeal.main_arg3) = m ((c.tc : Thread Cert.AdamwPleReferenceIdeal.nD Cert.AdamwPleReferenceIdeal.τ).loc Cert.AdamwPleReferenceIdeal.main_arg3))
      ∧ r.2.sem = fun _ => 0)

def quiescent_AdamwPwKernel [hAdamwPwKernel : Cert.AdamwPwKernel.Facts] : Prop :=
  ∀ (m : (ℓ : Loc Cert.AdamwPwKernel.nD Cert.AdamwPwKernel.τ Cert.AdamwPwKernel.sig) → Buf (Elt Bits) ℓ) (g : Dev Cert.AdamwPwKernel.nD → PrngReg), Pre_AdamwPwKernel m →
    θ_run (Cert.AdamwPwKernel.defs (F := Bits)) (onTc (τ := Cert.AdamwPwKernel.τ) (Cert.AdamwPwKernel.main (F := Bits))) ⟨m, fun _ => 0, g⟩ (fun r => (∀ c : Dev Cert.AdamwPwKernel.nD,
      r.2.mem ((c.tc : Thread Cert.AdamwPwKernel.nD Cert.AdamwPwKernel.τ).loc Cert.AdamwPwKernel.main_arg0) = m ((c.tc : Thread Cert.AdamwPwKernel.nD Cert.AdamwPwKernel.τ).loc Cert.AdamwPwKernel.main_arg0)
      ∧ r.2.mem ((c.tc : Thread Cert.AdamwPwKernel.nD Cert.AdamwPwKernel.τ).loc Cert.AdamwPwKernel.main_arg1) = m ((c.tc : Thread Cert.AdamwPwKernel.nD Cert.AdamwPwKernel.τ).loc Cert.AdamwPwKernel.main_arg1)
      ∧ r.2.mem ((c.tc : Thread Cert.AdamwPwKernel.nD Cert.AdamwPwKernel.τ).loc Cert.AdamwPwKernel.main_arg2) = m ((c.tc : Thread Cert.AdamwPwKernel.nD Cert.AdamwPwKernel.τ).loc Cert.AdamwPwKernel.main_arg2)
      ∧ r.2.mem ((c.tc : Thread Cert.AdamwPwKernel.nD Cert.AdamwPwKernel.τ).loc Cert.AdamwPwKernel.main_arg3) = m ((c.tc : Thread Cert.AdamwPwKernel.nD Cert.AdamwPwKernel.τ).loc Cert.AdamwPwKernel.main_arg3))
      ∧ r.2.sem = fun _ => 0)

def quiescent_AdamwPwKernelIdeal [hAdamwPwKernelIdeal : Cert.AdamwPwKernelIdeal.Facts] : Prop :=
  ∀ (m : (ℓ : Loc Cert.AdamwPwKernelIdeal.nD Cert.AdamwPwKernelIdeal.τ Cert.AdamwPwKernelIdeal.sig) → Buf (Elt Ideal) ℓ) (g : Dev Cert.AdamwPwKernelIdeal.nD → PrngReg), Pre_AdamwPwKernelIdeal m →
    θ_run (Cert.AdamwPwKernelIdeal.defs (F := Ideal)) (onTc (τ := Cert.AdamwPwKernelIdeal.τ) (Cert.AdamwPwKernelIdeal.main (F := Ideal))) ⟨m, fun _ => 0, g⟩ (fun r => (∀ c : Dev Cert.AdamwPwKernelIdeal.nD,
      r.2.mem ((c.tc : Thread Cert.AdamwPwKernelIdeal.nD Cert.AdamwPwKernelIdeal.τ).loc Cert.AdamwPwKernelIdeal.main_arg0) = m ((c.tc : Thread Cert.AdamwPwKernelIdeal.nD Cert.AdamwPwKernelIdeal.τ).loc Cert.AdamwPwKernelIdeal.main_arg0)
      ∧ r.2.mem ((c.tc : Thread Cert.AdamwPwKernelIdeal.nD Cert.AdamwPwKernelIdeal.τ).loc Cert.AdamwPwKernelIdeal.main_arg1) = m ((c.tc : Thread Cert.AdamwPwKernelIdeal.nD Cert.AdamwPwKernelIdeal.τ).loc Cert.AdamwPwKernelIdeal.main_arg1)
      ∧ r.2.mem ((c.tc : Thread Cert.AdamwPwKernelIdeal.nD Cert.AdamwPwKernelIdeal.τ).loc Cert.AdamwPwKernelIdeal.main_arg2) = m ((c.tc : Thread Cert.AdamwPwKernelIdeal.nD Cert.AdamwPwKernelIdeal.τ).loc Cert.AdamwPwKernelIdeal.main_arg2)
      ∧ r.2.mem ((c.tc : Thread Cert.AdamwPwKernelIdeal.nD Cert.AdamwPwKernelIdeal.τ).loc Cert.AdamwPwKernelIdeal.main_arg3) = m ((c.tc : Thread Cert.AdamwPwKernelIdeal.nD Cert.AdamwPwKernelIdeal.τ).loc Cert.AdamwPwKernelIdeal.main_arg3))
      ∧ r.2.sem = fun _ => 0)

def quiescent_AdamwPwReferenceIdeal [hAdamwPwReferenceIdeal : Cert.AdamwPwReferenceIdeal.Facts] : Prop :=
  ∀ (m : (ℓ : Loc Cert.AdamwPwReferenceIdeal.nD Cert.AdamwPwReferenceIdeal.τ Cert.AdamwPwReferenceIdeal.sig) → Buf (Elt Ideal) ℓ) (g : Dev Cert.AdamwPwReferenceIdeal.nD → PrngReg), Pre_AdamwPwReferenceIdeal m →
    θ_run (Cert.AdamwPwReferenceIdeal.defs (F := Ideal)) (onTc (τ := Cert.AdamwPwReferenceIdeal.τ) (Cert.AdamwPwReferenceIdeal.main (F := Ideal))) ⟨m, fun _ => 0, g⟩ (fun r => (∀ c : Dev Cert.AdamwPwReferenceIdeal.nD,
      r.2.mem ((c.tc : Thread Cert.AdamwPwReferenceIdeal.nD Cert.AdamwPwReferenceIdeal.τ).loc Cert.AdamwPwReferenceIdeal.main_arg0) = m ((c.tc : Thread Cert.AdamwPwReferenceIdeal.nD Cert.AdamwPwReferenceIdeal.τ).loc Cert.AdamwPwReferenceIdeal.main_arg0)
      ∧ r.2.mem ((c.tc : Thread Cert.AdamwPwReferenceIdeal.nD Cert.AdamwPwReferenceIdeal.τ).loc Cert.AdamwPwReferenceIdeal.main_arg1) = m ((c.tc : Thread Cert.AdamwPwReferenceIdeal.nD Cert.AdamwPwReferenceIdeal.τ).loc Cert.AdamwPwReferenceIdeal.main_arg1)
      ∧ r.2.mem ((c.tc : Thread Cert.AdamwPwReferenceIdeal.nD Cert.AdamwPwReferenceIdeal.τ).loc Cert.AdamwPwReferenceIdeal.main_arg2) = m ((c.tc : Thread Cert.AdamwPwReferenceIdeal.nD Cert.AdamwPwReferenceIdeal.τ).loc Cert.AdamwPwReferenceIdeal.main_arg2)
      ∧ r.2.mem ((c.tc : Thread Cert.AdamwPwReferenceIdeal.nD Cert.AdamwPwReferenceIdeal.τ).loc Cert.AdamwPwReferenceIdeal.main_arg3) = m ((c.tc : Thread Cert.AdamwPwReferenceIdeal.nD Cert.AdamwPwReferenceIdeal.τ).loc Cert.AdamwPwReferenceIdeal.main_arg3))
      ∧ r.2.sem = fun _ => 0)

def preserves_DxKernel_DxKernelIdeal : Prop :=
  True

def algebraic_DxKernelIdeal_DxReferenceIdeal [hDxKernelIdeal : Cert.DxKernelIdeal.Facts] [hDxReferenceIdeal : Cert.DxReferenceIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal m →
    (∀ c : Dev Cert.DxKernelIdeal.nD,
      m' ((c.tc : Thread Cert.DxReferenceIdeal.nD Cert.DxReferenceIdeal.τ).loc Cert.DxReferenceIdeal.main_arg0) = m ((c.tc : Thread Cert.DxKernelIdeal.nD Cert.DxKernelIdeal.τ).loc Cert.DxKernelIdeal.main_arg0)
      ∧ m' ((c.tc : Thread Cert.DxReferenceIdeal.nD Cert.DxReferenceIdeal.τ).loc Cert.DxReferenceIdeal.main_arg1) = m ((c.tc : Thread Cert.DxKernelIdeal.nD Cert.DxKernelIdeal.τ).loc Cert.DxKernelIdeal.main_arg1)
      ∧ m' ((c.tc : Thread Cert.DxReferenceIdeal.nD Cert.DxReferenceIdeal.τ).loc Cert.DxReferenceIdeal.main_arg2) = m ((c.tc : Thread Cert.DxKernelIdeal.nD Cert.DxKernelIdeal.τ).loc Cert.DxKernelIdeal.main_arg2)
      ∧ m' ((c.tc : Thread Cert.DxReferenceIdeal.nD Cert.DxReferenceIdeal.τ).loc Cert.DxReferenceIdeal.main_arg3) = m ((c.tc : Thread Cert.DxKernelIdeal.nD Cert.DxKernelIdeal.τ).loc Cert.DxKernelIdeal.main_arg3)
      ∧ m' ((c.tc : Thread Cert.DxReferenceIdeal.nD Cert.DxReferenceIdeal.τ).loc Cert.DxReferenceIdeal.main_arg4) = m ((c.tc : Thread Cert.DxKernelIdeal.nD Cert.DxKernelIdeal.τ).loc Cert.DxKernelIdeal.main_arg4)) →
    ∃ (v0 : (c : Dev Cert.DxKernelIdeal.nD) → Buf (Elt Ideal) ((c.tc : Thread Cert.DxKernelIdeal.nD Cert.DxKernelIdeal.τ).loc Cert.DxKernelIdeal.main_v5_0)) (v1 : (c : Dev Cert.DxKernelIdeal.nD) → Buf (Elt Ideal) ((c.tc : Thread Cert.DxKernelIdeal.nD Cert.DxKernelIdeal.τ).loc Cert.DxKernelIdeal.main_v5_1)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          r.2.mem ((c.tc : Thread Cert.DxKernelIdeal.nD Cert.DxKernelIdeal.τ).loc Cert.DxKernelIdeal.main_v5_0) = v0 c
          ∧ r.2.mem ((c.tc : Thread Cert.DxKernelIdeal.nD Cert.DxKernelIdeal.τ).loc Cert.DxKernelIdeal.main_v5_1) = v1 c
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
          ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
          ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
          ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v39) = v0 c
          ∧ r.2.mem ((c.tc : Thread Cert.DxReferenceIdeal.nD Cert.DxReferenceIdeal.τ).loc Cert.DxReferenceIdeal.main_v40) = v1 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4))

def preserves_AttnKernel_AttnKernelIdeal : Prop :=
  True

def algebraic_AttnKernelIdeal_AttnReferenceIdeal_pre_finite_attn [hAttnKernelIdeal : Cert.AttnKernelIdeal.Facts] [hAttnReferenceIdeal : Cert.AttnReferenceIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_finite_attn m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)) →
    ∃ (v0 : (c : Dev Cert.AttnKernelIdeal.nD) → Buf (Elt Ideal) ((c.tc : Thread Cert.AttnKernelIdeal.nD Cert.AttnKernelIdeal.τ).loc Cert.AttnKernelIdeal.main_v24_0)) (v1 : (c : Dev Cert.AttnKernelIdeal.nD) → Buf (Elt Ideal) ((c.tc : Thread Cert.AttnKernelIdeal.nD Cert.AttnKernelIdeal.τ).loc Cert.AttnKernelIdeal.main_v24_1)) (v2 : (c : Dev Cert.AttnKernelIdeal.nD) → Buf (Elt Ideal) ((c.tc : Thread Cert.AttnKernelIdeal.nD Cert.AttnKernelIdeal.τ).loc Cert.AttnKernelIdeal.main_v24_2)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v24_0) = v0 c
          ∧ r.2.mem ((c.tc : Thread Cert.AttnKernelIdeal.nD Cert.AttnKernelIdeal.τ).loc Cert.AttnKernelIdeal.main_v24_1) = v1 c
          ∧ r.2.mem ((c.tc : Thread Cert.AttnKernelIdeal.nD Cert.AttnKernelIdeal.τ).loc Cert.AttnKernelIdeal.main_v24_2) = v2 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v52) = v0 c
          ∧ r.2.mem ((c.tc : Thread Cert.AttnReferenceIdeal.nD Cert.AttnReferenceIdeal.τ).loc Cert.AttnReferenceIdeal.main_v53) = v1 c
          ∧ r.2.mem ((c.tc : Thread Cert.AttnReferenceIdeal.nD Cert.AttnReferenceIdeal.τ).loc Cert.AttnReferenceIdeal.main_v54) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1))

def preserves_PleKernel_PleKernelIdeal : Prop :=
  True

def algebraic_PleKernelIdeal_PleReferenceIdeal [hPleKernelIdeal : Cert.PleKernelIdeal.Facts] [hPleReferenceIdeal : Cert.PleReferenceIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleKernelIdeal m →
    (∀ c : Dev Cert.PleKernelIdeal.nD,
      m' ((c.tc : Thread Cert.PleReferenceIdeal.nD Cert.PleReferenceIdeal.τ).loc Cert.PleReferenceIdeal.main_arg0) = m ((c.tc : Thread Cert.PleKernelIdeal.nD Cert.PleKernelIdeal.τ).loc Cert.PleKernelIdeal.main_arg0)
      ∧ m' ((c.tc : Thread Cert.PleReferenceIdeal.nD Cert.PleReferenceIdeal.τ).loc Cert.PleReferenceIdeal.main_arg1) = m ((c.tc : Thread Cert.PleKernelIdeal.nD Cert.PleKernelIdeal.τ).loc Cert.PleKernelIdeal.main_arg1)
      ∧ m' ((c.tc : Thread Cert.PleReferenceIdeal.nD Cert.PleReferenceIdeal.τ).loc Cert.PleReferenceIdeal.main_arg2) = m ((c.tc : Thread Cert.PleKernelIdeal.nD Cert.PleKernelIdeal.τ).loc Cert.PleKernelIdeal.main_arg2)
      ∧ m' ((c.tc : Thread Cert.PleReferenceIdeal.nD Cert.PleReferenceIdeal.τ).loc Cert.PleReferenceIdeal.main_arg3) = m ((c.tc : Thread Cert.PleKernelIdeal.nD Cert.PleKernelIdeal.τ).loc Cert.PleKernelIdeal.main_arg3)
      ∧ m' ((c.tc : Thread Cert.PleReferenceIdeal.nD Cert.PleReferenceIdeal.τ).loc Cert.PleReferenceIdeal.main_arg4) = m ((c.tc : Thread Cert.PleKernelIdeal.nD Cert.PleKernelIdeal.τ).loc Cert.PleKernelIdeal.main_arg4)
      ∧ m' ((c.tc : Thread Cert.PleReferenceIdeal.nD Cert.PleReferenceIdeal.τ).loc Cert.PleReferenceIdeal.main_arg5) = m ((c.tc : Thread Cert.PleKernelIdeal.nD Cert.PleKernelIdeal.τ).loc Cert.PleKernelIdeal.main_arg5)
      ∧ m' ((c.tc : Thread Cert.PleReferenceIdeal.nD Cert.PleReferenceIdeal.τ).loc Cert.PleReferenceIdeal.main_arg6) = m ((c.tc : Thread Cert.PleKernelIdeal.nD Cert.PleKernelIdeal.τ).loc Cert.PleKernelIdeal.main_arg6)
      ∧ m' ((c.tc : Thread Cert.PleReferenceIdeal.nD Cert.PleReferenceIdeal.τ).loc Cert.PleReferenceIdeal.main_arg7) = m ((c.tc : Thread Cert.PleKernelIdeal.nD Cert.PleKernelIdeal.τ).loc Cert.PleKernelIdeal.main_arg7)
      ∧ m' ((c.tc : Thread Cert.PleReferenceIdeal.nD Cert.PleReferenceIdeal.τ).loc Cert.PleReferenceIdeal.main_arg8) = m ((c.tc : Thread Cert.PleKernelIdeal.nD Cert.PleKernelIdeal.τ).loc Cert.PleKernelIdeal.main_arg8)) →
    ∃ (v0 : (c : Dev Cert.PleKernelIdeal.nD) → Buf (Elt Ideal) ((c.tc : Thread Cert.PleKernelIdeal.nD Cert.PleKernelIdeal.τ).loc Cert.PleKernelIdeal.main_v41_0)) (v1 : (c : Dev Cert.PleKernelIdeal.nD) → Buf (Elt Ideal) ((c.tc : Thread Cert.PleKernelIdeal.nD Cert.PleKernelIdeal.τ).loc Cert.PleKernelIdeal.main_v41_1)) (v2 : (c : Dev Cert.PleKernelIdeal.nD) → Buf (Elt Ideal) ((c.tc : Thread Cert.PleKernelIdeal.nD Cert.PleKernelIdeal.τ).loc Cert.PleKernelIdeal.main_v41_2)) (v3 : (c : Dev Cert.PleKernelIdeal.nD) → Buf (Elt Ideal) ((c.tc : Thread Cert.PleKernelIdeal.nD Cert.PleKernelIdeal.τ).loc Cert.PleKernelIdeal.main_v41_3)) (v4 : (c : Dev Cert.PleKernelIdeal.nD) → Buf (Elt Ideal) ((c.tc : Thread Cert.PleKernelIdeal.nD Cert.PleKernelIdeal.τ).loc Cert.PleKernelIdeal.main_v41_4)) (v5 : (c : Dev Cert.PleKernelIdeal.nD) → Buf (Elt Ideal) ((c.tc : Thread Cert.PleKernelIdeal.nD Cert.PleKernelIdeal.τ).loc Cert.PleKernelIdeal.main_v41_5)),
      θ_run (Cert.PleKernelIdeal.defs (F := Ideal)) (onTc (τ := Cert.PleKernelIdeal.τ) (Cert.PleKernelIdeal.main (F := Ideal))) ⟨m, fun _ => 0, g⟩ (fun r => ∀ c : Dev Cert.PleKernelIdeal.nD,
          r.2.mem ((c.tc : Thread Cert.PleKernelIdeal.nD Cert.PleKernelIdeal.τ).loc Cert.PleKernelIdeal.main_v41_0) = v0 c
          ∧ r.2.mem ((c.tc : Thread Cert.PleKernelIdeal.nD Cert.PleKernelIdeal.τ).loc Cert.PleKernelIdeal.main_v41_1) = v1 c
          ∧ r.2.mem ((c.tc : Thread Cert.PleKernelIdeal.nD Cert.PleKernelIdeal.τ).loc Cert.PleKernelIdeal.main_v41_2) = v2 c
          ∧ r.2.mem ((c.tc : Thread Cert.PleKernelIdeal.nD Cert.PleKernelIdeal.τ).loc Cert.PleKernelIdeal.main_v41_3) = v3 c
          ∧ r.2.mem ((c.tc : Thread Cert.PleKernelIdeal.nD Cert.PleKernelIdeal.τ).loc Cert.PleKernelIdeal.main_v41_4) = v4 c
          ∧ r.2.mem ((c.tc : Thread Cert.PleKernelIdeal.nD Cert.PleKernelIdeal.τ).loc Cert.PleKernelIdeal.main_v41_5) = v5 c
          ∧ r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
          ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
          ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
          ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
          ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
          ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5)
          ∧ r.2.mem ((c.tc : Thread Cert.PleKernelIdeal.nD Cert.PleKernelIdeal.τ).loc Cert.PleKernelIdeal.main_arg6) = m ((c.tc : Thread Cert.PleKernelIdeal.nD Cert.PleKernelIdeal.τ).loc Cert.PleKernelIdeal.main_arg6)
          ∧ r.2.mem ((c.tc : Thread Cert.PleKernelIdeal.nD Cert.PleKernelIdeal.τ).loc Cert.PleKernelIdeal.main_arg7) = m ((c.tc : Thread Cert.PleKernelIdeal.nD Cert.PleKernelIdeal.τ).loc Cert.PleKernelIdeal.main_arg7)
          ∧ r.2.mem ((c.tc : Thread Cert.PleKernelIdeal.nD Cert.PleKernelIdeal.τ).loc Cert.PleKernelIdeal.main_arg8) = m ((c.tc : Thread Cert.PleKernelIdeal.nD Cert.PleKernelIdeal.τ).loc Cert.PleKernelIdeal.main_arg8))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v63) = v0 c
          ∧ r.2.mem ((c.tc : Thread Cert.PleReferenceIdeal.nD Cert.PleReferenceIdeal.τ).loc Cert.PleReferenceIdeal.main_v67) = v1 c
          ∧ r.2.mem ((c.tc : Thread Cert.PleReferenceIdeal.nD Cert.PleReferenceIdeal.τ).loc Cert.PleReferenceIdeal.main_v41) = v2 c
          ∧ r.2.mem ((c.tc : Thread Cert.PleReferenceIdeal.nD Cert.PleReferenceIdeal.τ).loc Cert.PleReferenceIdeal.main_v69) = v3 c
          ∧ r.2.mem ((c.tc : Thread Cert.PleReferenceIdeal.nD Cert.PleReferenceIdeal.τ).loc Cert.PleReferenceIdeal.main_v66) = v4 c
          ∧ r.2.mem ((c.tc : Thread Cert.PleReferenceIdeal.nD Cert.PleReferenceIdeal.τ).loc Cert.PleReferenceIdeal.main_v64) = v5 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5)
          ∧ r.2.mem ((c.tc : Thread Cert.PleReferenceIdeal.nD Cert.PleReferenceIdeal.τ).loc Cert.PleReferenceIdeal.main_arg6) = m' ((c.tc : Thread Cert.PleReferenceIdeal.nD Cert.PleReferenceIdeal.τ).loc Cert.PleReferenceIdeal.main_arg6)
          ∧ r.2.mem ((c.tc : Thread Cert.PleReferenceIdeal.nD Cert.PleReferenceIdeal.τ).loc Cert.PleReferenceIdeal.main_arg7) = m' ((c.tc : Thread Cert.PleReferenceIdeal.nD Cert.PleReferenceIdeal.τ).loc Cert.PleReferenceIdeal.main_arg7)
          ∧ r.2.mem ((c.tc : Thread Cert.PleReferenceIdeal.nD Cert.PleReferenceIdeal.τ).loc Cert.PleReferenceIdeal.main_arg8) = m' ((c.tc : Thread Cert.PleReferenceIdeal.nD Cert.PleReferenceIdeal.τ).loc Cert.PleReferenceIdeal.main_arg8))

def preserves_TailKernel_TailKernelIdeal : Prop :=
  True

def algebraic_TailKernelIdeal_TailReferenceIdeal [hTailKernelIdeal : Cert.TailKernelIdeal.Facts] [hTailReferenceIdeal : Cert.TailReferenceIdeal.Facts] : Prop :=
  ∀ (m : (ℓ : Loc Cert.TailKernelIdeal.nD Cert.TailKernelIdeal.τ Cert.TailKernelIdeal.sig) → Buf (Elt Ideal) ℓ) (g : Dev Cert.TailKernelIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailKernelIdeal m →
    (∀ c : Dev Cert.TailKernelIdeal.nD,
      m' ((c.tc : Thread Cert.TailReferenceIdeal.nD Cert.TailReferenceIdeal.τ).loc Cert.TailReferenceIdeal.main_arg0) = m ((c.tc : Thread Cert.TailKernelIdeal.nD Cert.TailKernelIdeal.τ).loc Cert.TailKernelIdeal.main_arg0)
      ∧ m' ((c.tc : Thread Cert.TailReferenceIdeal.nD Cert.TailReferenceIdeal.τ).loc Cert.TailReferenceIdeal.main_arg1) = m ((c.tc : Thread Cert.TailKernelIdeal.nD Cert.TailKernelIdeal.τ).loc Cert.TailKernelIdeal.main_arg1)
      ∧ m' ((c.tc : Thread Cert.TailReferenceIdeal.nD Cert.TailReferenceIdeal.τ).loc Cert.TailReferenceIdeal.main_arg2) = m ((c.tc : Thread Cert.TailKernelIdeal.nD Cert.TailKernelIdeal.τ).loc Cert.TailKernelIdeal.main_arg2)
      ∧ m' ((c.tc : Thread Cert.TailReferenceIdeal.nD Cert.TailReferenceIdeal.τ).loc Cert.TailReferenceIdeal.main_arg3) = m ((c.tc : Thread Cert.TailKernelIdeal.nD Cert.TailKernelIdeal.τ).loc Cert.TailKernelIdeal.main_arg3)
      ∧ m' ((c.tc : Thread Cert.TailReferenceIdeal.nD Cert.TailReferenceIdeal.τ).loc Cert.TailReferenceIdeal.main_arg4) = m ((c.tc : Thread Cert.TailKernelIdeal.nD Cert.TailKernelIdeal.τ).loc Cert.TailKernelIdeal.main_arg4)
      ∧ m' ((c.tc : Thread Cert.TailReferenceIdeal.nD Cert.TailReferenceIdeal.τ).loc Cert.TailReferenceIdeal.main_arg5) = m ((c.tc : Thread Cert.TailKernelIdeal.nD Cert.TailKernelIdeal.τ).loc Cert.TailKernelIdeal.main_arg5)
      ∧ m' ((c.tc : Thread Cert.TailReferenceIdeal.nD Cert.TailReferenceIdeal.τ).loc Cert.TailReferenceIdeal.main_arg6) = m ((c.tc : Thread Cert.TailKernelIdeal.nD Cert.TailKernelIdeal.τ).loc Cert.TailKernelIdeal.main_arg6)
      ∧ m' ((c.tc : Thread Cert.TailReferenceIdeal.nD Cert.TailReferenceIdeal.τ).loc Cert.TailReferenceIdeal.main_arg7) = m ((c.tc : Thread Cert.TailKernelIdeal.nD Cert.TailKernelIdeal.τ).loc Cert.TailKernelIdeal.main_arg7)
      ∧ m' ((c.tc : Thread Cert.TailReferenceIdeal.nD Cert.TailReferenceIdeal.τ).loc Cert.TailReferenceIdeal.main_arg8) = m ((c.tc : Thread Cert.TailKernelIdeal.nD Cert.TailKernelIdeal.τ).loc Cert.TailKernelIdeal.main_arg8)
      ∧ m' ((c.tc : Thread Cert.TailReferenceIdeal.nD Cert.TailReferenceIdeal.τ).loc Cert.TailReferenceIdeal.main_arg9) = m ((c.tc : Thread Cert.TailKernelIdeal.nD Cert.TailKernelIdeal.τ).loc Cert.TailKernelIdeal.main_arg9)
      ∧ m' ((c.tc : Thread Cert.TailReferenceIdeal.nD Cert.TailReferenceIdeal.τ).loc Cert.TailReferenceIdeal.main_arg10) = m ((c.tc : Thread Cert.TailKernelIdeal.nD Cert.TailKernelIdeal.τ).loc Cert.TailKernelIdeal.main_arg10)
      ∧ m' ((c.tc : Thread Cert.TailReferenceIdeal.nD Cert.TailReferenceIdeal.τ).loc Cert.TailReferenceIdeal.main_arg11) = m ((c.tc : Thread Cert.TailKernelIdeal.nD Cert.TailKernelIdeal.τ).loc Cert.TailKernelIdeal.main_arg11)
      ∧ m' ((c.tc : Thread Cert.TailReferenceIdeal.nD Cert.TailReferenceIdeal.τ).loc Cert.TailReferenceIdeal.main_arg12) = m ((c.tc : Thread Cert.TailKernelIdeal.nD Cert.TailKernelIdeal.τ).loc Cert.TailKernelIdeal.main_arg12)
      ∧ m' ((c.tc : Thread Cert.TailReferenceIdeal.nD Cert.TailReferenceIdeal.τ).loc Cert.TailReferenceIdeal.main_arg13) = m ((c.tc : Thread Cert.TailKernelIdeal.nD Cert.TailKernelIdeal.τ).loc Cert.TailKernelIdeal.main_arg13)
      ∧ m' ((c.tc : Thread Cert.TailReferenceIdeal.nD Cert.TailReferenceIdeal.τ).loc Cert.TailReferenceIdeal.main_arg14) = m ((c.tc : Thread Cert.TailKernelIdeal.nD Cert.TailKernelIdeal.τ).loc Cert.TailKernelIdeal.main_arg14)) →
    ∃ (v0 : (c : Dev Cert.TailKernelIdeal.nD) → Buf (Elt Ideal) ((c.tc : Thread Cert.TailKernelIdeal.nD Cert.TailKernelIdeal.τ).loc Cert.TailKernelIdeal.main_v7_0)) (v1 : (c : Dev Cert.TailKernelIdeal.nD) → Buf (Elt Ideal) ((c.tc : Thread Cert.TailKernelIdeal.nD Cert.TailKernelIdeal.τ).loc Cert.TailKernelIdeal.main_v7_1)) (v2 : (c : Dev Cert.TailKernelIdeal.nD) → Buf (Elt Ideal) ((c.tc : Thread Cert.TailKernelIdeal.nD Cert.TailKernelIdeal.τ).loc Cert.TailKernelIdeal.main_v7_2)) (v3 : (c : Dev Cert.TailKernelIdeal.nD) → Buf (Elt Ideal) ((c.tc : Thread Cert.TailKernelIdeal.nD Cert.TailKernelIdeal.τ).loc Cert.TailKernelIdeal.main_v7_3)) (v4 : (c : Dev Cert.TailKernelIdeal.nD) → Buf (Elt Ideal) ((c.tc : Thread Cert.TailKernelIdeal.nD Cert.TailKernelIdeal.τ).loc Cert.TailKernelIdeal.main_v7_4)) (v5 : (c : Dev Cert.TailKernelIdeal.nD) → Buf (Elt Ideal) ((c.tc : Thread Cert.TailKernelIdeal.nD Cert.TailKernelIdeal.τ).loc Cert.TailKernelIdeal.main_v7_5)) (v6 : (c : Dev Cert.TailKernelIdeal.nD) → Buf (Elt Ideal) ((c.tc : Thread Cert.TailKernelIdeal.nD Cert.TailKernelIdeal.τ).loc Cert.TailKernelIdeal.main_v7_6)) (v7 : (c : Dev Cert.TailKernelIdeal.nD) → Buf (Elt Ideal) ((c.tc : Thread Cert.TailKernelIdeal.nD Cert.TailKernelIdeal.τ).loc Cert.TailKernelIdeal.main_v7_7)),
      θ_run (Cert.TailKernelIdeal.defs (F := Ideal)) (onTc (τ := Cert.TailKernelIdeal.τ) (Cert.TailKernelIdeal.main (F := Ideal))) ⟨m, fun _ => 0, g⟩ (fun r => ∀ c : Dev Cert.TailKernelIdeal.nD,
          r.2.mem ((c.tc : Thread Cert.TailKernelIdeal.nD Cert.TailKernelIdeal.τ).loc Cert.TailKernelIdeal.main_v7_0) = v0 c
          ∧ r.2.mem ((c.tc : Thread Cert.TailKernelIdeal.nD Cert.TailKernelIdeal.τ).loc Cert.TailKernelIdeal.main_v7_1) = v1 c
          ∧ r.2.mem ((c.tc : Thread Cert.TailKernelIdeal.nD Cert.TailKernelIdeal.τ).loc Cert.TailKernelIdeal.main_v7_2) = v2 c
          ∧ r.2.mem ((c.tc : Thread Cert.TailKernelIdeal.nD Cert.TailKernelIdeal.τ).loc Cert.TailKernelIdeal.main_v7_3) = v3 c
          ∧ r.2.mem ((c.tc : Thread Cert.TailKernelIdeal.nD Cert.TailKernelIdeal.τ).loc Cert.TailKernelIdeal.main_v7_4) = v4 c
          ∧ r.2.mem ((c.tc : Thread Cert.TailKernelIdeal.nD Cert.TailKernelIdeal.τ).loc Cert.TailKernelIdeal.main_v7_5) = v5 c
          ∧ r.2.mem ((c.tc : Thread Cert.TailKernelIdeal.nD Cert.TailKernelIdeal.τ).loc Cert.TailKernelIdeal.main_v7_6) = v6 c
          ∧ r.2.mem ((c.tc : Thread Cert.TailKernelIdeal.nD Cert.TailKernelIdeal.τ).loc Cert.TailKernelIdeal.main_v7_7) = v7 c
          ∧ r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
          ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
          ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
          ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
          ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
          ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
          ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
          ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
          ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8)
          ∧ r.2.mem ((c.tc : Thread Cert.TailKernelIdeal.nD Cert.TailKernelIdeal.τ).loc Cert.TailKernelIdeal.main_arg9) = m ((c.tc : Thread Cert.TailKernelIdeal.nD Cert.TailKernelIdeal.τ).loc Cert.TailKernelIdeal.main_arg9)
          ∧ r.2.mem ((c.tc : Thread Cert.TailKernelIdeal.nD Cert.TailKernelIdeal.τ).loc Cert.TailKernelIdeal.main_arg10) = m ((c.tc : Thread Cert.TailKernelIdeal.nD Cert.TailKernelIdeal.τ).loc Cert.TailKernelIdeal.main_arg10)
          ∧ r.2.mem ((c.tc : Thread Cert.TailKernelIdeal.nD Cert.TailKernelIdeal.τ).loc Cert.TailKernelIdeal.main_arg11) = m ((c.tc : Thread Cert.TailKernelIdeal.nD Cert.TailKernelIdeal.τ).loc Cert.TailKernelIdeal.main_arg11)
          ∧ r.2.mem ((c.tc : Thread Cert.TailKernelIdeal.nD Cert.TailKernelIdeal.τ).loc Cert.TailKernelIdeal.main_arg12) = m ((c.tc : Thread Cert.TailKernelIdeal.nD Cert.TailKernelIdeal.τ).loc Cert.TailKernelIdeal.main_arg12)
          ∧ r.2.mem ((c.tc : Thread Cert.TailKernelIdeal.nD Cert.TailKernelIdeal.τ).loc Cert.TailKernelIdeal.main_arg13) = m ((c.tc : Thread Cert.TailKernelIdeal.nD Cert.TailKernelIdeal.τ).loc Cert.TailKernelIdeal.main_arg13)
          ∧ r.2.mem ((c.tc : Thread Cert.TailKernelIdeal.nD Cert.TailKernelIdeal.τ).loc Cert.TailKernelIdeal.main_arg14) = m ((c.tc : Thread Cert.TailKernelIdeal.nD Cert.TailKernelIdeal.τ).loc Cert.TailKernelIdeal.main_arg14))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v25) = v0 c
          ∧ r.2.mem ((c.tc : Thread Cert.TailReferenceIdeal.nD Cert.TailReferenceIdeal.τ).loc Cert.TailReferenceIdeal.main_v123) = v1 c
          ∧ r.2.mem ((c.tc : Thread Cert.TailReferenceIdeal.nD Cert.TailReferenceIdeal.τ).loc Cert.TailReferenceIdeal.main_v45) = v2 c
          ∧ r.2.mem ((c.tc : Thread Cert.TailReferenceIdeal.nD Cert.TailReferenceIdeal.τ).loc Cert.TailReferenceIdeal.main_v124) = v3 c
          ∧ r.2.mem ((c.tc : Thread Cert.TailReferenceIdeal.nD Cert.TailReferenceIdeal.τ).loc Cert.TailReferenceIdeal.main_v125) = v4 c
          ∧ r.2.mem ((c.tc : Thread Cert.TailReferenceIdeal.nD Cert.TailReferenceIdeal.τ).loc Cert.TailReferenceIdeal.main_v121) = v5 c
          ∧ r.2.mem ((c.tc : Thread Cert.TailReferenceIdeal.nD Cert.TailReferenceIdeal.τ).loc Cert.TailReferenceIdeal.main_v126) = v6 c
          ∧ r.2.mem ((c.tc : Thread Cert.TailReferenceIdeal.nD Cert.TailReferenceIdeal.τ).loc Cert.TailReferenceIdeal.main_v122) = v7 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11)
          ∧ r.2.mem ((c.tc : Thread Cert.TailReferenceIdeal.nD Cert.TailReferenceIdeal.τ).loc Cert.TailReferenceIdeal.main_arg12) = m' ((c.tc : Thread Cert.TailReferenceIdeal.nD Cert.TailReferenceIdeal.τ).loc Cert.TailReferenceIdeal.main_arg12)
          ∧ r.2.mem ((c.tc : Thread Cert.TailReferenceIdeal.nD Cert.TailReferenceIdeal.τ).loc Cert.TailReferenceIdeal.main_arg13) = m' ((c.tc : Thread Cert.TailReferenceIdeal.nD Cert.TailReferenceIdeal.τ).loc Cert.TailReferenceIdeal.main_arg13)
          ∧ r.2.mem ((c.tc : Thread Cert.TailReferenceIdeal.nD Cert.TailReferenceIdeal.τ).loc Cert.TailReferenceIdeal.main_arg14) = m' ((c.tc : Thread Cert.TailReferenceIdeal.nD Cert.TailReferenceIdeal.τ).loc Cert.TailReferenceIdeal.main_arg14))

def preserves_InDwKernel_InDwKernelIdeal : Prop :=
  True

def algebraic_InDwKernelIdeal_InDwReferenceIdeal [hInDwKernelIdeal : Cert.InDwKernelIdeal.Facts] [hInDwReferenceIdeal : Cert.InDwReferenceIdeal.Facts] : Prop :=
  ∀ (m : (ℓ : Loc Cert.InDwKernelIdeal.nD Cert.InDwKernelIdeal.τ Cert.InDwKernelIdeal.sig) → Buf (Elt Ideal) ℓ) (g : Dev Cert.InDwKernelIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwKernelIdeal m →
    (∀ c : Dev Cert.InDwKernelIdeal.nD,
      m' ((c.tc : Thread Cert.InDwReferenceIdeal.nD Cert.InDwReferenceIdeal.τ).loc Cert.InDwReferenceIdeal.main_arg0) = m ((c.tc : Thread Cert.InDwKernelIdeal.nD Cert.InDwKernelIdeal.τ).loc Cert.InDwKernelIdeal.main_arg0)
      ∧ m' ((c.tc : Thread Cert.InDwReferenceIdeal.nD Cert.InDwReferenceIdeal.τ).loc Cert.InDwReferenceIdeal.main_arg1) = m ((c.tc : Thread Cert.InDwKernelIdeal.nD Cert.InDwKernelIdeal.τ).loc Cert.InDwKernelIdeal.main_arg1)
      ∧ m' ((c.tc : Thread Cert.InDwReferenceIdeal.nD Cert.InDwReferenceIdeal.τ).loc Cert.InDwReferenceIdeal.main_arg2) = m ((c.tc : Thread Cert.InDwKernelIdeal.nD Cert.InDwKernelIdeal.τ).loc Cert.InDwKernelIdeal.main_arg2)) →
    ∃ (v0 : (c : Dev Cert.InDwKernelIdeal.nD) → Buf (Elt Ideal) ((c.tc : Thread Cert.InDwKernelIdeal.nD Cert.InDwKernelIdeal.τ).loc Cert.InDwKernelIdeal.main_v16)),
      θ_run (Cert.InDwKernelIdeal.defs (F := Ideal)) (onTc (τ := Cert.InDwKernelIdeal.τ) (Cert.InDwKernelIdeal.main (F := Ideal))) ⟨m, fun _ => 0, g⟩ (fun r => ∀ c : Dev Cert.InDwKernelIdeal.nD,
          r.2.mem ((c.tc : Thread Cert.InDwKernelIdeal.nD Cert.InDwKernelIdeal.τ).loc Cert.InDwKernelIdeal.main_v16) = v0 c
          ∧ r.2.mem ((c.tc : Thread Cert.InDwKernelIdeal.nD Cert.InDwKernelIdeal.τ).loc Cert.InDwKernelIdeal.main_arg0) = m ((c.tc : Thread Cert.InDwKernelIdeal.nD Cert.InDwKernelIdeal.τ).loc Cert.InDwKernelIdeal.main_arg0)
          ∧ r.2.mem ((c.tc : Thread Cert.InDwKernelIdeal.nD Cert.InDwKernelIdeal.τ).loc Cert.InDwKernelIdeal.main_arg1) = m ((c.tc : Thread Cert.InDwKernelIdeal.nD Cert.InDwKernelIdeal.τ).loc Cert.InDwKernelIdeal.main_arg1)
          ∧ r.2.mem ((c.tc : Thread Cert.InDwKernelIdeal.nD Cert.InDwKernelIdeal.τ).loc Cert.InDwKernelIdeal.main_arg2) = m ((c.tc : Thread Cert.InDwKernelIdeal.nD Cert.InDwKernelIdeal.τ).loc Cert.InDwKernelIdeal.main_arg2))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v19) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1)
          ∧ r.2.mem ((c.tc : Thread Cert.InDwReferenceIdeal.nD Cert.InDwReferenceIdeal.τ).loc Cert.InDwReferenceIdeal.main_arg2) = m' ((c.tc : Thread Cert.InDwReferenceIdeal.nD Cert.InDwReferenceIdeal.τ).loc Cert.InDwReferenceIdeal.main_arg2))

def preserves_AdamwKernel_AdamwKernelIdeal : Prop :=
  True

def algebraic_AdamwKernelIdeal_AdamwReferenceIdeal [hAdamwKernelIdeal : Cert.AdamwKernelIdeal.Facts] [hAdamwReferenceIdeal : Cert.AdamwReferenceIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg)
    (m' : (ℓ : Loc Cert.AdamwReferenceIdeal.nD Cert.AdamwReferenceIdeal.τ Cert.AdamwReferenceIdeal.sig) → Buf (Elt Ideal) ℓ) (g' : Dev Cert.AdamwReferenceIdeal.nD → PrngReg), Pre_AdamwKernelIdeal m →
    (∀ c : Dev Cert.AdamwKernelIdeal.nD,
      m' ((c.tc : Thread Cert.AdamwReferenceIdeal.nD Cert.AdamwReferenceIdeal.τ).loc Cert.AdamwReferenceIdeal.main_arg0) = m ((c.tc : Thread Cert.AdamwKernelIdeal.nD Cert.AdamwKernelIdeal.τ).loc Cert.AdamwKernelIdeal.main_arg0)
      ∧ m' ((c.tc : Thread Cert.AdamwReferenceIdeal.nD Cert.AdamwReferenceIdeal.τ).loc Cert.AdamwReferenceIdeal.main_arg1) = m ((c.tc : Thread Cert.AdamwKernelIdeal.nD Cert.AdamwKernelIdeal.τ).loc Cert.AdamwKernelIdeal.main_arg1)
      ∧ m' ((c.tc : Thread Cert.AdamwReferenceIdeal.nD Cert.AdamwReferenceIdeal.τ).loc Cert.AdamwReferenceIdeal.main_arg2) = m ((c.tc : Thread Cert.AdamwKernelIdeal.nD Cert.AdamwKernelIdeal.τ).loc Cert.AdamwKernelIdeal.main_arg2)
      ∧ m' ((c.tc : Thread Cert.AdamwReferenceIdeal.nD Cert.AdamwReferenceIdeal.τ).loc Cert.AdamwReferenceIdeal.main_arg3) = m ((c.tc : Thread Cert.AdamwKernelIdeal.nD Cert.AdamwKernelIdeal.τ).loc Cert.AdamwKernelIdeal.main_arg3)) →
    ∃ (v0 : (c : Dev Cert.AdamwKernelIdeal.nD) → Buf (Elt Ideal) ((c.tc : Thread Cert.AdamwKernelIdeal.nD Cert.AdamwKernelIdeal.τ).loc Cert.AdamwKernelIdeal.main_v0_0)) (v1 : (c : Dev Cert.AdamwKernelIdeal.nD) → Buf (Elt Ideal) ((c.tc : Thread Cert.AdamwKernelIdeal.nD Cert.AdamwKernelIdeal.τ).loc Cert.AdamwKernelIdeal.main_v0_1)) (v2 : (c : Dev Cert.AdamwKernelIdeal.nD) → Buf (Elt Ideal) ((c.tc : Thread Cert.AdamwKernelIdeal.nD Cert.AdamwKernelIdeal.τ).loc Cert.AdamwKernelIdeal.main_v0_2)) (v3 : (c : Dev Cert.AdamwKernelIdeal.nD) → Buf (Elt Ideal) ((c.tc : Thread Cert.AdamwKernelIdeal.nD Cert.AdamwKernelIdeal.τ).loc Cert.AdamwKernelIdeal.main_v0_3)),
      θ_run (Cert.AdamwKernelIdeal.defs (F := Ideal)) (onTc (τ := Cert.AdamwKernelIdeal.τ) (Cert.AdamwKernelIdeal.main (F := Ideal))) ⟨m, fun _ => 0, g⟩ (fun r => ∀ c : Dev Cert.AdamwKernelIdeal.nD,
          r.2.mem ((c.tc : Thread Cert.AdamwKernelIdeal.nD Cert.AdamwKernelIdeal.τ).loc Cert.AdamwKernelIdeal.main_v0_0) = v0 c
          ∧ r.2.mem ((c.tc : Thread Cert.AdamwKernelIdeal.nD Cert.AdamwKernelIdeal.τ).loc Cert.AdamwKernelIdeal.main_v0_1) = v1 c
          ∧ r.2.mem ((c.tc : Thread Cert.AdamwKernelIdeal.nD Cert.AdamwKernelIdeal.τ).loc Cert.AdamwKernelIdeal.main_v0_2) = v2 c
          ∧ r.2.mem ((c.tc : Thread Cert.AdamwKernelIdeal.nD Cert.AdamwKernelIdeal.τ).loc Cert.AdamwKernelIdeal.main_v0_3) = v3 c
          ∧ r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
          ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
          ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
          ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3))
      ∧ θ_run (Cert.AdamwReferenceIdeal.defs (F := Ideal)) (onTc (τ := Cert.AdamwReferenceIdeal.τ) (Cert.AdamwReferenceIdeal.main (F := Ideal))) ⟨m', fun _ => 0, g'⟩ (fun r => ∀ c : Dev Cert.AdamwReferenceIdeal.nD,
          r.2.mem ((c.tc : Thread Cert.AdamwReferenceIdeal.nD Cert.AdamwReferenceIdeal.τ).loc Cert.AdamwReferenceIdeal.main_arg1) = v0 c
          ∧ r.2.mem ((c.tc : Thread Cert.AdamwReferenceIdeal.nD Cert.AdamwReferenceIdeal.τ).loc Cert.AdamwReferenceIdeal.main_v23) = v1 c
          ∧ r.2.mem ((c.tc : Thread Cert.AdamwReferenceIdeal.nD Cert.AdamwReferenceIdeal.τ).loc Cert.AdamwReferenceIdeal.main_v4) = v2 c
          ∧ r.2.mem ((c.tc : Thread Cert.AdamwReferenceIdeal.nD Cert.AdamwReferenceIdeal.τ).loc Cert.AdamwReferenceIdeal.main_v10) = v3 c
          ∧ r.2.mem ((c.tc : Thread Cert.AdamwReferenceIdeal.nD Cert.AdamwReferenceIdeal.τ).loc Cert.AdamwReferenceIdeal.main_arg0) = m' ((c.tc : Thread Cert.AdamwReferenceIdeal.nD Cert.AdamwReferenceIdeal.τ).loc Cert.AdamwReferenceIdeal.main_arg0)
          ∧ r.2.mem ((c.tc : Thread Cert.AdamwReferenceIdeal.nD Cert.AdamwReferenceIdeal.τ).loc Cert.AdamwReferenceIdeal.main_arg1) = m' ((c.tc : Thread Cert.AdamwReferenceIdeal.nD Cert.AdamwReferenceIdeal.τ).loc Cert.AdamwReferenceIdeal.main_arg1)
          ∧ r.2.mem ((c.tc : Thread Cert.AdamwReferenceIdeal.nD Cert.AdamwReferenceIdeal.τ).loc Cert.AdamwReferenceIdeal.main_arg2) = m' ((c.tc : Thread Cert.AdamwReferenceIdeal.nD Cert.AdamwReferenceIdeal.τ).loc Cert.AdamwReferenceIdeal.main_arg2)
          ∧ r.2.mem ((c.tc : Thread Cert.AdamwReferenceIdeal.nD Cert.AdamwReferenceIdeal.τ).loc Cert.AdamwReferenceIdeal.main_arg3) = m' ((c.tc : Thread Cert.AdamwReferenceIdeal.nD Cert.AdamwReferenceIdeal.τ).loc Cert.AdamwReferenceIdeal.main_arg3))

def preserves_TapsKernel_TapsKernelIdeal : Prop :=
  True

def algebraic_TapsKernelIdeal_TapsReferenceIdeal [hTapsKernelIdeal : Cert.TapsKernelIdeal.Facts] [hTapsReferenceIdeal : Cert.TapsReferenceIdeal.Facts] : Prop :=
  ∀ (m : (ℓ : Loc Cert.TapsKernelIdeal.nD Cert.TapsKernelIdeal.τ Cert.TapsKernelIdeal.sig) → Buf (Elt Ideal) ℓ) (g : Dev Cert.TapsKernelIdeal.nD → PrngReg)
    (m' : (ℓ : Loc Cert.TapsReferenceIdeal.nD Cert.TapsReferenceIdeal.τ Cert.TapsReferenceIdeal.sig) → Buf (Elt Ideal) ℓ) (g' : Dev Cert.TapsReferenceIdeal.nD → PrngReg), Pre_TapsKernelIdeal m →
    (∀ c : Dev Cert.TapsKernelIdeal.nD,
      m' ((c.tc : Thread Cert.TapsReferenceIdeal.nD Cert.TapsReferenceIdeal.τ).loc Cert.TapsReferenceIdeal.main_arg0) = m ((c.tc : Thread Cert.TapsKernelIdeal.nD Cert.TapsKernelIdeal.τ).loc Cert.TapsKernelIdeal.main_arg0)
      ∧ m' ((c.tc : Thread Cert.TapsReferenceIdeal.nD Cert.TapsReferenceIdeal.τ).loc Cert.TapsReferenceIdeal.main_arg1) = m ((c.tc : Thread Cert.TapsKernelIdeal.nD Cert.TapsKernelIdeal.τ).loc Cert.TapsKernelIdeal.main_arg1)
      ∧ m' ((c.tc : Thread Cert.TapsReferenceIdeal.nD Cert.TapsReferenceIdeal.τ).loc Cert.TapsReferenceIdeal.main_arg2) = m ((c.tc : Thread Cert.TapsKernelIdeal.nD Cert.TapsKernelIdeal.τ).loc Cert.TapsKernelIdeal.main_arg2)
      ∧ m' ((c.tc : Thread Cert.TapsReferenceIdeal.nD Cert.TapsReferenceIdeal.τ).loc Cert.TapsReferenceIdeal.main_arg3) = m ((c.tc : Thread Cert.TapsKernelIdeal.nD Cert.TapsKernelIdeal.τ).loc Cert.TapsKernelIdeal.main_arg3)) →
    ∃ (v0 : (c : Dev Cert.TapsKernelIdeal.nD) → Buf (Elt Ideal) ((c.tc : Thread Cert.TapsKernelIdeal.nD Cert.TapsKernelIdeal.τ).loc Cert.TapsKernelIdeal.main_v0_0)) (v1 : (c : Dev Cert.TapsKernelIdeal.nD) → Buf (Elt Ideal) ((c.tc : Thread Cert.TapsKernelIdeal.nD Cert.TapsKernelIdeal.τ).loc Cert.TapsKernelIdeal.main_v0_1)) (v2 : (c : Dev Cert.TapsKernelIdeal.nD) → Buf (Elt Ideal) ((c.tc : Thread Cert.TapsKernelIdeal.nD Cert.TapsKernelIdeal.τ).loc Cert.TapsKernelIdeal.main_v0_2)) (v3 : (c : Dev Cert.TapsKernelIdeal.nD) → Buf (Elt Ideal) ((c.tc : Thread Cert.TapsKernelIdeal.nD Cert.TapsKernelIdeal.τ).loc Cert.TapsKernelIdeal.main_v0_3)),
      θ_run (Cert.TapsKernelIdeal.defs (F := Ideal)) (onTc (τ := Cert.TapsKernelIdeal.τ) (Cert.TapsKernelIdeal.main (F := Ideal))) ⟨m, fun _ => 0, g⟩ (fun r => ∀ c : Dev Cert.TapsKernelIdeal.nD,
          r.2.mem ((c.tc : Thread Cert.TapsKernelIdeal.nD Cert.TapsKernelIdeal.τ).loc Cert.TapsKernelIdeal.main_v0_0) = v0 c
          ∧ r.2.mem ((c.tc : Thread Cert.TapsKernelIdeal.nD Cert.TapsKernelIdeal.τ).loc Cert.TapsKernelIdeal.main_v0_1) = v1 c
          ∧ r.2.mem ((c.tc : Thread Cert.TapsKernelIdeal.nD Cert.TapsKernelIdeal.τ).loc Cert.TapsKernelIdeal.main_v0_2) = v2 c
          ∧ r.2.mem ((c.tc : Thread Cert.TapsKernelIdeal.nD Cert.TapsKernelIdeal.τ).loc Cert.TapsKernelIdeal.main_v0_3) = v3 c
          ∧ r.2.mem ((c.tc : Thread Cert.TapsKernelIdeal.nD Cert.TapsKernelIdeal.τ).loc Cert.TapsKernelIdeal.main_arg0) = m ((c.tc : Thread Cert.TapsKernelIdeal.nD Cert.TapsKernelIdeal.τ).loc Cert.TapsKernelIdeal.main_arg0)
          ∧ r.2.mem ((c.tc : Thread Cert.TapsKernelIdeal.nD Cert.TapsKernelIdeal.τ).loc Cert.TapsKernelIdeal.main_arg1) = m ((c.tc : Thread Cert.TapsKernelIdeal.nD Cert.TapsKernelIdeal.τ).loc Cert.TapsKernelIdeal.main_arg1)
          ∧ r.2.mem ((c.tc : Thread Cert.TapsKernelIdeal.nD Cert.TapsKernelIdeal.τ).loc Cert.TapsKernelIdeal.main_arg2) = m ((c.tc : Thread Cert.TapsKernelIdeal.nD Cert.TapsKernelIdeal.τ).loc Cert.TapsKernelIdeal.main_arg2)
          ∧ r.2.mem ((c.tc : Thread Cert.TapsKernelIdeal.nD Cert.TapsKernelIdeal.τ).loc Cert.TapsKernelIdeal.main_arg3) = m ((c.tc : Thread Cert.TapsKernelIdeal.nD Cert.TapsKernelIdeal.τ).loc Cert.TapsKernelIdeal.main_arg3))
      ∧ θ_run (Cert.TapsReferenceIdeal.defs (F := Ideal)) (onTc (τ := Cert.TapsReferenceIdeal.τ) (Cert.TapsReferenceIdeal.main (F := Ideal))) ⟨m', fun _ => 0, g'⟩ (fun r => ∀ c : Dev Cert.TapsReferenceIdeal.nD,
          r.2.mem ((c.tc : Thread Cert.TapsReferenceIdeal.nD Cert.TapsReferenceIdeal.τ).loc Cert.TapsReferenceIdeal.main_v0) = v0 c
          ∧ r.2.mem ((c.tc : Thread Cert.TapsReferenceIdeal.nD Cert.TapsReferenceIdeal.τ).loc Cert.TapsReferenceIdeal.main_v24) = v1 c
          ∧ r.2.mem ((c.tc : Thread Cert.TapsReferenceIdeal.nD Cert.TapsReferenceIdeal.τ).loc Cert.TapsReferenceIdeal.main_v5) = v2 c
          ∧ r.2.mem ((c.tc : Thread Cert.TapsReferenceIdeal.nD Cert.TapsReferenceIdeal.τ).loc Cert.TapsReferenceIdeal.main_v11) = v3 c
          ∧ r.2.mem ((c.tc : Thread Cert.TapsReferenceIdeal.nD Cert.TapsReferenceIdeal.τ).loc Cert.TapsReferenceIdeal.main_arg0) = m' ((c.tc : Thread Cert.TapsReferenceIdeal.nD Cert.TapsReferenceIdeal.τ).loc Cert.TapsReferenceIdeal.main_arg0)
          ∧ r.2.mem ((c.tc : Thread Cert.TapsReferenceIdeal.nD Cert.TapsReferenceIdeal.τ).loc Cert.TapsReferenceIdeal.main_arg1) = m' ((c.tc : Thread Cert.TapsReferenceIdeal.nD Cert.TapsReferenceIdeal.τ).loc Cert.TapsReferenceIdeal.main_arg1)
          ∧ r.2.mem ((c.tc : Thread Cert.TapsReferenceIdeal.nD Cert.TapsReferenceIdeal.τ).loc Cert.TapsReferenceIdeal.main_arg2) = m' ((c.tc : Thread Cert.TapsReferenceIdeal.nD Cert.TapsReferenceIdeal.τ).loc Cert.TapsReferenceIdeal.main_arg2)
          ∧ r.2.mem ((c.tc : Thread Cert.TapsReferenceIdeal.nD Cert.TapsReferenceIdeal.τ).loc Cert.TapsReferenceIdeal.main_arg3) = m' ((c.tc : Thread Cert.TapsReferenceIdeal.nD Cert.TapsReferenceIdeal.τ).loc Cert.TapsReferenceIdeal.main_arg3))

def preserves_RmsInKernel_RmsInKernelIdeal : Prop :=
  True

def algebraic_RmsInKernelIdeal_RmsInReferenceIdeal [hRmsInKernelIdeal : Cert.RmsInKernelIdeal.Facts] [hRmsInReferenceIdeal : Cert.RmsInReferenceIdeal.Facts] : Prop :=
  ∀ (m : (ℓ : Loc Cert.RmsInKernelIdeal.nD Cert.RmsInKernelIdeal.τ Cert.RmsInKernelIdeal.sig) → Buf (Elt Ideal) ℓ) (g : Dev Cert.RmsInKernelIdeal.nD → PrngReg)
    (m' : (ℓ : Loc Cert.RmsInReferenceIdeal.nD Cert.RmsInReferenceIdeal.τ Cert.RmsInReferenceIdeal.sig) → Buf (Elt Ideal) ℓ) (g' : Dev Cert.RmsInReferenceIdeal.nD → PrngReg), Pre_RmsInKernelIdeal m →
    (∀ c : Dev Cert.RmsInKernelIdeal.nD,
      m' ((c.tc : Thread Cert.RmsInReferenceIdeal.nD Cert.RmsInReferenceIdeal.τ).loc Cert.RmsInReferenceIdeal.main_arg0) = m ((c.tc : Thread Cert.RmsInKernelIdeal.nD Cert.RmsInKernelIdeal.τ).loc Cert.RmsInKernelIdeal.main_arg0)
      ∧ m' ((c.tc : Thread Cert.RmsInReferenceIdeal.nD Cert.RmsInReferenceIdeal.τ).loc Cert.RmsInReferenceIdeal.main_arg1) = m ((c.tc : Thread Cert.RmsInKernelIdeal.nD Cert.RmsInKernelIdeal.τ).loc Cert.RmsInKernelIdeal.main_arg1)
      ∧ m' ((c.tc : Thread Cert.RmsInReferenceIdeal.nD Cert.RmsInReferenceIdeal.τ).loc Cert.RmsInReferenceIdeal.main_arg2) = m ((c.tc : Thread Cert.RmsInKernelIdeal.nD Cert.RmsInKernelIdeal.τ).loc Cert.RmsInKernelIdeal.main_arg2)) →
    ∃ (v0 : (c : Dev Cert.RmsInKernelIdeal.nD) → Buf (Elt Ideal) ((c.tc : Thread Cert.RmsInKernelIdeal.nD Cert.RmsInKernelIdeal.τ).loc Cert.RmsInKernelIdeal.main_v3_0)) (v1 : (c : Dev Cert.RmsInKernelIdeal.nD) → Buf (Elt Ideal) ((c.tc : Thread Cert.RmsInKernelIdeal.nD Cert.RmsInKernelIdeal.τ).loc Cert.RmsInKernelIdeal.main_v3_1)),
      θ_run (Cert.RmsInKernelIdeal.defs (F := Ideal)) (onTc (τ := Cert.RmsInKernelIdeal.τ) (Cert.RmsInKernelIdeal.main (F := Ideal))) ⟨m, fun _ => 0, g⟩ (fun r => ∀ c : Dev Cert.RmsInKernelIdeal.nD,
          r.2.mem ((c.tc : Thread Cert.RmsInKernelIdeal.nD Cert.RmsInKernelIdeal.τ).loc Cert.RmsInKernelIdeal.main_v3_0) = v0 c
          ∧ r.2.mem ((c.tc : Thread Cert.RmsInKernelIdeal.nD Cert.RmsInKernelIdeal.τ).loc Cert.RmsInKernelIdeal.main_v3_1) = v1 c
          ∧ r.2.mem ((c.tc : Thread Cert.RmsInKernelIdeal.nD Cert.RmsInKernelIdeal.τ).loc Cert.RmsInKernelIdeal.main_arg0) = m ((c.tc : Thread Cert.RmsInKernelIdeal.nD Cert.RmsInKernelIdeal.τ).loc Cert.RmsInKernelIdeal.main_arg0)
          ∧ r.2.mem ((c.tc : Thread Cert.RmsInKernelIdeal.nD Cert.RmsInKernelIdeal.τ).loc Cert.RmsInKernelIdeal.main_arg1) = m ((c.tc : Thread Cert.RmsInKernelIdeal.nD Cert.RmsInKernelIdeal.τ).loc Cert.RmsInKernelIdeal.main_arg1)
          ∧ r.2.mem ((c.tc : Thread Cert.RmsInKernelIdeal.nD Cert.RmsInKernelIdeal.τ).loc Cert.RmsInKernelIdeal.main_arg2) = m ((c.tc : Thread Cert.RmsInKernelIdeal.nD Cert.RmsInKernelIdeal.τ).loc Cert.RmsInKernelIdeal.main_arg2))
      ∧ θ_run (Cert.RmsInReferenceIdeal.defs (F := Ideal)) (onTc (τ := Cert.RmsInReferenceIdeal.τ) (Cert.RmsInReferenceIdeal.main (F := Ideal))) ⟨m', fun _ => 0, g'⟩ (fun r => ∀ c : Dev Cert.RmsInReferenceIdeal.nD,
          r.2.mem ((c.tc : Thread Cert.RmsInReferenceIdeal.nD Cert.RmsInReferenceIdeal.τ).loc Cert.RmsInReferenceIdeal.main_v14) = v0 c
          ∧ r.2.mem ((c.tc : Thread Cert.RmsInReferenceIdeal.nD Cert.RmsInReferenceIdeal.τ).loc Cert.RmsInReferenceIdeal.main_v15) = v1 c
          ∧ r.2.mem ((c.tc : Thread Cert.RmsInReferenceIdeal.nD Cert.RmsInReferenceIdeal.τ).loc Cert.RmsInReferenceIdeal.main_arg0) = m' ((c.tc : Thread Cert.RmsInReferenceIdeal.nD Cert.RmsInReferenceIdeal.τ).loc Cert.RmsInReferenceIdeal.main_arg0)
          ∧ r.2.mem ((c.tc : Thread Cert.RmsInReferenceIdeal.nD Cert.RmsInReferenceIdeal.τ).loc Cert.RmsInReferenceIdeal.main_arg1) = m' ((c.tc : Thread Cert.RmsInReferenceIdeal.nD Cert.RmsInReferenceIdeal.τ).loc Cert.RmsInReferenceIdeal.main_arg1)
          ∧ r.2.mem ((c.tc : Thread Cert.RmsInReferenceIdeal.nD Cert.RmsInReferenceIdeal.τ).loc Cert.RmsInReferenceIdeal.main_arg2) = m' ((c.tc : Thread Cert.RmsInReferenceIdeal.nD Cert.RmsInReferenceIdeal.τ).loc Cert.RmsInReferenceIdeal.main_arg2))

def preserves_MidKernel_MidKernelIdeal : Prop :=
  True

def algebraic_MidKernelIdeal_MidReferenceIdeal [hMidKernelIdeal : Cert.MidKernelIdeal.Facts] [hMidReferenceIdeal : Cert.MidReferenceIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidKernelIdeal m →
    (∀ c : Dev Cert.MidKernelIdeal.nD,
      m' ((c.tc : Thread Cert.MidReferenceIdeal.nD Cert.MidReferenceIdeal.τ).loc Cert.MidReferenceIdeal.main_arg0) = m ((c.tc : Thread Cert.MidKernelIdeal.nD Cert.MidKernelIdeal.τ).loc Cert.MidKernelIdeal.main_arg0)
      ∧ m' ((c.tc : Thread Cert.MidReferenceIdeal.nD Cert.MidReferenceIdeal.τ).loc Cert.MidReferenceIdeal.main_arg1) = m ((c.tc : Thread Cert.MidKernelIdeal.nD Cert.MidKernelIdeal.τ).loc Cert.MidKernelIdeal.main_arg1)
      ∧ m' ((c.tc : Thread Cert.MidReferenceIdeal.nD Cert.MidReferenceIdeal.τ).loc Cert.MidReferenceIdeal.main_arg2) = m ((c.tc : Thread Cert.MidKernelIdeal.nD Cert.MidKernelIdeal.τ).loc Cert.MidKernelIdeal.main_arg2)
      ∧ m' ((c.tc : Thread Cert.MidReferenceIdeal.nD Cert.MidReferenceIdeal.τ).loc Cert.MidReferenceIdeal.main_arg3) = m ((c.tc : Thread Cert.MidKernelIdeal.nD Cert.MidKernelIdeal.τ).loc Cert.MidKernelIdeal.main_arg3)
      ∧ m' ((c.tc : Thread Cert.MidReferenceIdeal.nD Cert.MidReferenceIdeal.τ).loc Cert.MidReferenceIdeal.main_arg4) = m ((c.tc : Thread Cert.MidKernelIdeal.nD Cert.MidKernelIdeal.τ).loc Cert.MidKernelIdeal.main_arg4)
      ∧ m' ((c.tc : Thread Cert.MidReferenceIdeal.nD Cert.MidReferenceIdeal.τ).loc Cert.MidReferenceIdeal.main_arg5) = m ((c.tc : Thread Cert.MidKernelIdeal.nD Cert.MidKernelIdeal.τ).loc Cert.MidKernelIdeal.main_arg5)
      ∧ m' ((c.tc : Thread Cert.MidReferenceIdeal.nD Cert.MidReferenceIdeal.τ).loc Cert.MidReferenceIdeal.main_arg6) = m ((c.tc : Thread Cert.MidKernelIdeal.nD Cert.MidKernelIdeal.τ).loc Cert.MidKernelIdeal.main_arg6)
      ∧ m' ((c.tc : Thread Cert.MidReferenceIdeal.nD Cert.MidReferenceIdeal.τ).loc Cert.MidReferenceIdeal.main_arg7) = m ((c.tc : Thread Cert.MidKernelIdeal.nD Cert.MidKernelIdeal.τ).loc Cert.MidKernelIdeal.main_arg7)
      ∧ m' ((c.tc : Thread Cert.MidReferenceIdeal.nD Cert.MidReferenceIdeal.τ).loc Cert.MidReferenceIdeal.main_arg8) = m ((c.tc : Thread Cert.MidKernelIdeal.nD Cert.MidKernelIdeal.τ).loc Cert.MidKernelIdeal.main_arg8)
      ∧ m' ((c.tc : Thread Cert.MidReferenceIdeal.nD Cert.MidReferenceIdeal.τ).loc Cert.MidReferenceIdeal.main_arg9) = m ((c.tc : Thread Cert.MidKernelIdeal.nD Cert.MidKernelIdeal.τ).loc Cert.MidKernelIdeal.main_arg9)
      ∧ m' ((c.tc : Thread Cert.MidReferenceIdeal.nD Cert.MidReferenceIdeal.τ).loc Cert.MidReferenceIdeal.main_arg10) = m ((c.tc : Thread Cert.MidKernelIdeal.nD Cert.MidKernelIdeal.τ).loc Cert.MidKernelIdeal.main_arg10)
      ∧ m' ((c.tc : Thread Cert.MidReferenceIdeal.nD Cert.MidReferenceIdeal.τ).loc Cert.MidReferenceIdeal.main_arg11) = m ((c.tc : Thread Cert.MidKernelIdeal.nD Cert.MidKernelIdeal.τ).loc Cert.MidKernelIdeal.main_arg11)
      ∧ m' ((c.tc : Thread Cert.MidReferenceIdeal.nD Cert.MidReferenceIdeal.τ).loc Cert.MidReferenceIdeal.main_arg12) = m ((c.tc : Thread Cert.MidKernelIdeal.nD Cert.MidKernelIdeal.τ).loc Cert.MidKernelIdeal.main_arg12)) →
    ∃ (v0 : (c : Dev Cert.MidKernelIdeal.nD) → Buf (Elt Ideal) ((c.tc : Thread Cert.MidKernelIdeal.nD Cert.MidKernelIdeal.τ).loc Cert.MidKernelIdeal.main_v7_0)) (v1 : (c : Dev Cert.MidKernelIdeal.nD) → Buf (Elt Ideal) ((c.tc : Thread Cert.MidKernelIdeal.nD Cert.MidKernelIdeal.τ).loc Cert.MidKernelIdeal.main_v7_1)) (v2 : (c : Dev Cert.MidKernelIdeal.nD) → Buf (Elt Ideal) ((c.tc : Thread Cert.MidKernelIdeal.nD Cert.MidKernelIdeal.τ).loc Cert.MidKernelIdeal.main_v7_2)) (v3 : (c : Dev Cert.MidKernelIdeal.nD) → Buf (Elt Ideal) ((c.tc : Thread Cert.MidKernelIdeal.nD Cert.MidKernelIdeal.τ).loc Cert.MidKernelIdeal.main_v7_3)) (v4 : (c : Dev Cert.MidKernelIdeal.nD) → Buf (Elt Ideal) ((c.tc : Thread Cert.MidKernelIdeal.nD Cert.MidKernelIdeal.τ).loc Cert.MidKernelIdeal.main_v7_4)) (v5 : (c : Dev Cert.MidKernelIdeal.nD) → Buf (Elt Ideal) ((c.tc : Thread Cert.MidKernelIdeal.nD Cert.MidKernelIdeal.τ).loc Cert.MidKernelIdeal.main_v7_5)),
      θ_run (Cert.MidKernelIdeal.defs (F := Ideal)) (onTc (τ := Cert.MidKernelIdeal.τ) (Cert.MidKernelIdeal.main (F := Ideal))) ⟨m, fun _ => 0, g⟩ (fun r => ∀ c : Dev Cert.MidKernelIdeal.nD,
          r.2.mem ((c.tc : Thread Cert.MidKernelIdeal.nD Cert.MidKernelIdeal.τ).loc Cert.MidKernelIdeal.main_v7_0) = v0 c
          ∧ r.2.mem ((c.tc : Thread Cert.MidKernelIdeal.nD Cert.MidKernelIdeal.τ).loc Cert.MidKernelIdeal.main_v7_1) = v1 c
          ∧ r.2.mem ((c.tc : Thread Cert.MidKernelIdeal.nD Cert.MidKernelIdeal.τ).loc Cert.MidKernelIdeal.main_v7_2) = v2 c
          ∧ r.2.mem ((c.tc : Thread Cert.MidKernelIdeal.nD Cert.MidKernelIdeal.τ).loc Cert.MidKernelIdeal.main_v7_3) = v3 c
          ∧ r.2.mem ((c.tc : Thread Cert.MidKernelIdeal.nD Cert.MidKernelIdeal.τ).loc Cert.MidKernelIdeal.main_v7_4) = v4 c
          ∧ r.2.mem ((c.tc : Thread Cert.MidKernelIdeal.nD Cert.MidKernelIdeal.τ).loc Cert.MidKernelIdeal.main_v7_5) = v5 c
          ∧ r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
          ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
          ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
          ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
          ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
          ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5)
          ∧ r.2.mem ((c.tc : Thread Cert.MidKernelIdeal.nD Cert.MidKernelIdeal.τ).loc Cert.MidKernelIdeal.main_arg6) = m ((c.tc : Thread Cert.MidKernelIdeal.nD Cert.MidKernelIdeal.τ).loc Cert.MidKernelIdeal.main_arg6)
          ∧ r.2.mem ((c.tc : Thread Cert.MidKernelIdeal.nD Cert.MidKernelIdeal.τ).loc Cert.MidKernelIdeal.main_arg7) = m ((c.tc : Thread Cert.MidKernelIdeal.nD Cert.MidKernelIdeal.τ).loc Cert.MidKernelIdeal.main_arg7)
          ∧ r.2.mem ((c.tc : Thread Cert.MidKernelIdeal.nD Cert.MidKernelIdeal.τ).loc Cert.MidKernelIdeal.main_arg8) = m ((c.tc : Thread Cert.MidKernelIdeal.nD Cert.MidKernelIdeal.τ).loc Cert.MidKernelIdeal.main_arg8)
          ∧ r.2.mem ((c.tc : Thread Cert.MidKernelIdeal.nD Cert.MidKernelIdeal.τ).loc Cert.MidKernelIdeal.main_arg9) = m ((c.tc : Thread Cert.MidKernelIdeal.nD Cert.MidKernelIdeal.τ).loc Cert.MidKernelIdeal.main_arg9)
          ∧ r.2.mem ((c.tc : Thread Cert.MidKernelIdeal.nD Cert.MidKernelIdeal.τ).loc Cert.MidKernelIdeal.main_arg10) = m ((c.tc : Thread Cert.MidKernelIdeal.nD Cert.MidKernelIdeal.τ).loc Cert.MidKernelIdeal.main_arg10)
          ∧ r.2.mem ((c.tc : Thread Cert.MidKernelIdeal.nD Cert.MidKernelIdeal.τ).loc Cert.MidKernelIdeal.main_arg11) = m ((c.tc : Thread Cert.MidKernelIdeal.nD Cert.MidKernelIdeal.τ).loc Cert.MidKernelIdeal.main_arg11)
          ∧ r.2.mem ((c.tc : Thread Cert.MidKernelIdeal.nD Cert.MidKernelIdeal.τ).loc Cert.MidKernelIdeal.main_arg12) = m ((c.tc : Thread Cert.MidKernelIdeal.nD Cert.MidKernelIdeal.τ).loc Cert.MidKernelIdeal.main_arg12))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v25) = v0 c
          ∧ r.2.mem ((c.tc : Thread Cert.MidReferenceIdeal.nD Cert.MidReferenceIdeal.τ).loc Cert.MidReferenceIdeal.main_v68) = v1 c
          ∧ r.2.mem ((c.tc : Thread Cert.MidReferenceIdeal.nD Cert.MidReferenceIdeal.τ).loc Cert.MidReferenceIdeal.main_v45) = v2 c
          ∧ r.2.mem ((c.tc : Thread Cert.MidReferenceIdeal.nD Cert.MidReferenceIdeal.τ).loc Cert.MidReferenceIdeal.main_v69) = v3 c
          ∧ r.2.mem ((c.tc : Thread Cert.MidReferenceIdeal.nD Cert.MidReferenceIdeal.τ).loc Cert.MidReferenceIdeal.main_v70) = v4 c
          ∧ r.2.mem ((c.tc : Thread Cert.MidReferenceIdeal.nD Cert.MidReferenceIdeal.τ).loc Cert.MidReferenceIdeal.main_v72) = v5 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6)
          ∧ r.2.mem ((c.tc : Thread Cert.MidReferenceIdeal.nD Cert.MidReferenceIdeal.τ).loc Cert.MidReferenceIdeal.main_arg7) = m' ((c.tc : Thread Cert.MidReferenceIdeal.nD Cert.MidReferenceIdeal.τ).loc Cert.MidReferenceIdeal.main_arg7)
          ∧ r.2.mem ((c.tc : Thread Cert.MidReferenceIdeal.nD Cert.MidReferenceIdeal.τ).loc Cert.MidReferenceIdeal.main_arg8) = m' ((c.tc : Thread Cert.MidReferenceIdeal.nD Cert.MidReferenceIdeal.τ).loc Cert.MidReferenceIdeal.main_arg8)
          ∧ r.2.mem ((c.tc : Thread Cert.MidReferenceIdeal.nD Cert.MidReferenceIdeal.τ).loc Cert.MidReferenceIdeal.main_arg9) = m' ((c.tc : Thread Cert.MidReferenceIdeal.nD Cert.MidReferenceIdeal.τ).loc Cert.MidReferenceIdeal.main_arg9)
          ∧ r.2.mem ((c.tc : Thread Cert.MidReferenceIdeal.nD Cert.MidReferenceIdeal.τ).loc Cert.MidReferenceIdeal.main_arg10) = m' ((c.tc : Thread Cert.MidReferenceIdeal.nD Cert.MidReferenceIdeal.τ).loc Cert.MidReferenceIdeal.main_arg10)
          ∧ r.2.mem ((c.tc : Thread Cert.MidReferenceIdeal.nD Cert.MidReferenceIdeal.τ).loc Cert.MidReferenceIdeal.main_arg11) = m' ((c.tc : Thread Cert.MidReferenceIdeal.nD Cert.MidReferenceIdeal.τ).loc Cert.MidReferenceIdeal.main_arg11)
          ∧ r.2.mem ((c.tc : Thread Cert.MidReferenceIdeal.nD Cert.MidReferenceIdeal.τ).loc Cert.MidReferenceIdeal.main_arg12) = m' ((c.tc : Thread Cert.MidReferenceIdeal.nD Cert.MidReferenceIdeal.τ).loc Cert.MidReferenceIdeal.main_arg12))

def preserves_AdamwOutKernel_AdamwOutKernelIdeal : Prop :=
  True

def algebraic_AdamwOutKernelIdeal_AdamwOutReferenceIdeal [hAdamwOutKernelIdeal : Cert.AdamwOutKernelIdeal.Facts] [hAdamwOutReferenceIdeal : Cert.AdamwOutReferenceIdeal.Facts] : Prop :=
  ∀ (m : (ℓ : Loc Cert.AdamwOutKernelIdeal.nD Cert.AdamwOutKernelIdeal.τ Cert.AdamwOutKernelIdeal.sig) → Buf (Elt Ideal) ℓ) (g : Dev Cert.AdamwOutKernelIdeal.nD → PrngReg)
    (m' : (ℓ : Loc Cert.AdamwOutReferenceIdeal.nD Cert.AdamwOutReferenceIdeal.τ Cert.AdamwOutReferenceIdeal.sig) → Buf (Elt Ideal) ℓ) (g' : Dev Cert.AdamwOutReferenceIdeal.nD → PrngReg), Pre_AdamwOutKernelIdeal m →
    (∀ c : Dev Cert.AdamwOutKernelIdeal.nD,
      m' ((c.tc : Thread Cert.AdamwOutReferenceIdeal.nD Cert.AdamwOutReferenceIdeal.τ).loc Cert.AdamwOutReferenceIdeal.main_arg0) = m ((c.tc : Thread Cert.AdamwOutKernelIdeal.nD Cert.AdamwOutKernelIdeal.τ).loc Cert.AdamwOutKernelIdeal.main_arg0)
      ∧ m' ((c.tc : Thread Cert.AdamwOutReferenceIdeal.nD Cert.AdamwOutReferenceIdeal.τ).loc Cert.AdamwOutReferenceIdeal.main_arg1) = m ((c.tc : Thread Cert.AdamwOutKernelIdeal.nD Cert.AdamwOutKernelIdeal.τ).loc Cert.AdamwOutKernelIdeal.main_arg1)
      ∧ m' ((c.tc : Thread Cert.AdamwOutReferenceIdeal.nD Cert.AdamwOutReferenceIdeal.τ).loc Cert.AdamwOutReferenceIdeal.main_arg2) = m ((c.tc : Thread Cert.AdamwOutKernelIdeal.nD Cert.AdamwOutKernelIdeal.τ).loc Cert.AdamwOutKernelIdeal.main_arg2)
      ∧ m' ((c.tc : Thread Cert.AdamwOutReferenceIdeal.nD Cert.AdamwOutReferenceIdeal.τ).loc Cert.AdamwOutReferenceIdeal.main_arg3) = m ((c.tc : Thread Cert.AdamwOutKernelIdeal.nD Cert.AdamwOutKernelIdeal.τ).loc Cert.AdamwOutKernelIdeal.main_arg3)) →
    ∃ (v0 : (c : Dev Cert.AdamwOutKernelIdeal.nD) → Buf (Elt Ideal) ((c.tc : Thread Cert.AdamwOutKernelIdeal.nD Cert.AdamwOutKernelIdeal.τ).loc Cert.AdamwOutKernelIdeal.main_v0_0)) (v1 : (c : Dev Cert.AdamwOutKernelIdeal.nD) → Buf (Elt Ideal) ((c.tc : Thread Cert.AdamwOutKernelIdeal.nD Cert.AdamwOutKernelIdeal.τ).loc Cert.AdamwOutKernelIdeal.main_v0_1)) (v2 : (c : Dev Cert.AdamwOutKernelIdeal.nD) → Buf (Elt Ideal) ((c.tc : Thread Cert.AdamwOutKernelIdeal.nD Cert.AdamwOutKernelIdeal.τ).loc Cert.AdamwOutKernelIdeal.main_v0_2)) (v3 : (c : Dev Cert.AdamwOutKernelIdeal.nD) → Buf (Elt Ideal) ((c.tc : Thread Cert.AdamwOutKernelIdeal.nD Cert.AdamwOutKernelIdeal.τ).loc Cert.AdamwOutKernelIdeal.main_v0_3)),
      θ_run (Cert.AdamwOutKernelIdeal.defs (F := Ideal)) (onTc (τ := Cert.AdamwOutKernelIdeal.τ) (Cert.AdamwOutKernelIdeal.main (F := Ideal))) ⟨m, fun _ => 0, g⟩ (fun r => ∀ c : Dev Cert.AdamwOutKernelIdeal.nD,
          r.2.mem ((c.tc : Thread Cert.AdamwOutKernelIdeal.nD Cert.AdamwOutKernelIdeal.τ).loc Cert.AdamwOutKernelIdeal.main_v0_0) = v0 c
          ∧ r.2.mem ((c.tc : Thread Cert.AdamwOutKernelIdeal.nD Cert.AdamwOutKernelIdeal.τ).loc Cert.AdamwOutKernelIdeal.main_v0_1) = v1 c
          ∧ r.2.mem ((c.tc : Thread Cert.AdamwOutKernelIdeal.nD Cert.AdamwOutKernelIdeal.τ).loc Cert.AdamwOutKernelIdeal.main_v0_2) = v2 c
          ∧ r.2.mem ((c.tc : Thread Cert.AdamwOutKernelIdeal.nD Cert.AdamwOutKernelIdeal.τ).loc Cert.AdamwOutKernelIdeal.main_v0_3) = v3 c
          ∧ r.2.mem ((c.tc : Thread Cert.AdamwOutKernelIdeal.nD Cert.AdamwOutKernelIdeal.τ).loc Cert.AdamwOutKernelIdeal.main_arg0) = m ((c.tc : Thread Cert.AdamwOutKernelIdeal.nD Cert.AdamwOutKernelIdeal.τ).loc Cert.AdamwOutKernelIdeal.main_arg0)
          ∧ r.2.mem ((c.tc : Thread Cert.AdamwOutKernelIdeal.nD Cert.AdamwOutKernelIdeal.τ).loc Cert.AdamwOutKernelIdeal.main_arg1) = m ((c.tc : Thread Cert.AdamwOutKernelIdeal.nD Cert.AdamwOutKernelIdeal.τ).loc Cert.AdamwOutKernelIdeal.main_arg1)
          ∧ r.2.mem ((c.tc : Thread Cert.AdamwOutKernelIdeal.nD Cert.AdamwOutKernelIdeal.τ).loc Cert.AdamwOutKernelIdeal.main_arg2) = m ((c.tc : Thread Cert.AdamwOutKernelIdeal.nD Cert.AdamwOutKernelIdeal.τ).loc Cert.AdamwOutKernelIdeal.main_arg2)
          ∧ r.2.mem ((c.tc : Thread Cert.AdamwOutKernelIdeal.nD Cert.AdamwOutKernelIdeal.τ).loc Cert.AdamwOutKernelIdeal.main_arg3) = m ((c.tc : Thread Cert.AdamwOutKernelIdeal.nD Cert.AdamwOutKernelIdeal.τ).loc Cert.AdamwOutKernelIdeal.main_arg3))
      ∧ θ_run (Cert.AdamwOutReferenceIdeal.defs (F := Ideal)) (onTc (τ := Cert.AdamwOutReferenceIdeal.τ) (Cert.AdamwOutReferenceIdeal.main (F := Ideal))) ⟨m', fun _ => 0, g'⟩ (fun r => ∀ c : Dev Cert.AdamwOutReferenceIdeal.nD,
          r.2.mem ((c.tc : Thread Cert.AdamwOutReferenceIdeal.nD Cert.AdamwOutReferenceIdeal.τ).loc Cert.AdamwOutReferenceIdeal.main_arg1) = v0 c
          ∧ r.2.mem ((c.tc : Thread Cert.AdamwOutReferenceIdeal.nD Cert.AdamwOutReferenceIdeal.τ).loc Cert.AdamwOutReferenceIdeal.main_v23) = v1 c
          ∧ r.2.mem ((c.tc : Thread Cert.AdamwOutReferenceIdeal.nD Cert.AdamwOutReferenceIdeal.τ).loc Cert.AdamwOutReferenceIdeal.main_v4) = v2 c
          ∧ r.2.mem ((c.tc : Thread Cert.AdamwOutReferenceIdeal.nD Cert.AdamwOutReferenceIdeal.τ).loc Cert.AdamwOutReferenceIdeal.main_v10) = v3 c
          ∧ r.2.mem ((c.tc : Thread Cert.AdamwOutReferenceIdeal.nD Cert.AdamwOutReferenceIdeal.τ).loc Cert.AdamwOutReferenceIdeal.main_arg0) = m' ((c.tc : Thread Cert.AdamwOutReferenceIdeal.nD Cert.AdamwOutReferenceIdeal.τ).loc Cert.AdamwOutReferenceIdeal.main_arg0)
          ∧ r.2.mem ((c.tc : Thread Cert.AdamwOutReferenceIdeal.nD Cert.AdamwOutReferenceIdeal.τ).loc Cert.AdamwOutReferenceIdeal.main_arg1) = m' ((c.tc : Thread Cert.AdamwOutReferenceIdeal.nD Cert.AdamwOutReferenceIdeal.τ).loc Cert.AdamwOutReferenceIdeal.main_arg1)
          ∧ r.2.mem ((c.tc : Thread Cert.AdamwOutReferenceIdeal.nD Cert.AdamwOutReferenceIdeal.τ).loc Cert.AdamwOutReferenceIdeal.main_arg2) = m' ((c.tc : Thread Cert.AdamwOutReferenceIdeal.nD Cert.AdamwOutReferenceIdeal.τ).loc Cert.AdamwOutReferenceIdeal.main_arg2)
          ∧ r.2.mem ((c.tc : Thread Cert.AdamwOutReferenceIdeal.nD Cert.AdamwOutReferenceIdeal.τ).loc Cert.AdamwOutReferenceIdeal.main_arg3) = m' ((c.tc : Thread Cert.AdamwOutReferenceIdeal.nD Cert.AdamwOutReferenceIdeal.τ).loc Cert.AdamwOutReferenceIdeal.main_arg3))

def preserves_AdamwPleKernel_AdamwPleKernelIdeal : Prop :=
  True

def algebraic_AdamwPleKernelIdeal_AdamwPleReferenceIdeal [hAdamwPleKernelIdeal : Cert.AdamwPleKernelIdeal.Facts] [hAdamwPleReferenceIdeal : Cert.AdamwPleReferenceIdeal.Facts] : Prop :=
  ∀ (m : (ℓ : Loc Cert.AdamwPleKernelIdeal.nD Cert.AdamwPleKernelIdeal.τ Cert.AdamwPleKernelIdeal.sig) → Buf (Elt Ideal) ℓ) (g : Dev Cert.AdamwPleKernelIdeal.nD → PrngReg)
    (m' : (ℓ : Loc Cert.AdamwPleReferenceIdeal.nD Cert.AdamwPleReferenceIdeal.τ Cert.AdamwPleReferenceIdeal.sig) → Buf (Elt Ideal) ℓ) (g' : Dev Cert.AdamwPleReferenceIdeal.nD → PrngReg), Pre_AdamwPleKernelIdeal m →
    (∀ c : Dev Cert.AdamwPleKernelIdeal.nD,
      m' ((c.tc : Thread Cert.AdamwPleReferenceIdeal.nD Cert.AdamwPleReferenceIdeal.τ).loc Cert.AdamwPleReferenceIdeal.main_arg0) = m ((c.tc : Thread Cert.AdamwPleKernelIdeal.nD Cert.AdamwPleKernelIdeal.τ).loc Cert.AdamwPleKernelIdeal.main_arg0)
      ∧ m' ((c.tc : Thread Cert.AdamwPleReferenceIdeal.nD Cert.AdamwPleReferenceIdeal.τ).loc Cert.AdamwPleReferenceIdeal.main_arg1) = m ((c.tc : Thread Cert.AdamwPleKernelIdeal.nD Cert.AdamwPleKernelIdeal.τ).loc Cert.AdamwPleKernelIdeal.main_arg1)
      ∧ m' ((c.tc : Thread Cert.AdamwPleReferenceIdeal.nD Cert.AdamwPleReferenceIdeal.τ).loc Cert.AdamwPleReferenceIdeal.main_arg2) = m ((c.tc : Thread Cert.AdamwPleKernelIdeal.nD Cert.AdamwPleKernelIdeal.τ).loc Cert.AdamwPleKernelIdeal.main_arg2)
      ∧ m' ((c.tc : Thread Cert.AdamwPleReferenceIdeal.nD Cert.AdamwPleReferenceIdeal.τ).loc Cert.AdamwPleReferenceIdeal.main_arg3) = m ((c.tc : Thread Cert.AdamwPleKernelIdeal.nD Cert.AdamwPleKernelIdeal.τ).loc Cert.AdamwPleKernelIdeal.main_arg3)) →
    ∃ (v0 : (c : Dev Cert.AdamwPleKernelIdeal.nD) → Buf (Elt Ideal) ((c.tc : Thread Cert.AdamwPleKernelIdeal.nD Cert.AdamwPleKernelIdeal.τ).loc Cert.AdamwPleKernelIdeal.main_v0_0)) (v1 : (c : Dev Cert.AdamwPleKernelIdeal.nD) → Buf (Elt Ideal) ((c.tc : Thread Cert.AdamwPleKernelIdeal.nD Cert.AdamwPleKernelIdeal.τ).loc Cert.AdamwPleKernelIdeal.main_v0_1)) (v2 : (c : Dev Cert.AdamwPleKernelIdeal.nD) → Buf (Elt Ideal) ((c.tc : Thread Cert.AdamwPleKernelIdeal.nD Cert.AdamwPleKernelIdeal.τ).loc Cert.AdamwPleKernelIdeal.main_v0_2)) (v3 : (c : Dev Cert.AdamwPleKernelIdeal.nD) → Buf (Elt Ideal) ((c.tc : Thread Cert.AdamwPleKernelIdeal.nD Cert.AdamwPleKernelIdeal.τ).loc Cert.AdamwPleKernelIdeal.main_v0_3)),
      θ_run (Cert.AdamwPleKernelIdeal.defs (F := Ideal)) (onTc (τ := Cert.AdamwPleKernelIdeal.τ) (Cert.AdamwPleKernelIdeal.main (F := Ideal))) ⟨m, fun _ => 0, g⟩ (fun r => ∀ c : Dev Cert.AdamwPleKernelIdeal.nD,
          r.2.mem ((c.tc : Thread Cert.AdamwPleKernelIdeal.nD Cert.AdamwPleKernelIdeal.τ).loc Cert.AdamwPleKernelIdeal.main_v0_0) = v0 c
          ∧ r.2.mem ((c.tc : Thread Cert.AdamwPleKernelIdeal.nD Cert.AdamwPleKernelIdeal.τ).loc Cert.AdamwPleKernelIdeal.main_v0_1) = v1 c
          ∧ r.2.mem ((c.tc : Thread Cert.AdamwPleKernelIdeal.nD Cert.AdamwPleKernelIdeal.τ).loc Cert.AdamwPleKernelIdeal.main_v0_2) = v2 c
          ∧ r.2.mem ((c.tc : Thread Cert.AdamwPleKernelIdeal.nD Cert.AdamwPleKernelIdeal.τ).loc Cert.AdamwPleKernelIdeal.main_v0_3) = v3 c
          ∧ r.2.mem ((c.tc : Thread Cert.AdamwPleKernelIdeal.nD Cert.AdamwPleKernelIdeal.τ).loc Cert.AdamwPleKernelIdeal.main_arg0) = m ((c.tc : Thread Cert.AdamwPleKernelIdeal.nD Cert.AdamwPleKernelIdeal.τ).loc Cert.AdamwPleKernelIdeal.main_arg0)
          ∧ r.2.mem ((c.tc : Thread Cert.AdamwPleKernelIdeal.nD Cert.AdamwPleKernelIdeal.τ).loc Cert.AdamwPleKernelIdeal.main_arg1) = m ((c.tc : Thread Cert.AdamwPleKernelIdeal.nD Cert.AdamwPleKernelIdeal.τ).loc Cert.AdamwPleKernelIdeal.main_arg1)
          ∧ r.2.mem ((c.tc : Thread Cert.AdamwPleKernelIdeal.nD Cert.AdamwPleKernelIdeal.τ).loc Cert.AdamwPleKernelIdeal.main_arg2) = m ((c.tc : Thread Cert.AdamwPleKernelIdeal.nD Cert.AdamwPleKernelIdeal.τ).loc Cert.AdamwPleKernelIdeal.main_arg2)
          ∧ r.2.mem ((c.tc : Thread Cert.AdamwPleKernelIdeal.nD Cert.AdamwPleKernelIdeal.τ).loc Cert.AdamwPleKernelIdeal.main_arg3) = m ((c.tc : Thread Cert.AdamwPleKernelIdeal.nD Cert.AdamwPleKernelIdeal.τ).loc Cert.AdamwPleKernelIdeal.main_arg3))
      ∧ θ_run (Cert.AdamwPleReferenceIdeal.defs (F := Ideal)) (onTc (τ := Cert.AdamwPleReferenceIdeal.τ) (Cert.AdamwPleReferenceIdeal.main (F := Ideal))) ⟨m', fun _ => 0, g'⟩ (fun r => ∀ c : Dev Cert.AdamwPleReferenceIdeal.nD,
          r.2.mem ((c.tc : Thread Cert.AdamwPleReferenceIdeal.nD Cert.AdamwPleReferenceIdeal.τ).loc Cert.AdamwPleReferenceIdeal.main_arg1) = v0 c
          ∧ r.2.mem ((c.tc : Thread Cert.AdamwPleReferenceIdeal.nD Cert.AdamwPleReferenceIdeal.τ).loc Cert.AdamwPleReferenceIdeal.main_v23) = v1 c
          ∧ r.2.mem ((c.tc : Thread Cert.AdamwPleReferenceIdeal.nD Cert.AdamwPleReferenceIdeal.τ).loc Cert.AdamwPleReferenceIdeal.main_v4) = v2 c
          ∧ r.2.mem ((c.tc : Thread Cert.AdamwPleReferenceIdeal.nD Cert.AdamwPleReferenceIdeal.τ).loc Cert.AdamwPleReferenceIdeal.main_v10) = v3 c
          ∧ r.2.mem ((c.tc : Thread Cert.AdamwPleReferenceIdeal.nD Cert.AdamwPleReferenceIdeal.τ).loc Cert.AdamwPleReferenceIdeal.main_arg0) = m' ((c.tc : Thread Cert.AdamwPleReferenceIdeal.nD Cert.AdamwPleReferenceIdeal.τ).loc Cert.AdamwPleReferenceIdeal.main_arg0)
          ∧ r.2.mem ((c.tc : Thread Cert.AdamwPleReferenceIdeal.nD Cert.AdamwPleReferenceIdeal.τ).loc Cert.AdamwPleReferenceIdeal.main_arg1) = m' ((c.tc : Thread Cert.AdamwPleReferenceIdeal.nD Cert.AdamwPleReferenceIdeal.τ).loc Cert.AdamwPleReferenceIdeal.main_arg1)
          ∧ r.2.mem ((c.tc : Thread Cert.AdamwPleReferenceIdeal.nD Cert.AdamwPleReferenceIdeal.τ).loc Cert.AdamwPleReferenceIdeal.main_arg2) = m' ((c.tc : Thread Cert.AdamwPleReferenceIdeal.nD Cert.AdamwPleReferenceIdeal.τ).loc Cert.AdamwPleReferenceIdeal.main_arg2)
          ∧ r.2.mem ((c.tc : Thread Cert.AdamwPleReferenceIdeal.nD Cert.AdamwPleReferenceIdeal.τ).loc Cert.AdamwPleReferenceIdeal.main_arg3) = m' ((c.tc : Thread Cert.AdamwPleReferenceIdeal.nD Cert.AdamwPleReferenceIdeal.τ).loc Cert.AdamwPleReferenceIdeal.main_arg3))

def preserves_AdamwPwKernel_AdamwPwKernelIdeal : Prop :=
  True

def algebraic_AdamwPwKernelIdeal_AdamwPwReferenceIdeal [hAdamwPwKernelIdeal : Cert.AdamwPwKernelIdeal.Facts] [hAdamwPwReferenceIdeal : Cert.AdamwPwReferenceIdeal.Facts] : Prop :=
  ∀ (m : (ℓ : Loc Cert.AdamwPwKernelIdeal.nD Cert.AdamwPwKernelIdeal.τ Cert.AdamwPwKernelIdeal.sig) → Buf (Elt Ideal) ℓ) (g : Dev Cert.AdamwPwKernelIdeal.nD → PrngReg)
    (m' : (ℓ : Loc Cert.AdamwPwReferenceIdeal.nD Cert.AdamwPwReferenceIdeal.τ Cert.AdamwPwReferenceIdeal.sig) → Buf (Elt Ideal) ℓ) (g' : Dev Cert.AdamwPwReferenceIdeal.nD → PrngReg), Pre_AdamwPwKernelIdeal m →
    (∀ c : Dev Cert.AdamwPwKernelIdeal.nD,
      m' ((c.tc : Thread Cert.AdamwPwReferenceIdeal.nD Cert.AdamwPwReferenceIdeal.τ).loc Cert.AdamwPwReferenceIdeal.main_arg0) = m ((c.tc : Thread Cert.AdamwPwKernelIdeal.nD Cert.AdamwPwKernelIdeal.τ).loc Cert.AdamwPwKernelIdeal.main_arg0)
      ∧ m' ((c.tc : Thread Cert.AdamwPwReferenceIdeal.nD Cert.AdamwPwReferenceIdeal.τ).loc Cert.AdamwPwReferenceIdeal.main_arg1) = m ((c.tc : Thread Cert.AdamwPwKernelIdeal.nD Cert.AdamwPwKernelIdeal.τ).loc Cert.AdamwPwKernelIdeal.main_arg1)
      ∧ m' ((c.tc : Thread Cert.AdamwPwReferenceIdeal.nD Cert.AdamwPwReferenceIdeal.τ).loc Cert.AdamwPwReferenceIdeal.main_arg2) = m ((c.tc : Thread Cert.AdamwPwKernelIdeal.nD Cert.AdamwPwKernelIdeal.τ).loc Cert.AdamwPwKernelIdeal.main_arg2)
      ∧ m' ((c.tc : Thread Cert.AdamwPwReferenceIdeal.nD Cert.AdamwPwReferenceIdeal.τ).loc Cert.AdamwPwReferenceIdeal.main_arg3) = m ((c.tc : Thread Cert.AdamwPwKernelIdeal.nD Cert.AdamwPwKernelIdeal.τ).loc Cert.AdamwPwKernelIdeal.main_arg3)) →
    ∃ (v0 : (c : Dev Cert.AdamwPwKernelIdeal.nD) → Buf (Elt Ideal) ((c.tc : Thread Cert.AdamwPwKernelIdeal.nD Cert.AdamwPwKernelIdeal.τ).loc Cert.AdamwPwKernelIdeal.main_v0_0)) (v1 : (c : Dev Cert.AdamwPwKernelIdeal.nD) → Buf (Elt Ideal) ((c.tc : Thread Cert.AdamwPwKernelIdeal.nD Cert.AdamwPwKernelIdeal.τ).loc Cert.AdamwPwKernelIdeal.main_v0_1)) (v2 : (c : Dev Cert.AdamwPwKernelIdeal.nD) → Buf (Elt Ideal) ((c.tc : Thread Cert.AdamwPwKernelIdeal.nD Cert.AdamwPwKernelIdeal.τ).loc Cert.AdamwPwKernelIdeal.main_v0_2)) (v3 : (c : Dev Cert.AdamwPwKernelIdeal.nD) → Buf (Elt Ideal) ((c.tc : Thread Cert.AdamwPwKernelIdeal.nD Cert.AdamwPwKernelIdeal.τ).loc Cert.AdamwPwKernelIdeal.main_v0_3)),
      θ_run (Cert.AdamwPwKernelIdeal.defs (F := Ideal)) (onTc (τ := Cert.AdamwPwKernelIdeal.τ) (Cert.AdamwPwKernelIdeal.main (F := Ideal))) ⟨m, fun _ => 0, g⟩ (fun r => ∀ c : Dev Cert.AdamwPwKernelIdeal.nD,
          r.2.mem ((c.tc : Thread Cert.AdamwPwKernelIdeal.nD Cert.AdamwPwKernelIdeal.τ).loc Cert.AdamwPwKernelIdeal.main_v0_0) = v0 c
          ∧ r.2.mem ((c.tc : Thread Cert.AdamwPwKernelIdeal.nD Cert.AdamwPwKernelIdeal.τ).loc Cert.AdamwPwKernelIdeal.main_v0_1) = v1 c
          ∧ r.2.mem ((c.tc : Thread Cert.AdamwPwKernelIdeal.nD Cert.AdamwPwKernelIdeal.τ).loc Cert.AdamwPwKernelIdeal.main_v0_2) = v2 c
          ∧ r.2.mem ((c.tc : Thread Cert.AdamwPwKernelIdeal.nD Cert.AdamwPwKernelIdeal.τ).loc Cert.AdamwPwKernelIdeal.main_v0_3) = v3 c
          ∧ r.2.mem ((c.tc : Thread Cert.AdamwPwKernelIdeal.nD Cert.AdamwPwKernelIdeal.τ).loc Cert.AdamwPwKernelIdeal.main_arg0) = m ((c.tc : Thread Cert.AdamwPwKernelIdeal.nD Cert.AdamwPwKernelIdeal.τ).loc Cert.AdamwPwKernelIdeal.main_arg0)
          ∧ r.2.mem ((c.tc : Thread Cert.AdamwPwKernelIdeal.nD Cert.AdamwPwKernelIdeal.τ).loc Cert.AdamwPwKernelIdeal.main_arg1) = m ((c.tc : Thread Cert.AdamwPwKernelIdeal.nD Cert.AdamwPwKernelIdeal.τ).loc Cert.AdamwPwKernelIdeal.main_arg1)
          ∧ r.2.mem ((c.tc : Thread Cert.AdamwPwKernelIdeal.nD Cert.AdamwPwKernelIdeal.τ).loc Cert.AdamwPwKernelIdeal.main_arg2) = m ((c.tc : Thread Cert.AdamwPwKernelIdeal.nD Cert.AdamwPwKernelIdeal.τ).loc Cert.AdamwPwKernelIdeal.main_arg2)
          ∧ r.2.mem ((c.tc : Thread Cert.AdamwPwKernelIdeal.nD Cert.AdamwPwKernelIdeal.τ).loc Cert.AdamwPwKernelIdeal.main_arg3) = m ((c.tc : Thread Cert.AdamwPwKernelIdeal.nD Cert.AdamwPwKernelIdeal.τ).loc Cert.AdamwPwKernelIdeal.main_arg3))
      ∧ θ_run (Cert.AdamwPwReferenceIdeal.defs (F := Ideal)) (onTc (τ := Cert.AdamwPwReferenceIdeal.τ) (Cert.AdamwPwReferenceIdeal.main (F := Ideal))) ⟨m', fun _ => 0, g'⟩ (fun r => ∀ c : Dev Cert.AdamwPwReferenceIdeal.nD,
          r.2.mem ((c.tc : Thread Cert.AdamwPwReferenceIdeal.nD Cert.AdamwPwReferenceIdeal.τ).loc Cert.AdamwPwReferenceIdeal.main_arg1) = v0 c
          ∧ r.2.mem ((c.tc : Thread Cert.AdamwPwReferenceIdeal.nD Cert.AdamwPwReferenceIdeal.τ).loc Cert.AdamwPwReferenceIdeal.main_v23) = v1 c
          ∧ r.2.mem ((c.tc : Thread Cert.AdamwPwReferenceIdeal.nD Cert.AdamwPwReferenceIdeal.τ).loc Cert.AdamwPwReferenceIdeal.main_v4) = v2 c
          ∧ r.2.mem ((c.tc : Thread Cert.AdamwPwReferenceIdeal.nD Cert.AdamwPwReferenceIdeal.τ).loc Cert.AdamwPwReferenceIdeal.main_v10) = v3 c
          ∧ r.2.mem ((c.tc : Thread Cert.AdamwPwReferenceIdeal.nD Cert.AdamwPwReferenceIdeal.τ).loc Cert.AdamwPwReferenceIdeal.main_arg0) = m' ((c.tc : Thread Cert.AdamwPwReferenceIdeal.nD Cert.AdamwPwReferenceIdeal.τ).loc Cert.AdamwPwReferenceIdeal.main_arg0)
          ∧ r.2.mem ((c.tc : Thread Cert.AdamwPwReferenceIdeal.nD Cert.AdamwPwReferenceIdeal.τ).loc Cert.AdamwPwReferenceIdeal.main_arg1) = m' ((c.tc : Thread Cert.AdamwPwReferenceIdeal.nD Cert.AdamwPwReferenceIdeal.τ).loc Cert.AdamwPwReferenceIdeal.main_arg1)
          ∧ r.2.mem ((c.tc : Thread Cert.AdamwPwReferenceIdeal.nD Cert.AdamwPwReferenceIdeal.τ).loc Cert.AdamwPwReferenceIdeal.main_arg2) = m' ((c.tc : Thread Cert.AdamwPwReferenceIdeal.nD Cert.AdamwPwReferenceIdeal.τ).loc Cert.AdamwPwReferenceIdeal.main_arg2)
          ∧ r.2.mem ((c.tc : Thread Cert.AdamwPwReferenceIdeal.nD Cert.AdamwPwReferenceIdeal.τ).loc Cert.AdamwPwReferenceIdeal.main_arg3) = m' ((c.tc : Thread Cert.AdamwPwReferenceIdeal.nD Cert.AdamwPwReferenceIdeal.τ).loc Cert.AdamwPwReferenceIdeal.main_arg3))

def Claim : Prop :=
  ∃ (hDxKernel : Cert.DxKernel.Facts) (hDxKernelIdeal : Cert.DxKernelIdeal.Facts) (hDxReferenceIdeal : Cert.DxReferenceIdeal.Facts) (hAttnKernel : Cert.AttnKernel.Facts) (hAttnKernelIdeal : Cert.AttnKernelIdeal.Facts) (hAttnReferenceIdeal : Cert.AttnReferenceIdeal.Facts) (hPleKernel : Cert.PleKernel.Facts) (hPleKernelIdeal : Cert.PleKernelIdeal.Facts) (hPleReferenceIdeal : Cert.PleReferenceIdeal.Facts) (hTailKernel : Cert.TailKernel.Facts) (hTailKernelIdeal : Cert.TailKernelIdeal.Facts) (hTailReferenceIdeal : Cert.TailReferenceIdeal.Facts) (hInDwKernel : Cert.InDwKernel.Facts) (hInDwKernelIdeal : Cert.InDwKernelIdeal.Facts) (hInDwReferenceIdeal : Cert.InDwReferenceIdeal.Facts) (hAdamwKernel : Cert.AdamwKernel.Facts) (hAdamwKernelIdeal : Cert.AdamwKernelIdeal.Facts) (hAdamwReferenceIdeal : Cert.AdamwReferenceIdeal.Facts) (hTapsKernel : Cert.TapsKernel.Facts) (hTapsKernelIdeal : Cert.TapsKernelIdeal.Facts) (hTapsReferenceIdeal : Cert.TapsReferenceIdeal.Facts) (hRmsInKernel : Cert.RmsInKernel.Facts) (hRmsInKernelIdeal : Cert.RmsInKernelIdeal.Facts) (hRmsInReferenceIdeal : Cert.RmsInReferenceIdeal.Facts) (hMidKernel : Cert.MidKernel.Facts) (hMidKernelIdeal : Cert.MidKernelIdeal.Facts) (hMidReferenceIdeal : Cert.MidReferenceIdeal.Facts) (hAdamwOutKernel : Cert.AdamwOutKernel.Facts) (hAdamwOutKernelIdeal : Cert.AdamwOutKernelIdeal.Facts) (hAdamwOutReferenceIdeal : Cert.AdamwOutReferenceIdeal.Facts) (hAdamwPleKernel : Cert.AdamwPleKernel.Facts) (hAdamwPleKernelIdeal : Cert.AdamwPleKernelIdeal.Facts) (hAdamwPleReferenceIdeal : Cert.AdamwPleReferenceIdeal.Facts) (hAdamwPwKernel : Cert.AdamwPwKernel.Facts) (hAdamwPwKernelIdeal : Cert.AdamwPwKernelIdeal.Facts) (hAdamwPwReferenceIdeal : Cert.AdamwPwReferenceIdeal.Facts) (hPre_finite_attn : Cert.Pre_finite_attn.Facts),
    quiescent_DxKernel (hDxKernel := hDxKernel)
    ∧ quiescent_DxKernelIdeal (hDxKernelIdeal := hDxKernelIdeal)
    ∧ quiescent_DxReferenceIdeal (hDxReferenceIdeal := hDxReferenceIdeal)
    ∧ quiescent_AttnKernel (hAttnKernel := hAttnKernel)
    ∧ quiescent_AttnKernelIdeal (hAttnKernelIdeal := hAttnKernelIdeal)
    ∧ quiescent_AttnKernelIdeal_pre_finite_attn (hAttnKernelIdeal := hAttnKernelIdeal) (hPre_finite_attn := hPre_finite_attn)
    ∧ quiescent_AttnReferenceIdeal (hAttnReferenceIdeal := hAttnReferenceIdeal)
    ∧ quiescent_AttnReferenceIdeal_pre_finite_attn (hAttnReferenceIdeal := hAttnReferenceIdeal) (hPre_finite_attn := hPre_finite_attn)
    ∧ quiescent_PleKernel (hPleKernel := hPleKernel)
    ∧ quiescent_PleKernelIdeal (hPleKernelIdeal := hPleKernelIdeal)
    ∧ quiescent_PleReferenceIdeal (hPleReferenceIdeal := hPleReferenceIdeal)
    ∧ quiescent_TailKernel (hTailKernel := hTailKernel)
    ∧ quiescent_TailKernelIdeal (hTailKernelIdeal := hTailKernelIdeal)
    ∧ quiescent_TailReferenceIdeal (hTailReferenceIdeal := hTailReferenceIdeal)
    ∧ quiescent_InDwKernel (hInDwKernel := hInDwKernel)
    ∧ quiescent_InDwKernelIdeal (hInDwKernelIdeal := hInDwKernelIdeal)
    ∧ quiescent_InDwReferenceIdeal (hInDwReferenceIdeal := hInDwReferenceIdeal)
    ∧ quiescent_AdamwKernel (hAdamwKernel := hAdamwKernel)
    ∧ quiescent_AdamwKernelIdeal (hAdamwKernelIdeal := hAdamwKernelIdeal)
    ∧ quiescent_AdamwReferenceIdeal (hAdamwReferenceIdeal := hAdamwReferenceIdeal)
    ∧ quiescent_TapsKernel (hTapsKernel := hTapsKernel)
    ∧ quiescent_TapsKernelIdeal (hTapsKernelIdeal := hTapsKernelIdeal)
    ∧ quiescent_TapsReferenceIdeal (hTapsReferenceIdeal := hTapsReferenceIdeal)
    ∧ quiescent_RmsInKernel (hRmsInKernel := hRmsInKernel)
    ∧ quiescent_RmsInKernelIdeal (hRmsInKernelIdeal := hRmsInKernelIdeal)
    ∧ quiescent_RmsInReferenceIdeal (hRmsInReferenceIdeal := hRmsInReferenceIdeal)
    ∧ quiescent_MidKernel (hMidKernel := hMidKernel)
    ∧ quiescent_MidKernelIdeal (hMidKernelIdeal := hMidKernelIdeal)
    ∧ quiescent_MidReferenceIdeal (hMidReferenceIdeal := hMidReferenceIdeal)
    ∧ quiescent_AdamwOutKernel (hAdamwOutKernel := hAdamwOutKernel)
    ∧ quiescent_AdamwOutKernelIdeal (hAdamwOutKernelIdeal := hAdamwOutKernelIdeal)
    ∧ quiescent_AdamwOutReferenceIdeal (hAdamwOutReferenceIdeal := hAdamwOutReferenceIdeal)
    ∧ quiescent_AdamwPleKernel (hAdamwPleKernel := hAdamwPleKernel)
    ∧ quiescent_AdamwPleKernelIdeal (hAdamwPleKernelIdeal := hAdamwPleKernelIdeal)
    ∧ quiescent_AdamwPleReferenceIdeal (hAdamwPleReferenceIdeal := hAdamwPleReferenceIdeal)
    ∧ quiescent_AdamwPwKernel (hAdamwPwKernel := hAdamwPwKernel)
    ∧ quiescent_AdamwPwKernelIdeal (hAdamwPwKernelIdeal := hAdamwPwKernelIdeal)
    ∧ quiescent_AdamwPwReferenceIdeal (hAdamwPwReferenceIdeal := hAdamwPwReferenceIdeal)
    ∧ preserves_DxKernel_DxKernelIdeal
    ∧ algebraic_DxKernelIdeal_DxReferenceIdeal (hDxKernelIdeal := hDxKernelIdeal) (hDxReferenceIdeal := hDxReferenceIdeal)
    ∧ preserves_AttnKernel_AttnKernelIdeal
    ∧ algebraic_AttnKernelIdeal_AttnReferenceIdeal_pre_finite_attn (hAttnKernelIdeal := hAttnKernelIdeal) (hAttnReferenceIdeal := hAttnReferenceIdeal) (hPre_finite_attn := hPre_finite_attn)
    ∧ preserves_PleKernel_PleKernelIdeal
    ∧ algebraic_PleKernelIdeal_PleReferenceIdeal (hPleKernelIdeal := hPleKernelIdeal) (hPleReferenceIdeal := hPleReferenceIdeal)
    ∧ preserves_TailKernel_TailKernelIdeal
    ∧ algebraic_TailKernelIdeal_TailReferenceIdeal (hTailKernelIdeal := hTailKernelIdeal) (hTailReferenceIdeal := hTailReferenceIdeal)
    ∧ preserves_InDwKernel_InDwKernelIdeal
    ∧ algebraic_InDwKernelIdeal_InDwReferenceIdeal (hInDwKernelIdeal := hInDwKernelIdeal) (hInDwReferenceIdeal := hInDwReferenceIdeal)
    ∧ preserves_AdamwKernel_AdamwKernelIdeal
    ∧ algebraic_AdamwKernelIdeal_AdamwReferenceIdeal (hAdamwKernelIdeal := hAdamwKernelIdeal) (hAdamwReferenceIdeal := hAdamwReferenceIdeal)
    ∧ preserves_TapsKernel_TapsKernelIdeal
    ∧ algebraic_TapsKernelIdeal_TapsReferenceIdeal (hTapsKernelIdeal := hTapsKernelIdeal) (hTapsReferenceIdeal := hTapsReferenceIdeal)
    ∧ preserves_RmsInKernel_RmsInKernelIdeal
    ∧ algebraic_RmsInKernelIdeal_RmsInReferenceIdeal (hRmsInKernelIdeal := hRmsInKernelIdeal) (hRmsInReferenceIdeal := hRmsInReferenceIdeal)
    ∧ preserves_MidKernel_MidKernelIdeal
    ∧ algebraic_MidKernelIdeal_MidReferenceIdeal (hMidKernelIdeal := hMidKernelIdeal) (hMidReferenceIdeal := hMidReferenceIdeal)
    ∧ preserves_AdamwOutKernel_AdamwOutKernelIdeal
    ∧ algebraic_AdamwOutKernelIdeal_AdamwOutReferenceIdeal (hAdamwOutKernelIdeal := hAdamwOutKernelIdeal) (hAdamwOutReferenceIdeal := hAdamwOutReferenceIdeal)
    ∧ preserves_AdamwPleKernel_AdamwPleKernelIdeal
    ∧ algebraic_AdamwPleKernelIdeal_AdamwPleReferenceIdeal (hAdamwPleKernelIdeal := hAdamwPleKernelIdeal) (hAdamwPleReferenceIdeal := hAdamwPleReferenceIdeal)
    ∧ preserves_AdamwPwKernel_AdamwPwKernelIdeal
    ∧ algebraic_AdamwPwKernelIdeal_AdamwPwReferenceIdeal (hAdamwPwKernelIdeal := hAdamwPwKernelIdeal) (hAdamwPwReferenceIdeal := hAdamwPwReferenceIdeal)
-- ==== Pre_finite_attn.lean ====
abbrev S2048x3584 : Shape := ⟨2, ![2048, 3584]⟩
abbrev S2048x512 : Shape := ⟨2, ![2048, 512]⟩
abbrev S2048x1536 : Shape := ⟨2, ![2048, 1536]⟩
abbrev S_ : Shape := ⟨0, ![]⟩

class Facts : Prop where
  slices_S2048x3584_S2048x1536_0_0 : S2048x3584.Slices ![0, 0] S2048x1536
  bcast_S_S2048x1536 : S_.BroadcastsInDim S2048x1536 (![] : Fin 0 → Fin S2048x1536.rank)
  reducesTo_S2048x1536_S_d0_1 : S2048x1536.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S2048x3584 .f32) (main_arg1 : FVec F S2048x512 .f32) : IVec S_ 1 :=
  let main_v0 : FVec F S2048x1536 .f32 := (extractStridedSlice S2048x1536 ![0, 0] · slices_S2048x3584_S2048x1536_0_0) main_arg0
  let main_v1 : FVec F S2048x1536 .f32 := Host.absf main_v0
  let main_cst : FVec F S_ .f32 := constant S_ .f32 0x7F800000#32
  let main_v2 : FVec F S2048x1536 .f32 := broadcastInDim S2048x1536 ![] bcast_S_S2048x1536 main_cst
  let main_v3 : IVec S2048x1536 1 := cmpf .olt main_v1 main_v2
  let main_c : IVec S_ 1 := constantI S_ 1 1#1
  let main_v4 : IVec S_ 1 := (fun x v => Host.reduce IntOp.andi x v reducesTo_S2048x1536_S_d0_1 h_S_) main_v3 main_c
  let main_v5 : FVec F S2048x512 .f32 := Host.absf main_arg1
  let main_cst_0 : FVec F S_ .f32 := constant S_ .f32 0x7F800000#32
  let main_v6 : FVec F S2048x512 .f32 := broadcastInDim S2048x512 ![] bcast_S_S2048x512 main_cst_0
  let main_v7 : IVec S2048x512 1 := cmpf .olt main_v5 main_v6
  let main_c_1 : IVec S_ 1 := constantI S_ 1 1#1
  let main_v8 : IVec S_ 1 := (fun x v => Host.reduce IntOp.andi x v reducesTo_S2048x512_S_d0_1 h_S_) main_v7 main_c_1
  let main_v9 : IVec S_ 1 := andi main_v4 main_v8
  main_v9
-- ==== DxKernel.lean ====
abbrev S2048x1024 : Shape := ⟨2, ![2048, 1024]⟩
abbrev S1x1024 : Shape := ⟨2, ![1, 1024]⟩
abbrev S1024x3584 : Shape := ⟨2, ![1024, 3584]⟩
abbrev S2048x3584 : Shape := ⟨2, ![2048, 3584]⟩
abbrev S1024x4x896 : Shape := ⟨3, ![1024, 4, 896]⟩
abbrev S4x1024x896 : Shape := ⟨3, ![4, 1024, 896]⟩
abbrev S_ : Shape := ⟨0, ![]⟩
abbrev S8x128 : Shape := ⟨2, ![8, 128]⟩
abbrev S1024x896 : Shape := ⟨2, ![1024, 896]⟩
abbrev S1x1024x896 : Shape := ⟨3, ![1, 1024, 896]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 13
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3584, .f32⟩
  | .hbm, ⟨3, _⟩ => ⟨S2048x3584, .f32⟩
  | .hbm, ⟨4, _⟩ => ⟨S2048x1024, .f32⟩
  | .hbm, ⟨5, _⟩ => ⟨S1024x3584, .bf16⟩
  | .hbm, ⟨6, _⟩ => ⟨S1024x4x896, .bf16⟩
  | .hbm, ⟨7, _⟩ => ⟨S4x1024x896, .bf16⟩
  | .hbm, ⟨8, _⟩ => ⟨S2048x3584, .bf16⟩
  | .hbm, ⟨9, _⟩ => ⟨S_, .f32⟩
  | .hbm, ⟨10, _⟩ => ⟨S8x128, .f32⟩
  | .hbm, ⟨11, _⟩ => ⟨S2048x1024, .f32⟩
  | .hbm, ⟨12, _⟩ => ⟨S1x1024, .f32⟩
  | .local _ .vmem, ⟨0, _⟩ => ⟨S1024x896, .bf16⟩
  | .local _ .vmem, ⟨1, _⟩ => ⟨S1024x896, .bf16⟩
  | .local _ .vmem, ⟨2, _⟩ => ⟨S1x1024x896, .bf16⟩
  | .local _ .vmem, ⟨3, _⟩ => ⟨S1x1024x896, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![2, 4], ![false, false]⟩

def k0_cond4 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DxReferenceIdeal.lean ====
abbrev S2048x1024 : Shape := ⟨2, ![2048, 1024]⟩
abbrev S1x1024 : Shape := ⟨2, ![1, 1024]⟩
abbrev S1024x3584 : Shape := ⟨2, ![1024, 3584]⟩
abbrev S2048x3584 : Shape := ⟨2, ![2048, 3584]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3584, .f32⟩
  | .hbm, ⟨3, _⟩ => ⟨S2048x3584, .f32⟩
  | .hbm, ⟨4, _⟩ => ⟨S2048x1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x3584, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== AttnKernel.lean ====
abbrev S2048x3584 : Shape := ⟨2, ![2048, 3584]⟩
abbrev S2048x512 : Shape := ⟨2, ![2048, 512]⟩
abbrev S2048x8x64 : Shape := ⟨3, ![2048, 8, 64]⟩
abbrev S8x2048x64 : Shape := ⟨3, ![8, 2048, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S2x4x2048x1 : Shape := ⟨4, ![2, 4, 2048, 1]⟩
abbrev S2x4x2048x64 : Shape := ⟨4, ![2, 4, 2048, 64]⟩
abbrev S2x2048x4x64 : Shape := ⟨4, ![2, 2048, 4, 64]⟩
abbrev S2x2048x256 : Shape := ⟨3, ![2, 2048, 256]⟩
abbrev S256x512 : Shape := ⟨2, ![256, 512]⟩
abbrev S2x256x256 : Shape := ⟨3, ![2, 256, 256]⟩
abbrev S1024x256 : Shape := ⟨2, ![1024, 256]⟩
abbrev S256x256 : Shape := ⟨2, ![256, 256]⟩
abbrev S1x256 : Shape := ⟨2, ![1, 256]⟩
abbrev S1x256x256 : Shape := ⟨3, ![1, 256, 256]⟩
abbrev S256x1 : Shape := ⟨2, ![256, 1]⟩
abbrev S1024x1 : Shape := ⟨2, ![1024, 1]⟩
abbrev S1024 : Shape := ⟨1, ![1024]⟩
abbrev S2048x256 : Shape := ⟨2, ![2048, 256]⟩

abbrev nBuf : Space → Nat
  | .hbm => 48
  | .vmem => 16
  | .smem => 0
  | _ => 0

abbrev bufTy : (tb : Table) → Fin (tcTables nBuf tb) → BufTy
  | .hbm, ⟨0, _⟩ => ⟨S2048x3584, .f32⟩
  | .hbm, ⟨1, _⟩ => ⟨S2048x512, .f32⟩
  | .hbm, ⟨2, _⟩ => ⟨S2048x512, .f32⟩
  | .hbm, ⟨3, _⟩ => ⟨S2048x8x64, .f32⟩
  | .hbm, ⟨4, _⟩ => ⟨S8x2048x64, .f32⟩
  | .hbm, ⟨5, _⟩ => ⟨S2048x512, .f32⟩
  | .hbm, ⟨6, _⟩ => ⟨S2048x8x64, .f32⟩
  | .hbm, ⟨7, _⟩ => ⟨S8x2048x64, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S2048, .i32⟩
  | .hbm, ⟨13, _⟩ => ⟨S1x2048, .i32⟩
  | .hbm, ⟨14, _⟩ => ⟨S2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S_, .f32⟩
  | .hbm, ⟨36, _⟩ => ⟨S8x2048x2048, .i1⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S2x4x2048x1, .f32⟩
  | .hbm, ⟨42, _⟩ => ⟨S2x4x2048x64, .f32⟩
  | .hbm, ⟨43, _⟩ => ⟨S2x2048x4x64, .f32⟩
  | .hbm, ⟨44, _⟩ => ⟨S2x2048x256, .f32⟩
  | .hbm, ⟨45, _⟩ => ⟨S2048x512, .bf16⟩
  | .hbm, ⟨46, _⟩ => ⟨S2048x512, .bf16⟩
  | .hbm, ⟨47, _⟩ => ⟨S2048x512, .bf16⟩
  | .local _ .vmem, ⟨0, _⟩ => ⟨S256x512, .f32⟩
  | .local _ .vmem, ⟨1, _⟩ => ⟨S256x512, .f32⟩
  | .local _ .vmem, ⟨2, _⟩ => ⟨S2048x512, .f32⟩
  | .local _ .vmem, ⟨3, _⟩ => ⟨S2048x512, .f32⟩
  | .local _ .vmem, ⟨4, _⟩ => ⟨S256x512, .f32⟩
  | .local _ .vmem, ⟨5, _⟩ => ⟨S256x512, .f32⟩
  | .local _ .vmem, ⟨6, _⟩ => ⟨S2x256x256, .f32⟩
  | .local _ .vmem, ⟨7, _⟩ => ⟨S2x256x256, .f32⟩
  | .local _ .vmem, ⟨8, _⟩ => ⟨S256x512, .bf16⟩
  | .local _ .vmem, ⟨9, _⟩ => ⟨S256x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .f32⟩
  | .local _ .vmem, ⟨15, _⟩ => ⟨S2048x512, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24_0 : Ref sig .tc := ⟨.hbm, 45, rfl⟩
abbrev main_v24_1 : Ref sig .tc := ⟨.hbm, 46, rfl⟩
abbrev main_v24_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

@[reducible] def k0_t1_loop (i : grid0.Coords) : Scf.Loop 32 :=
  let c0_i32_47 : BitVec 32 := 0#32
  let arg0 : BitVec 32 := BitVec.ofNat 32 (i 0).val
  let v184 : BitVec 32 := Scalar.subi arg0 c0_i32_47
  let c1_i32_48 : BitVec 32 := 1#32
  let v186 : BitVec 32 := Scalar.divsi v184 c1_i32_48
  let v187 : BitVec 32 := Scalar.muli v186 c1_i32_48
  let v188 : BitVec 32 := Scalar.addi c0_i32_47 v187
  let c1_i32_49 : BitVec 32 := 1#32
  ⟨c0_i32_47, v188, c1_i32_49⟩
def k0_mult1 (i : grid0.Coords) (k0_t1 : Fin (k0_t1_loop i).trips) : BitVec 32 :=
  let c0_i32_47 : BitVec 32 := 0#32
  let c1_i32_49 : BitVec 32 := 1#32
  let arg13 : BitVec 32 := Scf.iv c0_i32_47 c1_i32_49 k0_t1
  let c256_i32_102 : BitVec 32 := 256#32
  let v392 : BitVec 32 := Scalar.muli arg13 c256_i32_102
  v392
def k0_off1 (i : grid0.Coords) (k0_t1 : Fin (k0_t1_loop i).trips) : Fin 2 → Nat :=
  let c0_i32_47 : BitVec 32 := 0#32
  let c1_i32_49 : BitVec 32 := 1#32
  let arg13 : BitVec 32 := Scf.iv c0_i32_47 c1_i32_49 k0_t1
  let c256_i32_102 : BitVec 32 := 256#32
  let v392 : BitVec 32 := Scalar.muli arg13 c256_i32_102
  let v393 : BitVec 32 := v392
  let v394 : Index := Scalar.indexCast v393
  let c0_103 : Index := 0#32
  ![v394.toNat, 0]
def k0_off2 (i : grid0.Coords) (k0_t1 : Fin (k0_t1_loop i).trips) : Fin 2 → Nat :=
  let c0_i32_47 : BitVec 32 := 0#32
  let c1_i32_49 : BitVec 32 := 1#32
  let arg13 : BitVec 32 := Scf.iv c0_i32_47 c1_i32_49 k0_t1
  let c256_i32_102 : BitVec 32 := 256#32
  let v392 : BitVec 32 := Scalar.muli arg13 c256_i32_102
  let v393 : BitVec 32 := v392
  let v474 : Index := Scalar.indexCast v393
  let c256_124 : Index := 256#32
  ![v474.toNat, 256]
@[reducible] def k0_t2_loop (i : grid0.Coords) : Scf.Loop 32 :=
  let c0_i32_47 : BitVec 32 := 0#32
  let arg0 : BitVec 32 := BitVec.ofNat 32 (i 0).val
  let v184 : BitVec 32 := Scalar.subi arg0 c0_i32_47
  let c1_i32_48 : BitVec 32 := 1#32
  let v186 : BitVec 32 := Scalar.divsi v184 c1_i32_48
  let v187 : BitVec 32 := Scalar.muli v186 c1_i32_48
  let v188 : BitVec 32 := Scalar.addi c0_i32_47 v187
  let v185 : BitVec 32 := Scalar.addi c0_i32_47 v184
  let c1_i32_50 : BitVec 32 := 1#32
  ⟨v188, v185, c1_i32_50⟩
def k0_mult2 (i : grid0.Coords) (k0_t2 : Fin (k0_t2_loop i).trips) : BitVec 32 :=
  let c0_i32_47 : BitVec 32 := 0#32
  let arg0 : BitVec 32 := BitVec.ofNat 32 (i 0).val
  let v184 : BitVec 32 := Scalar.subi arg0 c0_i32_47
  let c1_i32_48 : BitVec 32 := 1#32
  let v186 : BitVec 32 := Scalar.divsi v184 c1_i32_48
  let v187 : BitVec 32 := Scalar.muli v186 c1_i32_48
  let v188 : BitVec 32 := Scalar.addi c0_i32_47 v187
  let c1_i32_50 : BitVec 32 := 1#32
  let arg13 : BitVec 32 := Scf.iv v188 c1_i32_50 k0_t2
  let c256_i32_102 : BitVec 32 := 256#32
  let v392 : BitVec 32 := Scalar.muli arg13 c256_i32_102
  v392
def k0_off3 (i : grid0.Coords) (k0_t2 : Fin (k0_t2_loop i).trips) : Fin 2 → Nat :=
  let c0_i32_47 : BitVec 32 := 0#32
  let arg0 : BitVec 32 := BitVec.ofNat 32 (i 0).val
  let v184 : BitVec 32 := Scalar.subi arg0 c0_i32_47
  let c1_i32_48 : BitVec 32 := 1#32
  let v186 : BitVec 32 := Scalar.divsi v184 c1_i32_48
  let v187 : BitVec 32 := Scalar.muli v186 c1_i32_48
  let v188 : BitVec 32 := Scalar.addi c0_i32_47 v187
  let c1_i32_50 : BitVec 32 := 1#32
  let arg13 : BitVec 32 := Scf.iv v188 c1_i32_50 k0_t2
  let c256_i32_102 : BitVec 32 := 256#32
  let v392 : BitVec 32 := Scalar.muli arg13 c256_i32_102
  let v393 : BitVec 32 := v392
  let v394 : Index := Scalar.indexCast v393
  let c0_103 : Index := 0#32
  ![v394.toNat, 0]
def k0_off4 (i : grid0.Coords) (k0_t2 : Fin (k0_t2_loop i).trips) : Fin 2 → Nat :=
  let c0_i32_47 : BitVec 32 := 0#32
  let arg0 : BitVec 32 := BitVec.ofNat 32 (i 0).val
  let v184 : BitVec 32 := Scalar.subi arg0 c0_i32_47
  let c1_i32_48 : BitVec 32 := 1#32
  let v186 : BitVec 32 := Scalar.divsi v184 c1_i32_48
  let v187 : BitVec 32 := Scalar.muli v186 c1_i32_48
  let v188 : BitVec 32 := Scalar.addi c0_i32_47 v187
  let c1_i32_50 : BitVec 32 := 1#32
  let arg13 : BitVec 32 := Scf.iv v188 c1_i32_50 k0_t2
  let c256_i32_102 : BitVec 32 := 256#32
  let v392 : BitVec 32 := Scalar.muli arg13 c256_i32_102
  let v393 : BitVec 32 := v392
  let v474 : Index := Scalar.indexCast v393
  let c256_124 : Index := 256#32
  ![v474.toNat, 256]
def k0_mult3 (i : grid0.Coords) : BitVec 32 :=
  let arg0 : BitVec 32 := BitVec.ofNat 32 (i 0).val
  let c256_i32 : BitVec 32 := 256#32
  let v191 : BitVec 32 := Scalar.muli arg0 c256_i32
  v191
def k0_off5 (i : grid0.Coords) : Fin 2 → Nat :=
  let arg0 : BitVec 32 := BitVec.ofNat 32 (i 0).val
  let c256_i32 : BitVec 32 := 256#32
  let v191 : BitVec 32 := Scalar.muli arg0 c256_i32
  let v192 : BitVec 32 := v191
  let v193 : Index := Scalar.indexCast v192
  let c0_51 : Index := 0#32
  ![v193.toNat, 0]
def k0_off6 (i : grid0.Coords) : Fin 2 → Nat :=
  let arg0 : BitVec 32 := BitVec.ofNat 32 (i 0).val
  let c256_i32 : BitVec 32 := 256#32
  let v191 : BitVec 32 := Scalar.muli arg0 c256_i32
  let v192 : BitVec 32 := v191
  let v276 : Index := Scalar.indexCast v192
  let c256_74 : Index := 256#32
  ![v276.toNat, 256]
def k0_cond2 (i : grid0.Coords) : BitVec 1 :=
  let arg0 : BitVec 32 := BitVec.ofNat 32 (i 0).val
  let c7_i32 : BitVec 32 := 7#32
  let v389 : BitVec 1 := Scalar.cmpi .eq arg0 c7_i32
  let v390 : BitVec 32 := Scalar.extui v389
  let c0_i32_101 : BitVec 32 := 0#32
  let v391 : BitVec 1 := Scalar.cmpi .ne v390 c0_i32_101
  v391

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== AttnReferenceIdeal.lean ====
abbrev S2048x3584 : Shape := ⟨2, ![2048, 3584]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S8x2048x64 : Shape := ⟨3, ![8, 2048, 64]⟩

abbrev nBuf : Space → Nat
  | .hbm => 173
  | .vmem => 0
  | .smem => 0
  | _ => 0

abbrev hbmTy0_0 (i : Nat) : BufTy := match i % 128 with
  | 0 => ⟨S2048x3584, .f32⟩
  | 1 => ⟨S2048x512, .f32⟩
  | 2 => ⟨S2048x512, .f32⟩
  | 3 => ⟨S2048x512, .f32⟩
  | 4 => ⟨S2048x512, .f32⟩
  | 5 => ⟨S2048x8x64, .f32⟩
  | 6 => ⟨S2048x8x64, .f32⟩
  | 7 => ⟨S8x2048x2048, .f32⟩
  | 8 => ⟨S_, .f32⟩
  | 9 => ⟨S8x2048x2048, .f32⟩
  | 10 => ⟨S8x2048x2048, .f32⟩
  | 11 => ⟨S2048, .i32⟩
  | 12 => ⟨S1x2048, .i32⟩
  | 13 => ⟨S2048, .i32⟩
  | 14 => ⟨S2048x1, .i32⟩
  | 15 => ⟨S2048x2048, .i32⟩
  | 16 => ⟨S2048x2048, .i32⟩
  | 17 => ⟨S2048x2048, .i1⟩
  | 18 => ⟨S_, .f32⟩
  | 19 => ⟨S8x2048x2048, .f32⟩
  | 20 => ⟨S8x2048x2048, .f32⟩
  | 21 => ⟨S8x2048x2048, .f32⟩
  | 22 => ⟨S8x2048x2048, .f32⟩
  | 23 => ⟨S8x2048x2048, .i1⟩
  | 24 => ⟨S8x2048x2048, .f32⟩
  | 25 => ⟨S8x2048x2048, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S_, .f32⟩
  | 33 => ⟨S8x2048x2048, .f32⟩
  | 34 => ⟨S8x2048x2048, .i1⟩
  | 35 => ⟨S_, .f32⟩
  | 36 => ⟨S8x2048x2048, .f32⟩
  | 37 => ⟨S8x2048x2048, .f32⟩
  | 38 => ⟨S_, .f32⟩
  | 39 => ⟨S8x2048x2048, .f32⟩
  | 40 => ⟨S8x2048x2048, .i1⟩
  | 41 => ⟨S_, .f32⟩
  | 42 => ⟨S8x2048x2048, .f32⟩
  | 43 => ⟨S8x2048x2048, .f32⟩
  | 44 => ⟨S8x2048x2048, .f32⟩
  | 45 => ⟨S8x2048x2048, .f32⟩
  | 46 => ⟨S_, .f32⟩
  | 47 => ⟨S_, .f32⟩
  | 48 => ⟨S_, .i1⟩
  | 49 => ⟨S_, .f32⟩
  | 50 => ⟨S_, .f32⟩
  | 51 => ⟨S_, .f32⟩
  | 52 => ⟨S_, .f32⟩
  | 53 => ⟨S8x2048x2048, .f32⟩
  | 54 => ⟨S8x2048x2048, .i1⟩
  | 55 => ⟨S_, .f32⟩
  | 56 => ⟨S8x2048x2048, .f32⟩
  | 57 => ⟨S8x2048x2048, .f32⟩
  | 58 => ⟨S8x2048x2048, .f32⟩
  | 59 => ⟨S8x2048x2048, .f32⟩
  | 60 => ⟨S8x2048x2048, .f32⟩
  | 61 => ⟨S_, .f32⟩
  | 62 => ⟨S8x2048x2048, .f32⟩
  | 63 => ⟨S8x2048x2048, .f32⟩
  | 64 => ⟨S8x2048x2048, .f32⟩
  | 65 => ⟨S_, .f32⟩
  | 66 => ⟨S_, .f32⟩
  | 67 => ⟨S8x2048x2048, .i1⟩
  | 68 => ⟨S8x2048x2048, .f32⟩
  | 69 => ⟨S8x2048x2048, .f32⟩
  | 70 => ⟨S_, .f32⟩
  | 71 => ⟨S8x2048x2048, .f32⟩
  | 72 => ⟨S_, .f32⟩
  | 73 => ⟨S_, .f32⟩
  | 74 => ⟨S8x2048x2048, .f32⟩
  | 75 => ⟨S8x2048x2048, .f32⟩
  | 76 => ⟨S8x2048x2048, .f32⟩
  | 77 => ⟨S_, .f32⟩
  | 78 => ⟨S8x2048x2048, .f32⟩
  | 79 => ⟨S8x2048x2048, .f32⟩
  | 80 => ⟨S8x2048x2048, .f32⟩
  | 81 => ⟨S8x2048x2048, .f32⟩
  | 82 => ⟨S8x2048x2048, .i1⟩
  | 83 => ⟨S8x2048x2048, .f32⟩
  | 84 => ⟨S8x2048x2048, .f32⟩
  | 85 => ⟨S8x2048x2048, .f32⟩
  | 86 => ⟨S8x2048x2048, .f32⟩
  | 87 => ⟨S8x2048x2048, .f32⟩
  | 88 => ⟨S8x2048x2048, .f32⟩
  | 89 => ⟨S8x2048x2048, .f32⟩
  | 90 => ⟨S8x2048x2048, .f32⟩
  | 91 => ⟨S_, .f32⟩
  | 92 => ⟨S8x2048x2048, .f32⟩
  | 93 => ⟨S8x2048x2048, .i1⟩
  | 94 => ⟨S_, .f32⟩
  | 95 => ⟨S8x2048x2048, .f32⟩
  | 96 => ⟨S8x2048x2048, .f32⟩
  | 97 => ⟨S_, .f32⟩
  | 98 => ⟨S8x2048x2048, .f32⟩
  | 99 => ⟨S8x2048x2048, .i1⟩
  | 100 => ⟨S_, .f32⟩
  | 101 => ⟨S8x2048x2048, .f32⟩
  | 102 => ⟨S8x2048x2048, .f32⟩
  | 103 => ⟨S8x2048x2048, .f32⟩
  | 104 => ⟨S8x2048x2048, .f32⟩
  | 105 => ⟨S_, .f32⟩
  | 106 => ⟨S_, .f32⟩
  | 107 => ⟨S_, .i1⟩
  | 108 => ⟨S_, .f32⟩
  | 109 => ⟨S_, .f32⟩
  | 110 => ⟨S_, .f32⟩
  | 111 => ⟨S_, .f32⟩
  | 112 => ⟨S8x2048x2048, .f32⟩
  | 113 => ⟨S8x2048x2048, .i1⟩
  | 114 => ⟨S_, .f32⟩
  | 115 => ⟨S8x2048x2048, .f32⟩
  | 116 => ⟨S8x2048x2048, .f32⟩
  | 117 => ⟨S8x2048x2048, .f32⟩
  | 118 => ⟨S8x2048x2048, .f32⟩
  | 119 => ⟨S8x2048x2048, .f32⟩
  | 120 => ⟨S_, .f32⟩
  | 121 => ⟨S8x2048x2048, .f32⟩
  | 122 => ⟨S8x2048x2048, .f32⟩
  | 123 => ⟨S8x2048x2048, .f32⟩
  | 124 => ⟨S8x2048x2048, .f32⟩
  | 125 => ⟨S8x2048x2048, .f32⟩
  | 126 => ⟨S_, .f32⟩
  | 127 => ⟨S_, .f32⟩
  | _ => ⟨S2048x3584, .f32⟩

abbrev hbmTy0_1 (i : Nat) : BufTy := match i % 128 with
  | 0 => ⟨S8x2048x2048, .i1⟩
  | 1 => ⟨S8x2048x2048, .f32⟩
  | 2 => ⟨S8x2048x2048, .f32⟩
  | 3 => ⟨S_, .f32⟩
  | 4 => ⟨S8x2048x2048, .f32⟩
  | 5 => ⟨S2048x8x64, .f32⟩
  | 6 => ⟨S8x64x2048, .f32⟩
  | 7 => ⟨S2048x8x64, .f32⟩
  | 8 => ⟨S2048x512, .f32⟩
  | 9 => ⟨S2048x8x64, .f32⟩
  | 10 => ⟨S8x64x2048, .f32⟩
  | 11 => ⟨S8x2048x2048, .f32⟩
  | 12 => ⟨S8x64x2048, .f32⟩
  | 13 => ⟨S2048x8x64, .f32⟩
  | 14 => ⟨S2048x512, .f32⟩
  | 15 => ⟨S_, .f32⟩
  | 16 => ⟨S8x2048x2048, .f32⟩
  | 17 => ⟨S8x2048x2048, .f32⟩
  | 18 => ⟨S8x2048x2048, .f32⟩
  | 19 => ⟨S8x2048x2048, .f32⟩
  | 20 => ⟨S8x2048x2048, .f32⟩
  | 21 => ⟨S8x2048x2048, .f32⟩
  | 22 => ⟨S8x2048x2048, .f32⟩
  | 23 => ⟨S_, .f32⟩
  | 24 => ⟨S_, .f32⟩
  | 25 => ⟨S8x2048x2048, .f32⟩
  | 26 => ⟨S8x2048x2048, .f32⟩
  | 27 => ⟨S_, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S_, .f32⟩
  | 34 => ⟨S8x2048x2048, .f32⟩
  | 35 => ⟨S8x2048x2048, .f32⟩
  | 36 => ⟨S8x2048x64, .f32⟩
  | 37 => ⟨S2048x8x64, .f32⟩
  | 38 => ⟨S8x2048x64, .f32⟩
  | 39 => ⟨S2048x8x64, .f32⟩
  | 40 => ⟨S2048x512, .f32⟩
  | 41 => ⟨S2048x512, .f32⟩
  | 42 => ⟨S2048x512, .bf16⟩
  | 43 => ⟨S2048x512, .bf16⟩
  | 44 => ⟨S2048x512, .bf16⟩
  | _ => ⟨S2048x3584, .f32⟩

abbrev hbmTy (i : Nat) : BufTy := match i / 128 with
  | 0 => hbmTy0_0 i
  | 1 => hbmTy0_1 i
  | _ => ⟨S2048x3584, .f32⟩

abbrev bufTy : (tb : Table) → Fin (tcTables nBuf tb) → BufTy
  | .hbm, ⟨i, _⟩ => hbmTy i
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v15_0 : Ref sig .tc := ⟨.hbm, 31, rfl⟩
abbrev main_call0_cst_0 : Ref sig .tc := ⟨.hbm, 32, rfl⟩
abbrev main_call0_v13 : Ref sig .tc := ⟨.hbm, 33, rfl⟩
abbrev main_call0_v14 : Ref sig .tc := ⟨.hbm, 34, rfl⟩
abbrev main_call0_cst_1 : Ref sig .tc := ⟨.hbm, 35, rfl⟩
abbrev main_call0_v15 : Ref sig .tc := ⟨.hbm, 36, rfl⟩
abbrev main_call0_v16 : Ref sig .tc := ⟨.hbm, 37, rfl⟩
abbrev main_call0_cst_2 : Ref sig .tc := ⟨.hbm, 38, rfl⟩
abbrev main_call0_v17 : Ref sig .tc := ⟨.hbm, 39, rfl⟩
abbrev main_call0_v18 : Ref sig .tc := ⟨.hbm, 40, rfl⟩
abbrev main_call0_cst_3 : Ref sig .tc := ⟨.hbm, 41, rfl⟩
abbrev main_call0_v19 : Ref sig .tc := ⟨.hbm, 42, rfl⟩
abbrev main_call0_v20 : Ref sig .tc := ⟨.hbm, 43, rfl⟩
abbrev main_call0_v21 : Ref sig .tc := ⟨.hbm, 44, rfl⟩
abbrev main_v15_1 : Ref sig .tc := ⟨.hbm, 45, rfl⟩
abbrev main_call0_cst_4 : Ref sig .tc := ⟨.hbm, 46, rfl⟩
abbrev main_call0_cst_5 : Ref sig .tc := ⟨.hbm, 47, rfl⟩
abbrev main_call0_v23 : Ref sig .tc := ⟨.hbm, 48, rfl⟩
abbrev main_call0_cst_6 : Ref sig .tc := ⟨.hbm, 49, rfl⟩
abbrev main_call0_cst_7 : Ref sig .tc := ⟨.hbm, 50, rfl⟩
abbrev main_call0_v24 : Ref sig .tc := ⟨.hbm, 51, rfl⟩
abbrev main_call0_cst_8 : Ref sig .tc := ⟨.hbm, 52, rfl⟩
abbrev main_call0_v25 : Ref sig .tc := ⟨.hbm, 53, rfl⟩
abbrev main_call0_v26 : Ref sig .tc := ⟨.hbm, 54, rfl⟩
abbrev main_call0_cst_9 : Ref sig .tc := ⟨.hbm, 55, rfl⟩
abbrev main_call0_v27 : Ref sig .tc := ⟨.hbm, 56, rfl⟩
abbrev main_call0_v28 : Ref sig .tc := ⟨.hbm, 57, rfl⟩
abbrev main_call0_v29 : Ref sig .tc := ⟨.hbm, 58, rfl⟩
abbrev main_call0_v30 : Ref sig .tc := ⟨.hbm, 59, rfl⟩
abbrev main_call0_v31 : Ref sig .tc := ⟨.hbm, 60, rfl⟩
abbrev main_call0_cst_10 : Ref sig .tc := ⟨.hbm, 61, rfl⟩
abbrev main_call0_v32 : Ref sig .tc := ⟨.hbm, 62, rfl⟩
abbrev main_v15_2 : Ref sig .tc := ⟨.hbm, 63, rfl⟩
abbrev main_v16 : Ref sig .tc := ⟨.hbm, 64, rfl⟩
abbrev main_cst_0 : Ref sig .tc := ⟨.hbm, 65, rfl⟩
abbrev main_call1_v0 : Ref sig .tc := ⟨.hbm, 66, rfl⟩
abbrev main_v17_1 : Ref sig .tc := ⟨.hbm, 67, rfl⟩
abbrev main_call1_v2 : Ref sig .tc := ⟨.hbm, 68, rfl⟩
abbrev main_v17_0 : Ref sig .tc := ⟨.hbm, 69, rfl⟩
abbrev main_call1_cst : Ref sig .tc := ⟨.hbm, 70, rfl⟩
abbrev main_v17_2 : Ref sig .tc := ⟨.hbm, 71, rfl⟩
abbrev main_call2_cst : Ref sig .tc := ⟨.hbm, 72, rfl⟩
abbrev main_call2_v0 : Ref sig .tc := ⟨.hbm, 73, rfl⟩
abbrev main_v18 : Ref sig .tc := ⟨.hbm, 74, rfl⟩
abbrev main_v19 : Ref sig .tc := ⟨.hbm, 75, rfl⟩
abbrev main_call3_v0 : Ref sig .tc := ⟨.hbm, 76, rfl⟩
abbrev main_call3_call0_cst : Ref sig .tc := ⟨.hbm, 77, rfl⟩
abbrev main_call3_call0_v0 : Ref sig .tc := ⟨.hbm, 78, rfl⟩
abbrev main_call3_call0_v1 : Ref sig .tc := ⟨.hbm, 79, rfl⟩
abbrev main_call3_call0_v2 : Ref sig .tc := ⟨.hbm, 80, rfl⟩
abbrev main_call3_call0_v3 : Ref sig .tc := ⟨.hbm, 81, rfl⟩
abbrev main_call3_call0_v4 : Ref sig .tc := ⟨.hbm, 82, rfl⟩
abbrev main_call3_call0_v5 : Ref sig .tc := ⟨.hbm, 83, rfl⟩
abbrev main_call3_call0_v6 : Ref sig .tc := ⟨.hbm, 84, rfl⟩
abbrev main_call3_call0_v7 : Ref sig .tc := ⟨.hbm, 85, rfl⟩
abbrev main_call3_call0_v8 : Ref sig .tc := ⟨.hbm, 86, rfl⟩
abbrev main_call3_call0_v9 : Ref sig .tc := ⟨.hbm, 87, rfl⟩
abbrev main_call3_call0_v10 : Ref sig .tc := ⟨.hbm, 88, rfl⟩
abbrev main_call3_call0_v11 : Ref sig .tc := ⟨.hbm, 89, rfl⟩
abbrev main_call3_v1_0 : Ref sig .tc := ⟨.hbm, 90, rfl⟩
abbrev main_call3_call0_cst_0 : Ref sig .tc := ⟨.hbm, 91, rfl⟩
abbrev main_call3_call0_v13 : Ref sig .tc := ⟨.hbm, 92, rfl⟩
abbrev main_call3_call0_v14 : Ref sig .tc := ⟨.hbm, 93, rfl⟩
abbrev main_call3_call0_cst_1 : Ref sig .tc := ⟨.hbm, 94, rfl⟩
abbrev main_call3_call0_v15 : Ref sig .tc := ⟨.hbm, 95, rfl⟩
abbrev main_call3_call0_v16 : Ref sig .tc := ⟨.hbm, 96, rfl⟩
abbrev main_call3_call0_cst_2 : Ref sig .tc := ⟨.hbm, 97, rfl⟩
abbrev main_call3_call0_v17 : Ref sig .tc := ⟨.hbm, 98, rfl⟩
abbrev main_call3_call0_v18 : Ref sig .tc := ⟨.hbm, 99, rfl⟩
abbrev main_call3_call0_cst_3 : Ref sig .tc := ⟨.hbm, 100, rfl⟩
abbrev main_call3_call0_v19 : Ref sig .tc := ⟨.hbm, 101, rfl⟩
abbrev main_call3_call0_v20 : Ref sig .tc := ⟨.hbm, 102, rfl⟩
abbrev main_call3_call0_v21 : Ref sig .tc := ⟨.hbm, 103, rfl⟩
abbrev main_v20_1 : Ref sig .tc := ⟨.hbm, 104, rfl⟩
abbrev main_call3_call0_cst_4 : Ref sig .tc := ⟨.hbm, 105, rfl⟩
abbrev main_call3_call0_cst_5 : Ref sig .tc := ⟨.hbm, 106, rfl⟩
abbrev main_call3_call0_v23 : Ref sig .tc := ⟨.hbm, 107, rfl⟩
abbrev main_call3_call0_cst_6 : Ref sig .tc := ⟨.hbm, 108, rfl⟩
abbrev main_call3_call0_cst_7 : Ref sig .tc := ⟨.hbm, 109, rfl⟩
abbrev main_call3_call0_v24 : Ref sig .tc := ⟨.hbm, 110, rfl⟩
abbrev main_call3_call0_cst_8 : Ref sig .tc := ⟨.hbm, 111, rfl⟩
abbrev main_call3_call0_v25 : Ref sig .tc := ⟨.hbm, 112, rfl⟩
abbrev main_call3_call0_v26 : Ref sig .tc := ⟨.hbm, 113, rfl⟩
abbrev main_call3_call0_cst_9 : Ref sig .tc := ⟨.hbm, 114, rfl⟩
abbrev main_call3_call0_v27 : Ref sig .tc := ⟨.hbm, 115, rfl⟩
abbrev main_call3_call0_v28 : Ref sig .tc := ⟨.hbm, 116, rfl⟩
abbrev main_call3_call0_v29 : Ref sig .tc := ⟨.hbm, 117, rfl⟩
abbrev main_call3_call0_v30 : Ref sig .tc := ⟨.hbm, 118, rfl⟩
abbrev main_call3_call0_v31 : Ref sig .tc := ⟨.hbm, 119, rfl⟩
abbrev main_call3_call0_cst_10 : Ref sig .tc := ⟨.hbm, 120, rfl⟩
abbrev main_call3_call0_v32 : Ref sig .tc := ⟨.hbm, 121, rfl⟩
abbrev main_v20_2 : Ref sig .tc := ⟨.hbm, 122, rfl⟩
abbrev main_v20_0 : Ref sig .tc := ⟨.hbm, 123, rfl⟩
abbrev main_v21 : Ref sig .tc := ⟨.hbm, 124, rfl⟩
abbrev main_v22 : Ref sig .tc := ⟨.hbm, 125, rfl⟩
abbrev main_cst_1 : Ref sig .tc := ⟨.hbm, 126, rfl⟩
abbrev main_call4_v0 : Ref sig .tc := ⟨.hbm, 127, rfl⟩
abbrev main_v23_1 : Ref sig .tc := ⟨.hbm, 128, rfl⟩
abbrev main_call4_v2 : Ref sig .tc := ⟨.hbm, 129, rfl⟩
abbrev main_v23_0 : Ref sig .tc := ⟨.hbm, 130, rfl⟩
abbrev main_call4_cst : Ref sig .tc := ⟨.hbm, 131, rfl⟩
abbrev main_v23_2 : Ref sig .tc := ⟨.hbm, 132, rfl⟩
abbrev main_v24 : Ref sig .tc := ⟨.hbm, 133, rfl⟩
abbrev main_v25 : Ref sig .tc := ⟨.hbm, 134, rfl⟩
abbrev main_v26 : Ref sig .tc := ⟨.hbm, 135, rfl⟩
abbrev main_v27 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_v31 : Ref sig .tc := ⟨.hbm, 140, rfl⟩
abbrev main_v32 : Ref sig .tc := ⟨.hbm, 141, rfl⟩
abbrev main_v33 : Ref sig .tc := ⟨.hbm, 142, rfl⟩
abbrev main_call5_cst : Ref sig .tc := ⟨.hbm, 143, rfl⟩
abbrev main_call5_v0 : Ref sig .tc := ⟨.hbm, 144, rfl⟩
abbrev main_v34 : Ref sig .tc := ⟨.hbm, 145, rfl⟩
abbrev main_v35 : Ref sig .tc := ⟨.hbm, 146, rfl⟩
abbrev main_call6_v0 : Ref sig .tc := ⟨.hbm, 147, rfl⟩
abbrev main_call6_v1 : Ref sig .tc := ⟨.hbm, 148, rfl⟩
abbrev main_v36 : Ref sig .tc := ⟨.hbm, 149, rfl⟩
abbrev main_v37 : Ref sig .tc := ⟨.hbm, 150, rfl⟩
abbrev main_call7_cst : Ref sig .tc := ⟨.hbm, 151, rfl⟩
abbrev main_call7_v0 : Ref sig .tc := ⟨.hbm, 152, rfl⟩
abbrev main_v38 : Ref sig .tc := ⟨.hbm, 153, rfl⟩
abbrev main_v39 : Ref sig .tc := ⟨.hbm, 154, rfl⟩
abbrev main_call8_cst : Ref sig .tc := ⟨.hbm, 155, rfl⟩
abbrev main_call8_v0 : Ref sig .tc := ⟨.hbm, 156, rfl⟩
abbrev main_v40 : Ref sig .tc := ⟨.hbm, 157, rfl⟩
abbrev main_v41 : Ref sig .tc := ⟨.hbm, 158, rfl⟩
abbrev main_v42 : Ref sig .tc := ⟨.hbm, 159, rfl⟩
abbrev main_v43 : Ref sig .tc := ⟨.hbm, 160, rfl⟩
abbrev main_cst_2 : Ref sig .tc := ⟨.hbm, 161, rfl⟩
abbrev main_v44 : Ref sig .tc := ⟨.hbm, 162, rfl⟩
abbrev main_v45 : Ref sig .tc := ⟨.hbm, 163, rfl⟩
abbrev main_v46 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩

abbrev nD : Nat := 1
abbrev τ : Topo := Topo.v7x

variable {F : FTy → Type} [FloatOps F]
-- ==== PleKernel.lean ====
abbrev S2048x1024 : Shape := ⟨2, ![2048, 1024]⟩
abbrev S2048x512 : Shape := ⟨2, ![2048, 512]⟩
abbrev S2048x256 : Shape := ⟨2, ![2048, 256]⟩
abbrev S1x1024 : Shape := ⟨2, ![1, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S4x256x256 : Shape := ⟨3, ![4, 256, 256]⟩
abbrev S256x256 : Shape := ⟨2, ![256, 256]⟩
abbrev S256x512 : Shape := ⟨2, ![256, 512]⟩
abbrev S256 : Shape := ⟨1, ![256]⟩
abbrev S256x1 : Shape := ⟨2, ![256, 1]⟩
abbrev S1x256x256 : Shape := ⟨3, ![1, 256, 256]⟩
abbrev S512x1024 : Shape := ⟨2, ![512, 1024]⟩

abbrev nBuf : Space → Nat
  | .hbm => 61
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x256, .f32⟩
  | .hbm, ⟨4, _⟩ => ⟨S1x1024, .f32⟩
  | .hbm, ⟨5, _⟩ => ⟨S1024x1024, .f32⟩
  | .hbm, ⟨6, _⟩ => ⟨S256x1024, .f32⟩
  | .hbm, ⟨7, _⟩ => ⟨S1024x1024, .f32⟩
  | .hbm, ⟨8, _⟩ => ⟨S2048x1024, .f32⟩
  | .hbm, ⟨9, _⟩ => ⟨S1024x1024, .bf16⟩
  | .hbm, ⟨10, _⟩ => ⟨S1024x1024, .bf16⟩
  | .hbm, ⟨11, _⟩ => ⟨S2048x1024, .f32⟩
  | .hbm, ⟨12, _⟩ => ⟨S2048x1024, .bf16⟩
  | .hbm, ⟨13, _⟩ => ⟨S2048x1024, .f32⟩
  | .hbm, ⟨14, _⟩ => ⟨S1024x1024, .f32⟩
  | .hbm, ⟨15, _⟩ => ⟨S2048x1024, .f32⟩
  | .hbm, ⟨16, _⟩ => ⟨S2048x1024, .f32⟩
  | .hbm, ⟨17, _⟩ => ⟨S1024, .f32⟩
  | .hbm, ⟨18, _⟩ => ⟨S2048x1024, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .bf16⟩
  | .hbm, ⟨35, _⟩ => ⟨S2048x1024, .f32⟩
  | .hbm, ⟨36, _⟩ => ⟨S1024x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S2048x256, .bf16⟩
  | .hbm, ⟨47, _⟩ => ⟨S2048x256, .f32⟩
  | .hbm, ⟨48, _⟩ => ⟨S256x1024, .bf16⟩
  | .hbm, ⟨49, _⟩ => ⟨S256x1024, .f32⟩
  | .hbm, ⟨50, _⟩ => ⟨S2048x1024, .f32⟩
  | .hbm, ⟨51, _⟩ => ⟨S2048x1024, .bf16⟩
  | .hbm, ⟨52, _⟩ => ⟨S2048x1024, .bf16⟩
  | .hbm, ⟨53, _⟩ => ⟨S2048x512, .bf16⟩
  | .hbm, ⟨54, _⟩ => ⟨S2048x512, .bf16⟩
  | .hbm, ⟨55, _⟩ => ⟨S2048x1024, .f32⟩
  | .hbm, ⟨56, _⟩ => ⟨S2048x1024, .f32⟩
  | .hbm, ⟨57, _⟩ => ⟨S1024x1024, .f32⟩
  | .hbm, ⟨58, _⟩ => ⟨S4x256x256, .f32⟩
  | .hbm, ⟨59, _⟩ => ⟨S1024x1024, .f32⟩
  | .hbm, ⟨60, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x256, .f32⟩
  | .local _ .vmem, ⟨9, _⟩ => ⟨S256x256, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S1024x1024, .f32⟩
  | .local _ .vmem, ⟨22, _⟩ => ⟨S4x256x256, .f32⟩
  | .local _ .vmem, ⟨23, _⟩ => ⟨S1024x1024, .f32⟩
  | .local _ .vmem, ⟨24, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41_0 : Ref sig .tc := ⟨.hbm, 55, rfl⟩
abbrev main_v41_1 : Ref sig .tc := ⟨.hbm, 56, rfl⟩
abbrev main_v41_2 : Ref sig .tc := ⟨.hbm, 57, rfl⟩
abbrev main_v41_3 : Ref sig .tc := ⟨.hbm, 58, rfl⟩
abbrev main_v41_4 : Ref sig .tc := ⟨.hbm, 59, rfl⟩
abbrev main_v41_5 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PleReferenceIdeal.lean ====
abbrev S2048x1024 : Shape := ⟨2, ![2048, 1024]⟩
abbrev S2048x512 : Shape := ⟨2, ![2048, 512]⟩
abbrev S2048x256 : Shape := ⟨2, ![2048, 256]⟩
abbrev S1x1024 : Shape := ⟨2, ![1, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 91
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x256, .f32⟩
  | .hbm, ⟨4, _⟩ => ⟨S1x1024, .f32⟩
  | .hbm, ⟨5, _⟩ => ⟨S1024x1024, .f32⟩
  | .hbm, ⟨6, _⟩ => ⟨S256x1024, .f32⟩
  | .hbm, ⟨7, _⟩ => ⟨S1024x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S1024x256, .f32⟩
  | .hbm, ⟨54, _⟩ => ⟨S256x1024, .f32⟩
  | .hbm, ⟨55, _⟩ => ⟨S2048x1024, .f32⟩
  | .hbm, ⟨56, _⟩ => ⟨S1024x1024, .f32⟩
  | .hbm, ⟨57, _⟩ => ⟨S1024x1024, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S1024, .f32⟩
  | .hbm, ⟨67, _⟩ => ⟨S2048x1024, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S1x1024, .f32⟩
  | .hbm, ⟨86, _⟩ => ⟨S1024x1024, .f32⟩
  | .hbm, ⟨87, _⟩ => ⟨S1024x1024, .f32⟩
  | .hbm, ⟨88, _⟩ => ⟨S2048x1024, .f32⟩
  | .hbm, ⟨89, _⟩ => ⟨S256x4x256, .f32⟩
  | .hbm, ⟨90, _⟩ => ⟨S4x256x256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩

abbrev nD : Nat := 1
abbrev τ : Topo := Topo.v7x

variable {F : FTy → Type} [FloatOps F]
-- ==== TailKernel.lean ====
abbrev S2048x512 : Shape := ⟨2, ![2048, 512]⟩
abbrev S2048x3584 : Shape := ⟨2, ![2048, 3584]⟩
abbrev S2048x1024 : Shape := ⟨2, ![2048, 1024]⟩
abbrev S2048x256 : Shape := ⟨2, ![2048, 256]⟩
abbrev S1x512 : Shape := ⟨2, ![1, 512]⟩
abbrev S512x512 : Shape := ⟨2, ![512, 512]⟩
abbrev S1024x1024 : Shape := ⟨2, ![1024, 1024]⟩
abbrev S1x1024 : Shape := ⟨2, ![1, 1024]⟩
abbrev S256x1024 : Shape := ⟨2, ![256, 1024]⟩
abbrev S256x4x256 : Shape := ⟨3, ![256, 4, 256]⟩
abbrev S4x256x256 : Shape := ⟨3, ![4, 256, 256]⟩
abbrev S8x128 : Shape := ⟨2, ![8, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 30
  | .vmem => 35
  | .smem => 0
  | _ => 0

abbrev bufTy : (tb : Table) → Fin (tcTables nBuf tb) → BufTy
  | .hbm, ⟨0, _⟩ => ⟨S2048x512, .f32⟩
  | .hbm, ⟨1, _⟩ => ⟨S2048x3584, .f32⟩
  | .hbm, ⟨2, _⟩ => ⟨S2048x512, .f32⟩
  | .hbm, ⟨3, _⟩ => ⟨S2048x1024, .f32⟩
  | .hbm, ⟨4, _⟩ => ⟨S2048x256, .f32⟩
  | .hbm, ⟨5, _⟩ => ⟨S1x512, .f32⟩
  | .hbm, ⟨6, _⟩ => ⟨S1x512, .f32⟩
  | .hbm, ⟨7, _⟩ => ⟨S512x512, .f32⟩
  | .hbm, ⟨8, _⟩ => ⟨S1x512, .f32⟩
  | .hbm, ⟨9, _⟩ => ⟨S1024x1024, .f32⟩
  | .hbm, ⟨10, _⟩ => ⟨S1x1024, .f32⟩
  | .hbm, ⟨11, _⟩ => ⟨S1024x1024, .f32⟩
  | .hbm, ⟨12, _⟩ => ⟨S256x1024, .f32⟩
  | .hbm, ⟨13, _⟩ => ⟨S2048x1024, .f32⟩
  | .hbm, ⟨14, _⟩ => ⟨S1x1024, .f32⟩
  | .hbm, ⟨15, _⟩ => ⟨S2048x512, .bf16⟩
  | .hbm, ⟨16, _⟩ => ⟨S512x512, .bf16⟩
  | .hbm, ⟨17, _⟩ => ⟨S1024x1024, .bf16⟩
  | .hbm, ⟨18, _⟩ => ⟨S1024x1024, .bf16⟩
  | .hbm, ⟨19, _⟩ => ⟨S256x1024, .bf16⟩
  | .hbm, ⟨20, _⟩ => ⟨S256x4x256, .bf16⟩
  | .hbm, ⟨21, _⟩ => ⟨S4x256x256, .bf16⟩
  | .hbm, ⟨22, _⟩ => ⟨S2048x512, .f32⟩
  | .hbm, ⟨23, _⟩ => ⟨S2048x512, .bf16⟩
  | .hbm, ⟨24, _⟩ => ⟨S2048x1024, .f32⟩
  | .hbm, ⟨25, _⟩ => ⟨S2048x1024, .bf16⟩
  | .hbm, ⟨26, _⟩ => ⟨S2048x1024, .bf16⟩
  | .hbm, ⟨27, _⟩ => ⟨S2048x1024, .f32⟩
  | .hbm, ⟨28, _⟩ => ⟨S8x128, .f32⟩
  | .hbm, ⟨29, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S4x256x256, .bf16⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S512x512, .f32⟩
  | .local _ .vmem, ⟨22, _⟩ => ⟨S512x512, .f32⟩
  | .local _ .vmem, ⟨23, _⟩ => ⟨S512x512, .bf16⟩
  | .local _ .vmem, ⟨24, _⟩ => ⟨S512x512, .bf16⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .f32⟩
  | .local _ .vmem, ⟨32, _⟩ => ⟨S512x1024, .f32⟩
  | .local _ .vmem, ⟨33, _⟩ => ⟨S8x128, .f32⟩
  | .local _ .vmem, ⟨34, _⟩ => ⟨S1x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev main_v7_2 : Ref sig .tc := ⟨.hbm, 24, rfl⟩
abbrev main_v7_3 : Ref sig .tc := ⟨.hbm, 25, rfl⟩
abbrev main_v7_4 : Ref sig .tc := ⟨.hbm, 26, rfl⟩
abbrev main_v7_5 : Ref sig .tc := ⟨.hbm, 27, rfl⟩
abbrev main_v7_6 : Ref sig .tc := ⟨.hbm, 28, rfl⟩
abbrev main_v7_7 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg22_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem22_0 : DmaSem sig := 34

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S8x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== TailReferenceIdeal.lean ====
abbrev S2048x512 : Shape := ⟨2, ![2048, 512]⟩
abbrev S2048x3584 : Shape := ⟨2, ![2048, 3584]⟩
abbrev S2048x1024 : Shape := ⟨2, ![2048, 1024]⟩
abbrev S2048x256 : Shape := ⟨2, ![2048, 256]⟩
abbrev S1x512 : Shape := ⟨2, ![1, 512]⟩
abbrev S512x512 : Shape := ⟨2, ![512, 512]⟩
abbrev S1024x1024 : Shape := ⟨2, ![1024, 1024]⟩
abbrev S1x1024 : Shape := ⟨2, ![1, 1024]⟩
abbrev S256x1024 : Shape := ⟨2, ![256, 1024]⟩
abbrev S512 : Shape := ⟨1, ![512]⟩
abbrev S_ : Shape := ⟨0, ![]⟩
abbrev S2048 : Shape := ⟨1, ![2048]⟩
abbrev S2048x1 : Shape := ⟨2, ![2048, 1]⟩
abbrev S1024 : Shape := ⟨1, ![1024]⟩
abbrev S8x128 : Shape := ⟨2, ![8, 128]⟩

abbrev nBuf : Space → Nat
  | .hbm => 188
  | .vmem => 0
  | .smem => 0
  | _ => 0

abbrev hbmTy0_0 (i : Nat) : BufTy := match i % 128 with
  | 0 => ⟨S2048x512, .f32⟩
  | 1 => ⟨S2048x3584, .f32⟩
  | 2 => ⟨S2048x512, .f32⟩
  | 3 => ⟨S2048x1024, .f32⟩
  | 4 => ⟨S2048x256, .f32⟩
  | 5 => ⟨S1x512, .f32⟩
  | 6 => ⟨S1x512, .f32⟩
  | 7 => ⟨S512x512, .f32⟩
  | 8 => ⟨S1x512, .f32⟩
  | 9 => ⟨S1024x1024, .f32⟩
  | 10 => ⟨S1x1024, .f32⟩
  | 11 => ⟨S1024x1024, .f32⟩
  | 12 => ⟨S256x1024, .f32⟩
  | 13 => ⟨S2048x1024, .f32⟩
  | 14 => ⟨S1x1024, .f32⟩
  | 15 => ⟨S512, .f32⟩
  | 16 => ⟨S512, .f32⟩
  | 17 => ⟨S_, .f32⟩
  | 18 => ⟨S2048, .f32⟩
  | 19 => ⟨S2048x1, .f32⟩
  | 20 => ⟨S_, .f32⟩
  | 21 => ⟨S2048x1, .f32⟩
  | 22 => ⟨S2048x1, .f32⟩
  | 23 => ⟨S2048x512, .f32⟩
  | 24 => ⟨S2048x512, .f32⟩
  | 25 => ⟨S2048x512, .f32⟩
  | 26 => ⟨S_, .f32⟩
  | 27 => ⟨S2048, .f32⟩
  | 28 => ⟨S2048x1, .f32⟩
  | 29 => ⟨S_, .f32⟩
  | 30 => ⟨S2048x1, .f32⟩
  | 31 => ⟨S2048x1, .f32⟩
  | 32 => ⟨S_, .f32⟩
  | 33 => ⟨S2048x1, .f32⟩
  | 34 => ⟨S2048x1, .f32⟩
  | 35 => ⟨S2048x1, .f32⟩
  | 36 => ⟨S2048x512, .f32⟩
  | 37 => ⟨S2048x512, .f32⟩
  | 38 => ⟨S1x512, .f32⟩
  | 39 => ⟨S2048x512, .f32⟩
  | 40 => ⟨S2048x512, .f32⟩
  | 41 => ⟨S1x512, .f32⟩
  | 42 => ⟨S2048x512, .f32⟩
  | 43 => ⟨S2048x512, .f32⟩
  | 44 => ⟨S2048x512, .f32⟩
  | 45 => ⟨S2048x512, .f32⟩
  | 46 => ⟨S_, .f32⟩
  | 47 => ⟨S2048x512, .f32⟩
  | 48 => ⟨S2048x512, .f32⟩
  | 49 => ⟨S_, .f32⟩
  | 50 => ⟨S2048x512, .f32⟩
  | 51 => ⟨S2048x512, .f32⟩
  | 52 => ⟨S2048x512, .f32⟩
  | 53 => ⟨S2048x512, .f32⟩
  | 54 => ⟨S512, .f32⟩
  | 55 => ⟨S2048x512, .f32⟩
  | 56 => ⟨S_, .f32⟩
  | 57 => ⟨S2048, .f32⟩
  | 58 => ⟨S2048x1, .f32⟩
  | 59 => ⟨S_, .f32⟩
  | 60 => ⟨S2048x1, .f32⟩
  | 61 => ⟨S2048x1, .f32⟩
  | 62 => ⟨S_, .f32⟩
  | 63 => ⟨S2048x1, .f32⟩
  | 64 => ⟨S2048x1, .f32⟩
  | 65 => ⟨S2048x1, .f32⟩
  | 66 => ⟨S2048x512, .f32⟩
  | 67 => ⟨S2048x512, .f32⟩
  | 68 => ⟨S1x512, .f32⟩
  | 69 => ⟨S2048x512, .f32⟩
  | 70 => ⟨S2048x512, .f32⟩
  | 71 => ⟨S2048x512, .f32⟩
  | 72 => ⟨S2048x512, .f32⟩
  | 73 => ⟨S2048x512, .f32⟩
  | 74 => ⟨S_, .f32⟩
  | 75 => ⟨S2048x512, .f32⟩
  | 76 => ⟨S2048x512, .f32⟩
  | 77 => ⟨S_, .f32⟩
  | 78 => ⟨S2048x512, .f32⟩
  | 79 => ⟨S2048x512, .f32⟩
  | 80 => ⟨S2048x512, .f32⟩
  | 81 => ⟨S2048x512, .f32⟩
  | 82 => ⟨S2048x1024, .f32⟩
  | 83 => ⟨S2048x1024, .f32⟩
  | 84 => ⟨S2048x1024, .f32⟩
  | 85 => ⟨S1024, .f32⟩
  | 86 => ⟨S2048x1024, .f32⟩
  | 87 => ⟨S_, .f32⟩
  | 88 => ⟨S2048, .f32⟩
  | 89 => ⟨S2048x1, .f32⟩
  | 90 => ⟨S_, .f32⟩
  | 91 => ⟨S2048x1, .f32⟩
  | 92 => ⟨S2048x1, .f32⟩
  | 93 => ⟨S_, .f32⟩
  | 94 => ⟨S2048x1, .f32⟩
  | 95 => ⟨S2048x1, .f32⟩
  | 96 => ⟨S2048x1, .f32⟩
  | 97 => ⟨S2048x1024, .f32⟩
  | 98 => ⟨S2048x1024, .f32⟩
  | 99 => ⟨S1x1024, .f32⟩
  | 100 => ⟨S2048x1024, .f32⟩
  | 101 => ⟨S2048x1024, .f32⟩
  | 102 => ⟨S2048x1024, .f32⟩
  | 103 => ⟨S2048x1024, .f32⟩
  | 104 => ⟨S2048x1024, .f32⟩
  | 105 => ⟨S_, .f32⟩
  | 106 => ⟨S2048x1024, .f32⟩
  | 107 => ⟨S2048x1024, .f32⟩
  | 108 => ⟨S_, .f32⟩
  | 109 => ⟨S2048x1024, .f32⟩
  | 110 => ⟨S2048x1024, .f32⟩
  | 111 => ⟨S2048x1024, .f32⟩
  | 112 => ⟨S2048x1024, .f32⟩
  | 113 => ⟨S2048x1024, .f32⟩
  | 114 => ⟨S1024, .f32⟩
  | 115 => ⟨S2048x1024, .f32⟩
  | 116 => ⟨S_, .f32⟩
  | 117 => ⟨S2048, .f32⟩
  | 118 => ⟨S2048x1, .f32⟩
  | 119 => ⟨S_, .f32⟩
  | 120 => ⟨S2048x1, .f32⟩
  | 121 => ⟨S2048x1, .f32⟩
  | 122 => ⟨S_, .f32⟩
  | 123 => ⟨S2048x1, .f32⟩
  | 124 => ⟨S2048x1, .f32⟩
  | 125 => ⟨S2048x1, .f32⟩
  | 126 => ⟨S2048x1, .f32⟩
  | 127 => ⟨S_, .f32⟩
  | _ => ⟨S2048x512, .f32⟩

abbrev hbmTy0_1 (i : Nat) : BufTy := match i % 128 with
  | 0 => ⟨S2048x1, .f32⟩
  | 1 => ⟨S2048x1, .f32⟩
  | 2 => ⟨S2048x1024, .f32⟩
  | 3 => ⟨S2048x1024, .f32⟩
  | 4 => ⟨S1x1024, .f32⟩
  | 5 => ⟨S2048x1024, .f32⟩
  | 6 => ⟨S2048x1024, .f32⟩
  | 7 => ⟨S2048x1024, .f32⟩
  | 8 => ⟨S2048x1024, .f32⟩
  | 9 => ⟨S_, .f32⟩
  | 10 => ⟨S2048x1024, .f32⟩
  | 11 => ⟨S2048x1024, .f32⟩
  | 12 => ⟨S_, .f32⟩
  | 13 => ⟨S2048, .f32⟩
  | 14 => ⟨S_, .f32⟩
  | 15 => ⟨S2048, .f32⟩
  | 16 => ⟨S2048, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S2048, .f32⟩
  | 25 => ⟨S_, .f32⟩
  | 26 => ⟨S2048, .f32⟩
  | 27 => ⟨S2048, .f32⟩
  | 28 => ⟨S2048x1024, .f32⟩
  | 29 => ⟨S2048x1024, .f32⟩
  | 30 => ⟨S2048x1024, .f32⟩
  | 31 => ⟨S_, .f32⟩
  | 32 => ⟨S1024, .f32⟩
  | 33 => ⟨S1x1024, .f32⟩
  | 34 => ⟨S2048x1024, .f32⟩
  | 35 => ⟨S2048x1024, .f32⟩
  | 36 => ⟨S_, .f32⟩
  | 37 => ⟨S1024, .f32⟩
  | 38 => ⟨S2048x1024, .f32⟩
  | 39 => ⟨S_, .f32⟩
  | 40 => ⟨S2048, .f32⟩
  | 41 => ⟨S2048x1, .f32⟩
  | 42 => ⟨S2048x1024, .f32⟩
  | 43 => ⟨S2048x1024, .f32⟩
  | 44 => ⟨S2048x1, .f32⟩
  | 45 => ⟨S_, .f32⟩
  | 46 => ⟨S2048x1, .f32⟩
  | 47 => ⟨S2048x1, .f32⟩
  | 48 => ⟨S_, .f32⟩
  | 49 => ⟨S2048, .f32⟩
  | 50 => ⟨S2048x1024, .f32⟩
  | 51 => ⟨S2048x1024, .f32⟩
  | 52 => ⟨S2048x1024, .f32⟩
  | 53 => ⟨S2048x1024, .f32⟩
  | 54 => ⟨S2048x1024, .f32⟩
  | 55 => ⟨S1x1024, .f32⟩
  | 56 => ⟨S2048x512, .bf16⟩
  | 57 => ⟨S2048x1024, .bf16⟩
  | 58 => ⟨S2048x1024, .bf16⟩
  | 59 => ⟨S8x128, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_4 : Ref sig .tc := ⟨.hbm, 56, rfl⟩
abbrev main_v28 : Ref sig .tc := ⟨.hbm, 57, rfl⟩
abbrev main_v29 : Ref sig .tc := ⟨.hbm, 58, rfl⟩
abbrev main_cst_5 : Ref sig .tc := ⟨.hbm, 59, rfl⟩
abbrev main_v30 : Ref sig .tc := ⟨.hbm, 60, rfl⟩
abbrev main_v31 : Ref sig .tc := ⟨.hbm, 61, rfl⟩
abbrev main_cst_6 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_call1_v5 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_7 : Ref sig .tc := ⟨.hbm, 87, rfl⟩
abbrev main_v48 : Ref sig .tc := ⟨.hbm, 88, rfl⟩
abbrev main_v49 : Ref sig .tc := ⟨.hbm, 89, rfl⟩
abbrev main_cst_8 : Ref sig .tc := ⟨.hbm, 90, rfl⟩
abbrev main_v50 : Ref sig .tc := ⟨.hbm, 91, rfl⟩
abbrev main_v51 : Ref sig .tc := ⟨.hbm, 92, rfl⟩
abbrev main_cst_9 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_10 : Ref sig .tc := ⟨.hbm, 105, rfl⟩
abbrev main_v63 : Ref sig .tc := ⟨.hbm, 106, rfl⟩
abbrev main_v64 : Ref sig .tc := ⟨.hbm, 107, rfl⟩
abbrev main_cst_11 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_12 : Ref sig .tc := ⟨.hbm, 116, rfl⟩
abbrev main_v72 : Ref sig .tc := ⟨.hbm, 117, rfl⟩
abbrev main_v73 : Ref sig .tc := ⟨.hbm, 118, rfl⟩
abbrev main_cst_13 : Ref sig .tc := ⟨.hbm, 119, rfl⟩
abbrev main_v74 : Ref sig .tc := ⟨.hbm, 120, rfl⟩
abbrev main_v75 : Ref sig .tc := ⟨.hbm, 121, rfl⟩
abbrev main_cst_14 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_cst_15 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_16 : Ref sig .tc := ⟨.hbm, 137, rfl⟩
abbrev main_v89 : Ref sig .tc := ⟨.hbm, 138, rfl⟩
abbrev main_v90 : Ref sig .tc := ⟨.hbm, 139, rfl⟩
abbrev main_cst_17 : Ref sig .tc := ⟨.hbm, 140, rfl⟩
abbrev main_v91 : Ref sig .tc := ⟨.hbm, 141, rfl⟩
abbrev main_cst_18 : Ref sig .tc := ⟨.hbm, 142, rfl⟩
abbrev main_v92 : Ref sig .tc := ⟨.hbm, 143, rfl⟩
abbrev main_v93 : Ref sig .tc := ⟨.hbm, 144, rfl⟩
abbrev main_cst_19 : Ref sig .tc := ⟨.hbm, 145, rfl⟩
abbrev main_v94 : Ref sig .tc := ⟨.hbm, 146, rfl⟩
abbrev main_cst_20 : Ref sig .tc := ⟨.hbm, 147, rfl⟩
abbrev main_v95 : Ref sig .tc := ⟨.hbm, 148, rfl⟩
abbrev main_cst_21 : Ref sig .tc := ⟨.hbm, 149, rfl⟩
abbrev main_cst_22 : Ref sig .tc := ⟨.hbm, 150, rfl⟩
abbrev main_v96 : Ref sig .tc := ⟨.hbm, 151, rfl⟩
abbrev main_v97 : Ref sig .tc := ⟨.hbm, 152, rfl⟩
abbrev main_cst_23 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_24 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_cst_25 : Ref sig .tc := ⟨.hbm, 164, rfl⟩
abbrev main_v107 : Ref sig .tc := ⟨.hbm, 165, rfl⟩
abbrev main_v108 : Ref sig .tc := ⟨.hbm, 166, rfl⟩
abbrev main_cst_26 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_cst_27 : Ref sig .tc := ⟨.hbm, 173, rfl⟩
abbrev main_v114 : Ref sig .tc := ⟨.hbm, 174, rfl⟩
abbrev main_v115 : Ref sig .tc := ⟨.hbm, 175, rfl⟩
abbrev main_cst_28 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩

abbrev nD : Nat := 1
abbrev τ : Topo := Topo.v7x

variable {F : FTy → Type} [FloatOps F]
-- ==== InDwKernel.lean ====
abbrev S2048x1024 : Shape := ⟨2, ![2048, 1024]⟩
abbrev S1x1024 : Shape := ⟨2, ![1, 1024]⟩
abbrev S2048x3584 : Shape := ⟨2, ![2048, 3584]⟩
abbrev S1024 : Shape := ⟨1, ![1024]⟩
abbrev S_ : Shape := ⟨0, ![]⟩
abbrev S2048 : Shape := ⟨1, ![2048]⟩
abbrev S2048x1 : Shape := ⟨2, ![2048, 1]⟩
abbrev S4x1024x896 : Shape := ⟨3, ![4, 1024, 896]⟩
abbrev S2048x896 : Shape := ⟨2, ![2048, 896]⟩
abbrev S1x1024x896 : Shape := ⟨3, ![1, 1024, 896]⟩
abbrev S1024x896 : Shape := ⟨2, ![1024, 896]⟩

abbrev nBuf : Space → Nat
  | .hbm => 23
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x3584, .f32⟩
  | .hbm, ⟨3, _⟩ => ⟨S1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | .hbm, ⟨21, _⟩ => ⟨S2048x3584, .bf16⟩
  | .hbm, ⟨22, _⟩ => ⟨S4x1024x896, .f32⟩
  | .local _ .vmem, ⟨0, _⟩ => ⟨S2048x1024, .bf16⟩
  | .local _ .vmem, ⟨1, _⟩ => ⟨S2048x896, .bf16⟩
  | .local _ .vmem, ⟨2, _⟩ => ⟨S2048x896, .bf16⟩
  | .local _ .vmem, ⟨3, _⟩ => ⟨S1x1024x896, .f32⟩
  | .local _ .vmem, ⟨4, _⟩ => ⟨S1x1024x896, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InDwReferenceIdeal.lean ====
abbrev S2048x1024 : Shape := ⟨2, ![2048, 1024]⟩
abbrev S1x1024 : Shape := ⟨2, ![1, 1024]⟩
abbrev S2048x3584 : Shape := ⟨2, ![2048, 3584]⟩
abbrev S_ : Shape := ⟨0, ![]⟩
abbrev S1024x3584 : Shape := ⟨2, ![1024, 3584]⟩
abbrev S1024 : Shape := ⟨1, ![1024]⟩
abbrev S2048 : Shape := ⟨1, ![2048]⟩
abbrev S2048x1 : Shape := ⟨2, ![2048, 1]⟩
abbrev S3584x1024 : Shape := ⟨2, ![3584, 1024]⟩
abbrev S1024x4x896 : Shape := ⟨3, ![1024, 4, 896]⟩
abbrev S4x1024x896 : Shape := ⟨3, ![4, 1024, 896]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x3584, .f32⟩
  | .hbm, ⟨3, _⟩ => ⟨S_, .f32⟩
  | .hbm, ⟨4, _⟩ => ⟨S1024x3584, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x3584, .f32⟩
  | .hbm, ⟨23, _⟩ => ⟨S3584x1024, .f32⟩
  | .hbm, ⟨24, _⟩ => ⟨S1024x3584, .f32⟩
  | .hbm, ⟨25, _⟩ => ⟨S1024x4x896, .f32⟩
  | .hbm, ⟨26, _⟩ => ⟨S4x1024x896, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== AdamwKernel.lean ====
abbrev S2048x896 : Shape := ⟨2, ![2048, 896]⟩
abbrev S256x896 : Shape := ⟨2, ![256, 896]⟩

abbrev nBuf : Space → Nat
  | .hbm => 8
  | .vmem => 16
  | .smem => 0
  | _ => 0

abbrev bufTy : (tb : Table) → Fin (tcTables nBuf tb) → BufTy
  | .hbm, ⟨0, _⟩ => ⟨S2048x896, .f32⟩
  | .hbm, ⟨1, _⟩ => ⟨S2048x896, .f32⟩
  | .hbm, ⟨2, _⟩ => ⟨S2048x896, .f32⟩
  | .hbm, ⟨3, _⟩ => ⟨S2048x896, .f32⟩
  | .hbm, ⟨4, _⟩ => ⟨S2048x896, .f32⟩
  | .hbm, ⟨5, _⟩ => ⟨S2048x896, .f32⟩
  | .hbm, ⟨6, _⟩ => ⟨S2048x896, .f32⟩
  | .hbm, ⟨7, _⟩ => ⟨S2048x896, .f32⟩
  | .local _ .vmem, ⟨0, _⟩ => ⟨S256x896, .f32⟩
  | .local _ .vmem, ⟨1, _⟩ => ⟨S256x896, .f32⟩
  | .local _ .vmem, ⟨2, _⟩ => ⟨S256x896, .f32⟩
  | .local _ .vmem, ⟨3, _⟩ => ⟨S256x896, .f32⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | _, _ => ⟨S2048x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwKernelIdeal.lean ====
abbrev S2048x896 : Shape := ⟨2, ![2048, 896]⟩
abbrev S256x896 : Shape := ⟨2, ![256, 896]⟩

abbrev nBuf : Space → Nat
  | .hbm => 8
  | .vmem => 16
  | .smem => 0
  | _ => 0

abbrev bufTy : (tb : Table) → Fin (tcTables nBuf tb) → BufTy
  | .hbm, ⟨0, _⟩ => ⟨S2048x896, .f32⟩
  | .hbm, ⟨1, _⟩ => ⟨S2048x896, .f32⟩
  | .hbm, ⟨2, _⟩ => ⟨S2048x896, .f32⟩
  | .hbm, ⟨3, _⟩ => ⟨S2048x896, .f32⟩
  | .hbm, ⟨4, _⟩ => ⟨S2048x896, .f32⟩
  | .hbm, ⟨5, _⟩ => ⟨S2048x896, .f32⟩
  | .hbm, ⟨6, _⟩ => ⟨S2048x896, .f32⟩
  | .hbm, ⟨7, _⟩ => ⟨S2048x896, .f32⟩
  | .local _ .vmem, ⟨0, _⟩ => ⟨S256x896, .f32⟩
  | .local _ .vmem, ⟨1, _⟩ => ⟨S256x896, .f32⟩
  | .local _ .vmem, ⟨2, _⟩ => ⟨S256x896, .f32⟩
  | .local _ .vmem, ⟨3, _⟩ => ⟨S256x896, .f32⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | _, _ => ⟨S2048x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwReferenceIdeal.lean ====
abbrev S2048x896 : Shape := ⟨2, ![2048, 896]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x896, .f32⟩
  | .hbm, ⟨1, _⟩ => ⟨S2048x896, .f32⟩
  | .hbm, ⟨2, _⟩ => ⟨S2048x896, .f32⟩
  | .hbm, ⟨3, _⟩ => ⟨S2048x896, .f32⟩
  | .hbm, ⟨4, _⟩ => ⟨S_, .f32⟩
  | .hbm, ⟨5, _⟩ => ⟨S2048x896, .f32⟩
  | .hbm, ⟨6, _⟩ => ⟨S2048x896, .f32⟩
  | .hbm, ⟨7, _⟩ => ⟨S_, .f32⟩
  | .hbm, ⟨8, _⟩ => ⟨S2048x896, .f32⟩
  | .hbm, ⟨9, _⟩ => ⟨S2048x896, .f32⟩
  | .hbm, ⟨10, _⟩ => ⟨S2048x896, .f32⟩
  | .hbm, ⟨11, _⟩ => ⟨S_, .f32⟩
  | .hbm, ⟨12, _⟩ => ⟨S2048x896, .f32⟩
  | .hbm, ⟨13, _⟩ => ⟨S2048x896, .f32⟩
  | .hbm, ⟨14, _⟩ => ⟨S2048x896, .f32⟩
  | .hbm, ⟨15, _⟩ => ⟨S_, .f32⟩
  | .hbm, ⟨16, _⟩ => ⟨S2048x896, .f32⟩
  | .hbm, ⟨17, _⟩ => ⟨S2048x896, .f32⟩
  | .hbm, ⟨18, _⟩ => ⟨S2048x896, .f32⟩
  | .hbm, ⟨19, _⟩ => ⟨S_, .f32⟩
  | .hbm, ⟨20, _⟩ => ⟨S2048x896, .f32⟩
  | .hbm, ⟨21, _⟩ => ⟨S2048x896, .f32⟩
  | .hbm, ⟨22, _⟩ => ⟨S_, .f32⟩
  | .hbm, ⟨23, _⟩ => ⟨S2048x896, .f32⟩
  | .hbm, ⟨24, _⟩ => ⟨S2048x896, .f32⟩
  | .hbm, ⟨25, _⟩ => ⟨S2048x896, .f32⟩
  | .hbm, ⟨26, _⟩ => ⟨S_, .f32⟩
  | .hbm, ⟨27, _⟩ => ⟨S2048x896, .f32⟩
  | .hbm, ⟨28, _⟩ => ⟨S2048x896, .f32⟩
  | .hbm, ⟨29, _⟩ => ⟨S2048x896, .f32⟩
  | .hbm, ⟨30, _⟩ => ⟨S_, .f32⟩
  | .hbm, ⟨31, _⟩ => ⟨S2048x896, .f32⟩
  | .hbm, ⟨32, _⟩ => ⟨S2048x896, .f32⟩
  | .hbm, ⟨33, _⟩ => ⟨S2048x896, .f32⟩
  | .hbm, ⟨34, _⟩ => ⟨S_, .f32⟩
  | .hbm, ⟨35, _⟩ => ⟨S2048x896, .f32⟩
  | .hbm, ⟨36, _⟩ => ⟨S2048x896, .f32⟩
  | _, _ => ⟨S2048x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== TapsKernel.lean ====
abbrev S2x31x128 : Shape := ⟨3, ![2, 31, 128]⟩
abbrev S2x32x128 : Shape := ⟨3, ![2, 32, 128]⟩

abbrev nBuf : Space → Nat
  | .hbm => 8
  | .vmem => 8
  | .smem => 0
  | _ => 0

abbrev bufTy : (tb : Table) → Fin (tcTables nBuf tb) → BufTy
  | .hbm, ⟨0, _⟩ => ⟨S2x31x128, .f32⟩
  | .hbm, ⟨1, _⟩ => ⟨S2x32x128, .f32⟩
  | .hbm, ⟨2, _⟩ => ⟨S2x31x128, .f32⟩
  | .hbm, ⟨3, _⟩ => ⟨S2x31x128, .f32⟩
  | .hbm, ⟨4, _⟩ => ⟨S2x31x128, .f32⟩
  | .hbm, ⟨5, _⟩ => ⟨S2x31x128, .f32⟩
  | .hbm, ⟨6, _⟩ => ⟨S2x31x128, .f32⟩
  | .hbm, ⟨7, _⟩ => ⟨S2x31x128, .f32⟩
  | .local _ .vmem, ⟨0, _⟩ => ⟨S2x31x128, .f32⟩
  | .local _ .vmem, ⟨1, _⟩ => ⟨S2x32x128, .f32⟩
  | .local _ .vmem, ⟨2, _⟩ => ⟨S2x31x128, .f32⟩
  | .local _ .vmem, ⟨3, _⟩ => ⟨S2x31x128, .f32⟩
  | .local _ .vmem, ⟨4, _⟩ => ⟨S2x31x128, .f32⟩
  | .local _ .vmem, ⟨5, _⟩ => ⟨S2x31x128, .f32⟩
  | .local _ .vmem, ⟨6, _⟩ => ⟨S2x31x128, .f32⟩
  | .local _ .vmem, ⟨7, _⟩ => ⟨S2x31x128, .f32⟩
  | _, _ => ⟨S2x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x31x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== TapsReferenceIdeal.lean ====
abbrev S2x31x128 : Shape := ⟨3, ![2, 31, 128]⟩
abbrev S2x32x128 : Shape := ⟨3, ![2, 32, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2x31x128, .f32⟩
  | .hbm, ⟨1, _⟩ => ⟨S2x32x128, .f32⟩
  | .hbm, ⟨2, _⟩ => ⟨S2x31x128, .f32⟩
  | .hbm, ⟨3, _⟩ => ⟨S2x31x128, .f32⟩
  | .hbm, ⟨4, _⟩ => ⟨S2x31x128, .f32⟩
  | .hbm, ⟨5, _⟩ => ⟨S_, .f32⟩
  | .hbm, ⟨6, _⟩ => ⟨S2x31x128, .f32⟩
  | .hbm, ⟨7, _⟩ => ⟨S2x31x128, .f32⟩
  | .hbm, ⟨8, _⟩ => ⟨S_, .f32⟩
  | .hbm, ⟨9, _⟩ => ⟨S2x31x128, .f32⟩
  | .hbm, ⟨10, _⟩ => ⟨S2x31x128, .f32⟩
  | .hbm, ⟨11, _⟩ => ⟨S2x31x128, .f32⟩
  | .hbm, ⟨12, _⟩ => ⟨S_, .f32⟩
  | .hbm, ⟨13, _⟩ => ⟨S2x31x128, .f32⟩
  | .hbm, ⟨14, _⟩ => ⟨S2x31x128, .f32⟩
  | .hbm, ⟨15, _⟩ => ⟨S2x31x128, .f32⟩
  | .hbm, ⟨16, _⟩ => ⟨S_, .f32⟩
  | .hbm, ⟨17, _⟩ => ⟨S2x31x128, .f32⟩
  | .hbm, ⟨18, _⟩ => ⟨S2x31x128, .f32⟩
  | .hbm, ⟨19, _⟩ => ⟨S2x31x128, .f32⟩
  | .hbm, ⟨20, _⟩ => ⟨S_, .f32⟩
  | .hbm, ⟨21, _⟩ => ⟨S2x31x128, .f32⟩
  | .hbm, ⟨22, _⟩ => ⟨S2x31x128, .f32⟩
  | .hbm, ⟨23, _⟩ => ⟨S_, .f32⟩
  | .hbm, ⟨24, _⟩ => ⟨S2x31x128, .f32⟩
  | .hbm, ⟨25, _⟩ => ⟨S2x31x128, .f32⟩
  | .hbm, ⟨26, _⟩ => ⟨S2x31x128, .f32⟩
  | .hbm, ⟨27, _⟩ => ⟨S_, .f32⟩
  | .hbm, ⟨28, _⟩ => ⟨S2x31x128, .f32⟩
  | .hbm, ⟨29, _⟩ => ⟨S2x31x128, .f32⟩
  | .hbm, ⟨30, _⟩ => ⟨S2x31x128, .f32⟩
  | .hbm, ⟨31, _⟩ => ⟨S_, .f32⟩
  | .hbm, ⟨32, _⟩ => ⟨S2x31x128, .f32⟩
  | .hbm, ⟨33, _⟩ => ⟨S2x31x128, .f32⟩
  | .hbm, ⟨34, _⟩ => ⟨S2x31x128, .f32⟩
  | .hbm, ⟨35, _⟩ => ⟨S_, .f32⟩
  | .hbm, ⟨36, _⟩ => ⟨S2x31x128, .f32⟩
  | .hbm, ⟨37, _⟩ => ⟨S2x31x128, .f32⟩
  | _, _ => ⟨S2x31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== RmsInKernel.lean ====
abbrev S2048x1024 : Shape := ⟨2, ![2048, 1024]⟩
abbrev S1x1024 : Shape := ⟨2, ![1, 1024]⟩
abbrev S1024x3584 : Shape := ⟨2, ![1024, 3584]⟩
abbrev S1024x4x896 : Shape := ⟨3, ![1024, 4, 896]⟩
abbrev S4x1024x896 : Shape := ⟨3, ![4, 1024, 896]⟩
abbrev S2048x3584 : Shape := ⟨2, ![2048, 3584]⟩
abbrev S1x1024x896 : Shape := ⟨3, ![1, 1024, 896]⟩
abbrev S2048x896 : Shape := ⟨2, ![2048, 896]⟩
abbrev S2048 : Shape := ⟨1, ![2048]⟩
abbrev S2048x1 : Shape := ⟨2, ![2048, 1]⟩
abbrev S1024x896 : Shape := ⟨2, ![1024, 896]⟩

abbrev nBuf : Space → Nat
  | .hbm => 8
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3584, .f32⟩
  | .hbm, ⟨3, _⟩ => ⟨S1024x3584, .bf16⟩
  | .hbm, ⟨4, _⟩ => ⟨S1024x4x896, .bf16⟩
  | .hbm, ⟨5, _⟩ => ⟨S4x1024x896, .bf16⟩
  | .hbm, ⟨6, _⟩ => ⟨S2048x3584, .f32⟩
  | .hbm, ⟨7, _⟩ => ⟨S2048x1024, .bf16⟩
  | .local _ .vmem, ⟨0, _⟩ => ⟨S2048x1024, .f32⟩
  | .local _ .vmem, ⟨1, _⟩ => ⟨S1x1024, .f32⟩
  | .local _ .vmem, ⟨2, _⟩ => ⟨S1x1024x896, .bf16⟩
  | .local _ .vmem, ⟨3, _⟩ => ⟨S1x1024x896, .bf16⟩
  | .local _ .vmem, ⟨4, _⟩ => ⟨S2048x896, .f32⟩
  | .local _ .vmem, ⟨5, _⟩ => ⟨S2048x896, .f32⟩
  | .local _ .vmem, ⟨6, _⟩ => ⟨S2048x1024, .bf16⟩
  | .local _ .vmem, ⟨7, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== RmsInReferenceIdeal.lean ====
abbrev S2048x1024 : Shape := ⟨2, ![2048, 1024]⟩
abbrev S1x1024 : Shape := ⟨2, ![1, 1024]⟩
abbrev S1024x3584 : Shape := ⟨2, ![1024, 3584]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x3584 : Shape := ⟨2, ![2048, 3584]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3584, .f32⟩
  | .hbm, ⟨3, _⟩ => ⟨S1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x3584, .f32⟩
  | .hbm, ⟨21, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== MidKernel.lean ====
abbrev S2048x512 : Shape := ⟨2, ![2048, 512]⟩
abbrev S2048x3584 : Shape := ⟨2, ![2048, 3584]⟩
abbrev S2048x1024 : Shape := ⟨2, ![2048, 1024]⟩
abbrev S2048x256 : Shape := ⟨2, ![2048, 256]⟩
abbrev S1x512 : Shape := ⟨2, ![1, 512]⟩
abbrev S512x512 : Shape := ⟨2, ![512, 512]⟩
abbrev S1024x1024 : Shape := ⟨2, ![1024, 1024]⟩
abbrev S1x1024 : Shape := ⟨2, ![1, 1024]⟩
abbrev S256x1024 : Shape := ⟨2, ![256, 1024]⟩
abbrev S256x4x256 : Shape := ⟨3, ![256, 4, 256]⟩
abbrev S4x256x256 : Shape := ⟨3, ![4, 256, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩

abbrev nBuf : Space → Nat
  | .hbm => 26
  | .vmem => 30
  | .smem => 0
  | _ => 0

abbrev bufTy : (tb : Table) → Fin (tcTables nBuf tb) → BufTy
  | .hbm, ⟨0, _⟩ => ⟨S2048x512, .f32⟩
  | .hbm, ⟨1, _⟩ => ⟨S2048x3584, .f32⟩
  | .hbm, ⟨2, _⟩ => ⟨S2048x512, .f32⟩
  | .hbm, ⟨3, _⟩ => ⟨S2048x1024, .f32⟩
  | .hbm, ⟨4, _⟩ => ⟨S2048x256, .f32⟩
  | .hbm, ⟨5, _⟩ => ⟨S1x512, .f32⟩
  | .hbm, ⟨6, _⟩ => ⟨S1x512, .f32⟩
  | .hbm, ⟨7, _⟩ => ⟨S512x512, .f32⟩
  | .hbm, ⟨8, _⟩ => ⟨S1x512, .f32⟩
  | .hbm, ⟨9, _⟩ => ⟨S1024x1024, .f32⟩
  | .hbm, ⟨10, _⟩ => ⟨S1x1024, .f32⟩
  | .hbm, ⟨11, _⟩ => ⟨S1024x1024, .f32⟩
  | .hbm, ⟨12, _⟩ => ⟨S256x1024, .f32⟩
  | .hbm, ⟨13, _⟩ => ⟨S2048x512, .bf16⟩
  | .hbm, ⟨14, _⟩ => ⟨S512x512, .bf16⟩
  | .hbm, ⟨15, _⟩ => ⟨S1024x1024, .bf16⟩
  | .hbm, ⟨16, _⟩ => ⟨S1024x1024, .bf16⟩
  | .hbm, ⟨17, _⟩ => ⟨S256x1024, .bf16⟩
  | .hbm, ⟨18, _⟩ => ⟨S256x4x256, .bf16⟩
  | .hbm, ⟨19, _⟩ => ⟨S4x256x256, .bf16⟩
  | .hbm, ⟨20, _⟩ => ⟨S2048x512, .f32⟩
  | .hbm, ⟨21, _⟩ => ⟨S2048x512, .bf16⟩
  | .hbm, ⟨22, _⟩ => ⟨S2048x1024, .f32⟩
  | .hbm, ⟨23, _⟩ => ⟨S2048x1024, .bf16⟩
  | .hbm, ⟨24, _⟩ => ⟨S2048x1024, .bf16⟩
  | .hbm, ⟨25, _⟩ => ⟨S2048x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S4x256x256, .bf16⟩
  | .local _ .vmem, ⟨18, _⟩ => ⟨S512x512, .f32⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .f32⟩
  | .local _ .vmem, ⟨29, _⟩ => ⟨S512x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev main_v7_4 : Ref sig .tc := ⟨.hbm, 24, rfl⟩
abbrev main_v7_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MidReferenceIdeal.lean ====
abbrev S2048x512 : Shape := ⟨2, ![2048, 512]⟩
abbrev S2048x3584 : Shape := ⟨2, ![2048, 3584]⟩
abbrev S2048x1024 : Shape := ⟨2, ![2048, 1024]⟩
abbrev S2048x256 : Shape := ⟨2, ![2048, 256]⟩
abbrev S1x512 : Shape := ⟨2, ![1, 512]⟩
abbrev S512x512 : Shape := ⟨2, ![512, 512]⟩
abbrev S1024x1024 : Shape := ⟨2, ![1024, 1024]⟩
abbrev S1x1024 : Shape := ⟨2, ![1, 1024]⟩
abbrev S256x1024 : Shape := ⟨2, ![256, 1024]⟩
abbrev S512 : Shape := ⟨1, ![512]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 115
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x3584, .f32⟩
  | .hbm, ⟨2, _⟩ => ⟨S2048x512, .f32⟩
  | .hbm, ⟨3, _⟩ => ⟨S2048x1024, .f32⟩
  | .hbm, ⟨4, _⟩ => ⟨S2048x256, .f32⟩
  | .hbm, ⟨5, _⟩ => ⟨S1x512, .f32⟩
  | .hbm, ⟨6, _⟩ => ⟨S1x512, .f32⟩
  | .hbm, ⟨7, _⟩ => ⟨S512x512, .f32⟩
  | .hbm, ⟨8, _⟩ => ⟨S1x512, .f32⟩
  | .hbm, ⟨9, _⟩ => ⟨S1024x1024, .f32⟩
  | .hbm, ⟨10, _⟩ => ⟨S1x1024, .f32⟩
  | .hbm, ⟨11, _⟩ => ⟨S1024x1024, .f32⟩
  | .hbm, ⟨12, _⟩ => ⟨S256x1024, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x512, .f32⟩
  | .hbm, ⟨35, _⟩ => ⟨S2048x512, .f32⟩
  | .hbm, ⟨36, _⟩ => ⟨S1x512, .f32⟩
  | .hbm, ⟨37, _⟩ => ⟨S2048x512, .f32⟩
  | .hbm, ⟨38, _⟩ => ⟨S2048x512, .f32⟩
  | .hbm, ⟨39, _⟩ => ⟨S1x512, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S_, .f32⟩
  | .hbm, ⟨45, _⟩ => ⟨S2048x512, .f32⟩
  | .hbm, ⟨46, _⟩ => ⟨S2048x512, .f32⟩
  | .hbm, ⟨47, _⟩ => ⟨S_, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S512, .f32⟩
  | .hbm, ⟨53, _⟩ => ⟨S2048x512, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S2048x1, .f32⟩
  | .hbm, ⟨64, _⟩ => ⟨S2048x512, .f32⟩
  | .hbm, ⟨65, _⟩ => ⟨S2048x512, .f32⟩
  | .hbm, ⟨66, _⟩ => ⟨S1x512, .f32⟩
  | .hbm, ⟨67, _⟩ => ⟨S2048x512, .f32⟩
  | .hbm, ⟨68, _⟩ => ⟨S2048x512, .f32⟩
  | .hbm, ⟨69, _⟩ => ⟨S2048x512, .f32⟩
  | .hbm, ⟨70, _⟩ => ⟨S2048x512, .f32⟩
  | .hbm, ⟨71, _⟩ => ⟨S2048x512, .f32⟩
  | .hbm, ⟨72, _⟩ => ⟨S_, .f32⟩
  | .hbm, ⟨73, _⟩ => ⟨S2048x512, .f32⟩
  | .hbm, ⟨74, _⟩ => ⟨S2048x512, .f32⟩
  | .hbm, ⟨75, _⟩ => ⟨S_, .f32⟩
  | .hbm, ⟨76, _⟩ => ⟨S2048x512, .f32⟩
  | .hbm, ⟨77, _⟩ => ⟨S2048x512, .f32⟩
  | .hbm, ⟨78, _⟩ => ⟨S2048x512, .f32⟩
  | .hbm, ⟨79, _⟩ => ⟨S2048x512, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S1024, .f32⟩
  | .hbm, ⟨84, _⟩ => ⟨S2048x1024, .f32⟩
  | .hbm, ⟨85, _⟩ => ⟨S_, .f32⟩
  | .hbm, ⟨86, _⟩ => ⟨S2048, .f32⟩
  | .hbm, ⟨87, _⟩ => ⟨S2048x1, .f32⟩
  | .hbm, ⟨88, _⟩ => ⟨S_, .f32⟩
  | .hbm, ⟨89, _⟩ => ⟨S2048x1, .f32⟩
  | .hbm, ⟨90, _⟩ => ⟨S2048x1, .f32⟩
  | .hbm, ⟨91, _⟩ => ⟨S_, .f32⟩
  | .hbm, ⟨92, _⟩ => ⟨S2048x1, .f32⟩
  | .hbm, ⟨93, _⟩ => ⟨S2048x1, .f32⟩
  | .hbm, ⟨94, _⟩ => ⟨S2048x1, .f32⟩
  | .hbm, ⟨95, _⟩ => ⟨S2048x1024, .f32⟩
  | .hbm, ⟨96, _⟩ => ⟨S2048x1024, .f32⟩
  | .hbm, ⟨97, _⟩ => ⟨S1x1024, .f32⟩
  | .hbm, ⟨98, _⟩ => ⟨S2048x1024, .f32⟩
  | .hbm, ⟨99, _⟩ => ⟨S2048x1024, .f32⟩
  | .hbm, ⟨100, _⟩ => ⟨S2048x1024, .f32⟩
  | .hbm, ⟨101, _⟩ => ⟨S2048x1024, .f32⟩
  | .hbm, ⟨102, _⟩ => ⟨S2048x1024, .f32⟩
  | .hbm, ⟨103, _⟩ => ⟨S_, .f32⟩
  | .hbm, ⟨104, _⟩ => ⟨S2048x1024, .f32⟩
  | .hbm, ⟨105, _⟩ => ⟨S2048x1024, .f32⟩
  | .hbm, ⟨106, _⟩ => ⟨S_, .f32⟩
  | .hbm, ⟨107, _⟩ => ⟨S2048x1024, .f32⟩
  | .hbm, ⟨108, _⟩ => ⟨S2048x1024, .f32⟩
  | .hbm, ⟨109, _⟩ => ⟨S2048x1024, .f32⟩
  | .hbm, ⟨110, _⟩ => ⟨S2048x512, .bf16⟩
  | .hbm, ⟨111, _⟩ => ⟨S2048x1024, .bf16⟩
  | .hbm, ⟨112, _⟩ => ⟨S2048x1024, .bf16⟩
  | .hbm, ⟨113, _⟩ => ⟨S2048x1024, .f32⟩
  | .hbm, ⟨114, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_4 : Ref sig .tc := ⟨.hbm, 54, rfl⟩
abbrev main_v28 : Ref sig .tc := ⟨.hbm, 55, rfl⟩
abbrev main_v29 : Ref sig .tc := ⟨.hbm, 56, rfl⟩
abbrev main_cst_5 : Ref sig .tc := ⟨.hbm, 57, rfl⟩
abbrev main_v30 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_7 : Ref sig .tc := ⟨.hbm, 85, rfl⟩
abbrev main_v48 : Ref sig .tc := ⟨.hbm, 86, rfl⟩
abbrev main_v49 : Ref sig .tc := ⟨.hbm, 87, rfl⟩
abbrev main_cst_8 : Ref sig .tc := ⟨.hbm, 88, rfl⟩
abbrev main_v50 : Ref sig .tc := ⟨.hbm, 89, rfl⟩
abbrev main_v51 : Ref sig .tc := ⟨.hbm, 90, rfl⟩
abbrev main_cst_9 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_10 : Ref sig .tc := ⟨.hbm, 103, rfl⟩
abbrev main_v63 : Ref sig .tc := ⟨.hbm, 104, rfl⟩
abbrev main_v64 : Ref sig .tc := ⟨.hbm, 105, rfl⟩
abbrev main_cst_11 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩

abbrev nD : Nat := 1
abbrev τ : Topo := Topo.v7x

variable {F : FTy → Type} [FloatOps F]
-- ==== AdamwOutKernel.lean ====
abbrev S512x1024 : Shape := ⟨2, ![512, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwOutKernelIdeal.lean ====
abbrev S512x1024 : Shape := ⟨2, ![512, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwOutReferenceIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwPleKernel.lean ====
abbrev S512x256 : Shape := ⟨2, ![512, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwPleKernelIdeal.lean ====
abbrev S512x256 : Shape := ⟨2, ![512, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwPleReferenceIdeal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwPwKernel.lean ====
abbrev S256x512 : Shape := ⟨2, ![256, 512]⟩

abbrev nBuf : Space → Nat
  | .hbm => 8
  | .vmem => 8
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwPwReferenceIdeal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.RealLift.lean ====
/- Extended reals that come from reals: the literals the programs use, and the root-mean-square normalisation of a row
   whose entries may be infinite. -/
module

public import Idealize.ShloMosaic.PureOps.Ideal.Laws

@[expose] public section

noncomputable section

namespace RealLift

open Idealize.ShloMosaic

/-! ## Literals -/

/-- The smoothing constant under every square root of the problem, as the real number its word denotes. -/
def eps : ℝ := 8796093 * (2 : ℝ) ^ (-43 : ℤ)

theorem eps_pos : 0 < eps := by unfold eps; positivity

theorem lit_eps : Ideal.ofBits .f32 0x358637BD#32 = (eps : EReal) := by
  simp [Ideal.ofBits, Ideal.ieee, eps]

theorem lit_1024 : Ideal.ofBits .f32 0x44800000#32 = ((1024 : ℝ) : EReal) := by
  simp [Ideal.ofBits, Ideal.ieee]; norm_cast; norm_num

theorem lit_neg_half : Ideal.ofBits .f32 0xBF000000#32 = ((-(1 / 2) : ℝ) : EReal) := by
  simp [Ideal.ofBits, Ideal.ieee]; norm_cast; norm_num

/-! ## Sums -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem square_nonneg (x : EReal) : 0 ≤ x * x := by
  rcases le_total 0 x with h | h
  · exact mul_nonneg h h
  · exact EReal.mul_nonneg_iff.mpr (Or.inr ⟨h, h⟩)

theorem square_eq_top {x : EReal} (h : ∀ r : ℝ, x ≠ r) : x * x = ⊤ := by
  induction x with
  | bot => exact EReal.bot_mul_bot
  | top => exact EReal.top_mul_top
  | coe r => exact absurd rfl (h r)

/-- A row whose entries are all real is the image of a real row; otherwise its sum of squares is infinite. -/
theorem row_cases {n : ℕ} (x : Fin n → EReal) :
    (∃ y : Fin n → ℝ, x = fun k => (y k : EReal)) ∨ ∑ k, x k * x k = ⊤ := by
  classical
  by_cases h : ∀ k, ∃ r : ℝ, x k = r
  · left; choose y hy using h; exact ⟨y, funext hy⟩
  · right
    push Not at h
    obtain ⟨k, hk⟩ := h
    have h0 : 0 ≤ ∑ j ∈ Finset.univ.erase k, x j * x j := Finset.sum_nonneg fun j _ => square_nonneg _
    rw [← Finset.add_sum_erase _ _ (Finset.mem_univ k), square_eq_top hk]
    exact EReal.top_add_of_ne_bot (ne_of_gt (lt_of_lt_of_le EReal.bot_lt_zero h0))

/-- The mean square of a row, smoothed: the argument of the reciprocal root. -/
def meanSq {n : ℕ} (d : ℝ) (x : Fin n → EReal) : EReal := Ideal.div (∑ k, x k * x k) (d : EReal) + (eps : EReal)

/-- The smoothed mean square is infinite, or the row is real and the mean square a positive real. -/
theorem meanSq_cases {n : ℕ} {d : ℝ} (hd : 0 < d) (x : Fin n → EReal) :
    meanSq d x = ⊤ ∨ ∃ (y : Fin n → ℝ) (q : ℝ), x = (fun k => (y k : EReal)) ∧ 0 < q ∧ q = (∑ k, y k * y k) / d + eps ∧ meanSq d x = q := by
  rcases row_cases x with ⟨y, rfl⟩ | h
  · right
    refine ⟨y, (∑ k, y k * y k) / d + eps, rfl, ?_, rfl, ?_⟩
    · have : 0 ≤ (∑ k, y k * y k) / d := div_nonneg (Finset.sum_nonneg fun k _ => mul_self_nonneg _) hd.le
      have := eps_pos
      linarith
    · unfold meanSq
      rw [Ideal.div_coe hd.ne', EReal.coe_add]
      congr 1
      rw [div_eq_mul_one_div (∑ k, y k * y k), EReal.coe_mul, coe_sum]
      simp only [EReal.coe_mul]
  · left
    unfold meanSq
    rw [h, Ideal.div_coe hd.ne', EReal.top_mul_coe_of_pos (by positivity)]
    exact EReal.top_add_coe _

theorem rsqrt_pos {q : ℝ} (h : 0 < q) : Ideal.rsqrt (q : EReal) = (((Real.sqrt q)⁻¹ : ℝ) : EReal) := by
  rw [Ideal.rsqrt_coe, if_neg (not_lt.mpr h.le), if_neg h.ne']

/-- The row's gradient of a root-mean-square normalisation, written with the third power of the reciprocal root and
    written with the derivative of the reciprocal root: equal for every extended-real sum `S` and every upstream `X`. -/
theorem rms_grad {d : ℝ} (hd : 0 < d) {n : ℕ} (x : Fin n → EReal) (k : Fin n) (D A S : EReal) :
    D + (Ideal.rsqrt (meanSq d x) * A
        - x k * (Ideal.rsqrt (meanSq d x) * Ideal.rsqrt (meanSq d x) * Ideal.rsqrt (meanSq d x)) * Ideal.div S (d : EReal))
      = D + A * Ideal.rsqrt (meanSq d x)
        + x k * Ideal.div (S * (((-(1 / 2) : ℝ) : EReal) * Ideal.div (Ideal.rsqrt (meanSq d x)) (meanSq d x))) (d : EReal)
        + Ideal.div (S * (((-(1 / 2) : ℝ) : EReal) * Ideal.div (Ideal.rsqrt (meanSq d x)) (meanSq d x))) (d : EReal) * x k := by
  rcases meanSq_cases hd x with h | ⟨y, q, rfl, hq, -, h⟩
  · rw [h, Ideal.rsqrt_top, Ideal.div_coe hd.ne', Ideal.div_coe hd.ne']
    simp [Ideal.div]
  · rw [h, rsqrt_pos hq, Ideal.div_coe hd.ne', Ideal.div_coe hd.ne', Ideal.div_coe hq.ne']
    set r : ℝ := (Real.sqrt q)⁻¹ with hr
    have hr0 : 0 < r := inv_pos.mpr (Real.sqrt_pos.mpr hq)
    have hrq : 1 / q = r * r := by
      rw [hr, ← mul_inv, Real.mul_self_sqrt hq.le, one_div]
    rw [hrq]
    have e1 : (y k : EReal) * ((r : EReal) * r * r) * (S * ((1 / d : ℝ) : EReal)) = S * ((y k * (r * r * r) * (1 / d) : ℝ) : EReal) := by
      push_cast; ac_rfl
    have e2 : (y k : EReal) * (S * (((-(1 / 2) : ℝ) : EReal) * ((r : EReal) * ((r * r : ℝ) : EReal))) * ((1 / d : ℝ) : EReal))
        = S * ((-(1 / 2) * (y k * (r * r * r) * (1 / d)) : ℝ) : EReal) := by
      push_cast; ac_rfl
    rw [e1, mul_comm _ (y k : EReal), e2]
    set w : ℝ := y k * (r * r * r) * (1 / d)
    have e3 : S * ((-(1 / 2) * w : ℝ) : EReal) + S * ((-(1 / 2) * w : ℝ) : EReal) = -(S * (w : EReal)) := by
      induction S with
      | bot =>
        rcases lt_trichotomy w 0 with hw | hw | hw
        · rw [EReal.bot_mul_coe_of_pos (by nlinarith), EReal.bot_mul_coe_of_neg hw]; rfl
        · simp [hw]
        · rw [EReal.bot_mul_coe_of_neg (by nlinarith), EReal.bot_mul_coe_of_pos hw]; rfl
      | top =>
        rcases lt_trichotomy w 0 with hw | hw | hw
        · rw [EReal.top_mul_coe_of_pos (by nlinarith), EReal.top_mul_coe_of_neg hw]; rfl
        · simp [hw]
        · rw [EReal.top_mul_coe_of_neg (by nlinarith), EReal.top_mul_coe_of_pos hw]; rfl
      | coe s => norm_cast; ring
    rw [add_assoc, add_assoc, e3, sub_eq_add_neg, mul_comm (r : EReal) A]

end RealLift

end
-- ==== Proof.Dx.lean ====
/- The gradient through the input projection and its root-mean-square normalisation: the kernel's two result arrays are
   the reference's. The product `du · wᵀ` is accumulated over four tiles of the contracted axis; the gain's gradient is
   accumulated over the two row blocks. -/
module

public import proofs.«01_k».proof.Defs
public import proofs.«01_k».proof.Proof.Gen.DxKernelIdeal.Value
public import proofs.«01_k».proof.Proof.Gen.DxReferenceIdeal.Run
public import proofs.«01_k».proof.Proof.RealLift
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The gradients, entry by entry -/

namespace DxGrad

/-- The reciprocal root of a row's smoothed mean square. -/
def rstd (x : Fin 2048 → Fin 1024 → EReal) (i : Fin 2048) : EReal := Ideal.rsqrt (RealLift.meanSq 1024 (x i))

/-- Half of what the derivative of the reciprocal root contributes to a row. -/
def back (x p : Fin 2048 → Fin 1024 → EReal) (g : Fin 1024 → EReal) (i : Fin 2048) : EReal :=
  Ideal.div ((∑ k, x i k * (p i k * g k)) * (((-(1 / 2) : ℝ) : EReal) * Ideal.div (rstd x i) (RealLift.meanSq 1024 (x i)))) ((1024 : ℝ) : EReal)

/-- The gradient with respect to the normalised rows' input, the residual's own gradient `d` added. -/
def input (x p d : Fin 2048 → Fin 1024 → EReal) (g : Fin 1024 → EReal) (i : Fin 2048) (k : Fin 1024) : EReal :=
  d i k + p i k * g k * rstd x i + x i k * back x p g i + back x p g i * x i k

/-- The gradient with respect to the gain. -/
def gain (x p : Fin 2048 → Fin 1024 → EReal) (k : Fin 1024) : EReal := ∑ i, x i k * rstd x i * p i k

end DxGrad

/-! ## The kernel -/

namespace Cert.DxKernelIdeal.Hand

open Cert.DxKernelIdeal Cert.DxKernelIdeal.Gen

theorem zero_fill (j : S1x1024.Idx) : k0_pay1 (F := Ideal) j = 0 := by pointwise [k0_pay1]

theorem first_product (a : FVec Ideal S1024x896 .bf16) (b : FVec Ideal S1x1024x896 .bf16) (j : S1024x1024.Idx) :
    k0_pay2 (F := Ideal) a b j = ∑ l : Fin 896, a (ix2 (j 0) l) * b (ix3 0 (j 1) l) := by
  pointwise [k0_pay2]

theorem next_product (s : FVec Ideal S1024x1024 .f32) (a : FVec Ideal S1024x896 .bf16) (b : FVec Ideal S1x1024x896 .bf16) (j : S1024x1024.Idx) :
    k0_pay3 (F := Ideal) s a b j = s j + ∑ l : Fin 896, a (ix2 (j 0) l) * b (ix3 0 (j 1) l) := by
  pointwise [k0_pay3]

/-- The gain's gradient after a row block: what it was, plus the block's column sums. -/
theorem gain_step (h p : FVec Ideal S1024x1024 .f32) (a : FVec Ideal S1x1024 .f32) (j : S1x1024.Idx) :
    k0_pay5 (F := Ideal) h p a j = a j + ∑ r : Fin 1024, p (ix2 r (j 1)) * h (ix2 r (j 1))
      * Ideal.rsqrt (RealLift.meanSq 1024 fun k : Fin 1024 => h (ix2 r k)) := by
  pointwise [k0_pay5, k0_pay4]
  unfold RealLift.meanSq
  rw [RealLift.lit_1024, RealLift.lit_eps]

theorem input_step (h p d : FVec Ideal S1024x1024 .f32) (g : FVec Ideal S1x1024 .f32) (j : S1024x1024.Idx) :
    k0_pay6 (F := Ideal) h p d g j = d j + (Ideal.rsqrt (RealLift.meanSq 1024 fun k : Fin 1024 => h (ix2 (j 0) k)) * (p j * g (ix2 0 (j 1)))
        - h j * (Ideal.rsqrt (RealLift.meanSq 1024 fun k : Fin 1024 => h (ix2 (j 0) k)) * Ideal.rsqrt (RealLift.meanSq 1024 fun k : Fin 1024 => h (ix2 (j 0) k))
            * Ideal.rsqrt (RealLift.meanSq 1024 fun k : Fin 1024 => h (ix2 (j 0) k)))
          * Ideal.div (∑ k : Fin 1024, p (ix2 (j 0) k) * g (ix2 0 k) * h (ix2 (j 0) k)) ((1024 : ℝ) : EReal)) := by
  pointwise [k0_pay6, k0_pay4]
  unfold RealLift.meanSq
  rw [RealLift.lit_1024, RealLift.lit_eps]

/-- The input's gradient of a row block, from the row it writes. -/
theorem input_core (h p d : FVec Ideal S1024x1024 .f32) (g : FVec Ideal S1x1024 .f32) (X P D : Fin 2048 → Fin 1024 → EReal) (G : Fin 1024 → EReal)
    (i : Fin 2048) (a b : Fin 1024) (hx : ∀ k : Fin 1024, h (ix2 a k) = X i k) (hp : ∀ k : Fin 1024, p (ix2 a k) = P i k)
    (hd : d (ix2 a b) = D i b) (hg : ∀ k : Fin 1024, g (ix2 0 k) = G k) :
    k0_pay6 (F := Ideal) h p d g (ix2 a b) = DxGrad.input X P D G i b := by
  rw [input_step]
  simp only [ix2_0, ix2_1, hx, hp, hd, hg]
  rw [RealLift.rms_grad (by norm_num) (fun k => X i k)]
  simp only [DxGrad.input, DxGrad.back, DxGrad.rstd, mul_comm (X i _) (P i _ * G _)]

variable (m : (ℓ : Loc nD τ sig) → Buf (Elt Ideal) ℓ)

theorem index_values : ∀ t : Fin cfg0.N, win0_0.index t = ![t.val / 4, t.val % 4] ∧ win0_1.index t = ![t.val % 4, 0, 0]
    ∧ win0_2.index t = ![t.val / 4, 0] ∧ win0_3.index t = ![0, 0] ∧ win0_4.index t = ![t.val / 4, 0]
    ∧ win0_5.index t = ![t.val / 4, 0] ∧ win0_6.index t = ![0, 0] :=
  (by decide +kernel : ∀ t : Fin grid0.N, _)

/-- The weights as the kernel reads them: the projection's four column tiles, one after the other. -/
theorem weights_entry (c : Dev nD) (q : Fin 4) (k : Fin 1024) (l : Fin 896) :
    (show FVec Ideal S4x1024x896 .bf16 from V m c main_v2) (ix3 q k l)
      = (show FVec Ideal S1024x3584 .f32 from m ((c : Thread nD τ).loc main_arg2)) (ix2 k ⟨q.val * 896 + l.val, by omega⟩) := by
  entry_read
  pointwise

theorem upstream_entry (c : Dev nD) (i : Fin 2048) (l : Fin 3584) :
    (show FVec Ideal S2048x3584 .bf16 from V m c main_v3) (ix2 i l)
      = (show FVec Ideal S2048x3584 .f32 from m ((c : Thread nD τ).loc main_arg3)) (ix2 i l) := by
  entry_read
  pointwise

/-- The row of the arrays that row `a` of the block at point `t` is. -/
def row (t : Fin cfg0.N) (a : Fin 1024) : Fin 2048 :=
  ⟨t.val / 4 * 1024 + a.val, by have := lt_of_lt_of_eq t.isLt N_0; omega⟩

/-- The upstream gradient through the projection: `du · wᵀ`. -/
def duw (c : Dev nD) (i : Fin 2048) (k : Fin 1024) : EReal :=
  ∑ l : Fin 3584, (show FVec Ideal S2048x3584 .f32 from m ((c : Thread nD τ).loc main_arg3)) (ix2 i l)
    * (show FVec Ideal S1024x3584 .f32 from m ((c : Thread nD τ).loc main_arg2)) (ix2 k l)

theorem product_sum (c : Dev nD) (t : Fin cfg0.N) (h : t.val % 4 = 3) (j : S1024x1024.Idx) :
    (outsAt0 m c t.val t.isLt).2.2 j = duw m c (row t (j 0)) (j 1) := by
  rw [Pipeline.eq_sum_fin_of_reset_step_apply_of_flush (fun n h => (outsAt0 m c n h).2.2) 4 (fun _ => 0) _
    (fun t h j => by
      by_cases h0 : t.val % 8 = 0
      · rw [outsAt0_A m c t h0 h (by omega) (by omega)]
        frame_out
        rw [first_product, zero_add]
      · rw [outsAt0_D m c t h0 h (by omega) (by omega)]
        frame_out
        rw [first_product, zero_add])
    (fun t h j => by
      by_cases h3 : t.val % 4 = 3
      · rw [outsAt0_C m c t (by omega) h (by omega) h3]
        frame_out
        rw [next_product, (Memref.isWhole_whole _).read_unread]
      · rw [outsAt0_B m c t (by omega) h (by omega) h3]
        frame_out
        rw [next_product, (Memref.isWhole_whole _).read_unread])
    t h j, zero_add]
  unfold duw row
  refine Fin.sum_mul_add_congr fun s k hl => ?_
  refine Ideal.mul_congr (Eq.trans ?_ (upstream_entry m c _ _)) (Eq.trans ?_ (weights_entry m c s _ _))
  · blk_ext [iblk, index_values ⟨_, Pipeline.run_point_lt_of_flush t h s⟩]
  · blk_ext [iblk, index_values ⟨_, Pipeline.run_point_lt_of_flush t h s⟩]

/-- The arguments by row and column. -/
def rows (c : Dev nD) (i : Fin 2048) (k : Fin 1024) : EReal := (show FVec Ideal S2048x1024 .f32 from m ((c : Thread nD τ).loc main_arg0)) (ix2 i k)
def residual (c : Dev nD) (i : Fin 2048) (k : Fin 1024) : EReal := (show FVec Ideal S2048x1024 .f32 from m ((c : Thread nD τ).loc main_arg4)) (ix2 i k)
def gains (c : Dev nD) (k : Fin 1024) : EReal := (show FVec Ideal S1x1024 .f32 from m ((c : Thread nD τ).loc main_arg1)) (ix2 0 k)

/-- At the last contraction tile of a row block, the input's gradient is computed from the finished product. -/
theorem input_block (c : Dev nD) (t : Fin cfg0.N) (h : t.val % 4 = 3) (j : S1024x1024.Idx) :
    (outsAt0 m c t.val t.isLt).1 j
      = k0_pay6 (F := Ideal) (iblk m c 2 t) (outsAt0 m c t.val t.isLt).2.2 (iblk m c 4 t) (iblk m c 3 t) j := by
  rw [outsAt0_C m c t (by omega) (by omega) (by omega) h]
  frame_out

/-- The kernel's first result: the input's gradient, block by block. -/
theorem input_final (c : Dev nD) : (dats m 0 c).arrAt 5 cfg0.N = fun i =>
    DxGrad.input (rows m c) (duw m c) (residual m c) (gains m c) (i 0) (i 1) := by
  refine (dats m 0 c).arrAt_eq_of_covers 5 _ (by decide +kernel) fun t hf y => ?_
  have h3 := (flush0_5 t).mp hf
  blk_simp
  rw [after0_5, input_block m c t h3, eq_ix2 y]
  have e : (win0_5.blk t).view.emb (ix2 (y 0) (y 1)) = ix2 (row t (y 0)) (y 1) := by unfold row; blk_ext [index_values t]
  rw [e]
  refine input_core _ _ _ _ (rows m c) (duw m c) (residual m c) (gains m c) (row t (y 0)) (y 0) (y 1) ?_ (fun k => product_sum m c t h3 _) ?_ ?_
  · intro k; unfold rows row; blk_ext [iblk, V, index_values t]
  · unfold residual row; blk_ext [iblk, V, index_values t]
  · intro k; unfold gains; blk_ext [iblk, V, index_values t]

/-- What point `t` adds to the gain's gradient: the column sums of its row block at the block's last point, else nothing. -/
def gainTerm (c : Dev nD) (t : Fin cfg0.N) (k : Fin 1024) : EReal :=
  if t.val % 4 = 3 then ∑ r : Fin 1024, duw m c (row t r) k * rows m c (row t r) k * DxGrad.rstd (rows m c) (row t r) else 0

theorem gain_start (c : Dev nD) (t : Fin cfg0.N) (h : t.val % 8 = 0) (j : S1x1024.Idx) :
    (outsAt0 m c t.val t.isLt).2.1 j = 0 + gainTerm m c t (j 1) := by
  unfold gainTerm
  rw [if_neg (by omega), outsAt0_A m c t h (by omega) (by omega) (by omega)]
  frame_out
  rw [zero_fill, add_zero]

theorem gain_next (c : Dev nD) (t : Fin cfg0.N) (h : ¬ t.val % 8 = 0) (j : S1x1024.Idx) :
    (outsAt0 m c t.val t.isLt).2.1 j
      = (outsAt0 m c (t.val - 1) (Nat.lt_of_le_of_lt (Nat.sub_le _ _) t.isLt)).2.1 j + gainTerm m c t (j 1) := by
  unfold gainTerm
  by_cases h3 : t.val % 4 = 3
  · rw [if_pos h3]
    have e : (outsAt0 m c t.val t.isLt).2.1 j = k0_pay5 (F := Ideal) (iblk m c 2 t) (outsAt0 m c t.val t.isLt).2.2
        (outsAt0 m c (t.val - 1) (Nat.lt_of_le_of_lt (Nat.sub_le _ _) t.isLt)).2.1 j := by
      rw [outsAt0_C m c t h (by omega) (by omega) h3]
      frame_out
    have hx : ∀ r k : Fin 1024, (show FVec Ideal S1024x1024 .f32 from iblk m c 2 t) (ix2 r k) = rows m c (row t r) k := by
      intro r k; unfold rows row; blk_ext [iblk, V, index_values t]
    rw [e, gain_step]
    refine congrArg (_ + ·) (Fin.sum_fin_congr fun r => ?_)
    refine Ideal.mul_congr (Ideal.mul_congr (product_sum m c t h3 _) (hx r _)) ?_
    unfold DxGrad.rstd
    exact congrArg (fun x => Ideal.rsqrt (RealLift.meanSq 1024 x)) (funext fun k => hx r k)
  · rw [if_neg h3, add_zero]
    by_cases h0 : t.val % 4 = 0
    · rw [outsAt0_D m c t h h0 (by omega) h3]
      dsimp only [out0_D_6]
    · rw [outsAt0_B m c t h h0 (by omega) h3]
      dsimp only [out0_B_6]

theorem gain_order (a b r : EReal) : a * b * r = b * r * a := by rw [mul_assoc, mul_comm]

/-- The two row blocks' sums, met at their last points, are the sum over all rows. -/
theorem sum_row_blocks (f : Fin 2048 → EReal) (p : Fin 8 → Fin cfg0.N) (hp : ∀ s, (p s).val = s.val) :
    ∑ s, (if (p s).val % 4 = 3 then ∑ r : Fin 1024, f (row (p s) r) else 0) = ∑ i, f i := by
  rw [Fin.sum_univ_tiles 2 1024 rfl, Fin.sum_univ_two, Fin.sum_univ_eight]
  unfold row
  simp only [hp]
  norm_num

/-- The kernel's second result: the gain's gradient, the two row blocks' column sums. -/
theorem gain_final (c : Dev nD) : (dats m 0 c).arrAt 6 cfg0.N = fun i => DxGrad.gain (rows m c) (duw m c) (i 1) := by
  refine (dats m 0 c).arrAt_eq_of_covers 6 _ (by decide +kernel) fun t hf y => ?_
  have h7 := (flush0_6 t).mp hf
  have ht : t.val = 7 := by have := lt_of_lt_of_eq t.isLt N_0; omega
  blk_simp
  rw [after0_6, Pipeline.eq_sum_fin_of_reset_step_apply_of_flush (fun n h => (outsAt0 m c n h).2.1) 8 (fun _ => 0)
    (fun t j => gainTerm m c t (j 1)) (gain_start m c) (gain_next m c) t h7 y, zero_add]
  have e : (win0_6.blk t).view.emb y = y := by blk_ext [index_values t]
  rw [e]
  unfold gainTerm DxGrad.gain
  refine (sum_row_blocks (fun i => duw m c i (y 1) * rows m c i (y 1) * DxGrad.rstd (rows m c) i) _ fun s => ?_).trans
    (Fin.sum_fin_congr fun i => gain_order _ _ _)
  show 8 * (t.val / 8) + s.val = s.val
  omega

end Cert.DxKernelIdeal.Hand

/-! ## The reference -/

namespace Cert.DxReferenceIdeal.Hand

open Cert.DxReferenceIdeal Cert.DxReferenceIdeal.Gen

theorem input_result (m : (ℓ : Loc nD τ sig) → Buf (Elt Ideal) ℓ) (c : Dev nD) (i : Fin 2048) (k : Fin 1024)
    (X D : FVec Ideal S2048x1024 .f32) (g : FVec Ideal S1x1024 .f32) (W : FVec Ideal S1024x3584 .f32) (du : FVec Ideal S2048x3584 .f32)
    (hX : m ((c.tc : Thread nD τ).loc main_arg0) = X) (hg : m ((c.tc : Thread nD τ).loc main_arg1) = g)
    (hW : m ((c.tc : Thread nD τ).loc main_arg2) = W) (hdu : m ((c.tc : Thread nD τ).loc main_arg3) = du)
    (hD : m ((c.tc : Thread nD τ).loc main_arg4) = D) :
    (show FVec Ideal S2048x1024 .f32 from Value.res_out0 m c) (ix2 i k)
      = DxGrad.input (fun a b => X (ix2 a b)) (fun a b => ∑ l : Fin 3584, du (ix2 a l) * W (ix2 b l)) (fun a b => D (ix2 a b)) (fun b => g (ix2 0 b)) i k := by
  unfold Value.res_out0 Value.res_main_v39
  rw [hX, hg, hW, hdu, hD]
  pointwise [DxGrad.input, DxGrad.back, DxGrad.rstd, RealLift.meanSq]
  rw [RealLift.lit_1024, RealLift.lit_eps, RealLift.lit_neg_half]
  simp only [Finset.univ_unique, Finset.sum_singleton]

theorem gain_result (X : FVec Ideal S2048x1024 .f32) (W : FVec Ideal S1024x3584 .f32) (du : FVec Ideal S2048x3584 .f32) (k : Fin 1024) :
    (broadcastInDim S1x1024 ![1] bcast_S1024_S1x1024_1 (Host.reduceAdd (shapeCast _ (Host.reduceAdd (mulf (mulf X (broadcastInDim S2048x1024 ![0, 1] bcast_S2048x1_S2048x1024_0_1 (Host.rsqrt (addf (Host.divf (broadcastInDim S2048x1 ![0] bcast_S2048_S2048x1_0 (Host.reduceAdd (mulf X X) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (Host.dotGeneral dot_S2048x3584_S1024x3584_S2048x1024_1_1_0_0_n_n none du W)) (constant S_ .f32 0x00000000#32) reducesTo_S2048x1024_S1024_d0 h_S_) shapeCasts_S1024_S1x1024) (constant S_ .f32 0x00000000#32) reducesTo_S1x1024_S1024_d0 h_S_) : FVec Ideal S1x1024 .f32) (ix2 0 k)
      = DxGrad.gain (fun a b => X (ix2 a b)) (fun a b => ∑ l : Fin 3584, du (ix2 a l) * W (ix2 b l)) k := by
  pointwise [DxGrad.gain, DxGrad.rstd, RealLift.meanSq]
  rw [RealLift.lit_1024, RealLift.lit_eps]
  simp only [Finset.univ_unique, Finset.sum_singleton]

end Cert.DxReferenceIdeal.Hand

theorem Cert.DxHand.algebraic : Cert.algebraic_DxKernelIdeal_DxReferenceIdeal := by
  pair_intro
  · run_from Cert.DxKernelIdeal.Value.run_blocks m g
  · run_from Cert.DxReferenceIdeal.Value.run m' g'
    · rw [Cert.DxKernelIdeal.Hand.input_final]
      funext i
      idx_vars i
      have h := hagree c
      exact Cert.DxReferenceIdeal.Hand.input_result m' c i0 i1 _ _ _ _ _ h.1 h.2.1 h.2.2.1 h.2.2.2.1 h.2.2.2.2
    · rw [Cert.DxKernelIdeal.Hand.gain_final]
      funext i
      idx_vars i
      obtain rfl : i0 = 0 := Subsingleton.elim _ _
      exact Cert.DxReferenceIdeal.Hand.gain_result _ _ _ _

end
-- ==== Proof.AttnLift.lean ====
/- Arrays of extended reals whose entries are real: each array operation of the attention gradient's kernel, on such
   arrays, gives such an array, with the real operation entry by entry. -/
module

public import proofs.«01_k».proof.Proof.Gen.AttnKernelIdeal.Skeleton
public import proofs.«01_k».proof.Proof.RealLift
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe

namespace AttnLift

open Cert.AttnKernelIdeal Cert.AttnKernelIdeal.Gen

/-- The array with the given real entries. -/
def lift {s : Shape} (f : s.Idx → ℝ) : s.Idx → EReal := fun i => ((f i : ℝ) : EReal)

theorem lift_apply {s : Shape} (f : s.Idx → ℝ) (i : s.Idx) : lift f i = ((f i : ℝ) : EReal) := rfl

theorem lit_zero : Ideal.ofBits .f32 0x00000000#32 = ((0 : ℝ) : EReal) := by
  simp [Ideal.ofBits, Ideal.ieee]

theorem lit_one : Ideal.ofBits .f32 0x3F800000#32 = ((1 : ℝ) : EReal) := by
  simp [Ideal.ofBits, Ideal.ieee]; norm_cast; norm_num

theorem lit_eighth : Ideal.ofBits .f32 0x3E000000#32 = ((1 / 8 : ℝ) : EReal) := by
  simp [Ideal.ofBits, Ideal.ieee]; norm_cast; norm_num

variable {s : Shape} {φ : FTy}

theorem splat_zero : broadcast s (Scalar.ofBits (F := Ideal) .f32 0x00000000#32) = lift (fun _ => 0) := by
  funext i; exact lit_zero
theorem splat_one : broadcast s (Scalar.ofBits (F := Ideal) .f32 0x3F800000#32) = lift (fun _ => 1) := by
  funext i; exact lit_one
theorem splat_eighth : broadcast s (Scalar.ofBits (F := Ideal) .f32 0x3E000000#32) = lift (fun _ => 1 / 8) := by
  funext i; exact lit_eighth

theorem add_lift (f g : s.Idx → ℝ) : addf (F := Ideal) (φ := φ) (lift f) (lift g) = lift (fun i => f i + g i) := by
  funext i; exact (EReal.coe_add _ _).symm
theorem sub_lift (f g : s.Idx → ℝ) : subf (F := Ideal) (φ := φ) (lift f) (lift g) = lift (fun i => f i - g i) := by
  funext i; exact (EReal.coe_sub _ _).symm
theorem mul_lift (f g : s.Idx → ℝ) : mulf (F := Ideal) (φ := φ) (lift f) (lift g) = lift (fun i => f i * g i) := by
  funext i; exact (EReal.coe_mul _ _).symm
theorem exp_lift (f : s.Idx → ℝ) : exp (F := Ideal) (φ := φ) (lift f) = lift (fun i => Real.exp (f i)) := by
  funext i; exact Ideal.exp_coe _
theorem truncf_lift (f : s.Idx → ℝ) (h) : truncf (F := Ideal) (φ := .f32) .bf16 (lift f) h = lift f := by funext i; rfl
theorem extf_lift (f : s.Idx → ℝ) (h) : extf (F := Ideal) (φ := .bf16) .f32 (lift f) h = lift f := by funext i; rfl

/-- The logarithm of one plus the exponential. -/
def sp (x : ℝ) : ℝ := Real.log (1 + Real.exp x)

theorem sp_eq (x : ℝ) : max x 0 + Real.log (1 + Real.exp (0 - |x|)) = sp x := by
  unfold sp
  rcases le_total 0 x with h | h
  · rw [max_eq_left h, abs_of_nonneg h]
    have e : 1 + Real.exp x = Real.exp x * (1 + Real.exp (0 - x)) := by
      rw [mul_add, ← Real.exp_add]; simp; ring
    rw [e, Real.log_mul (Real.exp_ne_zero _) (by positivity), Real.log_exp]
  · rw [max_eq_right h, abs_of_nonpos h]; simp

theorem coe_max (x y : ℝ) : ((max x y : ℝ) : EReal) = max (x : EReal) (y : EReal) := EReal.coe_strictMono.monotone.map_max

theorem softplus_lift (f : s.Idx → ℝ) :
    addf (F := Ideal) (φ := .f32) (maximumf (F := Ideal) (φ := .f32) (lift f) (lift fun _ => 0))
      (log (addf (F := Ideal) (φ := .f32) (lift fun _ => 1) (exp (subf (F := Ideal) (φ := .f32) (lift fun _ => 0) (absf (F := Ideal) (φ := .f32) (lift f))))))
      = lift (fun i => sp (f i)) := by
  funext i
  show max ((f i : ℝ) : EReal) ((0 : ℝ) : EReal) + Ideal.log (((1 : ℝ) : EReal) + Ideal.exp (((0 : ℝ) : EReal) - max ((f i : ℝ) : EReal) (-((f i : ℝ) : EReal)))) = ((sp (f i) : ℝ) : EReal)
  rw [← EReal.coe_neg, ← coe_max, ← coe_max, ← EReal.coe_sub, Ideal.exp_coe, ← EReal.coe_add, Ideal.log_coe, if_neg (not_le.mpr (by positivity)), ← EReal.coe_add, ← sp_eq]
  rfl

/-! ## Products, row sums and layout -/

theorem dot_nt_lift (f : S1024x256.Idx → ℝ) (g : S256x256.Idx → ℝ) :
    matmul (F := Ideal) (φ₁ := .bf16) (φ₂ := .bf16) dot_S1024x256_S256x256_S1024x256_1_1_0_0_n_n none (lift f) (lift g) (constant S1024x256 .f32 0x00000000#32)
      = lift (fun i => ∑ d : Fin 256, f (ix2 (i 0) d) * g (ix2 (i 1) d)) := by
  funext i; idx_vars i; pointwise
  simp only [lift_apply, ← EReal.coe_mul, ← RealLift.coe_sum]
  rfl

theorem dot_nn_lift (f : S1024x256.Idx → ℝ) (g : S256x256.Idx → ℝ) :
    matmul (F := Ideal) (φ₁ := .bf16) (φ₂ := .bf16) dot_S1024x256_S256x256_S1024x256_1_0_0_1_n_n none (lift f) (lift g) (constant S1024x256 .f32 0x00000000#32)
      = lift (fun i => ∑ d : Fin 256, f (ix2 (i 0) d) * g (ix2 d (i 1))) := by
  funext i; idx_vars i; pointwise
  simp only [lift_apply, ← EReal.coe_mul, ← RealLift.coe_sum]
  rfl

theorem dot_tn_lift (f g : S1024x256.Idx → ℝ) :
    matmul (F := Ideal) (φ₁ := .bf16) (φ₂ := .bf16) dot_S1024x256_S1024x256_S256x256_0_0_1_1_n_n none (lift f) (lift g) (constant S256x256 .f32 0x00000000#32)
      = lift (fun i => ∑ d : Fin 1024, f (ix2 d (i 0)) * g (ix2 d (i 1))) := by
  funext i; idx_vars i; pointwise
  simp only [lift_apply, ← EReal.coe_mul, ← RealLift.coe_sum]
  rfl

/-- A product with a triangle of ones, the operand split in two parts and their products added. -/
def tri (x : FVec Ideal S1024x256 .f32) (u : FVec Ideal S256x256 .bf16) : FVec Ideal S1024x256 .f32 := fun i =>
  (∑ l : Fin 256, x (ix2 (i 0) l) * u (ix2 l (i 1))) + ∑ l : Fin 256, (x (ix2 (i 0) l) - x (ix2 (i 0) l)) * u (ix2 l (i 1))

theorem tri_split (x : FVec Ideal S1024x256 .f32) (u : FVec Ideal S256x256 .bf16) :
    (let y := matmul dot_S2048x256_S256x256_S2048x256_1_0_0_1_n_n none (concatenate S2048x256 0 [⟨S1024x256, truncf .bf16 x bitsLt_bf16_f32⟩, ⟨S1024x256, truncf .bf16 (subf x (extf .f32 (truncf .bf16 x bitsLt_bf16_f32) bitsLt_bf16_f32)) bitsLt_bf16_f32⟩] concatenates_S1024x256_S1024x256_S2048x256_d0) u (constant S2048x256 .f32 0x00000000#32)
    addf (extractStridedSlice S1024x256 ![0, 0] y slices_S2048x256_o0_0_S1024x256)
      (extractStridedSlice S1024x256 ![1024, 0] y slices_S2048x256_o1024_0_S1024x256)) = tri x u := by
  funext i; idx_vars i; pointwise [tri]

theorem tri_lift (f : S1024x256.Idx → ℝ) (u : S256x256.Idx → ℝ) :
    tri (lift f) (lift u) = lift (fun i => ∑ l : Fin 256, f (ix2 (i 0) l) * u (ix2 l (i 1))) := by
  funext i; idx_vars i
  simp only [tri, lift_apply, ← EReal.coe_sub, sub_self, EReal.coe_zero, zero_mul, Finset.sum_const_zero, add_zero, ← EReal.coe_mul, ← RealLift.coe_sum]

/-- The sum along each row, as a column. -/
def rowSum (x : FVec Ideal S1024x256 .f32) : FVec Ideal S1024x1 .f32 := fun i => ∑ l : Fin 256, x (ix2 (i 0) l)

theorem rowSum_eq (x : FVec Ideal S1024x256 .f32) :
    (let y : FVec Ideal S1024 .f32 := multiReduction .add [1] S1024 x 0x00000000#32 reduces_S1024x256_S1024 (.inl rfl) rfl
    let z : FVec Ideal S1024x1 .f32 := shapeCast S1024x1 y shapeCasts_S1024_S1024x1
    z) = rowSum x := by
  funext i; idx_vars i; pointwise [rowSum]

theorem rowSum_lift (f : S1024x256.Idx → ℝ) : rowSum (lift f) = lift (fun i => ∑ l : Fin 256, f (ix2 (i 0) l)) := by
  funext i; idx_vars i
  simp only [rowSum, lift_apply, ← RealLift.coe_sum]

theorem column_lift (f : S1024x1.Idx → ℝ) :
    broadcastTo (α := Ideal .f32) S1024x256 (lift f) broadcasts_S1024x1_S1024x256 = lift (fun i => f (ix2 (i 0) 0)) := by
  funext i; idx_vars i; pointwise
  rfl

theorem cast_lift (f : S256x256.Idx → ℝ) :
    shapeCast (α := Ideal .f32) S256x256 (lift f) shapeCasts_S256x256_S256x256 = lift f := by
  funext i; idx_vars i; pointwise

/-- The rows' own positions select: entry `(r, j)` where `j` is below the row's position in its tile. -/
def below (i : S1024x256.Idx) : Bool := decide ((i 1).val < (i 0).val % 256)

theorem select_lift (f g : S1024x256.Idx → ℝ) :
    select (α := Ideal .f32) k0_pay56 (lift f) (lift g) = lift (fun i => bif below i then f i else g i) := by
  funext i; idx_vars i; pointwise [k0_pay56]
  have e : IntOp.andi (BitVec.ofNat 32 i0.val) 255#32 = BitVec.ofNat 32 (i0.val % 256) := by
    apply BitVec.eq_of_toNat_eq
    have h := Nat.and_two_pow_sub_one_eq_mod i0.val 8
    have hi := i0.isLt
    simp only [IntOp.andi, BitVec.toNat_and, BitVec.toNat_ofNat]
    rw [Nat.mod_eq_of_lt (a := i0.val) (by omega), Nat.mod_eq_of_lt (a := i0.val % 256) (by omega), ← h]
  rw [e, WordCmp.cmpi_slt_ofNat (by have := i1.isLt; norm_num; omega) (by norm_num; omega)]
  show Scalar.select (BitVec.ofBool (below (ix2 i0 i1))) _ _
    = ((bif below (ix2 i0 i1) then f (ix2 i0 i1) else g (ix2 i0 i1) : ℝ) : EReal)
  generalize below (ix2 i0 i1) = b
  cases b <;> rfl

end AttnLift

end
-- ==== Proof.AttnTile.lean ====
/- One tile of the attention gradient's kernel: the products, weights and gradients it computes from the stacked rows of a
   query block and a block of keys are, on real operands, the real formulas named here, in the loop over the blocks
   before the queries' own and in their own block, for either group of heads. -/
module

public import proofs.«01_k».proof.Proof.AttnLift

@[expose] public section

set_option maxRecDepth 16384

noncomputable section

open Idealize.ShloMosaic Idealize.ShloMosaic.TcCoe

namespace AttnTile

open Cert.AttnKernelIdeal Cert.AttnKernelIdeal.Gen AttnLift

/-! ## The real formulas -/

/-- Stacked rows, a square tile, and a column over the stacked rows. -/
abbrev Rows := S1024x256.Idx → ℝ
abbrev Tile := S256x256.Idx → ℝ
abbrev Col := S1024x1.Idx → ℝ

/-- The scores of stacked rows against a block of keys. -/
def score (q : Rows) (k : Tile) : Rows := fun i => ∑ d : Fin 256, q (ix2 (i 0) d) * k (ix2 (i 1) d)

/-- The logarithm of what each key leaves to those before it, where the mask admits it. -/
def leave (M : S1024x256.Idx → Bool) (q : Rows) (k : Tile) : Rows := fun i => bif M i then 0 - sp (score q k i) else 0

/-- A row's carried logarithm with the block's own added. -/
def leaveSum (M : S1024x256.Idx → Bool) (q : Rows) (k : Tile) (c : Col) : Col :=
  fun i => c i + ∑ l : Fin 256, leave M q k (ix2 (i 0) l)

/-- The weights. -/
def weight (M : S1024x256.Idx → Bool) (q : Rows) (k u : Tile) (tot c : Col) : Rows := fun i =>
  bif M i then Real.exp (score q k i - sp (score q k i) + ∑ l : Fin 256, leave M q k (ix2 (i 0) l) * u (ix2 l (i 1))
    + (tot (ix2 (i 0) 0) - leaveSum M q k c (ix2 (i 0) 0))) else 0

/-- The gradient with respect to the weights' logarithms. -/
def dlog (a d : Rows) (v : Tile) : Rows := fun i => a i * score d v i

/-- A row's carried gradient with the block's own added. -/
def dlogSum (g : Rows) (c : Col) : Col := fun i => c i + ∑ l : Fin 256, g (ix2 (i 0) l)

/-- The gradient with respect to the scores, before their scale. -/
def dscore (M : S1024x256.Idx → Bool) (z g : Rows) (w : Tile) (c : Col) : Rows := fun i =>
  (bif M i then (1 - Real.exp (z i - sp (z i))) * g i
    - Real.exp (z i - sp (z i)) * (c (ix2 (i 0) 0) + ∑ l : Fin 256, g (ix2 (i 0) l) * w (ix2 l (i 1))) else 0) * (1 / 8)

/-- What a block of keys collects from the stacked rows. -/
def collect (a d : Rows) (o : Tile) : Tile := fun i => o i + ∑ r : Fin 1024, a (ix2 r (i 0)) * d (ix2 r (i 1))

/-- What the stacked rows collect from a block of keys. -/
def gather (a : Rows) (k : Tile) (o : Rows) : Rows := fun i => o i + ∑ l : Fin 256, a (ix2 (i 0) l) * k (ix2 l (i 1))

/-- Every entry. -/
def all : S1024x256.Idx → Bool := fun _ => true

variable (q qu d o : Rows) (k v u w p : Tile) (tot c e : Col)

/-! ## The loop over earlier blocks, first group -/

theorem pay5 : k0_pay5 (F := Ideal) (lift q) (lift k) = lift (score q k) := by
  unfold k0_pay5
  simp only [splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay6 : k0_pay6 (F := Ideal) (lift q) (lift k) = lift (fun i => sp (score q k i)) := by
  unfold k0_pay6
  simp only [pay5, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]

theorem pay7 : k0_pay7 (F := Ideal) (lift q) (lift k) = lift (leave all q k) := by
  unfold k0_pay7
  simp only [pay6, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay8 : k0_pay8 (F := Ideal) (lift q) (lift c) (lift k) = lift (leaveSum all q k c) := by
  unfold k0_pay8
  simp only [pay7, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay9 : k0_pay9 (F := Ideal) (lift u) (lift q) (lift tot) (lift c) (lift k) = lift (weight all q k u tot c) := by
  unfold k0_pay9
  simp only [pay5, pay6, pay7, pay8, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay10 : k0_pay10 (F := Ideal) (lift u) (lift q) (lift d) (lift tot) (lift c) (lift k) (lift v) = lift (dlog (weight all q k u tot c) d v) := by
  unfold k0_pay10
  simp only [pay9, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay11 : k0_pay12 (k0_pay11 (F := Ideal) (lift u) (lift q) (lift d) (lift tot) (lift c) (lift k) (lift p)) = lift (collect (weight all q k u tot c) d p) := by
  unfold k0_pay12 k0_pay11
  simp only [pay9, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay13 : k0_pay13 (F := Ideal) (lift w) (lift e) (lift d) (lift (fun i => sp (d i))) (lift o) = lift (dscore all d o w e) := by
  unfold k0_pay13
  simp only [splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay14 : k0_pay14 (F := Ideal) (lift w) (lift qu) (lift e) (lift d) (lift (fun i => sp (d i))) (lift o) (lift p) = lift (collect (dscore all d o w e) qu p) := by
  unfold k0_pay14
  simp only [pay13, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay15 : k0_pay15 (F := Ideal) (lift e) (lift o) = lift (dlogSum o e) := by
  unfold k0_pay15
  simp only [splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay16 : k0_pay16 (F := Ideal) (lift w) (lift e) (lift qu) (lift k) (lift d) (lift (fun i => sp (d i))) (lift o) = lift (gather (dscore all d o w e) k qu) := by
  unfold k0_pay16
  simp only [pay13, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

/-! ## The loop over earlier blocks, second group -/

theorem pay17 : k0_pay17 (F := Ideal) (lift q) (lift k) = lift (score q k) := by
  unfold k0_pay17
  simp only [splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay20 : k0_pay20 (F := Ideal) (k0_pay18 (F := Ideal) (lift q) (lift k)) (k0_pay19 (lift q) (lift k)) (FloatOps.ofBits .f32 0x00000000#32) = lift (fun i => sp (score q k i)) := by
  unfold k0_pay20 k0_pay18 k0_pay19
  have h : broadcast S1024x256 (FloatOps.ofBits (F := Ideal) .f32 0x00000000#32) = lift (fun _ => 0) := splat_zero
  simp only [h, pay17, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]

theorem pay21 : k0_pay21 (F := Ideal) (k0_pay18 (F := Ideal) (lift q) (lift k)) (k0_pay19 (lift q) (lift k)) (FloatOps.ofBits .f32 0x00000000#32) = lift (leave all q k) := by
  unfold k0_pay21
  simp only [pay20, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay22 : k0_pay22 (F := Ideal) (lift c) (k0_pay18 (F := Ideal) (lift q) (lift k)) (k0_pay19 (lift q) (lift k)) (FloatOps.ofBits .f32 0x00000000#32) = lift (leaveSum all q k c) := by
  unfold k0_pay22
  simp only [pay21, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay23 : k0_pay23 (F := Ideal) (lift u) (lift tot) (lift c) (lift (score q k)) (k0_pay18 (F := Ideal) (lift q) (lift k)) (k0_pay19 (lift q) (lift k)) (FloatOps.ofBits .f32 0x00000000#32) = lift (weight all q k u tot c) := by
  unfold k0_pay23
  simp only [pay20, pay21, pay22, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay24 : k0_pay24 (F := Ideal) (lift u) (lift d) (lift tot) (lift c) (lift v) (lift (score q k)) (k0_pay18 (F := Ideal) (lift q) (lift k)) (k0_pay19 (lift q) (lift k)) (FloatOps.ofBits .f32 0x00000000#32) = lift (dlog (weight all q k u tot c) d v) := by
  unfold k0_pay24
  simp only [pay23, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay25 : k0_pay25 (F := Ideal) (lift u) (lift d) (lift tot) (lift c) (lift (score q k)) (k0_pay18 (F := Ideal) (lift q) (lift k)) (k0_pay19 (lift q) (lift k)) (FloatOps.ofBits .f32 0x00000000#32) (lift p) = lift (collect (weight all q k u tot c) d p) := by
  unfold k0_pay25
  simp only [pay23, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay75 : k0_pay75 (F := Ideal) (lift (dlog (weight all q k u tot c) d v)) (k0_pay26 (F := Ideal) (lift u) (lift w) (lift d) (lift tot) (lift c) (lift e) (lift v) (lift (score q k)) (k0_pay18 (F := Ideal) (lift q) (lift k)) (k0_pay19 (lift q) (lift k)) (FloatOps.ofBits .f32 0x00000000#32)) (k0_pay27 (lift (score q k)) (k0_pay18 (F := Ideal) (lift q) (lift k)) (k0_pay19 (lift q) (lift k)) (FloatOps.ofBits .f32 0x00000000#32)) = lift (dscore all (score q k) (dlog (weight all q k u tot c) d v) w e) := by
  unfold k0_pay75 k0_pay26 k0_pay27
  simp only [pay24, pay20, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay76 : k0_pay76 (F := Ideal) (lift qu) (lift (dlog (weight all q k u tot c) d v)) (k0_pay26 (F := Ideal) (lift u) (lift w) (lift d) (lift tot) (lift c) (lift e) (lift v) (lift (score q k)) (k0_pay18 (F := Ideal) (lift q) (lift k)) (k0_pay19 (lift q) (lift k)) (FloatOps.ofBits .f32 0x00000000#32)) (k0_pay27 (lift (score q k)) (k0_pay18 (F := Ideal) (lift q) (lift k)) (k0_pay19 (lift q) (lift k)) (FloatOps.ofBits .f32 0x00000000#32)) (lift p) = lift (collect (dscore all (score q k) (dlog (weight all q k u tot c) d v) w e) qu p) := by
  unfold k0_pay76
  simp only [pay75, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay77 : k0_pay77 (F := Ideal) (lift e) (lift o) = lift (dlogSum o e) := by
  unfold k0_pay77
  simp only [splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay78 : k0_pay78 (F := Ideal) (lift qu) (lift k) (lift (dlog (weight all q k u tot c) d v)) (k0_pay26 (F := Ideal) (lift u) (lift w) (lift d) (lift tot) (lift c) (lift e) (lift v) (lift (score q k)) (k0_pay18 (F := Ideal) (lift q) (lift k)) (k0_pay19 (lift q) (lift k)) (FloatOps.ofBits .f32 0x00000000#32)) (k0_pay27 (lift (score q k)) (k0_pay18 (F := Ideal) (lift q) (lift k)) (k0_pay19 (lift q) (lift k)) (FloatOps.ofBits .f32 0x00000000#32)) = lift (gather (dscore all (score q k) (dlog (weight all q k u tot c) d v) w e) k qu) := by
  unfold k0_pay78
  simp only [pay75, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

/-! ## The queries' own block, first group -/

theorem pay83 : k0_pay83 (F := Ideal) (lift q) (lift k) = lift (score q k) := by
  unfold k0_pay83
  simp only [splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay84 : k0_pay84 (F := Ideal) (lift q) (lift k) = lift (fun i => sp (score q k i)) := by
  unfold k0_pay84
  simp only [pay83, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]

theorem pay85 : k0_pay85 (F := Ideal) k0_pay56 (lift q) (lift k) = lift (leave below q k) := by
  unfold k0_pay85
  simp only [pay84, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay86 : k0_pay86 (F := Ideal) k0_pay56 (lift q) (lift c) (lift k) = lift (leaveSum below q k c) := by
  unfold k0_pay86
  simp only [pay85, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay88 : k0_pay88 (F := Ideal) k0_pay56 (lift tot) (lift (leaveSum below q k c)) (k0_pay87 (F := Ideal) k0_pay56 (lift u) (lift q) (lift k)) = lift (weight below q k u tot c) := by
  unfold k0_pay88 k0_pay87
  simp only [pay83, pay84, pay85, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay89 : k0_pay89 (F := Ideal) k0_pay56 (lift d) (lift tot) (lift (leaveSum below q k c)) (k0_pay87 (F := Ideal) k0_pay56 (lift u) (lift q) (lift k)) (lift p) = lift (collect (weight below q k u tot c) d p) := by
  unfold k0_pay89
  simp only [pay88, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay90 : k0_pay90 (F := Ideal) k0_pay56 (lift w) (lift d) (lift tot) (lift e) (lift v) (lift (score q k)) (lift (fun i => sp (score q k i))) (lift (leaveSum below q k c)) (k0_pay87 (F := Ideal) k0_pay56 (lift u) (lift q) (lift k)) = lift (dscore below (score q k) (dlog (weight below q k u tot c) d v) w e) := by
  unfold k0_pay90
  simp only [pay88, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay91 : k0_pay92 (k0_pay91 (F := Ideal) k0_pay56 (lift w) (lift qu) (lift d) (lift tot) (lift e) (lift v) (lift (score q k)) (lift (fun i => sp (score q k i))) (lift (leaveSum below q k c)) (k0_pay87 (F := Ideal) k0_pay56 (lift u) (lift q) (lift k)) (lift p)) = lift (collect (dscore below (score q k) (dlog (weight below q k u tot c) d v) w e) qu p) := by
  unfold k0_pay92 k0_pay91
  simp only [pay90, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay93 : k0_pay93 (F := Ideal) (lift d) (lift k) (lift o) = lift (gather o k d) := by
  unfold k0_pay93
  simp only [splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

/-! ## The queries' own block, second group -/

theorem pay94 : k0_pay94 (F := Ideal) (lift q) (lift k) = lift (score q k) := by
  unfold k0_pay94
  simp only [splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay95 : k0_pay95 (F := Ideal) (lift q) (lift k) = lift (fun i => sp (score q k i)) := by
  unfold k0_pay95
  simp only [pay94, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]

theorem pay96 : k0_pay96 (F := Ideal) k0_pay56 (lift u) (lift q) (lift tot) (lift c) (lift k) = lift (weight below q k u tot c) := by
  unfold k0_pay96
  simp only [pay94, pay95, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay97 : k0_pay97 (F := Ideal) k0_pay56 (lift u) (lift q) (lift d) (lift tot) (lift c) (lift k) (lift v) = lift (dlog (weight below q k u tot c) d v) := by
  unfold k0_pay97
  simp only [pay96, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay98 : k0_pay98 (F := Ideal) (lift d) (lift o) (lift p) = lift (collect o d p) := by
  unfold k0_pay98
  simp only [splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay99 : k0_pay99 (F := Ideal) k0_pay56 (lift w) (lift e) (lift d) (lift (fun i => sp (d i))) (lift o) = lift (dscore below d o w e) := by
  unfold k0_pay99
  simp only [splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay100 : k0_pay100 (F := Ideal) k0_pay56 (lift w) (lift qu) (lift e) (lift d) (lift (fun i => sp (d i))) (lift o) (lift p) = lift (collect (dscore below d o w e) qu p) := by
  unfold k0_pay100
  simp only [pay99, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

theorem pay101 : k0_pay101 (F := Ideal) k0_pay56 (lift w) (lift e) (lift qu) (lift k) (lift d) (lift (fun i => sp (d i))) (lift o) = lift (gather (dscore below d o w e) k qu) := by
  unfold k0_pay101
  simp only [pay99, splat_zero, splat_one, splat_eighth, add_lift, sub_lift, mul_lift, exp_lift, truncf_lift, extf_lift, softplus_lift, dot_nt_lift, dot_nn_lift, dot_tn_lift, ↓rowSum_eq, rowSum_lift, column_lift, cast_lift, select_lift, tri_split, tri_lift]
  rfl

end AttnTile

end
-- ==== Proof.AttnMath.lean ====
/- The attention gradient in real numbers: the weights of a head, the gradients they carry back, and one step of the
   kernel's sweep over blocks of keys, whose masked products and triangles of ones amount to these sums. -/
module

public import proofs.«01_k».proof.Proof.AttnTile

@[expose] public section

set_option maxRecDepth 16384

noncomputable section

open Idealize.ShloMosaic

namespace AttnMath

open Cert.AttnKernelIdeal AttnLift AttnTile Finset

/-! ## Sums over parts of a range -/

theorem pick_lanes (f : ℕ → ℝ) (h : ℕ) (hh : h < 4) :
    ∑ d : Fin 256, (if d.val / 64 = h then f d.val else 0) = ∑ e ∈ range 64, f (64 * h + e) := by
  rw [Fin.sum_univ_eq_sum_range (fun d => if d / 64 = h then f d else 0) 256, ← sum_filter]
  refine sum_nbij' (fun d => d - 64 * h) (fun e => 64 * h + e) ?_ ?_ ?_ ?_ ?_
  · intro d hd; simp only [mem_filter, mem_range] at hd ⊢; omega
  · intro e he; simp only [mem_filter, mem_range] at he ⊢; omega
  · intro d hd; simp only [mem_filter, mem_range] at hd ⊢; omega
  · intro e he; simp only [mem_range] at he ⊢; omega
  · intro d hd; simp only [mem_filter, mem_range] at hd ⊢
    rw [show 64 * h + (d - 64 * h) = d by omega]

theorem pick_rows (f : ℕ → ℝ) (h : ℕ) (hh : h < 4) :
    ∑ r : Fin 1024, (if h = r.val / 256 then f r.val else 0) = ∑ i ∈ range 256, f (256 * h + i) := by
  rw [Fin.sum_univ_eq_sum_range (fun r => if h = r / 256 then f r else 0) 1024, ← sum_filter]
  refine sum_nbij' (fun d => d - 256 * h) (fun e => 256 * h + e) ?_ ?_ ?_ ?_ ?_
  · intro d hd; simp only [mem_filter, mem_range] at hd ⊢; omega
  · intro e he; simp only [mem_filter, mem_range] at he ⊢; omega
  · intro d hd; simp only [mem_filter, mem_range] at hd ⊢; omega
  · intro e he; simp only [mem_range] at he ⊢; omega
  · intro d hd; simp only [mem_filter, mem_range] at hd ⊢
    rw [show 256 * h + (d - 256 * h) = d by omega]

theorem before (f : ℕ → ℝ) (n j : ℕ) (hj : j ≤ 256) :
    ∑ l : Fin 256, f (n + l.val) * (if l.val < j then 1 else 0) = ∑ s ∈ range (n + j), f s - ∑ s ∈ range n, f s := by
  rw [Fin.sum_univ_eq_sum_range (fun l => f (n + l) * (if l < j then 1 else 0)) 256, sum_range_add, add_sub_cancel_left]
  simp only [mul_ite, mul_one, mul_zero]
  rw [← sum_filter]
  congr 1
  ext l; simp only [mem_filter, mem_range]; omega

theorem whole (f : ℕ → ℝ) (n : ℕ) :
    ∑ l : Fin 256, f (n + l.val) = ∑ s ∈ range (n + 256), f s - ∑ s ∈ range n, f s := by
  rw [Fin.sum_univ_eq_sum_range (fun l => f (n + l)) 256, sum_range_add, add_sub_cancel_left]

theorem after (f : ℕ → ℝ) (n j : ℕ) (hj : j < 256) :
    ∑ l : Fin 256, f (n + l.val) * (if j < l.val then 1 else 0) = ∑ s ∈ range (n + 256), f s - ∑ s ∈ range (n + j + 1), f s := by
  have e : ∀ l : Fin 256, f (n + l.val) * (if j < l.val then (1 : ℝ) else 0)
      = f (n + l.val) - f (n + l.val) * (if l.val < j + 1 then 1 else 0) := fun l => by
    by_cases h : j < l.val
    · rw [if_pos h, if_neg (by omega)]; ring
    · rw [if_neg h, if_pos (by omega)]; ring
  rw [sum_congr rfl fun l _ => e l, sum_sub_distrib, whole, before f n (j + 1) (by omega), ← add_assoc]
  ring

/-! ## The attention of a head -/

section
variable (Q K V D : ℕ → ℕ → ℝ)

/-- A head's score of a query against a key. -/
def z (H t s : ℕ) : ℝ := ∑ e ∈ range 64, Q t (64 * H + e) * (1 / 8) * K s (64 * H + e)
/-- The logarithm of what a key leaves to those before it. -/
def lm (H t s : ℕ) : ℝ := if s < t then 0 - sp (z Q K H t s) else 0
def lms (H t n : ℕ) : ℝ := ∑ s ∈ range n, lm Q K H t s
/-- The weight of a key. -/
def att (H t s : ℕ) : ℝ :=
  if s < t then Real.exp (z Q K H t s - sp (z Q K H t s) + (lms Q K H t 2048 - lms Q K H t (s + 1))) else 0
/-- The gradient with respect to a weight's logarithm. -/
def dl (H t s : ℕ) : ℝ := att Q K H t s * ∑ e ∈ range 64, D t (64 * H + e) * V s (64 * H + e)
def dls (H t n : ℕ) : ℝ := ∑ s ∈ range n, dl Q K V D H t s
/-- The gradient with respect to a score. -/
def dz (H t s : ℕ) : ℝ :=
  if s < t then (1 - Real.exp (z Q K H t s - sp (z Q K H t s))) * dl Q K V D H t s
    - Real.exp (z Q K H t s - sp (z Q K H t s)) * dls Q K V D H t s else 0

/-- What the queries' gradient collects from the first `n` keys. -/
def dqs (n t c : ℕ) (H : ℕ) : ℝ := ∑ s ∈ range n, dz Q K V D H t s * (1 / 8) * K s c
/-- What the keys' and values' gradients collect from the first `n` queries. -/
def dks (n s c : ℕ) : ℝ := ∑ t ∈ range n, dz Q K V D (c / 64) t s * (1 / 8) * Q t c
def dvs (n s c : ℕ) : ℝ := ∑ t ∈ range n, att Q K (c / 64) t s * D t c

/-! ## One step of the sweep -/

/-- Four heads' copies of a block of rows, each keeping its own lanes. -/
def rows (a g : ℕ) (X : ℕ → ℕ → ℝ) : Rows := fun i =>
  if (i 1).val / 64 = (i 0).val / 256 then X (256 * a + (i 0).val % 256) (256 * g + (i 1).val) else 0
def tile (X : ℕ → ℕ → ℝ) (k g : ℕ) : Tile := fun i => X (256 * k + (i 0).val) (256 * g + (i 1).val)
/-- A quantity of each head and query, a row for each. -/
def col (a g : ℕ) (f : ℕ → ℕ → ℝ) : Col := fun i => f (4 * g + (i 0).val / 256) (256 * a + (i 0).val % 256)
/-- A quantity of each head, query and key. -/
def scores (a g k : ℕ) (f : ℕ → ℕ → ℕ → ℝ) : Rows := fun i =>
  f (4 * g + (i 0).val / 256) (256 * a + (i 0).val % 256) (256 * k + (i 1).val)
/-- Which keys of a block come before the row's query. -/
def Admits (M : S1024x256.Idx → Bool) (a k : ℕ) : Prop :=
  ∀ i, M i = decide (256 * k + (i 1).val < 256 * a + (i 0).val % 256)
def upper : Tile := fun i => if (i 1).val < (i 0).val then 1 else 0
def lower : Tile := fun i => if (i 0).val < (i 1).val then 1 else 0

theorem admits_all (a k : ℕ) (h : k < a) : Admits all a k := fun i => by
  have := (i 1).isLt
  have h1 : (i 1).val < 256 := this
  show true = decide _
  rw [eq_comm, decide_eq_true_iff]; omega

theorem admits_below (a : ℕ) : Admits below a a := fun i => by
  show decide _ = decide _
  congr 1; rw [eq_iff_iff]; omega

theorem score_rows (X Y : ℕ → ℕ → ℝ) (a g k : ℕ) :
    score (rows a g X) (tile Y k g)
      = scores a g k fun H t s => ∑ e ∈ range 64, X t (64 * H + e) * Y s (64 * H + e) := by
  funext i
  have hr : (i 0).val < 1024 := (i 0).isLt
  show ∑ d : Fin 256, (if d.val / 64 = (i 0).val / 256 then X (256 * a + (i 0).val % 256) (256 * g + d.val) else 0)
      * Y (256 * k + (i 1).val) (256 * g + d.val) = _
  simp only [ite_mul, zero_mul]
  rw [pick_lanes (fun d => X (256 * a + (i 0).val % 256) (256 * g + d) * Y (256 * k + (i 1).val) (256 * g + d)) _ (by omega)]
  refine sum_congr rfl fun e _ => ?_
  rw [show 256 * g + (64 * ((i 0).val / 256) + e) = 64 * (4 * g + (i 0).val / 256) + e by ring]

variable {M : S1024x256.Idx → Bool} {a k : ℕ} (hM : Admits M a k) (g : ℕ)

theorem score_z : score (rows a g fun t c => Q t c * (1 / 8)) (tile K k g) = scores a g k (z Q K) := score_rows _ _ a g k

include hM in
theorem leave_lm : leave M (rows a g fun t c => Q t c * (1 / 8)) (tile K k g) = scores a g k (lm Q K) := by
  funext i
  show (bif M i then 0 - sp (score _ _ i) else 0) = lm Q K _ _ _
  rw [hM i, score_z, lm, Bool.cond_decide]
  rfl

include hM in
theorem leaveSum_lms : leaveSum M (rows a g fun t c => Q t c * (1 / 8)) (tile K k g) (col a g fun H t => lms Q K H t (256 * k))
    = col a g fun H t => lms Q K H t (256 * (k + 1)) := by
  unfold leaveSum
  rw [leave_lm Q K hM]
  funext i; idx_vars i
  show lms Q K (4 * g + i0.val / 256) (256 * a + i0.val % 256) (256 * k) + ∑ l : Fin 256, lm Q K (4 * g + i0.val / 256) (256 * a + i0.val % 256) (256 * k + l.val)
    = lms Q K (4 * g + i0.val / 256) (256 * a + i0.val % 256) (256 * (k + 1))
  rw [whole (lm Q K _ _), lms, lms, mul_add, mul_one]
  exact add_sub_cancel _ _

include hM in
theorem weight_att : weight M (rows a g fun t c => Q t c * (1 / 8)) (tile K k g) upper (col a g fun H t => lms Q K H t 2048)
    (col a g fun H t => lms Q K H t (256 * k)) = scores a g k (att Q K) := by
  unfold weight
  rw [leaveSum_lms Q K hM, leave_lm Q K hM, score_z]
  funext i; idx_vars i
  rw [hM, Bool.cond_decide]
  show (if 256 * k + i1.val < 256 * a + i0.val % 256 then Real.exp (z Q K (4 * g + i0.val / 256) (256 * a + i0.val % 256) (256 * k + i1.val)
      - sp (z Q K (4 * g + i0.val / 256) (256 * a + i0.val % 256) (256 * k + i1.val))
      + ∑ l : Fin 256, lm Q K (4 * g + i0.val / 256) (256 * a + i0.val % 256) (256 * k + l.val) * (if i1.val < l.val then 1 else 0)
      + (lms Q K (4 * g + i0.val / 256) (256 * a + i0.val % 256) 2048 - lms Q K (4 * g + i0.val / 256) (256 * a + i0.val % 256) (256 * (k + 1)))) else 0)
    = att Q K (4 * g + i0.val / 256) (256 * a + i0.val % 256) (256 * k + i1.val)
  rw [after (lm Q K _ _) _ _ i1.isLt, att]
  refine if_congr Iff.rfl (congrArg Real.exp ?_) rfl
  rw [mul_add, mul_one]
  simp only [lms]
  ring

theorem dlog_dl : dlog (scores a g k (att Q K)) (rows a g D) (tile V k g) = scores a g k (dl Q K V D) := by
  unfold dlog
  rw [score_rows]
  rfl

theorem dlogSum_dls : dlogSum (scores a g k (dl Q K V D)) (col a g fun H t => dls Q K V D H t (256 * k))
    = col a g fun H t => dls Q K V D H t (256 * (k + 1)) := by
  funext i; idx_vars i
  show dls Q K V D (4 * g + i0.val / 256) (256 * a + i0.val % 256) (256 * k) + ∑ l : Fin 256, dl Q K V D (4 * g + i0.val / 256) (256 * a + i0.val % 256) (256 * k + l.val)
    = dls Q K V D (4 * g + i0.val / 256) (256 * a + i0.val % 256) (256 * (k + 1))
  rw [whole (dl Q K V D _ _), dls, dls, mul_add, mul_one]
  exact add_sub_cancel _ _

include hM in
theorem dscore_dz : dscore M (score (rows a g fun t c => Q t c * (1 / 8)) (tile K k g)) (scores a g k (dl Q K V D)) lower
    (col a g fun H t => dls Q K V D H t (256 * k)) = scores a g k fun H t s => dz Q K V D H t s * (1 / 8) := by
  unfold dscore
  rw [score_z]
  funext i; idx_vars i
  rw [hM, Bool.cond_decide]
  show (if 256 * k + i1.val < 256 * a + i0.val % 256 then (1 - Real.exp (z Q K (4 * g + i0.val / 256) (256 * a + i0.val % 256) (256 * k + i1.val)
      - sp (z Q K (4 * g + i0.val / 256) (256 * a + i0.val % 256) (256 * k + i1.val)))) * dl Q K V D (4 * g + i0.val / 256) (256 * a + i0.val % 256) (256 * k + i1.val)
      - Real.exp (z Q K (4 * g + i0.val / 256) (256 * a + i0.val % 256) (256 * k + i1.val) - sp (z Q K (4 * g + i0.val / 256) (256 * a + i0.val % 256) (256 * k + i1.val)))
        * (dls Q K V D (4 * g + i0.val / 256) (256 * a + i0.val % 256) (256 * k)
          + ∑ l : Fin 256, dl Q K V D (4 * g + i0.val / 256) (256 * a + i0.val % 256) (256 * k + l.val) * (if l.val < i1.val then 1 else 0)) else 0) * (1 / 8)
    = dz Q K V D (4 * g + i0.val / 256) (256 * a + i0.val % 256) (256 * k + i1.val) * (1 / 8)
  rw [before (dl Q K V D _ _) _ _ i1.isLt.le, dz]
  congr 1
  refine if_congr Iff.rfl ?_ rfl
  simp only [dls]
  rw [add_sub_cancel]

/-- A block of keys collects from each of its heads' queries. -/
theorem collect_rows (f : ℕ → ℕ → ℕ → ℝ) (X : ℕ → ℕ → ℝ) (o : Tile) :
    collect (scores a g k f) (rows a g X) o = fun i => o i + ∑ t ∈ range 256,
      f ((256 * g + (i 1).val) / 64) (256 * a + t) (256 * k + (i 0).val) * X (256 * a + t) (256 * g + (i 1).val) := by
  funext i; idx_vars i
  show o (ix2 i0 i1) + ∑ r : Fin 1024, f (4 * g + r.val / 256) (256 * a + r.val % 256) (256 * k + i0.val)
    * (if i1.val / 64 = r.val / 256 then X (256 * a + r.val % 256) (256 * g + i1.val) else 0)
    = o (ix2 i0 i1) + ∑ t ∈ range 256,
      f ((256 * g + i1.val) / 64) (256 * a + t) (256 * k + i0.val) * X (256 * a + t) (256 * g + i1.val)
  simp only [mul_ite, mul_zero]
  rw [pick_rows (fun r => f (4 * g + r / 256) (256 * a + r % 256) (256 * k + i0.val)
    * X (256 * a + r % 256) (256 * g + i1.val)) _ (by omega)]
  congr 1
  refine sum_congr rfl fun t ht => ?_
  have := mem_range.mp ht
  rw [show (256 * (i1.val / 64) + t) / 256 = i1.val / 64 by omega,
    show (256 * (i1.val / 64) + t) % 256 = t by omega, show 4 * g + i1.val / 64 = (256 * g + i1.val) / 64 by omega]

/-- What the stacked rows of a block of queries have collected from the keys before block `k`. -/
def gathered (a g k : ℕ) : Rows := fun i =>
  dqs Q K V D (256 * k) (256 * a + (i 0).val % 256) (256 * g + (i 1).val) (4 * g + (i 0).val / 256)

theorem gather_dqs : gather (scores a g k fun H t s => dz Q K V D H t s * (1 / 8)) (tile K k g) (gathered Q K V D a g k)
    = gathered Q K V D a g (k + 1) := by
  funext i; idx_vars i
  show dqs Q K V D (256 * k) (256 * a + i0.val % 256) (256 * g + i1.val) (4 * g + i0.val / 256)
    + ∑ l : Fin 256, dz Q K V D (4 * g + i0.val / 256) (256 * a + i0.val % 256) (256 * k + l.val) * (1 / 8) * K (256 * k + l.val) (256 * g + i1.val)
    = dqs Q K V D (256 * (k + 1)) (256 * a + i0.val % 256) (256 * g + i1.val) (4 * g + i0.val / 256)
  rw [whole (fun s => dz Q K V D (4 * g + i0.val / 256) (256 * a + i0.val % 256) s * (1 / 8) * K s (256 * g + i1.val)) (256 * k)]
  rw [dqs, dqs, mul_add, mul_one]
  exact add_sub_cancel _ _

end

/-! ## The sums a block of queries adds -/

section
variable (Q K V D : ℕ → ℕ → ℝ)

theorem dz_zero (H t s : ℕ) (h : t ≤ s) : dz Q K V D H t s = 0 := by rw [dz, if_neg (by omega)]
theorem att_zero (H t s : ℕ) (h : t ≤ s) : att Q K H t s = 0 := by rw [att, if_neg (by omega)]

theorem dks_add (a s c : ℕ) : dks Q K V D (256 * (a + 1)) s c = dks Q K V D (256 * a) s c
    + ∑ t ∈ range 256, dz Q K V D (c / 64) (256 * a + t) s * (1 / 8) * Q (256 * a + t) c := by
  rw [dks, dks, mul_add, mul_one, sum_range_add]

theorem dvs_add (a s c : ℕ) : dvs Q K D (256 * (a + 1)) s c = dvs Q K D (256 * a) s c
    + ∑ t ∈ range 256, att Q K (c / 64) (256 * a + t) s * D (256 * a + t) c := by
  rw [dvs, dvs, mul_add, mul_one, sum_range_add]

/-- Keys from a later block on collect nothing. -/
theorem dks_later (a s c : ℕ) (h : 256 * (a + 1) ≤ s) : dks Q K V D (256 * (a + 1)) s c = dks Q K V D (256 * a) s c := by
  rw [dks_add, add_eq_left]
  exact sum_eq_zero fun t ht => by
    have := mem_range.mp ht
    rw [dz_zero Q K V D _ _ _ (by omega), zero_mul, zero_mul]

theorem dvs_later (a s c : ℕ) (h : 256 * (a + 1) ≤ s) : dvs Q K D (256 * (a + 1)) s c = dvs Q K D (256 * a) s c := by
  rw [dvs_add, add_eq_left]
  exact sum_eq_zero fun t ht => by
    have := mem_range.mp ht
    rw [att_zero Q K _ _ _ (by omega), zero_mul]

theorem dqs_all (a t c H : ℕ) (h : t < 256 * (a + 1)) (ha : a < 8) : dqs Q K V D (256 * (a + 1)) t c H = dqs Q K V D 2048 t c H := by
  rw [dqs, dqs, show 2048 = 256 * (a + 1) + (2048 - 256 * (a + 1)) by omega, sum_range_add, eq_comm, add_eq_left]
  exact sum_eq_zero fun s hs => by rw [dz_zero Q K V D _ _ _ (by omega), zero_mul, zero_mul]

end

end AttnMath

end
-- ==== Proof.AttnLoop.lean ====
/- The kernel's loop over the blocks of keys before a query block's own: one trip takes the carried sums and the
   gradients held for the keys and values from the first `k` blocks to the first `k + 1`. -/
module

public import proofs.«01_k».proof.Proof.Gen.AttnKernelIdeal.Loops
public import proofs.«01_k».proof.Proof.AttnMath
public import Idealize.ShloMosaic.Lib.WritesUnit
public import Idealize.ShloMosaic.Lib.LoopRemainder

@[expose] public section

set_option maxRecDepth 16384

noncomputable section

open Idealize.ShloMosaic Idealize.ShloMosaic.TcCoe Idealize.SL.Sem

namespace AttnLoop

open Cert.AttnKernelIdeal Cert.AttnKernelIdeal.Gen AttnLift AttnTile AttnMath Finset

/-! ## Tiles of an array -/

/-- An array's entries. -/
def arr (X : ℕ → ℕ → ℝ) : S2048x512.Idx → ℝ := fun i => X (i 0).val (i 1).val

theorem read_tile_bf16 (v : View sig .tc .vmem S2048x512 .bf16) (f : v.ty.Contents (Elt Ideal)) (X : ℕ → ℕ → ℝ)
    (h : v.read (Elt Ideal) f = lift (arr X)) {off : Fin 2 → ℕ} (inb : ∀ a, off a + S256x256.size a ≤ S2048x512.size a)
    (k g : ℕ) (e : off = ![256 * k, 256 * g]) :
    v.readAt (Elt Ideal) (Rect.unit (s := S2048x512) off S256x256.size inb).toLoadRect f = lift (tile X k g) := by
  subst e
  funext j
  refine (congrFun h _).trans ?_
  show ((X (256 * k + 1 * (j 0).val) (256 * g + 1 * (j 1).val) : ℝ) : EReal) = (X (256 * k + (j 0).val) (256 * g + (j 1).val) : ℝ)
  rw [one_mul, one_mul]

theorem read_tile (v : View sig .tc .vmem S2048x512 .f32) (f : v.ty.Contents (Elt Ideal)) (X : ℕ → ℕ → ℝ)
    (h : v.read (Elt Ideal) f = lift (arr X)) {off : Fin 2 → ℕ} (inb : ∀ a, off a + S256x256.size a ≤ S2048x512.size a)
    (k g : ℕ) (e : off = ![256 * k, 256 * g]) :
    v.readAt (Elt Ideal) (Rect.unit (s := S2048x512) off S256x256.size inb).toLoadRect f = lift (tile X k g) := by
  subst e
  funext j
  refine (congrFun h _).trans ?_
  show ((X (256 * k + 1 * (j 0).val) (256 * g + 1 * (j 1).val) : ℝ) : EReal) = (X (256 * k + (j 0).val) (256 * g + (j 1).val) : ℝ)
  rw [one_mul, one_mul]

/-- Both groups' tiles of a block written. -/
theorem write_tiles (v : View sig .tc .vmem S2048x512 .f32) (f : v.ty.Contents (Elt Ideal)) (X X' : ℕ → ℕ → ℝ)
    (h : v.read (Elt Ideal) f = lift (arr X)) {off0 off1 : Fin 2 → ℕ} (inb0 : ∀ a, off0 a + S256x256.size a ≤ S2048x512.size a)
    (inb1 : ∀ a, off1 a + S256x256.size a ≤ S2048x512.size a) (k : ℕ) (e0 : off0 = ![256 * k, 256 * 0])
    (e1 : off1 = ![256 * k, 256 * 1]) (w0 w1 : Tile) (h0 : w0 = tile X' k 0) (h1 : w1 = tile X' k 1)
    (hr : ∀ s c, s / 256 ≠ k → X' s c = X s c) :
    v.read (Elt Ideal) (v.writes (Elt Ideal) f [⟨Rect.unit (s := S2048x512) off1 S256x256.size inb1, lift w1⟩,
      ⟨Rect.unit (s := S2048x512) off0 S256x256.size inb0, lift w0⟩]) = lift (arr X') := by
  subst h0 h1
  funext y
  have hy0 : (y 0).val < 2048 := (y 0).isLt
  have hy1 : (y 1).val < 512 := (y 1).isLt
  by_cases hk : (y 0).val / 256 = k
  · by_cases hg : 256 ≤ (y 1).val
    · rw [View.read_writes_cons_unit_of_mem v f inb1 _ _ y (ix2 ⟨(y 0).val - 256 * k, by omega⟩ ⟨(y 1).val - 256, by omega⟩) e1
        (by intro a; fin_cases a
            · show (y 0).val = 256 * k + ((y 0).val - 256 * k); omega
            · show (y 1).val = 256 * 1 + ((y 1).val - 256); omega)]
      show ((X' (256 * k + ((y 0).val - 256 * k)) (256 * 1 + ((y 1).val - 256)) : ℝ) : EReal) = (X' (y 0).val (y 1).val : ℝ)
      rw [show 256 * k + ((y 0).val - 256 * k) = (y 0).val by omega, show 256 * 1 + ((y 1).val - 256) = (y 1).val by omega]
    · rw [View.read_writes_cons_unit_of_not_mem v f inb1 _ _ y e1 1 (.inl (by show (y 1).val < 256 * 1; omega)),
        View.read_writes_cons_unit_of_mem v f inb0 _ _ y (ix2 ⟨(y 0).val - 256 * k, by omega⟩ ⟨(y 1).val, by omega⟩) e0
        (by intro a; fin_cases a
            · show (y 0).val = 256 * k + ((y 0).val - 256 * k); omega
            · show (y 1).val = 256 * 0 + (y 1).val; omega)]
      show ((X' (256 * k + ((y 0).val - 256 * k)) (256 * 0 + (y 1).val) : ℝ) : EReal) = (X' (y 0).val (y 1).val : ℝ)
      rw [show 256 * k + ((y 0).val - 256 * k) = (y 0).val by omega, show 256 * 0 + (y 1).val = (y 1).val by omega]
  · have hn : (y 0).val < 256 * k ∨ 256 * k + 256 ≤ (y 0).val := by omega
    rw [View.read_writes_cons_unit_of_not_mem v f inb1 _ _ y e1 0 hn,
      View.read_writes_cons_unit_of_not_mem v f inb0 _ _ y e0 0 hn]
    refine (congrFun h y).trans ?_
    show ((X (y 0).val (y 1).val : ℝ) : EReal) = (X' (y 0).val (y 1).val : ℝ)
    rw [hr _ _ hk]

/-! ## The gradients held while a query block passes over the keys -/

section
variable (Q K V D : ℕ → ℕ → ℝ)

/-- Query block `a`'s share is in for the first `k` blocks of keys. -/
def held (U : ℕ → ℕ → ℕ → ℝ) (a k : ℕ) (s c : ℕ) : ℝ := if s < 256 * k then U (256 * (a + 1)) s c else U (256 * a) s c

theorem held_rest (U : ℕ → ℕ → ℕ → ℝ) (a k s c : ℕ) (h : s / 256 ≠ k) : held U a (k + 1) s c = held U a k s c := by
  unfold held
  exact if_congr (by omega) rfl rfl

theorem dk_tile (a k g : ℕ) :
    collect (scores a g k fun H t s => dz Q K V D H t s * (1 / 8)) (rows a g Q) (tile (held (dks Q K V D) a k) k g)
      = tile (held (dks Q K V D) a (k + 1)) k g := by
  rw [collect_rows]
  funext i; idx_vars i
  show held (dks Q K V D) a k (256 * k + i0.val) (256 * g + i1.val) + ∑ t ∈ range 256,
      dz Q K V D ((256 * g + i1.val) / 64) (256 * a + t) (256 * k + i0.val) * (1 / 8) * Q (256 * a + t) (256 * g + i1.val)
    = held (dks Q K V D) a (k + 1) (256 * k + i0.val) (256 * g + i1.val)
  rw [held, held, if_neg (by omega), if_pos (by omega), dks_add]

theorem dv_tile (a k g : ℕ) :
    collect (scores a g k (att Q K)) (rows a g D) (tile (held (dvs Q K D) a k) k g)
      = tile (held (dvs Q K D) a (k + 1)) k g := by
  rw [collect_rows]
  funext i; idx_vars i
  show held (dvs Q K D) a k (256 * k + i0.val) (256 * g + i1.val) + ∑ t ∈ range 256,
      att Q K ((256 * g + i1.val) / 64) (256 * a + t) (256 * k + i0.val) * D (256 * a + t) (256 * g + i1.val)
    = held (dvs Q K D) a (k + 1) (256 * k + i0.val) (256 * g + i1.val)
  rw [held, held, if_neg (by omega), if_pos (by omega), dvs_add]

/-- What the loop carries before block `k`: for each group of heads the carried logarithms, the carried gradients and
    what the queries have collected. -/
def carried (a k : ℕ) : FVec Ideal S1024x1 .f32 × FVec Ideal S1024x1 .f32 × FVec Ideal S1024x256 .f32 × FVec Ideal S1024x1 .f32 × FVec Ideal S1024x1 .f32 × FVec Ideal S1024x256 .f32 :=
  (lift (col a 0 fun H t => lms Q K H t (256 * k)), lift (col a 0 fun H t => dls Q K V D H t (256 * k)), lift (gathered Q K V D a 0 k),
   lift (col a 1 fun H t => lms Q K H t (256 * k)), lift (col a 1 fun H t => dls Q K V D H t (256 * k)), lift (gathered Q K V D a 1 k))

end

/-! ## The loop's words -/

theorem trips_value (i : grid0.Coords) : (k0_t1_loop i).trips = (i 0).val :=
  (by decide +kernel : ∀ n : Fin 8, Scf.trips 0#32 (Scalar.addi 0#32 (Scalar.muli (Scalar.divsi (Scalar.subi (BitVec.ofNat 32 n.val) 0#32) 1#32) 1#32)) 1#32 = n.val) (i 0)

theorem no_trips (i : grid0.Coords) : (k0_t2_loop i).trips = 0 := Scf.rem_trips _ _

theorem word_256 : ∀ n : Fin 8, (Scalar.indexCast (Scalar.muli (Scf.iv 0#32 1#32 n.val) 256#32)).toNat = 256 * n.val := by
  decide +kernel

theorem trip_lt (i : grid0.Coords) (k : Fin (k0_t1_loop i).trips) : k.val < (i 0).val := lt_of_lt_of_eq k.isLt (trips_value i)

theorem off1_value (i : grid0.Coords) (k : Fin (k0_t1_loop i).trips) : k0_off1 i k = ![256 * k.val, 256 * 0] := by
  have h := trip_lt i k
  have h8 : (i 0).val < 8 := (i 0).isLt
  have e := word_256 ⟨k.val, by omega⟩
  unfold k0_off1
  exact congrArg (fun x => ![x, 0]) e

theorem off2_value (i : grid0.Coords) (k : Fin (k0_t1_loop i).trips) : k0_off2 i k = ![256 * k.val, 256 * 1] := by
  have h := trip_lt i k
  have h8 : (i 0).val < 8 := (i 0).isLt
  have e := word_256 ⟨k.val, by omega⟩
  unfold k0_off2
  exact congrArg (fun x => ![x, 256]) e

/-! ## One trip and the loop -/

section
variable (Q K V D : ℕ → ℕ → ℝ)
variable (𝒱 : Variants) (c : Dev nD) (bd : Option 𝒱.V) (i : grid0.Coords) (arg1 : Memref sig .tc .vmem S256x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x512 .f32) (harg4 : arg4.IsWhole) (arg5 : Memref sig .tc .vmem S2x256x256 .f32) (harg5 : arg5.IsWhole) (arg6 : Memref sig .tc .vmem S256x512 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .f32) (harg11 : arg11.IsWhole) (arg12 : Memref sig .tc .vmem S2048x512 .f32) (harg12 : arg12.IsWhole) (arg0 : BitVec 32) (v34 : IVec S1024x256 1) (v46 : FVec Ideal S256x256 .bf16) (v50 : FVec Ideal S256x256 .bf16) (v71 : FVec Ideal S1024x256 .bf16) (v89 : FVec Ideal S1024x256 .bf16) (v108 : FVec Ideal S1024x256 .bf16) (v115 : FVec Ideal S1024x1 .f32) (v136 : FVec Ideal S1024x256 .bf16) (v154 : FVec Ideal S1024x256 .bf16) (v173 : FVec Ideal S1024x256 .bf16) (v180 : FVec Ideal S1024x1 .f32) (v181 : FVec Ideal S1024x1 .f32) (cst_45 : Ideal .f32) (X_arg9 : BufTy.Contents (Elt Ideal) arg9.view.ty) (X_arg10 : BufTy.Contents (Elt Ideal) arg10.view.ty)
  (hup : v46 = lift upper) (hlo : v50 = lift lower)
  (hq0 : v71 = lift (rows (i 0).val 0 fun t c => Q t c * (1 / 8))) (hu0 : v89 = lift (rows (i 0).val 0 Q))
  (hd0 : v108 = lift (rows (i 0).val 0 D)) (ht0 : v115 = lift (col (i 0).val 0 fun H t => lms Q K H t 2048))
  (hq1 : v136 = lift (rows (i 0).val 1 fun t c => Q t c * (1 / 8))) (hu1 : v154 = lift (rows (i 0).val 1 Q))
  (hd1 : v173 = lift (rows (i 0).val 1 D)) (ht1 : v180 = lift (col (i 0).val 1 fun H t => lms Q K H t 2048))
  (hK : arg9.view.read (Elt Ideal) X_arg9 = lift (arr K)) (hV : arg10.view.read (Elt Ideal) X_arg10 = lift (arr V))

include hup hlo hq0 hu0 hd0 ht0 hq1 hu1 hd1 ht1 hK hV in
/-- One trip. -/
theorem trip_step (k : Fin (k0_t1_loop i).trips) (f_arg11 : BufTy.Contents (Elt Ideal) arg11.view.ty) (f_arg12 : BufTy.Contents (Elt Ideal) arg12.view.ty)
    (h11 : arg11.view.read (Elt Ideal) f_arg11 = lift (arr (held (dks Q K V D) (i 0).val k.val)))
    (h12 : arg12.view.read (Elt Ideal) f_arg12 = lift (arr (held (dvs Q K D) (i 0).val k.val))) :
    tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg0 v34 v46 v50 v71 v89 v108 v115 v136 v154 v173 v180 v181 cst_45 X_arg9 X_arg10 k (carried Q K V D (i 0).val k.val) f_arg11 f_arg12 = carried Q K V D (i 0).val (k.val + 1)
    ∧ arg11.view.read (Elt Ideal) (arg11.view.writes (Elt Ideal) f_arg11 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg0 v34 v46 v50 v71 v89 v108 v115 v136 v154 v173 v180 v181 cst_45 X_arg9 X_arg10 k (carried Q K V D (i 0).val k.val) f_arg11 f_arg12).1)
      = lift (arr (held (dks Q K V D) (i 0).val (k.val + 1)))
    ∧ arg12.view.read (Elt Ideal) (arg12.view.writes (Elt Ideal) f_arg12 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg0 v34 v46 v50 v71 v89 v108 v115 v136 v154 v173 v180 v181 cst_45 X_arg9 X_arg10 k (carried Q K V D (i 0).val k.val) f_arg11 f_arg12).2)
      = lift (arr (held (dvs Q K D) (i 0).val (k.val + 1))) := by
  have hM := admits_all (i 0).val k.val (trip_lt i k)
  have eK0 := read_tile_bf16 _ _ K hK (k0_off1_inb i k) k.val 0 (off1_value i k)
  have eK1 := read_tile_bf16 _ _ K hK (k0_off2_inb i k) k.val 1 (off2_value i k)
  have eV0 := read_tile_bf16 _ _ V hV (k0_off1_inb i k) k.val 0 (off1_value i k)
  have eV1 := read_tile_bf16 _ _ V hV (k0_off2_inb i k) k.val 1 (off2_value i k)
  have e110 := read_tile _ _ _ h11 (k0_off1_inb i k) k.val 0 (off1_value i k)
  have e111 := read_tile _ _ _ h11 (k0_off2_inb i k) k.val 1 (off2_value i k)
  have e120 := read_tile _ _ _ h12 (k0_off1_inb i k) k.val 0 (off1_value i k)
  have e121 := read_tile _ _ _ h12 (k0_off2_inb i k) k.val 1 (off2_value i k)
  subst hup hlo hq0 hu0 hd0 ht0 hq1 hu1 hd1 ht1
  unfold tripR_k0_t1 tripL_k0_t1 trip_k0_t1 carried
  dsimp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.v542, trip_k0_t1.sl.v512, trip_k0_t1.sl.cst_128]
  simp only [eK0, eK1, eV0, eV1, e110, e111, e120, e121, pay5, pay6, pay8, pay10, pay11, pay14, pay15, pay16, pay17, pay22, pay24, pay25, pay76, pay77, pay78]
  simp only [weight_att Q K hM, leaveSum_lms Q K hM, dlog_dl, dlogSum_dls,
    dscore_dz Q K V D hM, gather_dqs, dk_tile, dv_tile]
  refine ⟨trivial, ?_, ?_⟩
  · exact write_tiles _ _ _ _ h11 _ _ k.val (off1_value i k) (off2_value i k) _ _ rfl rfl fun s c h => held_rest _ _ _ _ _ h
  · exact write_tiles _ _ _ _ h12 _ _ k.val (off1_value i k) (off2_value i k) _ _ rfl rfl fun s c h => held_rest _ _ _ _ _ h

include hup hlo hq0 hu0 hd0 ht0 hq1 hu1 hd1 ht1 hK hV in
/-- The carried sums and the held gradients after `k` trips. -/
theorem loop_state (G_arg11 : BufTy.Contents (Elt Ideal) arg11.view.ty) (G_arg12 : BufTy.Contents (Elt Ideal) arg12.view.ty)
    (h11 : arg11.view.read (Elt Ideal) G_arg11 = lift (arr (dks Q K V D (256 * (i 0).val))))
    (h12 : arg12.view.read (Elt Ideal) G_arg12 = lift (arr (dvs Q K D (256 * (i 0).val)))) :
    ∀ k, k ≤ (i 0).val → (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg0 v34 v46 v50 v71 v89 v108 v115 v136 v154 v173 v180 v181 cst_45 X_arg9 X_arg10 G_arg11 G_arg12 (carried Q K V D (i 0).val 0) k).1 = carried Q K V D (i 0).val k
    ∧ arg11.view.read (Elt Ideal) (arg11.view.writes (Elt Ideal) G_arg11 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg0 v34 v46 v50 v71 v89 v108 v115 v136 v154 v173 v180 v181 cst_45 X_arg9 X_arg10 G_arg11 G_arg12 (carried Q K V D (i 0).val 0) k).2.1)
      = lift (arr (held (dks Q K V D) (i 0).val k))
    ∧ arg12.view.read (Elt Ideal) (arg12.view.writes (Elt Ideal) G_arg12 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg0 v34 v46 v50 v71 v89 v108 v115 v136 v154 v173 v180 v181 cst_45 X_arg9 X_arg10 G_arg11 G_arg12 (carried Q K V D (i 0).val 0) k).2.2)
      = lift (arr (held (dvs Q K D) (i 0).val k)) := by
  intro k
  induction k with
  | zero => exact fun _ => ⟨rfl, h11, h12⟩
  | succ k ih =>
    intro hk
    obtain ⟨e, e11, e12⟩ := ih (by omega)
    have s := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg0 v34 v46 v50 v71 v89 v108 v115 v136 v154 v173 v180 v181 cst_45 X_arg9 X_arg10 G_arg11 G_arg12 (carried Q K V D (i 0).val 0) ⟨k, by rw [trips_value]; omega⟩
    dsimp only at s
    rw [s, e]
    dsimp only
    rw [View.writes_append, View.writes_append]
    exact trip_step Q K V D 𝒱 c bd i arg1 harg1 arg2 harg2 arg3 harg3 arg4 harg4 arg5 harg5 arg6 harg6 arg7 harg7 arg8 harg8 arg9 harg9 arg10 harg10 arg11 harg11 arg12 harg12 arg0 v34 v46 v50 v71 v89 v108 v115 v136 v154 v173 v180 v181 cst_45 X_arg9 X_arg10 hup hlo hq0 hu0 hd0 ht0 hq1 hu1 hd1 ht1 hK hV ⟨k, by rw [trips_value]; omega⟩ _ _ e11 e12

end

theorem no_trips' (i : grid0.Coords) : Scf.trips (k0_t2_loop i).lb (k0_t2_loop i).ub (k0_t2_loop i).st = 0 := no_trips i

/-- The carried sums and the held gradients after the loop. -/
theorem loop_end {𝒱 : Variants} {c : Dev nD} {bd : Option 𝒱.V} {i : grid0.Coords} {arg1 : Memref sig .tc .vmem S256x512 .f32} {harg1 : arg1.IsWhole} {arg2 : Memref sig .tc .vmem S2048x512 .f32} {harg2 : arg2.IsWhole} {arg3 : Memref sig .tc .vmem S2048x512 .f32} {harg3 : arg3.IsWhole} {arg4 : Memref sig .tc .vmem S256x512 .f32} {harg4 : arg4.IsWhole} {arg5 : Memref sig .tc .vmem S2x256x256 .f32} {harg5 : arg5.IsWhole} {arg6 : Memref sig .tc .vmem S256x512 .bf16} {harg6 : arg6.IsWhole} {arg7 : Memref sig .tc .vmem S2048x512 .bf16} {harg7 : arg7.IsWhole} {arg8 : Memref sig .tc .vmem S2048x512 .bf16} {harg8 : arg8.IsWhole} {arg9 : Memref sig .tc .vmem S2048x512 .bf16} {harg9 : arg9.IsWhole} {arg10 : Memref sig .tc .vmem S2048x512 .bf16} {harg10 : arg10.IsWhole} {arg11 : Memref sig .tc .vmem S2048x512 .f32} {harg11 : arg11.IsWhole} {arg12 : Memref sig .tc .vmem S2048x512 .f32} {harg12 : arg12.IsWhole} {arg0 : BitVec 32} {v34 : IVec S1024x256 1} {v46 : FVec Ideal S256x256 .bf16} {v50 : FVec Ideal S256x256 .bf16} {v71 : FVec Ideal S1024x256 .bf16} {v89 : FVec Ideal S1024x256 .bf16} {v108 : FVec Ideal S1024x256 .bf16} {v115 : FVec Ideal S1024x1 .f32} {v136 : FVec Ideal S1024x256 .bf16} {v154 : FVec Ideal S1024x256 .bf16} {v173 : FVec Ideal S1024x256 .bf16} {v180 : FVec Ideal S1024x1 .f32} {v181 : FVec Ideal S1024x1 .f32} {cst_45 : Ideal .f32} {X_arg9 : BufTy.Contents (Elt Ideal) arg9.view.ty} {X_arg10 : BufTy.Contents (Elt Ideal) arg10.view.ty} {init : FVec Ideal S1024x1 .f32 × FVec Ideal S1024x1 .f32 × FVec Ideal S1024x256 .f32 × FVec Ideal S1024x1 .f32 × FVec Ideal S1024x1 .f32 × FVec Ideal S1024x256 .f32} {G_arg11 : BufTy.Contents (Elt Ideal) arg11.view.ty} {G_arg12 : BufTy.Contents (Elt Ideal) arg12.view.ty}
    (Q K V D : ℕ → ℕ → ℝ)
    (hup : v46 = lift upper) (hlo : v50 = lift lower)
    (hq0 : v71 = lift (rows (i 0).val 0 fun t c => Q t c * (1 / 8))) (hu0 : v89 = lift (rows (i 0).val 0 Q))
    (hd0 : v108 = lift (rows (i 0).val 0 D)) (ht0 : v115 = lift (col (i 0).val 0 fun H t => lms Q K H t 2048))
    (hq1 : v136 = lift (rows (i 0).val 1 fun t c => Q t c * (1 / 8))) (hu1 : v154 = lift (rows (i 0).val 1 Q))
    (hd1 : v173 = lift (rows (i 0).val 1 D)) (ht1 : v180 = lift (col (i 0).val 1 fun H t => lms Q K H t 2048))
    (hK : arg9.view.read (Elt Ideal) X_arg9 = lift (arr K)) (hV : arg10.view.read (Elt Ideal) X_arg10 = lift (arr V))
    (hi : init = carried Q K V D (i 0).val 0)
    (h11 : arg11.view.read (Elt Ideal) G_arg11 = lift (arr (dks Q K V D (256 * (i 0).val))))
    (h12 : arg12.view.read (Elt Ideal) G_arg12 = lift (arr (dvs Q K D (256 * (i 0).val)))) :
    (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg0 v34 v46 v50 v71 v89 v108 v115 v136 v154 v173 v180 v181 cst_45 X_arg9 X_arg10 G_arg11 G_arg12 init (k0_t1_loop i).trips).1 = carried Q K V D (i 0).val (i 0).val
    ∧ arg11.view.read (Elt Ideal) (arg11.view.writes (Elt Ideal) G_arg11 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg0 v34 v46 v50 v71 v89 v108 v115 v136 v154 v173 v180 v181 cst_45 X_arg9 X_arg10 G_arg11 G_arg12 init (k0_t1_loop i).trips).2.1)
      = lift (arr (held (dks Q K V D) (i 0).val (i 0).val))
    ∧ arg12.view.read (Elt Ideal) (arg12.view.writes (Elt Ideal) G_arg12 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg0 v34 v46 v50 v71 v89 v108 v115 v136 v154 v173 v180 v181 cst_45 X_arg9 X_arg10 G_arg11 G_arg12 init (k0_t1_loop i).trips).2.2)
      = lift (arr (held (dvs Q K D) (i 0).val (i 0).val)) := by
  subst hi
  rw [trips_value]
  exact loop_state Q K V D 𝒱 c bd i arg1 harg1 arg2 harg2 arg3 harg3 arg4 harg4 arg5 harg5 arg6 harg6 arg7 harg7 arg8 harg8 arg9 harg9 arg10 harg10 arg11 harg11 arg12 harg12 arg0 v34 v46 v50 v71 v89 v108 v115 v136 v154 v173 v180 v181 cst_45 X_arg9 X_arg10 hup hlo hq0 hu0 hd0 ht0 hq1 hu1 hd1 ht1 hK hV _ _ h11 h12 _ le_rfl

/-! ## The queries' own block -/

/-- One group's tile of a block written. -/
theorem write_tile (v : View sig .tc .vmem S2048x512 .f32) (f : v.ty.Contents (Elt Ideal)) (L : List (View.Piece (Elt Ideal) S2048x512 .f32))
    (X X' : ℕ → ℕ → ℝ) (h : v.read (Elt Ideal) (v.writes (Elt Ideal) f L) = lift (arr X)) {off : Fin 2 → ℕ}
    (inb : ∀ a, off a + S256x256.size a ≤ S2048x512.size a) (k g : ℕ) (e : off = ![256 * k, 256 * g])
    (w : Vec Ideal S256x256 .f32) (hw : w = lift (tile X' k g)) (hr : ∀ s c, c < 512 → (s / 256 ≠ k ∨ c / 256 ≠ g) → X' s c = X s c) :
    v.read (Elt Ideal) (v.writes (Elt Ideal) f (⟨Rect.unit (s := S2048x512) off S256x256.size inb, w⟩ :: L)) = lift (arr X') := by
  subst hw
  funext y
  by_cases hk : (y 0).val / 256 = k ∧ (y 1).val / 256 = g
  · rw [View.read_writes_cons_unit_of_mem v f inb _ L y (ix2 ⟨(y 0).val - 256 * k, by omega⟩ ⟨(y 1).val - 256 * g, by omega⟩) e
        (by intro a; fin_cases a
            · show (y 0).val = 256 * k + ((y 0).val - 256 * k); omega
            · show (y 1).val = 256 * g + ((y 1).val - 256 * g); omega)]
    show ((X' (256 * k + ((y 0).val - 256 * k)) (256 * g + ((y 1).val - 256 * g)) : ℝ) : EReal) = (X' (y 0).val (y 1).val : ℝ)
    rw [show 256 * k + ((y 0).val - 256 * k) = (y 0).val by omega, show 256 * g + ((y 1).val - 256 * g) = (y 1).val by omega]
  · have hn : (y 0).val / 256 ≠ k ∨ (y 1).val / 256 ≠ g := by omega
    have e' : v.read (Elt Ideal) (v.writes (Elt Ideal) f (⟨Rect.unit (s := S2048x512) off S256x256.size inb, lift (tile X' k g)⟩ :: L)) y
        = v.read (Elt Ideal) (v.writes (Elt Ideal) f L) y := by
      rcases hn with h0 | h1
      · exact View.read_writes_cons_unit_of_not_mem v f inb _ L y e 0 (by show (y 0).val < 256 * k ∨ 256 * k + 256 ≤ (y 0).val; omega)
      · exact View.read_writes_cons_unit_of_not_mem v f inb _ L y e 1 (by show (y 1).val < 256 * g ∨ 256 * g + 256 ≤ (y 1).val; omega)
    rw [e']
    refine (congrFun h y).trans ?_
    show ((X (y 0).val (y 1).val : ℝ) : EReal) = (X' (y 0).val (y 1).val : ℝ)
    rw [hr _ _ (y 1).isLt hn]

/-- Query block `a`'s share is in for its own block's keys too, in the first group of heads only. -/
def half (U : ℕ → ℕ → ℕ → ℝ) (a s c : ℕ) : ℝ := if c < 256 then held U a (a + 1) s c else held U a a s c

theorem half_first (U : ℕ → ℕ → ℕ → ℝ) (a : ℕ) : tile (half U a) a 0 = tile (held U a (a + 1)) a 0 := by
  funext i; idx_vars i
  exact if_pos (by have := i1.isLt; show 256 * 0 + i1.val < 256; omega)
theorem half_second (U : ℕ → ℕ → ℕ → ℝ) (a : ℕ) : tile (half U a) a 1 = tile (held U a a) a 1 := by
  funext i; idx_vars i
  exact if_neg (by show ¬ 256 * 1 + i1.val < 256; omega)
theorem half_rest (U : ℕ → ℕ → ℕ → ℝ) (a s c : ℕ) (h : s / 256 ≠ a ∨ c / 256 ≠ 0) : half U a s c = held U a a s c := by
  unfold half
  split
  · exact held_rest U a a s c (by omega)
  · rfl
theorem whole_rest (U : ℕ → ℕ → ℕ → ℝ) (a s c : ℕ) (hc : c < 512) (h : s / 256 ≠ a ∨ c / 256 ≠ 1) : held U a (a + 1) s c = half U a s c := by
  unfold half
  split
  · rfl
  · exact held_rest U a a s c (by omega)
theorem dk_whole (Q K V D : ℕ → ℕ → ℝ) (a : ℕ) : held (dks Q K V D) a (a + 1) = dks Q K V D (256 * (a + 1)) := by
  funext s c
  unfold held
  split
  · rfl
  · exact (dks_later Q K V D a s c (by omega)).symm
theorem dv_whole (Q K D : ℕ → ℕ → ℝ) (a : ℕ) : held (dvs Q K D) a (a + 1) = dvs Q K D (256 * (a + 1)) := by
  funext s c
  unfold held
  split
  · rfl
  · exact (dvs_later Q K D a s c (by omega)).symm

theorem word_own : ∀ n : Fin 8, (Scalar.muli (BitVec.ofNat 32 n.val) 256#32).toNat = 256 * n.val := by decide +kernel

theorem off5_value (i : grid0.Coords) : k0_off5 i = ![256 * (i 0).val, 256 * 0] := by
  unfold k0_off5
  exact congrArg (fun x => ![x, 0]) (word_own (i 0))
theorem off6_value (i : grid0.Coords) : k0_off6 i = ![256 * (i 0).val, 256 * 1] := by
  unfold k0_off6
  exact congrArg (fun x => ![x, 256]) (word_own (i 0))

end AttnLoop

end
-- ==== Proof.AttnReads.lean ====
/- The blocks the attention gradient's kernel reads, tile by tile. -/
module

public import proofs.«01_k».proof.Proof.Gen.AttnKernelIdeal.Frame
public import proofs.«01_k».proof.Proof.AttnLoop

@[expose] public section

set_option maxRecDepth 16384

noncomputable section

open Idealize.ShloMosaic Idealize.ShloMosaic.TcCoe Idealize.SL.Sem

namespace AttnReads

open Cert.AttnKernelIdeal Cert.AttnKernelIdeal.Gen AttnLift AttnTile AttnMath AttnLoop

/-- Block `a` of an array's rows. -/
def blk (a : ℕ) (X : ℕ → ℕ → ℝ) : S256x512.Idx → ℝ := fun i => X (256 * a + (i 0).val) (i 1).val
/-- Block `a` of the heads' totals, each repeated over its head's lanes. -/
def tots (a : ℕ) (f : ℕ → ℕ → ℝ) : S2x256x256.Idx → ℝ := fun i => f (4 * (i 0).val + (i 2).val / 64) (256 * a + (i 1).val)

theorem read_blk (v : View sig .tc .vmem S256x512 .f32) (f : v.ty.Contents (Elt Ideal)) (a : ℕ) (X : ℕ → ℕ → ℝ)
    (h : v.read (Elt Ideal) f = lift (blk a X)) {off : Fin 2 → ℕ} (inb : ∀ a, off a + S256x256.size a ≤ S256x512.size a)
    (g : ℕ) (e : off = ![0, 256 * g]) :
    v.readAt (Elt Ideal) (Rect.unit (s := S256x512) off S256x256.size inb).toLoadRect f = lift (tile X a g) := by
  subst e
  funext j
  refine (congrFun h _).trans ?_
  show ((X (256 * a + (0 + 1 * (j 0).val)) (256 * g + 1 * (j 1).val) : ℝ) : EReal) = (X (256 * a + (j 0).val) (256 * g + (j 1).val) : ℝ)
  rw [one_mul, one_mul, zero_add]

theorem read_tots (v : View sig .tc .vmem S2x256x256 .f32) (f : v.ty.Contents (Elt Ideal)) (a : ℕ) (T : ℕ → ℕ → ℝ)
    (h : v.read (Elt Ideal) f = lift (tots a T)) {off : Fin 3 → ℕ} (inb : ∀ a, off a + S1x256x256.size a ≤ S2x256x256.size a)
    (g : ℕ) (e : off = ![g, 0, 0]) :
    v.readAt (Elt Ideal) (Rect.unit (s := S2x256x256) off S1x256x256.size inb).toLoadRect f
      = lift (fun i : S1x256x256.Idx => T (4 * g + (i 2).val / 64) (256 * a + (i 1).val)) := by
  subst e
  funext j
  refine (congrFun h _).trans ?_
  have h0 : (j 0).val = 0 := by have : (j 0).val < 1 := (j 0).isLt; omega
  show ((T (4 * (g + 1 * (j 0).val) + (0 + 1 * (j 2).val) / 64) (256 * a + (0 + 1 * (j 1).val)) : ℝ) : EReal) = (T (4 * g + (j 2).val / 64) (256 * a + (j 1).val) : ℝ)
  simp only [h0, one_mul, zero_add, mul_zero, add_zero]

/-- Both groups' columns of a block of the queries' gradient written. -/
theorem write_queries (f : VO0_5.ty.Contents (Elt Ideal)) (a : Fin 8) (w0 w1 : Vec Ideal S256x256 .bf16) (Q K V D : ℕ → ℕ → ℝ)
    (h0 : w0 = lift fun i => dqs Q K V D (256 * (a.val + 1)) (256 * a.val + (i 0).val) (256 * 0 + (i 1).val) (4 * 0 + (i 1).val / 64))
    (h1 : w1 = lift fun i => dqs Q K V D (256 * (a.val + 1)) (256 * a.val + (i 0).val) (256 * 1 + (i 1).val) (4 * 1 + (i 1).val / 64)) :
    VO0_5.read (Elt Ideal) (VO0_5.writes (Elt Ideal) f [⟨Rect.unit (s := S256x512) ![0, 256] S256x256.size inb_S256x512_S256x256_0_256, w1⟩,
      ⟨Rect.unit (s := S256x512) ![0, 0] S256x256.size inb_S256x512_S256x256_0_0, w0⟩])
      = lift fun j => dqs Q K V D 2048 (256 * a.val + (j 0).val) (j 1).val ((j 1).val / 64) := by
  subst h0 h1
  funext y
  have hy0 : (y 0).val < 256 := (y 0).isLt
  have hy1 : (y 1).val < 512 := (y 1).isLt
  have ha := a.isLt
  by_cases hg : 256 ≤ (y 1).val
  · rw [View.read_writes_cons_unit_of_mem VO0_5 f inb_S256x512_S256x256_0_256 _ _ y (ix2 ⟨(y 0).val, by omega⟩ ⟨(y 1).val - 256, by omega⟩) rfl
      (by intro a; fin_cases a
          · show (y 0).val = 0 + (y 0).val; omega
          · show (y 1).val = 256 + ((y 1).val - 256); omega)]
    show ((dqs Q K V D (256 * (a.val + 1)) (256 * a.val + (y 0).val) (256 * 1 + ((y 1).val - 256)) (4 * 1 + ((y 1).val - 256) / 64) : ℝ) : EReal)
      = (dqs Q K V D 2048 (256 * a.val + (y 0).val) (y 1).val ((y 1).val / 64) : ℝ)
    rw [dqs_all Q K V D _ _ _ _ (by omega) ha, show 256 * 1 + ((y 1).val - 256) = (y 1).val by omega, show 4 * 1 + ((y 1).val - 256) / 64 = (y 1).val / 64 by omega]
  · rw [View.read_writes_cons_unit_of_not_mem VO0_5 f inb_S256x512_S256x256_0_256 _ _ y rfl 1 (.inl (by show (y 1).val < 256; omega)),
      View.read_writes_cons_unit_of_mem VO0_5 f inb_S256x512_S256x256_0_0 _ _ y (ix2 ⟨(y 0).val, by omega⟩ ⟨(y 1).val, by omega⟩) rfl
      (by intro a; fin_cases a
          · show (y 0).val = 0 + (y 0).val; omega
          · show (y 1).val = 0 + (y 1).val; omega)]
    show ((dqs Q K V D (256 * (a.val + 1)) (256 * a.val + (y 0).val) (256 * 0 + (y 1).val) (4 * 0 + (y 1).val / 64) : ℝ) : EReal)
      = (dqs Q K V D 2048 (256 * a.val + (y 0).val) (y 1).val ((y 1).val / 64) : ℝ)
    rw [dqs_all Q K V D _ _ _ _ (by omega) ha, show 256 * 0 + (y 1).val = (y 1).val by omega, show 4 * 0 + (y 1).val / 64 = (y 1).val / 64 by omega]

end AttnReads

end
-- ==== Proof.AttnHost.lean ====
/- What the host prepares for the attention gradient's kernel: each query's sum of the logarithms of what its keys leave,
   over real queries and keys. -/
module

public import proofs.«01_k».proof.Proof.AttnReads
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace AttnHost

open Cert.AttnKernelIdeal Cert.AttnKernelIdeal.Gen AttnLift AttnTile AttnMath AttnLoop AttnReads

/-! ## Elementwise operations -/

/-- The logarithm of one plus the exponential, in the form that does not overflow. -/
def softplus {s : Shape} (o x : FVec Ideal s .f32) : FVec Ideal s .f32 :=
  select (cmpf .une (subf x o) (subf x o)) (addf x o) (addf (maximumf x o) (Host.log1p (Host.exp (Host.negf (Host.absf (subf x o))))))

theorem softplus_real {s : Shape} (f : s.Idx → ℝ) : softplus (lift fun _ => 0) (lift f) = lift fun i => sp (f i) := by
  unfold softplus
  rw [sub_lift]
  simp only [sub_zero]
  have e : addf (F := Ideal) (φ := .f32) (maximumf (F := Ideal) (φ := .f32) (lift f) (lift fun _ => 0))
      (Host.log1p (F := Ideal) (φ := .f32) (Host.exp (Host.negf (Host.absf (lift f))))) = lift fun i => sp (f i) := by
    funext i
    show max ((f i : ℝ) : EReal) ((0 : ℝ) : EReal) + Ideal.log (1 + Ideal.exp (-(max ((f i : ℝ) : EReal) (-((f i : ℝ) : EReal))))) = ((sp (f i) : ℝ) : EReal)
    rw [← EReal.coe_neg, ← coe_max, ← coe_max, ← EReal.coe_neg, Ideal.exp_coe, ← EReal.coe_one, ← EReal.coe_add, Ideal.log_coe,
      if_neg (not_le.mpr (by positivity)), ← EReal.coe_add, ← sp_eq, zero_sub]
    rfl
  rw [e]
  funext i
  show Scalar.select (Ideal.cmp .une (lift f i) (lift f i)) _ _ = _
  simp [Ideal.cmp, Scalar.select]

theorem neg_lift {s : Shape} (f : s.Idx → ℝ) : Host.negf (F := Ideal) (φ := .f32) (lift f) = lift fun i => -f i := by
  funext i; exact (EReal.coe_neg _).symm

/-! ## The kernel's totals -/

/-- The scores of the heads' queries against their keys. -/
def headScores (q k : FVec Ideal S2048x512 .f32) : FVec Ideal S8x2048x2048 .f32 :=
  mulf (Host.dotGeneral dot_S8x2048x64_S8x2048x64_S8x2048x2048_2_2_1_1_0_0 none
      (transpose S8x2048x64 [1, 0, 2] (shapeCast S2048x8x64 q shapeCasts_S2048x512_S2048x8x64) transposes_S2048x8x64_S8x2048x64_1_0_2)
      (transpose S8x2048x64 [1, 0, 2] (shapeCast S2048x8x64 k shapeCasts_S2048x512_S2048x8x64) transposes_S2048x8x64_S8x2048x64_1_0_2))
    (broadcastInDim S8x2048x2048 ![] bcast_S_S8x2048x2048 (constant S_ .f32 0x3E000000#32))

/-- Whether a key comes before a query. -/
def before : Vec Ideal S8x2048x2048 .i1 :=
  broadcastInDim S8x2048x2048 ![1, 2] bcast_S2048x2048_S8x2048x2048_1_2
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

def zeroes : FVec Ideal S8x2048x2048 .f32 := broadcastInDim S8x2048x2048 ![] bcast_S_S8x2048x2048 (constant S_ .f32 0x00000000#32)

/-- The totals, one for each head and query, repeated over the head's lanes. -/
def headTotals (x : FVec Ideal S8x2048x2048 .f32) : FVec Ideal S2x2048x256 .f32 :=
  shapeCast S2x2048x256 (transpose S2x2048x4x64 [0, 2, 1, 3]
    (broadcastInDim S2x4x2048x64 ![0, 1, 2, 3] bcast_S2x4x2048x1_S2x4x2048x64_0_1_2_3
      (shapeCast S2x4x2048x1 (Host.reduceAdd x (constant S_ .f32 0x00000000#32) reducesTo_S8x2048x2048_S8x2048_d2 h_S_) shapeCasts_S8x2048_S2x4x2048x1))
    transposes_S2x4x2048x64_S2x2048x4x64_0_2_1_3) shapeCasts_S2x2048x4x64_S2x2048x256

variable (m : (ℓ : Loc nD τ sig) → Buf (Elt Ideal) ℓ)

/-- The totals the kernel reads. -/
theorem totals_term (c : Dev nD) : V m c main_v23
    = headTotals (select before (Host.negf (softplus zeroes (headScores
        (extractStridedSlice S2048x512 ![0, 0] (m ((c : Thread nD τ).loc main_arg0)) slices_S2048x3584_S2048x512_0_0)
        (extractStridedSlice S2048x512 ![0, 512] (m ((c : Thread nD τ).loc main_arg0)) slices_S2048x3584_S2048x512_0_512)))) zeroes) := by
  show StableHlo.after (hostOps0 ++ (hostOps0_1 ++ (hostOps0_2 ++ (hostOps0_3 ++ (hostOps0_4 ++ []))))) _ _ = _
  after_reads_simp
  rfl

theorem zeroes_real : zeroes = lift fun _ => 0 := by
  unfold zeroes; funext i; exact lit_zero

theorem before_apply (i0 : Fin 8) (i1 i2 : Fin 2048) : before (ix3 i0 i1 i2) = BitVec.ofBool (decide (i2.val < i1.val)) := by
  unfold before
  pointwise
  exact WordCmp.cmpi_slt_ofNat (w := 32) (a := i2.val) (b := i1.val) (by have := i2.isLt; norm_num; omega) (by have := i1.isLt; norm_num; omega)

theorem headScores_real (Q K : ℕ → ℕ → ℝ) : headScores (lift (arr Q)) (lift (arr K)) = lift fun i => z Q K (i 0).val (i 1).val (i 2).val := by
  unfold headScores
  funext i; idx_vars i
  pointwise
  rw [lit_eighth]
  simp only [lift_apply, ← EReal.coe_mul, ← RealLift.coe_sum]
  refine congrArg _ ?_
  show (∑ x : Fin 64, Q i1.val (i0.val * 64 + x.val) * K i2.val (i0.val * 64 + x.val)) * (1 / 8)
    = ∑ e ∈ Finset.range 64, Q i1.val (64 * i0.val + e) * (1 / 8) * K i2.val (64 * i0.val + e)
  rw [Finset.sum_range, Finset.sum_mul]
  refine Finset.sum_congr rfl fun x _ => ?_
  rw [mul_comm i0.val 64]; ring

theorem headTotals_real (f : ℕ → ℕ → ℕ → ℝ) : headTotals (lift fun i => f (i 0).val (i 1).val (i 2).val)
    = lift fun i => ∑ s ∈ Finset.range 2048, f (4 * (i 0).val + (i 2).val / 64) (i 1).val s := by
  unfold headTotals
  funext i; idx_vars i
  pointwise
  simp only [lift_apply, ← RealLift.coe_sum]
  refine congrArg _ ?_
  show ∑ x : Fin 2048, f (i0.val * 4 + i2.val / 64) i1.val x.val = ∑ s ∈ Finset.range 2048, f (4 * i0.val + i2.val / 64) i1.val s
  rw [Finset.sum_range, mul_comm i0.val 4]

/-- Over real queries and keys, the logarithms of what the keys leave. -/
theorem leave_real (Q K : ℕ → ℕ → ℝ) : select before (Host.negf (softplus zeroes (headScores (lift (arr Q)) (lift (arr K))))) zeroes
    = lift fun i => lm Q K (i 0).val (i 1).val (i 2).val := by
  rw [headScores_real, zeroes_real, softplus_real, neg_lift]
  funext i; idx_vars i
  show Scalar.select (before (ix3 i0 i1 i2)) _ _ = _
  rw [before_apply, lift_apply, lift_apply, lift_apply]
  show _ = (((if i2.val < i1.val then 0 - sp (z Q K i0.val i1.val i2.val) else 0 : ℝ)) : EReal)
  by_cases h : i2.val < i1.val
  · rw [if_pos h, zero_sub]; simp [Scalar.select, h]
  · rw [if_neg h]; simp [Scalar.select, h]

/-- The totals the kernel reads, over real queries and keys. -/
theorem totals_entry (c : Dev nD) (Q K : ℕ → ℕ → ℝ)
    (hQ : extractStridedSlice S2048x512 ![0, 0] (m ((c : Thread nD τ).loc main_arg0)) slices_S2048x3584_S2048x512_0_0 = lift (arr Q))
    (hK : extractStridedSlice S2048x512 ![0, 512] (m ((c : Thread nD τ).loc main_arg0)) slices_S2048x3584_S2048x512_0_512 = lift (arr K)) :
    V m c main_v23 = (lift fun i => lms Q K (4 * (i 0).val + (i 2).val / 64) (i 1).val 2048 : FVec Ideal S2x2048x256 .f32) := by
  rw [totals_term, hQ, hK, leave_real]
  exact headTotals_real (lm Q K)

end AttnHost

end
-- ==== Proof.AttnWindow.lean ====
/- Sums over windows: the running sums along the last axis of an array of real entries, from the front and from the back. -/
module

public import proofs.«01_k».proof.AttnReferenceIdeal
public import proofs.«01_k».proof.Proof.AttnLift

@[expose] public section

set_option maxRecDepth 16384

noncomputable section

open Idealize.ShloMosaic Idealize.ShloMosaic.TcCoe Finset

namespace AttnWindow

open Cert.AttnReferenceIdeal AttnLift

theorem foldl_add {ι : Type} (l : List ι) (g : ι → EReal) (v : EReal) : l.foldl (fun r n => r + g n) v = v + (l.map g).sum := by
  induction l generalizing v with
  | nil => simp
  | cons a l ih => simp [ih, add_assoc]

/-- A window's fold is a sum over its positions. -/
theorem window_sum {s t : Shape} (window strides lo hi : Fin s.rank → ℕ) (x : s.Idx → EReal) (v : EReal)
    (h : s.ReduceWindows window strides lo hi t) (j : t.Idx) (G : (⟨s.rank, window⟩ : Shape).Idx → EReal)
    (hin : ∀ w (hw : ∀ a, lo a ≤ (j (a.cast h.1.symm)).val * strides a + (w a).val
      ∧ (j (a.cast h.1.symm)).val * strides a + (w a).val - lo a < s.size a),
        x (fun a => ⟨(j (a.cast h.1.symm)).val * strides a + (w a).val - lo a, (hw a).2⟩) = G w)
    (hout : ∀ w, (¬∀ a, lo a ≤ (j (a.cast h.1.symm)).val * strides a + (w a).val
      ∧ (j (a.cast h.1.symm)).val * strides a + (w a).val - lo a < s.size a) → v = G w) :
    Ideal.hostReduceWindowAdd window strides lo hi h x v j = v + ∑ w, G w := by
  unfold Ideal.hostReduceWindowAdd Host.reduceWindow
  dsimp only
  rw [foldl_add, ← Fin.sum_univ_def]
  congr 1
  refine Eq.trans (Finset.sum_congr rfl fun n _ => ?_) (Equiv.sum_comp (⟨s.rank, window⟩ : Shape).rowMajor.symm G)
  split
  · next hw => exact hin _ hw
  · next hw => exact hout _ hw

theorem sum_suffix (f : ℕ → ℝ) (s : ℕ) (hs : s < 2048) :
    ∑ k : Fin 2048, (if s + k.val < 2048 then f (s + k.val) else 0) = ∑ j ∈ range 2048, f j - ∑ j ∈ range s, f j := by
  rw [Fin.sum_univ_eq_sum_range (fun k => if s + k < 2048 then f (s + k) else 0) 2048, ← sum_filter, ← sum_Ico_eq_sub f (by omega)]
  refine sum_nbij' (fun k => s + k) (fun j => j - s) ?_ ?_ ?_ ?_ ?_ <;> simp only [mem_filter, mem_range, mem_Ico] <;> intros <;> first | omega | trivial

/-- The entry a window's position reads, when the padding before the entries is 2047 long. -/
def padded (f : ℕ → ℝ) (n : ℕ) : ℝ := if 2047 ≤ n then f (n - 2047) else 0

theorem padded_in (f : ℕ → ℝ) (n m : ℕ) (h : 2047 ≤ n) (e : n - 2047 = m) : f m = padded f n := by
  unfold padded; rw [if_pos h, e]
theorem padded_out (f : ℕ → ℝ) (n : ℕ) (h : ¬2047 ≤ n) : 0 = padded f n := by
  unfold padded; rw [if_neg h]

theorem sum_prefix (f : ℕ → ℝ) (s : ℕ) (hs : s < 2048) :
    ∑ k : Fin 2048, padded f (s + k.val) = ∑ j ∈ range (s + 1), f j := by
  unfold padded
  rw [Fin.sum_univ_eq_sum_range (fun k => if 2047 ≤ s + k then f (s + k - 2047) else 0) 2048, ← sum_filter]
  refine sum_nbij' (fun k => s + k - 2047) (fun j => j + 2047 - s) ?_ ?_ ?_ ?_ ?_ <;> simp only [mem_filter, mem_range] <;> intros <;> first | omega | trivial

/-- The running sums from the back. -/
theorem suffix_real (f : ℕ → ℕ → ℕ → ℝ) (v : FVec Ideal S_ .f32) (hv : ∀ i, v i = ((0 : ℝ) : EReal))
    (h : S8x2048x2048.ReduceWindows ![1, 1, 2048] ![1, 1, 1] ![0, 0, 0] ![0, 0, 2047] S8x2048x2048) (hu : 0 < S_.numel) :
    Host.reduceWindowAdd (F := Ideal) (φ := .f32) ![1, 1, 2048] ![1, 1, 1] ![0, 0, 0] ![0, 0, 2047]
        (lift fun i : S8x2048x2048.Idx => f (i 0).val (i 1).val (i 2).val) v h hu
      = lift fun i : S8x2048x2048.Idx => ∑ s ∈ range 2048, f (i 0).val (i 1).val s - ∑ s ∈ range (i 2).val, f (i 0).val (i 1).val s := by
  funext j
  have h0 : (j 0).val < 8 := (j 0).isLt
  have h1 : (j 1).val < 2048 := (j 1).isLt
  have h2 : (j 2).val < 2048 := (j 2).isLt
  unfold Host.reduceWindowAdd
  rw [Ideal.hostReduceWindowAdd_def]
  rw [window_sum (s := S8x2048x2048) (t := S8x2048x2048) _ _ _ _ _ _ h j
    (fun w => (((if (j 2).val + (w 2).val < 2048 then f (j 0).val (j 1).val ((j 2).val + (w 2).val) else 0 : ℝ)) : EReal)) (fun w hw => by
      have w0 : (w 0).val < 1 := (w 0).isLt
      have w1 : (w 1).val < 1 := (w 1).isLt
      have b := hw 2
      change 0 ≤ (j 2).val * 1 + (w 2).val ∧ (j 2).val * 1 + (w 2).val - 0 < 2048 at b
      rw [if_pos (by omega)]
      refine congrArg (fun r : ℝ => (r : EReal)) ?_
      show f ((j 0).val * 1 + (w 0).val - 0) ((j 1).val * 1 + (w 1).val - 0) ((j 2).val * 1 + (w 2).val - 0) = _
      congr 1 <;> omega) (fun w hw => by
      have w0 : (w 0).val < 1 := (w 0).isLt
      have w1 : (w 1).val < 1 := (w 1).isLt
      have w2 : (w 2).val < 2048 := (w 2).isLt
      rw [hv, if_neg (fun hk => hw fun a => by
        match a with
        | ⟨0, _⟩ => exact ⟨Nat.zero_le _, by show (j 0).val * 1 + (w 0).val - 0 < 8; omega⟩
        | ⟨1, _⟩ => exact ⟨Nat.zero_le _, by show (j 1).val * 1 + (w 1).val - 0 < 2048; omega⟩
        | ⟨2, _⟩ => exact ⟨by show 0 ≤ (j 2).val * 1 + (w 2).val; omega, by show (j 2).val * 1 + (w 2).val - 0 < 2048; omega⟩)]),
    hv, EReal.coe_zero, zero_add]
  refine (sum_idx3 (n0 := 1) (n1 := 1) (n2 := 2048) _).trans ?_
  rw [Fin.sum_univ_one, Fin.sum_univ_one, lift_apply, ← sum_suffix _ _ h2, RealLift.coe_sum]
  rfl

/-- The running sums from the front. -/
theorem prefix_real (f : ℕ → ℕ → ℕ → ℝ) (v : FVec Ideal S_ .f32) (hv : ∀ i, v i = ((0 : ℝ) : EReal))
    (h : S8x2048x2048.ReduceWindows ![1, 1, 2048] ![1, 1, 1] ![0, 0, 2047] ![0, 0, 0] S8x2048x2048) (hu : 0 < S_.numel) :
    Host.reduceWindowAdd (F := Ideal) (φ := .f32) ![1, 1, 2048] ![1, 1, 1] ![0, 0, 2047] ![0, 0, 0]
        (lift fun i : S8x2048x2048.Idx => f (i 0).val (i 1).val (i 2).val) v h hu
      = lift fun i : S8x2048x2048.Idx => ∑ s ∈ range ((i 2).val + 1), f (i 0).val (i 1).val s := by
  funext j
  have h0 : (j 0).val < 8 := (j 0).isLt
  have h1 : (j 1).val < 2048 := (j 1).isLt
  have h2 : (j 2).val < 2048 := (j 2).isLt
  unfold Host.reduceWindowAdd
  rw [Ideal.hostReduceWindowAdd_def]
  rw [window_sum (s := S8x2048x2048) (t := S8x2048x2048) _ _ _ _ _ _ h j
    (fun w => ((padded (f (j 0).val (j 1).val) ((j 2).val + (w 2).val) : ℝ) : EReal)) (fun w hw => by
      have w0 : (w 0).val < 1 := (w 0).isLt
      have w1 : (w 1).val < 1 := (w 1).isLt
      have b := hw 2
      change 2047 ≤ (j 2).val * 1 + (w 2).val ∧ (j 2).val * 1 + (w 2).val - 2047 < 2048 at b
      have e0 : (j 0).val * 1 + (w 0).val - 0 = (j 0).val := by omega
      have e1 : (j 1).val * 1 + (w 1).val - 0 = (j 1).val := by omega
      rw [Nat.mul_one] at b
      refine congrArg (fun r : ℝ => (r : EReal)) (Eq.trans ?_ (padded_in _ _ _ b.1 rfl))
      refine (congrArg₂ (fun a b => f a b _) e0 e1).trans ?_
      exact congrArg (fun n => f _ _ (n + (w 2).val - 2047)) (Nat.mul_one (j 2).val)) (fun w hw => by
      have w0 : (w 0).val < 1 := (w 0).isLt
      have w1 : (w 1).val < 1 := (w 1).isLt
      have w2 : (w 2).val < 2048 := (w 2).isLt
      refine (hv _).trans (congrArg (fun r : ℝ => (r : EReal)) (padded_out _ _ fun hk => hw fun a => by
        match a with
        | ⟨0, _⟩ => exact ⟨Nat.zero_le _, by show (j 0).val * 1 + (w 0).val - 0 < 8; omega⟩
        | ⟨1, _⟩ => exact ⟨Nat.zero_le _, by show (j 1).val * 1 + (w 1).val - 0 < 2048; omega⟩
        | ⟨2, _⟩ => exact ⟨by show 2047 ≤ (j 2).val * 1 + (w 2).val; omega, by show (j 2).val * 1 + (w 2).val - 2047 < 2048; omega⟩))),
    hv, EReal.coe_zero, zero_add]
  refine (sum_idx3 (n0 := 1) (n1 := 1) (n2 := 2048) _).trans ?_
  rw [Fin.sum_univ_one, Fin.sum_univ_one, lift_apply, ← sum_prefix _ _ h2, RealLift.coe_sum]
  rfl

end AttnWindow

end
-- ==== Proof.AttnReference.lean ====
/- The attention gradient as the reference computes it: from real queries, keys, values and upstream rows, the same three
   gradients. -/
module

public import proofs.«01_k».proof.Proof.Gen.AttnReferenceIdeal.Read
public import proofs.«01_k».proof.Proof.AttnHost
public import proofs.«01_k».proof.Proof.AttnWindow

@[expose] public section

set_option maxRecDepth 16384

noncomputable section

open Idealize.ShloMosaic Idealize.ShloMosaic.TcCoe Idealize.SL.Sem Finset

namespace AttnReference

open Cert.AttnReferenceIdeal Cert.AttnReferenceIdeal.Gen Cert.AttnReferenceIdeal.Read AttnLift AttnMath AttnLoop

/-! ## Elementwise -/

theorem lit_infinity : Ideal.ofBits .f32 0x7F800000#32 = (⊤ : EReal) := by
  simp [Ideal.ofBits, Ideal.ieee]

/-- Where no entry is infinite, replacing the infinite ones replaces nothing. -/
theorem keep_finite {s : Shape} (f : s.Idx → ℝ) (w y : FVec Ideal s .f32) (hy : ∀ i, y i = (⊤ : EReal)) :
    select (α := Ideal .f32) (cmpf .oeq (lift f : FVec Ideal s .f32) y) w (lift f) = lift f := by
  funext i
  show Scalar.select (Ideal.cmp .oeq (lift f i) (y i)) (w i) (lift f i) = lift f i
  rw [hy i, lift_apply]
  simp [Ideal.cmp, Scalar.select]

theorem exp_real {s : Shape} (f : s.Idx → ℝ) : Host.exp (F := Ideal) (φ := .f32) (lift f) = lift fun i => Real.exp (f i) := by
  funext i; exact Ideal.exp_coe _

theorem sp_neg (x : ℝ) : sp (-x) = sp x - x := by
  unfold sp
  have e : 1 + Real.exp x = Real.exp x * (1 + Real.exp (-x)) := by
    rw [mul_add, ← Real.exp_add]; simp; ring
  rw [e, Real.log_mul (Real.exp_ne_zero _) (by positivity), Real.log_exp]; ring

theorem exp_neg_sp (x : ℝ) : Real.exp (-x - sp (-x)) = 1 - Real.exp (x - sp x) := by
  rw [sp_neg, show -x - (sp x - x) = -sp x by ring, Real.exp_sub, Real.exp_neg]
  unfold sp
  rw [Real.exp_log (by positivity)]
  field_simp
  ring

variable {x0 : (⟨S2048x3584, .f32⟩ : BufTy).Contents (Elt Ideal)} {x1 : (⟨S2048x512, .f32⟩ : BufTy).Contents (Elt Ideal)}
  {Q K V D : ℕ → ℕ → ℝ}

/-- The arguments' entries are these reals. -/
structure Entries (x0 : (⟨S2048x3584, .f32⟩ : BufTy).Contents (Elt Ideal)) (x1 : (⟨S2048x512, .f32⟩ : BufTy).Contents (Elt Ideal))
    (Q K V D : ℕ → ℕ → ℝ) : Prop where
  q : val_main_v0 (F := Ideal) x0 = lift (arr Q)
  k : val_main_v1 (F := Ideal) x0 = lift (arr K)
  v : val_main_v2 (F := Ideal) x0 = lift (arr V)
  d : x1 = lift (arr D)

def heads (X : ℕ → ℕ → ℝ) : S2048x8x64.Idx → ℝ := fun i => X (i 0).val (64 * (i 1).val + (i 2).val)
def entries (f : ℕ → ℕ → ℕ → ℝ) : S8x2048x2048.Idx → ℝ := fun i => f (i 0).val (i 1).val (i 2).val

theorem heads_real (X : ℕ → ℕ → ℝ) : shapeCast (α := Ideal .f32) S2048x8x64 (lift (arr X)) shapeCasts_S2048x512_S2048x8x64 = lift (heads X) := by
  funext i; idx_vars i
  pointwise
  simp only [lift_apply]
  refine congrArg _ ?_
  show X i0.val (i1.val * 64 + i2.val) = X i0.val (64 * i1.val + i2.val)
  rw [mul_comm]

theorem zeroes_real : (broadcastInDim S8x2048x2048 ![] bcast_S_S8x2048x2048 (constant (F := Ideal) S_ .f32 0x00000000#32)) = lift fun _ => 0 := by
  funext i; exact lit_zero

theorem eighth_real : (broadcastInDim S8x2048x2048 ![] bcast_S_S8x2048x2048 (constant (F := Ideal) S_ .f32 0x3E000000#32)) = lift fun _ => 1 / 8 := by
  funext i; exact lit_eighth

def infinity : FVec Ideal S8x2048x2048 .f32 :=
  broadcastInDim S8x2048x2048 ![] bcast_S_S8x2048x2048 (constant (F := Ideal) S_ .f32 0x7F800000#32)

theorem infinite (i : S8x2048x2048.Idx) : infinity i = (⊤ : EReal) := lit_infinity

theorem before_apply (i0 : Fin 8) (i1 i2 : Fin 2048) :
    val_main_v17_1 (F := Ideal) (ix3 i0 i1 i2) = BitVec.ofBool (decide (i2.val < i1.val)) := by
  unfold val_main_v17_1 val_main_v14 val_main_v12 val_main_v13 val_main_v9 val_main_v11 val_main_v8 val_main_v10
  pointwise
  exact WordCmp.cmpi_slt_ofNat (w := 32) (a := i2.val) (b := i1.val) (by have := i2.isLt; norm_num; omega) (by have := i1.isLt; norm_num; omega)

/-- What is kept of an array over the keys before each query. -/
theorem causal_real (f : ℕ → ℕ → ℕ → ℝ) :
    select (α := Ideal .f32) (val_main_v17_1 (F := Ideal)) (lift (entries f)) (lift fun _ => 0)
      = lift (entries fun H t s => if s < t then f H t s else 0) := by
  funext i; idx_vars i
  show Scalar.select (val_main_v17_1 (F := Ideal) (ix3 i0 i1 i2)) _ _ = _
  rw [before_apply, lift_apply, lift_apply, lift_apply]
  show _ = (((if i2.val < i1.val then f i0.val i1.val i2.val else 0 : ℝ)) : EReal)
  by_cases h : i2.val < i1.val
  · rw [if_pos h]; simp [Scalar.select, h, entries]
  · rw [if_neg h]; simp [Scalar.select, h]

section
variable (E : Entries x0 x1 Q K V D)
include E

/-! ## Forward -/

theorem queries : val_main_v3 (F := Ideal) x0 = lift (heads Q) := by
  unfold val_main_v3; rw [E.q]; exact heads_real Q

theorem keys : val_main_v4 (F := Ideal) x0 = lift (heads K) := by
  unfold val_main_v4; rw [E.k]; exact heads_real K

theorem values : val_main_v24 (F := Ideal) x0 = lift (heads V) := by
  unfold val_main_v24; rw [E.v]; exact heads_real V

theorem scores : val_main_v7 (F := Ideal) x0 = lift (entries (z Q K)) := by
  unfold val_main_v7 val_main_v5 val_main_v6 val_main_cst
  rw [queries E, keys E, eighth_real]
  funext i; idx_vars i
  pointwise
  simp only [lift_apply, ← EReal.coe_mul, ← RealLift.coe_sum]
  refine congrArg _ ?_
  show (∑ x : Fin 64, Q i1.val (64 * i0.val + x.val) * K i2.val (64 * i0.val + x.val)) * (1 / 8)
    = ∑ e ∈ Finset.range 64, Q i1.val (64 * i0.val + e) * (1 / 8) * K i2.val (64 * i0.val + e)
  rw [Finset.sum_range, Finset.sum_mul]
  exact Finset.sum_congr rfl fun x _ => by ring

theorem softplus_scores : val_main_v15_0 (F := Ideal) x0 = lift (entries fun H t s => sp (z Q K H t s)) := by
  have e : val_main_v15_0 (F := Ideal) x0 = AttnHost.softplus (val_main_call0_v0 (F := Ideal)) (val_main_v7 (F := Ideal) x0) := rfl
  rw [e, scores E, show val_main_call0_v0 (F := Ideal) = lift fun _ => 0 from zeroes_real]
  exact AttnHost.softplus_real _

/-- The logistic function of the scores. -/
theorem sigmoid_scores : val_main_v15_1 (F := Ideal) x0 = lift (entries fun H t s => Real.exp (z Q K H t s - sp (z Q K H t s))) := by
  unfold val_main_v15_1 val_main_call0_v21 val_main_call0_v16 val_main_call0_v20 val_main_call0_v14 val_main_call0_v18
  rw [scores E, softplus_scores E, show val_main_call0_v13 (F := Ideal) = infinity from rfl,
    show val_main_call0_v17 (F := Ideal) = infinity from rfl, keep_finite _ _ _ infinite, keep_finite _ _ _ infinite, sub_lift]
  exact exp_real _

theorem leaves : val_main_v17_0 (F := Ideal) x0 = lift (entries (lm Q K)) := by
  unfold val_main_v17_0 val_main_v16
  rw [softplus_scores E, AttnHost.neg_lift, show val_main_call1_v2 (F := Ideal) = lift fun _ => 0 from zeroes_real]
  refine (causal_real fun H t s => -sp (z Q K H t s)).trans ?_
  simp only [← zero_sub (sp _)]
  rfl

theorem later : val_main_v19 (F := Ideal) x0 = lift (entries fun H t s => lms Q K H t 2048 - lms Q K H t (s + 1)) := by
  unfold val_main_v19 val_main_v18
  rw [leaves E]
  have e := AttnWindow.suffix_real (lm Q K) (val_main_call2_v0 (F := Ideal)) (fun _ => lit_zero)
    reduceWindows_S8x2048x2048_S8x2048x2048_w1s1p0_0_w1s1p0_0_w2048s1p0_2047 h_S_
  refine (congrArg (fun y => subf (F := Ideal) (φ := .f32) y (lift (entries (lm Q K)))) e).trans ?_
  refine (sub_lift _ _).trans ?_
  refine congrArg lift (funext fun i => ?_)
  show lms Q K _ _ 2048 - lms Q K _ _ (i 2).val - lm Q K _ _ _ = lms Q K _ _ 2048 - lms Q K _ _ ((i 2).val + 1)
  unfold lms
  rw [Finset.sum_range_succ _ (i 2).val]; ring

theorem negated : val_main_call3_v0 (F := Ideal) x0 = lift (entries fun H t s => -z Q K H t s) := by
  unfold val_main_call3_v0
  rw [scores E]
  exact AttnHost.neg_lift _

theorem softplus_negated : val_main_call3_v1_0 (F := Ideal) x0 = lift (entries fun H t s => sp (-z Q K H t s)) := by
  have e : val_main_call3_v1_0 (F := Ideal) x0
      = AttnHost.softplus (val_main_call3_call0_v0 (F := Ideal)) (val_main_call3_v0 (F := Ideal) x0) := rfl
  rw [e, negated E, show val_main_call3_call0_v0 (F := Ideal) = lift fun _ => 0 from zeroes_real]
  exact AttnHost.softplus_real _

theorem sigmoid_negated : val_main_v20_1 (F := Ideal) x0
    = lift (entries fun H t s => 1 - Real.exp (z Q K H t s - sp (z Q K H t s))) := by
  unfold val_main_v20_1 val_main_call3_call0_v21 val_main_call3_call0_v16 val_main_call3_call0_v20 val_main_call3_call0_v14
    val_main_call3_call0_v18
  rw [negated E, softplus_negated E, show val_main_call3_call0_v13 (F := Ideal) = infinity from rfl,
    show val_main_call3_call0_v17 (F := Ideal) = infinity from rfl, keep_finite _ _ _ infinite, keep_finite _ _ _ infinite, sub_lift]
  refine (exp_real _).trans ?_
  funext i; exact congrArg _ (exp_neg_sp _)

/-- The exponential of a weight's logarithm, for every key. -/
def raw (Q K : ℕ → ℕ → ℝ) (H t s : ℕ) : ℝ := Real.exp (z Q K H t s - sp (z Q K H t s) + (lms Q K H t 2048 - lms Q K H t (s + 1)))

theorem raw_weights : val_main_v22 (F := Ideal) x0 = lift (entries (raw Q K)) := by
  unfold val_main_v22 val_main_v21 val_main_v20_0
  rw [softplus_negated E, later E, AttnHost.neg_lift, add_lift]
  refine (exp_real _).trans ?_
  funext i; refine congrArg _ (congrArg Real.exp ?_)
  show -sp (-z Q K _ _ _) + _ = z Q K _ _ _ - sp (z Q K _ _ _) + _
  rw [sp_neg]
  simp only [entries]; ring

theorem weights : val_main_v23_0 (F := Ideal) x0 = lift (entries (att Q K)) := by
  unfold val_main_v23_0
  rw [raw_weights E, show val_main_call4_v2 (F := Ideal) = lift fun _ => 0 from zeroes_real]
  exact causal_real (raw Q K)

/-! ## Backward -/

theorem upstream : val_main_v28 (F := Ideal) x1 = lift (heads D) := by
  unfold val_main_v28; rw [E.d]; exact heads_real D

theorem upstream_turned : val_main_v29 (F := Ideal) x1
    = lift fun i : S8x64x2048.Idx => D (i 2).val (64 * (i 0).val + (i 1).val) := by
  unfold val_main_v29
  rw [upstream E]
  funext i; idx_vars i
  pointwise
  rfl

theorem weight_gradients : val_main_v30 (F := Ideal) x0 x1
    = lift (entries fun H t s => ∑ e ∈ range 64, D t (64 * H + e) * V s (64 * H + e)) := by
  unfold val_main_v30
  rw [upstream_turned E, values E]
  funext i; idx_vars i
  pointwise
  simp only [lift_apply, ← EReal.coe_mul, ← RealLift.coe_sum]
  refine congrArg _ ?_
  simp only [entries, Finset.sum_range]
  rfl

/-- The values' gradients. -/
theorem dv_real : val_main_v54 (F := Ideal) x0 x1 = lift (arr (dvs Q K D 2048)) := by
  unfold val_main_v54 val_main_v33 val_main_v32 val_main_v31
  rw [upstream_turned E, weights E]
  funext i; idx_vars i
  pointwise
  simp only [lift_apply, ← EReal.coe_mul, ← RealLift.coe_sum]
  refine congrArg _ ?_
  show (∑ x : Fin 2048, D x.val (64 * (i1.val / 64) + i1.val % 64) * att Q K (i1.val / 64) x.val i0.val)
    = ∑ t ∈ range 2048, att Q K (i1.val / 64) t i0.val * D t i1.val
  rw [Finset.sum_range, Nat.div_add_mod]
  exact Finset.sum_congr rfl fun x _ => mul_comm _ _

theorem log_gradients : val_main_v35 (F := Ideal) x0 x1 = lift (entries (dl Q K V D)) := by
  unfold val_main_v35 val_main_v34
  rw [weight_gradients E, raw_weights E, show val_main_call5_v0 (F := Ideal) = lift fun _ => 0 from zeroes_real]
  refine (congrArg (fun y => mulf (F := Ideal) (φ := .f32) y (lift (entries (raw Q K)))) (causal_real _)).trans ?_
  refine (mul_lift _ _).trans ?_
  refine congrArg lift (funext fun i => ?_)
  simp only [entries, dl, att, raw]
  split <;> ring

theorem earlier : val_main_v39 (F := Ideal) x0 x1 = lift (entries (dls Q K V D)) := by
  unfold val_main_v39 val_main_v37 val_main_v38
  rw [log_gradients E, AttnHost.neg_lift]
  have e := AttnWindow.prefix_real (dl Q K V D) (val_main_call7_v0 (F := Ideal)) (fun _ => lit_zero)
    reduceWindows_S8x2048x2048_S8x2048x2048_w1s1p0_0_w1s1p0_0_w2048s1p2047_0 h_S_
  refine (congrArg (fun y => addf (F := Ideal) (φ := .f32) (lift fun i => -entries (dl Q K V D) i) y) e).trans ?_
  refine (add_lift _ _).trans ?_
  refine congrArg lift (funext fun i => ?_)
  show -dl Q K V D _ _ _ + ∑ s ∈ range ((i 2).val + 1), dl Q K V D _ _ s = ∑ s ∈ range (i 2).val, dl Q K V D _ _ s
  rw [Finset.sum_range_succ _ (i 2).val]; ring

theorem score_gradients : val_main_v45 (F := Ideal) x0 x1 = lift (entries fun H t s => dz Q K V D H t s * (1 / 8)) := by
  unfold val_main_v45 val_main_v43 val_main_v36 val_main_call6_v1 val_main_call6_v0 val_main_v42 val_main_v41 val_main_v40
  rw [earlier E, log_gradients E, sigmoid_negated E, sigmoid_scores E,
    show val_main_v44 (F := Ideal) = lift fun _ => 1 / 8 from eighth_real,
    show val_main_call8_v0 (F := Ideal) = lift fun _ => 0 from zeroes_real, causal_real, AttnHost.neg_lift, AttnHost.neg_lift,
    mul_lift, mul_lift, AttnHost.neg_lift, add_lift, mul_lift]
  refine congrArg lift (funext fun i => ?_)
  simp only [entries, dz]
  by_cases h : (i 2).val < (i 1).val
  · rw [if_pos h, if_pos h]; ring
  · have e : dl Q K V D (i 0).val (i 1).val (i 2).val = 0 := by unfold dl att; rw [if_neg h, zero_mul]
    rw [if_neg h, if_neg h, e]; ring

/-- The keys' gradients. -/
theorem dk_real : val_main_v53 (F := Ideal) x0 x1 = lift (arr (dks Q K V D 2048)) := by
  unfold val_main_v53 val_main_v50 val_main_v47 val_main_v46
  rw [score_gradients E, queries E]
  funext i; idx_vars i
  pointwise
  simp only [lift_apply, ← EReal.coe_mul, ← RealLift.coe_sum]
  refine congrArg _ ?_
  show (∑ x : Fin 2048, dz Q K V D (i1.val / 64) x.val i0.val * (1 / 8) * Q x.val (64 * (i1.val / 64) + i1.val % 64))
    = ∑ t ∈ range 2048, dz Q K V D (i1.val / 64) t i0.val * (1 / 8) * Q t i1.val
  rw [Finset.sum_range, Nat.div_add_mod]

/-- The queries' gradients. -/
theorem dq_real : val_main_v52 (F := Ideal) x0 x1
    = lift fun i : S2048x512.Idx => dqs Q K V D 2048 (i 0).val (i 1).val ((i 1).val / 64) := by
  unfold val_main_v52 val_main_v51 val_main_v49 val_main_v48
  rw [score_gradients E, keys E]
  funext i; idx_vars i
  pointwise
  simp only [lift_apply, ← EReal.coe_mul, ← RealLift.coe_sum]
  refine congrArg _ ?_
  show (∑ x : Fin 2048, dz Q K V D (i1.val / 64) i0.val x.val * (1 / 8) * K x.val (64 * (i1.val / 64) + i1.val % 64))
    = ∑ s ∈ range 2048, dz Q K V D (i1.val / 64) i0.val s * (1 / 8) * K s i1.val
  rw [Finset.sum_range, Nat.div_add_mod]

end

end AttnReference

end
-- ==== Proof.AttnOperands.lean ====
/- The attention gradient's kernel reads its blocks head by head: stacking four heads' rows, the tables of comparisons,
   and unstacking. -/
module

public import proofs.«01_k».proof.Proof.AttnMath

@[expose] public section

set_option maxRecDepth 16384

noncomputable section

open Idealize.ShloMosaic Idealize.ShloMosaic.TcCoe

namespace AttnOperands

open Cert.AttnKernelIdeal Cert.AttnKernelIdeal.Gen AttnLift AttnTile AttnMath

theorem head0 : ∀ c : Fin 256, k0_pay57 (ix2 (0 : Fin 1) c) = BitVec.ofBool (decide (c.val / 64 = 0)) := by decide +kernel
theorem head1 : ∀ c : Fin 256, k0_pay58 (ix2 (0 : Fin 1) c) = BitVec.ofBool (decide (c.val / 64 = 1)) := by decide +kernel
theorem head2 : ∀ c : Fin 256, k0_pay59 (ix2 (0 : Fin 1) c) = BitVec.ofBool (decide (c.val / 64 = 2)) := by decide +kernel
theorem head3 : ∀ c : Fin 256, k0_pay60 (ix2 (0 : Fin 1) c) = BitVec.ofBool (decide (c.val / 64 = 3)) := by decide +kernel

theorem select_coe (b : Bool) (x y : ℝ) : Scalar.select (BitVec.ofBool b) (x : EReal) (y : EReal) = ((bif b then x else y : ℝ) : EReal) := by
  cases b <;> rfl

theorem number (b : Bool) : FloatOps.sitofp (F := Ideal) FTy.f32 (BitVec.setWidth 32 (BitVec.ofBool b)) = ((bif b then 1 else 0 : ℝ) : EReal) := by
  cases b
  · show ((((BitVec.setWidth 32 (BitVec.ofBool false)).toInt : ℤ) : ℝ) : EReal) = _
    simp
  · show ((((BitVec.setWidth 32 (BitVec.ofBool true)).toInt : ℤ) : ℝ) : EReal) = _
    rw [show (BitVec.setWidth 32 (BitVec.ofBool true)).toInt = 1 by decide]
    simp

theorem greater : ∀ i j : Fin 256, IntOp.cmpi CmpIPredicate.sgt (BitVec.ofNat 32 i.val) (BitVec.ofNat 32 j.val) = BitVec.ofBool (decide (j.val < i.val)) := by
  intro i j
  rw [← WordCmp.cmpi_slt_ofNat (w := 32) (a := j.val) (b := i.val) (by have := j.isLt; norm_num; omega) (by have := i.isLt; norm_num; omega)]
  rfl

theorem upper_table : k0_pay62 (F := Ideal) k0_pay61 = lift upper := by
  funext i; idx_vars i
  unfold k0_pay62 k0_pay61
  pointwise
  rw [greater, number, Bool.cond_decide]
  rfl

theorem lower_table : k0_pay63 (F := Ideal) (iota .tc S256x256 32 [0] iota_S256x256_d0_w32) (iota .tc S256x256 32 [1] iota_S256x256_d1_w32) = lift lower := by
  funext i; idx_vars i
  unfold k0_pay63
  pointwise
  rw [WordCmp.cmpi_slt_ofNat (by have := i0.isLt; norm_num; omega) (by have := i1.isLt; norm_num; omega), number, Bool.cond_decide]
  rfl

theorem stack65 (a g : ℕ) (X : ℕ → ℕ → ℝ) :
    k0_pay65 (F := Ideal) k0_pay57 k0_pay58 k0_pay59 k0_pay60 (lift (tile X a g)) = lift (rows a g X) := by
  unfold k0_pay65
  simp only [splat_zero]
  funext i; idx_vars i
  have hi := i0.isLt
  have key : ∀ (k r : ℕ) (e : i0.val = 256 * k + r) (hr : r < 256),
      (if i1.val / 64 = k then ((X (256 * a + r) (256 * g + i1.val) : ℝ) : EReal) else ((0 : ℝ) : EReal))
        = ((if i1.val / 64 = i0.val / 256 then X (256 * a + i0.val % 256) (256 * g + i1.val) else 0 : ℝ) : EReal) := by
    intro k r e hr
    rw [show i0.val / 256 = k by omega, show i0.val % 256 = r by omega]
    split <;> rfl
  pointwise [head0, head1, head2, head3]
  split
  · exact key 0 i0.val (by omega) (by omega)
  · split
    · exact key 1 (i0.val - 256) (by omega) (by omega)
    · split
      · exact key 2 (i0.val - 256 - 256) (by omega) (by omega)
      · exact key 3 (i0.val - 256 - 256 - 256) (by omega) (by omega)

theorem stack66 (a g : ℕ) (X : ℕ → ℕ → ℝ) :
    k0_pay66 (F := Ideal) k0_pay57 k0_pay58 k0_pay59 k0_pay60 (lift (tile X a g)) = lift (rows a g X) := stack65 a g X
theorem stack69 (a g : ℕ) (X : ℕ → ℕ → ℝ) :
    k0_pay69 (F := Ideal) k0_pay57 k0_pay58 k0_pay59 k0_pay60 (lift (tile X a g)) = lift (rows a g X) := stack65 a g X
theorem stack70 (a g : ℕ) (X : ℕ → ℕ → ℝ) :
    k0_pay70 (F := Ideal) k0_pay57 k0_pay58 k0_pay59 k0_pay60 (lift (tile X a g)) = lift (rows a g X) := stack65 a g X

theorem scaled (a g : ℕ) (X : ℕ → ℕ → ℝ) :
    mulf (F := Ideal) (φ := .f32) (lift (tile X a g)) (broadcast S256x256 (Scalar.ofBits (F := Ideal) .f32 0x3E000000#32)) = lift (tile (fun t c => X t c * (1 / 8)) a g) := by
  rw [splat_eighth, mul_lift]
  rfl

theorem stack64 (a g : ℕ) (X : ℕ → ℕ → ℝ) :
    k0_pay64 (F := Ideal) k0_pay57 k0_pay58 k0_pay59 k0_pay60 (lift (tile X a g)) = lift (rows a g fun t c => X t c * (1 / 8)) := by
  rw [← stack65, ← scaled]
  rfl
theorem stack68 (a g : ℕ) (X : ℕ → ℕ → ℝ) :
    k0_pay68 (F := Ideal) k0_pay57 k0_pay58 k0_pay59 k0_pay60 (lift (tile X a g)) = lift (rows a g fun t c => X t c * (1 / 8)) := stack64 a g X

/-- The table of a head group's totals: the heads' columns stacked. -/
theorem totals (a g : ℕ) (f : ℕ → ℕ → ℝ) :
    k0_pay67 (F := Ideal) (lift fun i : S1x256x256.Idx => f (4 * g + (i 2).val / 64) (256 * a + (i 1).val)) = lift (col a g f) := by
  unfold k0_pay67
  funext i; idx_vars i
  have hi := i0.isLt
  have key : ∀ (k r : ℕ) (e : i0.val = 256 * k + r) (hr : r < 256), ((f (4 * g + 64 * k / 64) (256 * a + r) : ℝ) : EReal)
      = ((f (4 * g + i0.val / 256) (256 * a + i0.val % 256) : ℝ) : EReal) := by
    intro k r e hr
    rw [show i0.val / 256 = k by omega, show i0.val % 256 = r by omega, show 64 * k / 64 = k by omega]
  pointwise
  split
  · exact key 0 i0.val (by omega) (by omega)
  · split
    · exact key 1 (i0.val - 256) (by omega) (by omega)
    · split
      · exact key 2 (i0.val - 256 - 256) (by omega) (by omega)
      · exact key 3 (i0.val - 256 - 256 - 256) (by omega) (by omega)

theorem totals71 (a g : ℕ) (f : ℕ → ℕ → ℝ) :
    k0_pay71 (F := Ideal) (lift fun i : S1x256x256.Idx => f (4 * g + (i 2).val / 64) (256 * a + (i 1).val)) = lift (col a g f) := totals a g f

/-- Unstacking: each lane's own head. -/
theorem unstack (f : ℕ → ℕ → ℕ → ℝ) : k0_pay2 (F := Ideal) k0_pay58 k0_pay59 k0_pay60
      (lift fun i : S1024x256.Idx => f ((i 0).val / 256) ((i 0).val % 256) (i 1).val)
    = lift fun i => f ((i 1).val / 64) (i 0).val (i 1).val := by
  unfold k0_pay2
  funext i; idx_vars i
  pointwise [head1, head2, head3]
  have key : ∀ (k : ℕ) (h : 256 * k + i0.val < 1024), lift (fun i : S1024x256.Idx => f ((i 0).val / 256) ((i 0).val % 256) (i 1).val) (ix2 ⟨256 * k + i0.val, h⟩ i1)
      = ((f k i0.val i1.val : ℝ) : EReal) := by
    intro k h
    show ((f ((256 * k + i0.val) / 256) ((256 * k + i0.val) % 256) i1.val : ℝ) : EReal) = _
    have := i0.isLt
    rw [show (256 * k + i0.val) / 256 = k by omega, show (256 * k + i0.val) % 256 = i0.val by omega]
  have e3 := key 3 (by have := i0.isLt; omega)
  have e2 := key 2 (by have := i0.isLt; omega)
  have e1 := key 1 (by have := i0.isLt; omega)
  have e0 := key 0 (by have := i0.isLt; omega)
  simp only [Nat.reduceMul, zero_add] at e0 e1 e2 e3
  rw [e0, e1, e2, e3]
  show _ = ((f (i1.val / 64) i0.val i1.val : ℝ) : EReal)
  have := i1.isLt
  obtain h | h | h | h : i1.val / 64 = 0 ∨ i1.val / 64 = 1 ∨ i1.val / 64 = 2 ∨ i1.val / 64 = 3 := by omega
  all_goals rw [h]; rfl

theorem unstack1 (f : ℕ → ℕ → ℕ → ℝ) (o : Vec Ideal S1024x256 .f32)
    (h : o = lift fun i : S1024x256.Idx => f ((i 0).val / 256) ((i 0).val % 256) (i 1).val) :
    k0_pay1 (F := Ideal) k0_pay60 o (k0_pay102 k0_pay58 o) (k0_pay103 o) (k0_pay104 k0_pay59)
    = lift fun i => f ((i 1).val / 64) (i 0).val (i 1).val := by
  subst h
  exact unstack f

theorem zeros72 : k0_pay72 (F := Ideal) = lift fun _ => 0 := splat_zero
theorem zeros74 : k0_pay74 (F := Ideal) = lift fun _ => 0 := splat_zero
theorem zeros53 : k0_pay53 (F := Ideal) = lift fun _ => 0 := by
  unfold k0_pay53
  funext i; idx_vars i; pointwise; rfl
theorem zeros54 : k0_pay54 (F := Ideal) = lift fun _ => 0 := zeros53
theorem keys51 (x : S2048x512.Idx → ℝ) : k0_pay51 (F := Ideal) (lift x) = lift x := by
  unfold k0_pay51
  funext i; idx_vars i; pointwise
theorem keys52 (x : S2048x512.Idx → ℝ) : k0_pay52 (F := Ideal) (lift x) = lift x := keys51 x
theorem out3 (x : S2048x512.Idx → ℝ) : k0_pay3 (F := Ideal) (lift x) = lift x := by
  unfold k0_pay3
  funext i; idx_vars i; pointwise
theorem out4 (x : S2048x512.Idx → ℝ) : k0_pay4 (F := Ideal) (lift x) = lift x := out3 x

end AttnOperands

end
-- ==== Proof.AttnPointA.lean ====
/- One query block of the attention gradient's kernel, the first: what it writes and what it leaves for the next. -/
module

public import proofs.«01_k».proof.Proof.Gen.AttnKernelIdeal.Frame
public import proofs.«01_k».proof.Proof.AttnLoop
public import proofs.«01_k».proof.Proof.AttnOperands
public import proofs.«01_k».proof.Proof.AttnReads
public import Idealize.ShloMosaic.Lib.VecWindow

@[expose] public section

set_option maxRecDepth 16384

noncomputable section

open Idealize.ShloMosaic Idealize.ShloMosaic.TcCoe Idealize.SL.Sem

namespace AttnPointA

open Cert.AttnKernelIdeal Cert.AttnKernelIdeal.Gen AttnLift AttnTile AttnMath AttnLoop AttnOperands AttnReads

variable {c : Dev nD} {i : grid0.Coords} {arg1 : Memref sig .tc .vmem S256x512 .f32} {harg1 : arg1.IsWhole} {arg2 : Memref sig .tc .vmem S2048x512 .f32} {harg2 : arg2.IsWhole} {arg3 : Memref sig .tc .vmem S2048x512 .f32} {harg3 : arg3.IsWhole} {arg4 : Memref sig .tc .vmem S256x512 .f32} {harg4 : arg4.IsWhole} {arg5 : Memref sig .tc .vmem S2x256x256 .f32} {harg5 : arg5.IsWhole} {arg6 : Memref sig .tc .vmem S256x512 .bf16} {harg6 : arg6.IsWhole} {arg7 : Memref sig .tc .vmem S2048x512 .bf16} {harg7 : arg7.IsWhole} {arg8 : Memref sig .tc .vmem S2048x512 .bf16} {harg8 : arg8.IsWhole} {arg9 : Memref sig .tc .vmem S2048x512 .bf16} {harg9 : arg9.IsWhole} {arg10 : Memref sig .tc .vmem S2048x512 .bf16} {harg10 : arg10.IsWhole} {arg11 : Memref sig .tc .vmem S2048x512 .f32} {harg11 : arg11.IsWhole} {arg12 : Memref sig .tc .vmem S2048x512 .f32} {harg12 : arg12.IsWhole} {hc0 : cond0_0 i} {hc1 : ¬cond0_1 i}
  {x0 : Vec Ideal S256x512 .f32} {x1 x2 : Vec Ideal S2048x512 .f32} {x3 : Vec Ideal S256x512 .f32} {x4 : Vec Ideal S2x256x256 .f32}
  {Q K V D : ℕ → ℕ → ℝ}
  (h0 : x0 = lift (blk (i 0).val Q)) (h3 : x3 = lift (blk (i 0).val D)) (h4 : x4 = lift (tots (i 0).val fun H t => lms Q K H t 2048))
  (hi : (i 0).val = 0) (h1 : x1 = lift (arr K)) (h2 : x2 = lift (arr V))

include h0 in
theorem r_lift : kernelRun0_A.sl.r (F := Ideal) c arg1 harg1 x0 = lift (rows (i 0).val 0 fun t c => Q t c * (1 / 8)) := by
  subst h0
  simp only [kernelRun0_A.sl.r, kernelRun0_A.sl.r_2, kernelRun0_A.sl.r_5]
  rw [read_blk _ _ _ _ (harg1.read_unread _) _ 0 rfl]
  exact stack64 (i 0).val 0 Q

include h0 in
theorem r_1_lift : kernelRun0_A.sl.r_1 (F := Ideal) c arg1 harg1 x0 = lift (rows (i 0).val 0 Q) := by
  subst h0
  simp only [kernelRun0_A.sl.r_1, kernelRun0_A.sl.r_2, kernelRun0_A.sl.r_5]
  rw [read_blk _ _ _ _ (harg1.read_unread _) _ 0 rfl]
  exact stack65 (i 0).val 0 Q

include h3 in
theorem r_3_lift : kernelRun0_A.sl.r_3 (F := Ideal) c arg4 harg4 x3 = lift (rows (i 0).val 0 D) := by
  subst h3
  simp only [kernelRun0_A.sl.r_3, kernelRun0_A.sl.r_2, kernelRun0_A.sl.r_5]
  rw [read_blk _ _ _ _ (harg4.read_unread _) _ 0 rfl]
  exact stack66 (i 0).val 0 D

include h4 in
theorem r_4_lift : kernelRun0_A.sl.r_4 (F := Ideal) c arg5 harg5 x4 = lift (col (i 0).val 0 fun H t => lms Q K H t 2048) := by
  subst h4
  simp only [kernelRun0_A.sl.r_4, kernelRun0_A.sl.r_2, kernelRun0_A.sl.r_5]
  rw [read_tots _ _ _ _ (harg5.read_unread _) _ 0 rfl]
  exact totals (i 0).val 0 (fun H t => lms Q K H t 2048)

include h0 in
theorem r_6_lift : kernelRun0_A.sl.r_6 (F := Ideal) c arg1 harg1 x0 = lift (rows (i 0).val 1 fun t c => Q t c * (1 / 8)) := by
  subst h0
  simp only [kernelRun0_A.sl.r_6, kernelRun0_A.sl.r_2, kernelRun0_A.sl.r_5]
  rw [read_blk _ _ _ _ (harg1.read_unread _) _ 1 rfl]
  exact stack68 (i 0).val 1 Q

include h0 in
theorem r_7_lift : kernelRun0_A.sl.r_7 (F := Ideal) c arg1 harg1 x0 = lift (rows (i 0).val 1 Q) := by
  subst h0
  simp only [kernelRun0_A.sl.r_7, kernelRun0_A.sl.r_2, kernelRun0_A.sl.r_5]
  rw [read_blk _ _ _ _ (harg1.read_unread _) _ 1 rfl]
  exact stack69 (i 0).val 1 Q

include h3 in
theorem r_8_lift : kernelRun0_A.sl.r_8 (F := Ideal) c arg4 harg4 x3 = lift (rows (i 0).val 1 D) := by
  subst h3
  simp only [kernelRun0_A.sl.r_8, kernelRun0_A.sl.r_2, kernelRun0_A.sl.r_5]
  rw [read_blk _ _ _ _ (harg4.read_unread _) _ 1 rfl]
  exact stack70 (i 0).val 1 D

include h4 in
theorem r_9_lift : kernelRun0_A.sl.r_9 (F := Ideal) c arg5 harg5 x4 = lift (col (i 0).val 1 fun H t => lms Q K H t 2048) := by
  subst h4
  simp only [kernelRun0_A.sl.r_9, kernelRun0_A.sl.r_2, kernelRun0_A.sl.r_5]
  rw [read_tots _ _ _ _ (harg5.read_unread _) _ 1 rfl]
  exact totals71 (i 0).val 1 (fun H t => lms Q K H t 2048)

theorem init_value (Q K V D : ℕ → ℕ → ℝ) (a : ℕ) :
    (k0_pay72 (F := Ideal), k0_pay72 (F := Ideal), k0_pay73 kernelRun0_A.sl.cst_45, k0_pay72 (F := Ideal), k0_pay72 (F := Ideal), k0_pay74 (F := Ideal)) = carried Q K V D a 0 := by
  have e73 : k0_pay73 (F := Ideal) kernelRun0_A.sl.cst_45 = lift fun _ => 0 := splat_zero
  rw [zeros72, zeros74, e73]
  unfold carried
  have ec : ∀ g, (fun _ => 0 : Col) = col a g fun H t => lms Q K H t (256 * 0) := fun g => by
    funext i; simp [col, lms]
  have ed : ∀ g, (fun _ => 0 : Col) = col a g fun H t => dls Q K V D H t (256 * 0) := fun g => by
    funext i; simp [col, dls]
  have eg : ∀ g, (fun _ => 0 : Rows) = gathered Q K V D a g 0 := fun g => by
    funext i; simp [gathered, dqs]
  rw [← ec, ← ec, ← ed, ← ed, ← eg, ← eg]

include h1 in
theorem first_keys : arg9.view.read (Elt Ideal) (arg9.view.writes (Elt Ideal) arg9.view.junk (kernelRun0_A.sl.HS0_1 (F := Ideal) c arg2 harg2 x1)) = lift (arr K) := by
  unfold kernelRun0_A.sl.HS0_1
  rw [View.read_writes_full, View.readAt_full, harg2.read_unread, h1, keys51]

include h2 in
theorem first_values : arg10.view.read (Elt Ideal) (arg10.view.writes (Elt Ideal) arg10.view.junk (kernelRun0_A.sl.HS1_1 (F := Ideal) c arg3 harg3 x2)) = lift (arr V) := by
  unfold kernelRun0_A.sl.HS1_1
  rw [View.read_writes_full, View.readAt_full, harg3.read_unread, h2, keys52]

include hi in
theorem first_dk : arg11.view.read (Elt Ideal) (arg11.view.writes (Elt Ideal) arg11.view.junk (kernelRun0_A.sl.HS2_1 (F := Ideal))) = lift (arr (dks Q K V D (256 * (i 0).val))) := by
  unfold kernelRun0_A.sl.HS2_1
  rw [View.read_writes_full, zeros53, hi]
  exact congrArg lift (funext fun j => by simp [arr, dks])

include hi in
theorem first_dv : arg12.view.read (Elt Ideal) (arg12.view.writes (Elt Ideal) arg12.view.junk (kernelRun0_A.sl.HS3_1 (F := Ideal))) = lift (arr (dvs Q K D (256 * (i 0).val))) := by
  unfold kernelRun0_A.sl.HS3_1
  rw [View.read_writes_full, zeros54, hi]
  exact congrArg lift (funext fun j => by simp [arr, dvs])

include h0 h3 h4 hi h1 h2 in
theorem loop_value : (st_k0_t1 (F := Ideal) Variants.none c none i arg1 harg1 arg2 harg2 arg3 harg3 arg4 harg4 arg5 harg5 arg6 harg6 arg7 harg7 arg8 harg8 arg9 harg9 arg10 harg10 arg11 harg11 arg12 harg12 (BitVec.ofNat 32 (i 0).val) k0_pay56 (k0_pay62 k0_pay61) (k0_pay63 kernelRun0_A.sl.v7 kernelRun0_A.sl.v8) (kernelRun0_A.sl.r c arg1 harg1 x0) (kernelRun0_A.sl.r_1 c arg1 harg1 x0) (kernelRun0_A.sl.r_3 c arg4 harg4 x3) (kernelRun0_A.sl.r_4 c arg5 harg5 x4) (kernelRun0_A.sl.r_6 c arg1 harg1 x0) (kernelRun0_A.sl.r_7 c arg1 harg1 x0) (kernelRun0_A.sl.r_8 c arg4 harg4 x3) (kernelRun0_A.sl.r_9 c arg5 harg5 x4) k0_pay72 kernelRun0_A.sl.cst_45 (arg9.view.writes (Elt Ideal) arg9.view.junk (kernelRun0_A.sl.HS0_1 c arg2 harg2 x1)) (arg10.view.writes (Elt Ideal) arg10.view.junk (kernelRun0_A.sl.HS1_1 c arg3 harg3 x2)) (arg11.view.writes (Elt Ideal) arg11.view.junk kernelRun0_A.sl.HS2_1) (arg12.view.writes (Elt Ideal) arg12.view.junk kernelRun0_A.sl.HS3_1) (k0_pay72, k0_pay72, k0_pay73 kernelRun0_A.sl.cst_45, k0_pay72, k0_pay72, k0_pay74) (Scf.trips (k0_t1_loop i).lb (k0_t1_loop i).ub (k0_t1_loop i).st)).1 = carried Q K V D (i 0).val (i 0).val
    ∧ arg11.view.read (Elt Ideal) (arg11.view.writes (Elt Ideal) (arg11.view.writes (Elt Ideal) arg11.view.junk kernelRun0_A.sl.HS2_1) (st_k0_t1 (F := Ideal) Variants.none c none i arg1 harg1 arg2 harg2 arg3 harg3 arg4 harg4 arg5 harg5 arg6 harg6 arg7 harg7 arg8 harg8 arg9 harg9 arg10 harg10 arg11 harg11 arg12 harg12 (BitVec.ofNat 32 (i 0).val) k0_pay56 (k0_pay62 k0_pay61) (k0_pay63 kernelRun0_A.sl.v7 kernelRun0_A.sl.v8) (kernelRun0_A.sl.r c arg1 harg1 x0) (kernelRun0_A.sl.r_1 c arg1 harg1 x0) (kernelRun0_A.sl.r_3 c arg4 harg4 x3) (kernelRun0_A.sl.r_4 c arg5 harg5 x4) (kernelRun0_A.sl.r_6 c arg1 harg1 x0) (kernelRun0_A.sl.r_7 c arg1 harg1 x0) (kernelRun0_A.sl.r_8 c arg4 harg4 x3) (kernelRun0_A.sl.r_9 c arg5 harg5 x4) k0_pay72 kernelRun0_A.sl.cst_45 (arg9.view.writes (Elt Ideal) arg9.view.junk (kernelRun0_A.sl.HS0_1 c arg2 harg2 x1)) (arg10.view.writes (Elt Ideal) arg10.view.junk (kernelRun0_A.sl.HS1_1 c arg3 harg3 x2)) (arg11.view.writes (Elt Ideal) arg11.view.junk kernelRun0_A.sl.HS2_1) (arg12.view.writes (Elt Ideal) arg12.view.junk kernelRun0_A.sl.HS3_1) (k0_pay72, k0_pay72, k0_pay73 kernelRun0_A.sl.cst_45, k0_pay72, k0_pay72, k0_pay74) (Scf.trips (k0_t1_loop i).lb (k0_t1_loop i).ub (k0_t1_loop i).st)).2.1) = lift (arr (held (dks Q K V D) (i 0).val (i 0).val))
    ∧ arg12.view.read (Elt Ideal) (arg12.view.writes (Elt Ideal) (arg12.view.writes (Elt Ideal) arg12.view.junk kernelRun0_A.sl.HS3_1) (st_k0_t1 (F := Ideal) Variants.none c none i arg1 harg1 arg2 harg2 arg3 harg3 arg4 harg4 arg5 harg5 arg6 harg6 arg7 harg7 arg8 harg8 arg9 harg9 arg10 harg10 arg11 harg11 arg12 harg12 (BitVec.ofNat 32 (i 0).val) k0_pay56 (k0_pay62 k0_pay61) (k0_pay63 kernelRun0_A.sl.v7 kernelRun0_A.sl.v8) (kernelRun0_A.sl.r c arg1 harg1 x0) (kernelRun0_A.sl.r_1 c arg1 harg1 x0) (kernelRun0_A.sl.r_3 c arg4 harg4 x3) (kernelRun0_A.sl.r_4 c arg5 harg5 x4) (kernelRun0_A.sl.r_6 c arg1 harg1 x0) (kernelRun0_A.sl.r_7 c arg1 harg1 x0) (kernelRun0_A.sl.r_8 c arg4 harg4 x3) (kernelRun0_A.sl.r_9 c arg5 harg5 x4) k0_pay72 kernelRun0_A.sl.cst_45 (arg9.view.writes (Elt Ideal) arg9.view.junk (kernelRun0_A.sl.HS0_1 c arg2 harg2 x1)) (arg10.view.writes (Elt Ideal) arg10.view.junk (kernelRun0_A.sl.HS1_1 c arg3 harg3 x2)) (arg11.view.writes (Elt Ideal) arg11.view.junk kernelRun0_A.sl.HS2_1) (arg12.view.writes (Elt Ideal) arg12.view.junk kernelRun0_A.sl.HS3_1) (k0_pay72, k0_pay72, k0_pay73 kernelRun0_A.sl.cst_45, k0_pay72, k0_pay72, k0_pay74) (Scf.trips (k0_t1_loop i).lb (k0_t1_loop i).ub (k0_t1_loop i).st)).2.2) = lift (arr (held (dvs Q K D) (i 0).val (i 0).val)) :=
  loop_end Q K V D upper_table lower_table (r_lift h0) (r_1_lift h0) (r_3_lift h3) (r_4_lift h4) (r_6_lift h0) (r_7_lift h0) (r_8_lift h3) (r_9_lift h4) (first_keys h1) (first_values h2) (init_value _ _ _ _ _) (first_dk hi) (first_dv hi)

include h0 h3 h4 hi h1 h2 in
theorem r_10_lift : kernelRun0_A.sl.r_10 (F := Ideal) c i arg1 harg1 arg2 harg2 arg3 harg3 arg4 harg4 arg5 harg5 arg6 harg6 arg7 harg7 arg8 harg8 arg9 harg9 arg10 harg10 arg11 harg11 arg12 harg12 x0 x1 x2 x3 x4 = lift (col (i 0).val 0 fun H t => dls Q K V D H t (256 * (i 0).val)) := by
  unfold kernelRun0_A.sl.r_10
  rw [no_trips', st_k0_t2.eq_1]
  have hL := (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hi h1 h2).1
  simp only [hL]
  rfl

include h0 h3 h4 hi h1 h2 in
theorem r_11_lift : kernelRun0_A.sl.r_11 (F := Ideal) c i arg1 harg1 arg2 harg2 arg3 harg3 arg4 harg4 arg5 harg5 arg6 harg6 arg7 harg7 arg8 harg8 arg9 harg9 arg10 harg10 arg11 harg11 arg12 harg12 x0 x1 x2 x3 x4 = lift (gathered Q K V D (i 0).val 0 (i 0).val) := by
  unfold kernelRun0_A.sl.r_11
  rw [no_trips', st_k0_t2.eq_1]
  have hL := (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hi h1 h2).1
  simp only [hL]
  rfl

include h0 h3 h4 hi h1 h2 in
theorem r_12_lift : kernelRun0_A.sl.r_12 (F := Ideal) c i arg1 harg1 arg2 harg2 arg3 harg3 arg4 harg4 arg5 harg5 arg6 harg6 arg7 harg7 arg8 harg8 arg9 harg9 arg10 harg10 arg11 harg11 arg12 harg12 x0 x1 x2 x3 x4 = lift (col (i 0).val 1 fun H t => lms Q K H t (256 * (i 0).val)) := by
  unfold kernelRun0_A.sl.r_12
  rw [no_trips', st_k0_t2.eq_1]
  have hL := (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hi h1 h2).1
  simp only [hL]
  rfl

include h0 h3 h4 hi h1 h2 in
theorem r_13_lift : kernelRun0_A.sl.r_13 (F := Ideal) c i arg1 harg1 arg2 harg2 arg3 harg3 arg4 harg4 arg5 harg5 arg6 harg6 arg7 harg7 arg8 harg8 arg9 harg9 arg10 harg10 arg11 harg11 arg12 harg12 x0 x1 x2 x3 x4 = lift (col (i 0).val 1 fun H t => dls Q K V D H t (256 * (i 0).val)) := by
  unfold kernelRun0_A.sl.r_13
  rw [no_trips', st_k0_t2.eq_1]
  have hL := (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hi h1 h2).1
  simp only [hL]
  rfl

include h0 h3 h4 hi h1 h2 in
theorem r_14_lift : kernelRun0_A.sl.r_14 (F := Ideal) c i arg1 harg1 arg2 harg2 arg3 harg3 arg4 harg4 arg5 harg5 arg6 harg6 arg7 harg7 arg8 harg8 arg9 harg9 arg10 harg10 arg11 harg11 arg12 harg12 x0 x1 x2 x3 x4 = lift (gathered Q K V D (i 0).val 1 (i 0).val) := by
  unfold kernelRun0_A.sl.r_14
  rw [no_trips', st_k0_t2.eq_1]
  have hL := (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hi h1 h2).1
  simp only [hL]
  rfl

theorem lower_own : k0_pay63 (F := Ideal) kernelRun0_A.sl.v7 kernelRun0_A.sl.v8 = lift lower := lower_table

include h0 h3 h4 hi h1 h2 in
theorem r_19_lift : kernelRun0_A.sl.r_19 (F := Ideal) c i arg1 harg1 arg2 harg2 arg3 harg3 arg4 harg4 arg5 harg5 arg6 harg6 arg7 harg7 arg8 harg8 arg9 harg9 arg10 harg10 arg11 harg11 arg12 harg12 x0 x1 x2 x3 x4 = lift (leaveSum below (rows (i 0).val 0 fun t c => Q t c * (1 / 8)) (tile K (i 0).val 0) (col (i 0).val 0 fun H t => lms Q K H t (256 * (i 0).val))) := by
  unfold kernelRun0_A.sl.r_19
  rw [no_trips', st_k0_t2.eq_1]
  have hL := (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hi h1 h2).1
  simp only [hL]
  rw [read_tile_bf16 _ _ K (first_keys h1) _ _ 0 (off5_value i), r_lift h0]
  exact pay86 _ _ _

include h0 h3 h4 hi h1 h2 in
/-- What the queries have collected once their own block is in. -/
theorem r_23_lift : kernelRun0_A.sl.r_23 (F := Ideal) c i arg1 harg1 arg2 harg2 arg3 harg3 arg4 harg4 arg5 harg5 arg6 harg6 arg7 harg7 arg8 harg8 arg9 harg9 arg10 harg10 arg11 harg11 arg12 harg12 x0 x1 x2 x3 x4 = lift (gathered Q K V D (i 0).val 0 ((i 0).val + 1)) := by
  have hM := admits_below (i 0).val
  unfold kernelRun0_A.sl.r_23 kernelRun0_A.sl.r_21
  simp only [kernelRun0_A.sl.r_15, kernelRun0_A.sl.r_16, kernelRun0_A.sl.r_17, kernelRun0_A.sl.r_18, kernelRun0_A.sl.r_20, kernelRun0_A.sl.r_22, kernelRun0_A.sl.r_24, kernelRun0_A.sl.r_25, kernelRun0_A.sl.r_26, kernelRun0_A.sl.r_27, kernelRun0_A.sl.r_28, r_lift h0, r_1_lift h0, r_3_lift h3, r_4_lift h4, r_6_lift h0, r_7_lift h0, r_8_lift h3, r_9_lift h4, lower_own, upper_table, r_10_lift h0 h3 h4 hi h1 h2, r_11_lift h0 h3 h4 hi h1 h2, r_12_lift h0 h3 h4 hi h1 h2, r_13_lift h0 h3 h4 hi h1 h2, r_14_lift h0 h3 h4 hi h1 h2, r_19_lift h0 h3 h4 hi h1 h2, read_tile_bf16 _ _ K (first_keys h1) _ _ 0 (off5_value i), read_tile_bf16 _ _ K (first_keys h1) _ _ 1 (off6_value i), read_tile_bf16 _ _ V (first_values h2) _ _ 0 (off5_value i), read_tile_bf16 _ _ V (first_values h2) _ _ 1 (off6_value i), pay83, pay84, pay90, pay93]
  simp only [weight_att Q K hM, leaveSum_lms Q K hM, dlog_dl, dlogSum_dls, dscore_dz Q K V D hM, gather_dqs, dk_tile, dv_tile]

include h0 h3 h4 hi h1 h2 in
theorem r_29_lift : kernelRun0_A.sl.r_29 (F := Ideal) c i arg1 harg1 arg2 harg2 arg3 harg3 arg4 harg4 arg5 harg5 arg6 harg6 arg7 harg7 arg8 harg8 arg9 harg9 arg10 harg10 arg11 harg11 arg12 harg12 x0 x1 x2 x3 x4 = lift (gathered Q K V D (i 0).val 1 ((i 0).val + 1)) := by
  have hM := admits_below (i 0).val
  unfold kernelRun0_A.sl.r_29
  simp only [kernelRun0_A.sl.r_15, kernelRun0_A.sl.r_16, kernelRun0_A.sl.r_17, kernelRun0_A.sl.r_18, kernelRun0_A.sl.r_20, kernelRun0_A.sl.r_22, kernelRun0_A.sl.r_24, kernelRun0_A.sl.r_25, kernelRun0_A.sl.r_26, kernelRun0_A.sl.r_27, kernelRun0_A.sl.r_28, r_lift h0, r_1_lift h0, r_3_lift h3, r_4_lift h4, r_6_lift h0, r_7_lift h0, r_8_lift h3, r_9_lift h4, lower_own, upper_table, r_10_lift h0 h3 h4 hi h1 h2, r_11_lift h0 h3 h4 hi h1 h2, r_12_lift h0 h3 h4 hi h1 h2, r_13_lift h0 h3 h4 hi h1 h2, r_14_lift h0 h3 h4 hi h1 h2, read_tile_bf16 _ _ K (first_keys h1) _ _ 0 (off5_value i), read_tile_bf16 _ _ K (first_keys h1) _ _ 1 (off6_value i), read_tile_bf16 _ _ V (first_values h2) _ _ 0 (off5_value i), read_tile_bf16 _ _ V (first_values h2) _ _ 1 (off6_value i), pay94, pay95, pay97, pay101]
  simp only [weight_att Q K hM, leaveSum_lms Q K hM, dlog_dl, dlogSum_dls, dscore_dz Q K V D hM, gather_dqs, dk_tile, dv_tile]

include h0 h3 h4 hi h1 h2 in
theorem v267_lift : kernelRun0_A.sl.v267 (F := Ideal) c i arg1 harg1 arg2 harg2 arg3 harg3 arg4 harg4 arg5 harg5 arg6 harg6 arg7 harg7 arg8 harg8 arg9 harg9 arg10 harg10 arg11 harg11 arg12 harg12 x0 x1 x2 x3 x4 = lift (tile (held (dks Q K V D) (i 0).val (i 0).val) (i 0).val 0) := by
  unfold kernelRun0_A.sl.v267
  rw [no_trips', st_k0_t2.eq_1]
  exact read_tile _ _ _ ((congrArg (arg11.view.read (Elt Ideal)) (View.writes_append arg11.view _ _ _)).trans (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hi h1 h2).2.1) _ _ 0 (off5_value i)

include h0 h3 h4 hi h1 h2 in
theorem v235_lift : kernelRun0_A.sl.v235 (F := Ideal) c i arg1 harg1 arg2 harg2 arg3 harg3 arg4 harg4 arg5 harg5 arg6 harg6 arg7 harg7 arg8 harg8 arg9 harg9 arg10 harg10 arg11 harg11 arg12 harg12 x0 x1 x2 x3 x4 = lift (tile (held (dvs Q K D) (i 0).val (i 0).val) (i 0).val 0) := by
  unfold kernelRun0_A.sl.v235
  rw [no_trips', st_k0_t2.eq_1]
  exact read_tile _ _ _ ((congrArg (arg12.view.read (Elt Ideal)) (View.writes_append arg12.view _ _ _)).trans (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hi h1 h2).2.2) _ _ 0 (off5_value i)

include h0 h3 h4 hi h1 h2 in
theorem dk_half : arg11.view.read (Elt Ideal) (arg11.view.writes (Elt Ideal) (arg11.view.junk) (kernelRun0_A.sl.HS2_1_1 c i arg1 harg1 arg2 harg2 arg3 harg3 arg4 harg4 arg5 harg5 arg6 harg6 arg7 harg7 arg8 harg8 arg9 harg9 arg10 harg10 arg11 harg11 arg12 harg12 x0 x1 x2 x3 x4))
    = lift (arr (half (dks Q K V D) (i 0).val)) := by
  have hM := admits_below (i 0).val
  unfold kernelRun0_A.sl.HS2_1_1
  rw [no_trips', st_k0_t2.eq_1]
  refine write_tile _ _ _ _ _ ((congrArg (arg11.view.read (Elt Ideal)) (View.writes_append arg11.view _ _ _)).trans (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hi h1 h2).2.1) _ _ 0 (off5_value i) _ ?_ fun s c _ h => half_rest _ _ _ _ h
  rw [half_first]
  unfold kernelRun0_A.sl.r_22
  simp only [kernelRun0_A.sl.r_15, kernelRun0_A.sl.r_16, kernelRun0_A.sl.r_17, kernelRun0_A.sl.r_18, kernelRun0_A.sl.r_20, kernelRun0_A.sl.r_22, kernelRun0_A.sl.r_24, kernelRun0_A.sl.r_25, kernelRun0_A.sl.r_26, kernelRun0_A.sl.r_27, kernelRun0_A.sl.r_28, r_lift h0, r_1_lift h0, r_3_lift h3, r_4_lift h4, r_6_lift h0, r_7_lift h0, r_8_lift h3, r_9_lift h4, lower_own, upper_table, r_10_lift h0 h3 h4 hi h1 h2, r_11_lift h0 h3 h4 hi h1 h2, r_12_lift h0 h3 h4 hi h1 h2, r_13_lift h0 h3 h4 hi h1 h2, r_14_lift h0 h3 h4 hi h1 h2, r_19_lift h0 h3 h4 hi h1 h2, v267_lift h0 h3 h4 hi h1 h2, read_tile_bf16 _ _ K (first_keys h1) _ _ 0 (off5_value i), read_tile_bf16 _ _ K (first_keys h1) _ _ 1 (off6_value i), read_tile_bf16 _ _ V (first_values h2) _ _ 0 (off5_value i), read_tile_bf16 _ _ V (first_values h2) _ _ 1 (off6_value i), pay83, pay84, pay91]
  simp only [weight_att Q K hM, leaveSum_lms Q K hM, dlog_dl, dlogSum_dls, dscore_dz Q K V D hM, gather_dqs, dk_tile, dv_tile]

include h0 h3 h4 hi h1 h2 in
theorem dv_half : arg12.view.read (Elt Ideal) (arg12.view.writes (Elt Ideal) (arg12.view.junk) (kernelRun0_A.sl.HS3_1_1 c i arg1 harg1 arg2 harg2 arg3 harg3 arg4 harg4 arg5 harg5 arg6 harg6 arg7 harg7 arg8 harg8 arg9 harg9 arg10 harg10 arg11 harg11 arg12 harg12 x0 x1 x2 x3 x4))
    = lift (arr (half (dvs Q K D) (i 0).val)) := by
  have hM := admits_below (i 0).val
  unfold kernelRun0_A.sl.HS3_1_1
  rw [no_trips', st_k0_t2.eq_1]
  refine write_tile _ _ _ _ _ ((congrArg (arg12.view.read (Elt Ideal)) (View.writes_append arg12.view _ _ _)).trans (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hi h1 h2).2.2) _ _ 0 (off5_value i) _ ?_ fun s c _ h => half_rest _ _ _ _ h
  rw [half_first]
  simp only [kernelRun0_A.sl.r_15, kernelRun0_A.sl.r_16, kernelRun0_A.sl.r_17, kernelRun0_A.sl.r_18, kernelRun0_A.sl.r_20, kernelRun0_A.sl.r_22, kernelRun0_A.sl.r_24, kernelRun0_A.sl.r_25, kernelRun0_A.sl.r_26, kernelRun0_A.sl.r_27, kernelRun0_A.sl.r_28, r_lift h0, r_1_lift h0, r_3_lift h3, r_4_lift h4, r_6_lift h0, r_7_lift h0, r_8_lift h3, r_9_lift h4, lower_own, upper_table, r_10_lift h0 h3 h4 hi h1 h2, r_11_lift h0 h3 h4 hi h1 h2, r_12_lift h0 h3 h4 hi h1 h2, r_13_lift h0 h3 h4 hi h1 h2, r_14_lift h0 h3 h4 hi h1 h2, r_19_lift h0 h3 h4 hi h1 h2, v235_lift h0 h3 h4 hi h1 h2, read_tile_bf16 _ _ K (first_keys h1) _ _ 0 (off5_value i), read_tile_bf16 _ _ K (first_keys h1) _ _ 1 (off6_value i), read_tile_bf16 _ _ V (first_values h2) _ _ 0 (off5_value i), read_tile_bf16 _ _ V (first_values h2) _ _ 1 (off6_value i), pay83, pay84, pay89]
  simp only [weight_att Q K hM, leaveSum_lms Q K hM, dlog_dl, dlogSum_dls, dscore_dz Q K V D hM, gather_dqs, dk_tile, dv_tile]

include h0 h3 h4 hi h1 h2 in
/-- The keys' gradient left for the next query block. -/
theorem dk_left : sout0_A_2 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 = lift (arr (dks Q K V D (256 * ((i 0).val + 1)))) := by
  have hM := admits_below (i 0).val
  have e := dk_half (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hi h1 h2
  rw [← dk_whole]
  unfold sout0_A_2 kernelRun0_A
  refine (View.read_writes_junk_eq_canon _ _).trans ((View.read_writes_junk_eq_canon arg11.view _).symm.trans ?_)
  dsimp only
  refine write_tile _ _ _ _ _ e _ _ 1 (off6_value i) _ ?_ fun s c hc h => whole_rest _ _ _ _ hc h
  rw [read_tile _ _ _ e _ _ 1 (off6_value i), half_second]
  simp only [kernelRun0_A.sl.r_15, kernelRun0_A.sl.r_16, kernelRun0_A.sl.r_17, kernelRun0_A.sl.r_18, kernelRun0_A.sl.r_20, kernelRun0_A.sl.r_22, kernelRun0_A.sl.r_24, kernelRun0_A.sl.r_25, kernelRun0_A.sl.r_26, kernelRun0_A.sl.r_27, kernelRun0_A.sl.r_28, r_lift h0, r_1_lift h0, r_3_lift h3, r_4_lift h4, r_6_lift h0, r_7_lift h0, r_8_lift h3, r_9_lift h4, lower_own, upper_table, r_10_lift h0 h3 h4 hi h1 h2, r_11_lift h0 h3 h4 hi h1 h2, r_12_lift h0 h3 h4 hi h1 h2, r_13_lift h0 h3 h4 hi h1 h2, r_14_lift h0 h3 h4 hi h1 h2, read_tile_bf16 _ _ K (first_keys h1) _ _ 0 (off5_value i), read_tile_bf16 _ _ K (first_keys h1) _ _ 1 (off6_value i), read_tile_bf16 _ _ V (first_values h2) _ _ 0 (off5_value i), read_tile_bf16 _ _ V (first_values h2) _ _ 1 (off6_value i), pay94, pay95, pay97, pay100]
  simp only [weight_att Q K hM, leaveSum_lms Q K hM, dlog_dl, dlogSum_dls, dscore_dz Q K V D hM, gather_dqs, dk_tile, dv_tile]

include h0 h3 h4 hi h1 h2 in
/-- The values' gradient left for the next query block. -/
theorem dv_left : sout0_A_3 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 = lift (arr (dvs Q K D (256 * ((i 0).val + 1)))) := by
  have hM := admits_below (i 0).val
  have e := dv_half (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hi h1 h2
  rw [← dv_whole]
  unfold sout0_A_3 kernelRun0_A
  refine (View.read_writes_junk_eq_canon _ _).trans ((View.read_writes_junk_eq_canon arg12.view _).symm.trans ?_)
  dsimp only
  refine write_tile _ _ _ _ _ e _ _ 1 (off6_value i) _ ?_ fun s c hc h => whole_rest _ _ _ _ hc h
  rw [read_tile _ _ _ e _ _ 1 (off6_value i), half_second]
  simp only [kernelRun0_A.sl.r_15, kernelRun0_A.sl.r_16, kernelRun0_A.sl.r_17, kernelRun0_A.sl.r_18, kernelRun0_A.sl.r_20, kernelRun0_A.sl.r_22, kernelRun0_A.sl.r_24, kernelRun0_A.sl.r_25, kernelRun0_A.sl.r_26, kernelRun0_A.sl.r_27, kernelRun0_A.sl.r_28, r_lift h0, r_1_lift h0, r_3_lift h3, r_4_lift h4, r_6_lift h0, r_7_lift h0, r_8_lift h3, r_9_lift h4, lower_own, upper_table, r_10_lift h0 h3 h4 hi h1 h2, r_11_lift h0 h3 h4 hi h1 h2, r_12_lift h0 h3 h4 hi h1 h2, r_13_lift h0 h3 h4 hi h1 h2, r_14_lift h0 h3 h4 hi h1 h2, read_tile_bf16 _ _ K (first_keys h1) _ _ 0 (off5_value i), read_tile_bf16 _ _ K (first_keys h1) _ _ 1 (off6_value i), read_tile_bf16 _ _ V (first_values h2) _ _ 0 (off5_value i), read_tile_bf16 _ _ V (first_values h2) _ _ 1 (off6_value i), pay96, pay98]
  simp only [weight_att Q K hM, leaveSum_lms Q K hM, dlog_dl, dlogSum_dls, dscore_dz Q K V D hM, gather_dqs, dk_tile, dv_tile]

include h0 h3 h4 hi h1 h2 in
/-- The queries' gradient of this block. -/
theorem dq_block : out0_A_5 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 = lift (fun j => dqs Q K V D 2048 (256 * (i 0).val + (j 0).val) (j 1).val ((j 1).val / 64)) := by
  unfold out0_A_5 kernelRun0_A
  dsimp only
  have e0 : k0_pay1 (F := Ideal) k0_pay60 (kernelRun0_A.sl.r_23 c i arg1 harg1 arg2 harg2 arg3 harg3 arg4 harg4 arg5 harg5 arg6 harg6 arg7 harg7 arg8 harg8 arg9 harg9 arg10 harg10 arg11 harg11 arg12 harg12 x0 x1 x2 x3 x4) (kernelRun0_A.sl.r_30 c i arg1 harg1 arg2 harg2 arg3 harg3 arg4 harg4 arg5 harg5 arg6 harg6 arg7 harg7 arg8 harg8 arg9 harg9 arg10 harg10 arg11 harg11 arg12 harg12 x0 x1 x2 x3 x4) (kernelRun0_A.sl.r_31 c i arg1 harg1 arg2 harg2 arg3 harg3 arg4 harg4 arg5 harg5 arg6 harg6 arg7 harg7 arg8 harg8 arg9 harg9 arg10 harg10 arg11 harg11 arg12 harg12 x0 x1 x2 x3 x4) (k0_pay104 k0_pay59)
      = lift fun j => dqs Q K V D (256 * ((i 0).val + 1)) (256 * (i 0).val + (j 0).val) (256 * 0 + (j 1).val) (4 * 0 + (j 1).val / 64) := by
    simp only [kernelRun0_A.sl.r_30, kernelRun0_A.sl.r_31, r_23_lift h0 h3 h4 hi h1 h2]
    exact unstack1 (fun h r c => dqs Q K V D (256 * ((i 0).val + 1)) (256 * (i 0).val + r) (256 * 0 + c) (4 * 0 + h)) _ rfl
  have e1 : k0_pay2 (F := Ideal) k0_pay58 k0_pay59 k0_pay60 (kernelRun0_A.sl.r_29 c i arg1 harg1 arg2 harg2 arg3 harg3 arg4 harg4 arg5 harg5 arg6 harg6 arg7 harg7 arg8 harg8 arg9 harg9 arg10 harg10 arg11 harg11 arg12 harg12 x0 x1 x2 x3 x4)
      = lift fun j => dqs Q K V D (256 * ((i 0).val + 1)) (256 * (i 0).val + (j 0).val) (256 * 1 + (j 1).val) (4 * 1 + (j 1).val / 64) := by
    simp only [r_29_lift h0 h3 h4 hi h1 h2]
    exact unstack (fun h r c => dqs Q K V D (256 * ((i 0).val + 1)) (256 * (i 0).val + r) (256 * 1 + c) (4 * 1 + h))
  have h := write_queries VO0_5.junk (i 0) _ _ Q K V D e0 e1
  exact h

include h1 in
/-- The keys and values kept for the later query blocks. -/
theorem keys_kept : sout0_A_0 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 = lift (arr K) := by
  unfold sout0_A_0 kernelRun0_A
  exact (View.read_writes_junk_eq_canon _ _).trans ((View.read_writes_junk_eq_canon arg9.view _).symm.trans (first_keys h1))

include h2 in
theorem values_kept : sout0_A_1 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 = lift (arr V) := by
  unfold sout0_A_1 kernelRun0_A
  exact (View.read_writes_junk_eq_canon _ _).trans ((View.read_writes_junk_eq_canon arg10.view _).symm.trans (first_values h2))

end AttnPointA

end
-- ==== Proof.AttnPointB.lean ====
/- One query block of the attention gradient's kernel, neither the first nor the last: what it writes and what it leaves for the next. -/
module

public import proofs.«01_k».proof.Proof.Gen.AttnKernelIdeal.Frame
public import proofs.«01_k».proof.Proof.AttnLoop
public import proofs.«01_k».proof.Proof.AttnOperands
public import proofs.«01_k».proof.Proof.AttnReads
public import Idealize.ShloMosaic.Lib.VecWindow

@[expose] public section

set_option maxRecDepth 16384

noncomputable section

open Idealize.ShloMosaic Idealize.ShloMosaic.TcCoe Idealize.SL.Sem

namespace AttnPointB

open Cert.AttnKernelIdeal Cert.AttnKernelIdeal.Gen AttnLift AttnTile AttnMath AttnLoop AttnOperands AttnReads

variable {c : Dev nD} {i : grid0.Coords} {arg1 : Memref sig .tc .vmem S256x512 .f32} {harg1 : arg1.IsWhole} {arg2 : Memref sig .tc .vmem S2048x512 .f32} {harg2 : arg2.IsWhole} {arg3 : Memref sig .tc .vmem S2048x512 .f32} {harg3 : arg3.IsWhole} {arg4 : Memref sig .tc .vmem S256x512 .f32} {harg4 : arg4.IsWhole} {arg5 : Memref sig .tc .vmem S2x256x256 .f32} {harg5 : arg5.IsWhole} {arg6 : Memref sig .tc .vmem S256x512 .bf16} {harg6 : arg6.IsWhole} {arg7 : Memref sig .tc .vmem S2048x512 .bf16} {harg7 : arg7.IsWhole} {arg8 : Memref sig .tc .vmem S2048x512 .bf16} {harg8 : arg8.IsWhole} {arg9 : Memref sig .tc .vmem S2048x512 .bf16} {harg9 : arg9.IsWhole} {arg10 : Memref sig .tc .vmem S2048x512 .bf16} {harg10 : arg10.IsWhole} {arg11 : Memref sig .tc .vmem S2048x512 .f32} {harg11 : arg11.IsWhole} {arg12 : Memref sig .tc .vmem S2048x512 .f32} {harg12 : arg12.IsWhole} {hc0 : ¬cond0_0 i} {hc1 : ¬cond0_1 i}
  {x0 : Vec Ideal S256x512 .f32} {x1 x2 : Vec Ideal S2048x512 .f32} {x3 : Vec Ideal S256x512 .f32} {x4 : Vec Ideal S2x256x256 .f32} {xs0 xs1 : Vec Ideal S2048x512 .bf16} {xs2 xs3 : Vec Ideal S2048x512 .f32}
  {Q K V D : ℕ → ℕ → ℝ}
  (h0 : x0 = lift (blk (i 0).val Q)) (h3 : x3 = lift (blk (i 0).val D)) (h4 : x4 = lift (tots (i 0).val fun H t => lms Q K H t 2048))
  (hs0 : xs0 = lift (arr K)) (hs1 : xs1 = lift (arr V)) (hs2 : xs2 = lift (arr (dks Q K V D (256 * (i 0).val))))
  (hs3 : xs3 = lift (arr (dvs Q K D (256 * (i 0).val))))

include h0 in
theorem r_lift : kernelRun0_B.sl.r (F := Ideal) c arg1 harg1 x0 = lift (rows (i 0).val 0 fun t c => Q t c * (1 / 8)) := by
  subst h0
  simp only [kernelRun0_B.sl.r, kernelRun0_B.sl.r_2, kernelRun0_B.sl.r_5]
  rw [read_blk _ _ _ _ (harg1.read_unread _) _ 0 rfl]
  exact stack64 (i 0).val 0 Q

include h0 in
theorem r_1_lift : kernelRun0_B.sl.r_1 (F := Ideal) c arg1 harg1 x0 = lift (rows (i 0).val 0 Q) := by
  subst h0
  simp only [kernelRun0_B.sl.r_1, kernelRun0_B.sl.r_2, kernelRun0_B.sl.r_5]
  rw [read_blk _ _ _ _ (harg1.read_unread _) _ 0 rfl]
  exact stack65 (i 0).val 0 Q

include h3 in
theorem r_3_lift : kernelRun0_B.sl.r_3 (F := Ideal) c arg4 harg4 x3 = lift (rows (i 0).val 0 D) := by
  subst h3
  simp only [kernelRun0_B.sl.r_3, kernelRun0_B.sl.r_2, kernelRun0_B.sl.r_5]
  rw [read_blk _ _ _ _ (harg4.read_unread _) _ 0 rfl]
  exact stack66 (i 0).val 0 D

include h4 in
theorem r_4_lift : kernelRun0_B.sl.r_4 (F := Ideal) c arg5 harg5 x4 = lift (col (i 0).val 0 fun H t => lms Q K H t 2048) := by
  subst h4
  simp only [kernelRun0_B.sl.r_4, kernelRun0_B.sl.r_2, kernelRun0_B.sl.r_5]
  rw [read_tots _ _ _ _ (harg5.read_unread _) _ 0 rfl]
  exact totals (i 0).val 0 (fun H t => lms Q K H t 2048)

include h0 in
theorem r_6_lift : kernelRun0_B.sl.r_6 (F := Ideal) c arg1 harg1 x0 = lift (rows (i 0).val 1 fun t c => Q t c * (1 / 8)) := by
  subst h0
  simp only [kernelRun0_B.sl.r_6, kernelRun0_B.sl.r_2, kernelRun0_B.sl.r_5]
  rw [read_blk _ _ _ _ (harg1.read_unread _) _ 1 rfl]
  exact stack68 (i 0).val 1 Q

include h0 in
theorem r_7_lift : kernelRun0_B.sl.r_7 (F := Ideal) c arg1 harg1 x0 = lift (rows (i 0).val 1 Q) := by
  subst h0
  simp only [kernelRun0_B.sl.r_7, kernelRun0_B.sl.r_2, kernelRun0_B.sl.r_5]
  rw [read_blk _ _ _ _ (harg1.read_unread _) _ 1 rfl]
  exact stack69 (i 0).val 1 Q

include h3 in
theorem r_8_lift : kernelRun0_B.sl.r_8 (F := Ideal) c arg4 harg4 x3 = lift (rows (i 0).val 1 D) := by
  subst h3
  simp only [kernelRun0_B.sl.r_8, kernelRun0_B.sl.r_2, kernelRun0_B.sl.r_5]
  rw [read_blk _ _ _ _ (harg4.read_unread _) _ 1 rfl]
  exact stack70 (i 0).val 1 D

include h4 in
theorem r_9_lift : kernelRun0_B.sl.r_9 (F := Ideal) c arg5 harg5 x4 = lift (col (i 0).val 1 fun H t => lms Q K H t 2048) := by
  subst h4
  simp only [kernelRun0_B.sl.r_9, kernelRun0_B.sl.r_2, kernelRun0_B.sl.r_5]
  rw [read_tots _ _ _ _ (harg5.read_unread _) _ 1 rfl]
  exact totals71 (i 0).val 1 (fun H t => lms Q K H t 2048)

theorem init_value (Q K V D : ℕ → ℕ → ℝ) (a : ℕ) :
    (k0_pay72 (F := Ideal), k0_pay72 (F := Ideal), k0_pay73 kernelRun0_B.sl.cst_45, k0_pay72 (F := Ideal), k0_pay72 (F := Ideal), k0_pay74 (F := Ideal)) = carried Q K V D a 0 := by
  have e73 : k0_pay73 (F := Ideal) kernelRun0_B.sl.cst_45 = lift fun _ => 0 := splat_zero
  rw [zeros72, zeros74, e73]
  unfold carried
  have ec : ∀ g, (fun _ => 0 : Col) = col a g fun H t => lms Q K H t (256 * 0) := fun g => by
    funext i; simp [col, lms]
  have ed : ∀ g, (fun _ => 0 : Col) = col a g fun H t => dls Q K V D H t (256 * 0) := fun g => by
    funext i; simp [col, dls]
  have eg : ∀ g, (fun _ => 0 : Rows) = gathered Q K V D a g 0 := fun g => by
    funext i; simp [gathered, dqs]
  rw [← ec, ← ec, ← ed, ← ed, ← eg, ← eg]

include h0 h3 h4 hs0 hs1 hs2 hs3 in
theorem loop_value : (st_k0_t1 (F := Ideal) Variants.none c none i arg1 harg1 arg2 harg2 arg3 harg3 arg4 harg4 arg5 harg5 arg6 harg6 arg7 harg7 arg8 harg8 arg9 harg9 arg10 harg10 arg11 harg11 arg12 harg12 (BitVec.ofNat 32 (i 0).val) k0_pay56 (k0_pay62 k0_pay61) (k0_pay63 kernelRun0_B.sl.v7 kernelRun0_B.sl.v8) (kernelRun0_B.sl.r c arg1 harg1 x0) (kernelRun0_B.sl.r_1 c arg1 harg1 x0) (kernelRun0_B.sl.r_3 c arg4 harg4 x3) (kernelRun0_B.sl.r_4 c arg5 harg5 x4) (kernelRun0_B.sl.r_6 c arg1 harg1 x0) (kernelRun0_B.sl.r_7 c arg1 harg1 x0) (kernelRun0_B.sl.r_8 c arg4 harg4 x3) (kernelRun0_B.sl.r_9 c arg5 harg5 x4) k0_pay72 kernelRun0_B.sl.cst_45 (harg9.unread xs0) (harg10.unread xs1) (harg11.unread xs2) (harg12.unread xs3) (k0_pay72, k0_pay72, k0_pay73 kernelRun0_B.sl.cst_45, k0_pay72, k0_pay72, k0_pay74) (Scf.trips (k0_t1_loop i).lb (k0_t1_loop i).ub (k0_t1_loop i).st)).1 = carried Q K V D (i 0).val (i 0).val
    ∧ arg11.view.read (Elt Ideal) (arg11.view.writes (Elt Ideal) (harg11.unread xs2) (st_k0_t1 (F := Ideal) Variants.none c none i arg1 harg1 arg2 harg2 arg3 harg3 arg4 harg4 arg5 harg5 arg6 harg6 arg7 harg7 arg8 harg8 arg9 harg9 arg10 harg10 arg11 harg11 arg12 harg12 (BitVec.ofNat 32 (i 0).val) k0_pay56 (k0_pay62 k0_pay61) (k0_pay63 kernelRun0_B.sl.v7 kernelRun0_B.sl.v8) (kernelRun0_B.sl.r c arg1 harg1 x0) (kernelRun0_B.sl.r_1 c arg1 harg1 x0) (kernelRun0_B.sl.r_3 c arg4 harg4 x3) (kernelRun0_B.sl.r_4 c arg5 harg5 x4) (kernelRun0_B.sl.r_6 c arg1 harg1 x0) (kernelRun0_B.sl.r_7 c arg1 harg1 x0) (kernelRun0_B.sl.r_8 c arg4 harg4 x3) (kernelRun0_B.sl.r_9 c arg5 harg5 x4) k0_pay72 kernelRun0_B.sl.cst_45 (harg9.unread xs0) (harg10.unread xs1) (harg11.unread xs2) (harg12.unread xs3) (k0_pay72, k0_pay72, k0_pay73 kernelRun0_B.sl.cst_45, k0_pay72, k0_pay72, k0_pay74) (Scf.trips (k0_t1_loop i).lb (k0_t1_loop i).ub (k0_t1_loop i).st)).2.1) = lift (arr (held (dks Q K V D) (i 0).val (i 0).val))
    ∧ arg12.view.read (Elt Ideal) (arg12.view.writes (Elt Ideal) (harg12.unread xs3) (st_k0_t1 (F := Ideal) Variants.none c none i arg1 harg1 arg2 harg2 arg3 harg3 arg4 harg4 arg5 harg5 arg6 harg6 arg7 harg7 arg8 harg8 arg9 harg9 arg10 harg10 arg11 harg11 arg12 harg12 (BitVec.ofNat 32 (i 0).val) k0_pay56 (k0_pay62 k0_pay61) (k0_pay63 kernelRun0_B.sl.v7 kernelRun0_B.sl.v8) (kernelRun0_B.sl.r c arg1 harg1 x0) (kernelRun0_B.sl.r_1 c arg1 harg1 x0) (kernelRun0_B.sl.r_3 c arg4 harg4 x3) (kernelRun0_B.sl.r_4 c arg5 harg5 x4) (kernelRun0_B.sl.r_6 c arg1 harg1 x0) (kernelRun0_B.sl.r_7 c arg1 harg1 x0) (kernelRun0_B.sl.r_8 c arg4 harg4 x3) (kernelRun0_B.sl.r_9 c arg5 harg5 x4) k0_pay72 kernelRun0_B.sl.cst_45 (harg9.unread xs0) (harg10.unread xs1) (harg11.unread xs2) (harg12.unread xs3) (k0_pay72, k0_pay72, k0_pay73 kernelRun0_B.sl.cst_45, k0_pay72, k0_pay72, k0_pay74) (Scf.trips (k0_t1_loop i).lb (k0_t1_loop i).ub (k0_t1_loop i).st)).2.2) = lift (arr (held (dvs Q K D) (i 0).val (i 0).val)) :=
  loop_end Q K V D upper_table lower_table (r_lift h0) (r_1_lift h0) (r_3_lift h3) (r_4_lift h4) (r_6_lift h0) (r_7_lift h0) (r_8_lift h3) (r_9_lift h4) ((harg9.read_unread _).trans hs0) ((harg10.read_unread _).trans hs1) (init_value _ _ _ _ _) ((harg11.read_unread _).trans hs2) ((harg12.read_unread _).trans hs3)

include h0 h3 h4 hs0 hs1 hs2 hs3 in
theorem r_10_lift : kernelRun0_B.sl.r_10 (F := Ideal) c i arg1 harg1 arg2 harg2 arg3 harg3 arg4 harg4 arg5 harg5 arg6 harg6 arg7 harg7 arg8 harg8 arg9 harg9 arg10 harg10 arg11 harg11 arg12 harg12 x0 x3 x4 xs0 xs1 xs2 xs3 = lift (col (i 0).val 0 fun H t => dls Q K V D H t (256 * (i 0).val)) := by
  unfold kernelRun0_B.sl.r_10
  rw [no_trips', st_k0_t2.eq_1]
  have hL := (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3).1
  simp only [hL]
  rfl

include h0 h3 h4 hs0 hs1 hs2 hs3 in
theorem r_11_lift : kernelRun0_B.sl.r_11 (F := Ideal) c i arg1 harg1 arg2 harg2 arg3 harg3 arg4 harg4 arg5 harg5 arg6 harg6 arg7 harg7 arg8 harg8 arg9 harg9 arg10 harg10 arg11 harg11 arg12 harg12 x0 x3 x4 xs0 xs1 xs2 xs3 = lift (gathered Q K V D (i 0).val 0 (i 0).val) := by
  unfold kernelRun0_B.sl.r_11
  rw [no_trips', st_k0_t2.eq_1]
  have hL := (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3).1
  simp only [hL]
  rfl

include h0 h3 h4 hs0 hs1 hs2 hs3 in
theorem r_12_lift : kernelRun0_B.sl.r_12 (F := Ideal) c i arg1 harg1 arg2 harg2 arg3 harg3 arg4 harg4 arg5 harg5 arg6 harg6 arg7 harg7 arg8 harg8 arg9 harg9 arg10 harg10 arg11 harg11 arg12 harg12 x0 x3 x4 xs0 xs1 xs2 xs3 = lift (col (i 0).val 1 fun H t => lms Q K H t (256 * (i 0).val)) := by
  unfold kernelRun0_B.sl.r_12
  rw [no_trips', st_k0_t2.eq_1]
  have hL := (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3).1
  simp only [hL]
  rfl

include h0 h3 h4 hs0 hs1 hs2 hs3 in
theorem r_13_lift : kernelRun0_B.sl.r_13 (F := Ideal) c i arg1 harg1 arg2 harg2 arg3 harg3 arg4 harg4 arg5 harg5 arg6 harg6 arg7 harg7 arg8 harg8 arg9 harg9 arg10 harg10 arg11 harg11 arg12 harg12 x0 x3 x4 xs0 xs1 xs2 xs3 = lift (col (i 0).val 1 fun H t => dls Q K V D H t (256 * (i 0).val)) := by
  unfold kernelRun0_B.sl.r_13
  rw [no_trips', st_k0_t2.eq_1]
  have hL := (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3).1
  simp only [hL]
  rfl

include h0 h3 h4 hs0 hs1 hs2 hs3 in
theorem r_14_lift : kernelRun0_B.sl.r_14 (F := Ideal) c i arg1 harg1 arg2 harg2 arg3 harg3 arg4 harg4 arg5 harg5 arg6 harg6 arg7 harg7 arg8 harg8 arg9 harg9 arg10 harg10 arg11 harg11 arg12 harg12 x0 x3 x4 xs0 xs1 xs2 xs3 = lift (gathered Q K V D (i 0).val 1 (i 0).val) := by
  unfold kernelRun0_B.sl.r_14
  rw [no_trips', st_k0_t2.eq_1]
  have hL := (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3).1
  simp only [hL]
  rfl

theorem lower_own : k0_pay63 (F := Ideal) kernelRun0_B.sl.v7 kernelRun0_B.sl.v8 = lift lower := lower_table

include h0 h3 h4 hs0 hs1 hs2 hs3 in
theorem r_19_lift : kernelRun0_B.sl.r_19 (F := Ideal) c i arg1 harg1 arg2 harg2 arg3 harg3 arg4 harg4 arg5 harg5 arg6 harg6 arg7 harg7 arg8 harg8 arg9 harg9 arg10 harg10 arg11 harg11 arg12 harg12 x0 x3 x4 xs0 xs1 xs2 xs3 = lift (leaveSum below (rows (i 0).val 0 fun t c => Q t c * (1 / 8)) (tile K (i 0).val 0) (col (i 0).val 0 fun H t => lms Q K H t (256 * (i 0).val))) := by
  unfold kernelRun0_B.sl.r_19
  rw [no_trips', st_k0_t2.eq_1]
  have hL := (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3).1
  simp only [hL]
  rw [read_tile_bf16 _ _ K ((harg9.read_unread _).trans hs0) _ _ 0 (off5_value i), r_lift h0]
  exact pay86 _ _ _

include h0 h3 h4 hs0 hs1 hs2 hs3 in
/-- What the queries have collected once their own block is in. -/
theorem r_23_lift : kernelRun0_B.sl.r_23 (F := Ideal) c i arg1 harg1 arg2 harg2 arg3 harg3 arg4 harg4 arg5 harg5 arg6 harg6 arg7 harg7 arg8 harg8 arg9 harg9 arg10 harg10 arg11 harg11 arg12 harg12 x0 x3 x4 xs0 xs1 xs2 xs3 = lift (gathered Q K V D (i 0).val 0 ((i 0).val + 1)) := by
  have hM := admits_below (i 0).val
  unfold kernelRun0_B.sl.r_23 kernelRun0_B.sl.r_21
  simp only [kernelRun0_B.sl.r_15, kernelRun0_B.sl.r_16, kernelRun0_B.sl.r_17, kernelRun0_B.sl.r_18, kernelRun0_B.sl.r_20, kernelRun0_B.sl.r_22, kernelRun0_B.sl.r_24, kernelRun0_B.sl.r_25, kernelRun0_B.sl.r_26, kernelRun0_B.sl.r_27, kernelRun0_B.sl.r_28, r_lift h0, r_1_lift h0, r_3_lift h3, r_4_lift h4, r_6_lift h0, r_7_lift h0, r_8_lift h3, r_9_lift h4, lower_own, upper_table, r_10_lift h0 h3 h4 hs0 hs1 hs2 hs3, r_11_lift h0 h3 h4 hs0 hs1 hs2 hs3, r_12_lift h0 h3 h4 hs0 hs1 hs2 hs3, r_13_lift h0 h3 h4 hs0 hs1 hs2 hs3, r_14_lift h0 h3 h4 hs0 hs1 hs2 hs3, r_19_lift h0 h3 h4 hs0 hs1 hs2 hs3, read_tile_bf16 _ _ K ((harg9.read_unread _).trans hs0) _ _ 0 (off5_value i), read_tile_bf16 _ _ K ((harg9.read_unread _).trans hs0) _ _ 1 (off6_value i), read_tile_bf16 _ _ V ((harg10.read_unread _).trans hs1) _ _ 0 (off5_value i), read_tile_bf16 _ _ V ((harg10.read_unread _).trans hs1) _ _ 1 (off6_value i), pay83, pay84, pay90, pay93]
  simp only [weight_att Q K hM, leaveSum_lms Q K hM, dlog_dl, dlogSum_dls, dscore_dz Q K V D hM, gather_dqs, dk_tile, dv_tile]

include h0 h3 h4 hs0 hs1 hs2 hs3 in
theorem r_29_lift : kernelRun0_B.sl.r_29 (F := Ideal) c i arg1 harg1 arg2 harg2 arg3 harg3 arg4 harg4 arg5 harg5 arg6 harg6 arg7 harg7 arg8 harg8 arg9 harg9 arg10 harg10 arg11 harg11 arg12 harg12 x0 x3 x4 xs0 xs1 xs2 xs3 = lift (gathered Q K V D (i 0).val 1 ((i 0).val + 1)) := by
  have hM := admits_below (i 0).val
  unfold kernelRun0_B.sl.r_29
  simp only [kernelRun0_B.sl.r_15, kernelRun0_B.sl.r_16, kernelRun0_B.sl.r_17, kernelRun0_B.sl.r_18, kernelRun0_B.sl.r_20, kernelRun0_B.sl.r_22, kernelRun0_B.sl.r_24, kernelRun0_B.sl.r_25, kernelRun0_B.sl.r_26, kernelRun0_B.sl.r_27, kernelRun0_B.sl.r_28, r_lift h0, r_1_lift h0, r_3_lift h3, r_4_lift h4, r_6_lift h0, r_7_lift h0, r_8_lift h3, r_9_lift h4, lower_own, upper_table, r_10_lift h0 h3 h4 hs0 hs1 hs2 hs3, r_11_lift h0 h3 h4 hs0 hs1 hs2 hs3, r_12_lift h0 h3 h4 hs0 hs1 hs2 hs3, r_13_lift h0 h3 h4 hs0 hs1 hs2 hs3, r_14_lift h0 h3 h4 hs0 hs1 hs2 hs3, read_tile_bf16 _ _ K ((harg9.read_unread _).trans hs0) _ _ 0 (off5_value i), read_tile_bf16 _ _ K ((harg9.read_unread _).trans hs0) _ _ 1 (off6_value i), read_tile_bf16 _ _ V ((harg10.read_unread _).trans hs1) _ _ 0 (off5_value i), read_tile_bf16 _ _ V ((harg10.read_unread _).trans hs1) _ _ 1 (off6_value i), pay94, pay95, pay97, pay101]
  simp only [weight_att Q K hM, leaveSum_lms Q K hM, dlog_dl, dlogSum_dls, dscore_dz Q K V D hM, gather_dqs, dk_tile, dv_tile]

include h0 h3 h4 hs0 hs1 hs2 hs3 in
theorem v267_lift : kernelRun0_B.sl.v267 (F := Ideal) c i arg1 harg1 arg2 harg2 arg3 harg3 arg4 harg4 arg5 harg5 arg6 harg6 arg7 harg7 arg8 harg8 arg9 harg9 arg10 harg10 arg11 harg11 arg12 harg12 x0 x3 x4 xs0 xs1 xs2 xs3 = lift (tile (held (dks Q K V D) (i 0).val (i 0).val) (i 0).val 0) := by
  unfold kernelRun0_B.sl.v267
  rw [no_trips', st_k0_t2.eq_1]
  exact read_tile _ _ _ (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3).2.1 _ _ 0 (off5_value i)

include h0 h3 h4 hs0 hs1 hs2 hs3 in
theorem v235_lift : kernelRun0_B.sl.v235 (F := Ideal) c i arg1 harg1 arg2 harg2 arg3 harg3 arg4 harg4 arg5 harg5 arg6 harg6 arg7 harg7 arg8 harg8 arg9 harg9 arg10 harg10 arg11 harg11 arg12 harg12 x0 x3 x4 xs0 xs1 xs2 xs3 = lift (tile (held (dvs Q K D) (i 0).val (i 0).val) (i 0).val 0) := by
  unfold kernelRun0_B.sl.v235
  rw [no_trips', st_k0_t2.eq_1]
  exact read_tile _ _ _ (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3).2.2 _ _ 0 (off5_value i)

include h0 h3 h4 hs0 hs1 hs2 hs3 in
theorem dk_half : arg11.view.read (Elt Ideal) (arg11.view.writes (Elt Ideal) (harg11.unread xs2) (kernelRun0_B.sl.HS2_1 c i arg1 harg1 arg2 harg2 arg3 harg3 arg4 harg4 arg5 harg5 arg6 harg6 arg7 harg7 arg8 harg8 arg9 harg9 arg10 harg10 arg11 harg11 arg12 harg12 x0 x3 x4 xs0 xs1 xs2 xs3))
    = lift (arr (half (dks Q K V D) (i 0).val)) := by
  have hM := admits_below (i 0).val
  unfold kernelRun0_B.sl.HS2_1
  rw [no_trips', st_k0_t2.eq_1]
  refine write_tile _ _ _ _ _ (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3).2.1 _ _ 0 (off5_value i) _ ?_ fun s c _ h => half_rest _ _ _ _ h
  rw [half_first]
  unfold kernelRun0_B.sl.r_22
  simp only [kernelRun0_B.sl.r_15, kernelRun0_B.sl.r_16, kernelRun0_B.sl.r_17, kernelRun0_B.sl.r_18, kernelRun0_B.sl.r_20, kernelRun0_B.sl.r_22, kernelRun0_B.sl.r_24, kernelRun0_B.sl.r_25, kernelRun0_B.sl.r_26, kernelRun0_B.sl.r_27, kernelRun0_B.sl.r_28, r_lift h0, r_1_lift h0, r_3_lift h3, r_4_lift h4, r_6_lift h0, r_7_lift h0, r_8_lift h3, r_9_lift h4, lower_own, upper_table, r_10_lift h0 h3 h4 hs0 hs1 hs2 hs3, r_11_lift h0 h3 h4 hs0 hs1 hs2 hs3, r_12_lift h0 h3 h4 hs0 hs1 hs2 hs3, r_13_lift h0 h3 h4 hs0 hs1 hs2 hs3, r_14_lift h0 h3 h4 hs0 hs1 hs2 hs3, r_19_lift h0 h3 h4 hs0 hs1 hs2 hs3, v267_lift h0 h3 h4 hs0 hs1 hs2 hs3, read_tile_bf16 _ _ K ((harg9.read_unread _).trans hs0) _ _ 0 (off5_value i), read_tile_bf16 _ _ K ((harg9.read_unread _).trans hs0) _ _ 1 (off6_value i), read_tile_bf16 _ _ V ((harg10.read_unread _).trans hs1) _ _ 0 (off5_value i), read_tile_bf16 _ _ V ((harg10.read_unread _).trans hs1) _ _ 1 (off6_value i), pay83, pay84, pay91]
  simp only [weight_att Q K hM, leaveSum_lms Q K hM, dlog_dl, dlogSum_dls, dscore_dz Q K V D hM, gather_dqs, dk_tile, dv_tile]

include h0 h3 h4 hs0 hs1 hs2 hs3 in
theorem dv_half : arg12.view.read (Elt Ideal) (arg12.view.writes (Elt Ideal) (harg12.unread xs3) (kernelRun0_B.sl.HS3_1 c i arg1 harg1 arg2 harg2 arg3 harg3 arg4 harg4 arg5 harg5 arg6 harg6 arg7 harg7 arg8 harg8 arg9 harg9 arg10 harg10 arg11 harg11 arg12 harg12 x0 x3 x4 xs0 xs1 xs2 xs3))
    = lift (arr (half (dvs Q K D) (i 0).val)) := by
  have hM := admits_below (i 0).val
  unfold kernelRun0_B.sl.HS3_1
  rw [no_trips', st_k0_t2.eq_1]
  refine write_tile _ _ _ _ _ (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3).2.2 _ _ 0 (off5_value i) _ ?_ fun s c _ h => half_rest _ _ _ _ h
  rw [half_first]
  simp only [kernelRun0_B.sl.r_15, kernelRun0_B.sl.r_16, kernelRun0_B.sl.r_17, kernelRun0_B.sl.r_18, kernelRun0_B.sl.r_20, kernelRun0_B.sl.r_22, kernelRun0_B.sl.r_24, kernelRun0_B.sl.r_25, kernelRun0_B.sl.r_26, kernelRun0_B.sl.r_27, kernelRun0_B.sl.r_28, r_lift h0, r_1_lift h0, r_3_lift h3, r_4_lift h4, r_6_lift h0, r_7_lift h0, r_8_lift h3, r_9_lift h4, lower_own, upper_table, r_10_lift h0 h3 h4 hs0 hs1 hs2 hs3, r_11_lift h0 h3 h4 hs0 hs1 hs2 hs3, r_12_lift h0 h3 h4 hs0 hs1 hs2 hs3, r_13_lift h0 h3 h4 hs0 hs1 hs2 hs3, r_14_lift h0 h3 h4 hs0 hs1 hs2 hs3, r_19_lift h0 h3 h4 hs0 hs1 hs2 hs3, v235_lift h0 h3 h4 hs0 hs1 hs2 hs3, read_tile_bf16 _ _ K ((harg9.read_unread _).trans hs0) _ _ 0 (off5_value i), read_tile_bf16 _ _ K ((harg9.read_unread _).trans hs0) _ _ 1 (off6_value i), read_tile_bf16 _ _ V ((harg10.read_unread _).trans hs1) _ _ 0 (off5_value i), read_tile_bf16 _ _ V ((harg10.read_unread _).trans hs1) _ _ 1 (off6_value i), pay83, pay84, pay89]
  simp only [weight_att Q K hM, leaveSum_lms Q K hM, dlog_dl, dlogSum_dls, dscore_dz Q K V D hM, gather_dqs, dk_tile, dv_tile]

include h0 h3 h4 hs0 hs1 hs2 hs3 in
/-- The keys' gradient left for the next query block. -/
theorem dk_left : sout0_B_2 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = lift (arr (dks Q K V D (256 * ((i 0).val + 1)))) := by
  have hM := admits_below (i 0).val
  have e := dk_half (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3
  rw [← dk_whole]
  unfold sout0_B_2 kernelRun0_B
  dsimp only
  refine write_tile _ _ _ _ _ e _ _ 1 (off6_value i) _ ?_ fun s c hc h => whole_rest _ _ _ _ hc h
  rw [read_tile _ _ _ e _ _ 1 (off6_value i), half_second]
  simp only [kernelRun0_B.sl.r_15, kernelRun0_B.sl.r_16, kernelRun0_B.sl.r_17, kernelRun0_B.sl.r_18, kernelRun0_B.sl.r_20, kernelRun0_B.sl.r_22, kernelRun0_B.sl.r_24, kernelRun0_B.sl.r_25, kernelRun0_B.sl.r_26, kernelRun0_B.sl.r_27, kernelRun0_B.sl.r_28, r_lift h0, r_1_lift h0, r_3_lift h3, r_4_lift h4, r_6_lift h0, r_7_lift h0, r_8_lift h3, r_9_lift h4, lower_own, upper_table, r_10_lift h0 h3 h4 hs0 hs1 hs2 hs3, r_11_lift h0 h3 h4 hs0 hs1 hs2 hs3, r_12_lift h0 h3 h4 hs0 hs1 hs2 hs3, r_13_lift h0 h3 h4 hs0 hs1 hs2 hs3, r_14_lift h0 h3 h4 hs0 hs1 hs2 hs3, read_tile_bf16 _ _ K ((harg9.read_unread _).trans hs0) _ _ 0 (off5_value i), read_tile_bf16 _ _ K ((harg9.read_unread _).trans hs0) _ _ 1 (off6_value i), read_tile_bf16 _ _ V ((harg10.read_unread _).trans hs1) _ _ 0 (off5_value i), read_tile_bf16 _ _ V ((harg10.read_unread _).trans hs1) _ _ 1 (off6_value i), pay94, pay95, pay97, pay100]
  simp only [weight_att Q K hM, leaveSum_lms Q K hM, dlog_dl, dlogSum_dls, dscore_dz Q K V D hM, gather_dqs, dk_tile, dv_tile]

include h0 h3 h4 hs0 hs1 hs2 hs3 in
/-- The values' gradient left for the next query block. -/
theorem dv_left : sout0_B_3 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = lift (arr (dvs Q K D (256 * ((i 0).val + 1)))) := by
  have hM := admits_below (i 0).val
  have e := dv_half (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3
  rw [← dv_whole]
  unfold sout0_B_3 kernelRun0_B
  dsimp only
  refine write_tile _ _ _ _ _ e _ _ 1 (off6_value i) _ ?_ fun s c hc h => whole_rest _ _ _ _ hc h
  rw [read_tile _ _ _ e _ _ 1 (off6_value i), half_second]
  simp only [kernelRun0_B.sl.r_15, kernelRun0_B.sl.r_16, kernelRun0_B.sl.r_17, kernelRun0_B.sl.r_18, kernelRun0_B.sl.r_20, kernelRun0_B.sl.r_22, kernelRun0_B.sl.r_24, kernelRun0_B.sl.r_25, kernelRun0_B.sl.r_26, kernelRun0_B.sl.r_27, kernelRun0_B.sl.r_28, r_lift h0, r_1_lift h0, r_3_lift h3, r_4_lift h4, r_6_lift h0, r_7_lift h0, r_8_lift h3, r_9_lift h4, lower_own, upper_table, r_10_lift h0 h3 h4 hs0 hs1 hs2 hs3, r_11_lift h0 h3 h4 hs0 hs1 hs2 hs3, r_12_lift h0 h3 h4 hs0 hs1 hs2 hs3, r_13_lift h0 h3 h4 hs0 hs1 hs2 hs3, r_14_lift h0 h3 h4 hs0 hs1 hs2 hs3, read_tile_bf16 _ _ K ((harg9.read_unread _).trans hs0) _ _ 0 (off5_value i), read_tile_bf16 _ _ K ((harg9.read_unread _).trans hs0) _ _ 1 (off6_value i), read_tile_bf16 _ _ V ((harg10.read_unread _).trans hs1) _ _ 0 (off5_value i), read_tile_bf16 _ _ V ((harg10.read_unread _).trans hs1) _ _ 1 (off6_value i), pay96, pay98]
  simp only [weight_att Q K hM, leaveSum_lms Q K hM, dlog_dl, dlogSum_dls, dscore_dz Q K V D hM, gather_dqs, dk_tile, dv_tile]

include h0 h3 h4 hs0 hs1 hs2 hs3 in
/-- The queries' gradient of this block. -/
theorem dq_block : out0_B_5 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = lift (fun j => dqs Q K V D 2048 (256 * (i 0).val + (j 0).val) (j 1).val ((j 1).val / 64)) := by
  unfold out0_B_5 kernelRun0_B
  dsimp only
  have e0 : k0_pay1 (F := Ideal) k0_pay60 (kernelRun0_B.sl.r_23 c i arg1 harg1 arg2 harg2 arg3 harg3 arg4 harg4 arg5 harg5 arg6 harg6 arg7 harg7 arg8 harg8 arg9 harg9 arg10 harg10 arg11 harg11 arg12 harg12 x0 x3 x4 xs0 xs1 xs2 xs3) (kernelRun0_B.sl.r_30 c i arg1 harg1 arg2 harg2 arg3 harg3 arg4 harg4 arg5 harg5 arg6 harg6 arg7 harg7 arg8 harg8 arg9 harg9 arg10 harg10 arg11 harg11 arg12 harg12 x0 x3 x4 xs0 xs1 xs2 xs3) (kernelRun0_B.sl.r_31 c i arg1 harg1 arg2 harg2 arg3 harg3 arg4 harg4 arg5 harg5 arg6 harg6 arg7 harg7 arg8 harg8 arg9 harg9 arg10 harg10 arg11 harg11 arg12 harg12 x0 x3 x4 xs0 xs1 xs2 xs3) (k0_pay104 k0_pay59)
      = lift fun j => dqs Q K V D (256 * ((i 0).val + 1)) (256 * (i 0).val + (j 0).val) (256 * 0 + (j 1).val) (4 * 0 + (j 1).val / 64) := by
    simp only [kernelRun0_B.sl.r_30, kernelRun0_B.sl.r_31, r_23_lift h0 h3 h4 hs0 hs1 hs2 hs3]
    exact unstack1 (fun h r c => dqs Q K V D (256 * ((i 0).val + 1)) (256 * (i 0).val + r) (256 * 0 + c) (4 * 0 + h)) _ rfl
  have e1 : k0_pay2 (F := Ideal) k0_pay58 k0_pay59 k0_pay60 (kernelRun0_B.sl.r_29 c i arg1 harg1 arg2 harg2 arg3 harg3 arg4 harg4 arg5 harg5 arg6 harg6 arg7 harg7 arg8 harg8 arg9 harg9 arg10 harg10 arg11 harg11 arg12 harg12 x0 x3 x4 xs0 xs1 xs2 xs3)
      = lift fun j => dqs Q K V D (256 * ((i 0).val + 1)) (256 * (i 0).val + (j 0).val) (256 * 1 + (j 1).val) (4 * 1 + (j 1).val / 64) := by
    simp only [r_29_lift h0 h3 h4 hs0 hs1 hs2 hs3]
    exact unstack (fun h r c => dqs Q K V D (256 * ((i 0).val + 1)) (256 * (i 0).val + r) (256 * 1 + c) (4 * 1 + h))
  have h := write_queries VO0_5.junk (i 0) _ _ Q K V D e0 e1
  exact h

end AttnPointB

end
-- ==== Proof.AttnPointC.lean ====
/- One query block of the attention gradient's kernel, the last: what it writes and what it leaves for the next. -/
module

public import proofs.«01_k».proof.Proof.Gen.AttnKernelIdeal.Frame
public import proofs.«01_k».proof.Proof.AttnLoop
public import proofs.«01_k».proof.Proof.AttnOperands
public import proofs.«01_k».proof.Proof.AttnReads
public import Idealize.ShloMosaic.Lib.VecWindow

@[expose] public section

set_option maxRecDepth 16384

noncomputable section

open Idealize.ShloMosaic Idealize.ShloMosaic.TcCoe Idealize.SL.Sem

namespace AttnPointC

open Cert.AttnKernelIdeal Cert.AttnKernelIdeal.Gen AttnLift AttnTile AttnMath AttnLoop AttnOperands AttnReads

variable {c : Dev nD} {i : grid0.Coords} {arg1 : Memref sig .tc .vmem S256x512 .f32} {harg1 : arg1.IsWhole} {arg2 : Memref sig .tc .vmem S2048x512 .f32} {harg2 : arg2.IsWhole} {arg3 : Memref sig .tc .vmem S2048x512 .f32} {harg3 : arg3.IsWhole} {arg4 : Memref sig .tc .vmem S256x512 .f32} {harg4 : arg4.IsWhole} {arg5 : Memref sig .tc .vmem S2x256x256 .f32} {harg5 : arg5.IsWhole} {arg6 : Memref sig .tc .vmem S256x512 .bf16} {harg6 : arg6.IsWhole} {arg7 : Memref sig .tc .vmem S2048x512 .bf16} {harg7 : arg7.IsWhole} {arg8 : Memref sig .tc .vmem S2048x512 .bf16} {harg8 : arg8.IsWhole} {arg9 : Memref sig .tc .vmem S2048x512 .bf16} {harg9 : arg9.IsWhole} {arg10 : Memref sig .tc .vmem S2048x512 .bf16} {harg10 : arg10.IsWhole} {arg11 : Memref sig .tc .vmem S2048x512 .f32} {harg11 : arg11.IsWhole} {arg12 : Memref sig .tc .vmem S2048x512 .f32} {harg12 : arg12.IsWhole} {hc0 : ¬cond0_0 i} {hc1 : cond0_1 i}
  {x0 : Vec Ideal S256x512 .f32} {x1 x2 : Vec Ideal S2048x512 .f32} {x3 : Vec Ideal S256x512 .f32} {x4 : Vec Ideal S2x256x256 .f32} {xs0 xs1 : Vec Ideal S2048x512 .bf16} {xs2 xs3 : Vec Ideal S2048x512 .f32}
  {Q K V D : ℕ → ℕ → ℝ}
  (h0 : x0 = lift (blk (i 0).val Q)) (h3 : x3 = lift (blk (i 0).val D)) (h4 : x4 = lift (tots (i 0).val fun H t => lms Q K H t 2048))
  (hs0 : xs0 = lift (arr K)) (hs1 : xs1 = lift (arr V)) (hs2 : xs2 = lift (arr (dks Q K V D (256 * (i 0).val))))
  (hs3 : xs3 = lift (arr (dvs Q K D (256 * (i 0).val))))

include h0 in
theorem r_lift : kernelRun0_C.sl.r (F := Ideal) c arg1 harg1 x0 = lift (rows (i 0).val 0 fun t c => Q t c * (1 / 8)) := by
  subst h0
  simp only [kernelRun0_C.sl.r, kernelRun0_C.sl.r_2, kernelRun0_C.sl.r_5]
  rw [read_blk _ _ _ _ (harg1.read_unread _) _ 0 rfl]
  exact stack64 (i 0).val 0 Q

include h0 in
theorem r_1_lift : kernelRun0_C.sl.r_1 (F := Ideal) c arg1 harg1 x0 = lift (rows (i 0).val 0 Q) := by
  subst h0
  simp only [kernelRun0_C.sl.r_1, kernelRun0_C.sl.r_2, kernelRun0_C.sl.r_5]
  rw [read_blk _ _ _ _ (harg1.read_unread _) _ 0 rfl]
  exact stack65 (i 0).val 0 Q

include h3 in
theorem r_3_lift : kernelRun0_C.sl.r_3 (F := Ideal) c arg4 harg4 x3 = lift (rows (i 0).val 0 D) := by
  subst h3
  simp only [kernelRun0_C.sl.r_3, kernelRun0_C.sl.r_2, kernelRun0_C.sl.r_5]
  rw [read_blk _ _ _ _ (harg4.read_unread _) _ 0 rfl]
  exact stack66 (i 0).val 0 D

include h4 in
theorem r_4_lift : kernelRun0_C.sl.r_4 (F := Ideal) c arg5 harg5 x4 = lift (col (i 0).val 0 fun H t => lms Q K H t 2048) := by
  subst h4
  simp only [kernelRun0_C.sl.r_4, kernelRun0_C.sl.r_2, kernelRun0_C.sl.r_5]
  rw [read_tots _ _ _ _ (harg5.read_unread _) _ 0 rfl]
  exact totals (i 0).val 0 (fun H t => lms Q K H t 2048)

include h0 in
theorem r_6_lift : kernelRun0_C.sl.r_6 (F := Ideal) c arg1 harg1 x0 = lift (rows (i 0).val 1 fun t c => Q t c * (1 / 8)) := by
  subst h0
  simp only [kernelRun0_C.sl.r_6, kernelRun0_C.sl.r_2, kernelRun0_C.sl.r_5]
  rw [read_blk _ _ _ _ (harg1.read_unread _) _ 1 rfl]
  exact stack68 (i 0).val 1 Q

include h0 in
theorem r_7_lift : kernelRun0_C.sl.r_7 (F := Ideal) c arg1 harg1 x0 = lift (rows (i 0).val 1 Q) := by
  subst h0
  simp only [kernelRun0_C.sl.r_7, kernelRun0_C.sl.r_2, kernelRun0_C.sl.r_5]
  rw [read_blk _ _ _ _ (harg1.read_unread _) _ 1 rfl]
  exact stack69 (i 0).val 1 Q

include h3 in
theorem r_8_lift : kernelRun0_C.sl.r_8 (F := Ideal) c arg4 harg4 x3 = lift (rows (i 0).val 1 D) := by
  subst h3
  simp only [kernelRun0_C.sl.r_8, kernelRun0_C.sl.r_2, kernelRun0_C.sl.r_5]
  rw [read_blk _ _ _ _ (harg4.read_unread _) _ 1 rfl]
  exact stack70 (i 0).val 1 D

include h4 in
theorem r_9_lift : kernelRun0_C.sl.r_9 (F := Ideal) c arg5 harg5 x4 = lift (col (i 0).val 1 fun H t => lms Q K H t 2048) := by
  subst h4
  simp only [kernelRun0_C.sl.r_9, kernelRun0_C.sl.r_2, kernelRun0_C.sl.r_5]
  rw [read_tots _ _ _ _ (harg5.read_unread _) _ 1 rfl]
  exact totals71 (i 0).val 1 (fun H t => lms Q K H t 2048)

theorem init_value (Q K V D : ℕ → ℕ → ℝ) (a : ℕ) :
    (k0_pay72 (F := Ideal), k0_pay72 (F := Ideal), k0_pay73 kernelRun0_C.sl.cst_45, k0_pay72 (F := Ideal), k0_pay72 (F := Ideal), k0_pay74 (F := Ideal)) = carried Q K V D a 0 := by
  have e73 : k0_pay73 (F := Ideal) kernelRun0_C.sl.cst_45 = lift fun _ => 0 := splat_zero
  rw [zeros72, zeros74, e73]
  unfold carried
  have ec : ∀ g, (fun _ => 0 : Col) = col a g fun H t => lms Q K H t (256 * 0) := fun g => by
    funext i; simp [col, lms]
  have ed : ∀ g, (fun _ => 0 : Col) = col a g fun H t => dls Q K V D H t (256 * 0) := fun g => by
    funext i; simp [col, dls]
  have eg : ∀ g, (fun _ => 0 : Rows) = gathered Q K V D a g 0 := fun g => by
    funext i; simp [gathered, dqs]
  rw [← ec, ← ec, ← ed, ← ed, ← eg, ← eg]

include h0 h3 h4 hs0 hs1 hs2 hs3 in
theorem loop_value : (st_k0_t1 (F := Ideal) Variants.none c none i arg1 harg1 arg2 harg2 arg3 harg3 arg4 harg4 arg5 harg5 arg6 harg6 arg7 harg7 arg8 harg8 arg9 harg9 arg10 harg10 arg11 harg11 arg12 harg12 (BitVec.ofNat 32 (i 0).val) k0_pay56 (k0_pay62 k0_pay61) (k0_pay63 kernelRun0_C.sl.v7 kernelRun0_C.sl.v8) (kernelRun0_C.sl.r c arg1 harg1 x0) (kernelRun0_C.sl.r_1 c arg1 harg1 x0) (kernelRun0_C.sl.r_3 c arg4 harg4 x3) (kernelRun0_C.sl.r_4 c arg5 harg5 x4) (kernelRun0_C.sl.r_6 c arg1 harg1 x0) (kernelRun0_C.sl.r_7 c arg1 harg1 x0) (kernelRun0_C.sl.r_8 c arg4 harg4 x3) (kernelRun0_C.sl.r_9 c arg5 harg5 x4) k0_pay72 kernelRun0_C.sl.cst_45 (harg9.unread xs0) (harg10.unread xs1) (harg11.unread xs2) (harg12.unread xs3) (k0_pay72, k0_pay72, k0_pay73 kernelRun0_C.sl.cst_45, k0_pay72, k0_pay72, k0_pay74) (Scf.trips (k0_t1_loop i).lb (k0_t1_loop i).ub (k0_t1_loop i).st)).1 = carried Q K V D (i 0).val (i 0).val
    ∧ arg11.view.read (Elt Ideal) (arg11.view.writes (Elt Ideal) (harg11.unread xs2) (st_k0_t1 (F := Ideal) Variants.none c none i arg1 harg1 arg2 harg2 arg3 harg3 arg4 harg4 arg5 harg5 arg6 harg6 arg7 harg7 arg8 harg8 arg9 harg9 arg10 harg10 arg11 harg11 arg12 harg12 (BitVec.ofNat 32 (i 0).val) k0_pay56 (k0_pay62 k0_pay61) (k0_pay63 kernelRun0_C.sl.v7 kernelRun0_C.sl.v8) (kernelRun0_C.sl.r c arg1 harg1 x0) (kernelRun0_C.sl.r_1 c arg1 harg1 x0) (kernelRun0_C.sl.r_3 c arg4 harg4 x3) (kernelRun0_C.sl.r_4 c arg5 harg5 x4) (kernelRun0_C.sl.r_6 c arg1 harg1 x0) (kernelRun0_C.sl.r_7 c arg1 harg1 x0) (kernelRun0_C.sl.r_8 c arg4 harg4 x3) (kernelRun0_C.sl.r_9 c arg5 harg5 x4) k0_pay72 kernelRun0_C.sl.cst_45 (harg9.unread xs0) (harg10.unread xs1) (harg11.unread xs2) (harg12.unread xs3) (k0_pay72, k0_pay72, k0_pay73 kernelRun0_C.sl.cst_45, k0_pay72, k0_pay72, k0_pay74) (Scf.trips (k0_t1_loop i).lb (k0_t1_loop i).ub (k0_t1_loop i).st)).2.1) = lift (arr (held (dks Q K V D) (i 0).val (i 0).val))
    ∧ arg12.view.read (Elt Ideal) (arg12.view.writes (Elt Ideal) (harg12.unread xs3) (st_k0_t1 (F := Ideal) Variants.none c none i arg1 harg1 arg2 harg2 arg3 harg3 arg4 harg4 arg5 harg5 arg6 harg6 arg7 harg7 arg8 harg8 arg9 harg9 arg10 harg10 arg11 harg11 arg12 harg12 (BitVec.ofNat 32 (i 0).val) k0_pay56 (k0_pay62 k0_pay61) (k0_pay63 kernelRun0_C.sl.v7 kernelRun0_C.sl.v8) (kernelRun0_C.sl.r c arg1 harg1 x0) (kernelRun0_C.sl.r_1 c arg1 harg1 x0) (kernelRun0_C.sl.r_3 c arg4 harg4 x3) (kernelRun0_C.sl.r_4 c arg5 harg5 x4) (kernelRun0_C.sl.r_6 c arg1 harg1 x0) (kernelRun0_C.sl.r_7 c arg1 harg1 x0) (kernelRun0_C.sl.r_8 c arg4 harg4 x3) (kernelRun0_C.sl.r_9 c arg5 harg5 x4) k0_pay72 kernelRun0_C.sl.cst_45 (harg9.unread xs0) (harg10.unread xs1) (harg11.unread xs2) (harg12.unread xs3) (k0_pay72, k0_pay72, k0_pay73 kernelRun0_C.sl.cst_45, k0_pay72, k0_pay72, k0_pay74) (Scf.trips (k0_t1_loop i).lb (k0_t1_loop i).ub (k0_t1_loop i).st)).2.2) = lift (arr (held (dvs Q K D) (i 0).val (i 0).val)) :=
  loop_end Q K V D upper_table lower_table (r_lift h0) (r_1_lift h0) (r_3_lift h3) (r_4_lift h4) (r_6_lift h0) (r_7_lift h0) (r_8_lift h3) (r_9_lift h4) ((harg9.read_unread _).trans hs0) ((harg10.read_unread _).trans hs1) (init_value _ _ _ _ _) ((harg11.read_unread _).trans hs2) ((harg12.read_unread _).trans hs3)

include h0 h3 h4 hs0 hs1 hs2 hs3 in
theorem r_10_lift : kernelRun0_C.sl.r_10 (F := Ideal) c i arg1 harg1 arg2 harg2 arg3 harg3 arg4 harg4 arg5 harg5 arg6 harg6 arg7 harg7 arg8 harg8 arg9 harg9 arg10 harg10 arg11 harg11 arg12 harg12 x0 x3 x4 xs0 xs1 xs2 xs3 = lift (col (i 0).val 0 fun H t => dls Q K V D H t (256 * (i 0).val)) := by
  unfold kernelRun0_C.sl.r_10
  rw [no_trips', st_k0_t2.eq_1]
  have hL := (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3).1
  simp only [hL]
  rfl

include h0 h3 h4 hs0 hs1 hs2 hs3 in
theorem r_11_lift : kernelRun0_C.sl.r_11 (F := Ideal) c i arg1 harg1 arg2 harg2 arg3 harg3 arg4 harg4 arg5 harg5 arg6 harg6 arg7 harg7 arg8 harg8 arg9 harg9 arg10 harg10 arg11 harg11 arg12 harg12 x0 x3 x4 xs0 xs1 xs2 xs3 = lift (gathered Q K V D (i 0).val 0 (i 0).val) := by
  unfold kernelRun0_C.sl.r_11
  rw [no_trips', st_k0_t2.eq_1]
  have hL := (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3).1
  simp only [hL]
  rfl

include h0 h3 h4 hs0 hs1 hs2 hs3 in
theorem r_12_lift : kernelRun0_C.sl.r_12 (F := Ideal) c i arg1 harg1 arg2 harg2 arg3 harg3 arg4 harg4 arg5 harg5 arg6 harg6 arg7 harg7 arg8 harg8 arg9 harg9 arg10 harg10 arg11 harg11 arg12 harg12 x0 x3 x4 xs0 xs1 xs2 xs3 = lift (col (i 0).val 1 fun H t => lms Q K H t (256 * (i 0).val)) := by
  unfold kernelRun0_C.sl.r_12
  rw [no_trips', st_k0_t2.eq_1]
  have hL := (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3).1
  simp only [hL]
  rfl

include h0 h3 h4 hs0 hs1 hs2 hs3 in
theorem r_13_lift : kernelRun0_C.sl.r_13 (F := Ideal) c i arg1 harg1 arg2 harg2 arg3 harg3 arg4 harg4 arg5 harg5 arg6 harg6 arg7 harg7 arg8 harg8 arg9 harg9 arg10 harg10 arg11 harg11 arg12 harg12 x0 x3 x4 xs0 xs1 xs2 xs3 = lift (col (i 0).val 1 fun H t => dls Q K V D H t (256 * (i 0).val)) := by
  unfold kernelRun0_C.sl.r_13
  rw [no_trips', st_k0_t2.eq_1]
  have hL := (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3).1
  simp only [hL]
  rfl

include h0 h3 h4 hs0 hs1 hs2 hs3 in
theorem r_14_lift : kernelRun0_C.sl.r_14 (F := Ideal) c i arg1 harg1 arg2 harg2 arg3 harg3 arg4 harg4 arg5 harg5 arg6 harg6 arg7 harg7 arg8 harg8 arg9 harg9 arg10 harg10 arg11 harg11 arg12 harg12 x0 x3 x4 xs0 xs1 xs2 xs3 = lift (gathered Q K V D (i 0).val 1 (i 0).val) := by
  unfold kernelRun0_C.sl.r_14
  rw [no_trips', st_k0_t2.eq_1]
  have hL := (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3).1
  simp only [hL]
  rfl

theorem lower_own : k0_pay63 (F := Ideal) kernelRun0_C.sl.v7 kernelRun0_C.sl.v8 = lift lower := lower_table

include h0 h3 h4 hs0 hs1 hs2 hs3 in
theorem r_19_lift : kernelRun0_C.sl.r_19 (F := Ideal) c i arg1 harg1 arg2 harg2 arg3 harg3 arg4 harg4 arg5 harg5 arg6 harg6 arg7 harg7 arg8 harg8 arg9 harg9 arg10 harg10 arg11 harg11 arg12 harg12 x0 x3 x4 xs0 xs1 xs2 xs3 = lift (leaveSum below (rows (i 0).val 0 fun t c => Q t c * (1 / 8)) (tile K (i 0).val 0) (col (i 0).val 0 fun H t => lms Q K H t (256 * (i 0).val))) := by
  unfold kernelRun0_C.sl.r_19
  rw [no_trips', st_k0_t2.eq_1]
  have hL := (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3).1
  simp only [hL]
  rw [read_tile_bf16 _ _ K ((harg9.read_unread _).trans hs0) _ _ 0 (off5_value i), r_lift h0]
  exact pay86 _ _ _

include h0 h3 h4 hs0 hs1 hs2 hs3 in
/-- What the queries have collected once their own block is in. -/
theorem r_23_lift : kernelRun0_C.sl.r_23 (F := Ideal) c i arg1 harg1 arg2 harg2 arg3 harg3 arg4 harg4 arg5 harg5 arg6 harg6 arg7 harg7 arg8 harg8 arg9 harg9 arg10 harg10 arg11 harg11 arg12 harg12 x0 x3 x4 xs0 xs1 xs2 xs3 = lift (gathered Q K V D (i 0).val 0 ((i 0).val + 1)) := by
  have hM := admits_below (i 0).val
  unfold kernelRun0_C.sl.r_23 kernelRun0_C.sl.r_21
  simp only [kernelRun0_C.sl.r_15, kernelRun0_C.sl.r_16, kernelRun0_C.sl.r_17, kernelRun0_C.sl.r_18, kernelRun0_C.sl.r_20, kernelRun0_C.sl.r_22, kernelRun0_C.sl.r_24, kernelRun0_C.sl.r_25, kernelRun0_C.sl.r_26, kernelRun0_C.sl.r_27, kernelRun0_C.sl.r_28, r_lift h0, r_1_lift h0, r_3_lift h3, r_4_lift h4, r_6_lift h0, r_7_lift h0, r_8_lift h3, r_9_lift h4, lower_own, upper_table, r_10_lift h0 h3 h4 hs0 hs1 hs2 hs3, r_11_lift h0 h3 h4 hs0 hs1 hs2 hs3, r_12_lift h0 h3 h4 hs0 hs1 hs2 hs3, r_13_lift h0 h3 h4 hs0 hs1 hs2 hs3, r_14_lift h0 h3 h4 hs0 hs1 hs2 hs3, r_19_lift h0 h3 h4 hs0 hs1 hs2 hs3, read_tile_bf16 _ _ K ((harg9.read_unread _).trans hs0) _ _ 0 (off5_value i), read_tile_bf16 _ _ K ((harg9.read_unread _).trans hs0) _ _ 1 (off6_value i), read_tile_bf16 _ _ V ((harg10.read_unread _).trans hs1) _ _ 0 (off5_value i), read_tile_bf16 _ _ V ((harg10.read_unread _).trans hs1) _ _ 1 (off6_value i), pay83, pay84, pay90, pay93]
  simp only [weight_att Q K hM, leaveSum_lms Q K hM, dlog_dl, dlogSum_dls, dscore_dz Q K V D hM, gather_dqs, dk_tile, dv_tile]

include h0 h3 h4 hs0 hs1 hs2 hs3 in
theorem r_29_lift : kernelRun0_C.sl.r_29 (F := Ideal) c i arg1 harg1 arg2 harg2 arg3 harg3 arg4 harg4 arg5 harg5 arg6 harg6 arg7 harg7 arg8 harg8 arg9 harg9 arg10 harg10 arg11 harg11 arg12 harg12 x0 x3 x4 xs0 xs1 xs2 xs3 = lift (gathered Q K V D (i 0).val 1 ((i 0).val + 1)) := by
  have hM := admits_below (i 0).val
  unfold kernelRun0_C.sl.r_29
  simp only [kernelRun0_C.sl.r_15, kernelRun0_C.sl.r_16, kernelRun0_C.sl.r_17, kernelRun0_C.sl.r_18, kernelRun0_C.sl.r_20, kernelRun0_C.sl.r_22, kernelRun0_C.sl.r_24, kernelRun0_C.sl.r_25, kernelRun0_C.sl.r_26, kernelRun0_C.sl.r_27, kernelRun0_C.sl.r_28, r_lift h0, r_1_lift h0, r_3_lift h3, r_4_lift h4, r_6_lift h0, r_7_lift h0, r_8_lift h3, r_9_lift h4, lower_own, upper_table, r_10_lift h0 h3 h4 hs0 hs1 hs2 hs3, r_11_lift h0 h3 h4 hs0 hs1 hs2 hs3, r_12_lift h0 h3 h4 hs0 hs1 hs2 hs3, r_13_lift h0 h3 h4 hs0 hs1 hs2 hs3, r_14_lift h0 h3 h4 hs0 hs1 hs2 hs3, read_tile_bf16 _ _ K ((harg9.read_unread _).trans hs0) _ _ 0 (off5_value i), read_tile_bf16 _ _ K ((harg9.read_unread _).trans hs0) _ _ 1 (off6_value i), read_tile_bf16 _ _ V ((harg10.read_unread _).trans hs1) _ _ 0 (off5_value i), read_tile_bf16 _ _ V ((harg10.read_unread _).trans hs1) _ _ 1 (off6_value i), pay94, pay95, pay97, pay101]
  simp only [weight_att Q K hM, leaveSum_lms Q K hM, dlog_dl, dlogSum_dls, dscore_dz Q K V D hM, gather_dqs, dk_tile, dv_tile]

include h0 h3 h4 hs0 hs1 hs2 hs3 in
theorem v267_lift : kernelRun0_C.sl.v267 (F := Ideal) c i arg1 harg1 arg2 harg2 arg3 harg3 arg4 harg4 arg5 harg5 arg6 harg6 arg7 harg7 arg8 harg8 arg9 harg9 arg10 harg10 arg11 harg11 arg12 harg12 x0 x3 x4 xs0 xs1 xs2 xs3 = lift (tile (held (dks Q K V D) (i 0).val (i 0).val) (i 0).val 0) := by
  unfold kernelRun0_C.sl.v267
  rw [no_trips', st_k0_t2.eq_1]
  exact read_tile _ _ _ (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3).2.1 _ _ 0 (off5_value i)

include h0 h3 h4 hs0 hs1 hs2 hs3 in
theorem v235_lift : kernelRun0_C.sl.v235 (F := Ideal) c i arg1 harg1 arg2 harg2 arg3 harg3 arg4 harg4 arg5 harg5 arg6 harg6 arg7 harg7 arg8 harg8 arg9 harg9 arg10 harg10 arg11 harg11 arg12 harg12 x0 x3 x4 xs0 xs1 xs2 xs3 = lift (tile (held (dvs Q K D) (i 0).val (i 0).val) (i 0).val 0) := by
  unfold kernelRun0_C.sl.v235
  rw [no_trips', st_k0_t2.eq_1]
  exact read_tile _ _ _ (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3).2.2 _ _ 0 (off5_value i)

include h0 h3 h4 hs0 hs1 hs2 hs3 in
theorem dk_half : arg11.view.read (Elt Ideal) (arg11.view.writes (Elt Ideal) (harg11.unread xs2) (kernelRun0_C.sl.HS2_1 c i arg1 harg1 arg2 harg2 arg3 harg3 arg4 harg4 arg5 harg5 arg6 harg6 arg7 harg7 arg8 harg8 arg9 harg9 arg10 harg10 arg11 harg11 arg12 harg12 x0 x3 x4 xs0 xs1 xs2 xs3))
    = lift (arr (half (dks Q K V D) (i 0).val)) := by
  have hM := admits_below (i 0).val
  unfold kernelRun0_C.sl.HS2_1
  rw [no_trips', st_k0_t2.eq_1]
  refine write_tile _ _ _ _ _ (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3).2.1 _ _ 0 (off5_value i) _ ?_ fun s c _ h => half_rest _ _ _ _ h
  rw [half_first]
  unfold kernelRun0_C.sl.r_22
  simp only [kernelRun0_C.sl.r_15, kernelRun0_C.sl.r_16, kernelRun0_C.sl.r_17, kernelRun0_C.sl.r_18, kernelRun0_C.sl.r_20, kernelRun0_C.sl.r_22, kernelRun0_C.sl.r_24, kernelRun0_C.sl.r_25, kernelRun0_C.sl.r_26, kernelRun0_C.sl.r_27, kernelRun0_C.sl.r_28, r_lift h0, r_1_lift h0, r_3_lift h3, r_4_lift h4, r_6_lift h0, r_7_lift h0, r_8_lift h3, r_9_lift h4, lower_own, upper_table, r_10_lift h0 h3 h4 hs0 hs1 hs2 hs3, r_11_lift h0 h3 h4 hs0 hs1 hs2 hs3, r_12_lift h0 h3 h4 hs0 hs1 hs2 hs3, r_13_lift h0 h3 h4 hs0 hs1 hs2 hs3, r_14_lift h0 h3 h4 hs0 hs1 hs2 hs3, r_19_lift h0 h3 h4 hs0 hs1 hs2 hs3, v267_lift h0 h3 h4 hs0 hs1 hs2 hs3, read_tile_bf16 _ _ K ((harg9.read_unread _).trans hs0) _ _ 0 (off5_value i), read_tile_bf16 _ _ K ((harg9.read_unread _).trans hs0) _ _ 1 (off6_value i), read_tile_bf16 _ _ V ((harg10.read_unread _).trans hs1) _ _ 0 (off5_value i), read_tile_bf16 _ _ V ((harg10.read_unread _).trans hs1) _ _ 1 (off6_value i), pay83, pay84, pay91]
  simp only [weight_att Q K hM, leaveSum_lms Q K hM, dlog_dl, dlogSum_dls, dscore_dz Q K V D hM, gather_dqs, dk_tile, dv_tile]

include h0 h3 h4 hs0 hs1 hs2 hs3 in
theorem dv_half : arg12.view.read (Elt Ideal) (arg12.view.writes (Elt Ideal) (harg12.unread xs3) (kernelRun0_C.sl.HS3_1 c i arg1 harg1 arg2 harg2 arg3 harg3 arg4 harg4 arg5 harg5 arg6 harg6 arg7 harg7 arg8 harg8 arg9 harg9 arg10 harg10 arg11 harg11 arg12 harg12 x0 x3 x4 xs0 xs1 xs2 xs3))
    = lift (arr (half (dvs Q K D) (i 0).val)) := by
  have hM := admits_below (i 0).val
  unfold kernelRun0_C.sl.HS3_1
  rw [no_trips', st_k0_t2.eq_1]
  refine write_tile _ _ _ _ _ (loop_value (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3).2.2 _ _ 0 (off5_value i) _ ?_ fun s c _ h => half_rest _ _ _ _ h
  rw [half_first]
  simp only [kernelRun0_C.sl.r_15, kernelRun0_C.sl.r_16, kernelRun0_C.sl.r_17, kernelRun0_C.sl.r_18, kernelRun0_C.sl.r_20, kernelRun0_C.sl.r_22, kernelRun0_C.sl.r_24, kernelRun0_C.sl.r_25, kernelRun0_C.sl.r_26, kernelRun0_C.sl.r_27, kernelRun0_C.sl.r_28, r_lift h0, r_1_lift h0, r_3_lift h3, r_4_lift h4, r_6_lift h0, r_7_lift h0, r_8_lift h3, r_9_lift h4, lower_own, upper_table, r_10_lift h0 h3 h4 hs0 hs1 hs2 hs3, r_11_lift h0 h3 h4 hs0 hs1 hs2 hs3, r_12_lift h0 h3 h4 hs0 hs1 hs2 hs3, r_13_lift h0 h3 h4 hs0 hs1 hs2 hs3, r_14_lift h0 h3 h4 hs0 hs1 hs2 hs3, r_19_lift h0 h3 h4 hs0 hs1 hs2 hs3, v235_lift h0 h3 h4 hs0 hs1 hs2 hs3, read_tile_bf16 _ _ K ((harg9.read_unread _).trans hs0) _ _ 0 (off5_value i), read_tile_bf16 _ _ K ((harg9.read_unread _).trans hs0) _ _ 1 (off6_value i), read_tile_bf16 _ _ V ((harg10.read_unread _).trans hs1) _ _ 0 (off5_value i), read_tile_bf16 _ _ V ((harg10.read_unread _).trans hs1) _ _ 1 (off6_value i), pay83, pay84, pay89]
  simp only [weight_att Q K hM, leaveSum_lms Q K hM, dlog_dl, dlogSum_dls, dscore_dz Q K V D hM, gather_dqs, dk_tile, dv_tile]

include h0 h3 h4 hs0 hs1 hs2 hs3 in
/-- The keys' gradient left for the next query block. -/
theorem dk_left : sout0_C_2 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = lift (arr (dks Q K V D (256 * ((i 0).val + 1)))) := by
  have hM := admits_below (i 0).val
  have e := dk_half (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3
  rw [← dk_whole]
  unfold sout0_C_2 kernelRun0_C
  dsimp only [kernelRun0_C.sl.HS2_2]
  refine write_tile _ _ _ _ _ e _ _ 1 (off6_value i) _ ?_ fun s c hc h => whole_rest _ _ _ _ hc h
  rw [read_tile _ _ _ e _ _ 1 (off6_value i), half_second]
  simp only [kernelRun0_C.sl.r_15, kernelRun0_C.sl.r_16, kernelRun0_C.sl.r_17, kernelRun0_C.sl.r_18, kernelRun0_C.sl.r_20, kernelRun0_C.sl.r_22, kernelRun0_C.sl.r_24, kernelRun0_C.sl.r_25, kernelRun0_C.sl.r_26, kernelRun0_C.sl.r_27, kernelRun0_C.sl.r_28, r_lift h0, r_1_lift h0, r_3_lift h3, r_4_lift h4, r_6_lift h0, r_7_lift h0, r_8_lift h3, r_9_lift h4, lower_own, upper_table, r_10_lift h0 h3 h4 hs0 hs1 hs2 hs3, r_11_lift h0 h3 h4 hs0 hs1 hs2 hs3, r_12_lift h0 h3 h4 hs0 hs1 hs2 hs3, r_13_lift h0 h3 h4 hs0 hs1 hs2 hs3, r_14_lift h0 h3 h4 hs0 hs1 hs2 hs3, read_tile_bf16 _ _ K ((harg9.read_unread _).trans hs0) _ _ 0 (off5_value i), read_tile_bf16 _ _ K ((harg9.read_unread _).trans hs0) _ _ 1 (off6_value i), read_tile_bf16 _ _ V ((harg10.read_unread _).trans hs1) _ _ 0 (off5_value i), read_tile_bf16 _ _ V ((harg10.read_unread _).trans hs1) _ _ 1 (off6_value i), pay94, pay95, pay97, pay100]
  simp only [weight_att Q K hM, leaveSum_lms Q K hM, dlog_dl, dlogSum_dls, dscore_dz Q K V D hM, gather_dqs, dk_tile, dv_tile]

include h0 h3 h4 hs0 hs1 hs2 hs3 in
/-- The values' gradient left for the next query block. -/
theorem dv_left : sout0_C_3 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = lift (arr (dvs Q K D (256 * ((i 0).val + 1)))) := by
  have hM := admits_below (i 0).val
  have e := dv_half (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3
  rw [← dv_whole]
  unfold sout0_C_3 kernelRun0_C
  dsimp only [kernelRun0_C.sl.HS3_2]
  refine write_tile _ _ _ _ _ e _ _ 1 (off6_value i) _ ?_ fun s c hc h => whole_rest _ _ _ _ hc h
  rw [read_tile _ _ _ e _ _ 1 (off6_value i), half_second]
  simp only [kernelRun0_C.sl.r_15, kernelRun0_C.sl.r_16, kernelRun0_C.sl.r_17, kernelRun0_C.sl.r_18, kernelRun0_C.sl.r_20, kernelRun0_C.sl.r_22, kernelRun0_C.sl.r_24, kernelRun0_C.sl.r_25, kernelRun0_C.sl.r_26, kernelRun0_C.sl.r_27, kernelRun0_C.sl.r_28, r_lift h0, r_1_lift h0, r_3_lift h3, r_4_lift h4, r_6_lift h0, r_7_lift h0, r_8_lift h3, r_9_lift h4, lower_own, upper_table, r_10_lift h0 h3 h4 hs0 hs1 hs2 hs3, r_11_lift h0 h3 h4 hs0 hs1 hs2 hs3, r_12_lift h0 h3 h4 hs0 hs1 hs2 hs3, r_13_lift h0 h3 h4 hs0 hs1 hs2 hs3, r_14_lift h0 h3 h4 hs0 hs1 hs2 hs3, read_tile_bf16 _ _ K ((harg9.read_unread _).trans hs0) _ _ 0 (off5_value i), read_tile_bf16 _ _ K ((harg9.read_unread _).trans hs0) _ _ 1 (off6_value i), read_tile_bf16 _ _ V ((harg10.read_unread _).trans hs1) _ _ 0 (off5_value i), read_tile_bf16 _ _ V ((harg10.read_unread _).trans hs1) _ _ 1 (off6_value i), pay96, pay98]
  simp only [weight_att Q K hM, leaveSum_lms Q K hM, dlog_dl, dlogSum_dls, dscore_dz Q K V D hM, gather_dqs, dk_tile, dv_tile]

include h0 h3 h4 hs0 hs1 hs2 hs3 in
/-- The queries' gradient of this block. -/
theorem dq_block : out0_C_5 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = lift (fun j => dqs Q K V D 2048 (256 * (i 0).val + (j 0).val) (j 1).val ((j 1).val / 64)) := by
  unfold out0_C_5 kernelRun0_C
  dsimp only
  have e0 : k0_pay1 (F := Ideal) k0_pay60 (kernelRun0_C.sl.r_23 c i arg1 harg1 arg2 harg2 arg3 harg3 arg4 harg4 arg5 harg5 arg6 harg6 arg7 harg7 arg8 harg8 arg9 harg9 arg10 harg10 arg11 harg11 arg12 harg12 x0 x3 x4 xs0 xs1 xs2 xs3) (kernelRun0_C.sl.r_30 c i arg1 harg1 arg2 harg2 arg3 harg3 arg4 harg4 arg5 harg5 arg6 harg6 arg7 harg7 arg8 harg8 arg9 harg9 arg10 harg10 arg11 harg11 arg12 harg12 x0 x3 x4 xs0 xs1 xs2 xs3) (kernelRun0_C.sl.r_31 c i arg1 harg1 arg2 harg2 arg3 harg3 arg4 harg4 arg5 harg5 arg6 harg6 arg7 harg7 arg8 harg8 arg9 harg9 arg10 harg10 arg11 harg11 arg12 harg12 x0 x3 x4 xs0 xs1 xs2 xs3) (k0_pay104 k0_pay59)
      = lift fun j => dqs Q K V D (256 * ((i 0).val + 1)) (256 * (i 0).val + (j 0).val) (256 * 0 + (j 1).val) (4 * 0 + (j 1).val / 64) := by
    simp only [kernelRun0_C.sl.r_30, kernelRun0_C.sl.r_31, r_23_lift h0 h3 h4 hs0 hs1 hs2 hs3]
    exact unstack1 (fun h r c => dqs Q K V D (256 * ((i 0).val + 1)) (256 * (i 0).val + r) (256 * 0 + c) (4 * 0 + h)) _ rfl
  have e1 : k0_pay2 (F := Ideal) k0_pay58 k0_pay59 k0_pay60 (kernelRun0_C.sl.r_29 c i arg1 harg1 arg2 harg2 arg3 harg3 arg4 harg4 arg5 harg5 arg6 harg6 arg7 harg7 arg8 harg8 arg9 harg9 arg10 harg10 arg11 harg11 arg12 harg12 x0 x3 x4 xs0 xs1 xs2 xs3)
      = lift fun j => dqs Q K V D (256 * ((i 0).val + 1)) (256 * (i 0).val + (j 0).val) (256 * 1 + (j 1).val) (4 * 1 + (j 1).val / 64) := by
    simp only [r_29_lift h0 h3 h4 hs0 hs1 hs2 hs3]
    exact unstack (fun h r c => dqs Q K V D (256 * ((i 0).val + 1)) (256 * (i 0).val + r) (256 * 1 + c) (4 * 1 + h))
  have h := write_queries VO0_5.junk (i 0) _ _ Q K V D e0 e1
  exact h

include h0 h3 h4 hs0 hs1 hs2 hs3 in
/-- The keys' and values' gradients written out. -/
theorem dk_out : out0_C_6 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = lift (arr (dks Q K V D (256 * ((i 0).val + 1)))) := by
  have e := dk_left (hc0 := hc0) (hc1 := hc1) (x1 := x1) (x2 := x2) (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3
  unfold sout0_C_2 kernelRun0_C at e
  unfold out0_C_6 kernelRun0_C
  dsimp only at e ⊢
  rw [View.read_writes_full]
  unfold kernelRun0_C.sl.v392
  rw [View.readAt_full, e, out3]

include h0 h3 h4 hs0 hs1 hs2 hs3 in
theorem dv_out : out0_C_7 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = lift (arr (dvs Q K D (256 * ((i 0).val + 1)))) := by
  have e := dv_left (hc0 := hc0) (hc1 := hc1) (x1 := x1) (x2 := x2) (c := c) (harg1 := harg1) (harg2 := harg2) (harg3 := harg3) (harg4 := harg4) (harg5 := harg5) (harg6 := harg6) (harg7 := harg7) (harg8 := harg8) (harg9 := harg9) (harg10 := harg10) (harg11 := harg11) (harg12 := harg12) h0 h3 h4 hs0 hs1 hs2 hs3
  unfold sout0_C_3 kernelRun0_C at e
  unfold out0_C_7 kernelRun0_C
  dsimp only at e ⊢
  rw [View.read_writes_full]
  unfold kernelRun0_C.sl.v395
  rw [View.readAt_full, e, out4]

end AttnPointC

end
-- ==== Proof.AttnGrid.lean ====
/- The attention gradient's kernel over its grid: from real queries, keys, values and upstream rows, the three gradients it
   ends with. -/
module

public import proofs.«01_k».proof.Proof.Gen.AttnKernelIdeal.Value
public import proofs.«01_k».proof.Proof.AttnHost
public import proofs.«01_k».proof.Proof.AttnPointA
public import proofs.«01_k».proof.Proof.AttnPointB
public import proofs.«01_k».proof.Proof.AttnPointC

@[expose] public section

set_option maxRecDepth 16384

noncomputable section

open Idealize.ShloMosaic Idealize.ShloMosaic.TcCoe Idealize.SL.Sem
open Idealize.ShloMosaic.Pipeline (Dat)

namespace AttnGrid

open Cert.AttnKernelIdeal Cert.AttnKernelIdeal.Gen AttnLift AttnTile AttnMath AttnLoop AttnReads

theorem index_values : ∀ t : Fin cfg0.N, win0_0.index t = ![t.val, 0] ∧ win0_1.index t = ![0, 1] ∧ win0_2.index t = ![0, 2]
    ∧ win0_3.index t = ![t.val, 0] ∧ win0_4.index t = ![0, t.val, 0] ∧ win0_5.index t = ![t.val, 0] ∧ win0_6.index t = ![0, 0]
    ∧ win0_7.index t = ![0, 0] :=
  (by decide +kernel : ∀ t : Fin grid0.N, _)

theorem coord_value : ∀ t : Fin cfg0.N, (grid0.coords t 0).val = t.val := (by decide +kernel : ∀ t : Fin grid0.N, _)

variable (m : (ℓ : Loc nD τ sig) → Buf (Elt Ideal) ℓ)

/-- The arguments' entries are these reals. -/
structure Entries (c : Dev nD) (Q K V D : ℕ → ℕ → ℝ) : Prop where
  q : extractStridedSlice S2048x512 ![0, 0] (m ((c : Thread nD τ).loc main_arg0)) slices_S2048x3584_S2048x512_0_0 = lift (arr Q)
  k : extractStridedSlice S2048x512 ![0, 512] (m ((c : Thread nD τ).loc main_arg0)) slices_S2048x3584_S2048x512_0_512 = lift (arr K)
  v : (fun i : S2048x512.Idx => (show FVec Ideal S2048x3584 .f32 from m ((c : Thread nD τ).loc main_arg0)) (ix2 (i 0) ⟨1024 + (i 1).val, by
    have : (i 1).val < 512 := (i 1).isLt; omega⟩)) = lift (arr V)
  d : (m ((c : Thread nD τ).loc main_arg1) : FVec Ideal S2048x512 .f32) = lift (arr D)

variable {m} {c : Dev nD} {Q K V D : ℕ → ℕ → ℝ}

section
variable (E : Entries m c Q K V D)
include E

theorem lt8 (t : Fin cfg0.N) : t.val < 8 := by have := lt_of_lt_of_eq t.isLt N_0; omega

theorem queries_block (t : Fin cfg0.N) :
    (show FVec Ideal S256x512 .f32 from iblk m c 0 t) = lift (blk (grid0.coords t 0).val Q) := by
  have h8 := lt8 E t
  funext i; idx_vars i
  rw [coord_value t]
  refine Eq.trans (b := extractStridedSlice S2048x512 ![0, 0] (m ((c : Thread nD τ).loc main_arg0)) slices_S2048x3584_S2048x512_0_0
          (ix2 ⟨256 * t.val + i0.val, by omega⟩ i1)) ?_ ?_
  · pointwise
    blk_ext [iblk, Cert.AttnKernelIdeal.Gen.V, index_values t]
  · rw [E.q]
    rfl

theorem upstream_block (t : Fin cfg0.N) :
    (show FVec Ideal S256x512 .f32 from iblk m c 3 t) = lift (blk (grid0.coords t 0).val D) := by
  have h8 := lt8 E t
  funext i; idx_vars i
  rw [coord_value t]
  refine Eq.trans (b := (m ((c : Thread nD τ).loc main_arg1) : FVec Ideal S2048x512 .f32) (ix2 ⟨256 * t.val + i0.val, by omega⟩ i1)) ?_ ?_
  · blk_ext [iblk, Cert.AttnKernelIdeal.Gen.V, index_values t]
  · rw [E.d]
    rfl

theorem keys_block (t : Fin cfg0.N) : (show FVec Ideal S2048x512 .f32 from iblk m c 1 t) = lift (arr K) := by
  funext i; idx_vars i
  rw [← E.k]
  pointwise
  blk_ext [iblk, Cert.AttnKernelIdeal.Gen.V, index_values t]

theorem values_block (t : Fin cfg0.N) : (show FVec Ideal S2048x512 .f32 from iblk m c 2 t) = lift (arr V) := by
  funext i; idx_vars i
  rw [← E.v]
  blk_ext [iblk, Cert.AttnKernelIdeal.Gen.V, index_values t]

theorem totals_block (t : Fin cfg0.N) : (show FVec Ideal S2x256x256 .f32 from iblk m c 4 t)
    = lift (tots (grid0.coords t 0).val fun H t => lms Q K H t 2048) := by
  have h8 := lt8 E t
  funext i; idx_vars i
  rw [coord_value t]
  refine Eq.trans (b := (Cert.AttnKernelIdeal.Gen.V m c main_v23 : FVec Ideal S2x2048x256 .f32) (ix3 i0 ⟨256 * t.val + i1.val, by omega⟩ i2)) ?_ ?_
  · blk_ext [iblk, index_values t]
  · rw [AttnHost.totals_entry m c Q K E.q E.k]
    rfl

/-- What point `t` writes and leaves: the query block's gradient, the keys and values, and their gradients so far. -/
structure Done (m : (ℓ : Loc nD τ sig) → Buf (Elt Ideal) ℓ) (c : Dev nD) (Q K V D : ℕ → ℕ → ℝ) (t : Fin cfg0.N) : Prop where
  dq : (outsAt0 m c t.val t.isLt).1
    = lift fun j : S256x512.Idx => dqs Q K V D 2048 (256 * (grid0.coords t 0).val + (j 0).val) (j 1).val ((j 1).val / 64)
  k : (outsAt0 m c t.val t.isLt).2.2.2.1 = lift (arr K)
  v : (outsAt0 m c t.val t.isLt).2.2.2.2.1 = lift (arr V)
  dk : (outsAt0 m c t.val t.isLt).2.2.2.2.2.1 = lift (arr (dks Q K V D (256 * ((grid0.coords t 0).val + 1))))
  dv : (outsAt0 m c t.val t.isLt).2.2.2.2.2.2 = lift (arr (dvs Q K D (256 * ((grid0.coords t 0).val + 1))))

theorem first_done (t : Fin cfg0.N) (h0 : t.val = 0) : Done m c Q K V D t := by
  have e := coord_value t
  have o := outsAt0_A m c t (by omega) (by omega)
  constructor
  · refine (congrArg (fun p => p.1) o).trans ?_
    dsimp only
    exact AttnPointA.dq_block (i := grid0.coords t) (queries_block E t) (upstream_block E t) (totals_block E t) (e.trans h0) (keys_block E t) (values_block E t)
  · refine (congrArg (fun p => p.2.2.2.1) o).trans ?_
    dsimp only
    exact AttnPointA.keys_kept (keys_block E t)
  · refine (congrArg (fun p => p.2.2.2.2.1) o).trans ?_
    dsimp only
    exact AttnPointA.values_kept (values_block E t)
  · refine (congrArg (fun p => p.2.2.2.2.2.1) o).trans ?_
    dsimp only
    exact AttnPointA.dk_left (i := grid0.coords t) (queries_block E t) (upstream_block E t) (totals_block E t) (e.trans h0) (keys_block E t) (values_block E t)
  · refine (congrArg (fun p => p.2.2.2.2.2.2) o).trans ?_
    dsimp only
    exact AttnPointA.dv_left (i := grid0.coords t) (queries_block E t) (upstream_block E t) (totals_block E t) (e.trans h0) (keys_block E t) (values_block E t)

/-- What a middle point needs: the point before left the keys and values, and their gradients so far. -/
theorem next_done (t : Fin cfg0.N) (h0 : ¬t.val % 8 = 0) (h7 : ¬t.val % 8 = 7) (h : t.val - 1 < cfg0.N)
    (p : Done m c Q K V D ⟨t.val - 1, h⟩) : Done m c Q K V D t := by
  have o := outsAt0_B m c t h0 h7
  have e : (grid0.coords ⟨t.val - 1, h⟩ 0).val + 1 = (grid0.coords t 0).val := by
    rw [coord_value, coord_value]; dsimp only; omega
  have pk := p.dk
  have pv := p.dv
  rw [e] at pk pv
  constructor
  · refine (congrArg (fun p => p.1) o).trans ?_
    dsimp only
    exact AttnPointB.dq_block (i := grid0.coords t) (queries_block E t) (upstream_block E t) (totals_block E t) p.k p.v pk pv
  · refine (congrArg (fun p => p.2.2.2.1) o).trans ?_
    dsimp only
    exact p.k
  · refine (congrArg (fun p => p.2.2.2.2.1) o).trans ?_
    dsimp only
    exact p.v
  · refine (congrArg (fun p => p.2.2.2.2.2.1) o).trans ?_
    dsimp only
    exact AttnPointB.dk_left (i := grid0.coords t) (queries_block E t) (upstream_block E t) (totals_block E t) p.k p.v pk pv
  · refine (congrArg (fun p => p.2.2.2.2.2.2) o).trans ?_
    dsimp only
    exact AttnPointB.dv_left (i := grid0.coords t) (queries_block E t) (upstream_block E t) (totals_block E t) p.k p.v pk pv

theorem end_done (t : Fin cfg0.N) (h0 : ¬t.val % 8 = 0) (h7 : t.val % 8 = 7) (h : t.val - 1 < cfg0.N)
    (p : Done m c Q K V D ⟨t.val - 1, h⟩) : Done m c Q K V D t := by
  have o := outsAt0_C m c t h0 h7
  have e : (grid0.coords ⟨t.val - 1, h⟩ 0).val + 1 = (grid0.coords t 0).val := by
    rw [coord_value, coord_value]; dsimp only; omega
  have pk := p.dk
  have pv := p.dv
  rw [e] at pk pv
  constructor
  · refine (congrArg (fun p => p.1) o).trans ?_
    dsimp only
    exact AttnPointC.dq_block (i := grid0.coords t) (queries_block E t) (upstream_block E t) (totals_block E t) p.k p.v pk pv
  · refine (congrArg (fun p => p.2.2.2.1) o).trans ?_
    dsimp only
    exact p.k
  · refine (congrArg (fun p => p.2.2.2.2.1) o).trans ?_
    dsimp only
    exact p.v
  · refine (congrArg (fun p => p.2.2.2.2.2.1) o).trans ?_
    dsimp only
    exact AttnPointC.dk_left (i := grid0.coords t) (queries_block E t) (upstream_block E t) (totals_block E t) p.k p.v pk pv
  · refine (congrArg (fun p => p.2.2.2.2.2.2) o).trans ?_
    dsimp only
    exact AttnPointC.dv_left (i := grid0.coords t) (queries_block E t) (upstream_block E t) (totals_block E t) p.k p.v pk pv

theorem point_done (n : ℕ) (h : n < cfg0.N) : Done m c Q K V D ⟨n, h⟩ := by
  induction n with
  | zero => exact first_done E _ rfl
  | succ n ih =>
    have h8 := lt8 E ⟨n + 1, h⟩
    dsimp only at h8
    by_cases h7 : n + 1 = 7
    · exact end_done E ⟨n + 1, h⟩ (by dsimp only; omega) (by dsimp only; omega) (by dsimp only; omega) (ih (by omega))
    · exact next_done E ⟨n + 1, h⟩ (by dsimp only; omega) (by dsimp only; omega) (by dsimp only; omega) (ih (by omega))

/-- The last point's outputs: the keys' and values' gradients. -/
theorem last_done (t : Fin cfg0.N) (ht : t.val % 8 = 7) :
    (outsAt0 m c t.val t.isLt).2.1 = lift (arr (dks Q K V D 2048)) ∧ (outsAt0 m c t.val t.isLt).2.2.1 = lift (arr (dvs Q K D 2048)) := by
  have h8 := lt8 E t
  have h : t.val - 1 < cfg0.N := by omega
  have p := point_done E (t.val - 1) h
  have o := outsAt0_C m c t (by omega) ht
  have e : (grid0.coords ⟨t.val - 1, h⟩ 0).val + 1 = (grid0.coords t 0).val := by
    rw [coord_value, coord_value]; dsimp only; omega
  have pk := p.dk
  have pv := p.dv
  rw [e] at pk pv
  have e1 : 256 * ((grid0.coords t 0).val + 1) = 2048 := by rw [coord_value]; omega
  constructor
  · refine (congrArg (fun p => p.2.1) o).trans ?_
    dsimp only
    exact (AttnPointC.dk_out (i := grid0.coords t) (queries_block E t) (upstream_block E t) (totals_block E t) p.k p.v pk pv).trans (by rw [e1])
  · refine (congrArg (fun p => p.2.2.1) o).trans ?_
    dsimp only
    exact (AttnPointC.dv_out (i := grid0.coords t) (queries_block E t) (upstream_block E t) (totals_block E t) p.k p.v pk pv).trans (by rw [e1])

/-- The kernel's three results. -/
theorem dq_final : (dats m 0 c).arrAt 5 cfg0.N = lift fun i : S2048x512.Idx => dqs Q K V D 2048 (i 0).val (i 1).val ((i 1).val / 64) := by
  refine (dats m 0 c).arrAt_eq_of_covers 5 _ (by decide +kernel) fun t hf y => ?_
  have h8 := lt8 E t
  blk_simp
  rw [after0_5, (point_done E t.val t.isLt).dq, eq_ix2 y, coord_value]
  have e : (win0_5.blk t).view.emb (ix2 (y 0) (y 1)) = ix2 ⟨256 * t.val + (y 0).val, by have : (y 0).val < 256 := (y 0).isLt; omega⟩ (y 1) := by
    blk_ext [index_values t]
  rw [e]
  rfl

theorem dk_final : (dats m 0 c).arrAt 6 cfg0.N = (lift (arr (dks Q K V D 2048)) : S2048x512.Idx → EReal) := by
  refine (dats m 0 c).arrAt_eq_of_covers 6 _ (by decide +kernel) fun t hf y => ?_
  blk_simp
  rw [after0_6, (last_done E t ((flush0_6 t).mp hf)).1]
  have e : (win0_6.blk t).view.emb y = y := by blk_ext [index_values t]
  rw [e]

theorem dv_final : (dats m 0 c).arrAt 7 cfg0.N = (lift (arr (dvs Q K D 2048)) : S2048x512.Idx → EReal) := by
  refine (dats m 0 c).arrAt_eq_of_covers 7 _ (by decide +kernel) fun t hf y => ?_
  blk_simp
  rw [after0_7, (last_done E t ((flush0_7 t).mp hf)).2]
  have e : (win0_7.blk t).view.emb y = y := by blk_ext [index_values t]
  rw [e]

end

end AttnGrid

end
-- ==== Proof.AttnFinite.lean ====
/- Arguments without infinite entries are arrays of real entries. -/
module

public import proofs.«01_k».proof.Proof.AttnReference
public import proofs.«01_k».proof.Proof.AttnGrid
public import proofs.«01_k».proof.Pre_finite_attn

@[expose] public section

set_option maxRecDepth 16384

noncomputable section

open Idealize.ShloMosaic Idealize.ShloMosaic.TcCoe

namespace AttnFinite

open AttnLift AttnLoop

theorem foldl_and {ι : Type} (l : List ι) (g : ι → BitVec 1) (v : BitVec 1)
    (h : l.foldl (fun r n => IntOp.andi r (g n)) v = 1#1) : v = 1#1 ∧ ∀ n ∈ l, g n = 1#1 := by
  induction l generalizing v with
  | nil => exact ⟨h, fun n hn => absurd hn List.not_mem_nil⟩
  | cons a l ih =>
    obtain ⟨h1, h2⟩ := ih _ h
    have e : ∀ p q : BitVec 1, IntOp.andi p q = 1#1 → p = 1#1 ∧ q = 1#1 := by decide
    obtain ⟨hv, ha⟩ := e _ _ h1
    exact ⟨hv, fun n hn => (List.mem_cons.mp hn).elim (fun e => e ▸ ha) (h2 n)⟩

/-- Where the conjunction of all entries holds, every entry holds. -/
theorem all_hold {s t u : Shape} {axes : List (Fin s.rank)} (x : s.Idx → BitVec 1) (v : u.Idx → BitVec 1) (h : s.ReducesTo axes t)
    (hu : 0 < u.numel) (j : t.Idx) (hj : ∀ i, h.drop i = j) (e : Host.reduce IntOp.andi x v h hu j = 1#1) (i : s.Idx) : x i = 1#1 := by
  unfold Host.reduce at e
  have := (foldl_and _ (fun n => x (s.rowMajor.symm n)) _ e).2 (s.rowMajor i)
    (List.mem_filter.mpr ⟨List.mem_finRange _, by simp [hj]⟩)
  rwa [Equiv.symm_apply_apply] at this

theorem real_of_below (x : EReal) (h : Ideal.cmp .olt (max x (-x)) (Ideal.ofBits .f32 0x7F800000#32) = 1#1) :
    x = ((x.toReal : ℝ) : EReal) := by
  rw [AttnReference.lit_infinity] at h
  have hx : max x (-x) < ⊤ := by
    by_contra hn
    simp [Ideal.cmp, hn] at h
  rw [max_lt_iff] at hx
  refine (EReal.coe_toReal hx.1.ne fun hb => ?_).symm
  rw [hb] at hx
  simp at hx

/-- The real numbers of a column range of an array. -/
def reals {R C : ℕ} (off : ℕ) (A : (⟨2, ![R, C]⟩ : Shape).Idx → EReal) : ℕ → ℕ → ℝ := fun r c =>
  if h : r < R ∧ off + c < C then (A (ix2 ⟨r, h.1⟩ ⟨off + c, h.2⟩)).toReal else 0

theorem reals_at {R C : ℕ} (off : ℕ) (A : (⟨2, ![R, C]⟩ : Shape).Idx → EReal) (r c : ℕ) (hr : r < R) (hc : off + c < C)
    (h : A (ix2 ⟨r, hr⟩ ⟨off + c, hc⟩) = (((A (ix2 ⟨r, hr⟩ ⟨off + c, hc⟩)).toReal : ℝ) : EReal)) :
    A (ix2 ⟨r, hr⟩ ⟨off + c, hc⟩) = ((reals off A r c : ℝ) : EReal) := by
  unfold reals
  rw [dif_pos ⟨hr, hc⟩]
  exact h

/-- The precondition, entry by entry. -/
theorem entries_real [Cert.Pre_finite_attn.Facts] (u : FVec Ideal Cert.Pre_finite_attn.S2048x3584 .f32) (d : FVec Ideal Cert.Pre_finite_attn.S2048x512 .f32)
    (h : Cert.Pre_finite_attn.fn (F := Ideal) u d = fun _ => 1#1) :
    (∀ (r : Fin 2048) (k : ℕ) (hk : k < 1536), u (ix2 r ⟨k, by omega⟩) = (((u (ix2 r ⟨k, by omega⟩)).toReal : ℝ) : EReal))
      ∧ ∀ r k, d (ix2 r k) = (((d (ix2 r k)).toReal : ℝ) : EReal) := by
  have h0 := congrFun h ix0
  unfold Cert.Pre_finite_attn.fn at h0
  dsimp only at h0
  have e : ∀ p q : BitVec 1, IntOp.andi p q = 1#1 → p = 1#1 ∧ q = 1#1 := by decide
  obtain ⟨hu, hd⟩ := e _ _ h0
  constructor
  · intro r k hk
    have := all_hold _ _ _ _ (fun a => a.elim0) (fun i => funext fun a => a.elim0) hu (ix2 r ⟨k, hk⟩)
    refine real_of_below _ (Eq.trans ?_ this)
    refine congrArg (fun y => Ideal.cmp .olt (max y (-y)) (Ideal.ofBits .f32 0x7F800000#32)) ?_
    pointwise
  · intro r k
    have := all_hold _ _ _ _ (fun a => a.elim0) (fun i => funext fun a => a.elim0) hd (ix2 r k)
    exact real_of_below _ this

end AttnFinite

end
-- ==== Proof.Attn.lean ====
/- The attention gradient's kernel and the gradient of the attention agree on arguments without infinite entries. -/
module

public import proofs.«01_k».proof.Defs
public import proofs.«01_k».proof.Proof.AttnFinite

@[expose] public section

set_option maxRecDepth 16384

noncomputable section

open Idealize.ShloMosaic Idealize.ShloMosaic.TcCoe Idealize.SL.Sem

namespace Cert.AttnHand

open AttnLift AttnLoop AttnFinite

instance facts : Cert.Pre_finite_attn.Facts where
  slices_S2048x3584_S2048x1536_0_0 := by decide
  bcast_S_S2048x1536 := by decide
  reducesTo_S2048x1536_S_d0_1 := by decide
  h_S_ := by decide
  bcast_S_S2048x512 := by decide
  reducesTo_S2048x512_S_d0_1 := by decide

theorem kernel_entries (m : (ℓ : Loc Cert.AttnKernelIdeal.nD Cert.AttnKernelIdeal.τ Cert.AttnKernelIdeal.sig) → Buf (Elt Ideal) ℓ)
    (c : Dev Cert.AttnKernelIdeal.nD) (u : FVec Ideal Cert.AttnKernelIdeal.S2048x3584 .f32) (d : FVec Ideal Cert.AttnKernelIdeal.S2048x512 .f32)
    (hu : m ((c.tc : Thread Cert.AttnKernelIdeal.nD Cert.AttnKernelIdeal.τ).loc Cert.AttnKernelIdeal.main_arg0) = u)
    (hd : m ((c.tc : Thread Cert.AttnKernelIdeal.nD Cert.AttnKernelIdeal.τ).loc Cert.AttnKernelIdeal.main_arg1) = d)
    (h : Cert.Pre_finite_attn.fn (F := Ideal) u d = fun _ => 1#1) :
    AttnGrid.Entries m c (reals 0 u) (reals 512 u) (reals 1024 u) (reals 0 d) := by
  obtain ⟨eu, ed⟩ := entries_real u d h
  constructor
  · rw [hu]; funext i; idx_vars i
    pointwise
    rw [lift_apply]
    exact (congrArg u (by congr 2; exact (Nat.zero_add _).symm)).trans
      (reals_at 0 u i0.val i1.val i0.isLt (by omega) (eu i0 (0 + i1.val) (by omega)))
  · rw [hu]; funext i; idx_vars i
    pointwise
    exact reals_at 512 u i0.val i1.val i0.isLt (by omega) (eu i0 (512 + i1.val) (by omega))
  · rw [hu]; funext i; idx_vars i
    exact reals_at 1024 u i0.val i1.val i0.isLt (by omega) (eu i0 (1024 + i1.val) (by omega))
  · rw [hd]; funext i; idx_vars i
    rw [lift_apply]
    have e : i1 = ⟨0 + i1.val, by omega⟩ := Fin.ext (Nat.zero_add _).symm
    have := ed i0 ⟨0 + i1.val, by omega⟩
    exact (congrArg (fun k => d (ix2 i0 k)) e).trans (reals_at 0 d i0.val i1.val i0.isLt (by omega) this)

theorem reference_entries (u : FVec Ideal Cert.AttnReferenceIdeal.S2048x3584 .f32) (d : FVec Ideal Cert.AttnReferenceIdeal.S2048x512 .f32)
    (h : Cert.Pre_finite_attn.fn (F := Ideal) u d = fun _ => 1#1) :
    AttnReference.Entries u d (reals 0 u) (reals 512 u) (reals 1024 u) (reals 0 d) := by
  obtain ⟨eu, ed⟩ := entries_real u d h
  constructor
  · unfold Cert.AttnReferenceIdeal.Read.val_main_v0
    funext i; idx_vars i
    pointwise
    rw [lift_apply]
    exact (congrArg u (by congr 2; exact (Nat.zero_add _).symm)).trans
      (reals_at 0 u i0.val i1.val i0.isLt (by omega) (eu i0 (0 + i1.val) (by omega)))
  · unfold Cert.AttnReferenceIdeal.Read.val_main_v1
    funext i; idx_vars i
    pointwise
    exact reals_at 512 u i0.val i1.val i0.isLt (by omega) (eu i0 (512 + i1.val) (by omega))
  · unfold Cert.AttnReferenceIdeal.Read.val_main_v2
    funext i; idx_vars i
    pointwise
    exact reals_at 1024 u i0.val i1.val i0.isLt (by omega) (eu i0 (1024 + i1.val) (by omega))
  · funext i; idx_vars i
    rw [lift_apply]
    have e : i1 = ⟨0 + i1.val, by omega⟩ := Fin.ext (Nat.zero_add _).symm
    have := ed i0 ⟨0 + i1.val, by omega⟩
    exact (congrArg (fun k => d (ix2 i0 k)) e).trans (reals_at 0 d i0.val i1.val i0.isLt (by omega) this)

/-- The kernel's three results are the three gradients of the attention. -/
theorem algebraic : Cert.algebraic_AttnKernelIdeal_AttnReferenceIdeal_pre_finite_attn := by
  pair_intro
  · run_from Cert.AttnKernelIdeal.Value.run_blocks m g
  · run_from Cert.AttnReferenceIdeal.Value.run m' g'
    · rw [AttnGrid.dq_final (kernel_entries m c _ _ rfl rfl (hpre c)), Cert.AttnReferenceIdeal.Read.val_main_v52_eq,
        (hagree c).1, (hagree c).2]
      exact AttnReference.dq_real (reference_entries _ _ (hpre c))
    · rw [AttnGrid.dk_final (kernel_entries m c _ _ rfl rfl (hpre c)), Cert.AttnReferenceIdeal.Read.val_main_v53_eq,
        (hagree c).1, (hagree c).2]
      exact AttnReference.dk_real (reference_entries _ _ (hpre c))
    · rw [AttnGrid.dv_final (kernel_entries m c _ _ rfl rfl (hpre c)), Cert.AttnReferenceIdeal.Read.val_main_v54_eq,
        (hagree c).1, (hagree c).2]
      exact AttnReference.dv_real (reference_entries _ _ (hpre c))

end Cert.AttnHand

end
-- ==== Proof.PleBlocks.lean ====
/- The gradients of the gated per-layer embedding and the output projection, entry by entry, and what one row block of
   the kernel computes of them. -/
module

public import proofs.«01_k».proof.Proof.Gen.PleKernelIdeal.Value
public import proofs.«01_k».proof.Proof.Gen.PleReferenceIdeal.Read
public import proofs.«01_k».proof.Proof.RealLift
public import proofs.«01_k».proof.Proof.Dx
public import Idealize.ShloMosaic.Lib.StableHlo.RunRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! ## The gradients, entry by entry -/

namespace PleGrad

variable (h g e d : Fin 2048 → Fin 1024 → EReal) (s : Fin 1024 → EReal) (wg wo : Fin 1024 → Fin 1024 → EReal)

/-- The gradient before the gate's sigmoid: `g` is the gate, `e` the projected embedding, `d` the upstream gradient. -/
def gateIn (i : Fin 2048) (l : Fin 1024) : EReal := e i l * d i l * (g i l * (1 - g i l))

/-- The gradient of the normalised rows. -/
def normed (i : Fin 2048) (k : Fin 1024) : EReal := ∑ l, gateIn g e d i l * wg k l

/-- The gradient of the residual stream `h`. -/
def stream (i : Fin 2048) (k : Fin 1024) : EReal := DxGrad.input h (normed g e d wg) d s i k

/-- The gradient of the mixed branches that the output projection reads. -/
def mixed (i : Fin 2048) (k : Fin 1024) : EReal := ∑ l, stream h g e d s wg i l * wo k l

/-- The gradient of the gate's weights. -/
def gateWeights (k l : Fin 1024) : EReal := ∑ i, h i k * DxGrad.rstd h i * s k * gateIn g e d i l

/-- The gradient of the embedding's weights. -/
def embedWeights (p : Fin 2048 → Fin 256 → EReal) (k : Fin 256) (l : Fin 1024) : EReal := ∑ i, p i k * (d i l * g i l)

/-- The gradient of the output projection's weights. -/
def outWeights (y : Fin 2048 → Fin 1024 → EReal) (k l : Fin 1024) : EReal := ∑ i, y i k * stream h g e d s wg i l

end PleGrad

/-! ## The kernel's row blocks -/

namespace Cert.PleKernelIdeal.Hand

open Cert.PleKernelIdeal Cert.PleKernelIdeal.Gen

theorem lit_one : Ideal.ofBits .f32 0x3F800000#32 = (1 : EReal) := by simp [Ideal.ofBits, Ideal.ieee]; norm_cast; norm_num

theorem gate_step (d : FVec Ideal S256x1024 .f32) (g p : FVec Ideal S256x1024 .bf16) (j : S256x1024.Idx) :
    k0_pay10 (F := Ideal) d g p j = d j * p j * g j * (1 - g j) := by
  pointwise [k0_pay10, k0_pay8]
  try rw [lit_one]

theorem embed_step (d : FVec Ideal S256x1024 .f32) (g : FVec Ideal S256x1024 .bf16) (j : S256x1024.Idx) :
    k0_pay9 (F := Ideal) d g j = d j * g j := by
  pointwise [k0_pay9, k0_pay8]

theorem normed_step (q : FVec Ideal S256x1024 .bf16) (w : FVec Ideal S1024x1024 .bf16) (j : S256x1024.Idx) :
    k0_pay14 (F := Ideal) q w j = ∑ l : Fin 1024, q (ix2 (j 0) l) * w (ix2 (j 1) l) := by
  pointwise [k0_pay14]

theorem rows_step (h : FVec Ideal S256x1024 .f32) (j : S256x1024.Idx) :
    k0_pay12 (F := Ideal) h j = h j * Ideal.rsqrt (RealLift.meanSq 1024 fun k : Fin 1024 => h (ix2 (j 0) k)) := by
  pointwise [k0_pay12, k0_pay11, k0_pay7]
  unfold RealLift.meanSq
  rw [RealLift.lit_1024, RealLift.lit_eps]

theorem stream_step (d h : FVec Ideal S256x1024 .f32) (g : FVec Ideal S1x1024 .f32) (q : FVec Ideal S256x1024 .bf16) (w : FVec Ideal S1024x1024 .bf16)
    (j : S256x1024.Idx) :
    k0_pay16 (F := Ideal) d (k0_pay7 h) g q (k0_pay11 h) w j
      = d j + (Ideal.rsqrt (RealLift.meanSq 1024 fun k : Fin 1024 => h (ix2 (j 0) k)) * (k0_pay14 q w j * g (ix2 0 (j 1)))
        - h j * (Ideal.rsqrt (RealLift.meanSq 1024 fun k : Fin 1024 => h (ix2 (j 0) k)) * Ideal.rsqrt (RealLift.meanSq 1024 fun k : Fin 1024 => h (ix2 (j 0) k))
            * Ideal.rsqrt (RealLift.meanSq 1024 fun k : Fin 1024 => h (ix2 (j 0) k)))
          * Ideal.div (∑ k : Fin 1024, k0_pay14 q w (ix2 (j 0) k) * g (ix2 0 k) * h (ix2 (j 0) k)) ((1024 : ℝ) : EReal)) := by
  simp only [normed_step]
  pointwise [k0_pay16, k0_pay14, k0_pay11, k0_pay7]
  unfold RealLift.meanSq
  rw [RealLift.lit_1024, RealLift.lit_eps]

theorem mixed_step (x : FVec Ideal S256x1024 .f32) (w : FVec Ideal S1024x1024 .bf16) (j : S256x1024.Idx) :
    k0_pay23 (F := Ideal) x w j = ∑ l : Fin 1024, x (ix2 (j 0) l) * w (ix2 (j 1) l) := by
  pointwise [k0_pay23, k0_pay22]

theorem gateWeights_step (d h : FVec Ideal S256x1024 .f32) (g p : FVec Ideal S256x1024 .bf16) (s : FVec Ideal S1x1024 .f32)
    (a : FVec Ideal S1024x1024 .f32) (j : S1024x1024.Idx) :
    k0_pay13 (F := Ideal) d h g s p a j
      = a j + ∑ r : Fin 256, k0_pay12 (F := Ideal) h (ix2 r (j 0)) * s (ix2 0 (j 0)) * k0_pay10 (F := Ideal) d g p (ix2 r (j 1)) := by
  pointwise [k0_pay13]

theorem gain_step (q : FVec Ideal S256x1024 .bf16) (x : FVec Ideal S256x1024 .f32) (w : FVec Ideal S1024x1024 .bf16) (a : FVec Ideal S1x1024 .f32)
    (j : S1x1024.Idx) :
    k0_pay15 (F := Ideal) q x w a j = a j + ∑ r : Fin 256, k0_pay14 (F := Ideal) q w (ix2 r (j 1)) * x (ix2 r (j 1)) := by
  pointwise [k0_pay15]

theorem top_step (x : FVec Ideal S256x1024 .f32) (a : FVec Ideal S512x1024 .f32) (y : FVec Ideal S256x512 .bf16) (j : S512x1024.Idx) :
    k0_pay1 (F := Ideal) (k0_pay22 x) a y j = a j + ∑ r : Fin 256, y (ix2 r (j 0)) * x (ix2 r (j 1)) := by
  pointwise [k0_pay1, k0_pay22]

theorem bottom_step (x : FVec Ideal S256x1024 .f32) (a : FVec Ideal S512x1024 .f32) (y : FVec Ideal S256x512 .bf16) (j : S512x1024.Idx) :
    k0_pay2 (F := Ideal) (k0_pay22 x) a y j = a j + ∑ r : Fin 256, y (ix2 r (j 0)) * x (ix2 r (j 1)) := by
  pointwise [k0_pay2, k0_pay22]

theorem embed0_step (x : FVec Ideal S256x1024 .bf16) (p : FVec Ideal S256x256 .f32) (a : FVec Ideal S1x256x256 .f32) (k l : Fin 256) :
    k0_pay18 (F := Ideal) x p a (ix3 0 k l) = a (ix3 0 k l) + ∑ r : Fin 256, p (ix2 r k) * x (ix2 r ⟨0 + l.val, by omega⟩) := by
  pointwise [k0_pay18, k0_pay17]

theorem embed1_step (x : FVec Ideal S256x1024 .bf16) (p : FVec Ideal S256x256 .f32) (a : FVec Ideal S1x256x256 .f32) (k l : Fin 256) :
    k0_pay19 (F := Ideal) x (k0_pay17 p) a (ix3 0 k l) = a (ix3 0 k l) + ∑ r : Fin 256, p (ix2 r k) * x (ix2 r ⟨256 + l.val, by omega⟩) := by
  pointwise [k0_pay19, k0_pay17]

theorem embed2_step (x : FVec Ideal S256x1024 .bf16) (p : FVec Ideal S256x256 .f32) (a : FVec Ideal S1x256x256 .f32) (k l : Fin 256) :
    k0_pay20 (F := Ideal) x (k0_pay17 p) a (ix3 0 k l) = a (ix3 0 k l) + ∑ r : Fin 256, p (ix2 r k) * x (ix2 r ⟨512 + l.val, by omega⟩) := by
  pointwise [k0_pay20, k0_pay17]

theorem embed3_step (x : FVec Ideal S256x1024 .bf16) (p : FVec Ideal S256x256 .f32) (a : FVec Ideal S1x256x256 .f32) (k l : Fin 256) :
    k0_pay21 (F := Ideal) x (k0_pay17 p) a (ix3 0 k l) = a (ix3 0 k l) + ∑ r : Fin 256, p (ix2 r k) * x (ix2 r ⟨768 + l.val, by omega⟩) := by
  pointwise [k0_pay21, k0_pay17]

variable (m : (ℓ : Loc nD τ sig) → Buf (Elt Ideal) ℓ)

/-! The saved values the kernel is given are the reference's own: the same forward lines. -/

theorem h1_term (c : Dev nD) : V m c main_v7 = Cert.PleReferenceIdeal.Read.val_main_v2 (F := Ideal) (m ((c : Thread nD τ).loc main_arg0))
    (m ((c : Thread nD τ).loc main_arg1)) (m ((c : Thread nD τ).loc main_arg2)) (m ((c : Thread nD τ).loc main_arg7)) := by
  show StableHlo.after hostOps0 _ _ = _
  after_reads_simp
  rfl

theorem gate_term (c : Dev nD) : V m c main_v37 = Cert.PleReferenceIdeal.Read.val_main_v26 (F := Ideal) (m ((c : Thread nD τ).loc main_arg0))
    (m ((c : Thread nD τ).loc main_arg1)) (m ((c : Thread nD τ).loc main_arg2)) (m ((c : Thread nD τ).loc main_arg4))
    (m ((c : Thread nD τ).loc main_arg5)) (m ((c : Thread nD τ).loc main_arg7)) := by
  show StableHlo.after hostOps0 _ _ = _
  after_reads_simp
  rfl

theorem embed_term (c : Dev nD) : V m c main_v38 = Cert.PleReferenceIdeal.Read.val_main_v30 (F := Ideal) (m ((c : Thread nD τ).loc main_arg3))
    (m ((c : Thread nD τ).loc main_arg6)) := by
  show StableHlo.after hostOps0 _ _ = _
  after_reads_simp
  rfl

theorem index_values : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] ∧ win0_10.index t = ![t.val, 0]
    ∧ win0_11.index t = ![t.val, 0] ∧ win0_12.index t = ![0, 0] ∧ win0_13.index t = ![0, 0, 0] ∧ win0_14.index t = ![0, 0]
    ∧ win0_15.index t = ![0, 0] :=
  (by decide +kernel : ∀ t : Fin grid0.N, _)

/-- The row of the arrays that row `a` of the block at point `t` is. -/
def row (t : Fin cfg0.N) (a : Fin 256) : Fin 2048 := ⟨t.val * 256 + a.val, by have := lt_of_lt_of_eq t.isLt N_0; omega⟩

/-! The arguments and the saved values by row and column. -/

def ct (c : Dev nD) (i : Fin 2048) (k : Fin 1024) : EReal := (show FVec Ideal S2048x1024 .f32 from m ((c : Thread nD τ).loc main_arg8)) (ix2 i k)
def h1 (c : Dev nD) (i : Fin 2048) (k : Fin 1024) : EReal := (show FVec Ideal S2048x1024 .f32 from V m c main_v7) (ix2 i k)
def gate (c : Dev nD) (i : Fin 2048) (k : Fin 1024) : EReal := (show FVec Ideal S2048x1024 .bf16 from V m c main_v37) (ix2 i k)
def embed (c : Dev nD) (i : Fin 2048) (k : Fin 1024) : EReal := (show FVec Ideal S2048x1024 .bf16 from V m c main_v38) (ix2 i k)
def emb (c : Dev nD) (i : Fin 2048) (k : Fin 256) : EReal := (show FVec Ideal S2048x256 .f32 from m ((c : Thread nD τ).loc main_arg3)) (ix2 i k)
def gains (c : Dev nD) (k : Fin 1024) : EReal := (show FVec Ideal S1x1024 .f32 from m ((c : Thread nD τ).loc main_arg4)) (ix2 0 k)
def wg (c : Dev nD) (k l : Fin 1024) : EReal := (show FVec Ideal S1024x1024 .f32 from m ((c : Thread nD τ).loc main_arg5)) (ix2 k l)
def wo (c : Dev nD) (k l : Fin 1024) : EReal := (show FVec Ideal S1024x1024 .f32 from m ((c : Thread nD τ).loc main_arg7)) (ix2 k l)
def ya (c : Dev nD) (i : Fin 2048) (k : Fin 512) : EReal := (show FVec Ideal S2048x512 .f32 from m ((c : Thread nD τ).loc main_arg1)) (ix2 i k)
def yc (c : Dev nD) (i : Fin 2048) (k : Fin 512) : EReal := (show FVec Ideal S2048x512 .f32 from m ((c : Thread nD τ).loc main_arg2)) (ix2 i k)

theorem wo_entry (c : Dev nD) (k l : Fin 1024) : (show FVec Ideal S1024x1024 .bf16 from V m c main_v0) (ix2 k l) = wo m c k l := by
  unfold wo; entry_read; pointwise
theorem wg_entry (c : Dev nD) (k l : Fin 1024) : (show FVec Ideal S1024x1024 .bf16 from V m c main_v1) (ix2 k l) = wg m c k l := by
  unfold wg; entry_read; pointwise
theorem ya_entry (c : Dev nD) (i : Fin 2048) (k : Fin 512) : (show FVec Ideal S2048x512 .bf16 from V m c main_v39) (ix2 i k) = ya m c i k := by
  unfold ya; entry_read; pointwise
theorem yc_entry (c : Dev nD) (i : Fin 2048) (k : Fin 512) : (show FVec Ideal S2048x512 .bf16 from V m c main_v40) (ix2 i k) = yc m c i k := by
  unfold yc; entry_read; pointwise

/-! The input blocks at a point. -/

variable (c : Dev nD) (t : Fin cfg0.N)

theorem blk_ct (a : Fin 256) (k : Fin 1024) : (show FVec Ideal S256x1024 .f32 from iblk m c 0 t) (ix2 a k) = ct m c (row t a) k := by
  unfold ct row; blk_ext [iblk, V, index_values t]
theorem blk_h1 (a : Fin 256) (k : Fin 1024) : (show FVec Ideal S256x1024 .f32 from iblk m c 1 t) (ix2 a k) = h1 m c (row t a) k := by
  unfold h1 row; blk_ext [iblk, index_values t]
theorem blk_gate (a : Fin 256) (k : Fin 1024) : (show FVec Ideal S256x1024 .bf16 from iblk m c 2 t) (ix2 a k) = gate m c (row t a) k := by
  unfold gate row; blk_ext [iblk, index_values t]
theorem blk_embed (a : Fin 256) (k : Fin 1024) : (show FVec Ideal S256x1024 .bf16 from iblk m c 3 t) (ix2 a k) = embed m c (row t a) k := by
  unfold embed row; blk_ext [iblk, index_values t]
theorem blk_emb (a : Fin 256) (k : Fin 256) : (show FVec Ideal S256x256 .f32 from iblk m c 4 t) (ix2 a k) = emb m c (row t a) k := by
  unfold emb row; blk_ext [iblk, V, index_values t]
theorem blk_ya (a : Fin 256) (k : Fin 512) : (show FVec Ideal S256x512 .bf16 from iblk m c 5 t) (ix2 a k) = ya m c (row t a) k := by
  refine Eq.trans ?_ (ya_entry m c _ _); unfold row; blk_ext [iblk, index_values t]
theorem blk_yc (a : Fin 256) (k : Fin 512) : (show FVec Ideal S256x512 .bf16 from iblk m c 6 t) (ix2 a k) = yc m c (row t a) k := by
  refine Eq.trans ?_ (yc_entry m c _ _); unfold row; blk_ext [iblk, index_values t]
theorem blk_gains (k : Fin 1024) : (show FVec Ideal S1x1024 .f32 from iblk m c 7 t) (ix2 0 k) = gains m c k := by
  unfold gains; blk_ext [iblk, V, index_values t]
theorem blk_wg (k l : Fin 1024) : (show FVec Ideal S1024x1024 .bf16 from iblk m c 8 t) (ix2 k l) = wg m c k l := by
  refine Eq.trans ?_ (wg_entry m c _ _); blk_ext [iblk, index_values t]
theorem blk_wo (k l : Fin 1024) : (show FVec Ideal S1024x1024 .bf16 from iblk m c 9 t) (ix2 k l) = wo m c k l := by
  refine Eq.trans ?_ (wo_entry m c _ _); blk_ext [iblk, index_values t]

end Cert.PleKernelIdeal.Hand

end
-- ==== Proof.Ple.lean ====
/- The backward pass of the gated per-layer embedding and the output projection: the kernel's six result arrays. The
   weights' gradients are accumulated over the eight row blocks; the output projection's is stored in two halves, the
   embedding's in four tiles. -/
module

public import proofs.«01_k».proof.Proof.PleBlocks

@[expose] public section

set_option maxRecDepth 16384

noncomputable section

open Idealize.ShloMosaic Idealize.ShloMosaic.TcCoe Idealize.SL.Sem
open Idealize.ShloMosaic.Pipeline (Dat)

namespace Cert.PleKernelIdeal.Hand

open Cert.PleKernelIdeal Cert.PleKernelIdeal.Gen

variable (m : (ℓ : Loc nD τ sig) → Buf (Elt Ideal) ℓ) (c : Dev nD) (t : Fin cfg0.N)

/-! ## One row block -/

theorem gate_at (a : Fin 256) (l : Fin 1024) :
    k0_pay10 (F := Ideal) (iblk m c 0 t) (iblk m c 2 t) (iblk m c 3 t) (ix2 a l) = PleGrad.gateIn (gate m c) (embed m c) (ct m c) (row t a) l := by
  refine ((gate_step _ _ _ _).trans (Ideal.mul_congr (Ideal.mul_congr (Ideal.mul_congr (blk_ct m c t a l) (blk_embed m c t a l)) (blk_gate m c t a l))
    (congrArg (1 - ·) (blk_gate m c t a l)))).trans ?_
  unfold PleGrad.gateIn
  rw [mul_comm (ct m c _ _), mul_assoc]

theorem normed_at (a : Fin 256) (k : Fin 1024) :
    k0_pay14 (F := Ideal) (k0_pay10 (iblk m c 0 t) (iblk m c 2 t) (iblk m c 3 t)) (iblk m c 8 t) (ix2 a k)
      = PleGrad.normed (gate m c) (embed m c) (ct m c) (wg m c) (row t a) k :=
  (normed_step _ _ _).trans (Fin.sum_fin_congr fun l => Ideal.mul_congr (gate_at m c t a l) (blk_wg m c t k l))

theorem rows_at (a : Fin 256) (k : Fin 1024) :
    k0_pay12 (F := Ideal) (iblk m c 1 t) (ix2 a k) = h1 m c (row t a) k * DxGrad.rstd (h1 m c) (row t a) := by
  refine (rows_step _ _).trans (Ideal.mul_congr (blk_h1 m c t a k) ?_)
  exact congrArg (fun x => Ideal.rsqrt (RealLift.meanSq 1024 x)) (funext fun k => blk_h1 m c t a k)

/-- The gradient of the residual stream in a row block. -/
def streamBlock : FVec Ideal S256x1024 .f32 :=
  k0_pay16 (F := Ideal) (iblk m c 0 t) (k0_pay7 (iblk m c 1 t)) (iblk m c 7 t) (k0_pay10 (iblk m c 0 t) (iblk m c 2 t) (iblk m c 3 t))
    (k0_pay11 (iblk m c 1 t)) (iblk m c 8 t)

/-- The gradients the kernel computes, as functions of row and column. -/
abbrev dStream : Fin 2048 → Fin 1024 → EReal := PleGrad.stream (h1 m c) (gate m c) (embed m c) (ct m c) (gains m c) (wg m c)

/-- A row of the block's stream gradient, from the row it writes. -/
theorem stream_core (d h : FVec Ideal S256x1024 .f32) (g : FVec Ideal S1x1024 .f32) (q : FVec Ideal S256x1024 .bf16) (w : FVec Ideal S1024x1024 .bf16)
    (X N D : Fin 2048 → Fin 1024 → EReal) (G : Fin 1024 → EReal) (i : Fin 2048) (a : Fin 256) (b : Fin 1024)
    (hx : ∀ k : Fin 1024, h (ix2 a k) = X i k) (hn : ∀ k : Fin 1024, k0_pay14 (F := Ideal) q w (ix2 a k) = N i k)
    (hd : d (ix2 a b) = D i b) (hg : ∀ k : Fin 1024, g (ix2 0 k) = G k) :
    k0_pay16 (F := Ideal) d (k0_pay7 h) g q (k0_pay11 h) w (ix2 a b) = DxGrad.input X N D G i b := by
  rw [stream_step]
  simp only [ix2_0, ix2_1, hx, hn, hd, hg]
  rw [RealLift.rms_grad (by norm_num) (fun k => X i k)]
  simp only [DxGrad.input, DxGrad.back, DxGrad.rstd, mul_comm (X i _) (N i _ * G _)]

theorem stream_at (a : Fin 256) (b : Fin 1024) : streamBlock m c t (ix2 a b) = dStream m c (row t a) b :=
  stream_core _ _ _ _ _ (h1 m c) (PleGrad.normed (gate m c) (embed m c) (ct m c) (wg m c)) (ct m c) (gains m c) (row t a) a b
    (blk_h1 m c t a) (normed_at m c t a) (blk_ct m c t a b) (blk_gains m c t)

theorem stream_block (j : S256x1024.Idx) : (outsAt0 m c t.val t.isLt).1 j = streamBlock m c t j := by
  unfold streamBlock
  by_cases h : t.val % 8 = 0
  · rw [outsAt0_A m c t h]; frame_out
  · rw [outsAt0_B m c t h]; frame_out

theorem mixed_block (j : S256x1024.Idx) : (outsAt0 m c t.val t.isLt).2.1 j = k0_pay23 (F := Ideal) (streamBlock m c t) (iblk m c 9 t) j := by
  unfold streamBlock
  by_cases h : t.val % 8 = 0
  · rw [outsAt0_A m c t h]; frame_out
  · rw [outsAt0_B m c t h]; frame_out

/-- The kernel's first result: the gradient of the residual stream. -/
theorem stream_final : (dats m 0 c).arrAt 10 cfg0.N = fun i => dStream m c (i 0) (i 1) := by
  refine (dats m 0 c).arrAt_eq_of_covers 10 _ (by decide +kernel) fun t hf y => ?_
  blk_simp
  rw [after0_10, stream_block, eq_ix2 y]
  have e : (win0_10.blk t).view.emb (ix2 (y 0) (y 1)) = ix2 (row t (y 0)) (y 1) := by unfold row; blk_ext [index_values t]
  rw [e]
  exact stream_at m c t _ _

/-- The second: the gradient of the mixed branches. -/
theorem mixed_final : (dats m 0 c).arrAt 11 cfg0.N = fun i =>
    PleGrad.mixed (h1 m c) (gate m c) (embed m c) (ct m c) (gains m c) (wg m c) (wo m c) (i 0) (i 1) := by
  refine (dats m 0 c).arrAt_eq_of_covers 11 _ (by decide +kernel) fun t hf y => ?_
  blk_simp
  rw [after0_11, mixed_block, eq_ix2 y]
  have e : (win0_11.blk t).view.emb (ix2 (y 0) (y 1)) = ix2 (row t (y 0)) (y 1) := by unfold row; blk_ext [index_values t]
  rw [e]
  exact (mixed_step _ _ _).trans (Fin.sum_fin_congr fun l => Ideal.mul_congr (stream_at m c t _ l) (blk_wo m c t _ l))

/-! ## The accumulated gradients -/

/-- The row blocks one after the other are all rows. -/
theorem sum_row_blocks (f : Fin 2048 → EReal) (p : Fin 8 → Fin cfg0.N) (hp : ∀ s, (p s).val = s.val) :
    ∑ s, ∑ r : Fin 256, f (row (p s) r) = ∑ i, f i := by
  rw [Fin.sum_univ_tiles 8 256 rfl]
  refine Fin.sum_fin_congr fun s => Fin.sum_fin_congr fun r => congrArg f (Fin.ext ?_)
  unfold row
  simp only [hp]

/-- What a row block adds to the gate's weights' gradient. -/
def gateTerm (k l : Fin 1024) : EReal :=
  ∑ r : Fin 256, h1 m c (row t r) k * DxGrad.rstd (h1 m c) (row t r) * gains m c k * PleGrad.gateIn (gate m c) (embed m c) (ct m c) (row t r) l

theorem gateTerm_at (a : FVec Ideal S1024x1024 .f32) (j : S1024x1024.Idx) :
    k0_pay13 (F := Ideal) (iblk m c 0 t) (iblk m c 1 t) (iblk m c 2 t) (iblk m c 7 t) (iblk m c 3 t) a j = a j + gateTerm m c t (j 0) (j 1) :=
  (gateWeights_step _ _ _ _ _ _ _).trans (congrArg (a j + ·) (Fin.sum_fin_congr fun r =>
    Ideal.mul_congr (Ideal.mul_congr (rows_at m c t r _) (blk_gains m c t _)) (gate_at m c t r _)))

theorem gate_start (h : t.val % 8 = 0) (j : S1024x1024.Idx) : (outsAt0 m c t.val t.isLt).2.2.1 j = 0 + gateTerm m c t (j 0) (j 1) := by
  rw [outsAt0_A m c t h]
  frame_out
  rw [gateTerm_at]
  refine congrArg (· + _) ?_
  pointwise [k0_pay3]

theorem gate_next (h : ¬ t.val % 8 = 0) (j : S1024x1024.Idx) : (outsAt0 m c t.val t.isLt).2.2.1 j
    = (outsAt0 m c (t.val - 1) (Nat.lt_of_le_of_lt (Nat.sub_le _ _) t.isLt)).2.2.1 j + gateTerm m c t (j 0) (j 1) := by
  rw [outsAt0_B m c t h]
  frame_out
  rw [gateTerm_at]

/-- The third: the gradient of the gate's weights. -/
theorem gate_final : (dats m 0 c).arrAt 12 cfg0.N = fun i =>
    PleGrad.gateWeights (h1 m c) (gate m c) (embed m c) (ct m c) (gains m c) (i 0) (i 1) := by
  refine (dats m 0 c).arrAt_eq_of_covers 12 _ (by decide +kernel) fun t hf y => ?_
  have h7 := (flush0_12 t).mp hf
  have ht : t.val = 7 := by have := lt_of_lt_of_eq t.isLt N_0; omega
  blk_simp
  rw [after0_12, Pipeline.eq_sum_fin_of_reset_step_apply_of_flush (fun n h => (outsAt0 m c n h).2.2.1) 8 (fun _ => 0)
    (fun t j => gateTerm m c t (j 0) (j 1)) (gate_start m c) (gate_next m c) t h7 y, zero_add]
  have e : (win0_12.blk t).view.emb y = y := by blk_ext [index_values t]
  rw [e]
  refine sum_row_blocks (fun i => h1 m c i (y 0) * DxGrad.rstd (h1 m c) i * gains m c (y 0) * PleGrad.gateIn (gate m c) (embed m c) (ct m c) i (y 1)) _ fun s => ?_
  show 8 * (t.val / 8) + s.val = s.val
  omega

/-- What a row block adds to the gain's gradient. -/
def gainTerm (k : Fin 1024) : EReal :=
  ∑ r : Fin 256, h1 m c (row t r) k * DxGrad.rstd (h1 m c) (row t r) * PleGrad.normed (gate m c) (embed m c) (ct m c) (wg m c) (row t r) k

theorem gainTerm_at (a : FVec Ideal S1x1024 .f32) (j : S1x1024.Idx) :
    k0_pay15 (F := Ideal) (k0_pay10 (iblk m c 0 t) (iblk m c 2 t) (iblk m c 3 t)) (k0_pay12 (iblk m c 1 t)) (iblk m c 8 t) a j
      = a j + gainTerm m c t (j 1) :=
  (gain_step _ _ _ _ _).trans (congrArg (a j + ·) (Fin.sum_fin_congr fun r =>
    (Ideal.mul_congr (normed_at m c t r _) (rows_at m c t r _)).trans (mul_comm _ _)))

theorem gain_start (h : t.val % 8 = 0) (j : S1x1024.Idx) : (outsAt0 m c t.val t.isLt).2.2.2.2.2 j = 0 + gainTerm m c t (j 1) := by
  rw [outsAt0_A m c t h]
  frame_out
  rw [gainTerm_at]
  refine congrArg (· + _) ?_
  pointwise [k0_pay6]

theorem gain_next (h : ¬ t.val % 8 = 0) (j : S1x1024.Idx) : (outsAt0 m c t.val t.isLt).2.2.2.2.2 j
    = (outsAt0 m c (t.val - 1) (Nat.lt_of_le_of_lt (Nat.sub_le _ _) t.isLt)).2.2.2.2.2 j + gainTerm m c t (j 1) := by
  rw [outsAt0_B m c t h]
  frame_out
  rw [gainTerm_at]

/-- The sixth: the gradient of the gain. -/
theorem gain_final : (dats m 0 c).arrAt 15 cfg0.N = fun i =>
    DxGrad.gain (h1 m c) (PleGrad.normed (gate m c) (embed m c) (ct m c) (wg m c)) (i 1) := by
  refine (dats m 0 c).arrAt_eq_of_covers 15 _ (by decide +kernel) fun t hf y => ?_
  have h7 := (flush0_15 t).mp hf
  have ht : t.val = 7 := by have := lt_of_lt_of_eq t.isLt N_0; omega
  blk_simp
  rw [after0_15, Pipeline.eq_sum_fin_of_reset_step_apply_of_flush (fun n h => (outsAt0 m c n h).2.2.2.2.2) 8 (fun _ => 0)
    (fun t j => gainTerm m c t (j 1)) (gain_start m c) (gain_next m c) t h7 y, zero_add]
  have e : (win0_15.blk t).view.emb y = y := by blk_ext [index_values t]
  rw [e]
  refine sum_row_blocks (fun i => h1 m c i (y 1) * DxGrad.rstd (h1 m c) i * PleGrad.normed (gate m c) (embed m c) (ct m c) (wg m c) i (y 1)) _ fun s => ?_
  show 8 * (t.val / 8) + s.val = s.val
  omega

/-! ### Results stored in several pieces -/

/-- Pieces over earlier contents: where some piece of `L` holds the index and each that does has the value `v`, the contents are `v`. -/
theorem canon_over {Val : EltTy → Type} [∀ e, Nonempty (Val e)] {S : Shape} {e : EltTy} (L' : List (View.Piece Val S e)) (y : S.Idx) (v : Val e) :
    ∀ L : List (View.Piece Val S e), (∃ p ∈ L, y ∈ p.1.set) → View.AllAt L y v → View.canon (L ++ L') y = v
  | [], hc, _ => by obtain ⟨p, hp, _⟩ := hc; exact absurd hp List.not_mem_nil
  | p :: L, hc, h => by
    by_cases hm : y ∈ p.1.set
    · obtain ⟨x, rfl⟩ := p.1.exists_idx_of_mem hm
      rw [List.cons_append, show p.1.idx x = p.1.emb x from rfl, View.canon_cons_emb]
      exact h p List.mem_cons_self x rfl
    · rw [List.cons_append, View.canon_cons_of_not_mem _ _ hm]
      refine canon_over L' y v L ?_ fun q hq => h q (List.mem_cons_of_mem _ hq)
      obtain ⟨q, hq, hyq⟩ := hc
      rcases List.mem_cons.mp hq with rfl | hq'
      · exact absurd hyq hm
      · exact ⟨q, hq', hyq⟩

/-- A load from one whole store: the entry stored. -/
theorem read_whole {Val : EltTy → Type} [∀ e, Nonempty (Val e)] {sig : RefSig} {κ : Kind} {sp : Space} {S : Shape} {e : EltTy}
    (v : View sig κ sp S e) {off : Fin S.rank → Nat} (inb : ∀ a, off a + S.size a ≤ S.size a) (w : S.Idx → Val e) (B : LoadRect S)
    (h : ∀ a, off a = 0) (x : B.shape.Idx) :
    v.readCov [(⟨Rect.unit off (no_index S.size) inb, w⟩ : View.Piece Val S e)] B x = w (B.idx x) := by
  rw [View.readCov_eq_canon', View.canon_cons_unit_lit' _ _ _ h]

/-- A load past the last store, along axis `a`, sees the stores before it. -/
theorem read_past {Val : EltTy → Type} [∀ e, Nonempty (Val e)] {sig : RefSig} {κ : Kind} {sp : Space} {S : Shape} {e : EltTy}
    (v : View sig κ sp S e) {off size off' size' : Fin S.rank → Nat} (inb : ∀ a, off a + size a ≤ S.size a) (inb' : ∀ a, off' a + size' a ≤ S.size a)
    (w : (Rect.unit off size inb).shape.Idx → Val e) (L : List (View.Piece Val S e)) (a : Fin S.rank) (h : off a + size a ≤ off' a)
    (x : (Rect.unit off' size' inb').toLoadRect.shape.Idx) :
    v.readCov ((⟨Rect.unit off size inb, w⟩ : View.Piece Val S e) :: L) (Rect.unit off' size' inb').toLoadRect x
      = v.readCov L (Rect.unit off' size' inb').toLoadRect x :=
  congrFun (View.readCov_cons_of_disjoint v (⟨Rect.unit off size inb, w⟩ : View.Piece Val S e) L (Rect.unit off' size' inb').toLoadRect
    (Rect.unit_disjoint (inb := inb) (inb' := inb') a (Or.inl h))) x

/-- The two branches' rows side by side. -/
def mixedRows (i : Fin 2048) (k : Fin 1024) : EReal := if h : k.val < 512 then ya m c i ⟨k.val, h⟩ else yc m c i ⟨k.val - 512, by omega⟩

theorem mixedRows_top (i : Fin 2048) (k : Fin 1024) (x : Fin 512) (h : k.val = 0 + x.val) : mixedRows m c i k = ya m c i x := by
  unfold mixedRows
  rw [dif_pos (by omega)]
  exact congrArg (ya m c i) (Fin.ext (by simp only; omega))

theorem mixedRows_bottom (i : Fin 2048) (k : Fin 1024) (x : Fin 512) (h : k.val = 512 + x.val) : mixedRows m c i k = yc m c i x := by
  unfold mixedRows
  rw [dif_neg (by omega)]
  exact congrArg (yc m c i) (Fin.ext (by simp only; omega))

/-- What a row block adds to the output projection's weights' gradient. -/
def outTerm (k l : Fin 1024) : EReal := ∑ r : Fin 256, mixedRows m c (row t r) k * dStream m c (row t r) l

theorem top_at (a : FVec Ideal S512x1024 .f32) (x : S512x1024.Idx) (y : S1024x1024.Idx) (h0 : (y 0).val = 0 + (x 0).val) (h1 : (y 1).val = 0 + (x 1).val) :
    k0_pay1 (F := Ideal) (k0_pay22 (streamBlock m c t)) a (iblk m c 5 t) x = a x + outTerm m c t (y 0) (y 1) := by
  refine (top_step _ _ _ _).trans (congrArg (a x + ·) (Fin.sum_fin_congr fun r => Ideal.mul_congr ?_ ?_))
  · exact (blk_ya m c t r _).trans (mixedRows_top m c _ _ _ h0).symm
  · rw [show y 1 = x 1 from Fin.ext (by omega)]
    exact stream_at m c t r _

theorem bottom_at (a : FVec Ideal S512x1024 .f32) (x : S512x1024.Idx) (y : S1024x1024.Idx) (h0 : (y 0).val = 512 + (x 0).val) (h1 : (y 1).val = 0 + (x 1).val) :
    k0_pay2 (F := Ideal) (k0_pay22 (streamBlock m c t)) a (iblk m c 6 t) x = a x + outTerm m c t (y 0) (y 1) := by
  refine (bottom_step _ _ _ _).trans (congrArg (a x + ·) (Fin.sum_fin_congr fun r => Ideal.mul_congr ?_ ?_))
  · exact (blk_yc m c t r _).trans (mixedRows_bottom m c _ _ _ h0).symm
  · rw [show y 1 = x 1 from Fin.ext (by omega)]
    exact stream_at m c t r _

theorem out_next (h : ¬ t.val % 8 = 0) (j : S1024x1024.Idx) : (outsAt0 m c t.val t.isLt).2.2.2.2.1 j
    = (outsAt0 m c (t.val - 1) (Nat.lt_of_le_of_lt (Nat.sub_le _ _) t.isLt)).2.2.2.2.1 j + outTerm m c t (j 0) (j 1) := by
  rw [outsAt0_B m c t h]
  frame_out
  refine View.canon_eq_of_allAt _ _ _ (View.cover_of_tiled_head _ _ _ rfl j) ?_
  refine View.allAt_cons_unit _ _ _ _ _ ?_ (View.allAt_cons_unit _ _ _ _ _ ?_ (View.allAt_nil _ _))
  · intro x hx
    refine (bottom_at m c t _ x j (hx 0) (hx 1)).trans (congrArg (· + _) ?_)
    exact View.ld_unit_apply_of _ _ _ _ _ _ hx
  · intro x hx
    refine (top_at m c t _ x j (hx 0) (hx 1)).trans (congrArg (· + _) ?_)
    exact View.ld_unit_apply_of _ _ _ _ _ _ hx

theorem out_zero (j : S1024x1024.Idx) : k0_pay5 (F := Ideal) j = 0 := by pointwise [k0_pay5]

theorem out_start (h : t.val % 8 = 0) (j : S1024x1024.Idx) : (outsAt0 m c t.val t.isLt).2.2.2.2.1 j = 0 + outTerm m c t (j 0) (j 1) := by
  rw [outsAt0_A m c t h]
  frame_out
  refine canon_over [_] _ _ [_, _] (View.cover_of_tiled_head _ _ _ rfl j) ?_
  refine View.allAt_cons_unit _ _ _ _ _ ?_ (View.allAt_cons_unit _ _ _ _ _ ?_ (View.allAt_nil _ _))
  · intro x hx
    refine (bottom_at m c t _ x j (hx 0) (hx 1)).trans (congrArg (· + _) ?_)
    refine (read_past _ _ _ _ _ 0 (by decide) x).trans ?_
    refine (read_whole (S := S1024x1024) (off := ![0, 0]) _ _ _ _ (by decide) _).trans ?_
    exact out_zero _
  · intro x hx
    refine (top_at m c t _ x j (hx 0) (hx 1)).trans (congrArg (· + _) ?_)
    refine (read_whole (S := S1024x1024) (off := ![0, 0]) _ _ _ _ (by decide) _).trans ?_
    exact out_zero _

/-- The fifth: the gradient of the output projection's weights. -/
theorem out_final : (dats m 0 c).arrAt 14 cfg0.N = fun i =>
    PleGrad.outWeights (h1 m c) (gate m c) (embed m c) (ct m c) (gains m c) (wg m c) (mixedRows m c) (i 0) (i 1) := by
  refine (dats m 0 c).arrAt_eq_of_covers 14 _ (by decide +kernel) fun t hf y => ?_
  have h7 := (flush0_14 t).mp hf
  have ht : t.val = 7 := by have := lt_of_lt_of_eq t.isLt N_0; omega
  blk_simp
  rw [after0_14, Pipeline.eq_sum_fin_of_reset_step_apply_of_flush (fun n h => (outsAt0 m c n h).2.2.2.2.1) 8 (fun _ => 0)
    (fun t j => outTerm m c t (j 0) (j 1)) (out_start m c) (out_next m c) t h7 y, zero_add]
  have e : (win0_14.blk t).view.emb y = y := by blk_ext [index_values t]
  rw [e]
  refine sum_row_blocks (fun i => mixedRows m c i (y 0) * dStream m c i (y 1)) _ fun s => ?_
  show 8 * (t.val / 8) + s.val = s.val
  omega

/-- The column of the embedding that column `l` of tile `q` is. -/
def tileCol (q : Fin 4) (l : Fin 256) : Fin 1024 := ⟨q.val * 256 + l.val, by omega⟩

/-- What a row block adds to the embedding's weights' gradient. -/
def embTerm (q : Fin 4) (k l : Fin 256) : EReal :=
  ∑ r : Fin 256, emb m c (row t r) k * (ct m c (row t r) (tileCol q l) * gate m c (row t r) (tileCol q l))

/-- One tile's product, from the column `l` of the array that the tile's column `x` is. -/
theorem tile_sum (o : Nat) (x : Fin 256) (h : o + x.val < 1024) (q : Fin 4) (k l : Fin 256) (hq : q.val * 256 = o) (hl : l.val = x.val) :
    ∑ r : Fin 256, (show FVec Ideal S256x256 .f32 from iblk m c 4 t) (ix2 r k) * k0_pay9 (F := Ideal) (iblk m c 0 t) (iblk m c 2 t) (ix2 r ⟨o + x.val, h⟩)
      = embTerm m c t q k l := by
  refine Fin.sum_fin_congr fun r => Ideal.mul_congr (blk_emb m c t r k) ((embed_step _ _ _).trans ?_)
  have e : (⟨o + x.val, h⟩ : Fin 1024) = tileCol q l := Fin.ext (by unfold tileCol; simp only; omega)
  rw [e]
  exact Ideal.mul_congr (blk_ct m c t r _) (blk_gate m c t r _)

section Tiles

variable (a : FVec Ideal S1x256x256 .f32) (x : S1x256x256.Idx) (y : S4x256x256.Idx)

theorem tile0_at (h0 : (y 0).val = 0 + (x 0).val) (h1 : (y 1).val = 0 + (x 1).val) (h2 : (y 2).val = 0 + (x 2).val) :
    k0_pay18 (F := Ideal) (k0_pay9 (iblk m c 0 t) (iblk m c 2 t)) (iblk m c 4 t) a x = a x + embTerm m c t (y 0) (y 1) (y 2) := by
  have e : x = ix3 0 (x 1) (x 2) := by rw [eq_ix3 x]; exact congrArg (fun z => ix3 z (x 1) (x 2)) (Subsingleton.elim _ _)
  have z : (x 0).val < 1 := (x 0).isLt
  rw [e]
  refine (embed0_step _ _ _ _ _).trans (congrArg (a _ + ·) ?_)
  rw [show y 1 = x 1 from Fin.ext (by omega)]
  exact tile_sum m c t _ _ _ _ _ _ (by omega) (by omega)

theorem tile1_at (h0 : (y 0).val = 1 + (x 0).val) (h1 : (y 1).val = 0 + (x 1).val) (h2 : (y 2).val = 0 + (x 2).val) :
    k0_pay19 (F := Ideal) (k0_pay9 (iblk m c 0 t) (iblk m c 2 t)) (k0_pay17 (iblk m c 4 t)) a x = a x + embTerm m c t (y 0) (y 1) (y 2) := by
  have e : x = ix3 0 (x 1) (x 2) := by rw [eq_ix3 x]; exact congrArg (fun z => ix3 z (x 1) (x 2)) (Subsingleton.elim _ _)
  have z : (x 0).val < 1 := (x 0).isLt
  rw [e]
  refine (embed1_step _ _ _ _ _).trans (congrArg (a _ + ·) ?_)
  rw [show y 1 = x 1 from Fin.ext (by omega)]
  exact tile_sum m c t _ _ _ _ _ _ (by omega) (by omega)

theorem tile2_at (h0 : (y 0).val = 2 + (x 0).val) (h1 : (y 1).val = 0 + (x 1).val) (h2 : (y 2).val = 0 + (x 2).val) :
    k0_pay20 (F := Ideal) (k0_pay9 (iblk m c 0 t) (iblk m c 2 t)) (k0_pay17 (iblk m c 4 t)) a x = a x + embTerm m c t (y 0) (y 1) (y 2) := by
  have e : x = ix3 0 (x 1) (x 2) := by rw [eq_ix3 x]; exact congrArg (fun z => ix3 z (x 1) (x 2)) (Subsingleton.elim _ _)
  have z : (x 0).val < 1 := (x 0).isLt
  rw [e]
  refine (embed2_step _ _ _ _ _).trans (congrArg (a _ + ·) ?_)
  rw [show y 1 = x 1 from Fin.ext (by omega)]
  exact tile_sum m c t _ _ _ _ _ _ (by omega) (by omega)

theorem tile3_at (h0 : (y 0).val = 3 + (x 0).val) (h1 : (y 1).val = 0 + (x 1).val) (h2 : (y 2).val = 0 + (x 2).val) :
    k0_pay21 (F := Ideal) (k0_pay9 (iblk m c 0 t) (iblk m c 2 t)) (k0_pay17 (iblk m c 4 t)) a x = a x + embTerm m c t (y 0) (y 1) (y 2) := by
  have e : x = ix3 0 (x 1) (x 2) := by rw [eq_ix3 x]; exact congrArg (fun z => ix3 z (x 1) (x 2)) (Subsingleton.elim _ _)
  have z : (x 0).val < 1 := (x 0).isLt
  rw [e]
  refine (embed3_step _ _ _ _ _).trans (congrArg (a _ + ·) ?_)
  rw [show y 1 = x 1 from Fin.ext (by omega)]
  exact tile_sum m c t _ _ _ _ _ _ (by omega) (by omega)

end Tiles

theorem emb_next (h : ¬ t.val % 8 = 0) (j : S4x256x256.Idx) : (outsAt0 m c t.val t.isLt).2.2.2.1 j
    = (outsAt0 m c (t.val - 1) (Nat.lt_of_le_of_lt (Nat.sub_le _ _) t.isLt)).2.2.2.1 j + embTerm m c t (j 0) (j 1) (j 2) := by
  rw [outsAt0_B m c t h]
  frame_out
  refine View.canon_eq_of_allAt _ _ _ (View.cover_of_tiled_head _ _ _ rfl j) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  · intro x hx
    refine (tile3_at m c t _ x j (hx 0) (hx 1) (hx 2)).trans (congrArg (· + _) ?_)
    exact View.ld_unit_apply_of _ _ _ _ _ _ hx
  · intro x hx
    refine (tile2_at m c t _ x j (hx 0) (hx 1) (hx 2)).trans (congrArg (· + _) ?_)
    exact View.ld_unit_apply_of _ _ _ _ _ _ hx
  · intro x hx
    refine (tile1_at m c t _ x j (hx 0) (hx 1) (hx 2)).trans (congrArg (· + _) ?_)
    exact View.ld_unit_apply_of _ _ _ _ _ _ hx
  · intro x hx
    refine (tile0_at m c t _ x j (hx 0) (hx 1) (hx 2)).trans (congrArg (· + _) ?_)
    exact View.ld_unit_apply_of _ _ _ _ _ _ hx

theorem emb_zero (j : S4x256x256.Idx) : k0_pay4 (F := Ideal) j = 0 := by pointwise [k0_pay4]

theorem emb_start (h : t.val % 8 = 0) (j : S4x256x256.Idx) : (outsAt0 m c t.val t.isLt).2.2.2.1 j = 0 + embTerm m c t (j 0) (j 1) (j 2) := by
  rw [outsAt0_A m c t h]
  frame_out
  refine canon_over [_] _ _ [_, _, _, _] (View.cover_of_tiled_head _ _ _ rfl j) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  · intro x hx
    refine (tile3_at m c t _ x j (hx 0) (hx 1) (hx 2)).trans (congrArg (· + _) ?_)
    refine (read_past _ _ _ _ _ 0 (by decide) x).trans ?_
    refine (read_past _ _ _ _ _ 0 (by decide) x).trans ?_
    refine (read_past _ _ _ _ _ 0 (by decide) x).trans ?_
    refine (read_whole (S := S4x256x256) (off := ![0, 0, 0]) _ _ _ _ (by decide) _).trans ?_
    exact emb_zero _
  · intro x hx
    refine (tile2_at m c t _ x j (hx 0) (hx 1) (hx 2)).trans (congrArg (· + _) ?_)
    refine (read_past _ _ _ _ _ 0 (by decide) x).trans ?_
    refine (read_past _ _ _ _ _ 0 (by decide) x).trans ?_
    refine (read_whole (S := S4x256x256) (off := ![0, 0, 0]) _ _ _ _ (by decide) _).trans ?_
    exact emb_zero _
  · intro x hx
    refine (tile1_at m c t _ x j (hx 0) (hx 1) (hx 2)).trans (congrArg (· + _) ?_)
    refine (read_past _ _ _ _ _ 0 (by decide) x).trans ?_
    refine (read_whole (S := S4x256x256) (off := ![0, 0, 0]) _ _ _ _ (by decide) _).trans ?_
    exact emb_zero _
  · intro x hx
    refine (tile0_at m c t _ x j (hx 0) (hx 1) (hx 2)).trans (congrArg (· + _) ?_)
    refine (read_whole (S := S4x256x256) (off := ![0, 0, 0]) _ _ _ _ (by decide) _).trans ?_
    exact emb_zero _

/-- The fourth: the gradient of the embedding's weights, its four column tiles one after the other. -/
theorem emb_final : (dats m 0 c).arrAt 13 cfg0.N = fun i =>
    PleGrad.embedWeights (gate m c) (ct m c) (emb m c) (i 1) (tileCol (i 0) (i 2)) := by
  refine (dats m 0 c).arrAt_eq_of_covers 13 _ (by decide +kernel) fun t hf y => ?_
  have h7 := (flush0_13 t).mp hf
  have ht : t.val = 7 := by have := lt_of_lt_of_eq t.isLt N_0; omega
  blk_simp
  rw [after0_13, Pipeline.eq_sum_fin_of_reset_step_apply_of_flush (fun n h => (outsAt0 m c n h).2.2.2.1) 8 (fun _ => 0)
    (fun t j => embTerm m c t (j 0) (j 1) (j 2)) (emb_start m c) (emb_next m c) t h7 y, zero_add]
  have e : (win0_13.blk t).view.emb y = y := by blk_ext [index_values t]
  rw [e]
  refine sum_row_blocks (fun i => emb m c i (y 1) * (ct m c i (tileCol (y 0) (y 2)) * gate m c i (tileCol (y 0) (y 2)))) _ fun s => ?_
  show 8 * (t.val / 8) + s.val = s.val
  omega

end Cert.PleKernelIdeal.Hand

end
-- ==== Proof.PleReference.lean ====
/- The reference of the gated per-layer embedding and the output projection, entry by entry, and its agreement with the
   kernel. -/
module

public import proofs.«01_k».proof.Defs
public import proofs.«01_k».proof.Proof.Ple
public import proofs.«01_k».proof.Proof.Gen.PleReferenceIdeal.Run
public import Idealize.ShloMosaic.Lib.Claim

@[expose] public section

set_option maxRecDepth 16384

noncomputable section

open Idealize.ShloMosaic Idealize.ShloMosaic.TcCoe Idealize.SL.Sem

namespace Cert.PleReferenceIdeal.Hand

open Cert.PleReferenceIdeal Cert.PleReferenceIdeal.Gen Cert.PleReferenceIdeal.Read

variable (x0 : FVec Ideal S2048x1024 .f32) (x1 x2 : FVec Ideal S2048x512 .f32) (x3 : FVec Ideal S2048x256 .f32) (x4 : FVec Ideal S1x1024 .f32)
  (x5 : FVec Ideal S1024x1024 .f32) (x6 : FVec Ideal S256x1024 .f32) (x7 : FVec Ideal S1024x1024 .f32) (x8 : FVec Ideal S2048x1024 .f32)

/-! The saved values by row and column. -/

def stream (i : Fin 2048) (k : Fin 1024) : EReal := val_main_v2 (F := Ideal) x0 x1 x2 x7 (ix2 i k)
def gate (i : Fin 2048) (k : Fin 1024) : EReal := val_main_v26 (F := Ideal) x0 x1 x2 x4 x5 x7 (ix2 i k)
def embed (i : Fin 2048) (k : Fin 1024) : EReal := val_main_v30 (F := Ideal) x3 x6 (ix2 i k)
def ct (i : Fin 2048) (k : Fin 1024) : EReal := x8 (ix2 i k)
def gains (k : Fin 1024) : EReal := x4 (ix2 0 k)
def square (w : FVec Ideal S1024x1024 .f32) (k l : Fin 1024) : EReal := w (ix2 k l)

theorem gateIn_at (i : Fin 2048) (l : Fin 1024) : val_main_v39 (F := Ideal) x0 x1 x2 x3 x4 x5 x6 x7 x8 (ix2 i l)
    = PleGrad.gateIn (gate x0 x1 x2 x4 x5 x7) (embed x3 x6) (ct x8) i l := by
  unfold PleGrad.gateIn gate embed ct
  pointwise [val_main_v39, val_main_v35, val_main_v34, val_main_v29, val_main_v28, val_main_v27, val_main_cst_5]

theorem normed_at (i : Fin 2048) (k : Fin 1024) : val_main_v42 (F := Ideal) x0 x1 x2 x3 x4 x5 x6 x7 x8 (ix2 i k)
    = PleGrad.normed (gate x0 x1 x2 x4 x5 x7) (embed x3 x6) (ct x8) (square x5) i k := by
  unfold PleGrad.normed square
  simp only [← gateIn_at]
  pointwise [val_main_v42]

theorem meanSq_at (i : Fin 2048) : val_main_v10 (F := Ideal) x0 x1 x2 x7 (ix2 i 0) = RealLift.meanSq 1024 (stream x0 x1 x2 x7 i) := by
  unfold RealLift.meanSq stream
  pointwise [val_main_v10, val_main_v8, val_main_v6, val_main_v5, val_main_v4, val_main_v7, val_main_v9, val_main_cst, val_main_cst_0, val_main_cst_1]
  rw [RealLift.lit_1024, RealLift.lit_eps]

theorem rstd_at (i : Fin 2048) : val_main_v11 (F := Ideal) x0 x1 x2 x7 (ix2 i 0) = DxGrad.rstd (stream x0 x1 x2 x7) i := by
  unfold DxGrad.rstd
  rw [← meanSq_at]
  pointwise [val_main_v11]

theorem back_at (i : Fin 2048) (k : Fin 1024) : val_main_v59 (F := Ideal) x0 x1 x2 x3 x4 x5 x6 x7 x8 (ix2 i k)
    = DxGrad.back (stream x0 x1 x2 x7) (PleGrad.normed (gate x0 x1 x2 x4 x5 x7) (embed x3 x6) (ct x8) (square x5)) (gains x4) i := by
  unfold DxGrad.back
  simp only [← rstd_at, ← normed_at, ← meanSq_at]
  unfold stream gains
  pointwise [val_main_v59, val_main_v58, val_main_cst_10, val_main_v57, val_main_v56, val_main_cst_9, val_main_v55, val_main_v51, val_main_v50, val_main_cst_8,
    val_main_v49, val_main_v47, val_main_v46, val_main_v17, val_main_v3, val_main_v14, val_main_v13, val_main_cst_2, val_main_v12]
  rw [RealLift.lit_1024, RealLift.lit_neg_half]
  simp only [Finset.univ_unique, Finset.sum_singleton]
  rfl

theorem stream_at (i : Fin 2048) (k : Fin 1024) : val_main_v63 (F := Ideal) x0 x1 x2 x3 x4 x5 x6 x7 x8 (ix2 i k)
    = PleGrad.stream (stream x0 x1 x2 x7) (gate x0 x1 x2 x4 x5 x7) (embed x3 x6) (ct x8) (gains x4) (square x5) i k := by
  unfold PleGrad.stream DxGrad.input
  rw [← back_at x0 x1 x2 x3 x4 x5 x6 x7 x8 i k, ← rstd_at, ← normed_at]
  unfold stream gains ct
  pointwise [val_main_v63, val_main_v62, val_main_v61, val_main_v60, val_main_v54, val_main_v53, val_main_v52, val_main_v47, val_main_v46, val_main_v17, val_main_v3, val_main_v33]

theorem mixed_at (i : Fin 2048) (k : Fin 1024) : val_main_v67 (F := Ideal) x0 x1 x2 x3 x4 x5 x6 x7 x8 (ix2 i k)
    = PleGrad.mixed (stream x0 x1 x2 x7) (gate x0 x1 x2 x4 x5 x7) (embed x3 x6) (ct x8) (gains x4) (square x5) (square x7) i k := by
  unfold PleGrad.mixed
  simp only [← stream_at]
  unfold square
  pointwise [val_main_v67]

theorem gateWeights_at (k l : Fin 1024) : val_main_v41 (F := Ideal) x0 x1 x2 x3 x4 x5 x6 x7 x8 (ix2 k l)
    = PleGrad.gateWeights (stream x0 x1 x2 x7) (gate x0 x1 x2 x4 x5 x7) (embed x3 x6) (ct x8) (gains x4) k l := by
  unfold PleGrad.gateWeights
  simp only [← rstd_at, ← gateIn_at]
  unfold stream gains
  pointwise [val_main_v41, val_main_v40, val_main_v19, val_main_v18, val_main_v16, val_main_v15, val_main_v17, val_main_v3]
  exact Fin.sum_fin_congr fun i => mul_comm _ _

theorem gain_at (k : Fin 1024) : val_main_v64 (F := Ideal) x0 x1 x2 x3 x4 x5 x6 x7 x8 (ix2 0 k)
    = DxGrad.gain (stream x0 x1 x2 x7) (PleGrad.normed (gate x0 x1 x2 x4 x5 x7) (embed x3 x6) (ct x8) (square x5)) k := by
  unfold DxGrad.gain
  simp only [← rstd_at, ← normed_at]
  unfold stream
  pointwise [val_main_v64, val_main_v48, val_main_cst_7, val_main_v45, val_main_v44, val_main_cst_6, val_main_v43, val_main_v16, val_main_v15]
  try simp only [Finset.univ_unique, Finset.sum_singleton]

theorem embedWeights_at (q : Fin 4) (k l : Fin 256) : val_main_v69 (F := Ideal) x0 x1 x2 x3 x4 x5 x7 x8 (ix3 q k l)
    = PleGrad.embedWeights (gate x0 x1 x2 x4 x5 x7) (ct x8) (fun i k => x3 (ix2 i k)) k (Cert.PleKernelIdeal.Hand.tileCol q l) := by
  unfold PleGrad.embedWeights gate ct Cert.PleKernelIdeal.Hand.tileCol
  pointwise [val_main_v69, val_main_v68, val_main_v38, val_main_v37, val_main_v36, val_main_v34]
  exact Fin.sum_fin_congr fun i => mul_comm _ _

theorem outWeights_at (k l : Fin 1024) : val_main_v66 (F := Ideal) x0 x1 x2 x3 x4 x5 x6 x7 x8 (ix2 k l)
    = PleGrad.outWeights (stream x0 x1 x2 x7) (gate x0 x1 x2 x4 x5 x7) (embed x3 x6) (ct x8) (gains x4) (square x5)
      (fun i k => val_main_v0 (F := Ideal) x1 x2 (ix2 i k)) k l := by
  unfold PleGrad.outWeights
  simp only [← stream_at]
  pointwise [val_main_v66, val_main_v65]
  exact Fin.sum_fin_congr fun i => mul_comm _ _

theorem mixedRows_at (i : Fin 2048) (k : Fin 1024) : val_main_v0 (F := Ideal) x1 x2 (ix2 i k)
    = if h : k.val < 512 then x1 (ix2 i ⟨k.val, h⟩) else x2 (ix2 i ⟨k.val - 512, by omega⟩) := by
  pointwise [val_main_v0]

/-! The results from arguments that equal `x0 … x8`. -/

variable (m : (ℓ : Loc nD τ sig) → Buf (Elt Ideal) ℓ) (c : Dev nD)

theorem result_63 (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (h4 : m ((c.tc : Thread nD τ).loc main_arg4) = x4) (h5 : m ((c.tc : Thread nD τ).loc main_arg5) = x5) (h6 : m ((c.tc : Thread nD τ).loc main_arg6) = x6) (h7 : m ((c.tc : Thread nD τ).loc main_arg7) = x7) (h8 : m ((c.tc : Thread nD τ).loc main_arg8) = x8) :
    Value.res_main_v63 m c = val_main_v63 (F := Ideal) x0 x1 x2 x3 x4 x5 x6 x7 x8 := by
  subst h0 h1 h2 h3 h4 h5 h6 h7 h8
  exact val_main_v63_eq m c

theorem result_67 (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (h4 : m ((c.tc : Thread nD τ).loc main_arg4) = x4) (h5 : m ((c.tc : Thread nD τ).loc main_arg5) = x5) (h6 : m ((c.tc : Thread nD τ).loc main_arg6) = x6) (h7 : m ((c.tc : Thread nD τ).loc main_arg7) = x7) (h8 : m ((c.tc : Thread nD τ).loc main_arg8) = x8) :
    Value.res_main_v67 m c = val_main_v67 (F := Ideal) x0 x1 x2 x3 x4 x5 x6 x7 x8 := by
  subst h0 h1 h2 h3 h4 h5 h6 h7 h8
  exact val_main_v67_eq m c

theorem result_41 (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (h4 : m ((c.tc : Thread nD τ).loc main_arg4) = x4) (h5 : m ((c.tc : Thread nD τ).loc main_arg5) = x5) (h6 : m ((c.tc : Thread nD τ).loc main_arg6) = x6) (h7 : m ((c.tc : Thread nD τ).loc main_arg7) = x7) (h8 : m ((c.tc : Thread nD τ).loc main_arg8) = x8) :
    Value.res_main_v41 m c = val_main_v41 (F := Ideal) x0 x1 x2 x3 x4 x5 x6 x7 x8 := by
  subst h0 h1 h2 h3 h4 h5 h6 h7 h8
  exact val_main_v41_eq m c

theorem result_66 (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (h4 : m ((c.tc : Thread nD τ).loc main_arg4) = x4) (h5 : m ((c.tc : Thread nD τ).loc main_arg5) = x5) (h6 : m ((c.tc : Thread nD τ).loc main_arg6) = x6) (h7 : m ((c.tc : Thread nD τ).loc main_arg7) = x7) (h8 : m ((c.tc : Thread nD τ).loc main_arg8) = x8) :
    Value.res_main_v66 m c = val_main_v66 (F := Ideal) x0 x1 x2 x3 x4 x5 x6 x7 x8 := by
  subst h0 h1 h2 h3 h4 h5 h6 h7 h8
  exact val_main_v66_eq m c

theorem result_64 (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (h4 : m ((c.tc : Thread nD τ).loc main_arg4) = x4) (h5 : m ((c.tc : Thread nD τ).loc main_arg5) = x5) (h6 : m ((c.tc : Thread nD τ).loc main_arg6) = x6) (h7 : m ((c.tc : Thread nD τ).loc main_arg7) = x7) (h8 : m ((c.tc : Thread nD τ).loc main_arg8) = x8) :
    Value.res_main_v64 m c = val_main_v64 (F := Ideal) x0 x1 x2 x3 x4 x5 x6 x7 x8 := by
  subst h0 h1 h2 h3 h4 h5 h6 h7 h8
  exact val_main_v64_eq m c

/-- The embedding's weights' gradient reads the two branches' arguments alone through the concatenation. -/
theorem embed_congr (y1 y2 : FVec Ideal S2048x512 .f32) (h1 : y1 = x1) (h2 : y2 = x2) :
    val_main_v69 (F := Ideal) x0 y1 y2 x3 x4 x5 x7 x8 = val_main_v69 (F := Ideal) x0 x1 x2 x3 x4 x5 x7 x8 := by
  rw [h1, h2]

end Cert.PleReferenceIdeal.Hand

/-! ## The kernel's saved values are the reference's -/

namespace Cert.PleKernelIdeal.Hand

open Cert.PleKernelIdeal Cert.PleKernelIdeal.Gen

variable (m : (ℓ : Loc nD τ sig) → Buf (Elt Ideal) ℓ) (c : Dev nD)

theorem h1_same : h1 m c = Cert.PleReferenceIdeal.Hand.stream (m ((c : Thread nD τ).loc main_arg0)) (m ((c : Thread nD τ).loc main_arg1)) (m ((c : Thread nD τ).loc main_arg2)) (m ((c : Thread nD τ).loc main_arg7)) := by
  unfold h1 Cert.PleReferenceIdeal.Hand.stream
  rw [h1_term]

theorem gate_same : gate m c = Cert.PleReferenceIdeal.Hand.gate (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg7)) := by
  unfold gate Cert.PleReferenceIdeal.Hand.gate
  rw [gate_term]

theorem embed_same : embed m c = Cert.PleReferenceIdeal.Hand.embed (m ((c : Thread nD τ).loc main_arg3)) (m ((c : Thread nD τ).loc main_arg6)) := by
  unfold embed Cert.PleReferenceIdeal.Hand.embed
  rw [embed_term]

theorem mixedRows_same : mixedRows m c = fun i k => Cert.PleReferenceIdeal.Read.val_main_v0 (F := Ideal) (m ((c : Thread nD τ).loc main_arg1)) (m ((c : Thread nD τ).loc main_arg2)) (ix2 i k) := by
  funext i k
  rw [Cert.PleReferenceIdeal.Hand.mixedRows_at]
  rfl

/-! The kernel's results are the reference's terms of the same arguments. -/

theorem stream_result : (dats m 0 c).arrAt 10 cfg0.N = Cert.PleReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [stream_final]
  funext i
  idx_vars i
  refine Eq.trans ?_ (Cert.PleReferenceIdeal.Hand.stream_at _ _ _ _ _ _ _ _ _ i0 i1).symm
  unfold dStream
  rw [h1_same, gate_same, embed_same]
  rfl

theorem mixed_result : (dats m 0 c).arrAt 11 cfg0.N = Cert.PleReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [mixed_final]
  funext i
  idx_vars i
  refine Eq.trans ?_ (Cert.PleReferenceIdeal.Hand.mixed_at _ _ _ _ _ _ _ _ _ i0 i1).symm
  rw [h1_same, gate_same, embed_same]
  rfl

theorem gate_result : (dats m 0 c).arrAt 12 cfg0.N = Cert.PleReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [gate_final]
  funext i
  idx_vars i
  refine Eq.trans ?_ (Cert.PleReferenceIdeal.Hand.gateWeights_at _ _ _ _ _ _ _ _ _ i0 i1).symm
  rw [h1_same, gate_same, embed_same]
  rfl

theorem emb_result : (dats m 0 c).arrAt 13 cfg0.N = Cert.PleReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) := by
  rw [emb_final]
  funext i
  idx_vars i
  refine Eq.trans ?_ (Cert.PleReferenceIdeal.Hand.embedWeights_at _ _ _ _ _ _ _ _ i0 i1 i2).symm
  rw [gate_same]
  rfl

theorem out_result : (dats m 0 c).arrAt 14 cfg0.N = Cert.PleReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [out_final]
  funext i
  idx_vars i
  refine Eq.trans ?_ (Cert.PleReferenceIdeal.Hand.outWeights_at _ _ _ _ _ _ _ _ _ i0 i1).symm
  rw [h1_same, gate_same, embed_same, mixedRows_same]
  rfl

theorem gain_result : (dats m 0 c).arrAt 15 cfg0.N = Cert.PleReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [gain_final]
  funext i
  idx_vars i
  obtain rfl : i0 = 0 := Subsingleton.elim _ _
  refine Eq.trans ?_ (Cert.PleReferenceIdeal.Hand.gain_at _ _ _ _ _ _ _ _ _ i1).symm
  rw [h1_same, gate_same, embed_same]
  rfl

end Cert.PleKernelIdeal.Hand

set_option maxHeartbeats 1000000 in
/-- On equal arguments the kernel's six gradients are the reference's, at the ideal numbers and for every argument: the
    residual stream's, the mixed branches', the gate's, the embedding's and the output projection's weights' and the gains'. -/
theorem Cert.PleHand.algebraic : Cert.algebraic_PleKernelIdeal_PleReferenceIdeal := by
  pair_intro
  · run_from Cert.PleKernelIdeal.Value.run_blocks m g
  · run_from Cert.PleReferenceIdeal.Value.run m' g'
    · obtain ⟨h0, h1, h2, h3, h4, h5, h6, h7, h8⟩ := hagree c
      exact (Cert.PleReferenceIdeal.Hand.result_63 _ _ _ _ _ _ _ _ _ m' c h0 h1 h2 h3 h4 h5 h6 h7 h8).trans (Cert.PleKernelIdeal.Hand.stream_result m c).symm
    · obtain ⟨h0, h1, h2, h3, h4, h5, h6, h7, h8⟩ := hagree c
      exact (Cert.PleReferenceIdeal.Hand.result_67 _ _ _ _ _ _ _ _ _ m' c h0 h1 h2 h3 h4 h5 h6 h7 h8).trans (Cert.PleKernelIdeal.Hand.mixed_result m c).symm
    · obtain ⟨h0, h1, h2, h3, h4, h5, h6, h7, h8⟩ := hagree c
      exact (Cert.PleReferenceIdeal.Hand.result_41 _ _ _ _ _ _ _ _ _ m' c h0 h1 h2 h3 h4 h5 h6 h7 h8).trans (Cert.PleKernelIdeal.Hand.gate_result m c).symm
    · exact (Cert.PleReferenceIdeal.Read.val_main_v69_eq (F := Ideal)
        (m ((c.tc : Thread Cert.PleKernelIdeal.nD Cert.PleKernelIdeal.τ).loc Cert.PleKernelIdeal.main_arg0))
        (m' ((c.tc : Thread Cert.PleReferenceIdeal.nD Cert.PleReferenceIdeal.τ).loc Cert.PleReferenceIdeal.main_arg1))
        (m' ((c.tc : Thread Cert.PleReferenceIdeal.nD Cert.PleReferenceIdeal.τ).loc Cert.PleReferenceIdeal.main_arg2))
        (m ((c.tc : Thread Cert.PleKernelIdeal.nD Cert.PleKernelIdeal.τ).loc Cert.PleKernelIdeal.main_arg3))
        (m ((c.tc : Thread Cert.PleKernelIdeal.nD Cert.PleKernelIdeal.τ).loc Cert.PleKernelIdeal.main_arg4))
        (m ((c.tc : Thread Cert.PleKernelIdeal.nD Cert.PleKernelIdeal.τ).loc Cert.PleKernelIdeal.main_arg5))
        (m ((c.tc : Thread Cert.PleKernelIdeal.nD Cert.PleKernelIdeal.τ).loc Cert.PleKernelIdeal.main_arg7))
        (m ((c.tc : Thread Cert.PleKernelIdeal.nD Cert.PleKernelIdeal.τ).loc Cert.PleKernelIdeal.main_arg8))).trans
        ((Cert.PleReferenceIdeal.Hand.embed_congr _ _ _ _ _ _ _ _ _ _ (hagree c).2.1 (hagree c).2.2.1).trans
          (Cert.PleKernelIdeal.Hand.emb_result m c).symm)
    · obtain ⟨h0, h1, h2, h3, h4, h5, h6, h7, h8⟩ := hagree c
      exact (Cert.PleReferenceIdeal.Hand.result_66 _ _ _ _ _ _ _ _ _ m' c h0 h1 h2 h3 h4 h5 h6 h7 h8).trans (Cert.PleKernelIdeal.Hand.out_result m c).symm
    · obtain ⟨h0, h1, h2, h3, h4, h5, h6, h7, h8⟩ := hagree c
      exact (Cert.PleReferenceIdeal.Hand.result_64 _ _ _ _ _ _ _ _ _ m' c h0 h1 h2 h3 h4 h5 h6 h7 h8).trans (Cert.PleKernelIdeal.Hand.gain_result m c).symm

end
-- ==== Proof.TailModel.lean ====
/- The layer's tail and the loss at its end, row by row: layer normalisation, gates, the output projection's residual,
   the gated per-layer embedding and the loss's gradient, as functions of one row. -/
module

public import proofs.«01_k».proof.Proof.Dx

@[expose] public section

noncomputable section

open Idealize.ShloMosaic

namespace Tail

theorem lit_512 : Ideal.ofBits .f32 0x44000000#32 = ((512 : ℝ) : EReal) := by
  simp [Ideal.ofBits, Ideal.ieee]; norm_cast; norm_num

theorem lit_half : Ideal.ofBits .f32 0x3F000000#32 = ((1 / 2 : ℝ) : EReal) := by
  simp [Ideal.ofBits, Ideal.ieee]; norm_cast; norm_num

theorem lit_two : Ideal.ofBits .f32 0x40000000#32 = ((2 : ℝ) : EReal) := by
  simp [Ideal.ofBits, Ideal.ieee]; norm_cast; norm_num

theorem lit_inv_1024 : Ideal.ofBits .f32 0x3A800000#32 = ((1 / 1024 : ℝ) : EReal) := by
  simp [Ideal.ofBits, Ideal.ieee]; norm_cast; norm_num

/-- The logistic function. -/
def sigmoid (x : EReal) : EReal := Ideal.div 1 (1 + Ideal.exp (-x))

/-- A row less its mean. -/
def centred (x : Fin 512 → EReal) (l : Fin 512) : EReal := x l - Ideal.div (∑ k, x k) ((512 : ℝ) : EReal)

/-- A row's layer normalisation with gains and offsets. -/
def layerNorm (x g b : Fin 512 → EReal) (l : Fin 512) : EReal :=
  centred x l * Ideal.rsqrt (RealLift.meanSq 512 (centred x)) * g l + b l

/-- The convolution branch's row after its pointwise projection. -/
def projected (x g b : Fin 512 → EReal) (w : Fin 512 → Fin 512 → EReal) (k : Fin 512) : EReal :=
  ∑ l, layerNorm x g b l * sigmoid (layerNorm x g b l) * w l k

/-- The convolution branch's row: normalised, with gains, and gated. -/
def branch (c q g : Fin 512 → EReal) (k : Fin 512) : EReal :=
  c k * Ideal.rsqrt (RealLift.meanSq 512 c) * g k * (q k * sigmoid (q k))

/-- The residual stream's row after the output projection of the two branches' rows. -/
def stream (h : Fin 1024 → EReal) (ya yc : Fin 512 → EReal) (wt wb : Fin 512 → Fin 1024 → EReal) (k : Fin 1024) : EReal :=
  h k + (∑ l, ya l * wt l k + ∑ l, yc l * wb l k)

/-- The embedding's gate. -/
def gate (h g : Fin 1024 → EReal) (w : Fin 1024 → Fin 1024 → EReal) (k : Fin 1024) : EReal :=
  sigmoid (∑ l, h l * Ideal.rsqrt (RealLift.meanSq 1024 h) * g l * w l k)

/-- The projected embedding. -/
def embed (p : Fin 256 → EReal) (w : Fin 256 → Fin 1024 → EReal) (k : Fin 1024) : EReal := ∑ q, p q * w q k

/-- The prediction less the target. -/
def error (h g t : Fin 1024 → EReal) (k : Fin 1024) : EReal := h k * Ideal.rsqrt (RealLift.meanSq 1024 h) * g k - t k

/-- The mean of a row's squares. -/
def meanSquare (e : Fin 1024 → EReal) : EReal := Ideal.div (∑ k, e k * e k) ((1024 : ℝ) : EReal)

theorem meanSquare_nonneg (e : Fin 1024 → EReal) : 0 ≤ meanSquare e := by
  unfold meanSquare
  rw [Ideal.div_coe (by norm_num)]
  exact mul_nonneg (Finset.sum_nonneg fun k _ => RealLift.square_nonneg _) (by exact_mod_cast (by norm_num : (0 : ℝ) ≤ 1 / 1024))

/-- A positive real factor taken out of a sum of terms that are not negative. -/
theorem mul_sum {ι : Type*} (s : Finset ι) (r : EReal) (f : ι → EReal) (hf : ∀ i, 0 ≤ f i) : r * ∑ i ∈ s, f i = ∑ i ∈ s, r * f i := by
  classical
  induction s using Finset.induction_on with
  | empty => simp
  | insert a s ha ih => rw [Finset.sum_insert ha, Finset.sum_insert ha, EReal.left_distrib_of_nonneg (hf a) (Finset.sum_nonneg fun i _ => hf i), ih]

/-- The loss: half the sum over the rows of the errors' mean squares. -/
def loss (e : Fin 2048 → Fin 1024 → EReal) : EReal := ((1 / 2 : ℝ) : EReal) * ∑ i, meanSquare (e i)

/-- The loss's gradient with respect to the prediction. -/
def upstream (e : Fin 1024 → EReal) (k : Fin 1024) : EReal := e k * ((1 / 1024 : ℝ) : EReal)

/-- The same, written as the derivative of half the mean of the squares. -/
theorem upstream_eq (e : EReal) : Ideal.div (((1 / 2 : ℝ) : EReal) * 1) ((1024 : ℝ) : EReal) * (((2 : ℝ) : EReal) * e) = e * ((1 / 1024 : ℝ) : EReal) := by
  have h : Ideal.div (((1 / 2 : ℝ) : EReal) * 1) ((1024 : ℝ) : EReal) = ((1 / 2048 : ℝ) : EReal) := by
    rw [mul_one, Ideal.div_coe (by norm_num), ← EReal.coe_mul]
    norm_num
  rw [h, ← mul_assoc, ← EReal.coe_mul, mul_comm e]
  norm_num

/-! ## The values of the whole arrays -/

/-- The arguments, by row and column. -/
structure Args where
  /-- the convolution's rows -/
  c1 : Fin 2048 → Fin 512 → EReal
  /-- the convolution branch's gate's rows -/
  q : Fin 2048 → Fin 512 → EReal
  /-- the attention branch's rows -/
  ya : Fin 2048 → Fin 512 → EReal
  /-- the residual stream -/
  h : Fin 2048 → Fin 1024 → EReal
  /-- the per-layer embedding -/
  p : Fin 2048 → Fin 256 → EReal
  /-- the layer normalisation's gains and offsets -/
  lg : Fin 512 → EReal
  lb : Fin 512 → EReal
  /-- the pointwise projection -/
  wpw : Fin 512 → Fin 512 → EReal
  /-- the branch's gains -/
  cg : Fin 512 → EReal
  /-- the output projection -/
  wo : Fin 1024 → Fin 1024 → EReal
  /-- the gains before the embedding's gate, and the gate's weights -/
  pg : Fin 1024 → EReal
  wg : Fin 1024 → Fin 1024 → EReal
  /-- the embedding's weights -/
  wp : Fin 256 → Fin 1024 → EReal
  /-- the targets -/
  tgt : Fin 2048 → Fin 1024 → EReal
  /-- the final gains -/
  fg : Fin 1024 → EReal

namespace Args

variable (A : Args) (i : Fin 2048)

def c3 : Fin 512 → EReal := projected (A.c1 i) A.lg A.lb A.wpw
def yc : Fin 512 → EReal := branch (A.c3 i) (A.q i) A.cg
/-- The output projection's weights for the attention branch's columns, and for the convolution branch's. -/
def wt (l : Fin 512) (k : Fin 1024) : EReal := A.wo ⟨0 + l.val, by omega⟩ k
def wb (l : Fin 512) (k : Fin 1024) : EReal := A.wo ⟨512 + l.val, by omega⟩ k
def h1 : Fin 1024 → EReal := stream (A.h i) (A.ya i) (A.yc i) A.wt A.wb
def gate : Fin 1024 → EReal := Tail.gate (A.h1 i) A.pg A.wg
def pe : Fin 1024 → EReal := embed (A.p i) A.wp
def h2 (k : Fin 1024) : EReal := A.h1 i k + A.pe i k * A.gate i k
def err : Fin 1024 → EReal := error (A.h2 i) A.fg (A.tgt i)
def dy : Fin 1024 → EReal := upstream (A.err i)

end Args

end Tail

end
-- ==== Proof.TailBlocks.lean ====
/- The layer's tail: what one row block of the kernel computes, from the rows it reads. -/
module

public import proofs.«01_k».proof.Proof.Gen.TailKernelIdeal.Value
public import proofs.«01_k».proof.Proof.TailModel
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.TailKernelIdeal.Hand

open Cert.TailKernelIdeal Cert.TailKernelIdeal.Gen

/-! ## One row of each value, from the rows it reads -/

theorem projected_row (x : FVec Ideal S512x512 .f32) (g b : FVec Ideal S1x512 .f32) (w : FVec Ideal S512x512 .bf16) (a k : Fin 512)
    {X G B : Fin 512 → EReal} {W : Fin 512 → Fin 512 → EReal} (hx : (fun l : Fin 512 => x (ix2 a l)) = X) (hg : (fun l : Fin 512 => g (ix2 0 l)) = G)
    (hb : (fun l : Fin 512 => b (ix2 0 l)) = B) (hw : (fun l k : Fin 512 => w (ix2 l k)) = W) :
    k0_pay5 (F := Ideal) x g b w (ix2 a k) = Tail.projected X G B W k := by
  subst hx hg hb hw
  unfold Tail.projected Tail.layerNorm Tail.sigmoid RealLift.meanSq Tail.centred
  pointwise [k0_pay5]
  rw [Tail.lit_512, RealLift.lit_eps]
  simp only [zero_sub]

theorem projected_squares (x : FVec Ideal S512x512 .f32) (g b : FVec Ideal S1x512 .f32) (w : FVec Ideal S512x512 .bf16) (a : Fin 512) :
    k0_pay6 (F := Ideal) x g b w (ix2 a 0) = ∑ l : Fin 512, k0_pay5 (F := Ideal) x g b w (ix2 a l) * k0_pay5 (F := Ideal) x g b w (ix2 a l) := by
  pointwise [k0_pay6]

theorem branch_row (x q : FVec Ideal S512x512 .f32) (s : FVec Ideal S512x1 .f32) (g : FVec Ideal S1x512 .f32) (a k : Fin 512)
    {X Q G : Fin 512 → EReal} (hx : (fun l : Fin 512 => x (ix2 a l)) = X) (hq : (fun l : Fin 512 => q (ix2 a l)) = Q)
    (hs : s (ix2 a 0) = ∑ l, X l * X l) (hg : (fun l : Fin 512 => g (ix2 0 l)) = G) :
    k0_pay7 (F := Ideal) x q s g (ix2 a k) = Tail.branch X Q G k := by
  unfold Tail.branch Tail.sigmoid RealLift.meanSq
  rw [← hs]
  subst hx hq hg
  pointwise [k0_pay7]
  rw [Tail.lit_512, RealLift.lit_eps]
  simp only [zero_sub]

theorem stream_row (x q : FVec Ideal S512x512 .f32) (s : FVec Ideal S512x1 .f32) (g : FVec Ideal S1x512 .f32) (y : FVec Ideal S512x512 .bf16)
    (wt wb : FVec Ideal S512x1024 .bf16) (h : FVec Ideal S512x1024 .f32) (a : Fin 512) (k : Fin 1024)
    {H : Fin 1024 → EReal} {YA YC : Fin 512 → EReal} {WT WB : Fin 512 → Fin 1024 → EReal} (hh : (fun l : Fin 1024 => h (ix2 a l)) = H)
    (ha : (fun l : Fin 512 => y (ix2 a l)) = YA) (hc : (fun l : Fin 512 => k0_pay7 (F := Ideal) x q s g (ix2 a l)) = YC)
    (ht : (fun (l : Fin 512) (k : Fin 1024) => wt (ix2 l k)) = WT) (hb : (fun (l : Fin 512) (k : Fin 1024) => wb (ix2 l k)) = WB) :
    k0_pay8 (F := Ideal) x q s g y wt wb h (ix2 a k) = Tail.stream H YA YC WT WB k := by
  subst hh ha hc ht hb
  unfold Tail.stream
  pointwise [k0_pay8]

theorem stream_squares (x q : FVec Ideal S512x512 .f32) (s : FVec Ideal S512x1 .f32) (g : FVec Ideal S1x512 .f32) (y : FVec Ideal S512x512 .bf16)
    (wt wb : FVec Ideal S512x1024 .bf16) (h : FVec Ideal S512x1024 .f32) (a : Fin 512) :
    k0_pay9 (F := Ideal) x q s g y wt wb h (ix2 a 0)
      = ∑ l : Fin 1024, k0_pay8 (F := Ideal) x q s g y wt wb h (ix2 a l) * k0_pay8 (F := Ideal) x q s g y wt wb h (ix2 a l) := by
  pointwise [k0_pay9]

theorem gate_row (h : FVec Ideal S512x1024 .f32) (s : FVec Ideal S512x1 .f32) (g : FVec Ideal S1x1024 .f32) (w : FVec Ideal S1024x1024 .bf16)
    (a : Fin 512) (k : Fin 1024) {H G : Fin 1024 → EReal} {W : Fin 1024 → Fin 1024 → EReal} (hh : (fun l : Fin 1024 => h (ix2 a l)) = H)
    (hs : s (ix2 a 0) = ∑ l, H l * H l) (hg : (fun l : Fin 1024 => g (ix2 0 l)) = G) (hw : (fun l k : Fin 1024 => w (ix2 l k)) = W) :
    k0_pay10 (F := Ideal) h s g w (ix2 a k) = Tail.gate H G W k := by
  unfold Tail.gate Tail.sigmoid RealLift.meanSq
  rw [← hs]
  subst hh hg hw
  pointwise [k0_pay10]
  rw [RealLift.lit_1024, RealLift.lit_eps]
  simp only [zero_sub]

theorem tile0_row (p : FVec Ideal S512x256 .f32) (w : FVec Ideal S1x256x256 .bf16) (a : Fin 512) (l : Fin 256) :
    k0_pay12 (F := Ideal) p w (ix2 a l) = ∑ q : Fin 256, p (ix2 a q) * w (ix3 0 q l) := by
  pointwise [k0_pay12, k0_pay11]
theorem tile1_row (p : FVec Ideal S512x256 .f32) (w : FVec Ideal S1x256x256 .bf16) (a : Fin 512) (l : Fin 256) :
    k0_pay13 (F := Ideal) p w (ix2 a l) = ∑ q : Fin 256, p (ix2 a q) * w (ix3 0 q l) := by
  pointwise [k0_pay13, k0_pay11]
theorem tile2_row (p : FVec Ideal S512x256 .f32) (w : FVec Ideal S1x256x256 .bf16) (a : Fin 512) (l : Fin 256) :
    k0_pay14 (F := Ideal) p w (ix2 a l) = ∑ q : Fin 256, p (ix2 a q) * w (ix3 0 q l) := by
  pointwise [k0_pay14, k0_pay11]

theorem embed_row (p : FVec Ideal S512x256 .f32) (w0 w1 w2 w3 : FVec Ideal S1x256x256 .bf16) (a : Fin 512) (k : Fin 1024)
    {P : Fin 256 → EReal} {W : Fin 256 → Fin 1024 → EReal} (hp : (fun q : Fin 256 => p (ix2 a q)) = P)
    (h0 : ∀ q l : Fin 256, w0 (ix3 0 q l) = W q ⟨0 * 256 + l.val, by omega⟩) (h1 : ∀ q l : Fin 256, w1 (ix3 0 q l) = W q ⟨1 * 256 + l.val, by omega⟩)
    (h2 : ∀ q l : Fin 256, w2 (ix3 0 q l) = W q ⟨2 * 256 + l.val, by omega⟩) (h3 : ∀ q l : Fin 256, w3 (ix3 0 q l) = W q ⟨3 * 256 + l.val, by omega⟩) :
    k0_pay15 (F := Ideal) (k0_pay11 p) (k0_pay12 p w0) (k0_pay13 p w1) (k0_pay14 p w2) w3 (ix2 a k) = Tail.embed P W k := by
  subst hp
  unfold Tail.embed
  pointwise [k0_pay15]
  by_cases c0 : k.val < 256
  · rw [dif_pos c0]
    exact (tile0_row _ _ _ _).trans (Fin.sum_fin_congr fun q => Ideal.mul_congr rfl ((h0 _ _).trans (congrArg (W q) (Fin.ext (by simp only; omega)))))
  rw [dif_neg c0]
  by_cases c1 : k.val - 256 < 256
  · rw [dif_pos c1]
    exact (tile1_row _ _ _ _).trans (Fin.sum_fin_congr fun q => Ideal.mul_congr rfl ((h1 _ _).trans (congrArg (W q) (Fin.ext (by simp only; omega)))))
  rw [dif_neg c1]
  by_cases c2 : k.val - 256 - 256 < 256
  · rw [dif_pos c2]
    exact (tile2_row _ _ _ _).trans (Fin.sum_fin_congr fun q => Ideal.mul_congr rfl ((h2 _ _).trans (congrArg (W q) (Fin.ext (by simp only; omega)))))
  rw [dif_neg c2]
  exact Fin.sum_fin_congr fun q => Ideal.mul_congr (by pointwise [k0_pay11]) ((h3 _ _).trans (congrArg (W q) (Fin.ext (by simp only; omega))))

theorem total_row (h g : FVec Ideal S512x1024 .f32) (p : FVec Ideal S512x256 .bf16) (v0 v1 v2 : FVec Ideal S512x256 .f32)
    (w : FVec Ideal S1x256x256 .bf16) (a : Fin 512) (k : Fin 1024) :
    k0_pay18 (F := Ideal) h g p v0 v1 v2 w (ix2 a k) = h (ix2 a k) + k0_pay15 (F := Ideal) p v0 v1 v2 w (ix2 a k) * g (ix2 a k) := by
  pointwise [k0_pay18]

theorem rstd_row (h g : FVec Ideal S512x1024 .f32) (p : FVec Ideal S512x256 .bf16) (v0 v1 v2 : FVec Ideal S512x256 .f32)
    (w : FVec Ideal S1x256x256 .bf16) (a : Fin 512) {H : Fin 1024 → EReal}
    (hh : (fun k : Fin 1024 => k0_pay18 (F := Ideal) h g p v0 v1 v2 w (ix2 a k)) = H) :
    k0_pay21 (F := Ideal) h g p v0 v1 v2 w (ix2 a 0) = Ideal.rsqrt (RealLift.meanSq 1024 H) := by
  subst hh
  unfold RealLift.meanSq
  pointwise [k0_pay21]
  rw [RealLift.lit_1024, RealLift.lit_eps]

theorem error_row (h g : FVec Ideal S512x1024 .f32) (p : FVec Ideal S512x256 .bf16) (v0 v1 v2 : FVec Ideal S512x256 .f32)
    (w : FVec Ideal S1x256x256 .bf16) (f : FVec Ideal S1x1024 .f32) (t : FVec Ideal S512x1024 .f32) (a : Fin 512) (k : Fin 1024)
    {H G T : Fin 1024 → EReal} (hh : (fun k : Fin 1024 => k0_pay18 (F := Ideal) h g p v0 v1 v2 w (ix2 a k)) = H)
    (hf : (fun l : Fin 1024 => f (ix2 0 l)) = G) (ht : (fun l : Fin 1024 => t (ix2 a l)) = T) :
    k0_pay22 (F := Ideal) h g p v0 v1 v2 w f t (ix2 a k) = Tail.error H G T k := by
  unfold Tail.error
  rw [← rstd_row h g p v0 v1 v2 w a hh]
  subst hh hf ht
  pointwise [k0_pay22]

theorem loss_step (v : FVec Ideal S8x128 .f32) (h g : FVec Ideal S512x1024 .f32) (p : FVec Ideal S512x256 .bf16) (v0 v1 v2 : FVec Ideal S512x256 .f32)
    (w : FVec Ideal S1x256x256 .bf16) (f : FVec Ideal S1x1024 .f32) (t : FVec Ideal S512x1024 .f32) (j : S8x128.Idx) :
    k0_pay1 (F := Ideal) (k0_pay23 v) (k0_pay24 h g p v0 v1 v2 w f t) j
      = v j + ((1 / 2 : ℝ) : EReal) * ∑ a : Fin 512, Tail.meanSquare fun k : Fin 1024 => k0_pay22 (F := Ideal) h g p v0 v1 v2 w f t (ix2 a k) := by
  unfold Tail.meanSquare
  pointwise [k0_pay1, k0_pay23, k0_pay24]
  rw [RealLift.lit_1024, Tail.lit_half]
  simp only [Finset.univ_unique, Finset.sum_singleton]

theorem gain_step (h : FVec Ideal S512x1024 .f32) (r : FVec Ideal S512x1 .f32) (e : FVec Ideal S512x1024 .f32) (v : FVec Ideal S1x1024 .f32) (j : S1x1024.Idx) :
    k0_pay3 (F := Ideal) h r e v j = v j + ∑ a : Fin 512, h (ix2 a (j 1)) * r (ix2 a 0) * Tail.upstream (fun k : Fin 1024 => e (ix2 a k)) (j 1) := by
  unfold Tail.upstream
  pointwise [k0_pay3, k0_pay2]
  rw [Tail.lit_inv_1024]
  exact congrArg (v j + ·) (Fin.sum_fin_congr fun a => by rw [mul_assoc, mul_comm])

theorem input_step (h : FVec Ideal S512x1024 .f32) (g : FVec Ideal S1x1024 .f32) (r : FVec Ideal S512x1 .f32) (e : FVec Ideal S512x1024 .f32) (a : Fin 512) (k : Fin 1024) :
    k0_pay4 (F := Ideal) h g r e (ix2 a k) = r (ix2 a 0) * (Tail.upstream (fun k : Fin 1024 => e (ix2 a k)) k * g (ix2 0 k))
        - h (ix2 a k) * (r (ix2 a 0) * r (ix2 a 0) * r (ix2 a 0))
          * Ideal.div (∑ k : Fin 1024, Tail.upstream (fun k : Fin 1024 => e (ix2 a k)) k * g (ix2 0 k) * h (ix2 a k)) ((1024 : ℝ) : EReal) := by
  unfold Tail.upstream
  pointwise [k0_pay4, k0_pay2]
  rw [Tail.lit_inv_1024, RealLift.lit_1024]

/-- The gradient of the rows, from the row it writes. -/
theorem input_core (h e : FVec Ideal S512x1024 .f32) (g : FVec Ideal S1x1024 .f32) (r : FVec Ideal S512x1 .f32)
    (X P : Fin 2048 → Fin 1024 → EReal) (G : Fin 1024 → EReal) (i : Fin 2048) (a : Fin 512) (b : Fin 1024)
    (hx : ∀ k : Fin 1024, h (ix2 a k) = X i k) (hr : r (ix2 a 0) = Ideal.rsqrt (RealLift.meanSq 1024 (X i)))
    (hp : ∀ k : Fin 1024, Tail.upstream (fun k : Fin 1024 => e (ix2 a k)) k = P i k) (hg : ∀ k : Fin 1024, g (ix2 0 k) = G k) :
    k0_pay4 (F := Ideal) h g r e (ix2 a b) = DxGrad.input X P (fun _ _ => 0) G i b := by
  rw [input_step]
  simp only [hx, hp, hr, hg]
  rw [← zero_add (_ - _), RealLift.rms_grad (by norm_num) (fun k => X i k)]
  simp only [DxGrad.input, DxGrad.back, DxGrad.rstd, mul_comm (X i _) (P i _ * G _)]

end Cert.TailKernelIdeal.Hand

end
-- ==== Proof.Tail.lean ====
/- The layer's tail: the kernel's eight result arrays. The loss and the final gains' gradient are accumulated over the four
   row blocks. -/
module

public import proofs.«01_k».proof.Proof.TailBlocks

@[expose] public section

set_option maxRecDepth 16384

noncomputable section

open Idealize.ShloMosaic Idealize.ShloMosaic.TcCoe Idealize.SL.Sem
open Idealize.ShloMosaic.Pipeline (Dat)

namespace Cert.TailKernelIdeal.Hand

open Cert.TailKernelIdeal Cert.TailKernelIdeal.Gen

variable (m : (ℓ : Loc nD τ sig) → Buf (Elt Ideal) ℓ)

/-- The arguments the kernel is given. -/
def args (c : Dev nD) : Tail.Args where
  c1 i k := (show FVec Ideal S2048x512 .f32 from m ((c : Thread nD τ).loc main_arg0)) (ix2 i k)
  q i k := (show FVec Ideal S2048x3584 .f32 from m ((c : Thread nD τ).loc main_arg1)) (ix2 i ⟨3072 + k.val, by omega⟩)
  ya i k := (show FVec Ideal S2048x512 .f32 from m ((c : Thread nD τ).loc main_arg2)) (ix2 i k)
  h i k := (show FVec Ideal S2048x1024 .f32 from m ((c : Thread nD τ).loc main_arg3)) (ix2 i k)
  p i k := (show FVec Ideal S2048x256 .f32 from m ((c : Thread nD τ).loc main_arg4)) (ix2 i k)
  lg k := (show FVec Ideal S1x512 .f32 from m ((c : Thread nD τ).loc main_arg5)) (ix2 0 k)
  lb k := (show FVec Ideal S1x512 .f32 from m ((c : Thread nD τ).loc main_arg6)) (ix2 0 k)
  wpw i k := (show FVec Ideal S512x512 .f32 from m ((c : Thread nD τ).loc main_arg7)) (ix2 i k)
  cg k := (show FVec Ideal S1x512 .f32 from m ((c : Thread nD τ).loc main_arg8)) (ix2 0 k)
  wo i k := (show FVec Ideal S1024x1024 .f32 from m ((c : Thread nD τ).loc main_arg9)) (ix2 i k)
  pg k := (show FVec Ideal S1x1024 .f32 from m ((c : Thread nD τ).loc main_arg10)) (ix2 0 k)
  wg i k := (show FVec Ideal S1024x1024 .f32 from m ((c : Thread nD τ).loc main_arg11)) (ix2 i k)
  wp i k := (show FVec Ideal S256x1024 .f32 from m ((c : Thread nD τ).loc main_arg12)) (ix2 i k)
  tgt i k := (show FVec Ideal S2048x1024 .f32 from m ((c : Thread nD τ).loc main_arg13)) (ix2 i k)
  fg k := (show FVec Ideal S1x1024 .f32 from m ((c : Thread nD τ).loc main_arg14)) (ix2 0 k)

theorem index_values : ∀ t : Fin cfg0.N, win0_0.index t = ![t.val, 0]
    ∧ win0_1.index t = ![t.val, 6]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0, 0]
    ∧ win0_13.index t = ![t.val, 0]
    ∧ win0_14.index t = ![0, 0]
    ∧ win0_15.index t = ![t.val, 0]
    ∧ win0_16.index t = ![t.val, 0]
    ∧ win0_17.index t = ![t.val, 0]
    ∧ win0_18.index t = ![t.val, 0]
    ∧ win0_19.index t = ![t.val, 0]
    ∧ win0_20.index t = ![t.val, 0]
    ∧ win0_21.index t = ![0, 0]
    ∧ win0_22.index t = ![0, 0] :=
  (by decide +kernel : ∀ t : Fin grid0.N, _)

/-- The row of the arrays that row `a` of the block at point `t` is. -/
def row (t : Fin cfg0.N) (a : Fin 512) : Fin 2048 := ⟨t.val * 512 + a.val, by have := lt_of_lt_of_eq t.isLt N_0; omega⟩

/-! The operands the host prepares: casts, and the embedding's weights in four column tiles. -/

theorem ya_entry (c : Dev nD) (i : Fin 2048) (k : Fin 512) : (show FVec Ideal S2048x512 .bf16 from V m c main_v0) (ix2 i k) = (args m c).ya i k := by
  unfold args; entry_read; pointwise
theorem wpw_entry (c : Dev nD) (i : Fin 512) (k : Fin 512) : (show FVec Ideal S512x512 .bf16 from V m c main_v1) (ix2 i k) = (args m c).wpw i k := by
  unfold args; entry_read; pointwise
theorem wo_entry (c : Dev nD) (i : Fin 1024) (k : Fin 1024) : (show FVec Ideal S1024x1024 .bf16 from V m c main_v2) (ix2 i k) = (args m c).wo i k := by
  unfold args; entry_read; pointwise
theorem wg_entry (c : Dev nD) (i : Fin 1024) (k : Fin 1024) : (show FVec Ideal S1024x1024 .bf16 from V m c main_v3) (ix2 i k) = (args m c).wg i k := by
  unfold args; entry_read; pointwise
theorem wp_entry (c : Dev nD) (s : Fin 4) (q l : Fin 256) : (show FVec Ideal S4x256x256 .bf16 from V m c main_v6) (ix3 s q l)
    = (args m c).wp q ⟨s.val * 256 + l.val, by omega⟩ := by
  unfold args; entry_read; pointwise

/-! The input blocks at a point. -/

variable (c : Dev nD) (t : Fin cfg0.N)

theorem blk_c1 (a k : Fin 512) : (show FVec Ideal S512x512 .f32 from iblk m c 0 t) (ix2 a k) = (args m c).c1 (row t a) k := by
  unfold args row; blk_ext [iblk, V, index_values t]
theorem blk_q (a k : Fin 512) : (show FVec Ideal S512x512 .f32 from iblk m c 1 t) (ix2 a k) = (args m c).q (row t a) k := by
  unfold args row; blk_ext [iblk, V, index_values t]
theorem blk_ya (a k : Fin 512) : (show FVec Ideal S512x512 .bf16 from iblk m c 2 t) (ix2 a k) = (args m c).ya (row t a) k := by
  refine Eq.trans ?_ (ya_entry m c _ _); unfold row; blk_ext [iblk, index_values t]
theorem blk_h (a : Fin 512) (k : Fin 1024) : (show FVec Ideal S512x1024 .f32 from iblk m c 3 t) (ix2 a k) = (args m c).h (row t a) k := by
  unfold args row; blk_ext [iblk, V, index_values t]
theorem blk_p (a : Fin 512) (k : Fin 256) : (show FVec Ideal S512x256 .f32 from iblk m c 4 t) (ix2 a k) = (args m c).p (row t a) k := by
  unfold args row; blk_ext [iblk, V, index_values t]
theorem blk_lg (k : Fin 512) : (show FVec Ideal S1x512 .f32 from iblk m c 5 t) (ix2 0 k) = (args m c).lg k := by
  unfold args; blk_ext [iblk, V, index_values t]
theorem blk_lb (k : Fin 512) : (show FVec Ideal S1x512 .f32 from iblk m c 6 t) (ix2 0 k) = (args m c).lb k := by
  unfold args; blk_ext [iblk, V, index_values t]
theorem blk_cg (k : Fin 512) : (show FVec Ideal S1x512 .f32 from iblk m c 8 t) (ix2 0 k) = (args m c).cg k := by
  unfold args; blk_ext [iblk, V, index_values t]
theorem blk_wpw (l k : Fin 512) : (show FVec Ideal S512x512 .bf16 from iblk m c 7 t) (ix2 l k) = (args m c).wpw l k := by
  refine Eq.trans ?_ (wpw_entry m c _ _); blk_ext [iblk, index_values t]
theorem blk_wo (l k : Fin 1024) : (show FVec Ideal S1024x1024 .bf16 from iblk m c 9 t) (ix2 l k) = (args m c).wo l k := by
  refine Eq.trans ?_ (wo_entry m c _ _); blk_ext [iblk, index_values t]
theorem blk_pg (k : Fin 1024) : (show FVec Ideal S1x1024 .f32 from iblk m c 10 t) (ix2 0 k) = (args m c).pg k := by
  unfold args; blk_ext [iblk, V, index_values t]
theorem blk_fg (k : Fin 1024) : (show FVec Ideal S1x1024 .f32 from iblk m c 14 t) (ix2 0 k) = (args m c).fg k := by
  unfold args; blk_ext [iblk, V, index_values t]
theorem blk_wg (l k : Fin 1024) : (show FVec Ideal S1024x1024 .bf16 from iblk m c 11 t) (ix2 l k) = (args m c).wg l k := by
  refine Eq.trans ?_ (wg_entry m c _ _); blk_ext [iblk, index_values t]
theorem blk_wp (s : Fin 4) (q l : Fin 256) : (show FVec Ideal S4x256x256 .bf16 from iblk m c 12 t) (ix3 s q l) = (args m c).wp q ⟨s.val * 256 + l.val, by omega⟩ := by
  refine Eq.trans ?_ (wp_entry m c _ _ _); blk_ext [iblk, index_values t]
theorem blk_tgt (a : Fin 512) (k : Fin 1024) : (show FVec Ideal S512x1024 .f32 from iblk m c 13 t) (ix2 a k) = (args m c).tgt (row t a) k := by
  unfold args row; blk_ext [iblk, V, index_values t]

/-! ## One row block -/

/-- The blocks of the values the kernel computes. -/
def c3B : FVec Ideal S512x512 .f32 := k0_pay5 (F := Ideal) (iblk m c 0 t) (iblk m c 5 t) (iblk m c 6 t) (iblk m c 7 t)
def sqB : FVec Ideal S512x1 .f32 := k0_pay6 (F := Ideal) (iblk m c 0 t) (iblk m c 5 t) (iblk m c 6 t) (iblk m c 7 t)
def ycB : FVec Ideal S512x512 .bf16 := k0_pay7 (F := Ideal) (c3B m c t) (iblk m c 1 t) (sqB m c t) (iblk m c 8 t)
def topB : FVec Ideal S512x1024 .bf16 := View.ld (iblk m c 9 t) (Rect.unit ![0, 0] ![512, 1024] inb_S1024x1024_S512x1024_0_0)
def botB : FVec Ideal S512x1024 .bf16 := View.ld (iblk m c 9 t) (Rect.unit ![512, 0] ![512, 1024] inb_S1024x1024_S512x1024_512_0)
def h1B : FVec Ideal S512x1024 .f32 :=
  k0_pay8 (F := Ideal) (c3B m c t) (iblk m c 1 t) (sqB m c t) (iblk m c 8 t) (iblk m c 2 t) (topB m c t) (botB m c t) (iblk m c 3 t)
def hqB : FVec Ideal S512x1 .f32 :=
  k0_pay9 (F := Ideal) (c3B m c t) (iblk m c 1 t) (sqB m c t) (iblk m c 8 t) (iblk m c 2 t) (topB m c t) (botB m c t) (iblk m c 3 t)
def gateB : FVec Ideal S512x1024 .f32 := k0_pay10 (F := Ideal) (h1B m c t) (hqB m c t) (iblk m c 10 t) (iblk m c 11 t)
def pB : FVec Ideal S512x256 .bf16 := k0_pay11 (F := Ideal) (iblk m c 4 t)
def w0B : FVec Ideal S1x256x256 .bf16 := View.ld (iblk m c 12 t) (Rect.unit ![0, 0, 0] ![1, 256, 256] inb_S4x256x256_S1x256x256_0_0_0)
def w1B : FVec Ideal S1x256x256 .bf16 := View.ld (iblk m c 12 t) (Rect.unit ![1, 0, 0] ![1, 256, 256] inb_S4x256x256_S1x256x256_1_0_0)
def w2B : FVec Ideal S1x256x256 .bf16 := View.ld (iblk m c 12 t) (Rect.unit ![2, 0, 0] ![1, 256, 256] inb_S4x256x256_S1x256x256_2_0_0)
def w3B : FVec Ideal S1x256x256 .bf16 := View.ld (iblk m c 12 t) (Rect.unit ![3, 0, 0] ![1, 256, 256] inb_S4x256x256_S1x256x256_3_0_0)
def e0B : FVec Ideal S512x256 .f32 := k0_pay12 (F := Ideal) (iblk m c 4 t) (w0B m c t)
def e1B : FVec Ideal S512x256 .f32 := k0_pay13 (F := Ideal) (iblk m c 4 t) (w1B m c t)
def e2B : FVec Ideal S512x256 .f32 := k0_pay14 (F := Ideal) (iblk m c 4 t) (w2B m c t)
def h2B : FVec Ideal S512x1024 .f32 := k0_pay18 (F := Ideal) (h1B m c t) (gateB m c t) (pB m c t) (e0B m c t) (e1B m c t) (e2B m c t) (w3B m c t)
def rB : FVec Ideal S512x1 .f32 := k0_pay21 (F := Ideal) (h1B m c t) (gateB m c t) (pB m c t) (e0B m c t) (e1B m c t) (e2B m c t) (w3B m c t)
def errB : FVec Ideal S512x1024 .f32 :=
  k0_pay22 (F := Ideal) (h1B m c t) (gateB m c t) (pB m c t) (e0B m c t) (e1B m c t) (e2B m c t) (w3B m c t) (iblk m c 14 t) (iblk m c 13 t)

theorem c3_at (a k : Fin 512) : c3B m c t (ix2 a k) = (args m c).c3 (row t a) k :=
  projected_row _ _ _ _ a k (funext (blk_c1 m c t a)) (funext (blk_lg m c t)) (funext (blk_lb m c t)) (funext fun l => funext fun k => blk_wpw m c t l k)

theorem sq_at (a : Fin 512) : sqB m c t (ix2 a 0) = ∑ l, (args m c).c3 (row t a) l * (args m c).c3 (row t a) l :=
  (projected_squares _ _ _ _ a).trans (Fin.sum_fin_congr fun l => Ideal.mul_congr (c3_at m c t a l) (c3_at m c t a l))

theorem yc_at (a k : Fin 512) : ycB m c t (ix2 a k) = (args m c).yc (row t a) k :=
  branch_row _ _ _ _ a k (funext (c3_at m c t a)) (funext (blk_q m c t a)) (sq_at m c t a) (funext (blk_cg m c t))

theorem top_at (l : Fin 512) (k : Fin 1024) : topB m c t (ix2 l k) = (args m c).wt l k :=
  (View.ld_unit_apply_of _ _ _ _ (ix2 l k) (ix2 ⟨0 + l.val, by omega⟩ k) (by intro a; fin_cases a <;> simp)).trans (blk_wo m c t _ _)

theorem bot_at (l : Fin 512) (k : Fin 1024) : botB m c t (ix2 l k) = (args m c).wb l k :=
  (View.ld_unit_apply_of _ _ _ _ (ix2 l k) (ix2 ⟨512 + l.val, by omega⟩ k) (by intro a; fin_cases a <;> simp)).trans (blk_wo m c t _ _)

theorem h1_at (a : Fin 512) (k : Fin 1024) : h1B m c t (ix2 a k) = (args m c).h1 (row t a) k :=
  stream_row _ _ _ _ _ _ _ _ a k (funext (blk_h m c t a)) (funext (blk_ya m c t a)) (funext (yc_at m c t a))
    (funext fun l => funext fun k => top_at m c t l k) (funext fun l => funext fun k => bot_at m c t l k)

theorem hq_at (a : Fin 512) : hqB m c t (ix2 a 0) = ∑ l, (args m c).h1 (row t a) l * (args m c).h1 (row t a) l :=
  (stream_squares _ _ _ _ _ _ _ _ a).trans (Fin.sum_fin_congr fun l => Ideal.mul_congr (h1_at m c t a l) (h1_at m c t a l))

theorem gate_at (a : Fin 512) (k : Fin 1024) : gateB m c t (ix2 a k) = (args m c).gate (row t a) k :=
  gate_row _ _ _ _ a k (funext (h1_at m c t a)) (hq_at m c t a) (funext (blk_pg m c t)) (funext fun l => funext fun k => blk_wg m c t l k)

theorem w0_at (q l : Fin 256) : w0B m c t (ix3 0 q l) = (args m c).wp q ⟨0 * 256 + l.val, by omega⟩ := by
  refine Eq.trans ?_ (blk_wp m c t 0 q l)
  refine View.ld_unit_apply_of _ _ _ _ (ix3 (0 : Fin 1) q l) (ix3 (0 : Fin 4) q l) ?_
  intro a; fin_cases a <;> simp
theorem w1_at (q l : Fin 256) : w1B m c t (ix3 0 q l) = (args m c).wp q ⟨1 * 256 + l.val, by omega⟩ := by
  refine Eq.trans ?_ (blk_wp m c t 1 q l)
  refine View.ld_unit_apply_of _ _ _ _ (ix3 (0 : Fin 1) q l) (ix3 (1 : Fin 4) q l) ?_
  intro a; fin_cases a <;> simp
theorem w2_at (q l : Fin 256) : w2B m c t (ix3 0 q l) = (args m c).wp q ⟨2 * 256 + l.val, by omega⟩ := by
  refine Eq.trans ?_ (blk_wp m c t 2 q l)
  refine View.ld_unit_apply_of _ _ _ _ (ix3 (0 : Fin 1) q l) (ix3 (2 : Fin 4) q l) ?_
  intro a; fin_cases a <;> simp
theorem w3_at (q l : Fin 256) : w3B m c t (ix3 0 q l) = (args m c).wp q ⟨3 * 256 + l.val, by omega⟩ := by
  refine Eq.trans ?_ (blk_wp m c t 3 q l)
  refine View.ld_unit_apply_of _ _ _ _ (ix3 (0 : Fin 1) q l) (ix3 (3 : Fin 4) q l) ?_
  intro a; fin_cases a <;> simp

theorem pe_at (a : Fin 512) (k : Fin 1024) :
    k0_pay15 (F := Ideal) (pB m c t) (e0B m c t) (e1B m c t) (e2B m c t) (w3B m c t) (ix2 a k) = (args m c).pe (row t a) k :=
  embed_row _ _ _ _ _ a k (funext (blk_p m c t a)) (w0_at m c t) (w1_at m c t) (w2_at m c t) (w3_at m c t)

theorem h2_at (a : Fin 512) (k : Fin 1024) : h2B m c t (ix2 a k) = (args m c).h2 (row t a) k :=
  (total_row _ _ _ _ _ _ _ a k).trans (congrArg₂ (· + ·) (h1_at m c t a k) (Ideal.mul_congr (pe_at m c t a k) (gate_at m c t a k)))

theorem r_at (a : Fin 512) : rB m c t (ix2 a 0) = Ideal.rsqrt (RealLift.meanSq 1024 ((args m c).h2 (row t a))) :=
  rstd_row _ _ _ _ _ _ _ a (funext (h2_at m c t a))

theorem err_at (a : Fin 512) (k : Fin 1024) : errB m c t (ix2 a k) = (args m c).err (row t a) k :=
  error_row _ _ _ _ _ _ _ _ _ a k (funext (h2_at m c t a)) (funext (blk_fg m c t)) (funext (blk_tgt m c t a))

theorem dy_at (a : Fin 512) (k : Fin 1024) : Tail.upstream (fun k : Fin 1024 => errB m c t (ix2 a k)) k = (args m c).dy (row t a) k := by
  rw [show (fun k : Fin 1024 => errB m c t (ix2 a k)) = (args m c).err (row t a) from funext (err_at m c t a)]
  rfl

/-! ## The results stored row block by row block -/

theorem c3_block (j : S512x512.Idx) : (outsAt0 m c t.val t.isLt).1 j = c3B m c t j := by
  by_cases h : t.val % 4 = 0
  · rw [outsAt0_A m c t h]; frame_out; rfl
  · rw [outsAt0_B m c t h]; frame_out; rfl

/-- The convolution branch after its pointwise projection. -/
theorem c3_final : (dats m 0 c).arrAt 15 cfg0.N = fun i => (args m c).c3 (i 0) (i 1) := by
  refine (dats m 0 c).arrAt_eq_of_covers 15 _ (by decide +kernel) fun t hf y => ?_
  blk_simp
  rw [after0_15, c3_block, eq_ix2 y]
  have e : (win0_15.blk t).view.emb (ix2 (y 0) (y 1)) = ix2 (row t (y 0)) (y 1) := by unfold row; blk_ext [index_values t]
  rw [e]
  exact c3_at m c t _ _

theorem yc_block (j : S512x512.Idx) : (outsAt0 m c t.val t.isLt).2.1 j = ycB m c t j := by
  by_cases h : t.val % 4 = 0
  · rw [outsAt0_A m c t h]; frame_out; rfl
  · rw [outsAt0_B m c t h]; frame_out; rfl

/-- The convolution branch. -/
theorem yc_final : (dats m 0 c).arrAt 16 cfg0.N = fun i => (args m c).yc (i 0) (i 1) := by
  refine (dats m 0 c).arrAt_eq_of_covers 16 _ (by decide +kernel) fun t hf y => ?_
  blk_simp
  rw [after0_16, yc_block, eq_ix2 y]
  have e : (win0_16.blk t).view.emb (ix2 (y 0) (y 1)) = ix2 (row t (y 0)) (y 1) := by unfold row; blk_ext [index_values t]
  rw [e]
  exact yc_at m c t _ _

theorem h1_block (j : S512x1024.Idx) : (outsAt0 m c t.val t.isLt).2.2.1 j = h1B m c t j := by
  by_cases h : t.val % 4 = 0
  · rw [outsAt0_A m c t h]; frame_out; rfl
  · rw [outsAt0_B m c t h]; frame_out; rfl

/-- The residual stream after the output projection. -/
theorem h1_final : (dats m 0 c).arrAt 17 cfg0.N = fun i => (args m c).h1 (i 0) (i 1) := by
  refine (dats m 0 c).arrAt_eq_of_covers 17 _ (by decide +kernel) fun t hf y => ?_
  blk_simp
  rw [after0_17, h1_block, eq_ix2 y]
  have e : (win0_17.blk t).view.emb (ix2 (y 0) (y 1)) = ix2 (row t (y 0)) (y 1) := by unfold row; blk_ext [index_values t]
  rw [e]
  exact h1_at m c t _ _

theorem rounded_gate (g : FVec Ideal S512x1024 .f32) (j : S512x1024.Idx) : k0_pay16 (F := Ideal) g j = g j := by pointwise [k0_pay16]
theorem rounded_embed (p : FVec Ideal S512x256 .bf16) (v0 v1 v2 : FVec Ideal S512x256 .f32) (w : FVec Ideal S1x256x256 .bf16) (j : S512x1024.Idx) :
    k0_pay17 (F := Ideal) p v0 v1 v2 w j = k0_pay15 (F := Ideal) p v0 v1 v2 w j := by pointwise [k0_pay17]

theorem gate_block (j : S512x1024.Idx) : (outsAt0 m c t.val t.isLt).2.2.2.1 j = k0_pay16 (F := Ideal) (gateB m c t) j := by
  by_cases h : t.val % 4 = 0
  · rw [outsAt0_A m c t h]; frame_out; rfl
  · rw [outsAt0_B m c t h]; frame_out; rfl

/-- The embedding's gate. -/
theorem gate_final : (dats m 0 c).arrAt 18 cfg0.N = fun i => (args m c).gate (i 0) (i 1) := by
  refine (dats m 0 c).arrAt_eq_of_covers 18 _ (by decide +kernel) fun t hf y => ?_
  blk_simp
  rw [after0_18, gate_block, eq_ix2 y]
  have e : (win0_18.blk t).view.emb (ix2 (y 0) (y 1)) = ix2 (row t (y 0)) (y 1) := by unfold row; blk_ext [index_values t]
  rw [e]
  exact (rounded_gate _ _).trans (gate_at m c t _ _)

theorem pe_block (j : S512x1024.Idx) : (outsAt0 m c t.val t.isLt).2.2.2.2.1 j = k0_pay17 (F := Ideal) (pB m c t) (e0B m c t) (e1B m c t) (e2B m c t) (w3B m c t) j := by
  by_cases h : t.val % 4 = 0
  · rw [outsAt0_A m c t h]; frame_out; rfl
  · rw [outsAt0_B m c t h]; frame_out; rfl

/-- The projected embedding. -/
theorem pe_final : (dats m 0 c).arrAt 19 cfg0.N = fun i => (args m c).pe (i 0) (i 1) := by
  refine (dats m 0 c).arrAt_eq_of_covers 19 _ (by decide +kernel) fun t hf y => ?_
  blk_simp
  rw [after0_19, pe_block, eq_ix2 y]
  have e : (win0_19.blk t).view.emb (ix2 (y 0) (y 1)) = ix2 (row t (y 0)) (y 1) := by unfold row; blk_ext [index_values t]
  rw [e]
  exact (rounded_embed _ _ _ _ _ _).trans (pe_at m c t _ _)

theorem dh_block (j : S512x1024.Idx) : (outsAt0 m c t.val t.isLt).2.2.2.2.2.1 j = k0_pay4 (F := Ideal) (h2B m c t) (iblk m c 14 t) (rB m c t) (errB m c t) j := by
  by_cases h : t.val % 4 = 0
  · rw [outsAt0_A m c t h]; frame_out; rfl
  · rw [outsAt0_B m c t h]; frame_out; rfl

/-- The loss's gradient with respect to the layer's output. -/
theorem dh_final : (dats m 0 c).arrAt 20 cfg0.N = fun i => DxGrad.input (args m c).h2 (args m c).dy (fun _ _ => 0) (args m c).fg (i 0) (i 1) := by
  refine (dats m 0 c).arrAt_eq_of_covers 20 _ (by decide +kernel) fun t hf y => ?_
  blk_simp
  rw [after0_20, dh_block, eq_ix2 y]
  have e : (win0_20.blk t).view.emb (ix2 (y 0) (y 1)) = ix2 (row t (y 0)) (y 1) := by unfold row; blk_ext [index_values t]
  rw [e]
  exact input_core _ _ _ _ _ _ _ _ _ _ (h2_at m c t _) (r_at m c t _) (dy_at m c t _) (blk_fg m c t)

/-! ## The accumulated results -/

/-- The row blocks one after the other are all rows. -/
theorem sum_row_blocks (f : Fin 2048 → EReal) (p : Fin 4 → Fin cfg0.N) (hp : ∀ s, (p s).val = s.val) :
    ∑ s, ∑ r : Fin 512, f (row (p s) r) = ∑ i, f i := by
  rw [Fin.sum_univ_tiles 4 512 rfl]
  refine Fin.sum_fin_congr fun s => Fin.sum_fin_congr fun r => congrArg f (Fin.ext ?_)
  unfold row
  simp only [hp]

/-- What a row block adds to the loss. -/
def lossTerm : EReal := ∑ r : Fin 512, ((1 / 2 : ℝ) : EReal) * Tail.meanSquare ((args m c).err (row t r))

theorem lossTerm_at (v : FVec Ideal S8x128 .f32) (j : S8x128.Idx) :
    k0_pay1 (F := Ideal) (k0_pay23 v) (k0_pay24 (h1B m c t) (gateB m c t) (pB m c t) (e0B m c t) (e1B m c t) (e2B m c t) (w3B m c t)
      (iblk m c 14 t) (iblk m c 13 t)) j = v j + lossTerm m c t := by
  refine (loss_step _ _ _ _ _ _ _ _ _ _ j).trans (congrArg (v j + ·) ?_)
  rw [Tail.mul_sum _ _ _ fun a => Tail.meanSquare_nonneg _]
  exact Fin.sum_fin_congr fun a => Ideal.mul_congr rfl (congrArg Tail.meanSquare (funext (err_at m c t a)))

theorem loss_start (h : t.val % 4 = 0) (j : S8x128.Idx) : (outsAt0 m c t.val t.isLt).2.2.2.2.2.2.1 j = 0 + lossTerm m c t := by
  rw [outsAt0_A m c t h]
  frame_out
  refine (lossTerm_at m c t _ j).trans (congrArg (· + _) ?_)
  pointwise [k0_pay19]

theorem loss_next (h : ¬ t.val % 4 = 0) (j : S8x128.Idx) : (outsAt0 m c t.val t.isLt).2.2.2.2.2.2.1 j
    = (outsAt0 m c (t.val - 1) (Nat.lt_of_le_of_lt (Nat.sub_le _ _) t.isLt)).2.2.2.2.2.2.1 j + lossTerm m c t := by
  rw [outsAt0_B m c t h]
  frame_out
  exact lossTerm_at m c t _ j

/-- The loss, in every entry of its tile. -/
theorem loss_final : (dats m 0 c).arrAt 21 cfg0.N = fun _ => Tail.loss (args m c).err := by
  refine (dats m 0 c).arrAt_eq_of_covers 21 _ (by decide +kernel) fun t hf y => ?_
  have h7 := (flush0_21 t).mp hf
  have ht : t.val = 3 := by have := lt_of_lt_of_eq t.isLt N_0; omega
  blk_simp
  rw [after0_21, Pipeline.eq_sum_fin_of_reset_step_apply_of_flush (fun n h => (outsAt0 m c n h).2.2.2.2.2.2.1) 4 (fun _ => 0)
    (fun t _ => lossTerm m c t) (loss_start m c) (loss_next m c) t h7 y, zero_add]
  unfold Tail.loss
  rw [Tail.mul_sum _ _ _ fun a => Tail.meanSquare_nonneg _]
  refine sum_row_blocks (fun i => ((1 / 2 : ℝ) : EReal) * Tail.meanSquare ((args m c).err i)) _ fun s => ?_
  show 4 * (t.val / 4) + s.val = s.val
  omega

/-- What a row block adds to the final gains' gradient. -/
def gainTerm (k : Fin 1024) : EReal := ∑ r : Fin 512, (args m c).h2 (row t r) k * DxGrad.rstd (args m c).h2 (row t r) * (args m c).dy (row t r) k

theorem gainTerm_at (v : FVec Ideal S1x1024 .f32) (j : S1x1024.Idx) :
    k0_pay3 (F := Ideal) (h2B m c t) (rB m c t) (errB m c t) v j = v j + gainTerm m c t (j 1) :=
  (gain_step _ _ _ _ j).trans (congrArg (v j + ·) (Fin.sum_fin_congr fun a =>
    Ideal.mul_congr (Ideal.mul_congr (h2_at m c t a _) (r_at m c t a)) (dy_at m c t a _)))

theorem gain_start (h : t.val % 4 = 0) (j : S1x1024.Idx) : (outsAt0 m c t.val t.isLt).2.2.2.2.2.2.2 j = 0 + gainTerm m c t (j 1) := by
  rw [outsAt0_A m c t h]
  frame_out
  refine (gainTerm_at m c t _ j).trans (congrArg (· + _) ?_)
  pointwise [k0_pay20]

theorem gain_next (h : ¬ t.val % 4 = 0) (j : S1x1024.Idx) : (outsAt0 m c t.val t.isLt).2.2.2.2.2.2.2 j
    = (outsAt0 m c (t.val - 1) (Nat.lt_of_le_of_lt (Nat.sub_le _ _) t.isLt)).2.2.2.2.2.2.2 j + gainTerm m c t (j 1) := by
  rw [outsAt0_B m c t h]
  frame_out
  exact gainTerm_at m c t _ j

/-- The final gains' gradient. -/
theorem gain_final : (dats m 0 c).arrAt 22 cfg0.N = fun i => DxGrad.gain (args m c).h2 (args m c).dy (i 1) := by
  refine (dats m 0 c).arrAt_eq_of_covers 22 _ (by decide +kernel) fun t hf y => ?_
  have h7 := (flush0_22 t).mp hf
  have ht : t.val = 3 := by have := lt_of_lt_of_eq t.isLt N_0; omega
  blk_simp
  rw [after0_22, Pipeline.eq_sum_fin_of_reset_step_apply_of_flush (fun n h => (outsAt0 m c n h).2.2.2.2.2.2.2) 4 (fun _ => 0)
    (fun t j => gainTerm m c t (j 1)) (gain_start m c) (gain_next m c) t h7 y, zero_add]
  have e : (win0_22.blk t).view.emb y = y := by blk_ext [index_values t]
  rw [e]
  refine sum_row_blocks (fun i => (args m c).h2 i (y 1) * DxGrad.rstd (args m c).h2 i * (args m c).dy i (y 1)) _ fun s => ?_
  show 4 * (t.val / 4) + s.val = s.val
  omega

end Cert.TailKernelIdeal.Hand

end
-- ==== Proof.TailReference.lean ====
/- The reference of the layer's tail and the loss, entry by entry, and its agreement with the kernel. -/
module

public import proofs.«01_k».proof.Defs
public import proofs.«01_k».proof.Proof.Tail
public import proofs.«01_k».proof.Proof.Gen.TailReferenceIdeal.Read
public import proofs.«01_k».proof.Proof.Gen.TailReferenceIdeal.Run
public import Idealize.ShloMosaic.Lib.Claim

@[expose] public section

set_option maxRecDepth 16384

noncomputable section

open Idealize.ShloMosaic Idealize.ShloMosaic.TcCoe Idealize.SL.Sem

namespace Cert.TailReferenceIdeal.Hand

open Cert.TailReferenceIdeal Cert.TailReferenceIdeal.Gen Cert.TailReferenceIdeal.Read

variable (x0 : FVec Ideal S2048x512 .f32) (x1 : FVec Ideal S2048x3584 .f32) (x2 : FVec Ideal S2048x512 .f32) (x3 : FVec Ideal S2048x1024 .f32) (x4 : FVec Ideal S2048x256 .f32) (x5 : FVec Ideal S1x512 .f32) (x6 : FVec Ideal S1x512 .f32) (x7 : FVec Ideal S512x512 .f32) (x8 : FVec Ideal S1x512 .f32) (x9 : FVec Ideal S1024x1024 .f32) (x10 : FVec Ideal S1x1024 .f32) (x11 : FVec Ideal S1024x1024 .f32) (x12 : FVec Ideal S256x1024 .f32) (x13 : FVec Ideal S2048x1024 .f32) (x14 : FVec Ideal S1x1024 .f32)

/-- The arguments the reference is given. -/
def args : Tail.Args where
  c1 i k := x0 (ix2 i k)
  q i k := x1 (ix2 i ⟨3072 + k.val, by omega⟩)
  ya i k := x2 (ix2 i k)
  h i k := x3 (ix2 i k)
  p i k := x4 (ix2 i k)
  lg k := x5 (ix2 0 k)
  lb k := x6 (ix2 0 k)
  wpw i k := x7 (ix2 i k)
  cg k := x8 (ix2 0 k)
  wo i k := x9 (ix2 i k)
  pg k := x10 (ix2 0 k)
  wg i k := x11 (ix2 i k)
  wp i k := x12 (ix2 i k)
  tgt i k := x13 (ix2 i k)
  fg k := x14 (ix2 0 k)

theorem centred_at (i : Fin 2048) (l : Fin 512) : val_main_v7 (F := Ideal) x0 (ix2 i l) = Tail.centred ((args x0 x1 x2 x3 x4 x5 x6 x7 x8 x9 x10 x11 x12 x13 x14).c1 i) l := by
  unfold Tail.centred args
  pointwise [val_main_v7, val_main_v6, val_main_v5, val_main_v4, val_main_cst_0, val_main_v3, val_main_v2, val_main_cst]
  rw [Tail.lit_512]

theorem rstdLayer_at (i : Fin 2048) : val_main_v15 (F := Ideal) x0 (ix2 i 0) = Ideal.rsqrt (RealLift.meanSq 512 (Tail.centred ((args x0 x1 x2 x3 x4 x5 x6 x7 x8 x9 x10 x11 x12 x13 x14).c1 i))) := by
  unfold RealLift.meanSq
  simp only [← centred_at]
  pointwise [val_main_v15, val_main_v14, val_main_v13, val_main_cst_3, val_main_v12, val_main_v11, val_main_cst_2, val_main_v10, val_main_v9, val_main_cst_1, val_main_v8]
  rw [Tail.lit_512, RealLift.lit_eps]

theorem layerNorm_at (i : Fin 2048) (l : Fin 512) : val_main_v23 (F := Ideal) x0 x5 x6 (ix2 i l) = Tail.layerNorm ((args x0 x1 x2 x3 x4 x5 x6 x7 x8 x9 x10 x11 x12 x13 x14).c1 i) (args x0 x1 x2 x3 x4 x5 x6 x7 x8 x9 x10 x11 x12 x13 x14).lg (args x0 x1 x2 x3 x4 x5 x6 x7 x8 x9 x10 x11 x12 x13 x14).lb l := by
  unfold Tail.layerNorm
  rw [← centred_at, ← rstdLayer_at]
  unfold args
  pointwise [val_main_v23, val_main_v22, val_main_v21, val_main_v1, val_main_v20, val_main_v19, val_main_v18, val_main_v0, val_main_v17, val_main_v16]

theorem c3_at (i : Fin 2048) (k : Fin 512) : val_main_v25 (F := Ideal) x0 x5 x6 x7 (ix2 i k) = (args x0 x1 x2 x3 x4 x5 x6 x7 x8 x9 x10 x11 x12 x13 x14).c3 i k := by
  unfold Tail.Args.c3 Tail.projected Tail.sigmoid
  simp only [← layerNorm_at]
  unfold args
  pointwise [val_main_v25, val_main_v24, val_main_call0_v5, val_main_call0_v4, val_main_call0_cst_0, val_main_call0_v3, val_main_call0_v2, val_main_call0_cst, val_main_call0_v1, val_main_call0_v0]

theorem rstdBranch_at (i : Fin 2048) : val_main_v34 (F := Ideal) x0 x5 x6 x7 (ix2 i 0) = Ideal.rsqrt (RealLift.meanSq 512 ((args x0 x1 x2 x3 x4 x5 x6 x7 x8 x9 x10 x11 x12 x13 x14).c3 i)) := by
  unfold RealLift.meanSq
  simp only [← c3_at]
  pointwise [val_main_v34, val_main_v33, val_main_v32, val_main_cst_6, val_main_v31, val_main_v30, val_main_cst_5, val_main_v29, val_main_v28, val_main_cst_4, val_main_v27]
  rw [Tail.lit_512, RealLift.lit_eps]

theorem yc_at (i : Fin 2048) (k : Fin 512) : val_main_v42 (F := Ideal) x0 x1 x5 x6 x7 x8 (ix2 i k) = (args x0 x1 x2 x3 x4 x5 x6 x7 x8 x9 x10 x11 x12 x13 x14).yc i k := by
  unfold Tail.Args.yc Tail.branch Tail.sigmoid
  rw [← c3_at, ← rstdBranch_at]
  unfold args
  pointwise [val_main_v42, val_main_v41, val_main_call1_v5, val_main_call1_v4, val_main_call1_cst_0, val_main_call1_v3, val_main_call1_v2, val_main_call1_cst, val_main_call1_v1, val_main_call1_v0, val_main_v40, val_main_v39, val_main_v38, val_main_v37, val_main_v26, val_main_v36, val_main_v35]

theorem roundedBranch_at (i : Fin 2048) (k : Fin 512) : val_main_v123 (F := Ideal) x0 x1 x5 x6 x7 x8 (ix2 i k) = (args x0 x1 x2 x3 x4 x5 x6 x7 x8 x9 x10 x11 x12 x13 x14).yc i k := by
  rw [← yc_at]
  pointwise [val_main_v123]

/-- The two branches' rows side by side, against the output projection's weights: the two halves' products. -/
theorem h1_at (i : Fin 2048) (k : Fin 1024) : val_main_v45 (F := Ideal) x0 x1 x2 x3 x5 x6 x7 x8 x9 (ix2 i k) = (args x0 x1 x2 x3 x4 x5 x6 x7 x8 x9 x10 x11 x12 x13 x14).h1 i k := by
  unfold Tail.Args.h1 Tail.stream Tail.Args.wt Tail.Args.wb
  simp only [← yc_at]
  unfold args
  pointwise [val_main_v45, val_main_v44, val_main_v43]

theorem rstdStream_at (i : Fin 2048) : val_main_v54 (F := Ideal) x0 x1 x2 x3 x5 x6 x7 x8 x9 (ix2 i 0) = Ideal.rsqrt (RealLift.meanSq 1024 ((args x0 x1 x2 x3 x4 x5 x6 x7 x8 x9 x10 x11 x12 x13 x14).h1 i)) := by
  unfold RealLift.meanSq
  simp only [← h1_at]
  pointwise [val_main_v54, val_main_v53, val_main_v52, val_main_cst_9, val_main_v51, val_main_v50, val_main_cst_8, val_main_v49, val_main_v48, val_main_cst_7, val_main_v47]
  rw [RealLift.lit_1024, RealLift.lit_eps]

theorem gate_at (i : Fin 2048) (k : Fin 1024) : val_main_v66 (F := Ideal) x0 x1 x2 x3 x5 x6 x7 x8 x9 x10 x11 (ix2 i k) = (args x0 x1 x2 x3 x4 x5 x6 x7 x8 x9 x10 x11 x12 x13 x14).gate i k := by
  unfold Tail.Args.gate Tail.gate Tail.sigmoid
  simp only [← h1_at, ← rstdStream_at]
  unfold args
  pointwise [val_main_v66, val_main_v65, val_main_cst_11, val_main_v64, val_main_v63, val_main_cst_10, val_main_v62, val_main_v61, val_main_v60, val_main_v59, val_main_v58, val_main_v57, val_main_v46, val_main_v56, val_main_v55]

theorem roundedGate_at (i : Fin 2048) (k : Fin 1024) : val_main_v124 (F := Ideal) x0 x1 x2 x3 x5 x6 x7 x8 x9 x10 x11 (ix2 i k) = (args x0 x1 x2 x3 x4 x5 x6 x7 x8 x9 x10 x11 x12 x13 x14).gate i k := by
  rw [← gate_at]
  pointwise [val_main_v124]

theorem pe_at (i : Fin 2048) (k : Fin 1024) : val_main_v67 (F := Ideal) x4 x12 (ix2 i k) = (args x0 x1 x2 x3 x4 x5 x6 x7 x8 x9 x10 x11 x12 x13 x14).pe i k := by
  unfold Tail.Args.pe Tail.embed args
  pointwise [val_main_v67]

theorem roundedEmbed_at (i : Fin 2048) (k : Fin 1024) : val_main_v125 (F := Ideal) x4 x12 (ix2 i k) = (args x0 x1 x2 x3 x4 x5 x6 x7 x8 x9 x10 x11 x12 x13 x14).pe i k := by
  rw [← pe_at x0 x1 x2 x3 x4 x5 x6 x7 x8 x9 x10 x11 x12 x13 x14]
  pointwise [val_main_v125]

theorem h2_at (i : Fin 2048) (k : Fin 1024) : val_main_v69 (F := Ideal) x0 x1 x2 x3 x4 x5 x6 x7 x8 x9 x10 x11 x12 (ix2 i k) = (args x0 x1 x2 x3 x4 x5 x6 x7 x8 x9 x10 x11 x12 x13 x14).h2 i k := by
  unfold Tail.Args.h2
  rw [← h1_at, ← pe_at, ← gate_at]
  pointwise [val_main_v69, val_main_v68]

theorem meanSq_at (i : Fin 2048) : val_main_v77 (F := Ideal) x0 x1 x2 x3 x4 x5 x6 x7 x8 x9 x10 x11 x12 (ix2 i 0) = RealLift.meanSq 1024 ((args x0 x1 x2 x3 x4 x5 x6 x7 x8 x9 x10 x11 x12 x13 x14).h2 i) := by
  unfold RealLift.meanSq
  simp only [← h2_at]
  pointwise [val_main_v77, val_main_v76, val_main_cst_14, val_main_v75, val_main_v74, val_main_cst_13, val_main_v73, val_main_v72, val_main_cst_12, val_main_v71]
  rw [RealLift.lit_1024, RealLift.lit_eps]

theorem rstd_at (i : Fin 2048) : val_main_v78 (F := Ideal) x0 x1 x2 x3 x4 x5 x6 x7 x8 x9 x10 x11 x12 (ix2 i 0) = DxGrad.rstd (args x0 x1 x2 x3 x4 x5 x6 x7 x8 x9 x10 x11 x12 x13 x14).h2 i := by
  unfold DxGrad.rstd
  rw [← meanSq_at]
  pointwise [val_main_v78]

theorem err_at (i : Fin 2048) (k : Fin 1024) : val_main_v87 (F := Ideal) x0 x1 x2 x3 x4 x5 x6 x7 x8 x9 x10 x11 x12 x13 x14 (ix2 i k) = (args x0 x1 x2 x3 x4 x5 x6 x7 x8 x9 x10 x11 x12 x13 x14).err i k := by
  unfold Tail.Args.err Tail.error
  rw [← h2_at, show Ideal.rsqrt (RealLift.meanSq 1024 ((args x0 x1 x2 x3 x4 x5 x6 x7 x8 x9 x10 x11 x12 x13 x14).h2 i)) = DxGrad.rstd (args x0 x1 x2 x3 x4 x5 x6 x7 x8 x9 x10 x11 x12 x13 x14).h2 i from rfl, ← rstd_at]
  unfold args
  pointwise [val_main_v87, val_main_v86, val_main_v85, val_main_v84, val_main_v70, val_main_v83, val_main_v82]

theorem dy_at (i : Fin 2048) (k : Fin 1024) : val_main_v101 (F := Ideal) x0 x1 x2 x3 x4 x5 x6 x7 x8 x9 x10 x11 x12 x13 x14 (ix2 i k) = (args x0 x1 x2 x3 x4 x5 x6 x7 x8 x9 x10 x11 x12 x13 x14).dy i k := by
  unfold Tail.Args.dy Tail.upstream
  rw [← err_at, ← Tail.upstream_eq]
  pointwise [val_main_v101, val_main_v100, val_main_v99, val_main_v98, val_main_cst_23, val_main_v97, val_main_v96, val_main_cst_22, val_main_cst_21, val_main_v90, val_main_v89, val_main_cst_16]
  rw [RealLift.lit_1024, Tail.lit_half, Tail.lit_two]

theorem loss_at (i : Fin 8) (k : Fin 128) : val_main_v126 (F := Ideal) x0 x1 x2 x3 x4 x5 x6 x7 x8 x9 x10 x11 x12 x13 x14 (ix2 i k) = Tail.loss (args x0 x1 x2 x3 x4 x5 x6 x7 x8 x9 x10 x11 x12 x13 x14).err := by
  unfold Tail.loss Tail.meanSquare
  simp only [← err_at]
  pointwise [val_main_v126, val_main_v95, val_main_cst_20, val_main_v94, val_main_cst_19, val_main_v93, val_main_v92, val_main_cst_18, val_main_v91, val_main_cst_17, val_main_v88]
  rw [RealLift.lit_1024, Tail.lit_half]

theorem gain_at (k : Fin 1024) : val_main_v122 (F := Ideal) x0 x1 x2 x3 x4 x5 x6 x7 x8 x9 x10 x11 x12 x13 x14 (ix2 0 k) = DxGrad.gain (args x0 x1 x2 x3 x4 x5 x6 x7 x8 x9 x10 x11 x12 x13 x14).h2 (args x0 x1 x2 x3 x4 x5 x6 x7 x8 x9 x10 x11 x12 x13 x14).dy k := by
  unfold DxGrad.gain
  simp only [← h2_at, ← rstd_at, ← dy_at]
  pointwise [val_main_v122, val_main_v107, val_main_cst_25, val_main_v104, val_main_v103, val_main_cst_24, val_main_v102, val_main_v83, val_main_v82]
  try simp only [Finset.univ_unique, Finset.sum_singleton]

theorem back_at (i : Fin 2048) (k : Fin 1024) : val_main_v117 (F := Ideal) x0 x1 x2 x3 x4 x5 x6 x7 x8 x9 x10 x11 x12 x13 x14 (ix2 i k) = DxGrad.back (args x0 x1 x2 x3 x4 x5 x6 x7 x8 x9 x10 x11 x12 x13 x14).h2 (args x0 x1 x2 x3 x4 x5 x6 x7 x8 x9 x10 x11 x12 x13 x14).dy (args x0 x1 x2 x3 x4 x5 x6 x7 x8 x9 x10 x11 x12 x13 x14).fg i := by
  unfold DxGrad.back
  simp only [← rstd_at, ← h2_at, ← dy_at, ← meanSq_at]
  unfold args
  pointwise [val_main_v117, val_main_v116, val_main_cst_28, val_main_v115, val_main_v114, val_main_cst_27, val_main_v113, val_main_v110, val_main_v109, val_main_cst_26, val_main_v108, val_main_v106, val_main_v105, val_main_v84, val_main_v70, val_main_v81, val_main_v80, val_main_cst_15, val_main_v79]
  rw [RealLift.lit_1024, RealLift.lit_neg_half]
  simp only [Finset.univ_unique, Finset.sum_singleton]
  rfl

theorem dh_at (i : Fin 2048) (k : Fin 1024) : val_main_v121 (F := Ideal) x0 x1 x2 x3 x4 x5 x6 x7 x8 x9 x10 x11 x12 x13 x14 (ix2 i k) = DxGrad.input (args x0 x1 x2 x3 x4 x5 x6 x7 x8 x9 x10 x11 x12 x13 x14).h2 (args x0 x1 x2 x3 x4 x5 x6 x7 x8 x9 x10 x11 x12 x13 x14).dy (fun _ _ => 0) (args x0 x1 x2 x3 x4 x5 x6 x7 x8 x9 x10 x11 x12 x13 x14).fg i k := by
  unfold DxGrad.input
  rw [← back_at x0 x1 x2 x3 x4 x5 x6 x7 x8 x9 x10 x11 x12 x13 x14 i k, ← rstd_at, ← h2_at, ← dy_at, zero_add]
  unfold args
  pointwise [val_main_v121, val_main_v120, val_main_v119, val_main_v118, val_main_v112, val_main_v111, val_main_v106, val_main_v105, val_main_v84, val_main_v70]

/-! The results from arguments that equal `x0 … x14`. -/

theorem congr_v25 {y0 : FVec Ideal S2048x512 .f32} {y5 : FVec Ideal S1x512 .f32} {y6 : FVec Ideal S1x512 .f32} {y7 : FVec Ideal S512x512 .f32} (h0 : y0 = x0) (h5 : y5 = x5) (h6 : y6 = x6) (h7 : y7 = x7) :
    val_main_v25 (F := Ideal) y0 y5 y6 y7 = val_main_v25 (F := Ideal) x0 x5 x6 x7 := by
  subst h0 h5 h6 h7
  rfl

theorem congr_v123 {y0 : FVec Ideal S2048x512 .f32} {y1 : FVec Ideal S2048x3584 .f32} {y5 : FVec Ideal S1x512 .f32} {y6 : FVec Ideal S1x512 .f32} {y7 : FVec Ideal S512x512 .f32} {y8 : FVec Ideal S1x512 .f32} (h0 : y0 = x0) (h1 : y1 = x1) (h5 : y5 = x5) (h6 : y6 = x6) (h7 : y7 = x7) (h8 : y8 = x8) :
    val_main_v123 (F := Ideal) y0 y1 y5 y6 y7 y8 = val_main_v123 (F := Ideal) x0 x1 x5 x6 x7 x8 := by
  subst h0 h1 h5 h6 h7 h8
  rfl

theorem congr_v45 {y0 : FVec Ideal S2048x512 .f32} {y1 : FVec Ideal S2048x3584 .f32} {y2 : FVec Ideal S2048x512 .f32} {y3 : FVec Ideal S2048x1024 .f32} {y5 : FVec Ideal S1x512 .f32} {y6 : FVec Ideal S1x512 .f32} {y7 : FVec Ideal S512x512 .f32} {y8 : FVec Ideal S1x512 .f32} {y9 : FVec Ideal S1024x1024 .f32} (h0 : y0 = x0) (h1 : y1 = x1) (h2 : y2 = x2) (h3 : y3 = x3) (h5 : y5 = x5) (h6 : y6 = x6) (h7 : y7 = x7) (h8 : y8 = x8) (h9 : y9 = x9) :
    val_main_v45 (F := Ideal) y0 y1 y2 y3 y5 y6 y7 y8 y9 = val_main_v45 (F := Ideal) x0 x1 x2 x3 x5 x6 x7 x8 x9 := by
  subst h0 h1 h2 h3 h5 h6 h7 h8 h9
  rfl

theorem congr_v124 {y0 : FVec Ideal S2048x512 .f32} {y1 : FVec Ideal S2048x3584 .f32} {y2 : FVec Ideal S2048x512 .f32} {y3 : FVec Ideal S2048x1024 .f32} {y5 : FVec Ideal S1x512 .f32} {y6 : FVec Ideal S1x512 .f32} {y7 : FVec Ideal S512x512 .f32} {y8 : FVec Ideal S1x512 .f32} {y9 : FVec Ideal S1024x1024 .f32} {y10 : FVec Ideal S1x1024 .f32} {y11 : FVec Ideal S1024x1024 .f32} (h0 : y0 = x0) (h1 : y1 = x1) (h2 : y2 = x2) (h3 : y3 = x3) (h5 : y5 = x5) (h6 : y6 = x6) (h7 : y7 = x7) (h8 : y8 = x8) (h9 : y9 = x9) (h10 : y10 = x10) (h11 : y11 = x11) :
    val_main_v124 (F := Ideal) y0 y1 y2 y3 y5 y6 y7 y8 y9 y10 y11 = val_main_v124 (F := Ideal) x0 x1 x2 x3 x5 x6 x7 x8 x9 x10 x11 := by
  subst h0 h1 h2 h3 h5 h6 h7 h8 h9 h10 h11
  rfl

theorem congr_v125 {y4 : FVec Ideal S2048x256 .f32} {y12 : FVec Ideal S256x1024 .f32} (h4 : y4 = x4) (h12 : y12 = x12) :
    val_main_v125 (F := Ideal) y4 y12 = val_main_v125 (F := Ideal) x4 x12 := by
  subst h4 h12
  rfl

theorem congr_v121 {y0 : FVec Ideal S2048x512 .f32} {y1 : FVec Ideal S2048x3584 .f32} {y2 : FVec Ideal S2048x512 .f32} {y3 : FVec Ideal S2048x1024 .f32} {y4 : FVec Ideal S2048x256 .f32} {y5 : FVec Ideal S1x512 .f32} {y6 : FVec Ideal S1x512 .f32} {y7 : FVec Ideal S512x512 .f32} {y8 : FVec Ideal S1x512 .f32} {y9 : FVec Ideal S1024x1024 .f32} {y10 : FVec Ideal S1x1024 .f32} {y11 : FVec Ideal S1024x1024 .f32} {y12 : FVec Ideal S256x1024 .f32} {y13 : FVec Ideal S2048x1024 .f32} {y14 : FVec Ideal S1x1024 .f32} (h0 : y0 = x0) (h1 : y1 = x1) (h2 : y2 = x2) (h3 : y3 = x3) (h4 : y4 = x4) (h5 : y5 = x5) (h6 : y6 = x6) (h7 : y7 = x7) (h8 : y8 = x8) (h9 : y9 = x9) (h10 : y10 = x10) (h11 : y11 = x11) (h12 : y12 = x12) (h13 : y13 = x13) (h14 : y14 = x14) :
    val_main_v121 (F := Ideal) y0 y1 y2 y3 y4 y5 y6 y7 y8 y9 y10 y11 y12 y13 y14 = val_main_v121 (F := Ideal) x0 x1 x2 x3 x4 x5 x6 x7 x8 x9 x10 x11 x12 x13 x14 := by
  subst h0 h1 h2 h3 h4 h5 h6 h7 h8 h9 h10 h11 h12 h13 h14
  rfl

theorem congr_v126 {y0 : FVec Ideal S2048x512 .f32} {y1 : FVec Ideal S2048x3584 .f32} {y2 : FVec Ideal S2048x512 .f32} {y3 : FVec Ideal S2048x1024 .f32} {y4 : FVec Ideal S2048x256 .f32} {y5 : FVec Ideal S1x512 .f32} {y6 : FVec Ideal S1x512 .f32} {y7 : FVec Ideal S512x512 .f32} {y8 : FVec Ideal S1x512 .f32} {y9 : FVec Ideal S1024x1024 .f32} {y10 : FVec Ideal S1x1024 .f32} {y11 : FVec Ideal S1024x1024 .f32} {y12 : FVec Ideal S256x1024 .f32} {y13 : FVec Ideal S2048x1024 .f32} {y14 : FVec Ideal S1x1024 .f32} (h0 : y0 = x0) (h1 : y1 = x1) (h2 : y2 = x2) (h3 : y3 = x3) (h4 : y4 = x4) (h5 : y5 = x5) (h6 : y6 = x6) (h7 : y7 = x7) (h8 : y8 = x8) (h9 : y9 = x9) (h10 : y10 = x10) (h11 : y11 = x11) (h12 : y12 = x12) (h13 : y13 = x13) (h14 : y14 = x14) :
    val_main_v126 (F := Ideal) y0 y1 y2 y3 y4 y5 y6 y7 y8 y9 y10 y11 y12 y13 y14 = val_main_v126 (F := Ideal) x0 x1 x2 x3 x4 x5 x6 x7 x8 x9 x10 x11 x12 x13 x14 := by
  subst h0 h1 h2 h3 h4 h5 h6 h7 h8 h9 h10 h11 h12 h13 h14
  rfl

theorem congr_v122 {y0 : FVec Ideal S2048x512 .f32} {y1 : FVec Ideal S2048x3584 .f32} {y2 : FVec Ideal S2048x512 .f32} {y3 : FVec Ideal S2048x1024 .f32} {y4 : FVec Ideal S2048x256 .f32} {y5 : FVec Ideal S1x512 .f32} {y6 : FVec Ideal S1x512 .f32} {y7 : FVec Ideal S512x512 .f32} {y8 : FVec Ideal S1x512 .f32} {y9 : FVec Ideal S1024x1024 .f32} {y10 : FVec Ideal S1x1024 .f32} {y11 : FVec Ideal S1024x1024 .f32} {y12 : FVec Ideal S256x1024 .f32} {y13 : FVec Ideal S2048x1024 .f32} {y14 : FVec Ideal S1x1024 .f32} (h0 : y0 = x0) (h1 : y1 = x1) (h2 : y2 = x2) (h3 : y3 = x3) (h4 : y4 = x4) (h5 : y5 = x5) (h6 : y6 = x6) (h7 : y7 = x7) (h8 : y8 = x8) (h9 : y9 = x9) (h10 : y10 = x10) (h11 : y11 = x11) (h12 : y12 = x12) (h13 : y13 = x13) (h14 : y14 = x14) :
    val_main_v122 (F := Ideal) y0 y1 y2 y3 y4 y5 y6 y7 y8 y9 y10 y11 y12 y13 y14 = val_main_v122 (F := Ideal) x0 x1 x2 x3 x4 x5 x6 x7 x8 x9 x10 x11 x12 x13 x14 := by
  subst h0 h1 h2 h3 h4 h5 h6 h7 h8 h9 h10 h11 h12 h13 h14
  rfl

end Cert.TailReferenceIdeal.Hand

/-! ## The kernel's results are the reference's terms of the same arguments -/

namespace Cert.TailKernelIdeal.Hand

open Cert.TailKernelIdeal Cert.TailKernelIdeal.Gen

variable (m : (ℓ : Loc nD τ sig) → Buf (Elt Ideal) ℓ) (c : Dev nD)

theorem c3_result : (dats m 0 c).arrAt 15 cfg0.N = Cert.TailReferenceIdeal.Read.val_main_v25 (F := Ideal) (m ((c : Thread nD τ).loc main_arg0)) (m ((c : Thread nD τ).loc main_arg5)) (m ((c : Thread nD τ).loc main_arg6)) (m ((c : Thread nD τ).loc main_arg7)) := by
  rw [c3_final]
  funext i
  idx_vars i
  exact (Cert.TailReferenceIdeal.Hand.c3_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) i0 i1).symm

theorem yc_result : (dats m 0 c).arrAt 16 cfg0.N = Cert.TailReferenceIdeal.Read.val_main_v123 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) := by
  rw [yc_final]
  funext i
  idx_vars i
  exact (Cert.TailReferenceIdeal.Hand.roundedBranch_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) i0 i1).symm

theorem h1_result : (dats m 0 c).arrAt 17 cfg0.N = Cert.TailReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) := by
  rw [h1_final]
  funext i
  idx_vars i
  exact (Cert.TailReferenceIdeal.Hand.h1_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) i0 i1).symm

theorem gate_result : (dats m 0 c).arrAt 18 cfg0.N = Cert.TailReferenceIdeal.Read.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [gate_final]
  funext i
  idx_vars i
  exact (Cert.TailReferenceIdeal.Hand.roundedGate_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) i0 i1).symm

theorem pe_result : (dats m 0 c).arrAt 19 cfg0.N = Cert.TailReferenceIdeal.Read.val_main_v125 (F := Ideal) (m ((c : Thread nD τ).loc main_arg4)) (m ((c : Thread nD τ).loc main_arg12)) := by
  rw [pe_final]
  funext i
  idx_vars i
  exact (Cert.TailReferenceIdeal.Hand.roundedEmbed_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) i0 i1).symm

theorem dh_result : (dats m 0 c).arrAt 20 cfg0.N = Cert.TailReferenceIdeal.Read.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [dh_final]
  funext i
  idx_vars i
  exact (Cert.TailReferenceIdeal.Hand.dh_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) i0 i1).symm

theorem loss_result : (dats m 0 c).arrAt 21 cfg0.N = Cert.TailReferenceIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [loss_final]
  funext i
  idx_vars i
  exact (Cert.TailReferenceIdeal.Hand.loss_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) i0 i1).symm

theorem gain_result : (dats m 0 c).arrAt 22 cfg0.N = Cert.TailReferenceIdeal.Read.val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [gain_final]
  funext i
  idx_vars i
  obtain rfl : i0 = 0 := Subsingleton.elim _ _
  exact (Cert.TailReferenceIdeal.Hand.gain_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) i1).symm

end Cert.TailKernelIdeal.Hand

set_option maxHeartbeats 2000000 in
/-- On equal arguments the kernel's eight results are the reference's, at the ideal numbers and for every argument: the
    projected convolution branch, the branch itself, the residual stream, the embedding's gate, the projected embedding,
    the loss's gradient with respect to the layer's output, the loss, and the final gains' gradient. -/
theorem Cert.TailHand.algebraic : Cert.algebraic_TailKernelIdeal_TailReferenceIdeal := by
  pair_intro
  · run_from Cert.TailKernelIdeal.Value.run_blocks m g
  · run_from Cert.TailReferenceIdeal.Value.run m' g'
    · obtain ⟨h0, h1, h2, h3, h4, h5, h6, h7, h8, h9, h10, h11, h12, h13, h14⟩ := hagree c
      exact (Cert.TailReferenceIdeal.Read.val_main_v25_eq (F := Ideal) (StableHlo.launchContents m' c)).trans
        ((Cert.TailReferenceIdeal.Hand.congr_v25 _ _ _ _ h0 h5 h6 h7).trans (Cert.TailKernelIdeal.Hand.c3_result m c).symm)
    · obtain ⟨h0, h1, h2, h3, h4, h5, h6, h7, h8, h9, h10, h11, h12, h13, h14⟩ := hagree c
      exact (Cert.TailReferenceIdeal.Read.val_main_v123_eq (F := Ideal) (StableHlo.launchContents m' c)).trans
        ((Cert.TailReferenceIdeal.Hand.congr_v123 _ _ _ _ _ _ h0 h1 h5 h6 h7 h8).trans (Cert.TailKernelIdeal.Hand.yc_result m c).symm)
    · obtain ⟨h0, h1, h2, h3, h4, h5, h6, h7, h8, h9, h10, h11, h12, h13, h14⟩ := hagree c
      exact (Cert.TailReferenceIdeal.Read.val_main_v45_eq (F := Ideal) (StableHlo.launchContents m' c)).trans
        ((Cert.TailReferenceIdeal.Hand.congr_v45 _ _ _ _ _ _ _ _ _ h0 h1 h2 h3 h5 h6 h7 h8 h9).trans (Cert.TailKernelIdeal.Hand.h1_result m c).symm)
    · obtain ⟨h0, h1, h2, h3, h4, h5, h6, h7, h8, h9, h10, h11, h12, h13, h14⟩ := hagree c
      exact (Cert.TailReferenceIdeal.Read.val_main_v124_eq (F := Ideal) (StableHlo.launchContents m' c)).trans
        ((Cert.TailReferenceIdeal.Hand.congr_v124 _ _ _ _ _ _ _ _ _ _ _ h0 h1 h2 h3 h5 h6 h7 h8 h9 h10 h11).trans (Cert.TailKernelIdeal.Hand.gate_result m c).symm)
    · obtain ⟨h0, h1, h2, h3, h4, h5, h6, h7, h8, h9, h10, h11, h12, h13, h14⟩ := hagree c
      exact (Cert.TailReferenceIdeal.Read.val_main_v125_eq (F := Ideal) (StableHlo.launchContents m' c)).trans
        ((Cert.TailReferenceIdeal.Hand.congr_v125 _ _ h4 h12).trans (Cert.TailKernelIdeal.Hand.pe_result m c).symm)
    · obtain ⟨h0, h1, h2, h3, h4, h5, h6, h7, h8, h9, h10, h11, h12, h13, h14⟩ := hagree c
      exact (Cert.TailReferenceIdeal.Read.val_main_v121_eq (F := Ideal) (StableHlo.launchContents m' c)).trans
        ((Cert.TailReferenceIdeal.Hand.congr_v121 _ _ _ _ _ _ _ _ _ _ _ _ _ _ _ h0 h1 h2 h3 h4 h5 h6 h7 h8 h9 h10 h11 h12 h13 h14).trans (Cert.TailKernelIdeal.Hand.dh_result m c).symm)
    · obtain ⟨h0, h1, h2, h3, h4, h5, h6, h7, h8, h9, h10, h11, h12, h13, h14⟩ := hagree c
      exact (Cert.TailReferenceIdeal.Read.val_main_v126_eq (F := Ideal) (StableHlo.launchContents m' c)).trans
        ((Cert.TailReferenceIdeal.Hand.congr_v126 _ _ _ _ _ _ _ _ _ _ _ _ _ _ _ h0 h1 h2 h3 h4 h5 h6 h7 h8 h9 h10 h11 h12 h13 h14).trans (Cert.TailKernelIdeal.Hand.loss_result m c).symm)
    · obtain ⟨h0, h1, h2, h3, h4, h5, h6, h7, h8, h9, h10, h11, h12, h13, h14⟩ := hagree c
      exact (Cert.TailReferenceIdeal.Read.val_main_v122_eq (F := Ideal) (StableHlo.launchContents m' c)).trans
        ((Cert.TailReferenceIdeal.Hand.congr_v122 _ _ _ _ _ _ _ _ _ _ _ _ _ _ _ h0 h1 h2 h3 h4 h5 h6 h7 h8 h9 h10 h11 h12 h13 h14).trans (Cert.TailKernelIdeal.Hand.gain_result m c).symm)

end
-- ==== Proof.InDw.lean ====
/- The gradient of the input projection's weights: the product of the normalised rows, transposed, with the upstream
   gradient, one tile of the weights' columns after the other. -/
module

public import proofs.«01_k».proof.Defs
public import proofs.«01_k».proof.Proof.RealLift
public import proofs.«01_k».proof.Proof.Gen.InDwKernelIdeal.Value
public import proofs.«01_k».proof.Proof.Gen.InDwReferenceIdeal.Read
public import proofs.«01_k».proof.Proof.Gen.InDwReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace InDwGrad

/-- A row divided by the root of its smoothed mean square, times the gain. -/
def normed (x : FVec Ideal Cert.InDwKernelIdeal.S2048x1024 .f32) (g : FVec Ideal Cert.InDwKernelIdeal.S1x1024 .f32) (i : Fin 2048) (k : Fin 1024) : EReal :=
  x (ix2 i k) * Ideal.rsqrt (RealLift.meanSq 1024 fun l : Fin 1024 => x (ix2 i l)) * g (ix2 0 k)

/-- The gradient of the weights, in the projection's four column tiles. -/
def weights (x : FVec Ideal Cert.InDwKernelIdeal.S2048x1024 .f32) (g : FVec Ideal Cert.InDwKernelIdeal.S1x1024 .f32)
    (d : FVec Ideal Cert.InDwKernelIdeal.S2048x3584 .f32) (q : Fin 4) (a : Fin 1024) (b : Fin 896) : EReal :=
  ∑ i : Fin 2048, normed x g i a * d (ix2 i ⟨q.val * 896 + b.val, by omega⟩)

end InDwGrad

namespace Cert.InDwKernelIdeal.Hand

open Cert.InDwKernelIdeal Cert.InDwKernelIdeal.Gen

theorem zero_fill (j : S1x1024x896.Idx) : k0_pay1 (F := Ideal) j = 0 := by pointwise [k0_pay1]

theorem product (s : FVec Ideal S1x1024x896 .f32) (a : FVec Ideal S2048x1024 .bf16) (b : FVec Ideal S2048x896 .bf16) (j : S1x1024x896.Idx) :
    k0_pay2 (F := Ideal) s a b j = s j + ∑ i : Fin 2048, a (ix2 i (j 1)) * b (ix2 i (j 2)) := by
  pointwise [k0_pay2]

variable (m : (ℓ : Loc nD τ sig) → Buf (Elt Ideal) ℓ)

theorem index_values : ∀ t : Fin cfg0.N, win0_0.index t = ![0, 0] ∧ win0_1.index t = ![0, t.val] ∧ win0_2.index t = ![t.val, 0, 0] :=
  (by decide +kernel : ∀ t : Fin grid0.N, _)

/-- The three arguments. -/
def rows (c : Dev nD) : FVec Ideal S2048x1024 .f32 := m ((c : Thread nD τ).loc main_arg0)
def gains (c : Dev nD) : FVec Ideal S1x1024 .f32 := m ((c : Thread nD τ).loc main_arg1)
def upstream (c : Dev nD) : FVec Ideal S2048x3584 .f32 := m ((c : Thread nD τ).loc main_arg2)

theorem normed_entry (c : Dev nD) (i : Fin 2048) (k : Fin 1024) :
    (show FVec Ideal S2048x1024 .bf16 from V m c main_v14) (ix2 i k) = InDwGrad.normed (rows m c) (gains m c) i k := by
  unfold InDwGrad.normed RealLift.meanSq rows gains
  entry_read
  pointwise
  rw [RealLift.lit_1024, RealLift.lit_eps]

theorem upstream_entry (c : Dev nD) (i : Fin 2048) (l : Fin 3584) :
    (show FVec Ideal S2048x3584 .bf16 from V m c main_v15) (ix2 i l) = upstream m c (ix2 i l) := by
  unfold upstream
  entry_read
  pointwise

/-- The tile of the weights' columns that point `t` writes. -/
def tile (t : Fin cfg0.N) : Fin 4 := ⟨t.val, lt_of_lt_of_eq t.isLt N_0⟩

theorem normed_block (c : Dev nD) (t : Fin cfg0.N) (i : Fin 2048) (k : Fin 1024) :
    (show FVec Ideal S2048x1024 .bf16 from iblk m c 0 t) (ix2 i k) = InDwGrad.normed (rows m c) (gains m c) i k := by
  refine Eq.trans ?_ (normed_entry m c i k)
  blk_ext [iblk, index_values t]

theorem upstream_block (c : Dev nD) (t : Fin cfg0.N) (i : Fin 2048) (l : Fin 896) :
    (show FVec Ideal S2048x896 .bf16 from iblk m c 1 t) (ix2 i l) = upstream m c (ix2 i ⟨(tile t).val * 896 + l.val, by omega⟩) := by
  refine Eq.trans ?_ (upstream_entry m c i _)
  unfold tile
  blk_ext [iblk, index_values t]

/-- The kernel's result: the gradient of the weights, tile by tile. -/
theorem weights_final (c : Dev nD) : (dats m 0 c).arrAt 2 cfg0.N = fun i =>
    InDwGrad.weights (rows m c) (gains m c) (upstream m c) (i 0) (i 1) (i 2) := by
  refine (dats m 0 c).arrAt_eq_of_covers 2 _ (by decide +kernel) fun t hf y => ?_
  blk_simp
  rw [after0_2]
  have e : (win0_2.blk t).view.emb y = ix3 (tile t) (y 1) (y 2) := by unfold tile; blk_ext [index_values t]
  rw [e]
  unfold outsAt0
  frame_out
  rw [product, zero_fill, zero_add]
  unfold InDwGrad.weights
  exact Fin.sum_fin_congr fun i => Ideal.mul_congr (normed_block m c t i (y 1)) (upstream_block m c t i (y 2))

end Cert.InDwKernelIdeal.Hand

namespace Cert.InDwReferenceIdeal.Hand

open Cert.InDwReferenceIdeal Cert.InDwReferenceIdeal.Gen Cert.InDwReferenceIdeal.Read

variable (x : FVec Ideal S2048x1024 .f32) (g : FVec Ideal S1x1024 .f32) (d : FVec Ideal S2048x3584 .f32)

theorem normed_at (i : Fin 2048) (k : Fin 1024) : val_main_v14 (F := Ideal) x g (ix2 i k) = InDwGrad.normed x g i k := by
  unfold InDwGrad.normed RealLift.meanSq
  pointwise [val_main_v14, val_main_v13, val_main_v12, val_main_v1, val_main_v11, val_main_v10, val_main_v9, val_main_v8, val_main_v7, val_main_cst_2,
    val_main_v6, val_main_v5, val_main_cst_1, val_main_v4, val_main_v3, val_main_cst_0, val_main_v2]
  rw [RealLift.lit_1024, RealLift.lit_eps]

/-- The reference's gradient of the weights. -/
theorem weights_at (q : Fin 4) (a : Fin 1024) (b : Fin 896) : val_main_v19 (F := Ideal) x g d (ix3 q a b) = InDwGrad.weights x g d q a b := by
  unfold InDwGrad.weights
  simp only [← normed_at]
  pointwise [val_main_v19, val_main_v18, val_main_v17, val_main_v16]
  exact Finset.sum_congr rfl fun i _ => mul_comm _ _

end Cert.InDwReferenceIdeal.Hand

set_option maxHeartbeats 2000000 in
/-- The gradient of the input projection's weights: the kernel's result array is the reference's. -/
theorem Cert.InDwHand.algebraic : Cert.algebraic_InDwKernelIdeal_InDwReferenceIdeal := by
  pair_intro
  · run_from Cert.InDwKernelIdeal.Value.run_blocks m g
  · run_from Cert.InDwReferenceIdeal.Value.run m' g'
    refine (Cert.InDwReferenceIdeal.Read.val_main_v19_eq (F := Ideal) _ _ _).trans ((funext fun i => ?_).trans (Cert.InDwKernelIdeal.Hand.weights_final m c).symm)
    idx_vars i
    exact Cert.InDwReferenceIdeal.Hand.weights_at _ _ _ _ _ _

end
-- ==== Proof.Adamw.lean ====
/- The optimiser's step on a weight matrix, flattened to rows: what the kernel writes, row block by row block, is the
   reference's step at every entry. -/
module

public import proofs.«01_k».proof.Defs
public import proofs.«01_k».proof.Proof.Gen.AdamwKernelIdeal.Value
public import proofs.«01_k».proof.Proof.Gen.AdamwReferenceIdeal.Read
public import proofs.«01_k».proof.Proof.Gen.AdamwReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwKernelIdeal.Hand

open Cert.AdamwKernelIdeal Cert.AdamwKernelIdeal.Gen Cert.AdamwReferenceIdeal.Read

variable (g w a b : FVec Ideal S256x896 .f32) (W G A B : FVec Ideal S2048x896 .f32) (j : S256x896.Idx) (i : S2048x896.Idx)

/-- An entry of the block's new first moment is the reference's entry, if the block's entries are the arrays'. -/
theorem mean_at (hg : g j = G i) (ha : a j = A i) : k0_pay1 (F := Ideal) g a j = val_main_v4 (F := Ideal) G A i := by
  pointwise [k0_pay1, val_main_v4, val_main_v1, val_main_v0, val_main_cst, val_main_v3, val_main_v2, val_main_cst_0]
  rw [hg, ha]

/-- The same of the new second moment. -/
theorem square_at (hg : g j = G i) (hb : b j = B i) : k0_pay2 (F := Ideal) g b j = val_main_v10 (F := Ideal) G B i := by
  pointwise [k0_pay2, val_main_v10, val_main_v6, val_main_v5, val_main_cst_1, val_main_v9, val_main_v8, val_main_cst_2, val_main_v7]
  rw [hg, hb]

/-- The same of the weight's change: the two corrected moments' quotient and the decayed weight. -/
theorem step_at (hg : g j = G i) (hw : w j = W i) (ha : a j = A i) (hb : b j = B i) :
    k0_pay3 (F := Ideal) g w a b j = val_main_v23 (F := Ideal) W G A B i := by
  have h1 := mean_at g a G A j i hg ha
  have h2 := square_at g b G B j i hg hb
  pointwise [k0_pay3, val_main_v23, val_main_v22, val_main_cst_7, val_main_v21, val_main_v20, val_main_v19, val_main_cst_6, val_main_v18,
    val_main_v17, val_main_v16, val_main_cst_5, val_main_v15, val_main_v14, val_main_v13, val_main_cst_4, val_main_v12, val_main_v11, val_main_cst_3]
  rw [h1, h2, hw]

variable (m : (ℓ : Loc nD τ sig) → Buf (Elt Ideal) ℓ)

theorem index_values : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the arrays that row `a` of the block at point `t` is. -/
def row (t : Fin cfg0.N) (a : Fin 256) : Fin 2048 := ⟨t.val * 256 + a.val, by have := lt_of_lt_of_eq t.isLt N_0; omega⟩

/-- The four arguments. -/
def weight (c : Dev nD) : FVec Ideal S2048x896 .f32 := m ((c : Thread nD τ).loc main_arg0)
def gradient (c : Dev nD) : FVec Ideal S2048x896 .f32 := m ((c : Thread nD τ).loc main_arg1)
def mean (c : Dev nD) : FVec Ideal S2048x896 .f32 := m ((c : Thread nD τ).loc main_arg2)
def square (c : Dev nD) : FVec Ideal S2048x896 .f32 := m ((c : Thread nD τ).loc main_arg3)

theorem weight_block (c : Dev nD) (t : Fin cfg0.N) (j : S256x896.Idx) :
    (show FVec Ideal S256x896 .f32 from iblk m c 0 t) j = weight m c (ix2 (row t (j 0)) (j 1)) := by
  unfold weight row; blk_ext [iblk, V, index_values t]

theorem gradient_block (c : Dev nD) (t : Fin cfg0.N) (j : S256x896.Idx) :
    (show FVec Ideal S256x896 .f32 from iblk m c 1 t) j = gradient m c (ix2 (row t (j 0)) (j 1)) := by
  unfold gradient row; blk_ext [iblk, V, index_values t]

theorem mean_block (c : Dev nD) (t : Fin cfg0.N) (j : S256x896.Idx) :
    (show FVec Ideal S256x896 .f32 from iblk m c 2 t) j = mean m c (ix2 (row t (j 0)) (j 1)) := by
  unfold mean row; blk_ext [iblk, V, index_values t]

theorem square_block (c : Dev nD) (t : Fin cfg0.N) (j : S256x896.Idx) :
    (show FVec Ideal S256x896 .f32 from iblk m c 3 t) j = square m c (ix2 (row t (j 0)) (j 1)) := by
  unfold square row; blk_ext [iblk, V, index_values t]

/-- The kernel's result 1: the gradient, copied out. -/
theorem gradient_final (c : Dev nD) : (dats m 0 c).arrAt 4 cfg0.N = gradient m c := by
  refine (dats m 0 c).arrAt_eq_of_covers 4 _ (by decide +kernel) fun t hf y => ?_
  blk_simp
  rw [after0_4]
  have e : (win0_4.blk t).view.emb y = ix2 (row t (y 0)) (y 1) := by unfold row; blk_ext [index_values t]
  rw [e]
  frame_out
  exact gradient_block m c t y

/-- The kernel's result 2: the weight's change. -/
theorem step_final (c : Dev nD) : (dats m 0 c).arrAt 5 cfg0.N = val_main_v23 (F := Ideal) (weight m c) (gradient m c) (mean m c) (square m c) := by
  refine (dats m 0 c).arrAt_eq_of_covers 5 _ (by decide +kernel) fun t hf y => ?_
  blk_simp
  rw [after0_5]
  have e : (win0_5.blk t).view.emb y = ix2 (row t (y 0)) (y 1) := by unfold row; blk_ext [index_values t]
  rw [e]
  frame_out
  exact step_at _ _ _ _ _ _ _ _ _ _ (gradient_block m c t y) (weight_block m c t y) (mean_block m c t y) (square_block m c t y)

/-- The kernel's result 3: the new first moment. -/
theorem mean_final (c : Dev nD) : (dats m 0 c).arrAt 6 cfg0.N = val_main_v4 (F := Ideal) (gradient m c) (mean m c) := by
  refine (dats m 0 c).arrAt_eq_of_covers 6 _ (by decide +kernel) fun t hf y => ?_
  blk_simp
  rw [after0_6]
  have e : (win0_6.blk t).view.emb y = ix2 (row t (y 0)) (y 1) := by unfold row; blk_ext [index_values t]
  rw [e]
  frame_out
  exact mean_at _ _ _ _ _ _ (gradient_block m c t y) (mean_block m c t y)

/-- The kernel's result 4: the new second moment. -/
theorem square_final (c : Dev nD) : (dats m 0 c).arrAt 7 cfg0.N = val_main_v10 (F := Ideal) (gradient m c) (square m c) := by
  refine (dats m 0 c).arrAt_eq_of_covers 7 _ (by decide +kernel) fun t hf y => ?_
  blk_simp
  rw [after0_7]
  have e : (win0_7.blk t).view.emb y = ix2 (row t (y 0)) (y 1) := by unfold row; blk_ext [index_values t]
  rw [e]
  frame_out
  exact square_at _ _ _ _ _ _ (gradient_block m c t y) (square_block m c t y)

end Cert.AdamwKernelIdeal.Hand

set_option maxHeartbeats 2000000 in
/-- The optimiser's step on a weight matrix: the four result arrays are the reference's. -/
theorem Cert.AdamwHand.algebraic : Cert.algebraic_AdamwKernelIdeal_AdamwReferenceIdeal := by
  pair_intro
  · run_from Cert.AdamwKernelIdeal.Value.run_blocks m g
  · run_from Cert.AdamwReferenceIdeal.Value.run m' g'
    · exact (Cert.AdamwKernelIdeal.Hand.gradient_final m c).symm
    · exact (Cert.AdamwReferenceIdeal.Read.val_main_v23_eq (F := Ideal) _ _ _ _).trans (Cert.AdamwKernelIdeal.Hand.step_final m c).symm
    · exact (Cert.AdamwReferenceIdeal.Read.val_main_v4_eq (F := Ideal) _ _).trans (Cert.AdamwKernelIdeal.Hand.mean_final m c).symm
    · exact (Cert.AdamwReferenceIdeal.Read.val_main_v10_eq (F := Ideal) _ _).trans (Cert.AdamwKernelIdeal.Hand.square_final m c).symm

end
-- ==== Proof.Taps.lean ====
/- The optimiser's step on the convolution's taps: what the kernel writes is the reference's step at every entry. The
   gradient arrives with one row of padding, which both leave out. -/
module

public import proofs.«01_k».proof.Defs
public import proofs.«01_k».proof.Proof.Gen.TapsKernelIdeal.Value
public import proofs.«01_k».proof.Proof.Gen.TapsReferenceIdeal.Read
public import proofs.«01_k».proof.Proof.Gen.TapsReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.TapsKernelIdeal.Hand

open Cert.TapsKernelIdeal Cert.TapsKernelIdeal.Gen Cert.TapsReferenceIdeal.Read

variable (g w a b : FVec Ideal S2x31x128 .f32) (W A B : FVec Ideal S2x31x128 .f32) (G : FVec Ideal S2x32x128 .f32) (i : S2x31x128.Idx)

/-- An entry of the block's new first moment is the reference's entry, if the block's entries are the arrays'. -/
theorem mean_at (hg : g i = val_main_v0 (F := Ideal) G i) (ha : a i = A i) : k0_pay1 (F := Ideal) g a i = val_main_v5 (F := Ideal) G A i := by
  pointwise [k0_pay1, val_main_v5, val_main_v2, val_main_v1, val_main_cst, val_main_v4, val_main_v3, val_main_cst_0]
  rw [hg, ha]

/-- The same of the new second moment. -/
theorem square_at (hg : g i = val_main_v0 (F := Ideal) G i) (hb : b i = B i) : k0_pay2 (F := Ideal) g b i = val_main_v11 (F := Ideal) G B i := by
  pointwise [k0_pay2, val_main_v11, val_main_v7, val_main_v6, val_main_cst_1, val_main_v10, val_main_v9, val_main_cst_2, val_main_v8]
  rw [hg, hb]

/-- The same of the weight's change: the two corrected moments' quotient and the decayed weight. -/
theorem step_at (hg : g i = val_main_v0 (F := Ideal) G i) (hw : w i = W i) (ha : a i = A i) (hb : b i = B i) :
    k0_pay3 (F := Ideal) g w a b i = val_main_v24 (F := Ideal) W G A B i := by
  have h1 := mean_at g a A G i hg ha
  have h2 := square_at g b B G i hg hb
  pointwise [k0_pay3, val_main_v24, val_main_v23, val_main_cst_7, val_main_v22, val_main_v21, val_main_v20, val_main_cst_6, val_main_v19,
    val_main_v18, val_main_v17, val_main_cst_5, val_main_v16, val_main_v15, val_main_v14, val_main_cst_4, val_main_v13, val_main_v12, val_main_cst_3]
  rw [h1, h2, hw]

variable (m : (ℓ : Loc nD τ sig) → Buf (Elt Ideal) ℓ)

theorem index_values : ∀ t : Fin cfg0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] :=
  (by decide +kernel : ∀ t : Fin grid0.N, _)

/-- The four arguments. -/
def weight (c : Dev nD) : FVec Ideal S2x31x128 .f32 := m ((c : Thread nD τ).loc main_arg0)
def gradient (c : Dev nD) : FVec Ideal S2x32x128 .f32 := m ((c : Thread nD τ).loc main_arg1)
def mean (c : Dev nD) : FVec Ideal S2x31x128 .f32 := m ((c : Thread nD τ).loc main_arg2)
def square (c : Dev nD) : FVec Ideal S2x31x128 .f32 := m ((c : Thread nD τ).loc main_arg3)

theorem weight_block (c : Dev nD) (t : Fin cfg0.N) (j : S2x31x128.Idx) :
    (show FVec Ideal S2x31x128 .f32 from iblk m c 0 t) j = weight m c j := by
  unfold weight; blk_ext [iblk, V, index_values t]

theorem gradient_block (c : Dev nD) (t : Fin cfg0.N) (j : S2x32x128.Idx) :
    (show FVec Ideal S2x32x128 .f32 from iblk m c 1 t) j = gradient m c j := by
  unfold gradient; blk_ext [iblk, V, index_values t]

theorem mean_block (c : Dev nD) (t : Fin cfg0.N) (j : S2x31x128.Idx) :
    (show FVec Ideal S2x31x128 .f32 from iblk m c 2 t) j = mean m c j := by
  unfold mean; blk_ext [iblk, V, index_values t]

theorem square_block (c : Dev nD) (t : Fin cfg0.N) (j : S2x31x128.Idx) :
    (show FVec Ideal S2x31x128 .f32 from iblk m c 3 t) j = square m c j := by
  unfold square; blk_ext [iblk, V, index_values t]

/-- The gradient as the kernel loads it: the block without its row of padding. -/
theorem gradient_load (c : Dev nD) (t : Fin cfg0.N) (y : S2x31x128.Idx) :
    View.ld (show FVec Ideal S2x32x128 .f32 from iblk m c 1 t) r0_0 y = val_main_v0 (F := Ideal) (gradient m c) y := by
  refine (View.ld_unit_apply_of _ _ _ _ y (ix3 (y 0) (⟨(y 1).val, by have := (y 1).isLt; dsimp at this; omega⟩ : Fin 32) (y 2)) ?_).trans ?_
  · intro a; fin_cases a <;> simp
  · refine (gradient_block m c t _).trans ?_
    pointwise [val_main_v0]

/-- The kernel's result 1: the gradient, copied out. -/
theorem gradient_final (c : Dev nD) : (dats m 0 c).arrAt 4 cfg0.N = val_main_v0 (F := Ideal) (gradient m c) := by
  refine (dats m 0 c).arrAt_eq_of_covers 4 _ (by decide +kernel) fun t hf y => ?_
  blk_simp
  rw [after0_4]
  have e : (win0_4.blk t).view.emb y = y := by blk_ext [index_values t]
  rw [e]
  frame_out
  exact gradient_load m c t y

/-- The kernel's result 2: the weight's change. -/
theorem step_final (c : Dev nD) : (dats m 0 c).arrAt 5 cfg0.N = val_main_v24 (F := Ideal) (weight m c) (gradient m c) (mean m c) (square m c) := by
  refine (dats m 0 c).arrAt_eq_of_covers 5 _ (by decide +kernel) fun t hf y => ?_
  blk_simp
  rw [after0_5]
  have e : (win0_5.blk t).view.emb y = y := by blk_ext [index_values t]
  rw [e]
  frame_out
  exact step_at _ _ _ _ _ _ _ _ _ (gradient_load m c t y) (weight_block m c t y) (mean_block m c t y) (square_block m c t y)

/-- The kernel's result 3: the new first moment. -/
theorem mean_final (c : Dev nD) : (dats m 0 c).arrAt 6 cfg0.N = val_main_v5 (F := Ideal) (gradient m c) (mean m c) := by
  refine (dats m 0 c).arrAt_eq_of_covers 6 _ (by decide +kernel) fun t hf y => ?_
  blk_simp
  rw [after0_6]
  have e : (win0_6.blk t).view.emb y = y := by blk_ext [index_values t]
  rw [e]
  frame_out
  exact mean_at _ _ _ _ _ (gradient_load m c t y) (mean_block m c t y)

/-- The kernel's result 4: the new second moment. -/
theorem square_final (c : Dev nD) : (dats m 0 c).arrAt 7 cfg0.N = val_main_v11 (F := Ideal) (gradient m c) (square m c) := by
  refine (dats m 0 c).arrAt_eq_of_covers 7 _ (by decide +kernel) fun t hf y => ?_
  blk_simp
  rw [after0_7]
  have e : (win0_7.blk t).view.emb y = y := by blk_ext [index_values t]
  rw [e]
  frame_out
  exact square_at _ _ _ _ _ (gradient_load m c t y) (square_block m c t y)

end Cert.TapsKernelIdeal.Hand

set_option maxHeartbeats 2000000 in
/-- The optimiser's step on the convolution's taps: the four result arrays are the reference's. -/
theorem Cert.TapsHand.algebraic : Cert.algebraic_TapsKernelIdeal_TapsReferenceIdeal := by
  pair_intro
  · run_from Cert.TapsKernelIdeal.Value.run_blocks m g
  · run_from Cert.TapsReferenceIdeal.Value.run m' g'
    · exact (Cert.TapsKernelIdeal.Hand.gradient_final m c).symm
    · exact (Cert.TapsReferenceIdeal.Read.val_main_v24_eq (F := Ideal) _ _ _ _).trans (Cert.TapsKernelIdeal.Hand.step_final m c).symm
    · exact (Cert.TapsReferenceIdeal.Read.val_main_v5_eq (F := Ideal) _ _).trans (Cert.TapsKernelIdeal.Hand.mean_final m c).symm
    · exact (Cert.TapsReferenceIdeal.Read.val_main_v11_eq (F := Ideal) _ _).trans (Cert.TapsKernelIdeal.Hand.square_final m c).symm

end
-- ==== Proof.RmsInFrame.lean ====
/- The run of the norm and input projection: the first grid point norms the rows and keeps them, in a buffer of its own
   and in the second output's; every point multiplies the kept rows with its tile of the weight. -/
module

public import proofs.«01_k».proof.Proof.Gen.RmsInKernelIdeal.Frame
public import proofs.«01_k».proof.Proof.Gen.RmsInKernelIdeal.Skeleton
public import proofs.«01_k».proof.Proof.Gen.RmsInKernelIdeal.Launch
public import proofs.«01_k».proof.Proof.Gen.RmsInKernelIdeal.Points
public import Idealize.ShloMosaic.Lib.Pipeline.FrameBody
public import Idealize.ShloMosaic.Lib.Tactic
public import Idealize.ShloMosaic.Lib.VecWindow

@[expose] public section

set_option maxRecDepth 16384

noncomputable section

namespace Cert.RmsInKernelIdeal.Hand

open Cert.RmsInKernelIdeal Cert.RmsInKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point that norms: the body, with the rows, the gains and a weight tile at given contents, leaves the normed rows in
    the second output and in the kept buffer, and their product with the tile in the first output. -/
theorem norming_point (c : Dev nD) (i : grid0.Coords) (a2 : Memref sig .tc .vmem S2048x1024 .f32) (h2 : a2.IsWhole) (a3 : Memref sig .tc .vmem S1x1024 .f32) (h3 : a3.IsWhole)
    (a4 : Memref sig .tc .vmem S1x1024x896 .bf16) (h4 : a4.IsWhole) (a5 : Memref sig .tc .vmem S2048x896 .f32) (h5 : a5.IsWhole)
    (a6 : Memref sig .tc .vmem S2048x1024 .bf16) (h6 : a6.IsWhole) (a7 : Memref sig .tc .vmem S2048x1024 .bf16) (h7 : a7.IsWhole) (hc : k0_cond1 i = 1#1)
    (x0 : Vec F S2048x1024 .f32) (x1 : Vec F S1x1024 .f32) (x2 : Vec F S1x1024x896 .bf16) (E : Set ℕ) (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d) ∗ (∃ d, owns (c : Thread nD τ) a6 fullShare d) ∗ (∃ d, owns (c : Thread nD τ) a7 fullShare d)
        ∗ (iprop(owns (c : Thread nD τ) a2 fullShare x0 ∗ owns (c : Thread nD τ) a3 fullShare x1 ∗ owns (c : Thread nD τ) a4 fullShare x2
            ∗ owns (c : Thread nD τ) a5 fullShare (k0_pay3 (k0_pay2 x0 x1) x2) ∗ owns (c : Thread nD τ) a6 fullShare (k0_pay1 x0 x1)
            ∗ owns (c : Thread nD τ) a7 fullShare (k0_pay2 x0 x1)) -∗ K ⟨⟩))
      ⊢ wp frame (wpE (defs₀ (F := F)) Variants.none c none) E (cc0_rms_inproj i a2 h2 a3 h3 a4 h4 a5 h5 a6 h6 a7 h7) K := by
  simp only [cc0_rms_inproj_eq_skeleton]; unfold cc0_rms_inproj_skel
  unfold owns
  iintro ⟨⟨%f0, %hf0, H0⟩, ⟨%f1, %hf1, H1⟩, ⟨%f2, %hf2, H2⟩, ⟨%d5, %f5, -, H5⟩, ⟨%d6, %f6, -, H6⟩, ⟨%d7, %f7, -, H7⟩, Hk⟩
  obtain rfl := hf0; obtain rfl := hf1; obtain rfl := hf2
  sl_exec (disch := first | sl_exact hc)
  sl_step
  iapply Hk
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H5]
  · iexists _; isplitr; swap; · iexact H5
    ipureintro
    exact (View.read_writes_full _ _ _ _ _).trans (congrArg₂ k0_pay3 ((View.readCov_full _ _ _ _ _).trans (congrArg₂ k0_pay2 (View.readAt_full _ _ _) (View.readAt_full _ _ _))) (View.readAt_full _ _ _))
  isplitl [H6]
  · iexists _; isplitr; swap; · iexact H6
    ipureintro
    exact (View.read_writes_full _ _ _ _ _).trans (congrArg₂ k0_pay1 (View.readAt_full _ _ _) (View.readAt_full _ _ _))
  iexists _; isplitr; swap; · iexact H7
  ipureintro
  exact (View.read_writes_full _ _ _ _ _).trans (congrArg₂ k0_pay2 (View.readAt_full _ _ _) (View.readAt_full _ _ _))

/-- A later point: the body leaves the product of the kept rows with its weight tile in the first output, and the kept rows
    as they were. -/
theorem later_point (c : Dev nD) (i : grid0.Coords) (a2 : Memref sig .tc .vmem S2048x1024 .f32) (h2 : a2.IsWhole) (a3 : Memref sig .tc .vmem S1x1024 .f32) (h3 : a3.IsWhole)
    (a4 : Memref sig .tc .vmem S1x1024x896 .bf16) (h4 : a4.IsWhole) (a5 : Memref sig .tc .vmem S2048x896 .f32) (h5 : a5.IsWhole)
    (a6 : Memref sig .tc .vmem S2048x1024 .bf16) (h6 : a6.IsWhole) (a7 : Memref sig .tc .vmem S2048x1024 .bf16) (h7 : a7.IsWhole) (hc : ¬k0_cond1 i = 1#1)
    (k : Vec F S2048x1024 .bf16) (x2 : Vec F S1x1024x896 .bf16) (E : Set ℕ) (K : PUnit → sProp 𝕄) :
    iprop(owns (c : Thread nD τ) a4 fullShare x2 ∗ (∃ d, owns (c : Thread nD τ) a5 fullShare d) ∗ owns (c : Thread nD τ) a7 fullShare k
        ∗ (iprop(owns (c : Thread nD τ) a4 fullShare x2 ∗ owns (c : Thread nD τ) a5 fullShare (k0_pay3 k x2)
            ∗ owns (c : Thread nD τ) a7 fullShare k) -∗ K ⟨⟩))
      ⊢ wp frame (wpE (defs₀ (F := F)) Variants.none c none) E (cc0_rms_inproj i a2 h2 a3 h3 a4 h4 a5 h5 a6 h6 a7 h7) K := by
  simp only [cc0_rms_inproj_eq_skeleton]; unfold cc0_rms_inproj_skel
  unfold owns
  iintro ⟨⟨%f2, %hf2, H2⟩, ⟨%d5, %f5, -, H5⟩, ⟨%f7, %hf7, H7⟩, Hk⟩
  obtain rfl := hf2; obtain rfl := hf7
  sl_exec (disch := first | sl_exact hc)
  sl_step
  iapply Hk
  isplitl [H2]
  · iexists _; isplitr; · ipureintro; exact rfl
    iexact H2
  isplitl [H5]
  · iexists _; isplitr; swap; · iexact H5
    ipureintro
    exact (View.read_writes_full _ _ _ _ _).trans (congrArg₂ k0_pay3 (View.readAt_full _ _ _) (View.readAt_full _ _ _))
  iexists _; isplitr; · ipureintro; exact rfl
  iexact H7

/-- The norming point is the first. -/
theorem norms_iff : ∀ t : Fin cfg0.N, k0_cond1 (grid0.coords t) = 1#1 ↔ t.val = 0 := (by decide +kernel : ∀ t : Fin grid0.N, _)

theorem live4 : ∀ t : Fin cfg0.N, t.val = 0 → cfg0.idle 4 (grid0.coords t) = false := (by decide +kernel : ∀ t : Fin grid0.N, _)
theorem idle4 : ∀ t : Fin cfg0.N, t.val ≠ 0 → cfg0.idle 4 (grid0.coords t) = true := (by decide +kernel : ∀ t : Fin grid0.N, _)
theorem unwritten4 : ∀ t : Fin cfg0.N, t.val ≠ 3 → (cfg0.win 4).flush t = false := (by decide +kernel : ∀ t : Fin grid0.N, _)

variable (m : (ℓ : Loc nD τ sig) → Buf (Elt F) ℓ) (ρ : Dev nD → PrngReg)

/-- The normed rows, from the blocks of the first point. -/
def normed (c : Dev nD) : Vec F S2048x1024 .bf16 := k0_pay1 (iblk m c 0 t0_0) (iblk m c 1 t0_0)

/-- The normed rows as the kept buffer holds them. -/
def kept (c : Dev nD) : Vec F S2048x1024 .bf16 := k0_pay2 (iblk m c 0 t0_0) (iblk m c 1 t0_0)

/-- What the kept buffer holds between points: before the first anything, then the normed rows. -/
def Kept (c : Dev nD) (n : ℕ) : sProp 𝕄 :=
  if n = 0 then Pipeline.ΦA spec0 c
  else iprop(owns (c : Thread nD τ) (Memref.whole cc0_scratch0) fullShare (kept m c) ∗ (∃ r, prngReg c r))

theorem start_eq (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

/-- What each window's buffer holds after a point: an input its block, the outputs the product with the point's weight tile
    and the normed rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (kept m c) (iblk m c 2 t)
    | ⟨4, _⟩ => normed m c
  Φ t := Kept m c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay3 (kept m c) (iblk m c 2 t) := by dsimp only [dats]
theorem after0_4 (c : Dev nD) (t : Fin cfg0.N) : (dats m 0 c).after 4 t = normed m c := by dsimp only [dats]

/-- From the second point on, the second output's buffer holds the normed rows when the body starts. -/
theorem found4 (c : Dev nD) : ∀ (n : ℕ) (h : n + 1 < cfg0.N) (d), (dats m 0 c).before 4 ⟨n + 1, h⟩ d = normed m c
  | 0, h, d => by
    have hN : cfg0.N = 4 := N_0
    rw [(dats m 0 c).before_of_pos 4 ⟨1, h⟩ (by simp) ((cfg0.win 4).fetch_out rfl _)]
    refine (if_neg (by rw [unwritten4 _ (by simp)]; exact Bool.false_ne_true)).trans ?_
    unfold Dat.left
    rw [live4 _ rfl]
    exact (Window.fill_cut _ _ _).trans (after0_4 m c _)
  | n + 1, h, d => by
    have hN : cfg0.N = 4 := N_0
    rw [(dats m 0 c).before_of_pos 4 ⟨n + 2, h⟩ (by simp) ((cfg0.win 4).fetch_out rfl _)]
    refine (if_neg (by rw [unwritten4 _ (by simp; omega)]; exact Bool.false_ne_true)).trans ?_
    unfold Dat.left
    rw [idle4 _ (by simp)]
    exact found4 c n (by omega) d

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body at a point: from the windows' buffers as the point finds them to the buffers as it leaves them. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t
        ∗ (dats m 0 c).leavesExact 3 t ∗ (dats m 0 c).leavesExact 4 t)) := by
  simp only [before0_0, before0_1, before0_2]
  rw [show (dats m 0 c).owesAt () t.succ = (dats m 0 c).owesAt () t.castSucc from rfl,
    show (dats m 0 c).Φ t.castSucc = Kept m c t.val from rfl, show (dats m 0 c).Φ t.succ = Kept m c (t.val + 1) from rfl,
    show (dats m 0 c).leavesExact 0 t = owns (c : Thread nD τ) (st0_0 t) fullShare (iblk m c 0 t) from rfl,
    show (dats m 0 c).leavesExact 1 t = owns (c : Thread nD τ) (st0_1 t) fullShare (iblk m c 1 t) from rfl,
    show (dats m 0 c).leavesExact 2 t = owns (c : Thread nD τ) (st0_2 t) fullShare (iblk m c 2 t) from rfl,
    show (dats m 0 c).leavesExact 3 t = owns (c : Thread nD τ) (st0_3 t) fullShare (k0_pay3 (kept m c) (iblk m c 2 t)) from rfl]
  rw [show Kept m c (t.val + 1) = iprop(owns (c : Thread nD τ) (Memref.whole cc0_scratch0) fullShare (kept m c) ∗ (∃ r, prngReg c r)) from if_neg (Nat.succ_ne_zero _)]
  unfold bodyAt0
  by_cases h0 : t.val = 0
  · have ht : t = t0_0 := Fin.ext h0
    rw [show (dats m 0 c).leavesExact 4 t = owns (c : Thread nD τ) (st0_4 t) fullShare (normed m c) from by
      unfold Dat.leavesExact; rw [live4 t h0, after0_4 m c t]]
    rw [show Kept m c t.val = Pipeline.ΦA spec0 c from if_pos h0, start_eq]
    subst ht
    iintro ⟨⟨HS, Hg⟩, Ho, ⟨%d0, H0⟩, ⟨%d1, H1⟩, ⟨%d2, H2⟩, ⟨%d3, H3⟩, ⟨%d4, H4⟩⟩
    iapply (norming_point c (grid0.coords t0_0) _ _ _ _ _ _ _ _ _ _ _ _ ((norms_iff t0_0).mpr h0) (iblk m c 0 t0_0) (iblk m c 1 t0_0) (iblk m c 2 t0_0) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · have hb : ∀ d, (dats m 0 c).before 4 t d = normed m c := fun d => by
      obtain ⟨n, hn⟩ := t
      cases n with
      | zero => exact absurd rfl h0
      | succ n => exact found4 m c n hn d
    rw [show Kept m c t.val = iprop(owns (c : Thread nD τ) (Memref.whole cc0_scratch0) fullShare (kept m c) ∗ (∃ r, prngReg c r)) from if_neg h0]
    simp only [hb]
    have hl : owns (c : Thread nD τ) (st0_4 t) fullShare (normed m c) ⊢ (dats m 0 c).leavesExact 4 t := by
      by_cases h3 : t.val = 3
      · unfold Dat.leavesExact
        rw [idle4 t h0, (flush0_4 t).mpr (by omega), after0_4]
      · rw [Dat.leavesExact_idle _ 4 t (idle4 t h0) (unwritten4 t h3)]
        simp only [hb]
        iintro H
        iexists (normed m c)
        iexact H
    iintro ⟨⟨HS, Hg⟩, Ho, ⟨%d0, H0⟩, ⟨%d1, H1⟩, ⟨%d2, H2⟩, ⟨%d3, H3⟩, ⟨%d4, H4⟩⟩
    iapply (later_point c (grid0.coords t) _ _ _ _ _ _ _ _ _ _ _ _ (fun h => h0 ((norms_iff t).mp h)) (kept m c) (iblk m c 2 t) Set.univ _)
    isplitl [H2]; · iexact H2
    isplitl [H3]; · iexists _; iexact H3
    isplitl [HS]; · iexact HS
    iintro ⟨H2, H3, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply hl
    iexact H4

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem invariant_in (c : Dev nD) : Pipeline.ΦA spec0 c ⊢ (dats m 0 c).Φ 0 := by
  rw [show (dats m 0 c).Φ 0 = Kept m c 0 from rfl, show Kept m c 0 = Pipeline.ΦA spec0 c from if_pos rfl]

theorem invariant_out (c : Dev nD) : (dats m 0 c).Φ (Fin.last cfg0.N) ⊢ Pipeline.ΦA spec0 c := by
  have hN : cfg0.N = 4 := N_0
  rw [show (dats m 0 c).Φ (Fin.last cfg0.N) = Kept m c cfg0.N from rfl,
    show Kept m c cfg0.N = iprop(owns (c : Thread nD τ) (Memref.whole cc0_scratch0) fullShare (kept m c) ∗ (∃ r, prngReg c r)) from if_neg (by omega), start_eq]
  iintro ⟨HS, Hg⟩
  isplitl [HS]; · iexists _; iexact HS
  iexact Hg

set_option backward.isDefEq.respectTransparency.types false in
/-- The run: every execution ends, with the windows' arrays at what the points wrote back and every semaphore at zero. -/
theorem run : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := invariant_in m) (hout := invariant_out m)

/-- The frame of the idealized program: the arguments end as they were, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).1 0).trans (((dats m 0 c).arrAt_in 0 rfl _).trans ((A_eq m c 0).trans (V_main_arg0 m c))),
        ((h.1 c).1 1).trans (((dats m 0 c).arrAt_in 1 rfl _).trans ((A_eq m c 1).trans (V_main_arg1 m c))),
        ((h.1 c).2 main_arg2 (Pipeline.mem_restRefs_of main_arg2 (by decide) (by decide))).trans (V_main_arg2 m c)⟩, h.2⟩) (run m ρ)

end Cert.RmsInKernelIdeal.Hand

end
-- ==== Proof.RmsIn.lean ====
/- The norm and input projection: rows normed once and kept, then multiplied with the weights one tile of columns after
   the other. -/
module

public import proofs.«01_k».proof.Defs
public import proofs.«01_k».proof.Proof.RealLift
public import proofs.«01_k».proof.Proof.RmsInFrame
public import proofs.«01_k».proof.Proof.Gen.RmsInReferenceIdeal.Read
public import proofs.«01_k».proof.Proof.Gen.RmsInReferenceIdeal.Run
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace RmsIn

/-- A row divided by the root of its smoothed mean square, times the gain. -/
def normed (x : FVec Ideal Cert.RmsInKernelIdeal.S2048x1024 .f32) (g : FVec Ideal Cert.RmsInKernelIdeal.S1x1024 .f32) (i : Fin 2048) (k : Fin 1024) : EReal :=
  x (ix2 i k) * Ideal.rsqrt (RealLift.meanSq 1024 fun l : Fin 1024 => x (ix2 i l)) * g (ix2 0 k)

/-- The normed rows times the weights. -/
def projected (x : FVec Ideal Cert.RmsInKernelIdeal.S2048x1024 .f32) (g : FVec Ideal Cert.RmsInKernelIdeal.S1x1024 .f32)
    (w : FVec Ideal Cert.RmsInKernelIdeal.S1024x3584 .f32) (i : Fin 2048) (b : Fin 3584) : EReal :=
  ∑ k : Fin 1024, normed x g i k * w (ix2 k b)

end RmsIn

namespace Cert.RmsInKernelIdeal.Hand

open Cert.RmsInKernelIdeal Cert.RmsInKernelIdeal.Gen

theorem norm_payload (x : FVec Ideal S2048x1024 .f32) (g : FVec Ideal S1x1024 .f32) (j : S2048x1024.Idx) :
    k0_pay1 (F := Ideal) x g j = RmsIn.normed x g (j 0) (j 1) := by
  unfold RmsIn.normed RealLift.meanSq
  pointwise [k0_pay1]
  rw [RealLift.lit_1024, RealLift.lit_eps]

theorem kept_payload (x : FVec Ideal S2048x1024 .f32) (g : FVec Ideal S1x1024 .f32) (j : S2048x1024.Idx) :
    k0_pay2 (F := Ideal) x g j = RmsIn.normed x g (j 0) (j 1) := by
  refine Eq.trans ?_ (norm_payload x g j)
  pointwise [k0_pay2]

theorem product (a : FVec Ideal S2048x1024 .bf16) (b : FVec Ideal S1x1024x896 .bf16) (j : S2048x896.Idx) :
    k0_pay3 (F := Ideal) a b j = ∑ k : Fin 1024, a (ix2 (j 0) k) * b (ix3 0 k (j 1)) := by
  pointwise [k0_pay3]

variable (m : (ℓ : Loc nD τ sig) → Buf (Elt Ideal) ℓ) (ρ : Dev nD → PrngReg)

theorem index_values : ∀ t : Fin cfg0.N, win0_0.index t = ![0, 0] ∧ win0_1.index t = ![0, 0] ∧ win0_2.index t = ![t.val, 0, 0]
    ∧ win0_3.index t = ![0, t.val] ∧ win0_4.index t = ![0, 0] :=
  (by decide +kernel : ∀ t : Fin grid0.N, _)

/-- The three arguments. -/
def rows (c : Dev nD) : FVec Ideal S2048x1024 .f32 := m ((c : Thread nD τ).loc main_arg0)
def gains (c : Dev nD) : FVec Ideal S1x1024 .f32 := m ((c : Thread nD τ).loc main_arg1)
def weights (c : Dev nD) : FVec Ideal S1024x3584 .f32 := m ((c : Thread nD τ).loc main_arg2)

theorem rows_block (c : Dev nD) (t : Fin cfg0.N) (i : Fin 2048) (k : Fin 1024) :
    (show FVec Ideal S2048x1024 .f32 from iblk m c 0 t) (ix2 i k) = rows m c (ix2 i k) := by
  refine Eq.trans ?_ (congrFun (V_main_arg0 m c) (ix2 i k))
  blk_ext [iblk, index_values t]

theorem gains_block (c : Dev nD) (t : Fin cfg0.N) (k : Fin 1024) :
    (show FVec Ideal S1x1024 .f32 from iblk m c 1 t) (ix2 0 k) = gains m c (ix2 0 k) := by
  refine Eq.trans ?_ (congrFun (V_main_arg1 m c) (ix2 0 k))
  blk_ext [iblk, index_values t]

theorem weights_entry (c : Dev nD) (q : Fin 4) (k : Fin 1024) (b : Fin 896) :
    (show FVec Ideal S4x1024x896 .bf16 from V m c main_v2) (ix3 q k b) = weights m c (ix2 k ⟨q.val * 896 + b.val, by omega⟩) := by
  unfold weights
  entry_read
  pointwise

/-- The tile of the weights' columns that point `t` multiplies with. -/
def tile (t : Fin cfg0.N) : Fin 4 := ⟨t.val, lt_of_lt_of_eq t.isLt N_0⟩

theorem weights_block (c : Dev nD) (t : Fin cfg0.N) (k : Fin 1024) (b : Fin 896) :
    (show FVec Ideal S1x1024x896 .bf16 from iblk m c 2 t) (ix3 0 k b) = weights m c (ix2 k ⟨(tile t).val * 896 + b.val, by omega⟩) := by
  refine Eq.trans ?_ (weights_entry m c (tile t) k b)
  unfold tile
  blk_ext [iblk, index_values t]

theorem normed_of_blocks (c : Dev nD) (t : Fin cfg0.N) (i : Fin 2048) (k : Fin 1024) :
    RmsIn.normed (iblk m c 0 t) (iblk m c 1 t) i k = RmsIn.normed (rows m c) (gains m c) i k := by
  unfold RmsIn.normed
  exact Ideal.mul_congr (Ideal.mul_congr (rows_block m c t i k)
    (congrArg (fun x => Ideal.rsqrt (RealLift.meanSq 1024 x)) (funext fun l => rows_block m c t i l))) (gains_block m c t k)

/-- The first result: the normed rows times the weights. -/
theorem projected_final (c : Dev nD) : (dats m 0 c).arrAt 3 cfg0.N = fun i =>
    RmsIn.projected (rows m c) (gains m c) (weights m c) (i 0) (i 1) := by
  refine (dats m 0 c).arrAt_eq_of_covers 3 _ (by decide +kernel) fun t hf y => ?_
  blk_simp
  rw [after0_3]
  have e : (win0_3.blk t).view.emb y = ix2 (y 0) ⟨(tile t).val * 896 + (y 1).val, by have := (y 1).isLt; have := (tile t).isLt; simp at *; omega⟩ := by
    unfold tile; blk_ext [index_values t]
  rw [e, product]
  unfold RmsIn.projected kept
  exact Fin.sum_fin_congr fun k => Ideal.mul_congr ((kept_payload _ _ _).trans (normed_of_blocks m c t0_0 (y 0) k)) (weights_block m c t k (y 1))

/-- The second result: the normed rows. -/
theorem normed_final (c : Dev nD) : (dats m 0 c).arrAt 4 cfg0.N = fun i => RmsIn.normed (rows m c) (gains m c) (i 0) (i 1) := by
  refine (dats m 0 c).arrAt_eq_of_covers 4 _ (by decide +kernel) fun t hf y => ?_
  blk_simp
  rw [after0_4]
  have e : (win0_4.blk t).view.emb y = ix2 (y 0) (y 1) := by blk_ext [index_values t]
  rw [e]
  exact (norm_payload _ _ _).trans (normed_of_blocks m c t0_0 (y 0) (y 1))

/-- The run with both results named, the arguments unchanged. -/
theorem run_blocks : θ_run defs (onTc (τ := τ) (main (F := Ideal))) ⟨m, fun _ => 0, ρ⟩ fun r => ∀ c : Dev nD,
      r.2.mem ((c : Thread nD τ).loc main_v3_0) = (dats m 0 c).arrAt 3 cfg0.N
      ∧ r.2.mem ((c : Thread nD τ).loc main_v3_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 3, (h.1 c).1 4,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c)⟩) (run m ρ)

end Cert.RmsInKernelIdeal.Hand

namespace Cert.RmsInReferenceIdeal.Hand

open Cert.RmsInReferenceIdeal Cert.RmsInReferenceIdeal.Gen Cert.RmsInReferenceIdeal.Read

variable (x : FVec Ideal S2048x1024 .f32) (g : FVec Ideal S1x1024 .f32) (w : FVec Ideal S1024x3584 .f32)

theorem normed_at (i : Fin 2048) (k : Fin 1024) : val_main_v13 (F := Ideal) x g (ix2 i k) = RmsIn.normed x g i k := by
  unfold RmsIn.normed RealLift.meanSq
  pointwise [val_main_v13, val_main_v12, val_main_v11, val_main_v10, val_main_v9, val_main_v8, val_main_v7, val_main_v6, val_main_cst_1,
    val_main_v5, val_main_v4, val_main_cst_0, val_main_v3, val_main_v2, val_main_cst, val_main_v1, val_main_v0]
  rw [RealLift.lit_1024, RealLift.lit_eps]

/-- The reference's second result. -/
theorem rounded_at (i : Fin 2048) (k : Fin 1024) : val_main_v15 (F := Ideal) x g (ix2 i k) = RmsIn.normed x g i k := by
  refine Eq.trans ?_ (normed_at x g i k)
  pointwise [val_main_v15]

/-- The reference's first result. -/
theorem projected_at (i : Fin 2048) (b : Fin 3584) : val_main_v14 (F := Ideal) x g w (ix2 i b) = RmsIn.projected x g w i b := by
  unfold RmsIn.projected
  simp only [← normed_at]
  pointwise [val_main_v14]

end Cert.RmsInReferenceIdeal.Hand

set_option maxHeartbeats 2000000 in
/-- The norm and input projection: both result arrays of the kernel are the reference's. -/
theorem Cert.RmsInHand.algebraic : Cert.algebraic_RmsInKernelIdeal_RmsInReferenceIdeal := by
  pair_intro
  · run_from Cert.RmsInKernelIdeal.Hand.run_blocks m g
  · run_from Cert.RmsInReferenceIdeal.Value.run m' g'
    · refine (Cert.RmsInReferenceIdeal.Read.val_main_v14_eq (F := Ideal) _ _ _).trans ((funext fun i => ?_).trans (Cert.RmsInKernelIdeal.Hand.projected_final m c).symm)
      idx_vars i
      exact Cert.RmsInReferenceIdeal.Hand.projected_at _ _ _ _ _
    · refine (Cert.RmsInReferenceIdeal.Read.val_main_v15_eq (F := Ideal) _ _).trans ((funext fun i => ?_).trans (Cert.RmsInKernelIdeal.Hand.normed_final m c).symm)
      idx_vars i
      exact Cert.RmsInReferenceIdeal.Hand.rounded_at _ _ _ _

end
-- ==== Proof.RmsInBits.lean ====
/- The frame of the norm and input projection as the machine runs it: the same text as the idealized program, so the same
   run. -/
module

public import proofs.«01_k».proof.Defs
public import proofs.«01_k».proof.Proof.RmsInFrame
public import proofs.«01_k».proof.Proof.Gen.RmsInKernel
public import proofs.«01_k».proof.Proof.Gen.RmsInKernel.Frame
public import Idealize.ShloMosaic.Lib.Tactic

@[expose] public section

set_option maxRecDepth 16384

noncomputable section

open Idealize.ShloMosaic Idealize.ShloMosaic.TcCoe Idealize.SL.Sem Idealize.ShloMosaic.Tactic

/-- The two printed programs are the same program: their body tables … -/
theorem Cert.RmsInHand.same_defs : Cert.RmsInKernel.defs (F := Bits) = Cert.RmsInKernelIdeal.defs (F := Bits) := by sl_kernel_rfl

/-- … and their main functions. -/
theorem Cert.RmsInHand.same_main : Cert.RmsInKernel.main (F := Bits) = Cert.RmsInKernelIdeal.main (F := Bits) := by sl_kernel_rfl

/-- The arguments end as they were, the semaphores at zero. -/
theorem Cert.RmsInHand.frame (m : (ℓ : Loc Cert.RmsInKernel.nD Cert.RmsInKernel.τ Cert.RmsInKernel.sig) → Buf (Elt Bits) ℓ)
    (ρ : Dev Cert.RmsInKernel.nD → PrngReg) :
    θ_run (Cert.RmsInKernel.defs (F := Bits)) (onTc (τ := Cert.RmsInKernel.τ) (Cert.RmsInKernel.main (F := Bits))) ⟨m, fun _ => 0, ρ⟩
      (fun r => (∀ c : Dev Cert.RmsInKernel.nD,
        r.2.mem ((c.tc : Thread Cert.RmsInKernel.nD Cert.RmsInKernel.τ).loc Cert.RmsInKernel.main_arg0) = m ((c.tc : Thread Cert.RmsInKernel.nD Cert.RmsInKernel.τ).loc Cert.RmsInKernel.main_arg0)
        ∧ r.2.mem ((c.tc : Thread Cert.RmsInKernel.nD Cert.RmsInKernel.τ).loc Cert.RmsInKernel.main_arg1) = m ((c.tc : Thread Cert.RmsInKernel.nD Cert.RmsInKernel.τ).loc Cert.RmsInKernel.main_arg1)
        ∧ r.2.mem ((c.tc : Thread Cert.RmsInKernel.nD Cert.RmsInKernel.τ).loc Cert.RmsInKernel.main_arg2) = m ((c.tc : Thread Cert.RmsInKernel.nD Cert.RmsInKernel.τ).loc Cert.RmsInKernel.main_arg2))
        ∧ r.2.sem = fun _ => 0) :=
  by
    rw [Cert.RmsInHand.same_defs, Cert.RmsInHand.same_main]
    exact Cert.RmsInKernelIdeal.Hand.frame (F := Bits) m ρ

end
-- ==== Proof.Mid.lean ====
/- The tail of a layer that isn't the last: what one row block of the kernel computes from the rows it reads, and the kernel's
   six result arrays. The numbers are those of the last layer's tail up to the layer's output. -/
module

public import proofs.«01_k».proof.Proof.Gen.MidKernelIdeal.Value
public import proofs.«01_k».proof.Proof.TailModel
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MidKernelIdeal.Hand

open Cert.MidKernelIdeal Cert.MidKernelIdeal.Gen

/-! ## One row of each value, from the rows it reads -/

theorem projected_row (x : FVec Ideal S512x512 .f32) (g b : FVec Ideal S1x512 .f32) (w : FVec Ideal S512x512 .bf16) (a k : Fin 512)
    {X G B : Fin 512 → EReal} {W : Fin 512 → Fin 512 → EReal} (hx : (fun l : Fin 512 => x (ix2 a l)) = X) (hg : (fun l : Fin 512 => g (ix2 0 l)) = G)
    (hb : (fun l : Fin 512 => b (ix2 0 l)) = B) (hw : (fun l k : Fin 512 => w (ix2 l k)) = W) :
    k0_pay5 (F := Ideal) x g b w (ix2 a k) = Tail.projected X G B W k := by
  subst hx hg hb hw
  unfold Tail.projected Tail.layerNorm Tail.sigmoid RealLift.meanSq Tail.centred
  pointwise [k0_pay5]
  rw [Tail.lit_512, RealLift.lit_eps]
  simp only [zero_sub]

theorem projected_squares (x : FVec Ideal S512x512 .f32) (g b : FVec Ideal S1x512 .f32) (w : FVec Ideal S512x512 .bf16) (a : Fin 512) :
    k0_pay6 (F := Ideal) x g b w (ix2 a 0) = ∑ l : Fin 512, k0_pay5 (F := Ideal) x g b w (ix2 a l) * k0_pay5 (F := Ideal) x g b w (ix2 a l) := by
  pointwise [k0_pay6]

theorem branch_row (x q : FVec Ideal S512x512 .f32) (s : FVec Ideal S512x1 .f32) (g : FVec Ideal S1x512 .f32) (a k : Fin 512)
    {X Q G : Fin 512 → EReal} (hx : (fun l : Fin 512 => x (ix2 a l)) = X) (hq : (fun l : Fin 512 => q (ix2 a l)) = Q)
    (hs : s (ix2 a 0) = ∑ l, X l * X l) (hg : (fun l : Fin 512 => g (ix2 0 l)) = G) :
    k0_pay7 (F := Ideal) x q s g (ix2 a k) = Tail.branch X Q G k := by
  unfold Tail.branch Tail.sigmoid RealLift.meanSq
  rw [← hs]
  subst hx hq hg
  pointwise [k0_pay7]
  rw [Tail.lit_512, RealLift.lit_eps]
  simp only [zero_sub]

theorem stream_row (x q : FVec Ideal S512x512 .f32) (s : FVec Ideal S512x1 .f32) (g : FVec Ideal S1x512 .f32) (y : FVec Ideal S512x512 .bf16)
    (wt wb : FVec Ideal S512x1024 .bf16) (h : FVec Ideal S512x1024 .f32) (a : Fin 512) (k : Fin 1024)
    {H : Fin 1024 → EReal} {YA YC : Fin 512 → EReal} {WT WB : Fin 512 → Fin 1024 → EReal} (hh : (fun l : Fin 1024 => h (ix2 a l)) = H)
    (ha : (fun l : Fin 512 => y (ix2 a l)) = YA) (hc : (fun l : Fin 512 => k0_pay7 (F := Ideal) x q s g (ix2 a l)) = YC)
    (ht : (fun (l : Fin 512) (k : Fin 1024) => wt (ix2 l k)) = WT) (hb : (fun (l : Fin 512) (k : Fin 1024) => wb (ix2 l k)) = WB) :
    k0_pay8 (F := Ideal) x q s g y wt wb h (ix2 a k) = Tail.stream H YA YC WT WB k := by
  subst hh ha hc ht hb
  unfold Tail.stream
  pointwise [k0_pay8]

theorem stream_squares (x q : FVec Ideal S512x512 .f32) (s : FVec Ideal S512x1 .f32) (g : FVec Ideal S1x512 .f32) (y : FVec Ideal S512x512 .bf16)
    (wt wb : FVec Ideal S512x1024 .bf16) (h : FVec Ideal S512x1024 .f32) (a : Fin 512) :
    k0_pay9 (F := Ideal) x q s g y wt wb h (ix2 a 0)
      = ∑ l : Fin 1024, k0_pay8 (F := Ideal) x q s g y wt wb h (ix2 a l) * k0_pay8 (F := Ideal) x q s g y wt wb h (ix2 a l) := by
  pointwise [k0_pay9]

theorem gate_row (h : FVec Ideal S512x1024 .f32) (s : FVec Ideal S512x1 .f32) (g : FVec Ideal S1x1024 .f32) (w : FVec Ideal S1024x1024 .bf16)
    (a : Fin 512) (k : Fin 1024) {H G : Fin 1024 → EReal} {W : Fin 1024 → Fin 1024 → EReal} (hh : (fun l : Fin 1024 => h (ix2 a l)) = H)
    (hs : s (ix2 a 0) = ∑ l, H l * H l) (hg : (fun l : Fin 1024 => g (ix2 0 l)) = G) (hw : (fun l k : Fin 1024 => w (ix2 l k)) = W) :
    k0_pay10 (F := Ideal) h s g w (ix2 a k) = Tail.gate H G W k := by
  unfold Tail.gate Tail.sigmoid RealLift.meanSq
  rw [← hs]
  subst hh hg hw
  pointwise [k0_pay10]
  rw [RealLift.lit_1024, RealLift.lit_eps]
  simp only [zero_sub]

theorem tile0_row (p : FVec Ideal S512x256 .f32) (w : FVec Ideal S1x256x256 .bf16) (a : Fin 512) (l : Fin 256) :
    k0_pay12 (F := Ideal) p w (ix2 a l) = ∑ q : Fin 256, p (ix2 a q) * w (ix3 0 q l) := by
  pointwise [k0_pay12, k0_pay11]
theorem tile1_row (p : FVec Ideal S512x256 .f32) (w : FVec Ideal S1x256x256 .bf16) (a : Fin 512) (l : Fin 256) :
    k0_pay13 (F := Ideal) p w (ix2 a l) = ∑ q : Fin 256, p (ix2 a q) * w (ix3 0 q l) := by
  pointwise [k0_pay13, k0_pay11]
theorem tile2_row (p : FVec Ideal S512x256 .f32) (w : FVec Ideal S1x256x256 .bf16) (a : Fin 512) (l : Fin 256) :
    k0_pay14 (F := Ideal) p w (ix2 a l) = ∑ q : Fin 256, p (ix2 a q) * w (ix3 0 q l) := by
  pointwise [k0_pay14, k0_pay11]

theorem embed_row (p : FVec Ideal S512x256 .f32) (w0 w1 w2 w3 : FVec Ideal S1x256x256 .bf16) (a : Fin 512) (k : Fin 1024)
    {P : Fin 256 → EReal} {W : Fin 256 → Fin 1024 → EReal} (hp : (fun q : Fin 256 => p (ix2 a q)) = P)
    (h0 : ∀ q l : Fin 256, w0 (ix3 0 q l) = W q ⟨0 * 256 + l.val, by omega⟩) (h1 : ∀ q l : Fin 256, w1 (ix3 0 q l) = W q ⟨1 * 256 + l.val, by omega⟩)
    (h2 : ∀ q l : Fin 256, w2 (ix3 0 q l) = W q ⟨2 * 256 + l.val, by omega⟩) (h3 : ∀ q l : Fin 256, w3 (ix3 0 q l) = W q ⟨3 * 256 + l.val, by omega⟩) :
    k0_pay1 (F := Ideal) (k0_pay11 p) (k0_pay12 p w0) (k0_pay13 p w1) (k0_pay14 p w2) w3 (ix2 a k) = Tail.embed P W k := by
  subst hp
  unfold Tail.embed
  pointwise [k0_pay1]
  by_cases c0 : k.val < 256
  · rw [dif_pos c0]
    exact (tile0_row _ _ _ _).trans (Fin.sum_fin_congr fun q => Ideal.mul_congr rfl ((h0 _ _).trans (congrArg (W q) (Fin.ext (by simp only; omega)))))
  rw [dif_neg c0]
  by_cases c1 : k.val - 256 < 256
  · rw [dif_pos c1]
    exact (tile1_row _ _ _ _).trans (Fin.sum_fin_congr fun q => Ideal.mul_congr rfl ((h1 _ _).trans (congrArg (W q) (Fin.ext (by simp only; omega)))))
  rw [dif_neg c1]
  by_cases c2 : k.val - 256 - 256 < 256
  · rw [dif_pos c2]
    exact (tile2_row _ _ _ _).trans (Fin.sum_fin_congr fun q => Ideal.mul_congr rfl ((h2 _ _).trans (congrArg (W q) (Fin.ext (by simp only; omega)))))
  rw [dif_neg c2]
  exact Fin.sum_fin_congr fun q => Ideal.mul_congr (by pointwise [k0_pay11]) ((h3 _ _).trans (congrArg (W q) (Fin.ext (by simp only; omega))))

theorem total_row (h g : FVec Ideal S512x1024 .f32) (p : FVec Ideal S512x256 .bf16) (v0 v1 v2 : FVec Ideal S512x256 .f32)
    (w : FVec Ideal S1x256x256 .bf16) (a : Fin 512) (k : Fin 1024) :
    k0_pay4 (F := Ideal) h g p v0 v1 v2 w (ix2 a k) = h (ix2 a k) + k0_pay1 (F := Ideal) p v0 v1 v2 w (ix2 a k) * g (ix2 a k) := by
  pointwise [k0_pay4]

variable (m : (ℓ : Loc nD τ sig) → Buf (Elt Ideal) ℓ)

/-- The arguments the kernel is given. It is given no targets and no final gains, and no value below reads them. -/
def args (c : Dev nD) : Tail.Args where
  c1 i k := (show FVec Ideal S2048x512 .f32 from m ((c : Thread nD τ).loc main_arg0)) (ix2 i k)
  q i k := (show FVec Ideal S2048x3584 .f32 from m ((c : Thread nD τ).loc main_arg1)) (ix2 i ⟨3072 + k.val, by omega⟩)
  ya i k := (show FVec Ideal S2048x512 .f32 from m ((c : Thread nD τ).loc main_arg2)) (ix2 i k)
  h i k := (show FVec Ideal S2048x1024 .f32 from m ((c : Thread nD τ).loc main_arg3)) (ix2 i k)
  p i k := (show FVec Ideal S2048x256 .f32 from m ((c : Thread nD τ).loc main_arg4)) (ix2 i k)
  lg k := (show FVec Ideal S1x512 .f32 from m ((c : Thread nD τ).loc main_arg5)) (ix2 0 k)
  lb k := (show FVec Ideal S1x512 .f32 from m ((c : Thread nD τ).loc main_arg6)) (ix2 0 k)
  wpw i k := (show FVec Ideal S512x512 .f32 from m ((c : Thread nD τ).loc main_arg7)) (ix2 i k)
  cg k := (show FVec Ideal S1x512 .f32 from m ((c : Thread nD τ).loc main_arg8)) (ix2 0 k)
  wo i k := (show FVec Ideal S1024x1024 .f32 from m ((c : Thread nD τ).loc main_arg9)) (ix2 i k)
  pg k := (show FVec Ideal S1x1024 .f32 from m ((c : Thread nD τ).loc main_arg10)) (ix2 0 k)
  wg i k := (show FVec Ideal S1024x1024 .f32 from m ((c : Thread nD τ).loc main_arg11)) (ix2 i k)
  wp i k := (show FVec Ideal S256x1024 .f32 from m ((c : Thread nD τ).loc main_arg12)) (ix2 i k)
  tgt _ _ := 0
  fg _ := 0

theorem index_values : ∀ t : Fin cfg0.N, win0_0.index t = ![t.val, 0]
    ∧ win0_1.index t = ![t.val, 6]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0, 0]
    ∧ win0_13.index t = ![t.val, 0]
    ∧ win0_14.index t = ![t.val, 0]
    ∧ win0_15.index t = ![t.val, 0]
    ∧ win0_16.index t = ![t.val, 0]
    ∧ win0_17.index t = ![t.val, 0]
    ∧ win0_18.index t = ![t.val, 0] :=
  (by decide +kernel : ∀ t : Fin grid0.N, _)

/-- The row of the arrays that row `a` of the block at point `t` is. -/
def row (t : Fin cfg0.N) (a : Fin 512) : Fin 2048 := ⟨t.val * 512 + a.val, by have := lt_of_lt_of_eq t.isLt N_0; omega⟩

/-! The operands the host prepares: casts, and the embedding's weights in four column tiles. -/

theorem ya_entry (c : Dev nD) (i : Fin 2048) (k : Fin 512) : (show FVec Ideal S2048x512 .bf16 from V m c main_v0) (ix2 i k) = (args m c).ya i k := by
  unfold args; entry_read; pointwise
theorem wpw_entry (c : Dev nD) (i : Fin 512) (k : Fin 512) : (show FVec Ideal S512x512 .bf16 from V m c main_v1) (ix2 i k) = (args m c).wpw i k := by
  unfold args; entry_read; pointwise
theorem wo_entry (c : Dev nD) (i : Fin 1024) (k : Fin 1024) : (show FVec Ideal S1024x1024 .bf16 from V m c main_v2) (ix2 i k) = (args m c).wo i k := by
  unfold args; entry_read; pointwise
theorem wg_entry (c : Dev nD) (i : Fin 1024) (k : Fin 1024) : (show FVec Ideal S1024x1024 .bf16 from V m c main_v3) (ix2 i k) = (args m c).wg i k := by
  unfold args; entry_read; pointwise
theorem wp_entry (c : Dev nD) (s : Fin 4) (q l : Fin 256) : (show FVec Ideal S4x256x256 .bf16 from V m c main_v6) (ix3 s q l)
    = (args m c).wp q ⟨s.val * 256 + l.val, by omega⟩ := by
  unfold args; entry_read; pointwise

/-! The input blocks at a point. -/

variable (c : Dev nD) (t : Fin cfg0.N)

theorem blk_c1 (a k : Fin 512) : (show FVec Ideal S512x512 .f32 from iblk m c 0 t) (ix2 a k) = (args m c).c1 (row t a) k := by
  unfold args row; blk_ext [iblk, V, index_values t]
theorem blk_q (a k : Fin 512) : (show FVec Ideal S512x512 .f32 from iblk m c 1 t) (ix2 a k) = (args m c).q (row t a) k := by
  unfold args row; blk_ext [iblk, V, index_values t]
theorem blk_ya (a k : Fin 512) : (show FVec Ideal S512x512 .bf16 from iblk m c 2 t) (ix2 a k) = (args m c).ya (row t a) k := by
  refine Eq.trans ?_ (ya_entry m c _ _); unfold row; blk_ext [iblk, index_values t]
theorem blk_h (a : Fin 512) (k : Fin 1024) : (show FVec Ideal S512x1024 .f32 from iblk m c 3 t) (ix2 a k) = (args m c).h (row t a) k := by
  unfold args row; blk_ext [iblk, V, index_values t]
theorem blk_p (a : Fin 512) (k : Fin 256) : (show FVec Ideal S512x256 .f32 from iblk m c 4 t) (ix2 a k) = (args m c).p (row t a) k := by
  unfold args row; blk_ext [iblk, V, index_values t]
theorem blk_lg (k : Fin 512) : (show FVec Ideal S1x512 .f32 from iblk m c 5 t) (ix2 0 k) = (args m c).lg k := by
  unfold args; blk_ext [iblk, V, index_values t]
theorem blk_lb (k : Fin 512) : (show FVec Ideal S1x512 .f32 from iblk m c 6 t) (ix2 0 k) = (args m c).lb k := by
  unfold args; blk_ext [iblk, V, index_values t]
theorem blk_cg (k : Fin 512) : (show FVec Ideal S1x512 .f32 from iblk m c 8 t) (ix2 0 k) = (args m c).cg k := by
  unfold args; blk_ext [iblk, V, index_values t]
theorem blk_wpw (l k : Fin 512) : (show FVec Ideal S512x512 .bf16 from iblk m c 7 t) (ix2 l k) = (args m c).wpw l k := by
  refine Eq.trans ?_ (wpw_entry m c _ _); blk_ext [iblk, index_values t]
theorem blk_wo (l k : Fin 1024) : (show FVec Ideal S1024x1024 .bf16 from iblk m c 9 t) (ix2 l k) = (args m c).wo l k := by
  refine Eq.trans ?_ (wo_entry m c _ _); blk_ext [iblk, index_values t]
theorem blk_pg (k : Fin 1024) : (show FVec Ideal S1x1024 .f32 from iblk m c 10 t) (ix2 0 k) = (args m c).pg k := by
  unfold args; blk_ext [iblk, V, index_values t]
theorem blk_wg (l k : Fin 1024) : (show FVec Ideal S1024x1024 .bf16 from iblk m c 11 t) (ix2 l k) = (args m c).wg l k := by
  refine Eq.trans ?_ (wg_entry m c _ _); blk_ext [iblk, index_values t]
theorem blk_wp (s : Fin 4) (q l : Fin 256) : (show FVec Ideal S4x256x256 .bf16 from iblk m c 12 t) (ix3 s q l) = (args m c).wp q ⟨s.val * 256 + l.val, by omega⟩ := by
  refine Eq.trans ?_ (wp_entry m c _ _ _); blk_ext [iblk, index_values t]
/-! ## One row block -/

/-- The blocks of the values the kernel computes. -/
def c3B : FVec Ideal S512x512 .f32 := k0_pay5 (F := Ideal) (iblk m c 0 t) (iblk m c 5 t) (iblk m c 6 t) (iblk m c 7 t)
def sqB : FVec Ideal S512x1 .f32 := k0_pay6 (F := Ideal) (iblk m c 0 t) (iblk m c 5 t) (iblk m c 6 t) (iblk m c 7 t)
def ycB : FVec Ideal S512x512 .bf16 := k0_pay7 (F := Ideal) (c3B m c t) (iblk m c 1 t) (sqB m c t) (iblk m c 8 t)
def topB : FVec Ideal S512x1024 .bf16 := View.ld (iblk m c 9 t) (Rect.unit ![0, 0] ![512, 1024] inb_S1024x1024_S512x1024_0_0)
def botB : FVec Ideal S512x1024 .bf16 := View.ld (iblk m c 9 t) (Rect.unit ![512, 0] ![512, 1024] inb_S1024x1024_S512x1024_512_0)
def h1B : FVec Ideal S512x1024 .f32 :=
  k0_pay8 (F := Ideal) (c3B m c t) (iblk m c 1 t) (sqB m c t) (iblk m c 8 t) (iblk m c 2 t) (topB m c t) (botB m c t) (iblk m c 3 t)
def hqB : FVec Ideal S512x1 .f32 :=
  k0_pay9 (F := Ideal) (c3B m c t) (iblk m c 1 t) (sqB m c t) (iblk m c 8 t) (iblk m c 2 t) (topB m c t) (botB m c t) (iblk m c 3 t)
def gateB : FVec Ideal S512x1024 .f32 := k0_pay10 (F := Ideal) (h1B m c t) (hqB m c t) (iblk m c 10 t) (iblk m c 11 t)
def pB : FVec Ideal S512x256 .bf16 := k0_pay11 (F := Ideal) (iblk m c 4 t)
def w0B : FVec Ideal S1x256x256 .bf16 := View.ld (iblk m c 12 t) (Rect.unit ![0, 0, 0] ![1, 256, 256] inb_S4x256x256_S1x256x256_0_0_0)
def w1B : FVec Ideal S1x256x256 .bf16 := View.ld (iblk m c 12 t) (Rect.unit ![1, 0, 0] ![1, 256, 256] inb_S4x256x256_S1x256x256_1_0_0)
def w2B : FVec Ideal S1x256x256 .bf16 := View.ld (iblk m c 12 t) (Rect.unit ![2, 0, 0] ![1, 256, 256] inb_S4x256x256_S1x256x256_2_0_0)
def w3B : FVec Ideal S1x256x256 .bf16 := View.ld (iblk m c 12 t) (Rect.unit ![3, 0, 0] ![1, 256, 256] inb_S4x256x256_S1x256x256_3_0_0)
def e0B : FVec Ideal S512x256 .f32 := k0_pay12 (F := Ideal) (iblk m c 4 t) (w0B m c t)
def e1B : FVec Ideal S512x256 .f32 := k0_pay13 (F := Ideal) (iblk m c 4 t) (w1B m c t)
def e2B : FVec Ideal S512x256 .f32 := k0_pay14 (F := Ideal) (iblk m c 4 t) (w2B m c t)
def h2B : FVec Ideal S512x1024 .f32 := k0_pay4 (F := Ideal) (h1B m c t) (gateB m c t) (pB m c t) (e0B m c t) (e1B m c t) (e2B m c t) (w3B m c t)
theorem c3_at (a k : Fin 512) : c3B m c t (ix2 a k) = (args m c).c3 (row t a) k :=
  projected_row _ _ _ _ a k (funext (blk_c1 m c t a)) (funext (blk_lg m c t)) (funext (blk_lb m c t)) (funext fun l => funext fun k => blk_wpw m c t l k)

theorem sq_at (a : Fin 512) : sqB m c t (ix2 a 0) = ∑ l, (args m c).c3 (row t a) l * (args m c).c3 (row t a) l :=
  (projected_squares _ _ _ _ a).trans (Fin.sum_fin_congr fun l => Ideal.mul_congr (c3_at m c t a l) (c3_at m c t a l))

theorem yc_at (a k : Fin 512) : ycB m c t (ix2 a k) = (args m c).yc (row t a) k :=
  branch_row _ _ _ _ a k (funext (c3_at m c t a)) (funext (blk_q m c t a)) (sq_at m c t a) (funext (blk_cg m c t))

theorem top_at (l : Fin 512) (k : Fin 1024) : topB m c t (ix2 l k) = (args m c).wt l k :=
  (View.ld_unit_apply_of _ _ _ _ (ix2 l k) (ix2 ⟨0 + l.val, by omega⟩ k) (by intro a; fin_cases a <;> simp)).trans (blk_wo m c t _ _)

theorem bot_at (l : Fin 512) (k : Fin 1024) : botB m c t (ix2 l k) = (args m c).wb l k :=
  (View.ld_unit_apply_of _ _ _ _ (ix2 l k) (ix2 ⟨512 + l.val, by omega⟩ k) (by intro a; fin_cases a <;> simp)).trans (blk_wo m c t _ _)

theorem h1_at (a : Fin 512) (k : Fin 1024) : h1B m c t (ix2 a k) = (args m c).h1 (row t a) k :=
  stream_row _ _ _ _ _ _ _ _ a k (funext (blk_h m c t a)) (funext (blk_ya m c t a)) (funext (yc_at m c t a))
    (funext fun l => funext fun k => top_at m c t l k) (funext fun l => funext fun k => bot_at m c t l k)

theorem hq_at (a : Fin 512) : hqB m c t (ix2 a 0) = ∑ l, (args m c).h1 (row t a) l * (args m c).h1 (row t a) l :=
  (stream_squares _ _ _ _ _ _ _ _ a).trans (Fin.sum_fin_congr fun l => Ideal.mul_congr (h1_at m c t a l) (h1_at m c t a l))

theorem gate_at (a : Fin 512) (k : Fin 1024) : gateB m c t (ix2 a k) = (args m c).gate (row t a) k :=
  gate_row _ _ _ _ a k (funext (h1_at m c t a)) (hq_at m c t a) (funext (blk_pg m c t)) (funext fun l => funext fun k => blk_wg m c t l k)

theorem w0_at (q l : Fin 256) : w0B m c t (ix3 0 q l) = (args m c).wp q ⟨0 * 256 + l.val, by omega⟩ := by
  refine Eq.trans ?_ (blk_wp m c t 0 q l)
  refine View.ld_unit_apply_of _ _ _ _ (ix3 (0 : Fin 1) q l) (ix3 (0 : Fin 4) q l) ?_
  intro a; fin_cases a <;> simp
theorem w1_at (q l : Fin 256) : w1B m c t (ix3 0 q l) = (args m c).wp q ⟨1 * 256 + l.val, by omega⟩ := by
  refine Eq.trans ?_ (blk_wp m c t 1 q l)
  refine View.ld_unit_apply_of _ _ _ _ (ix3 (0 : Fin 1) q l) (ix3 (1 : Fin 4) q l) ?_
  intro a; fin_cases a <;> simp
theorem w2_at (q l : Fin 256) : w2B m c t (ix3 0 q l) = (args m c).wp q ⟨2 * 256 + l.val, by omega⟩ := by
  refine Eq.trans ?_ (blk_wp m c t 2 q l)
  refine View.ld_unit_apply_of _ _ _ _ (ix3 (0 : Fin 1) q l) (ix3 (2 : Fin 4) q l) ?_
  intro a; fin_cases a <;> simp
theorem w3_at (q l : Fin 256) : w3B m c t (ix3 0 q l) = (args m c).wp q ⟨3 * 256 + l.val, by omega⟩ := by
  refine Eq.trans ?_ (blk_wp m c t 3 q l)
  refine View.ld_unit_apply_of _ _ _ _ (ix3 (0 : Fin 1) q l) (ix3 (3 : Fin 4) q l) ?_
  intro a; fin_cases a <;> simp

theorem pe_at (a : Fin 512) (k : Fin 1024) :
    k0_pay1 (F := Ideal) (pB m c t) (e0B m c t) (e1B m c t) (e2B m c t) (w3B m c t) (ix2 a k) = (args m c).pe (row t a) k :=
  embed_row _ _ _ _ _ a k (funext (blk_p m c t a)) (w0_at m c t) (w1_at m c t) (w2_at m c t) (w3_at m c t)

theorem h2_at (a : Fin 512) (k : Fin 1024) : h2B m c t (ix2 a k) = (args m c).h2 (row t a) k :=
  (total_row _ _ _ _ _ _ _ a k).trans (congrArg₂ (· + ·) (h1_at m c t a k) (Ideal.mul_congr (pe_at m c t a k) (gate_at m c t a k)))

/-! ## The results, row block by row block -/

theorem c3_block (j : S512x512.Idx) : (dats m 0 c).after 13 t j = c3B m c t j := by
  rw [after0_13]; unfold_out out0_13; frame_out; rfl

/-- The convolution branch after its pointwise projection. -/
theorem c3_final : (dats m 0 c).arrAt 13 cfg0.N = fun i => (args m c).c3 (i 0) (i 1) := by
  refine (dats m 0 c).arrAt_eq_of_covers 13 _ (by decide +kernel) fun t hf y => ?_
  blk_simp
  rw [c3_block, eq_ix2 y]
  have e : (win0_13.blk t).view.emb (ix2 (y 0) (y 1)) = ix2 (row t (y 0)) (y 1) := by unfold row; blk_ext [index_values t]
  rw [e]
  exact c3_at m c t _ _

theorem yc_block (j : S512x512.Idx) : (dats m 0 c).after 14 t j = ycB m c t j := by
  rw [after0_14]; unfold_out out0_14; frame_out; rfl

/-- The convolution branch. -/
theorem yc_final : (dats m 0 c).arrAt 14 cfg0.N = fun i => (args m c).yc (i 0) (i 1) := by
  refine (dats m 0 c).arrAt_eq_of_covers 14 _ (by decide +kernel) fun t hf y => ?_
  blk_simp
  rw [yc_block, eq_ix2 y]
  have e : (win0_14.blk t).view.emb (ix2 (y 0) (y 1)) = ix2 (row t (y 0)) (y 1) := by unfold row; blk_ext [index_values t]
  rw [e]
  exact yc_at m c t _ _

theorem h1_block (j : S512x1024.Idx) : (dats m 0 c).after 15 t j = h1B m c t j := by
  rw [after0_15]; unfold_out out0_15; frame_out; rfl

/-- The residual stream after the output projection. -/
theorem h1_final : (dats m 0 c).arrAt 15 cfg0.N = fun i => (args m c).h1 (i 0) (i 1) := by
  refine (dats m 0 c).arrAt_eq_of_covers 15 _ (by decide +kernel) fun t hf y => ?_
  blk_simp
  rw [h1_block, eq_ix2 y]
  have e : (win0_15.blk t).view.emb (ix2 (y 0) (y 1)) = ix2 (row t (y 0)) (y 1) := by unfold row; blk_ext [index_values t]
  rw [e]
  exact h1_at m c t _ _

theorem rounded_gate (g : FVec Ideal S512x1024 .f32) (j : S512x1024.Idx) : k0_pay2 (F := Ideal) g j = g j := by pointwise [k0_pay2]
theorem rounded_embed (p : FVec Ideal S512x256 .bf16) (v0 v1 v2 : FVec Ideal S512x256 .f32) (w : FVec Ideal S1x256x256 .bf16) (j : S512x1024.Idx) :
    k0_pay3 (F := Ideal) p v0 v1 v2 w j = k0_pay1 (F := Ideal) p v0 v1 v2 w j := by pointwise [k0_pay3]

theorem gate_block (j : S512x1024.Idx) : (dats m 0 c).after 16 t j = k0_pay2 (F := Ideal) (gateB m c t) j := by
  rw [after0_16]; unfold_out out0_16; frame_out; rfl

/-- The embedding's gate. -/
theorem gate_final : (dats m 0 c).arrAt 16 cfg0.N = fun i => (args m c).gate (i 0) (i 1) := by
  refine (dats m 0 c).arrAt_eq_of_covers 16 _ (by decide +kernel) fun t hf y => ?_
  blk_simp
  rw [gate_block, eq_ix2 y]
  have e : (win0_16.blk t).view.emb (ix2 (y 0) (y 1)) = ix2 (row t (y 0)) (y 1) := by unfold row; blk_ext [index_values t]
  rw [e]
  exact (rounded_gate _ _).trans (gate_at m c t _ _)

theorem pe_block (j : S512x1024.Idx) : (dats m 0 c).after 17 t j = k0_pay3 (F := Ideal) (pB m c t) (e0B m c t) (e1B m c t) (e2B m c t) (w3B m c t) j := by
  rw [after0_17]; unfold_out out0_17; frame_out; rfl

/-- The projected embedding. -/
theorem pe_final : (dats m 0 c).arrAt 17 cfg0.N = fun i => (args m c).pe (i 0) (i 1) := by
  refine (dats m 0 c).arrAt_eq_of_covers 17 _ (by decide +kernel) fun t hf y => ?_
  blk_simp
  rw [pe_block, eq_ix2 y]
  have e : (win0_17.blk t).view.emb (ix2 (y 0) (y 1)) = ix2 (row t (y 0)) (y 1) := by unfold row; blk_ext [index_values t]
  rw [e]
  exact (rounded_embed _ _ _ _ _ _).trans (pe_at m c t _ _)

theorem h2_block (j : S512x1024.Idx) : (dats m 0 c).after 18 t j = h2B m c t j := by
  rw [after0_18]; unfold_out out0_18; frame_out; rfl

/-- The layer's output. -/
theorem h2_final : (dats m 0 c).arrAt 18 cfg0.N = fun i => (args m c).h2 (i 0) (i 1) := by
  refine (dats m 0 c).arrAt_eq_of_covers 18 _ (by decide +kernel) fun t hf y => ?_
  blk_simp
  rw [h2_block, eq_ix2 y]
  have e : (win0_18.blk t).view.emb (ix2 (y 0) (y 1)) = ix2 (row t (y 0)) (y 1) := by unfold row; blk_ext [index_values t]
  rw [e]
  exact h2_at m c t _ _

end Cert.MidKernelIdeal.Hand

end
-- ==== Proof.MidReference.lean ====
/- The reference of the tail of a layer that isn't the last, entry by entry, and its agreement with the kernel. -/
module

public import proofs.«01_k».proof.Defs
public import proofs.«01_k».proof.Proof.Mid
public import proofs.«01_k».proof.Proof.Gen.MidReferenceIdeal.Read
public import proofs.«01_k».proof.Proof.Gen.MidReferenceIdeal.Run
public import Idealize.ShloMosaic.Lib.Claim

@[expose] public section

set_option maxRecDepth 16384

noncomputable section

open Idealize.ShloMosaic Idealize.ShloMosaic.TcCoe Idealize.SL.Sem

namespace Cert.MidReferenceIdeal.Hand

open Cert.MidReferenceIdeal Cert.MidReferenceIdeal.Gen Cert.MidReferenceIdeal.Read

variable (x0 : FVec Ideal S2048x512 .f32) (x1 : FVec Ideal S2048x3584 .f32) (x2 : FVec Ideal S2048x512 .f32) (x3 : FVec Ideal S2048x1024 .f32) (x4 : FVec Ideal S2048x256 .f32) (x5 : FVec Ideal S1x512 .f32) (x6 : FVec Ideal S1x512 .f32) (x7 : FVec Ideal S512x512 .f32) (x8 : FVec Ideal S1x512 .f32) (x9 : FVec Ideal S1024x1024 .f32) (x10 : FVec Ideal S1x1024 .f32) (x11 : FVec Ideal S1024x1024 .f32) (x12 : FVec Ideal S256x1024 .f32)

/-- The arguments the reference is given. It is given no targets and no final gains, and no value below reads them. -/
def args : Tail.Args where
  c1 i k := x0 (ix2 i k)
  q i k := x1 (ix2 i ⟨3072 + k.val, by omega⟩)
  ya i k := x2 (ix2 i k)
  h i k := x3 (ix2 i k)
  p i k := x4 (ix2 i k)
  lg k := x5 (ix2 0 k)
  lb k := x6 (ix2 0 k)
  wpw i k := x7 (ix2 i k)
  cg k := x8 (ix2 0 k)
  wo i k := x9 (ix2 i k)
  pg k := x10 (ix2 0 k)
  wg i k := x11 (ix2 i k)
  wp i k := x12 (ix2 i k)
  tgt _ _ := 0
  fg _ := 0

theorem centred_at (i : Fin 2048) (l : Fin 512) : val_main_v7 (F := Ideal) x0 (ix2 i l) = Tail.centred ((args x0 x1 x2 x3 x4 x5 x6 x7 x8 x9 x10 x11 x12).c1 i) l := by
  unfold Tail.centred args
  pointwise [val_main_v7, val_main_v6, val_main_v5, val_main_v4, val_main_cst_0, val_main_v3, val_main_v2, val_main_cst]
  rw [Tail.lit_512]

theorem rstdLayer_at (i : Fin 2048) : val_main_v15 (F := Ideal) x0 (ix2 i 0) = Ideal.rsqrt (RealLift.meanSq 512 (Tail.centred ((args x0 x1 x2 x3 x4 x5 x6 x7 x8 x9 x10 x11 x12).c1 i))) := by
  unfold RealLift.meanSq
  simp only [← centred_at]
  pointwise [val_main_v15, val_main_v14, val_main_v13, val_main_cst_3, val_main_v12, val_main_v11, val_main_cst_2, val_main_v10, val_main_v9, val_main_cst_1, val_main_v8]
  rw [Tail.lit_512, RealLift.lit_eps]

theorem layerNorm_at (i : Fin 2048) (l : Fin 512) : val_main_v23 (F := Ideal) x0 x5 x6 (ix2 i l) = Tail.layerNorm ((args x0 x1 x2 x3 x4 x5 x6 x7 x8 x9 x10 x11 x12).c1 i) (args x0 x1 x2 x3 x4 x5 x6 x7 x8 x9 x10 x11 x12).lg (args x0 x1 x2 x3 x4 x5 x6 x7 x8 x9 x10 x11 x12).lb l := by
  unfold Tail.layerNorm
  rw [← centred_at, ← rstdLayer_at]
  unfold args
  pointwise [val_main_v23, val_main_v22, val_main_v21, val_main_v1, val_main_v20, val_main_v19, val_main_v18, val_main_v0, val_main_v17, val_main_v16]

theorem c3_at (i : Fin 2048) (k : Fin 512) : val_main_v25 (F := Ideal) x0 x5 x6 x7 (ix2 i k) = (args x0 x1 x2 x3 x4 x5 x6 x7 x8 x9 x10 x11 x12).c3 i k := by
  unfold Tail.Args.c3 Tail.projected Tail.sigmoid
  simp only [← layerNorm_at]
  unfold args
  pointwise [val_main_v25, val_main_v24, val_main_call0_v5, val_main_call0_v4, val_main_call0_cst_0, val_main_call0_v3, val_main_call0_v2, val_main_call0_cst, val_main_call0_v1, val_main_call0_v0]

theorem rstdBranch_at (i : Fin 2048) : val_main_v34 (F := Ideal) x0 x5 x6 x7 (ix2 i 0) = Ideal.rsqrt (RealLift.meanSq 512 ((args x0 x1 x2 x3 x4 x5 x6 x7 x8 x9 x10 x11 x12).c3 i)) := by
  unfold RealLift.meanSq
  simp only [← c3_at]
  pointwise [val_main_v34, val_main_v33, val_main_v32, val_main_cst_6, val_main_v31, val_main_v30, val_main_cst_5, val_main_v29, val_main_v28, val_main_cst_4, val_main_v27]
  rw [Tail.lit_512, RealLift.lit_eps]

theorem yc_at (i : Fin 2048) (k : Fin 512) : val_main_v42 (F := Ideal) x0 x1 x5 x6 x7 x8 (ix2 i k) = (args x0 x1 x2 x3 x4 x5 x6 x7 x8 x9 x10 x11 x12).yc i k := by
  unfold Tail.Args.yc Tail.branch Tail.sigmoid
  rw [← c3_at, ← rstdBranch_at]
  unfold args
  pointwise [val_main_v42, val_main_v41, val_main_call1_v5, val_main_call1_v4, val_main_call1_cst_0, val_main_call1_v3, val_main_call1_v2, val_main_call1_cst, val_main_call1_v1, val_main_call1_v0, val_main_v40, val_main_v39, val_main_v38, val_main_v37, val_main_v26, val_main_v36, val_main_v35]

theorem roundedBranch_at (i : Fin 2048) (k : Fin 512) : val_main_v68 (F := Ideal) x0 x1 x5 x6 x7 x8 (ix2 i k) = (args x0 x1 x2 x3 x4 x5 x6 x7 x8 x9 x10 x11 x12).yc i k := by
  rw [← yc_at]
  pointwise [val_main_v68]

/-- The two branches' rows side by side, against the output projection's weights: the two halves' products. -/
theorem h1_at (i : Fin 2048) (k : Fin 1024) : val_main_v45 (F := Ideal) x0 x1 x2 x3 x5 x6 x7 x8 x9 (ix2 i k) = (args x0 x1 x2 x3 x4 x5 x6 x7 x8 x9 x10 x11 x12).h1 i k := by
  unfold Tail.Args.h1 Tail.stream Tail.Args.wt Tail.Args.wb
  simp only [← yc_at]
  unfold args
  pointwise [val_main_v45, val_main_v44, val_main_v43]

theorem rstdStream_at (i : Fin 2048) : val_main_v54 (F := Ideal) x0 x1 x2 x3 x5 x6 x7 x8 x9 (ix2 i 0) = Ideal.rsqrt (RealLift.meanSq 1024 ((args x0 x1 x2 x3 x4 x5 x6 x7 x8 x9 x10 x11 x12).h1 i)) := by
  unfold RealLift.meanSq
  simp only [← h1_at]
  pointwise [val_main_v54, val_main_v53, val_main_v52, val_main_cst_9, val_main_v51, val_main_v50, val_main_cst_8, val_main_v49, val_main_v48, val_main_cst_7, val_main_v47]
  rw [RealLift.lit_1024, RealLift.lit_eps]

theorem gate_at (i : Fin 2048) (k : Fin 1024) : val_main_v66 (F := Ideal) x0 x1 x2 x3 x5 x6 x7 x8 x9 x10 x11 (ix2 i k) = (args x0 x1 x2 x3 x4 x5 x6 x7 x8 x9 x10 x11 x12).gate i k := by
  unfold Tail.Args.gate Tail.gate Tail.sigmoid
  simp only [← h1_at, ← rstdStream_at]
  unfold args
  pointwise [val_main_v66, val_main_v65, val_main_cst_11, val_main_v64, val_main_v63, val_main_cst_10, val_main_v62, val_main_v61, val_main_v60, val_main_v59, val_main_v58, val_main_v57, val_main_v46, val_main_v56, val_main_v55]

theorem roundedGate_at (i : Fin 2048) (k : Fin 1024) : val_main_v69 (F := Ideal) x0 x1 x2 x3 x5 x6 x7 x8 x9 x10 x11 (ix2 i k) = (args x0 x1 x2 x3 x4 x5 x6 x7 x8 x9 x10 x11 x12).gate i k := by
  rw [← gate_at]
  pointwise [val_main_v69]

theorem pe_at (i : Fin 2048) (k : Fin 1024) : val_main_v67 (F := Ideal) x4 x12 (ix2 i k) = (args x0 x1 x2 x3 x4 x5 x6 x7 x8 x9 x10 x11 x12).pe i k := by
  unfold Tail.Args.pe Tail.embed args
  pointwise [val_main_v67]

theorem roundedEmbed_at (i : Fin 2048) (k : Fin 1024) : val_main_v70 (F := Ideal) x4 x12 (ix2 i k) = (args x0 x1 x2 x3 x4 x5 x6 x7 x8 x9 x10 x11 x12).pe i k := by
  rw [← pe_at x0 x1 x2 x3 x4 x5 x6 x7 x8 x9 x10 x11 x12]
  pointwise [val_main_v70]

theorem h2_at (i : Fin 2048) (k : Fin 1024) : val_main_v72 (F := Ideal) x0 x1 x2 x3 x4 x5 x6 x7 x8 x9 x10 x11 x12 (ix2 i k) = (args x0 x1 x2 x3 x4 x5 x6 x7 x8 x9 x10 x11 x12).h2 i k := by
  unfold Tail.Args.h2
  rw [← h1_at, ← pe_at, ← gate_at]
  pointwise [val_main_v72, val_main_v71]

/-! The results from arguments that equal `x0 … x12`. -/

theorem congr_v25 {y0 : FVec Ideal S2048x512 .f32} {y5 : FVec Ideal S1x512 .f32} {y6 : FVec Ideal S1x512 .f32} {y7 : FVec Ideal S512x512 .f32} (h0 : y0 = x0) (h5 : y5 = x5) (h6 : y6 = x6) (h7 : y7 = x7) :
    val_main_v25 (F := Ideal) y0 y5 y6 y7 = val_main_v25 (F := Ideal) x0 x5 x6 x7 := by
  subst h0 h5 h6 h7
  rfl

theorem congr_v68 {y0 : FVec Ideal S2048x512 .f32} {y1 : FVec Ideal S2048x3584 .f32} {y5 : FVec Ideal S1x512 .f32} {y6 : FVec Ideal S1x512 .f32} {y7 : FVec Ideal S512x512 .f32} {y8 : FVec Ideal S1x512 .f32} (h0 : y0 = x0) (h1 : y1 = x1) (h5 : y5 = x5) (h6 : y6 = x6) (h7 : y7 = x7) (h8 : y8 = x8) :
    val_main_v68 (F := Ideal) y0 y1 y5 y6 y7 y8 = val_main_v68 (F := Ideal) x0 x1 x5 x6 x7 x8 := by
  subst h0 h1 h5 h6 h7 h8
  rfl

theorem congr_v45 {y0 : FVec Ideal S2048x512 .f32} {y1 : FVec Ideal S2048x3584 .f32} {y2 : FVec Ideal S2048x512 .f32} {y3 : FVec Ideal S2048x1024 .f32} {y5 : FVec Ideal S1x512 .f32} {y6 : FVec Ideal S1x512 .f32} {y7 : FVec Ideal S512x512 .f32} {y8 : FVec Ideal S1x512 .f32} {y9 : FVec Ideal S1024x1024 .f32} (h0 : y0 = x0) (h1 : y1 = x1) (h2 : y2 = x2) (h3 : y3 = x3) (h5 : y5 = x5) (h6 : y6 = x6) (h7 : y7 = x7) (h8 : y8 = x8) (h9 : y9 = x9) :
    val_main_v45 (F := Ideal) y0 y1 y2 y3 y5 y6 y7 y8 y9 = val_main_v45 (F := Ideal) x0 x1 x2 x3 x5 x6 x7 x8 x9 := by
  subst h0 h1 h2 h3 h5 h6 h7 h8 h9
  rfl

theorem congr_v69 {y0 : FVec Ideal S2048x512 .f32} {y1 : FVec Ideal S2048x3584 .f32} {y2 : FVec Ideal S2048x512 .f32} {y3 : FVec Ideal S2048x1024 .f32} {y5 : FVec Ideal S1x512 .f32} {y6 : FVec Ideal S1x512 .f32} {y7 : FVec Ideal S512x512 .f32} {y8 : FVec Ideal S1x512 .f32} {y9 : FVec Ideal S1024x1024 .f32} {y10 : FVec Ideal S1x1024 .f32} {y11 : FVec Ideal S1024x1024 .f32} (h0 : y0 = x0) (h1 : y1 = x1) (h2 : y2 = x2) (h3 : y3 = x3) (h5 : y5 = x5) (h6 : y6 = x6) (h7 : y7 = x7) (h8 : y8 = x8) (h9 : y9 = x9) (h10 : y10 = x10) (h11 : y11 = x11) :
    val_main_v69 (F := Ideal) y0 y1 y2 y3 y5 y6 y7 y8 y9 y10 y11 = val_main_v69 (F := Ideal) x0 x1 x2 x3 x5 x6 x7 x8 x9 x10 x11 := by
  subst h0 h1 h2 h3 h5 h6 h7 h8 h9 h10 h11
  rfl

theorem congr_v72 {y0 : FVec Ideal S2048x512 .f32} {y1 : FVec Ideal S2048x3584 .f32} {y2 : FVec Ideal S2048x512 .f32} {y3 : FVec Ideal S2048x1024 .f32} {y4 : FVec Ideal S2048x256 .f32} {y5 : FVec Ideal S1x512 .f32} {y6 : FVec Ideal S1x512 .f32} {y7 : FVec Ideal S512x512 .f32} {y8 : FVec Ideal S1x512 .f32} {y9 : FVec Ideal S1024x1024 .f32} {y10 : FVec Ideal S1x1024 .f32} {y11 : FVec Ideal S1024x1024 .f32} {y12 : FVec Ideal S256x1024 .f32} (h0 : y0 = x0) (h1 : y1 = x1) (h2 : y2 = x2) (h3 : y3 = x3) (h4 : y4 = x4) (h5 : y5 = x5) (h6 : y6 = x6) (h7 : y7 = x7) (h8 : y8 = x8) (h9 : y9 = x9) (h10 : y10 = x10) (h11 : y11 = x11) (h12 : y12 = x12) :
    val_main_v72 (F := Ideal) y0 y1 y2 y3 y4 y5 y6 y7 y8 y9 y10 y11 y12 = val_main_v72 (F := Ideal) x0 x1 x2 x3 x4 x5 x6 x7 x8 x9 x10 x11 x12 := by
  subst h0 h1 h2 h3 h4 h5 h6 h7 h8 h9 h10 h11 h12
  rfl

end Cert.MidReferenceIdeal.Hand

/-! ## The kernel's results are the reference's terms of the same arguments -/

namespace Cert.MidKernelIdeal.Hand

open Cert.MidKernelIdeal Cert.MidKernelIdeal.Gen

variable (m : (ℓ : Loc nD τ sig) → Buf (Elt Ideal) ℓ) (c : Dev nD)

theorem c3_result : (dats m 0 c).arrAt 13 cfg0.N = Cert.MidReferenceIdeal.Read.val_main_v25 (F := Ideal) (m ((c : Thread nD τ).loc main_arg0)) (m ((c : Thread nD τ).loc main_arg5)) (m ((c : Thread nD τ).loc main_arg6)) (m ((c : Thread nD τ).loc main_arg7)) := by
  rw [c3_final]
  funext i
  idx_vars i
  exact (Cert.MidReferenceIdeal.Hand.c3_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) i0 i1).symm

theorem yc_result : (dats m 0 c).arrAt 14 cfg0.N = Cert.MidReferenceIdeal.Read.val_main_v68 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) := by
  rw [yc_final]
  funext i
  idx_vars i
  exact (Cert.MidReferenceIdeal.Hand.roundedBranch_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) i0 i1).symm

theorem h1_result : (dats m 0 c).arrAt 15 cfg0.N = Cert.MidReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) := by
  rw [h1_final]
  funext i
  idx_vars i
  exact (Cert.MidReferenceIdeal.Hand.h1_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) i0 i1).symm

theorem gate_result : (dats m 0 c).arrAt 16 cfg0.N = Cert.MidReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [gate_final]
  funext i
  idx_vars i
  exact (Cert.MidReferenceIdeal.Hand.roundedGate_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) i0 i1).symm

theorem pe_result : (dats m 0 c).arrAt 17 cfg0.N = Cert.MidReferenceIdeal.Read.val_main_v70 (F := Ideal) (m ((c : Thread nD τ).loc main_arg4)) (m ((c : Thread nD τ).loc main_arg12)) := by
  rw [pe_final]
  funext i
  idx_vars i
  exact (Cert.MidReferenceIdeal.Hand.roundedEmbed_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) i0 i1).symm

theorem h2_result : (dats m 0 c).arrAt 18 cfg0.N = Cert.MidReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [h2_final]
  funext i
  idx_vars i
  exact (Cert.MidReferenceIdeal.Hand.h2_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) i0 i1).symm

end Cert.MidKernelIdeal.Hand

set_option maxHeartbeats 2000000 in
/-- On equal arguments the kernel's six results are the reference's, at the ideal numbers and for every argument: the
    projected convolution branch, the branch itself, the residual stream after the output projection, the embedding's gate,
    the projected embedding, and the layer's output. -/
theorem Cert.MidHand.algebraic : Cert.algebraic_MidKernelIdeal_MidReferenceIdeal := by
  pair_intro
  · run_from Cert.MidKernelIdeal.Value.run_blocks m g
  · run_from Cert.MidReferenceIdeal.Value.run m' g'
    · obtain ⟨h0, h1, h2, h3, h4, h5, h6, h7, h8, h9, h10, h11, h12⟩ := hagree c
      exact (Cert.MidReferenceIdeal.Read.val_main_v25_eq (F := Ideal) m' c).trans
        ((Cert.MidReferenceIdeal.Hand.congr_v25 _ _ _ _ h0 h5 h6 h7).trans (Cert.MidKernelIdeal.Hand.c3_result m c).symm)
    · obtain ⟨h0, h1, h2, h3, h4, h5, h6, h7, h8, h9, h10, h11, h12⟩ := hagree c
      exact (Cert.MidReferenceIdeal.Read.val_main_v68_eq (F := Ideal) m' c).trans
        ((Cert.MidReferenceIdeal.Hand.congr_v68 _ _ _ _ _ _ h0 h1 h5 h6 h7 h8).trans (Cert.MidKernelIdeal.Hand.yc_result m c).symm)
    · obtain ⟨h0, h1, h2, h3, h4, h5, h6, h7, h8, h9, h10, h11, h12⟩ := hagree c
      exact (Cert.MidReferenceIdeal.Read.val_main_v45_eq (F := Ideal) m' c).trans
        ((Cert.MidReferenceIdeal.Hand.congr_v45 _ _ _ _ _ _ _ _ _ h0 h1 h2 h3 h5 h6 h7 h8 h9).trans (Cert.MidKernelIdeal.Hand.h1_result m c).symm)
    · obtain ⟨h0, h1, h2, h3, h4, h5, h6, h7, h8, h9, h10, h11, h12⟩ := hagree c
      exact (Cert.MidReferenceIdeal.Read.val_main_v69_eq (F := Ideal) m' c).trans
        ((Cert.MidReferenceIdeal.Hand.congr_v69 _ _ _ _ _ _ _ _ _ _ _ h0 h1 h2 h3 h5 h6 h7 h8 h9 h10 h11).trans (Cert.MidKernelIdeal.Hand.gate_result m c).symm)
    · exact (Cert.MidReferenceIdeal.Read.val_main_v70_eq (F := Ideal) _ _).trans (Cert.MidKernelIdeal.Hand.pe_result m c).symm
    · obtain ⟨h0, h1, h2, h3, h4, h5, h6, h7, h8, h9, h10, h11, h12⟩ := hagree c
      exact (Cert.MidReferenceIdeal.Read.val_main_v72_eq (F := Ideal) m' c).trans
        ((Cert.MidReferenceIdeal.Hand.congr_v72 _ _ _ _ _ _ _ _ _ _ _ _ _ h0 h1 h2 h3 h4 h5 h6 h7 h8 h9 h10 h11 h12).trans (Cert.MidKernelIdeal.Hand.h2_result m c).symm)

end
-- ==== Proof.AdamwOut.lean ====
/- The optimiser's step on one chip's part of the output projection's and of the embedding's gate's weight,
   flattened to rows: what the kernel writes, row block by row block, is the reference's step at every entry. -/
module

public import proofs.«01_k».proof.Defs
public import proofs.«01_k».proof.Proof.Gen.AdamwOutKernelIdeal.Value
public import proofs.«01_k».proof.Proof.Gen.AdamwOutReferenceIdeal.Read
public import proofs.«01_k».proof.Proof.Gen.AdamwOutReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwOutKernelIdeal.Hand

open Cert.AdamwOutKernelIdeal Cert.AdamwOutKernelIdeal.Gen Cert.AdamwOutReferenceIdeal.Read

variable (g w a b : FVec Ideal S256x1024 .f32) (W G A B : FVec Ideal S512x1024 .f32) (j : S256x1024.Idx) (i : S512x1024.Idx)

/-- An entry of the block's new first moment is the reference's entry, if the block's entries are the arrays'. -/
theorem mean_at (hg : g j = G i) (ha : a j = A i) : k0_pay1 (F := Ideal) g a j = val_main_v4 (F := Ideal) G A i := by
  pointwise [k0_pay1, val_main_v4, val_main_v1, val_main_v0, val_main_cst, val_main_v3, val_main_v2, val_main_cst_0]
  rw [hg, ha]

/-- The same of the new second moment. -/
theorem square_at (hg : g j = G i) (hb : b j = B i) : k0_pay2 (F := Ideal) g b j = val_main_v10 (F := Ideal) G B i := by
  pointwise [k0_pay2, val_main_v10, val_main_v6, val_main_v5, val_main_cst_1, val_main_v9, val_main_v8, val_main_cst_2, val_main_v7]
  rw [hg, hb]

/-- The same of the weight's change: the two corrected moments' quotient and the decayed weight. -/
theorem step_at (hg : g j = G i) (hw : w j = W i) (ha : a j = A i) (hb : b j = B i) :
    k0_pay3 (F := Ideal) g w a b j = val_main_v23 (F := Ideal) W G A B i := by
  have h1 := mean_at g a G A j i hg ha
  have h2 := square_at g b G B j i hg hb
  pointwise [k0_pay3, val_main_v23, val_main_v22, val_main_cst_7, val_main_v21, val_main_v20, val_main_v19, val_main_cst_6, val_main_v18,
    val_main_v17, val_main_v16, val_main_cst_5, val_main_v15, val_main_v14, val_main_v13, val_main_cst_4, val_main_v12, val_main_v11, val_main_cst_3]
  rw [h1, h2, hw]

variable (m : (ℓ : Loc nD τ sig) → Buf (Elt Ideal) ℓ)

theorem index_values : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the arrays that row `a` of the block at point `t` is. -/
def row (t : Fin cfg0.N) (a : Fin 256) : Fin 512 := ⟨t.val * 256 + a.val, by have := lt_of_lt_of_eq t.isLt N_0; omega⟩

/-- The four arguments. -/
def weight (c : Dev nD) : FVec Ideal S512x1024 .f32 := m ((c : Thread nD τ).loc main_arg0)
def gradient (c : Dev nD) : FVec Ideal S512x1024 .f32 := m ((c : Thread nD τ).loc main_arg1)
def mean (c : Dev nD) : FVec Ideal S512x1024 .f32 := m ((c : Thread nD τ).loc main_arg2)
def square (c : Dev nD) : FVec Ideal S512x1024 .f32 := m ((c : Thread nD τ).loc main_arg3)

theorem weight_block (c : Dev nD) (t : Fin cfg0.N) (j : S256x1024.Idx) :
    (show FVec Ideal S256x1024 .f32 from iblk m c 0 t) j = weight m c (ix2 (row t (j 0)) (j 1)) := by
  unfold weight row; blk_ext [iblk, V, index_values t]

theorem gradient_block (c : Dev nD) (t : Fin cfg0.N) (j : S256x1024.Idx) :
    (show FVec Ideal S256x1024 .f32 from iblk m c 1 t) j = gradient m c (ix2 (row t (j 0)) (j 1)) := by
  unfold gradient row; blk_ext [iblk, V, index_values t]

theorem mean_block (c : Dev nD) (t : Fin cfg0.N) (j : S256x1024.Idx) :
    (show FVec Ideal S256x1024 .f32 from iblk m c 2 t) j = mean m c (ix2 (row t (j 0)) (j 1)) := by
  unfold mean row; blk_ext [iblk, V, index_values t]

theorem square_block (c : Dev nD) (t : Fin cfg0.N) (j : S256x1024.Idx) :
    (show FVec Ideal S256x1024 .f32 from iblk m c 3 t) j = square m c (ix2 (row t (j 0)) (j 1)) := by
  unfold square row; blk_ext [iblk, V, index_values t]

/-- The kernel's result 1: the gradient, copied out. -/
theorem gradient_final (c : Dev nD) : (dats m 0 c).arrAt 4 cfg0.N = gradient m c := by
  refine (dats m 0 c).arrAt_eq_of_covers 4 _ (by decide +kernel) fun t hf y => ?_
  blk_simp
  rw [after0_4]
  have e : (win0_4.blk t).view.emb y = ix2 (row t (y 0)) (y 1) := by unfold row; blk_ext [index_values t]
  rw [e]
  frame_out
  exact gradient_block m c t y

/-- The kernel's result 2: the weight's change. -/
theorem step_final (c : Dev nD) : (dats m 0 c).arrAt 5 cfg0.N = val_main_v23 (F := Ideal) (weight m c) (gradient m c) (mean m c) (square m c) := by
  refine (dats m 0 c).arrAt_eq_of_covers 5 _ (by decide +kernel) fun t hf y => ?_
  blk_simp
  rw [after0_5]
  have e : (win0_5.blk t).view.emb y = ix2 (row t (y 0)) (y 1) := by unfold row; blk_ext [index_values t]
  rw [e]
  frame_out
  exact step_at _ _ _ _ _ _ _ _ _ _ (gradient_block m c t y) (weight_block m c t y) (mean_block m c t y) (square_block m c t y)

/-- The kernel's result 3: the new first moment. -/
theorem mean_final (c : Dev nD) : (dats m 0 c).arrAt 6 cfg0.N = val_main_v4 (F := Ideal) (gradient m c) (mean m c) := by
  refine (dats m 0 c).arrAt_eq_of_covers 6 _ (by decide +kernel) fun t hf y => ?_
  blk_simp
  rw [after0_6]
  have e : (win0_6.blk t).view.emb y = ix2 (row t (y 0)) (y 1) := by unfold row; blk_ext [index_values t]
  rw [e]
  frame_out
  exact mean_at _ _ _ _ _ _ (gradient_block m c t y) (mean_block m c t y)

/-- The kernel's result 4: the new second moment. -/
theorem square_final (c : Dev nD) : (dats m 0 c).arrAt 7 cfg0.N = val_main_v10 (F := Ideal) (gradient m c) (square m c) := by
  refine (dats m 0 c).arrAt_eq_of_covers 7 _ (by decide +kernel) fun t hf y => ?_
  blk_simp
  rw [after0_7]
  have e : (win0_7.blk t).view.emb y = ix2 (row t (y 0)) (y 1) := by unfold row; blk_ext [index_values t]
  rw [e]
  frame_out
  exact square_at _ _ _ _ _ _ (gradient_block m c t y) (square_block m c t y)

end Cert.AdamwOutKernelIdeal.Hand

set_option maxHeartbeats 2000000 in
/-- The optimiser's step on one chip's part of the output projection's and of the embedding's gate's weight: the four result arrays are the reference's. -/
theorem Cert.AdamwOutHand.algebraic : Cert.algebraic_AdamwOutKernelIdeal_AdamwOutReferenceIdeal := by
  pair_intro
  · run_from Cert.AdamwOutKernelIdeal.Value.run_blocks m g
  · run_from Cert.AdamwOutReferenceIdeal.Value.run m' g'
    · exact (Cert.AdamwOutKernelIdeal.Hand.gradient_final m c).symm
    · exact (Cert.AdamwOutReferenceIdeal.Read.val_main_v23_eq (F := Ideal) _ _ _ _).trans (Cert.AdamwOutKernelIdeal.Hand.step_final m c).symm
    · exact (Cert.AdamwOutReferenceIdeal.Read.val_main_v4_eq (F := Ideal) _ _).trans (Cert.AdamwOutKernelIdeal.Hand.mean_final m c).symm
    · exact (Cert.AdamwOutReferenceIdeal.Read.val_main_v10_eq (F := Ideal) _ _).trans (Cert.AdamwOutKernelIdeal.Hand.square_final m c).symm

end
-- ==== Proof.AdamwPle.lean ====
/- The optimiser's step on one chip's part of the embedding's projection's weight,
   flattened to rows: what the kernel writes, row block by row block, is the reference's step at every entry. -/
module

public import proofs.«01_k».proof.Defs
public import proofs.«01_k».proof.Proof.Gen.AdamwPleKernelIdeal.Value
public import proofs.«01_k».proof.Proof.Gen.AdamwPleReferenceIdeal.Read
public import proofs.«01_k».proof.Proof.Gen.AdamwPleReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwPleKernelIdeal.Hand

open Cert.AdamwPleKernelIdeal Cert.AdamwPleKernelIdeal.Gen Cert.AdamwPleReferenceIdeal.Read

variable (g w a b : FVec Ideal S256x256 .f32) (W G A B : FVec Ideal S512x256 .f32) (j : S256x256.Idx) (i : S512x256.Idx)

/-- An entry of the block's new first moment is the reference's entry, if the block's entries are the arrays'. -/
theorem mean_at (hg : g j = G i) (ha : a j = A i) : k0_pay1 (F := Ideal) g a j = val_main_v4 (F := Ideal) G A i := by
  pointwise [k0_pay1, val_main_v4, val_main_v1, val_main_v0, val_main_cst, val_main_v3, val_main_v2, val_main_cst_0]
  rw [hg, ha]

/-- The same of the new second moment. -/
theorem square_at (hg : g j = G i) (hb : b j = B i) : k0_pay2 (F := Ideal) g b j = val_main_v10 (F := Ideal) G B i := by
  pointwise [k0_pay2, val_main_v10, val_main_v6, val_main_v5, val_main_cst_1, val_main_v9, val_main_v8, val_main_cst_2, val_main_v7]
  rw [hg, hb]

/-- The same of the weight's change: the two corrected moments' quotient and the decayed weight. -/
theorem step_at (hg : g j = G i) (hw : w j = W i) (ha : a j = A i) (hb : b j = B i) :
    k0_pay3 (F := Ideal) g w a b j = val_main_v23 (F := Ideal) W G A B i := by
  have h1 := mean_at g a G A j i hg ha
  have h2 := square_at g b G B j i hg hb
  pointwise [k0_pay3, val_main_v23, val_main_v22, val_main_cst_7, val_main_v21, val_main_v20, val_main_v19, val_main_cst_6, val_main_v18,
    val_main_v17, val_main_v16, val_main_cst_5, val_main_v15, val_main_v14, val_main_v13, val_main_cst_4, val_main_v12, val_main_v11, val_main_cst_3]
  rw [h1, h2, hw]

variable (m : (ℓ : Loc nD τ sig) → Buf (Elt Ideal) ℓ)

theorem index_values : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the arrays that row `a` of the block at point `t` is. -/
def row (t : Fin cfg0.N) (a : Fin 256) : Fin 512 := ⟨t.val * 256 + a.val, by have := lt_of_lt_of_eq t.isLt N_0; omega⟩

/-- The four arguments. -/
def weight (c : Dev nD) : FVec Ideal S512x256 .f32 := m ((c : Thread nD τ).loc main_arg0)
def gradient (c : Dev nD) : FVec Ideal S512x256 .f32 := m ((c : Thread nD τ).loc main_arg1)
def mean (c : Dev nD) : FVec Ideal S512x256 .f32 := m ((c : Thread nD τ).loc main_arg2)
def square (c : Dev nD) : FVec Ideal S512x256 .f32 := m ((c : Thread nD τ).loc main_arg3)

theorem weight_block (c : Dev nD) (t : Fin cfg0.N) (j : S256x256.Idx) :
    (show FVec Ideal S256x256 .f32 from iblk m c 0 t) j = weight m c (ix2 (row t (j 0)) (j 1)) := by
  unfold weight row; blk_ext [iblk, V, index_values t]

theorem gradient_block (c : Dev nD) (t : Fin cfg0.N) (j : S256x256.Idx) :
    (show FVec Ideal S256x256 .f32 from iblk m c 1 t) j = gradient m c (ix2 (row t (j 0)) (j 1)) := by
  unfold gradient row; blk_ext [iblk, V, index_values t]

theorem mean_block (c : Dev nD) (t : Fin cfg0.N) (j : S256x256.Idx) :
    (show FVec Ideal S256x256 .f32 from iblk m c 2 t) j = mean m c (ix2 (row t (j 0)) (j 1)) := by
  unfold mean row; blk_ext [iblk, V, index_values t]

theorem square_block (c : Dev nD) (t : Fin cfg0.N) (j : S256x256.Idx) :
    (show FVec Ideal S256x256 .f32 from iblk m c 3 t) j = square m c (ix2 (row t (j 0)) (j 1)) := by
  unfold square row; blk_ext [iblk, V, index_values t]

/-- The kernel's result 1: the gradient, copied out. -/
theorem gradient_final (c : Dev nD) : (dats m 0 c).arrAt 4 cfg0.N = gradient m c := by
  refine (dats m 0 c).arrAt_eq_of_covers 4 _ (by decide +kernel) fun t hf y => ?_
  blk_simp
  rw [after0_4]
  have e : (win0_4.blk t).view.emb y = ix2 (row t (y 0)) (y 1) := by unfold row; blk_ext [index_values t]
  rw [e]
  frame_out
  exact gradient_block m c t y

/-- The kernel's result 2: the weight's change. -/
theorem step_final (c : Dev nD) : (dats m 0 c).arrAt 5 cfg0.N = val_main_v23 (F := Ideal) (weight m c) (gradient m c) (mean m c) (square m c) := by
  refine (dats m 0 c).arrAt_eq_of_covers 5 _ (by decide +kernel) fun t hf y => ?_
  blk_simp
  rw [after0_5]
  have e : (win0_5.blk t).view.emb y = ix2 (row t (y 0)) (y 1) := by unfold row; blk_ext [index_values t]
  rw [e]
  frame_out
  exact step_at _ _ _ _ _ _ _ _ _ _ (gradient_block m c t y) (weight_block m c t y) (mean_block m c t y) (square_block m c t y)

/-- The kernel's result 3: the new first moment. -/
theorem mean_final (c : Dev nD) : (dats m 0 c).arrAt 6 cfg0.N = val_main_v4 (F := Ideal) (gradient m c) (mean m c) := by
  refine (dats m 0 c).arrAt_eq_of_covers 6 _ (by decide +kernel) fun t hf y => ?_
  blk_simp
  rw [after0_6]
  have e : (win0_6.blk t).view.emb y = ix2 (row t (y 0)) (y 1) := by unfold row; blk_ext [index_values t]
  rw [e]
  frame_out
  exact mean_at _ _ _ _ _ _ (gradient_block m c t y) (mean_block m c t y)

/-- The kernel's result 4: the new second moment. -/
theorem square_final (c : Dev nD) : (dats m 0 c).arrAt 7 cfg0.N = val_main_v10 (F := Ideal) (gradient m c) (square m c) := by
  refine (dats m 0 c).arrAt_eq_of_covers 7 _ (by decide +kernel) fun t hf y => ?_
  blk_simp
  rw [after0_7]
  have e : (win0_7.blk t).view.emb y = ix2 (row t (y 0)) (y 1) := by unfold row; blk_ext [index_values t]
  rw [e]
  frame_out
  exact square_at _ _ _ _ _ _ (gradient_block m c t y) (square_block m c t y)

end Cert.AdamwPleKernelIdeal.Hand

set_option maxHeartbeats 2000000 in
/-- The optimiser's step on one chip's part of the embedding's projection's weight: the four result arrays are the reference's. -/
theorem Cert.AdamwPleHand.algebraic : Cert.algebraic_AdamwPleKernelIdeal_AdamwPleReferenceIdeal := by
  pair_intro
  · run_from Cert.AdamwPleKernelIdeal.Value.run_blocks m g
  · run_from Cert.AdamwPleReferenceIdeal.Value.run m' g'
    · exact (Cert.AdamwPleKernelIdeal.Hand.gradient_final m c).symm
    · exact (Cert.AdamwPleReferenceIdeal.Read.val_main_v23_eq (F := Ideal) _ _ _ _).trans (Cert.AdamwPleKernelIdeal.Hand.step_final m c).symm
    · exact (Cert.AdamwPleReferenceIdeal.Read.val_main_v4_eq (F := Ideal) _ _).trans (Cert.AdamwPleKernelIdeal.Hand.mean_final m c).symm
    · exact (Cert.AdamwPleReferenceIdeal.Read.val_main_v10_eq (F := Ideal) _ _).trans (Cert.AdamwPleKernelIdeal.Hand.square_final m c).symm

end
-- ==== Proof.AdamwPw.lean ====
/- The optimiser's step on one chip's part of the pointwise convolution's weight,
   flattened to rows: what the kernel writes, row block by row block, is the reference's step at every entry. -/
module

public import proofs.«01_k».proof.Defs
public import proofs.«01_k».proof.Proof.Gen.AdamwPwKernelIdeal.Value
public import proofs.«01_k».proof.Proof.Gen.AdamwPwReferenceIdeal.Read
public import proofs.«01_k».proof.Proof.Gen.AdamwPwReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwPwKernelIdeal.Hand

open Cert.AdamwPwKernelIdeal Cert.AdamwPwKernelIdeal.Gen Cert.AdamwPwReferenceIdeal.Read

variable (g w a b : FVec Ideal S256x512 .f32) (W G A B : FVec Ideal S256x512 .f32) (j : S256x512.Idx) (i : S256x512.Idx)

/-- An entry of the block's new first moment is the reference's entry, if the block's entries are the arrays'. -/
theorem mean_at (hg : g j = G i) (ha : a j = A i) : k0_pay1 (F := Ideal) g a j = val_main_v4 (F := Ideal) G A i := by
  pointwise [k0_pay1, val_main_v4, val_main_v1, val_main_v0, val_main_cst, val_main_v3, val_main_v2, val_main_cst_0]
  rw [hg, ha]

/-- The same of the new second moment. -/
theorem square_at (hg : g j = G i) (hb : b j = B i) : k0_pay2 (F := Ideal) g b j = val_main_v10 (F := Ideal) G B i := by
  pointwise [k0_pay2, val_main_v10, val_main_v6, val_main_v5, val_main_cst_1, val_main_v9, val_main_v8, val_main_cst_2, val_main_v7]
  rw [hg, hb]

/-- The same of the weight's change: the two corrected moments' quotient and the decayed weight. -/
theorem step_at (hg : g j = G i) (hw : w j = W i) (ha : a j = A i) (hb : b j = B i) :
    k0_pay3 (F := Ideal) g w a b j = val_main_v23 (F := Ideal) W G A B i := by
  have h1 := mean_at g a G A j i hg ha
  have h2 := square_at g b G B j i hg hb
  pointwise [k0_pay3, val_main_v23, val_main_v22, val_main_cst_7, val_main_v21, val_main_v20, val_main_v19, val_main_cst_6, val_main_v18,
    val_main_v17, val_main_v16, val_main_cst_5, val_main_v15, val_main_v14, val_main_v13, val_main_cst_4, val_main_v12, val_main_v11, val_main_cst_3]
  rw [h1, h2, hw]

variable (m : (ℓ : Loc nD τ sig) → Buf (Elt Ideal) ℓ)

theorem index_values : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the arrays that row `a` of the block at point `t` is. -/
def row (t : Fin cfg0.N) (a : Fin 256) : Fin 256 := ⟨t.val * 256 + a.val, by have := lt_of_lt_of_eq t.isLt N_0; omega⟩

/-- The four arguments. -/
def weight (c : Dev nD) : FVec Ideal S256x512 .f32 := m ((c : Thread nD τ).loc main_arg0)
def gradient (c : Dev nD) : FVec Ideal S256x512 .f32 := m ((c : Thread nD τ).loc main_arg1)
def mean (c : Dev nD) : FVec Ideal S256x512 .f32 := m ((c : Thread nD τ).loc main_arg2)
def square (c : Dev nD) : FVec Ideal S256x512 .f32 := m ((c : Thread nD τ).loc main_arg3)

theorem weight_block (c : Dev nD) (t : Fin cfg0.N) (j : S256x512.Idx) :
    (show FVec Ideal S256x512 .f32 from iblk m c 0 t) j = weight m c (ix2 (row t (j 0)) (j 1)) := by
  unfold weight row; blk_ext [iblk, V, index_values t]

theorem gradient_block (c : Dev nD) (t : Fin cfg0.N) (j : S256x512.Idx) :
    (show FVec Ideal S256x512 .f32 from iblk m c 1 t) j = gradient m c (ix2 (row t (j 0)) (j 1)) := by
  unfold gradient row; blk_ext [iblk, V, index_values t]

theorem mean_block (c : Dev nD) (t : Fin cfg0.N) (j : S256x512.Idx) :
    (show FVec Ideal S256x512 .f32 from iblk m c 2 t) j = mean m c (ix2 (row t (j 0)) (j 1)) := by
  unfold mean row; blk_ext [iblk, V, index_values t]

theorem square_block (c : Dev nD) (t : Fin cfg0.N) (j : S256x512.Idx) :
    (show FVec Ideal S256x512 .f32 from iblk m c 3 t) j = square m c (ix2 (row t (j 0)) (j 1)) := by
  unfold square row; blk_ext [iblk, V, index_values t]

/-- The kernel's result 1: the gradient, copied out. -/
theorem gradient_final (c : Dev nD) : (dats m 0 c).arrAt 4 cfg0.N = gradient m c := by
  refine (dats m 0 c).arrAt_eq_of_covers 4 _ (by decide +kernel) fun t hf y => ?_
  blk_simp
  rw [after0_4]
  have e : (win0_4.blk t).view.emb y = ix2 (row t (y 0)) (y 1) := by unfold row; blk_ext [index_values t]
  rw [e]
  frame_out
  exact gradient_block m c t y

/-- The kernel's result 2: the weight's change. -/
theorem step_final (c : Dev nD) : (dats m 0 c).arrAt 5 cfg0.N = val_main_v23 (F := Ideal) (weight m c) (gradient m c) (mean m c) (square m c) := by
  refine (dats m 0 c).arrAt_eq_of_covers 5 _ (by decide +kernel) fun t hf y => ?_
  blk_simp
  rw [after0_5]
  have e : (win0_5.blk t).view.emb y = ix2 (row t (y 0)) (y 1) := by unfold row; blk_ext [index_values t]
  rw [e]
  frame_out
  exact step_at _ _ _ _ _ _ _ _ _ _ (gradient_block m c t y) (weight_block m c t y) (mean_block m c t y) (square_block m c t y)

/-- The kernel's result 3: the new first moment. -/
theorem mean_final (c : Dev nD) : (dats m 0 c).arrAt 6 cfg0.N = val_main_v4 (F := Ideal) (gradient m c) (mean m c) := by
  refine (dats m 0 c).arrAt_eq_of_covers 6 _ (by decide +kernel) fun t hf y => ?_
  blk_simp
  rw [after0_6]
  have e : (win0_6.blk t).view.emb y = ix2 (row t (y 0)) (y 1) := by unfold row; blk_ext [index_values t]
  rw [e]
  frame_out
  exact mean_at _ _ _ _ _ _ (gradient_block m c t y) (mean_block m c t y)

/-- The kernel's result 4: the new second moment. -/
theorem square_final (c : Dev nD) : (dats m 0 c).arrAt 7 cfg0.N = val_main_v10 (F := Ideal) (gradient m c) (square m c) := by
  refine (dats m 0 c).arrAt_eq_of_covers 7 _ (by decide +kernel) fun t hf y => ?_
  blk_simp
  rw [after0_7]
  have e : (win0_7.blk t).view.emb y = ix2 (row t (y 0)) (y 1) := by unfold row; blk_ext [index_values t]
  rw [e]
  frame_out
  exact square_at _ _ _ _ _ _ (gradient_block m c t y) (square_block m c t y)

end Cert.AdamwPwKernelIdeal.Hand

set_option maxHeartbeats 2000000 in
/-- The optimiser's step on one chip's part of the pointwise convolution's weight: the four result arrays are the reference's. -/
theorem Cert.AdamwPwHand.algebraic : Cert.algebraic_AdamwPwKernelIdeal_AdamwPwReferenceIdeal := by
  pair_intro
  · run_from Cert.AdamwPwKernelIdeal.Value.run_blocks m g
  · run_from Cert.AdamwPwReferenceIdeal.Value.run m' g'
    · exact (Cert.AdamwPwKernelIdeal.Hand.gradient_final m c).symm
    · exact (Cert.AdamwPwReferenceIdeal.Read.val_main_v23_eq (F := Ideal) _ _ _ _).trans (Cert.AdamwPwKernelIdeal.Hand.step_final m c).symm
    · exact (Cert.AdamwPwReferenceIdeal.Read.val_main_v4_eq (F := Ideal) _ _).trans (Cert.AdamwPwKernelIdeal.Hand.mean_final m c).symm
    · exact (Cert.AdamwPwReferenceIdeal.Read.val_main_v10_eq (F := Ideal) _ _).trans (Cert.AdamwPwKernelIdeal.Hand.square_final m c).symm

end
-- ==== Proof.lean ====
module

public import proofs.«01_k».proof.Defs
public import proofs.«01_k».proof.Proof.Gen.DxKernel
public import proofs.«01_k».proof.Proof.Gen.DxKernel.Skeleton
public import proofs.«01_k».proof.Proof.Gen.DxKernel.Launch
public import proofs.«01_k».proof.Proof.Gen.DxKernel.Points
public import proofs.«01_k».proof.Proof.Gen.DxKernel.Frame
public import proofs.«01_k».proof.Proof.Gen.DxKernelIdeal
public import proofs.«01_k».proof.Proof.Gen.DxKernelIdeal.Skeleton
public import proofs.«01_k».proof.Proof.Gen.DxKernelIdeal.Launch
public import proofs.«01_k».proof.Proof.Gen.DxKernelIdeal.Points
public import proofs.«01_k».proof.Proof.Gen.DxKernelIdeal.Frame
public import proofs.«01_k».proof.Proof.Gen.DxReferenceIdeal
public import proofs.«01_k».proof.Proof.Gen.DxKernelIdeal.Value
public import proofs.«01_k».proof.Proof.Gen.DxReferenceIdeal.Run
public import proofs.«01_k».proof.Proof.Gen.DxReferenceIdeal.Read
public import proofs.«01_k».proof.Proof.Dx
public import proofs.«01_k».proof.Proof.Attn
public import proofs.«01_k».proof.Proof.PleReference
public import proofs.«01_k».proof.Proof.TailReference
public import proofs.«01_k».proof.Proof.Gen.PleKernel
public import proofs.«01_k».proof.Proof.Gen.PleKernel.Skeleton
public import proofs.«01_k».proof.Proof.Gen.PleKernel.Launch
public import proofs.«01_k».proof.Proof.Gen.PleKernel.Points
public import proofs.«01_k».proof.Proof.Gen.PleKernel.Frame
public import proofs.«01_k».proof.Proof.Gen.PleKernelIdeal
public import proofs.«01_k».proof.Proof.Gen.PleKernelIdeal.Skeleton
public import proofs.«01_k».proof.Proof.Gen.PleKernelIdeal.Launch
public import proofs.«01_k».proof.Proof.Gen.PleKernelIdeal.Points
public import proofs.«01_k».proof.Proof.Gen.PleKernelIdeal.Frame
public import proofs.«01_k».proof.Proof.Gen.PleReferenceIdeal
public import proofs.«01_k».proof.Proof.Gen.PleKernelIdeal.Value
public import proofs.«01_k».proof.Proof.Gen.PleReferenceIdeal.Run
public import proofs.«01_k».proof.Proof.Gen.PleReferenceIdeal.Read
public import proofs.«01_k».proof.Proof.Gen.TailKernel
public import proofs.«01_k».proof.Proof.Gen.TailKernel.Skeleton
public import proofs.«01_k».proof.Proof.Gen.TailKernel.Launch
public import proofs.«01_k».proof.Proof.Gen.TailKernel.Points
public import proofs.«01_k».proof.Proof.Gen.TailKernel.Frame
public import proofs.«01_k».proof.Proof.Gen.TailKernelIdeal
public import proofs.«01_k».proof.Proof.Gen.TailKernelIdeal.Skeleton
public import proofs.«01_k».proof.Proof.Gen.TailKernelIdeal.Launch
public import proofs.«01_k».proof.Proof.Gen.TailKernelIdeal.Points
public import proofs.«01_k».proof.Proof.Gen.TailKernelIdeal.Frame
public import proofs.«01_k».proof.Proof.Gen.TailReferenceIdeal
public import proofs.«01_k».proof.Proof.Gen.TailKernelIdeal.Value
public import proofs.«01_k».proof.Proof.Gen.TailReferenceIdeal.Run
public import proofs.«01_k».proof.Proof.Gen.TailReferenceIdeal.Read
public import Idealize.ShloMosaic.Lib.Claim
public import proofs.«01_k».proof.Proof.Gen.AttnKernel
public import proofs.«01_k».proof.Proof.Gen.AttnKernel.Skeleton
public import proofs.«01_k».proof.Proof.Gen.AttnKernel.Loops
public import proofs.«01_k».proof.Proof.Gen.AttnKernel.Launch
public import proofs.«01_k».proof.Proof.Gen.AttnKernel.Points
public import proofs.«01_k».proof.Proof.Gen.AttnKernel.Frame
public import proofs.«01_k».proof.Proof.Gen.AttnKernelIdeal
public import proofs.«01_k».proof.Proof.Gen.AttnKernelIdeal.Skeleton
public import proofs.«01_k».proof.Proof.Gen.AttnKernelIdeal.Loops
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnKernelIdeal.Value
public import proofs.«01_k».proof.Proof.Gen.AttnReferenceIdeal
public import proofs.«01_k».proof.Proof.Gen.AttnReferenceIdeal.Run
public import proofs.«01_k».proof.Proof.Gen.AttnReferenceIdeal.Read
public import proofs.«01_k».proof.Proof.Gen.InDwKernel
public import proofs.«01_k».proof.Proof.Gen.InDwKernel.Skeleton
public import proofs.«01_k».proof.Proof.Gen.InDwKernel.Launch
public import proofs.«01_k».proof.Proof.Gen.InDwKernel.Points
public import proofs.«01_k».proof.Proof.Gen.InDwKernel.Frame
public import proofs.«01_k».proof.Proof.Gen.InDwKernelIdeal
public import proofs.«01_k».proof.Proof.Gen.InDwKernelIdeal.Skeleton
public import proofs.«01_k».proof.Proof.Gen.InDwKernelIdeal.Launch
public import proofs.«01_k».proof.Proof.Gen.InDwKernelIdeal.Points
public import proofs.«01_k».proof.Proof.Gen.InDwKernelIdeal.Frame
public import proofs.«01_k».proof.Proof.Gen.InDwKernelIdeal.Value
public import proofs.«01_k».proof.Proof.Gen.InDwReferenceIdeal
public import proofs.«01_k».proof.Proof.Gen.InDwReferenceIdeal.Run
public import proofs.«01_k».proof.Proof.Gen.InDwReferenceIdeal.Read
public import proofs.«01_k».proof.Proof.Gen.AdamwKernel
public import proofs.«01_k».proof.Proof.Gen.AdamwKernel.Skeleton
public import proofs.«01_k».proof.Proof.Gen.AdamwKernel.Launch
public import proofs.«01_k».proof.Proof.Gen.AdamwKernel.Points
public import proofs.«01_k».proof.Proof.Gen.AdamwKernel.Frame
public import proofs.«01_k».proof.Proof.Gen.AdamwKernelIdeal
public import proofs.«01_k».proof.Proof.Gen.AdamwKernelIdeal.Skeleton
public import proofs.«01_k».proof.Proof.Gen.AdamwKernelIdeal.Launch
public import proofs.«01_k».proof.Proof.Gen.AdamwKernelIdeal.Points
public import proofs.«01_k».proof.Proof.Gen.AdamwKernelIdeal.Frame
public import proofs.«01_k».proof.Proof.Gen.AdamwKernelIdeal.Value
public import proofs.«01_k».proof.Proof.Gen.AdamwReferenceIdeal
public import proofs.«01_k».proof.Proof.Gen.AdamwReferenceIdeal.Run
public import proofs.«01_k».proof.Proof.Gen.AdamwReferenceIdeal.Read
public import proofs.«01_k».proof.Proof.Gen.TapsKernel
public import proofs.«01_k».proof.Proof.Gen.TapsKernel.Skeleton
public import proofs.«01_k».proof.Proof.Gen.TapsKernel.Launch
public import proofs.«01_k».proof.Proof.Gen.TapsKernel.Points
public import proofs.«01_k».proof.Proof.Gen.TapsKernel.Frame
public import proofs.«01_k».proof.Proof.Gen.TapsKernelIdeal
public import proofs.«01_k».proof.Proof.Gen.TapsKernelIdeal.Skeleton
public import proofs.«01_k».proof.Proof.Gen.TapsKernelIdeal.Launch
public import proofs.«01_k».proof.Proof.Gen.TapsKernelIdeal.Points
public import proofs.«01_k».proof.Proof.Gen.TapsKernelIdeal.Frame
public import proofs.«01_k».proof.Proof.Gen.TapsKernelIdeal.Value
public import proofs.«01_k».proof.Proof.Gen.TapsReferenceIdeal
public import proofs.«01_k».proof.Proof.Gen.TapsReferenceIdeal.Run
public import proofs.«01_k».proof.Proof.Gen.TapsReferenceIdeal.Read
public import proofs.«01_k».proof.Proof.Gen.RmsInKernel
public import proofs.«01_k».proof.Proof.Gen.RmsInKernel.Skeleton
public import proofs.«01_k».proof.Proof.Gen.RmsInKernel.Launch
public import proofs.«01_k».proof.Proof.Gen.RmsInKernel.Points
public import proofs.«01_k».proof.Proof.Gen.RmsInKernel.Frame
public import proofs.«01_k».proof.Proof.Gen.RmsInKernelIdeal
public import proofs.«01_k».proof.Proof.Gen.RmsInKernelIdeal.Skeleton
public import proofs.«01_k».proof.Proof.Gen.RmsInKernelIdeal.Launch
public import proofs.«01_k».proof.Proof.Gen.RmsInKernelIdeal.Points
public import proofs.«01_k».proof.Proof.Gen.RmsInKernelIdeal.Frame
public import proofs.«01_k».proof.Proof.Gen.RmsInReferenceIdeal
public import proofs.«01_k».proof.Proof.Gen.RmsInReferenceIdeal.Run
public import proofs.«01_k».proof.Proof.Gen.RmsInReferenceIdeal.Read
public import proofs.«01_k».proof.Proof.Gen.MidKernel
public import proofs.«01_k».proof.Proof.Gen.MidKernel.Skeleton
public import proofs.«01_k».proof.Proof.Gen.MidKernel.Launch
public import proofs.«01_k».proof.Proof.Gen.MidKernel.Points
public import proofs.«01_k».proof.Proof.Gen.MidKernel.Frame
public import proofs.«01_k».proof.Proof.Gen.MidKernelIdeal
public import proofs.«01_k».proof.Proof.Gen.MidKernelIdeal.Skeleton
public import proofs.«01_k».proof.Proof.Gen.MidKernelIdeal.Launch
public import proofs.«01_k».proof.Proof.Gen.MidKernelIdeal.Points
public import proofs.«01_k».proof.Proof.Gen.MidKernelIdeal.Frame
public import proofs.«01_k».proof.Proof.Gen.MidKernelIdeal.Value
public import proofs.«01_k».proof.Proof.Gen.MidReferenceIdeal
public import proofs.«01_k».proof.Proof.Gen.MidReferenceIdeal.Run
public import proofs.«01_k».proof.Proof.Gen.MidReferenceIdeal.Read
public import proofs.«01_k».proof.Proof.Gen.AdamwOutKernel
public import proofs.«01_k».proof.Proof.Gen.AdamwOutKernel.Skeleton
public import proofs.«01_k».proof.Proof.Gen.AdamwOutKernel.Launch
public import proofs.«01_k».proof.Proof.Gen.AdamwOutKernel.Points
public import proofs.«01_k».proof.Proof.Gen.AdamwOutKernel.Frame
public import proofs.«01_k».proof.Proof.Gen.AdamwOutKernelIdeal
public import proofs.«01_k».proof.Proof.Gen.AdamwOutKernelIdeal.Skeleton
public import proofs.«01_k».proof.Proof.Gen.AdamwOutKernelIdeal.Launch
public import proofs.«01_k».proof.Proof.Gen.AdamwOutKernelIdeal.Points
public import proofs.«01_k».proof.Proof.Gen.AdamwOutKernelIdeal.Frame
public import proofs.«01_k».proof.Proof.Gen.AdamwOutKernelIdeal.Value
public import proofs.«01_k».proof.Proof.Gen.AdamwOutReferenceIdeal
public import proofs.«01_k».proof.Proof.Gen.AdamwOutReferenceIdeal.Run
public import proofs.«01_k».proof.Proof.Gen.AdamwOutReferenceIdeal.Read
public import proofs.«01_k».proof.Proof.Gen.AdamwPleKernel
public import proofs.«01_k».proof.Proof.Gen.AdamwPleKernel.Skeleton
public import proofs.«01_k».proof.Proof.Gen.AdamwPleKernel.Launch
public import proofs.«01_k».proof.Proof.Gen.AdamwPleKernel.Points
public import proofs.«01_k».proof.Proof.Gen.AdamwPleKernel.Frame
public import proofs.«01_k».proof.Proof.Gen.AdamwPleKernelIdeal
public import proofs.«01_k».proof.Proof.Gen.AdamwPleKernelIdeal.Skeleton
public import proofs.«01_k».proof.Proof.Gen.AdamwPleKernelIdeal.Launch
public import proofs.«01_k».proof.Proof.Gen.AdamwPleKernelIdeal.Points
public import proofs.«01_k».proof.Proof.Gen.AdamwPleKernelIdeal.Frame
public import proofs.«01_k».proof.Proof.Gen.AdamwPleKernelIdeal.Value
public import proofs.«01_k».proof.Proof.Gen.AdamwPleReferenceIdeal
public import proofs.«01_k».proof.Proof.Gen.AdamwPleReferenceIdeal.Run
public import proofs.«01_k».proof.Proof.Gen.AdamwPleReferenceIdeal.Read
public import proofs.«01_k».proof.Proof.Gen.AdamwPwKernel
public import proofs.«01_k».proof.Proof.Gen.AdamwPwKernel.Skeleton
public import proofs.«01_k».proof.Proof.Gen.AdamwPwKernel.Launch
public import proofs.«01_k».proof.Proof.Gen.AdamwPwKernel.Points
public import proofs.«01_k».proof.Proof.Gen.AdamwPwKernel.Frame
public import proofs.«01_k».proof.Proof.Gen.AdamwPwKernelIdeal
public import proofs.«01_k».proof.Proof.Gen.AdamwPwKernelIdeal.Skeleton
public import proofs.«01_k».proof.Proof.Gen.AdamwPwKernelIdeal.Launch
public import proofs.«01_k».proof.Proof.Gen.AdamwPwKernelIdeal.Points
public import proofs.«01_k».proof.Proof.Gen.AdamwPwKernelIdeal.Frame
public import proofs.«01_k».proof.Proof.Gen.AdamwPwKernelIdeal.Value
public import proofs.«01_k».proof.Proof.Gen.AdamwPwReferenceIdeal
public import proofs.«01_k».proof.Proof.Gen.AdamwPwReferenceIdeal.Run
public import proofs.«01_k».proof.Proof.Gen.AdamwPwReferenceIdeal.Read
public import proofs.«01_k».proof.Proof.InDw
public import proofs.«01_k».proof.Proof.Adamw
public import proofs.«01_k».proof.Proof.Taps
public import proofs.«01_k».proof.Proof.RmsIn
public import proofs.«01_k».proof.Proof.RmsInBits
public import proofs.«01_k».proof.Proof.MidReference
public import proofs.«01_k».proof.Proof.AdamwOut
public import proofs.«01_k».proof.Proof.AdamwPle
public import proofs.«01_k».proof.Proof.AdamwPw
public import Idealize.ShloMosaic.Adequacy
public import Idealize.ShloMosaic.Init

@[expose] public section

noncomputable section

namespace Cert.Proof

open Idealize.ShloMosaic Idealize.SL.Sem Cert.DxKernel

theorem claim : Cert.Claim := ⟨Cert.DxKernel.Gen.facts, Cert.DxKernelIdeal.Gen.facts, Cert.DxReferenceIdeal.Gen.facts,
  Cert.AttnKernel.Gen.facts, Cert.AttnKernelIdeal.Gen.facts, Cert.AttnReferenceIdeal.Gen.facts,
  Cert.PleKernel.Gen.facts, Cert.PleKernelIdeal.Gen.facts, Cert.PleReferenceIdeal.Gen.facts,
  Cert.TailKernel.Gen.facts, Cert.TailKernelIdeal.Gen.facts, Cert.TailReferenceIdeal.Gen.facts,
  Cert.InDwKernel.Gen.facts, Cert.InDwKernelIdeal.Gen.facts, Cert.InDwReferenceIdeal.Gen.facts,
  Cert.AdamwKernel.Gen.facts, Cert.AdamwKernelIdeal.Gen.facts, Cert.AdamwReferenceIdeal.Gen.facts,
  Cert.TapsKernel.Gen.facts, Cert.TapsKernelIdeal.Gen.facts, Cert.TapsReferenceIdeal.Gen.facts,
  Cert.RmsInKernel.Gen.facts, Cert.RmsInKernelIdeal.Gen.facts, Cert.RmsInReferenceIdeal.Gen.facts,
  Cert.MidKernel.Gen.facts, Cert.MidKernelIdeal.Gen.facts, Cert.MidReferenceIdeal.Gen.facts,
  Cert.AdamwOutKernel.Gen.facts, Cert.AdamwOutKernelIdeal.Gen.facts, Cert.AdamwOutReferenceIdeal.Gen.facts,
  Cert.AdamwPleKernel.Gen.facts, Cert.AdamwPleKernelIdeal.Gen.facts, Cert.AdamwPleReferenceIdeal.Gen.facts,
  Cert.AdamwPwKernel.Gen.facts, Cert.AdamwPwKernelIdeal.Gen.facts, Cert.AdamwPwReferenceIdeal.Gen.facts,
  Cert.AttnHand.facts,
  fun m ρ _ => Cert.DxKernel.Gen.frame m ρ,
  fun m ρ _ => Cert.DxKernelIdeal.Gen.frame m ρ,
  fun m ρ _ => (θ_run Cert.DxReferenceIdeal.defs _ _).mono (fun r h => ⟨fun c => (h c).2.2, sem_eq_zero_of_no_sems (by decide) r.2⟩)
    (Cert.DxReferenceIdeal.Value.run (F := Ideal) m ρ),
  fun m ρ _ => Cert.AttnKernel.Gen.frame m ρ,
  fun m ρ _ => Cert.AttnKernelIdeal.Gen.frame m ρ,
  fun m ρ _ => Cert.AttnKernelIdeal.Gen.frame m ρ,
  fun m ρ _ => (θ_run Cert.AttnReferenceIdeal.defs _ _).mono (fun r h => ⟨fun c => (h c).2.2.2, sem_eq_zero_of_no_sems (by decide) r.2⟩)
    (Cert.AttnReferenceIdeal.Value.run (F := Ideal) m ρ),
  fun m ρ _ => (θ_run Cert.AttnReferenceIdeal.defs _ _).mono (fun r h => ⟨fun c => (h c).2.2.2, sem_eq_zero_of_no_sems (by decide) r.2⟩)
    (Cert.AttnReferenceIdeal.Value.run (F := Ideal) m ρ),
  fun m ρ _ => Cert.PleKernel.Gen.frame m ρ,
  fun m ρ _ => Cert.PleKernelIdeal.Gen.frame m ρ,
  fun m ρ _ => (θ_run Cert.PleReferenceIdeal.defs _ _).mono (fun r h => ⟨fun c => (h c).2.2.2.2.2.2, sem_eq_zero_of_no_sems (by decide) r.2⟩)
    (Cert.PleReferenceIdeal.Value.run (F := Ideal) m ρ),
  fun m ρ _ => Cert.TailKernel.Gen.frame m ρ,
  fun m ρ _ => Cert.TailKernelIdeal.Gen.frame m ρ,
  fun m ρ _ => (θ_run Cert.TailReferenceIdeal.defs _ _).mono (fun r h => ⟨fun c => (h c).2.2.2.2.2.2.2.2, sem_eq_zero_of_no_sems (by decide) r.2⟩)
    (Cert.TailReferenceIdeal.Value.run (F := Ideal) m ρ),
  fun m ρ _ => Cert.InDwKernel.Gen.frame m ρ,
  fun m ρ _ => Cert.InDwKernelIdeal.Gen.frame m ρ,
  fun m ρ _ => (θ_run Cert.InDwReferenceIdeal.defs _ _).mono (fun r h => ⟨fun c => (h c).2, sem_eq_zero_of_no_sems (by decide) r.2⟩)
    (Cert.InDwReferenceIdeal.Value.run (F := Ideal) m ρ),
  fun m ρ _ => Cert.AdamwKernel.Gen.frame m ρ,
  fun m ρ _ => Cert.AdamwKernelIdeal.Gen.frame m ρ,
  fun m ρ _ => (θ_run Cert.AdamwReferenceIdeal.defs _ _).mono (fun r h => ⟨fun c => (h c).2.2.2.2, sem_eq_zero_of_no_sems (by decide) r.2⟩)
    (Cert.AdamwReferenceIdeal.Value.run (F := Ideal) m ρ),
  fun m ρ _ => Cert.TapsKernel.Gen.frame m ρ,
  fun m ρ _ => Cert.TapsKernelIdeal.Gen.frame m ρ,
  fun m ρ _ => (θ_run Cert.TapsReferenceIdeal.defs _ _).mono (fun r h => ⟨fun c => (h c).2.2.2.2, sem_eq_zero_of_no_sems (by decide) r.2⟩)
    (Cert.TapsReferenceIdeal.Value.run (F := Ideal) m ρ),
  fun m ρ _ => Cert.RmsInHand.frame m ρ,
  fun m ρ _ => Cert.RmsInKernelIdeal.Hand.frame m ρ,
  fun m ρ _ => (θ_run Cert.RmsInReferenceIdeal.defs _ _).mono (fun r h => ⟨fun c => (h c).2.2, sem_eq_zero_of_no_sems (by decide) r.2⟩)
    (Cert.RmsInReferenceIdeal.Value.run (F := Ideal) m ρ),
  fun m ρ _ => Cert.MidKernel.Gen.frame m ρ,
  fun m ρ _ => Cert.MidKernelIdeal.Gen.frame m ρ,
  fun m ρ _ => (θ_run Cert.MidReferenceIdeal.defs _ _).mono (fun r h => ⟨fun c => (h c).2.2.2.2.2.2, sem_eq_zero_of_no_sems (by decide) r.2⟩)
    (Cert.MidReferenceIdeal.Value.run (F := Ideal) m ρ),
  fun m ρ _ => Cert.AdamwOutKernel.Gen.frame m ρ,
  fun m ρ _ => Cert.AdamwOutKernelIdeal.Gen.frame m ρ,
  fun m ρ _ => (θ_run Cert.AdamwOutReferenceIdeal.defs _ _).mono (fun r h => ⟨fun c => (h c).2.2.2.2, sem_eq_zero_of_no_sems (by decide) r.2⟩)
    (Cert.AdamwOutReferenceIdeal.Value.run (F := Ideal) m ρ),
  fun m ρ _ => Cert.AdamwPleKernel.Gen.frame m ρ,
  fun m ρ _ => Cert.AdamwPleKernelIdeal.Gen.frame m ρ,
  fun m ρ _ => (θ_run Cert.AdamwPleReferenceIdeal.defs _ _).mono (fun r h => ⟨fun c => (h c).2.2.2.2, sem_eq_zero_of_no_sems (by decide) r.2⟩)
    (Cert.AdamwPleReferenceIdeal.Value.run (F := Ideal) m ρ),
  fun m ρ _ => Cert.AdamwPwKernel.Gen.frame m ρ,
  fun m ρ _ => Cert.AdamwPwKernelIdeal.Gen.frame m ρ,
  fun m ρ _ => (θ_run Cert.AdamwPwReferenceIdeal.defs _ _).mono (fun r h => ⟨fun c => (h c).2.2.2.2, sem_eq_zero_of_no_sems (by decide) r.2⟩)
    (Cert.AdamwPwReferenceIdeal.Value.run (F := Ideal) m ρ),
  trivial,
  Cert.DxHand.algebraic,
  trivial,
  Cert.AttnHand.algebraic,
  trivial,
  Cert.PleHand.algebraic,
  trivial,
  Cert.TailHand.algebraic,
  trivial,
  Cert.InDwHand.algebraic,
  trivial,
  Cert.AdamwHand.algebraic,
  trivial,
  Cert.TapsHand.algebraic,
  trivial,
  Cert.RmsInHand.algebraic,
  trivial,
  Cert.MidHand.algebraic,
  trivial,
  Cert.AdamwOutHand.algebraic,
  trivial,
  Cert.AdamwPleHand.algebraic,
  trivial,
  Cert.AdamwPwHand.algebraic⟩

end Cert.Proof

end
